-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15)
      ∧ r.2.mem ((c.tc : Thread Cert.Kernel3.nD Cert.Kernel3.τ).loc Cert.Kernel3.main_arg16) = m ((c.tc : Thread Cert.Kernel3.nD Cert.Kernel3.τ).loc Cert.Kernel3.main_arg16)
      ∧ r.2.mem ((c.tc : Thread Cert.Kernel3.nD Cert.Kernel3.τ).loc Cert.Kernel3.main_arg17) = m ((c.tc : Thread Cert.Kernel3.nD Cert.Kernel3.τ).loc Cert.Kernel3.main_arg17)
      ∧ r.2.mem ((c.tc : Thread Cert.Kernel3.nD Cert.Kernel3.τ).loc Cert.Kernel3.main_arg18) = m ((c.tc : Thread Cert.Kernel3.nD Cert.Kernel3.τ).loc Cert.Kernel3.main_arg18)
      ∧ r.2.mem ((c.tc : Thread Cert.Kernel3.nD Cert.Kernel3.τ).loc Cert.Kernel3.main_arg19) = m ((c.tc : Thread Cert.Kernel3.nD Cert.Kernel3.τ).loc Cert.Kernel3.main_arg19)
      ∧ r.2.mem ((c.tc : Thread Cert.Kernel3.nD Cert.Kernel3.τ).loc Cert.Kernel3.main_arg20) = m ((c.tc : Thread Cert.Kernel3.nD Cert.Kernel3.τ).loc Cert.Kernel3.main_arg20)
      ∧ r.2.mem ((c.tc : Thread Cert.Kernel3.nD Cert.Kernel3.τ).loc Cert.Kernel3.main_arg21) = m ((c.tc : Thread Cert.Kernel3.nD Cert.Kernel3.τ).loc Cert.Kernel3.main_arg21)
      ∧ r.2.mem ((c.tc : Thread Cert.Kernel3.nD Cert.Kernel3.τ).loc Cert.Kernel3.main_arg22) = m ((c.tc : Thread Cert.Kernel3.nD Cert.Kernel3.τ).loc Cert.Kernel3.main_arg22)
      ∧ r.2.mem ((c.tc : Thread Cert.Kernel3.nD Cert.Kernel3.τ).loc Cert.Kernel3.main_arg23) = m ((c.tc : Thread Cert.Kernel3.nD Cert.Kernel3.τ).loc Cert.Kernel3.main_arg23)
      ∧ r.2.mem ((c.tc : Thread Cert.Kernel3.nD Cert.Kernel3.τ).loc Cert.Kernel3.main_arg24) = m ((c.tc : Thread Cert.Kernel3.nD Cert.Kernel3.τ).loc Cert.Kernel3.main_arg24)
      ∧ r.2.mem ((c.tc : Thread Cert.Kernel3.nD Cert.Kernel3.τ).loc Cert.Kernel3.main_arg25) = m ((c.tc : Thread Cert.Kernel3.nD Cert.Kernel3.τ).loc Cert.Kernel3.main_arg25)
      ∧ r.2.mem ((c.tc : Thread Cert.Kernel3.nD Cert.Kernel3.τ).loc Cert.Kernel3.main_arg26) = m ((c.tc : Thread Cert.Kernel3.nD Cert.Kernel3.τ).loc Cert.Kernel3.main_arg26)
      ∧ r.2.mem ((c.tc : Thread Cert.Kernel3.nD Cert.Kernel3.τ).loc Cert.Kernel3.main_arg27) = m ((c.tc : Thread Cert.Kernel3.nD Cert.Kernel3.τ).loc Cert.Kernel3.main_arg27)
      ∧ r.2.mem ((c.tc : Thread Cert.Kernel3.nD Cert.Kernel3.τ).loc Cert.Kernel3.main_arg28) = m ((c.tc : Thread Cert.Kernel3.nD Cert.Kernel3.τ).loc Cert.Kernel3.main_arg28)
      ∧ r.2.mem ((c.tc : Thread Cert.Kernel3.nD Cert.Kernel3.τ).loc Cert.Kernel3.main_arg29) = m ((c.tc : Thread Cert.Kernel3.nD Cert.Kernel3.τ).loc Cert.Kernel3.main_arg29)
      ∧ r.2.mem ((c.tc : Thread Cert.Kernel3.nD Cert.Kernel3.τ).loc Cert.Kernel3.main_arg30) = m ((c.tc : Thread Cert.Kernel3.nD Cert.Kernel3.τ).loc Cert.Kernel3.main_arg30)
      ∧ r.2.mem ((c.tc : Thread Cert.Kernel3.nD Cert.Kernel3.τ).loc Cert.Kernel3.main_arg31) = m ((c.tc : Thread Cert.Kernel3.nD Cert.Kernel3.τ).loc Cert.Kernel3.main_arg31)
      ∧ r.2.mem ((c.tc : Thread Cert.Kernel3.nD Cert.Kernel3.τ).loc Cert.Kernel3.main_arg32) = m ((c.tc : Thread Cert.Kernel3.nD Cert.Kernel3.τ).loc Cert.Kernel3.main_arg32)
      ∧ r.2.mem ((c.tc : Thread Cert.Kernel3.nD Cert.Kernel3.τ).loc Cert.Kernel3.main_arg33) = m ((c.tc : Thread Cert.Kernel3.nD Cert.Kernel3.τ).loc Cert.Kernel3.main_arg33)
      ∧ r.2.mem ((c.tc : Thread Cert.Kernel3.nD Cert.Kernel3.τ).loc Cert.Kernel3.main_arg34) = m ((c.tc : Thread Cert.Kernel3.nD Cert.Kernel3.τ).loc Cert.Kernel3.main_arg34)
      ∧ r.2.mem ((c.tc : Thread Cert.Kernel3.nD Cert.Kernel3.τ).loc Cert.Kernel3.main_arg35) = m ((c.tc : Thread Cert.Kernel3.nD Cert.Kernel3.τ).loc Cert.Kernel3.main_arg35))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
      ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16)
      ∧ r.2.mem ((c.tc : Thread Cert.Kernel3Ideal.nD Cert.Kernel3Ideal.τ).loc Cert.Kernel3Ideal.main_arg17) = m ((c.tc : Thread Cert.Kernel3Ideal.nD Cert.Kernel3Ideal.τ).loc Cert.Kernel3Ideal.main_arg17)
      ∧ r.2.mem ((c.tc : Thread Cert.Kernel3Ideal.nD Cert.Kernel3Ideal.τ).loc Cert.Kernel3Ideal.main_arg18) = m ((c.tc : Thread Cert.Kernel3Ideal.nD Cert.Kernel3Ideal.τ).loc Cert.Kernel3Ideal.main_arg18)
      ∧ r.2.mem ((c.tc : Thread Cert.Kernel3Ideal.nD Cert.Kernel3Ideal.τ).loc Cert.Kernel3Ideal.main_arg19) = m ((c.tc : Thread Cert.Kernel3Ideal.nD Cert.Kernel3Ideal.τ).loc Cert.Kernel3Ideal.main_arg19)
      ∧ r.2.mem ((c.tc : Thread Cert.Kernel3Ideal.nD Cert.Kernel3Ideal.τ).loc Cert.Kernel3Ideal.main_arg20) = m ((c.tc : Thread Cert.Kernel3Ideal.nD Cert.Kernel3Ideal.τ).loc Cert.Kernel3Ideal.main_arg20)
      ∧ r.2.mem ((c.tc : Thread Cert.Kernel3Ideal.nD Cert.Kernel3Ideal.τ).loc Cert.Kernel3Ideal.main_arg21) = m ((c.tc : Thread Cert.Kernel3Ideal.nD Cert.Kernel3Ideal.τ).loc Cert.Kernel3Ideal.main_arg21)
      ∧ r.2.mem ((c.tc : Thread Cert.Kernel3Ideal.nD Cert.Kernel3Ideal.τ).loc Cert.Kernel3Ideal.main_arg22) = m ((c.tc : Thread Cert.Kernel3Ideal.nD Cert.Kernel3Ideal.τ).loc Cert.Kernel3Ideal.main_arg22)
      ∧ r.2.mem ((c.tc : Thread Cert.Kernel3Ideal.nD Cert.Kernel3Ideal.τ).loc Cert.Kernel3Ideal.main_arg23) = m ((c.tc : Thread Cert.Kernel3Ideal.nD Cert.Kernel3Ideal.τ).loc Cert.Kernel3Ideal.main_arg23)
      ∧ r.2.mem ((c.tc : Thread Cert.Kernel3Ideal.nD Cert.Kernel3Ideal.τ).loc Cert.Kernel3Ideal.main_arg24) = m ((c.tc : Thread Cert.Kernel3Ideal.nD Cert.Kernel3Ideal.τ).loc Cert.Kernel3Ideal.main_arg24)
      ∧ r.2.mem ((c.tc : Thread Cert.Kernel3Ideal.nD Cert.Kernel3Ideal.τ).loc Cert.Kernel3Ideal.main_arg25) = m ((c.tc : Thread Cert.Kernel3Ideal.nD Cert.Kernel3Ideal.τ).loc Cert.Kernel3Ideal.main_arg25)
      ∧ r.2.mem ((c.tc : Thread Cert.Kernel3Ideal.nD Cert.Kernel3Ideal.τ).loc Cert.Kernel3Ideal.main_arg26) = m ((c.tc : Thread Cert.Kernel3Ideal.nD Cert.Kernel3Ideal.τ).loc Cert.Kernel3Ideal.main_arg26)
      ∧ r.2.mem ((c.tc : Thread Cert.Kernel3Ideal.nD Cert.Kernel3Ideal.τ).loc Cert.Kernel3Ideal.main_arg27) = m ((c.tc : Thread Cert.Kernel3Ideal.nD Cert.Kernel3Ideal.τ).loc Cert.Kernel3Ideal.main_arg27)
      ∧ r.2.mem ((c.tc : Thread Cert.Kernel3Ideal.nD Cert.Kernel3Ideal.τ).loc Cert.Kernel3Ideal.main_arg28) = m ((c.tc : Thread Cert.Kernel3Ideal.nD Cert.Kernel3Ideal.τ).loc Cert.Kernel3Ideal.main_arg28)
      ∧ r.2.mem ((c.tc : Thread Cert.Kernel3Ideal.nD Cert.Kernel3Ideal.τ).loc Cert.Kernel3Ideal.main_arg29) = m ((c.tc : Thread Cert.Kernel3Ideal.nD Cert.Kernel3Ideal.τ).loc Cert.Kernel3Ideal.main_arg29)
      ∧ r.2.mem ((c.tc : Thread Cert.Kernel3Ideal.nD Cert.Kernel3Ideal.τ).loc Cert.Kernel3Ideal.main_arg30) = m ((c.tc : Thread Cert.Kernel3Ideal.nD Cert.Kernel3Ideal.τ).loc Cert.Kernel3Ideal.main_arg30)
      ∧ r.2.mem ((c.tc : Thread Cert.Kernel3Ideal.nD Cert.Kernel3Ideal.τ).loc Cert.Kernel3Ideal.main_arg31) = m ((c.tc : Thread Cert.Kernel3Ideal.nD Cert.Kernel3Ideal.τ).loc Cert.Kernel3Ideal.main_arg31)
      ∧ r.2.mem ((c.tc : Thread Cert.Kernel3Ideal.nD Cert.Kernel3Ideal.τ).loc Cert.Kernel3Ideal.main_arg32) = m ((c.tc : Thread Cert.Kernel3Ideal.nD Cert.Kernel3Ideal.τ).loc Cert.Kernel3Ideal.main_arg32)
      ∧ r.2.mem ((c.tc : Thread Cert.Kernel3Ideal.nD Cert.Kernel3Ideal.τ).loc Cert.Kernel3Ideal.main_arg33) = m ((c.tc : Thread Cert.Kernel3Ideal.nD Cert.Kernel3Ideal.τ).loc Cert.Kernel3Ideal.main_arg33)
      ∧ r.2.mem ((c.tc : Thread Cert.Kernel3Ideal.nD Cert.Kernel3Ideal.τ).loc Cert.Kernel3Ideal.main_arg34) = m ((c.tc : Thread Cert.Kernel3Ideal.nD Cert.Kernel3Ideal.τ).loc Cert.Kernel3Ideal.main_arg34)
      ∧ r.2.mem ((c.tc : Thread Cert.Kernel3Ideal.nD Cert.Kernel3Ideal.τ).loc Cert.Kernel3Ideal.main_arg35) = m ((c.tc : Thread Cert.Kernel3Ideal.nD Cert.Kernel3Ideal.τ).loc Cert.Kernel3Ideal.main_arg35))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15)
      ∧ r.2.mem ((c.tc : Thread Cert.Reference3Ideal.nD Cert.Reference3Ideal.τ).loc Cert.Reference3Ideal.main_arg16) = m ((c.tc : Thread Cert.Reference3Ideal.nD Cert.Reference3Ideal.τ).loc Cert.Reference3Ideal.main_arg16)
      ∧ r.2.mem ((c.tc : Thread Cert.Reference3Ideal.nD Cert.Reference3Ideal.τ).loc Cert.Reference3Ideal.main_arg17) = m ((c.tc : Thread Cert.Reference3Ideal.nD Cert.Reference3Ideal.τ).loc Cert.Reference3Ideal.main_arg17)
      ∧ r.2.mem ((c.tc : Thread Cert.Reference3Ideal.nD Cert.Reference3Ideal.τ).loc Cert.Reference3Ideal.main_arg18) = m ((c.tc : Thread Cert.Reference3Ideal.nD Cert.Reference3Ideal.τ).loc Cert.Reference3Ideal.main_arg18)
      ∧ r.2.mem ((c.tc : Thread Cert.Reference3Ideal.nD Cert.Reference3Ideal.τ).loc Cert.Reference3Ideal.main_arg19) = m ((c.tc : Thread Cert.Reference3Ideal.nD Cert.Reference3Ideal.τ).loc Cert.Reference3Ideal.main_arg19)
      ∧ r.2.mem ((c.tc : Thread Cert.Reference3Ideal.nD Cert.Reference3Ideal.τ).loc Cert.Reference3Ideal.main_arg20) = m ((c.tc : Thread Cert.Reference3Ideal.nD Cert.Reference3Ideal.τ).loc Cert.Reference3Ideal.main_arg20)
      ∧ r.2.mem ((c.tc : Thread Cert.Reference3Ideal.nD Cert.Reference3Ideal.τ).loc Cert.Reference3Ideal.main_arg21) = m ((c.tc : Thread Cert.Reference3Ideal.nD Cert.Reference3Ideal.τ).loc Cert.Reference3Ideal.main_arg21)
      ∧ r.2.mem ((c.tc : Thread Cert.Reference3Ideal.nD Cert.Reference3Ideal.τ).loc Cert.Reference3Ideal.main_arg22) = m ((c.tc : Thread Cert.Reference3Ideal.nD Cert.Reference3Ideal.τ).loc Cert.Reference3Ideal.main_arg22)
      ∧ r.2.mem ((c.tc : Thread Cert.Reference3Ideal.nD Cert.Reference3Ideal.τ).loc Cert.Reference3Ideal.main_arg23) = m ((c.tc : Thread Cert.Reference3Ideal.nD Cert.Reference3Ideal.τ).loc Cert.Reference3Ideal.main_arg23)
      ∧ r.2.mem ((c.tc : Thread Cert.Reference3Ideal.nD Cert.Reference3Ideal.τ).loc Cert.Reference3Ideal.main_arg24) = m ((c.tc : Thread Cert.Reference3Ideal.nD Cert.Reference3Ideal.τ).loc Cert.Reference3Ideal.main_arg24)
      ∧ r.2.mem ((c.tc : Thread Cert.Reference3Ideal.nD Cert.Reference3Ideal.τ).loc Cert.Reference3Ideal.main_arg25) = m ((c.tc : Thread Cert.Reference3Ideal.nD Cert.Reference3Ideal.τ).loc Cert.Reference3Ideal.main_arg25)
      ∧ r.2.mem ((c.tc : Thread Cert.Reference3Ideal.nD Cert.Reference3Ideal.τ).loc Cert.Reference3Ideal.main_arg26) = m ((c.tc : Thread Cert.Reference3Ideal.nD Cert.Reference3Ideal.τ).loc Cert.Reference3Ideal.main_arg26)
      ∧ r.2.mem ((c.tc : Thread Cert.Reference3Ideal.nD Cert.Reference3Ideal.τ).loc Cert.Reference3Ideal.main_arg27) = m ((c.tc : Thread Cert.Reference3Ideal.nD Cert.Reference3Ideal.τ).loc Cert.Reference3Ideal.main_arg27)
      ∧ r.2.mem ((c.tc : Thread Cert.Reference3Ideal.nD Cert.Reference3Ideal.τ).loc Cert.Reference3Ideal.main_arg28) = m ((c.tc : Thread Cert.Reference3Ideal.nD Cert.Reference3Ideal.τ).loc Cert.Reference3Ideal.main_arg28)
      ∧ r.2.mem ((c.tc : Thread Cert.Reference3Ideal.nD Cert.Reference3Ideal.τ).loc Cert.Reference3Ideal.main_arg29) = m ((c.tc : Thread Cert.Reference3Ideal.nD Cert.Reference3Ideal.τ).loc Cert.Reference3Ideal.main_arg29)
      ∧ r.2.mem ((c.tc : Thread Cert.Reference3Ideal.nD Cert.Reference3Ideal.τ).loc Cert.Reference3Ideal.main_arg30) = m ((c.tc : Thread Cert.Reference3Ideal.nD Cert.Reference3Ideal.τ).loc Cert.Reference3Ideal.main_arg30)
      ∧ r.2.mem ((c.tc : Thread Cert.Reference3Ideal.nD Cert.Reference3Ideal.τ).loc Cert.Reference3Ideal.main_arg31) = m ((c.tc : Thread Cert.Reference3Ideal.nD Cert.Reference3Ideal.τ).loc Cert.Reference3Ideal.main_arg31)
      ∧ r.2.mem ((c.tc : Thread Cert.Reference3Ideal.nD Cert.Reference3Ideal.τ).loc Cert.Reference3Ideal.main_arg32) = m ((c.tc : Thread Cert.Reference3Ideal.nD Cert.Reference3Ideal.τ).loc Cert.Reference3Ideal.main_arg32)
      ∧ r.2.mem ((c.tc : Thread Cert.Reference3Ideal.nD Cert.Reference3Ideal.τ).loc Cert.Reference3Ideal.main_arg33) = m ((c.tc : Thread Cert.Reference3Ideal.nD Cert.Reference3Ideal.τ).loc Cert.Reference3Ideal.main_arg33)
      ∧ r.2.mem ((c.tc : Thread Cert.Reference3Ideal.nD Cert.Reference3Ideal.τ).loc Cert.Reference3Ideal.main_arg34) = m ((c.tc : Thread Cert.Reference3Ideal.nD Cert.Reference3Ideal.τ).loc Cert.Reference3Ideal.main_arg34)
      ∧ r.2.mem ((c.tc : Thread Cert.Reference3Ideal.nD Cert.Reference3Ideal.τ).loc Cert.Reference3Ideal.main_arg35) = m ((c.tc : Thread Cert.Reference3Ideal.nD Cert.Reference3Ideal.τ).loc Cert.Reference3Ideal.main_arg35))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14)
      ∧ r.2.mem ((c.tc : Thread Cert.Kernel4.nD Cert.Kernel4.τ).loc Cert.Kernel4.main_arg15) = m ((c.tc : Thread Cert.Kernel4.nD Cert.Kernel4.τ).loc Cert.Kernel4.main_arg15)
      ∧ r.2.mem ((c.tc : Thread Cert.Kernel4.nD Cert.Kernel4.τ).loc Cert.Kernel4.main_arg16) = m ((c.tc : Thread Cert.Kernel4.nD Cert.Kernel4.τ).loc Cert.Kernel4.main_arg16)
      ∧ r.2.mem ((c.tc : Thread Cert.Kernel4.nD Cert.Kernel4.τ).loc Cert.Kernel4.main_arg17) = m ((c.tc : Thread Cert.Kernel4.nD Cert.Kernel4.τ).loc Cert.Kernel4.main_arg17)
      ∧ r.2.mem ((c.tc : Thread Cert.Kernel4.nD Cert.Kernel4.τ).loc Cert.Kernel4.main_arg18) = m ((c.tc : Thread Cert.Kernel4.nD Cert.Kernel4.τ).loc Cert.Kernel4.main_arg18)
      ∧ r.2.mem ((c.tc : Thread Cert.Kernel4.nD Cert.Kernel4.τ).loc Cert.Kernel4.main_arg19) = m ((c.tc : Thread Cert.Kernel4.nD Cert.Kernel4.τ).loc Cert.Kernel4.main_arg19)
      ∧ r.2.mem ((c.tc : Thread Cert.Kernel4.nD Cert.Kernel4.τ).loc Cert.Kernel4.main_arg20) = m ((c.tc : Thread Cert.Kernel4.nD Cert.Kernel4.τ).loc Cert.Kernel4.main_arg20)
      ∧ r.2.mem ((c.tc : Thread Cert.Kernel4.nD Cert.Kernel4.τ).loc Cert.Kernel4.main_arg21) = m ((c.tc : Thread Cert.Kernel4.nD Cert.Kernel4.τ).loc Cert.Kernel4.main_arg21)
      ∧ r.2.mem ((c.tc : Thread Cert.Kernel4.nD Cert.Kernel4.τ).loc Cert.Kernel4.main_arg22) = m ((c.tc : Thread Cert.Kernel4.nD Cert.Kernel4.τ).loc Cert.Kernel4.main_arg22)
      ∧ r.2.mem ((c.tc : Thread Cert.Kernel4.nD Cert.Kernel4.τ).loc Cert.Kernel4.main_arg23) = m ((c.tc : Thread Cert.Kernel4.nD Cert.Kernel4.τ).loc Cert.Kernel4.main_arg23)
      ∧ r.2.mem ((c.tc : Thread Cert.Kernel4.nD Cert.Kernel4.τ).loc Cert.Kernel4.main_arg24) = m ((c.tc : Thread Cert.Kernel4.nD Cert.Kernel4.τ).loc Cert.Kernel4.main_arg24)
      ∧ r.2.mem ((c.tc : Thread Cert.Kernel4.nD Cert.Kernel4.τ).loc Cert.Kernel4.main_arg25) = m ((c.tc : Thread Cert.Kernel4.nD Cert.Kernel4.τ).loc Cert.Kernel4.main_arg25)
      ∧ r.2.mem ((c.tc : Thread Cert.Kernel4.nD Cert.Kernel4.τ).loc Cert.Kernel4.main_arg26) = m ((c.tc : Thread Cert.Kernel4.nD Cert.Kernel4.τ).loc Cert.Kernel4.main_arg26)
      ∧ r.2.mem ((c.tc : Thread Cert.Kernel4.nD Cert.Kernel4.τ).loc Cert.Kernel4.main_arg27) = m ((c.tc : Thread Cert.Kernel4.nD Cert.Kernel4.τ).loc Cert.Kernel4.main_arg27)
      ∧ r.2.mem ((c.tc : Thread Cert.Kernel4.nD Cert.Kernel4.τ).loc Cert.Kernel4.main_arg28) = m ((c.tc : Thread Cert.Kernel4.nD Cert.Kernel4.τ).loc Cert.Kernel4.main_arg28)
      ∧ r.2.mem ((c.tc : Thread Cert.Kernel4.nD Cert.Kernel4.τ).loc Cert.Kernel4.main_arg29) = m ((c.tc : Thread Cert.Kernel4.nD Cert.Kernel4.τ).loc Cert.Kernel4.main_arg29)
      ∧ r.2.mem ((c.tc : Thread Cert.Kernel4.nD Cert.Kernel4.τ).loc Cert.Kernel4.main_arg30) = m ((c.tc : Thread Cert.Kernel4.nD Cert.Kernel4.τ).loc Cert.Kernel4.main_arg30)
      ∧ r.2.mem ((c.tc : Thread Cert.Kernel4.nD Cert.Kernel4.τ).loc Cert.Kernel4.main_arg31) = m ((c.tc : Thread Cert.Kernel4.nD Cert.Kernel4.τ).loc Cert.Kernel4.main_arg31))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
      ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
      ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16)
      ∧ r.2.mem ((c.tc : Thread Cert.Kernel4Ideal.nD Cert.Kernel4Ideal.τ).loc Cert.Kernel4Ideal.main_arg17) = m ((c.tc : Thread Cert.Kernel4Ideal.nD Cert.Kernel4Ideal.τ).loc Cert.Kernel4Ideal.main_arg17)
      ∧ r.2.mem ((c.tc : Thread Cert.Kernel4Ideal.nD Cert.Kernel4Ideal.τ).loc Cert.Kernel4Ideal.main_arg18) = m ((c.tc : Thread Cert.Kernel4Ideal.nD Cert.Kernel4Ideal.τ).loc Cert.Kernel4Ideal.main_arg18)
      ∧ r.2.mem ((c.tc : Thread Cert.Kernel4Ideal.nD Cert.Kernel4Ideal.τ).loc Cert.Kernel4Ideal.main_arg19) = m ((c.tc : Thread Cert.Kernel4Ideal.nD Cert.Kernel4Ideal.τ).loc Cert.Kernel4Ideal.main_arg19)
      ∧ r.2.mem ((c.tc : Thread Cert.Kernel4Ideal.nD Cert.Kernel4Ideal.τ).loc Cert.Kernel4Ideal.main_arg20) = m ((c.tc : Thread Cert.Kernel4Ideal.nD Cert.Kernel4Ideal.τ).loc Cert.Kernel4Ideal.main_arg20)
      ∧ r.2.mem ((c.tc : Thread Cert.Kernel4Ideal.nD Cert.Kernel4Ideal.τ).loc Cert.Kernel4Ideal.main_arg21) = m ((c.tc : Thread Cert.Kernel4Ideal.nD Cert.Kernel4Ideal.τ).loc Cert.Kernel4Ideal.main_arg21)
      ∧ r.2.mem ((c.tc : Thread Cert.Kernel4Ideal.nD Cert.Kernel4Ideal.τ).loc Cert.Kernel4Ideal.main_arg22) = m ((c.tc : Thread Cert.Kernel4Ideal.nD Cert.Kernel4Ideal.τ).loc Cert.Kernel4Ideal.main_arg22)
      ∧ r.2.mem ((c.tc : Thread Cert.Kernel4Ideal.nD Cert.Kernel4Ideal.τ).loc Cert.Kernel4Ideal.main_arg23) = m ((c.tc : Thread Cert.Kernel4Ideal.nD Cert.Kernel4Ideal.τ).loc Cert.Kernel4Ideal.main_arg23)
      ∧ r.2.mem ((c.tc : Thread Cert.Kernel4Ideal.nD Cert.Kernel4Ideal.τ).loc Cert.Kernel4Ideal.main_arg24) = m ((c.tc : Thread Cert.Kernel4Ideal.nD Cert.Kernel4Ideal.τ).loc Cert.Kernel4Ideal.main_arg24)
      ∧ r.2.mem ((c.tc : Thread Cert.Kernel4Ideal.nD Cert.Kernel4Ideal.τ).loc Cert.Kernel4Ideal.main_arg25) = m ((c.tc : Thread Cert.Kernel4Ideal.nD Cert.Kernel4Ideal.τ).loc Cert.Kernel4Ideal.main_arg25)
      ∧ r.2.mem ((c.tc : Thread Cert.Kernel4Ideal.nD Cert.Kernel4Ideal.τ).loc Cert.Kernel4Ideal.main_arg26) = m ((c.tc : Thread Cert.Kernel4Ideal.nD Cert.Kernel4Ideal.τ).loc Cert.Kernel4Ideal.main_arg26)
      ∧ r.2.mem ((c.tc : Thread Cert.Kernel4Ideal.nD Cert.Kernel4Ideal.τ).loc Cert.Kernel4Ideal.main_arg27) = m ((c.tc : Thread Cert.Kernel4Ideal.nD Cert.Kernel4Ideal.τ).loc Cert.Kernel4Ideal.main_arg27)
      ∧ r.2.mem ((c.tc : Thread Cert.Kernel4Ideal.nD Cert.Kernel4Ideal.τ).loc Cert.Kernel4Ideal.main_arg28) = m ((c.tc : Thread Cert.Kernel4Ideal.nD Cert.Kernel4Ideal.τ).loc Cert.Kernel4Ideal.main_arg28)
      ∧ r.2.mem ((c.tc : Thread Cert.Kernel4Ideal.nD Cert.Kernel4Ideal.τ).loc Cert.Kernel4Ideal.main_arg29) = m ((c.tc : Thread Cert.Kernel4Ideal.nD Cert.Kernel4Ideal.τ).loc Cert.Kernel4Ideal.main_arg29)
      ∧ r.2.mem ((c.tc : Thread Cert.Kernel4Ideal.nD Cert.Kernel4Ideal.τ).loc Cert.Kernel4Ideal.main_arg30) = m ((c.tc : Thread Cert.Kernel4Ideal.nD Cert.Kernel4Ideal.τ).loc Cert.Kernel4Ideal.main_arg30)
      ∧ r.2.mem ((c.tc : Thread Cert.Kernel4Ideal.nD Cert.Kernel4Ideal.τ).loc Cert.Kernel4Ideal.main_arg31) = m ((c.tc : Thread Cert.Kernel4Ideal.nD Cert.Kernel4Ideal.τ).loc Cert.Kernel4Ideal.main_arg31))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14)
      ∧ r.2.mem ((c.tc : Thread Cert.Reference4Ideal.nD Cert.Reference4Ideal.τ).loc Cert.Reference4Ideal.main_arg15) = m ((c.tc : Thread Cert.Reference4Ideal.nD Cert.Reference4Ideal.τ).loc Cert.Reference4Ideal.main_arg15)
      ∧ r.2.mem ((c.tc : Thread Cert.Reference4Ideal.nD Cert.Reference4Ideal.τ).loc Cert.Reference4Ideal.main_arg16) = m ((c.tc : Thread Cert.Reference4Ideal.nD Cert.Reference4Ideal.τ).loc Cert.Reference4Ideal.main_arg16)
      ∧ r.2.mem ((c.tc : Thread Cert.Reference4Ideal.nD Cert.Reference4Ideal.τ).loc Cert.Reference4Ideal.main_arg17) = m ((c.tc : Thread Cert.Reference4Ideal.nD Cert.Reference4Ideal.τ).loc Cert.Reference4Ideal.main_arg17)
      ∧ r.2.mem ((c.tc : Thread Cert.Reference4Ideal.nD Cert.Reference4Ideal.τ).loc Cert.Reference4Ideal.main_arg18) = m ((c.tc : Thread Cert.Reference4Ideal.nD Cert.Reference4Ideal.τ).loc Cert.Reference4Ideal.main_arg18)
      ∧ r.2.mem ((c.tc : Thread Cert.Reference4Ideal.nD Cert.Reference4Ideal.τ).loc Cert.Reference4Ideal.main_arg19) = m ((c.tc : Thread Cert.Reference4Ideal.nD Cert.Reference4Ideal.τ).loc Cert.Reference4Ideal.main_arg19)
      ∧ r.2.mem ((c.tc : Thread Cert.Reference4Ideal.nD Cert.Reference4Ideal.τ).loc Cert.Reference4Ideal.main_arg20) = m ((c.tc : Thread Cert.Reference4Ideal.nD Cert.Reference4Ideal.τ).loc Cert.Reference4Ideal.main_arg20)
      ∧ r.2.mem ((c.tc : Thread Cert.Reference4Ideal.nD Cert.Reference4Ideal.τ).loc Cert.Reference4Ideal.main_arg21) = m ((c.tc : Thread Cert.Reference4Ideal.nD Cert.Reference4Ideal.τ).loc Cert.Reference4Ideal.main_arg21)
      ∧ r.2.mem ((c.tc : Thread Cert.Reference4Ideal.nD Cert.Reference4Ideal.τ).loc Cert.Reference4Ideal.main_arg22) = m ((c.tc : Thread Cert.Reference4Ideal.nD Cert.Reference4Ideal.τ).loc Cert.Reference4Ideal.main_arg22)
      ∧ r.2.mem ((c.tc : Thread Cert.Reference4Ideal.nD Cert.Reference4Ideal.τ).loc Cert.Reference4Ideal.main_arg23) = m ((c.tc : Thread Cert.Reference4Ideal.nD Cert.Reference4Ideal.τ).loc Cert.Reference4Ideal.main_arg23)
      ∧ r.2.mem ((c.tc : Thread Cert.Reference4Ideal.nD Cert.Reference4Ideal.τ).loc Cert.Reference4Ideal.main_arg24) = m ((c.tc : Thread Cert.Reference4Ideal.nD Cert.Reference4Ideal.τ).loc Cert.Reference4Ideal.main_arg24)
      ∧ r.2.mem ((c.tc : Thread Cert.Reference4Ideal.nD Cert.Reference4Ideal.τ).loc Cert.Reference4Ideal.main_arg25) = m ((c.tc : Thread Cert.Reference4Ideal.nD Cert.Reference4Ideal.τ).loc Cert.Reference4Ideal.main_arg25)
      ∧ r.2.mem ((c.tc : Thread Cert.Reference4Ideal.nD Cert.Reference4Ideal.τ).loc Cert.Reference4Ideal.main_arg26) = m ((c.tc : Thread Cert.Reference4Ideal.nD Cert.Reference4Ideal.τ).loc Cert.Reference4Ideal.main_arg26)
      ∧ r.2.mem ((c.tc : Thread Cert.Reference4Ideal.nD Cert.Reference4Ideal.τ).loc Cert.Reference4Ideal.main_arg27) = m ((c.tc : Thread Cert.Reference4Ideal.nD Cert.Reference4Ideal.τ).loc Cert.Reference4Ideal.main_arg27)
      ∧ r.2.mem ((c.tc : Thread Cert.Reference4Ideal.nD Cert.Reference4Ideal.τ).loc Cert.Reference4Ideal.main_arg28) = m ((c.tc : Thread Cert.Reference4Ideal.nD Cert.Reference4Ideal.τ).loc Cert.Reference4Ideal.main_arg28)
      ∧ r.2.mem ((c.tc : Thread Cert.Reference4Ideal.nD Cert.Reference4Ideal.τ).loc Cert.Reference4Ideal.main_arg29) = m ((c.tc : Thread Cert.Reference4Ideal.nD Cert.Reference4Ideal.τ).loc Cert.Reference4Ideal.main_arg29)
      ∧ r.2.mem ((c.tc : Thread Cert.Reference4Ideal.nD Cert.Reference4Ideal.τ).loc Cert.Reference4Ideal.main_arg30) = m ((c.tc : Thread Cert.Reference4Ideal.nD Cert.Reference4Ideal.τ).loc Cert.Reference4Ideal.main_arg30)
      ∧ r.2.mem ((c.tc : Thread Cert.Reference4Ideal.nD Cert.Reference4Ideal.τ).loc Cert.Reference4Ideal.main_arg31) = m ((c.tc : Thread Cert.Reference4Ideal.nD Cert.Reference4Ideal.τ).loc Cert.Reference4Ideal.main_arg31))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v23_0)) (v2 : (c : Dev Cert.KernelIdeal.nD) → Buf (Elt Ideal) ((c.tc : Thread Cert.KernelIdeal.nD Cert.KernelIdeal.τ).loc Cert.KernelIdeal.main_v23_1)) (v3 : (c : Dev Cert.KernelIdeal.nD) → Buf (Elt Ideal) ((c.tc : Thread Cert.KernelIdeal.nD Cert.KernelIdeal.τ).loc Cert.KernelIdeal.main_v16)) (v4 : (c : Dev Cert.KernelIdeal.nD) → Buf (Elt Ideal) ((c.tc : Thread Cert.KernelIdeal.nD Cert.KernelIdeal.τ).loc Cert.KernelIdeal.main_v18)) (v5 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v23_0) = v1 c
          ∧ r.2.mem ((c.tc : Thread Cert.KernelIdeal.nD Cert.KernelIdeal.τ).loc Cert.KernelIdeal.main_v23_1) = v2 c
          ∧ r.2.mem ((c.tc : Thread Cert.KernelIdeal.nD Cert.KernelIdeal.τ).loc Cert.KernelIdeal.main_v16) = v3 c
          ∧ r.2.mem ((c.tc : Thread Cert.KernelIdeal.nD Cert.KernelIdeal.τ).loc Cert.KernelIdeal.main_v18) = v4 c
          ∧ r.2.mem ((c.tc : Thread Cert.KernelIdeal.nD Cert.KernelIdeal.τ).loc Cert.KernelIdeal.main_v14) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_v47) = v2 c
          ∧ r.2.mem ((c.tc : Thread Cert.ReferenceIdeal.nD Cert.ReferenceIdeal.τ).loc Cert.ReferenceIdeal.main_v44) = v3 c
          ∧ r.2.mem ((c.tc : Thread Cert.ReferenceIdeal.nD Cert.ReferenceIdeal.τ).loc Cert.ReferenceIdeal.main_v43) = v4 c
          ∧ r.2.mem ((c.tc : Thread Cert.ReferenceIdeal.nD Cert.ReferenceIdeal.τ).loc Cert.ReferenceIdeal.main_v42) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v4)) (v1 : (c : Dev Cert.Kernel2Ideal.nD) → Buf (Elt Ideal) ((c.tc : Thread Cert.Kernel2Ideal.nD Cert.Kernel2Ideal.τ).loc Cert.Kernel2Ideal.main_v7)) (v2 : (c : Dev Cert.Kernel2Ideal.nD) → Buf (Elt Ideal) ((c.tc : Thread Cert.Kernel2Ideal.nD Cert.Kernel2Ideal.τ).loc Cert.Kernel2Ideal.main_v19_0)) (v3 : (c : Dev Cert.Kernel2Ideal.nD) → Buf (Elt Ideal) ((c.tc : Thread Cert.Kernel2Ideal.nD Cert.Kernel2Ideal.τ).loc Cert.Kernel2Ideal.main_v19_1)) (v4 : (c : Dev Cert.Kernel2Ideal.nD) → Buf (Elt Ideal) ((c.tc : Thread Cert.Kernel2Ideal.nD Cert.Kernel2Ideal.τ).loc Cert.Kernel2Ideal.main_v18)) (v5 : (c : Dev Cert.Kernel2Ideal.nD) → Buf (Elt Ideal) ((c.tc : Thread Cert.Kernel2Ideal.nD Cert.Kernel2Ideal.τ).loc Cert.Kernel2Ideal.main_v13_0)) (v6 : (c : Dev Cert.Kernel2Ideal.nD) → Buf (Elt Ideal) ((c.tc : Thread Cert.Kernel2Ideal.nD Cert.Kernel2Ideal.τ).loc Cert.Kernel2Ideal.main_v13_1)) (v7 : (c : Dev Cert.Kernel2Ideal.nD) → Buf (Elt Ideal) ((c.tc : Thread Cert.Kernel2Ideal.nD Cert.Kernel2Ideal.τ).loc Cert.Kernel2Ideal.main_v13_2)) (v8 : (c : Dev Cert.Kernel2Ideal.nD) → Buf (Elt Ideal) ((c.tc : Thread Cert.Kernel2Ideal.nD Cert.Kernel2Ideal.τ).loc Cert.Kernel2Ideal.main_v13_3)) (v9 : (c : Dev Cert.Kernel2Ideal.nD) → Buf (Elt Ideal) ((c.tc : Thread Cert.Kernel2Ideal.nD Cert.Kernel2Ideal.τ).loc Cert.Kernel2Ideal.main_v13_4)) (v10 : (c : Dev Cert.Kernel2Ideal.nD) → Buf (Elt Ideal) ((c.tc : Thread Cert.Kernel2Ideal.nD Cert.Kernel2Ideal.τ).loc Cert.Kernel2Ideal.main_v13_5)) (v11 : (c : Dev Cert.Kernel2Ideal.nD) → Buf (Elt Ideal) ((c.tc : Thread Cert.Kernel2Ideal.nD Cert.Kernel2Ideal.τ).loc Cert.Kernel2Ideal.main_v12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_v7) = v1 c
          ∧ r.2.mem ((c.tc : Thread Cert.Kernel2Ideal.nD Cert.Kernel2Ideal.τ).loc Cert.Kernel2Ideal.main_v19_0) = v2 c
          ∧ r.2.mem ((c.tc : Thread Cert.Kernel2Ideal.nD Cert.Kernel2Ideal.τ).loc Cert.Kernel2Ideal.main_v19_1) = v3 c
          ∧ r.2.mem ((c.tc : Thread Cert.Kernel2Ideal.nD Cert.Kernel2Ideal.τ).loc Cert.Kernel2Ideal.main_v18) = v4 c
          ∧ r.2.mem ((c.tc : Thread Cert.Kernel2Ideal.nD Cert.Kernel2Ideal.τ).loc Cert.Kernel2Ideal.main_v13_0) = v5 c
          ∧ r.2.mem ((c.tc : Thread Cert.Kernel2Ideal.nD Cert.Kernel2Ideal.τ).loc Cert.Kernel2Ideal.main_v13_1) = v6 c
          ∧ r.2.mem ((c.tc : Thread Cert.Kernel2Ideal.nD Cert.Kernel2Ideal.τ).loc Cert.Kernel2Ideal.main_v13_2) = v7 c
          ∧ r.2.mem ((c.tc : Thread Cert.Kernel2Ideal.nD Cert.Kernel2Ideal.τ).loc Cert.Kernel2Ideal.main_v13_3) = v8 c
          ∧ r.2.mem ((c.tc : Thread Cert.Kernel2Ideal.nD Cert.Kernel2Ideal.τ).loc Cert.Kernel2Ideal.main_v13_4) = v9 c
          ∧ r.2.mem ((c.tc : Thread Cert.Kernel2Ideal.nD Cert.Kernel2Ideal.τ).loc Cert.Kernel2Ideal.main_v13_5) = v10 c
          ∧ r.2.mem ((c.tc : Thread Cert.Kernel2Ideal.nD Cert.Kernel2Ideal.τ).loc Cert.Kernel2Ideal.main_v12) = v11 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v17) = v0 c
          ∧ r.2.mem ((c.tc : Thread Cert.Reference2Ideal.nD Cert.Reference2Ideal.τ).loc Cert.Reference2Ideal.main_v66) = v1 c
          ∧ r.2.mem ((c.tc : Thread Cert.Reference2Ideal.nD Cert.Reference2Ideal.τ).loc Cert.Reference2Ideal.main_v156) = v2 c
          ∧ r.2.mem ((c.tc : Thread Cert.Reference2Ideal.nD Cert.Reference2Ideal.τ).loc Cert.Reference2Ideal.main_v139) = v3 c
          ∧ r.2.mem ((c.tc : Thread Cert.Reference2Ideal.nD Cert.Reference2Ideal.τ).loc Cert.Reference2Ideal.main_v136) = v4 c
          ∧ r.2.mem ((c.tc : Thread Cert.Reference2Ideal.nD Cert.Reference2Ideal.τ).loc Cert.Reference2Ideal.main_v131) = v5 c
          ∧ r.2.mem ((c.tc : Thread Cert.Reference2Ideal.nD Cert.Reference2Ideal.τ).loc Cert.Reference2Ideal.main_v112) = v6 c
          ∧ r.2.mem ((c.tc : Thread Cert.Reference2Ideal.nD Cert.Reference2Ideal.τ).loc Cert.Reference2Ideal.main_v93) = v7 c
          ∧ r.2.mem ((c.tc : Thread Cert.Reference2Ideal.nD Cert.Reference2Ideal.τ).loc Cert.Reference2Ideal.main_v115) = v8 c
          ∧ r.2.mem ((c.tc : Thread Cert.Reference2Ideal.nD Cert.Reference2Ideal.τ).loc Cert.Reference2Ideal.main_v96) = v9 c
          ∧ r.2.mem ((c.tc : Thread Cert.Reference2Ideal.nD Cert.Reference2Ideal.τ).loc Cert.Reference2Ideal.main_v77) = v10 c
          ∧ r.2.mem ((c.tc : Thread Cert.Reference2Ideal.nD Cert.Reference2Ideal.τ).loc Cert.Reference2Ideal.main_v71) = v11 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)
      ∧ m' ((c.tc : Thread Cert.Reference3Ideal.nD Cert.Reference3Ideal.τ).loc Cert.Reference3Ideal.main_arg16) = m ((c.tc : Thread Cert.Kernel3Ideal.nD Cert.Kernel3Ideal.τ).loc Cert.Kernel3Ideal.main_arg16)
      ∧ m' ((c.tc : Thread Cert.Reference3Ideal.nD Cert.Reference3Ideal.τ).loc Cert.Reference3Ideal.main_arg17) = m ((c.tc : Thread Cert.Kernel3Ideal.nD Cert.Kernel3Ideal.τ).loc Cert.Kernel3Ideal.main_arg17)
      ∧ m' ((c.tc : Thread Cert.Reference3Ideal.nD Cert.Reference3Ideal.τ).loc Cert.Reference3Ideal.main_arg18) = m ((c.tc : Thread Cert.Kernel3Ideal.nD Cert.Kernel3Ideal.τ).loc Cert.Kernel3Ideal.main_arg18)
      ∧ m' ((c.tc : Thread Cert.Reference3Ideal.nD Cert.Reference3Ideal.τ).loc Cert.Reference3Ideal.main_arg19) = m ((c.tc : Thread Cert.Kernel3Ideal.nD Cert.Kernel3Ideal.τ).loc Cert.Kernel3Ideal.main_arg19)
      ∧ m' ((c.tc : Thread Cert.Reference3Ideal.nD Cert.Reference3Ideal.τ).loc Cert.Reference3Ideal.main_arg20) = m ((c.tc : Thread Cert.Kernel3Ideal.nD Cert.Kernel3Ideal.τ).loc Cert.Kernel3Ideal.main_arg20)
      ∧ m' ((c.tc : Thread Cert.Reference3Ideal.nD Cert.Reference3Ideal.τ).loc Cert.Reference3Ideal.main_arg21) = m ((c.tc : Thread Cert.Kernel3Ideal.nD Cert.Kernel3Ideal.τ).loc Cert.Kernel3Ideal.main_arg21)
      ∧ m' ((c.tc : Thread Cert.Reference3Ideal.nD Cert.Reference3Ideal.τ).loc Cert.Reference3Ideal.main_arg22) = m ((c.tc : Thread Cert.Kernel3Ideal.nD Cert.Kernel3Ideal.τ).loc Cert.Kernel3Ideal.main_arg22)
      ∧ m' ((c.tc : Thread Cert.Reference3Ideal.nD Cert.Reference3Ideal.τ).loc Cert.Reference3Ideal.main_arg23) = m ((c.tc : Thread Cert.Kernel3Ideal.nD Cert.Kernel3Ideal.τ).loc Cert.Kernel3Ideal.main_arg23)
      ∧ m' ((c.tc : Thread Cert.Reference3Ideal.nD Cert.Reference3Ideal.τ).loc Cert.Reference3Ideal.main_arg24) = m ((c.tc : Thread Cert.Kernel3Ideal.nD Cert.Kernel3Ideal.τ).loc Cert.Kernel3Ideal.main_arg24)
      ∧ m' ((c.tc : Thread Cert.Reference3Ideal.nD Cert.Reference3Ideal.τ).loc Cert.Reference3Ideal.main_arg25) = m ((c.tc : Thread Cert.Kernel3Ideal.nD Cert.Kernel3Ideal.τ).loc Cert.Kernel3Ideal.main_arg25)
      ∧ m' ((c.tc : Thread Cert.Reference3Ideal.nD Cert.Reference3Ideal.τ).loc Cert.Reference3Ideal.main_arg26) = m ((c.tc : Thread Cert.Kernel3Ideal.nD Cert.Kernel3Ideal.τ).loc Cert.Kernel3Ideal.main_arg26)
      ∧ m' ((c.tc : Thread Cert.Reference3Ideal.nD Cert.Reference3Ideal.τ).loc Cert.Reference3Ideal.main_arg27) = m ((c.tc : Thread Cert.Kernel3Ideal.nD Cert.Kernel3Ideal.τ).loc Cert.Kernel3Ideal.main_arg27)
      ∧ m' ((c.tc : Thread Cert.Reference3Ideal.nD Cert.Reference3Ideal.τ).loc Cert.Reference3Ideal.main_arg28) = m ((c.tc : Thread Cert.Kernel3Ideal.nD Cert.Kernel3Ideal.τ).loc Cert.Kernel3Ideal.main_arg28)
      ∧ m' ((c.tc : Thread Cert.Reference3Ideal.nD Cert.Reference3Ideal.τ).loc Cert.Reference3Ideal.main_arg29) = m ((c.tc : Thread Cert.Kernel3Ideal.nD Cert.Kernel3Ideal.τ).loc Cert.Kernel3Ideal.main_arg29)
      ∧ m' ((c.tc : Thread Cert.Reference3Ideal.nD Cert.Reference3Ideal.τ).loc Cert.Reference3Ideal.main_arg30) = m ((c.tc : Thread Cert.Kernel3Ideal.nD Cert.Kernel3Ideal.τ).loc Cert.Kernel3Ideal.main_arg30)
      ∧ m' ((c.tc : Thread Cert.Reference3Ideal.nD Cert.Reference3Ideal.τ).loc Cert.Reference3Ideal.main_arg31) = m ((c.tc : Thread Cert.Kernel3Ideal.nD Cert.Kernel3Ideal.τ).loc Cert.Kernel3Ideal.main_arg31)
      ∧ m' ((c.tc : Thread Cert.Reference3Ideal.nD Cert.Reference3Ideal.τ).loc Cert.Reference3Ideal.main_arg32) = m ((c.tc : Thread Cert.Kernel3Ideal.nD Cert.Kernel3Ideal.τ).loc Cert.Kernel3Ideal.main_arg32)
      ∧ m' ((c.tc : Thread Cert.Reference3Ideal.nD Cert.Reference3Ideal.τ).loc Cert.Reference3Ideal.main_arg33) = m ((c.tc : Thread Cert.Kernel3Ideal.nD Cert.Kernel3Ideal.τ).loc Cert.Kernel3Ideal.main_arg33)
      ∧ m' ((c.tc : Thread Cert.Reference3Ideal.nD Cert.Reference3Ideal.τ).loc Cert.Reference3Ideal.main_arg34) = m ((c.tc : Thread Cert.Kernel3Ideal.nD Cert.Kernel3Ideal.τ).loc Cert.Kernel3Ideal.main_arg34)
      ∧ m' ((c.tc : Thread Cert.Reference3Ideal.nD Cert.Reference3Ideal.τ).loc Cert.Reference3Ideal.main_arg35) = m ((c.tc : Thread Cert.Kernel3Ideal.nD Cert.Kernel3Ideal.τ).loc Cert.Kernel3Ideal.main_arg35)) →
    ∃ (v0 : (c : Dev Cert.Kernel3Ideal.nD) → Buf (Elt Ideal) ((c.tc : Thread Cert.Kernel3Ideal.nD Cert.Kernel3Ideal.τ).loc Cert.Kernel3Ideal.main_v5)) (v1 : (c : Dev Cert.Kernel3Ideal.nD) → Buf (Elt Ideal) ((c.tc : Thread Cert.Kernel3Ideal.nD Cert.Kernel3Ideal.τ).loc Cert.Kernel3Ideal.main_v13)) (v2 : (c : Dev Cert.Kernel3Ideal.nD) → Buf (Elt Ideal) ((c.tc : Thread Cert.Kernel3Ideal.nD Cert.Kernel3Ideal.τ).loc Cert.Kernel3Ideal.main_v21)) (v3 : (c : Dev Cert.Kernel3Ideal.nD) → Buf (Elt Ideal) ((c.tc : Thread Cert.Kernel3Ideal.nD Cert.Kernel3Ideal.τ).loc Cert.Kernel3Ideal.main_v29)) (v4 : (c : Dev Cert.Kernel3Ideal.nD) → Buf (Elt Ideal) ((c.tc : Thread Cert.Kernel3Ideal.nD Cert.Kernel3Ideal.τ).loc Cert.Kernel3Ideal.main_v37)) (v5 : (c : Dev Cert.Kernel3Ideal.nD) → Buf (Elt Ideal) ((c.tc : Thread Cert.Kernel3Ideal.nD Cert.Kernel3Ideal.τ).loc Cert.Kernel3Ideal.main_v45)) (v6 : (c : Dev Cert.Kernel3Ideal.nD) → Buf (Elt Ideal) ((c.tc : Thread Cert.Kernel3Ideal.nD Cert.Kernel3Ideal.τ).loc Cert.Kernel3Ideal.main_v53)) (v7 : (c : Dev Cert.Kernel3Ideal.nD) → Buf (Elt Ideal) ((c.tc : Thread Cert.Kernel3Ideal.nD Cert.Kernel3Ideal.τ).loc Cert.Kernel3Ideal.main_v56_0)) (v8 : (c : Dev Cert.Kernel3Ideal.nD) → Buf (Elt Ideal) ((c.tc : Thread Cert.Kernel3Ideal.nD Cert.Kernel3Ideal.τ).loc Cert.Kernel3Ideal.main_v57_0)) (v9 : (c : Dev Cert.Kernel3Ideal.nD) → Buf (Elt Ideal) ((c.tc : Thread Cert.Kernel3Ideal.nD Cert.Kernel3Ideal.τ).loc Cert.Kernel3Ideal.main_v6)) (v10 : (c : Dev Cert.Kernel3Ideal.nD) → Buf (Elt Ideal) ((c.tc : Thread Cert.Kernel3Ideal.nD Cert.Kernel3Ideal.τ).loc Cert.Kernel3Ideal.main_v14)) (v11 : (c : Dev Cert.Kernel3Ideal.nD) → Buf (Elt Ideal) ((c.tc : Thread Cert.Kernel3Ideal.nD Cert.Kernel3Ideal.τ).loc Cert.Kernel3Ideal.main_v22)) (v12 : (c : Dev Cert.Kernel3Ideal.nD) → Buf (Elt Ideal) ((c.tc : Thread Cert.Kernel3Ideal.nD Cert.Kernel3Ideal.τ).loc Cert.Kernel3Ideal.main_v30)) (v13 : (c : Dev Cert.Kernel3Ideal.nD) → Buf (Elt Ideal) ((c.tc : Thread Cert.Kernel3Ideal.nD Cert.Kernel3Ideal.τ).loc Cert.Kernel3Ideal.main_v38)) (v14 : (c : Dev Cert.Kernel3Ideal.nD) → Buf (Elt Ideal) ((c.tc : Thread Cert.Kernel3Ideal.nD Cert.Kernel3Ideal.τ).loc Cert.Kernel3Ideal.main_v46)) (v15 : (c : Dev Cert.Kernel3Ideal.nD) → Buf (Elt Ideal) ((c.tc : Thread Cert.Kernel3Ideal.nD Cert.Kernel3Ideal.τ).loc Cert.Kernel3Ideal.main_v54)) (v16 : (c : Dev Cert.Kernel3Ideal.nD) → Buf (Elt Ideal) ((c.tc : Thread Cert.Kernel3Ideal.nD Cert.Kernel3Ideal.τ).loc Cert.Kernel3Ideal.main_v56_1)) (v17 : (c : Dev Cert.Kernel3Ideal.nD) → Buf (Elt Ideal) ((c.tc : Thread Cert.Kernel3Ideal.nD Cert.Kernel3Ideal.τ).loc Cert.Kernel3Ideal.main_v57_1)) (v18 : (c : Dev Cert.Kernel3Ideal.nD) → Buf (Elt Ideal) ((c.tc : Thread Cert.Kernel3Ideal.nD Cert.Kernel3Ideal.τ).loc Cert.Kernel3Ideal.main_v7)) (v19 : (c : Dev Cert.Kernel3Ideal.nD) → Buf (Elt Ideal) ((c.tc : Thread Cert.Kernel3Ideal.nD Cert.Kernel3Ideal.τ).loc Cert.Kernel3Ideal.main_v15)) (v20 : (c : Dev Cert.Kernel3Ideal.nD) → Buf (Elt Ideal) ((c.tc : Thread Cert.Kernel3Ideal.nD Cert.Kernel3Ideal.τ).loc Cert.Kernel3Ideal.main_v23)) (v21 : (c : Dev Cert.Kernel3Ideal.nD) → Buf (Elt Ideal) ((c.tc : Thread Cert.Kernel3Ideal.nD Cert.Kernel3Ideal.τ).loc Cert.Kernel3Ideal.main_v31)) (v22 : (c : Dev Cert.Kernel3Ideal.nD) → Buf (Elt Ideal) ((c.tc : Thread Cert.Kernel3Ideal.nD Cert.Kernel3Ideal.τ).loc Cert.Kernel3Ideal.main_v39)) (v23 : (c : Dev Cert.Kernel3Ideal.nD) → Buf (Elt Ideal) ((c.tc : Thread Cert.Kernel3Ideal.nD Cert.Kernel3Ideal.τ).loc Cert.Kernel3Ideal.main_v47)) (v24 : (c : Dev Cert.Kernel3Ideal.nD) → Buf (Elt Ideal) ((c.tc : Thread Cert.Kernel3Ideal.nD Cert.Kernel3Ideal.τ).loc Cert.Kernel3Ideal.main_v55)) (v25 : (c : Dev Cert.Kernel3Ideal.nD) → Buf (Elt Ideal) ((c.tc : Thread Cert.Kernel3Ideal.nD Cert.Kernel3Ideal.τ).loc Cert.Kernel3Ideal.main_v56_2)) (v26 : (c : Dev Cert.Kernel3Ideal.nD) → Buf (Elt Ideal) ((c.tc : Thread Cert.Kernel3Ideal.nD Cert.Kernel3Ideal.τ).loc Cert.Kernel3Ideal.main_v57_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_v13) = v1 c
          ∧ r.2.mem ((c.tc : Thread Cert.Kernel3Ideal.nD Cert.Kernel3Ideal.τ).loc Cert.Kernel3Ideal.main_v21) = v2 c
          ∧ r.2.mem ((c.tc : Thread Cert.Kernel3Ideal.nD Cert.Kernel3Ideal.τ).loc Cert.Kernel3Ideal.main_v29) = v3 c
          ∧ r.2.mem ((c.tc : Thread Cert.Kernel3Ideal.nD Cert.Kernel3Ideal.τ).loc Cert.Kernel3Ideal.main_v37) = v4 c
          ∧ r.2.mem ((c.tc : Thread Cert.Kernel3Ideal.nD Cert.Kernel3Ideal.τ).loc Cert.Kernel3Ideal.main_v45) = v5 c
          ∧ r.2.mem ((c.tc : Thread Cert.Kernel3Ideal.nD Cert.Kernel3Ideal.τ).loc Cert.Kernel3Ideal.main_v53) = v6 c
          ∧ r.2.mem ((c.tc : Thread Cert.Kernel3Ideal.nD Cert.Kernel3Ideal.τ).loc Cert.Kernel3Ideal.main_v56_0) = v7 c
          ∧ r.2.mem ((c.tc : Thread Cert.Kernel3Ideal.nD Cert.Kernel3Ideal.τ).loc Cert.Kernel3Ideal.main_v57_0) = v8 c
          ∧ r.2.mem ((c.tc : Thread Cert.Kernel3Ideal.nD Cert.Kernel3Ideal.τ).loc Cert.Kernel3Ideal.main_v6) = v9 c
          ∧ r.2.mem ((c.tc : Thread Cert.Kernel3Ideal.nD Cert.Kernel3Ideal.τ).loc Cert.Kernel3Ideal.main_v14) = v10 c
          ∧ r.2.mem ((c.tc : Thread Cert.Kernel3Ideal.nD Cert.Kernel3Ideal.τ).loc Cert.Kernel3Ideal.main_v22) = v11 c
          ∧ r.2.mem ((c.tc : Thread Cert.Kernel3Ideal.nD Cert.Kernel3Ideal.τ).loc Cert.Kernel3Ideal.main_v30) = v12 c
          ∧ r.2.mem ((c.tc : Thread Cert.Kernel3Ideal.nD Cert.Kernel3Ideal.τ).loc Cert.Kernel3Ideal.main_v38) = v13 c
          ∧ r.2.mem ((c.tc : Thread Cert.Kernel3Ideal.nD Cert.Kernel3Ideal.τ).loc Cert.Kernel3Ideal.main_v46) = v14 c
          ∧ r.2.mem ((c.tc : Thread Cert.Kernel3Ideal.nD Cert.Kernel3Ideal.τ).loc Cert.Kernel3Ideal.main_v54) = v15 c
          ∧ r.2.mem ((c.tc : Thread Cert.Kernel3Ideal.nD Cert.Kernel3Ideal.τ).loc Cert.Kernel3Ideal.main_v56_1) = v16 c
          ∧ r.2.mem ((c.tc : Thread Cert.Kernel3Ideal.nD Cert.Kernel3Ideal.τ).loc Cert.Kernel3Ideal.main_v57_1) = v17 c
          ∧ r.2.mem ((c.tc : Thread Cert.Kernel3Ideal.nD Cert.Kernel3Ideal.τ).loc Cert.Kernel3Ideal.main_v7) = v18 c
          ∧ r.2.mem ((c.tc : Thread Cert.Kernel3Ideal.nD Cert.Kernel3Ideal.τ).loc Cert.Kernel3Ideal.main_v15) = v19 c
          ∧ r.2.mem ((c.tc : Thread Cert.Kernel3Ideal.nD Cert.Kernel3Ideal.τ).loc Cert.Kernel3Ideal.main_v23) = v20 c
          ∧ r.2.mem ((c.tc : Thread Cert.Kernel3Ideal.nD Cert.Kernel3Ideal.τ).loc Cert.Kernel3Ideal.main_v31) = v21 c
          ∧ r.2.mem ((c.tc : Thread Cert.Kernel3Ideal.nD Cert.Kernel3Ideal.τ).loc Cert.Kernel3Ideal.main_v39) = v22 c
          ∧ r.2.mem ((c.tc : Thread Cert.Kernel3Ideal.nD Cert.Kernel3Ideal.τ).loc Cert.Kernel3Ideal.main_v47) = v23 c
          ∧ r.2.mem ((c.tc : Thread Cert.Kernel3Ideal.nD Cert.Kernel3Ideal.τ).loc Cert.Kernel3Ideal.main_v55) = v24 c
          ∧ r.2.mem ((c.tc : Thread Cert.Kernel3Ideal.nD Cert.Kernel3Ideal.τ).loc Cert.Kernel3Ideal.main_v56_2) = v25 c
          ∧ r.2.mem ((c.tc : Thread Cert.Kernel3Ideal.nD Cert.Kernel3Ideal.τ).loc Cert.Kernel3Ideal.main_v57_2) = v26 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
          ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16)
          ∧ r.2.mem ((c.tc : Thread Cert.Kernel3Ideal.nD Cert.Kernel3Ideal.τ).loc Cert.Kernel3Ideal.main_arg17) = m ((c.tc : Thread Cert.Kernel3Ideal.nD Cert.Kernel3Ideal.τ).loc Cert.Kernel3Ideal.main_arg17)
          ∧ r.2.mem ((c.tc : Thread Cert.Kernel3Ideal.nD Cert.Kernel3Ideal.τ).loc Cert.Kernel3Ideal.main_arg18) = m ((c.tc : Thread Cert.Kernel3Ideal.nD Cert.Kernel3Ideal.τ).loc Cert.Kernel3Ideal.main_arg18)
          ∧ r.2.mem ((c.tc : Thread Cert.Kernel3Ideal.nD Cert.Kernel3Ideal.τ).loc Cert.Kernel3Ideal.main_arg19) = m ((c.tc : Thread Cert.Kernel3Ideal.nD Cert.Kernel3Ideal.τ).loc Cert.Kernel3Ideal.main_arg19)
          ∧ r.2.mem ((c.tc : Thread Cert.Kernel3Ideal.nD Cert.Kernel3Ideal.τ).loc Cert.Kernel3Ideal.main_arg20) = m ((c.tc : Thread Cert.Kernel3Ideal.nD Cert.Kernel3Ideal.τ).loc Cert.Kernel3Ideal.main_arg20)
          ∧ r.2.mem ((c.tc : Thread Cert.Kernel3Ideal.nD Cert.Kernel3Ideal.τ).loc Cert.Kernel3Ideal.main_arg21) = m ((c.tc : Thread Cert.Kernel3Ideal.nD Cert.Kernel3Ideal.τ).loc Cert.Kernel3Ideal.main_arg21)
          ∧ r.2.mem ((c.tc : Thread Cert.Kernel3Ideal.nD Cert.Kernel3Ideal.τ).loc Cert.Kernel3Ideal.main_arg22) = m ((c.tc : Thread Cert.Kernel3Ideal.nD Cert.Kernel3Ideal.τ).loc Cert.Kernel3Ideal.main_arg22)
          ∧ r.2.mem ((c.tc : Thread Cert.Kernel3Ideal.nD Cert.Kernel3Ideal.τ).loc Cert.Kernel3Ideal.main_arg23) = m ((c.tc : Thread Cert.Kernel3Ideal.nD Cert.Kernel3Ideal.τ).loc Cert.Kernel3Ideal.main_arg23)
          ∧ r.2.mem ((c.tc : Thread Cert.Kernel3Ideal.nD Cert.Kernel3Ideal.τ).loc Cert.Kernel3Ideal.main_arg24) = m ((c.tc : Thread Cert.Kernel3Ideal.nD Cert.Kernel3Ideal.τ).loc Cert.Kernel3Ideal.main_arg24)
          ∧ r.2.mem ((c.tc : Thread Cert.Kernel3Ideal.nD Cert.Kernel3Ideal.τ).loc Cert.Kernel3Ideal.main_arg25) = m ((c.tc : Thread Cert.Kernel3Ideal.nD Cert.Kernel3Ideal.τ).loc Cert.Kernel3Ideal.main_arg25)
          ∧ r.2.mem ((c.tc : Thread Cert.Kernel3Ideal.nD Cert.Kernel3Ideal.τ).loc Cert.Kernel3Ideal.main_arg26) = m ((c.tc : Thread Cert.Kernel3Ideal.nD Cert.Kernel3Ideal.τ).loc Cert.Kernel3Ideal.main_arg26)
          ∧ r.2.mem ((c.tc : Thread Cert.Kernel3Ideal.nD Cert.Kernel3Ideal.τ).loc Cert.Kernel3Ideal.main_arg27) = m ((c.tc : Thread Cert.Kernel3Ideal.nD Cert.Kernel3Ideal.τ).loc Cert.Kernel3Ideal.main_arg27)
          ∧ r.2.mem ((c.tc : Thread Cert.Kernel3Ideal.nD Cert.Kernel3Ideal.τ).loc Cert.Kernel3Ideal.main_arg28) = m ((c.tc : Thread Cert.Kernel3Ideal.nD Cert.Kernel3Ideal.τ).loc Cert.Kernel3Ideal.main_arg28)
          ∧ r.2.mem ((c.tc : Thread Cert.Kernel3Ideal.nD Cert.Kernel3Ideal.τ).loc Cert.Kernel3Ideal.main_arg29) = m ((c.tc : Thread Cert.Kernel3Ideal.nD Cert.Kernel3Ideal.τ).loc Cert.Kernel3Ideal.main_arg29)
          ∧ r.2.mem ((c.tc : Thread Cert.Kernel3Ideal.nD Cert.Kernel3Ideal.τ).loc Cert.Kernel3Ideal.main_arg30) = m ((c.tc : Thread Cert.Kernel3Ideal.nD Cert.Kernel3Ideal.τ).loc Cert.Kernel3Ideal.main_arg30)
          ∧ r.2.mem ((c.tc : Thread Cert.Kernel3Ideal.nD Cert.Kernel3Ideal.τ).loc Cert.Kernel3Ideal.main_arg31) = m ((c.tc : Thread Cert.Kernel3Ideal.nD Cert.Kernel3Ideal.τ).loc Cert.Kernel3Ideal.main_arg31)
          ∧ r.2.mem ((c.tc : Thread Cert.Kernel3Ideal.nD Cert.Kernel3Ideal.τ).loc Cert.Kernel3Ideal.main_arg32) = m ((c.tc : Thread Cert.Kernel3Ideal.nD Cert.Kernel3Ideal.τ).loc Cert.Kernel3Ideal.main_arg32)
          ∧ r.2.mem ((c.tc : Thread Cert.Kernel3Ideal.nD Cert.Kernel3Ideal.τ).loc Cert.Kernel3Ideal.main_arg33) = m ((c.tc : Thread Cert.Kernel3Ideal.nD Cert.Kernel3Ideal.τ).loc Cert.Kernel3Ideal.main_arg33)
          ∧ r.2.mem ((c.tc : Thread Cert.Kernel3Ideal.nD Cert.Kernel3Ideal.τ).loc Cert.Kernel3Ideal.main_arg34) = m ((c.tc : Thread Cert.Kernel3Ideal.nD Cert.Kernel3Ideal.τ).loc Cert.Kernel3Ideal.main_arg34)
          ∧ r.2.mem ((c.tc : Thread Cert.Kernel3Ideal.nD Cert.Kernel3Ideal.τ).loc Cert.Kernel3Ideal.main_arg35) = m ((c.tc : Thread Cert.Kernel3Ideal.nD Cert.Kernel3Ideal.τ).loc Cert.Kernel3Ideal.main_arg35))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v23) = v0 c
          ∧ r.2.mem ((c.tc : Thread Cert.Reference3Ideal.nD Cert.Reference3Ideal.τ).loc Cert.Reference3Ideal.main_v47) = v1 c
          ∧ r.2.mem ((c.tc : Thread Cert.Reference3Ideal.nD Cert.Reference3Ideal.τ).loc Cert.Reference3Ideal.main_v71) = v2 c
          ∧ r.2.mem ((c.tc : Thread Cert.Reference3Ideal.nD Cert.Reference3Ideal.τ).loc Cert.Reference3Ideal.main_v95) = v3 c
          ∧ r.2.mem ((c.tc : Thread Cert.Reference3Ideal.nD Cert.Reference3Ideal.τ).loc Cert.Reference3Ideal.main_v119) = v4 c
          ∧ r.2.mem ((c.tc : Thread Cert.Reference3Ideal.nD Cert.Reference3Ideal.τ).loc Cert.Reference3Ideal.main_v143) = v5 c
          ∧ r.2.mem ((c.tc : Thread Cert.Reference3Ideal.nD Cert.Reference3Ideal.τ).loc Cert.Reference3Ideal.main_v167) = v6 c
          ∧ r.2.mem ((c.tc : Thread Cert.Reference3Ideal.nD Cert.Reference3Ideal.τ).loc Cert.Reference3Ideal.main_v191) = v7 c
          ∧ r.2.mem ((c.tc : Thread Cert.Reference3Ideal.nD Cert.Reference3Ideal.τ).loc Cert.Reference3Ideal.main_v215) = v8 c
          ∧ r.2.mem ((c.tc : Thread Cert.Reference3Ideal.nD Cert.Reference3Ideal.τ).loc Cert.Reference3Ideal.main_v4) = v9 c
          ∧ r.2.mem ((c.tc : Thread Cert.Reference3Ideal.nD Cert.Reference3Ideal.τ).loc Cert.Reference3Ideal.main_v28) = v10 c
          ∧ r.2.mem ((c.tc : Thread Cert.Reference3Ideal.nD Cert.Reference3Ideal.τ).loc Cert.Reference3Ideal.main_v52) = v11 c
          ∧ r.2.mem ((c.tc : Thread Cert.Reference3Ideal.nD Cert.Reference3Ideal.τ).loc Cert.Reference3Ideal.main_v76) = v12 c
          ∧ r.2.mem ((c.tc : Thread Cert.Reference3Ideal.nD Cert.Reference3Ideal.τ).loc Cert.Reference3Ideal.main_v100) = v13 c
          ∧ r.2.mem ((c.tc : Thread Cert.Reference3Ideal.nD Cert.Reference3Ideal.τ).loc Cert.Reference3Ideal.main_v124) = v14 c
          ∧ r.2.mem ((c.tc : Thread Cert.Reference3Ideal.nD Cert.Reference3Ideal.τ).loc Cert.Reference3Ideal.main_v148) = v15 c
          ∧ r.2.mem ((c.tc : Thread Cert.Reference3Ideal.nD Cert.Reference3Ideal.τ).loc Cert.Reference3Ideal.main_v172) = v16 c
          ∧ r.2.mem ((c.tc : Thread Cert.Reference3Ideal.nD Cert.Reference3Ideal.τ).loc Cert.Reference3Ideal.main_v196) = v17 c
          ∧ r.2.mem ((c.tc : Thread Cert.Reference3Ideal.nD Cert.Reference3Ideal.τ).loc Cert.Reference3Ideal.main_v10) = v18 c
          ∧ r.2.mem ((c.tc : Thread Cert.Reference3Ideal.nD Cert.Reference3Ideal.τ).loc Cert.Reference3Ideal.main_v34) = v19 c
          ∧ r.2.mem ((c.tc : Thread Cert.Reference3Ideal.nD Cert.Reference3Ideal.τ).loc Cert.Reference3Ideal.main_v58) = v20 c
          ∧ r.2.mem ((c.tc : Thread Cert.Reference3Ideal.nD Cert.Reference3Ideal.τ).loc Cert.Reference3Ideal.main_v82) = v21 c
          ∧ r.2.mem ((c.tc : Thread Cert.Reference3Ideal.nD Cert.Reference3Ideal.τ).loc Cert.Reference3Ideal.main_v106) = v22 c
          ∧ r.2.mem ((c.tc : Thread Cert.Reference3Ideal.nD Cert.Reference3Ideal.τ).loc Cert.Reference3Ideal.main_v130) = v23 c
          ∧ r.2.mem ((c.tc : Thread Cert.Reference3Ideal.nD Cert.Reference3Ideal.τ).loc Cert.Reference3Ideal.main_v154) = v24 c
          ∧ r.2.mem ((c.tc : Thread Cert.Reference3Ideal.nD Cert.Reference3Ideal.τ).loc Cert.Reference3Ideal.main_v178) = v25 c
          ∧ r.2.mem ((c.tc : Thread Cert.Reference3Ideal.nD Cert.Reference3Ideal.τ).loc Cert.Reference3Ideal.main_v202) = v26 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15)
          ∧ r.2.mem ((c.tc : Thread Cert.Reference3Ideal.nD Cert.Reference3Ideal.τ).loc Cert.Reference3Ideal.main_arg16) = m' ((c.tc : Thread Cert.Reference3Ideal.nD Cert.Reference3Ideal.τ).loc Cert.Reference3Ideal.main_arg16)
          ∧ r.2.mem ((c.tc : Thread Cert.Reference3Ideal.nD Cert.Reference3Ideal.τ).loc Cert.Reference3Ideal.main_arg17) = m' ((c.tc : Thread Cert.Reference3Ideal.nD Cert.Reference3Ideal.τ).loc Cert.Reference3Ideal.main_arg17)
          ∧ r.2.mem ((c.tc : Thread Cert.Reference3Ideal.nD Cert.Reference3Ideal.τ).loc Cert.Reference3Ideal.main_arg18) = m' ((c.tc : Thread Cert.Reference3Ideal.nD Cert.Reference3Ideal.τ).loc Cert.Reference3Ideal.main_arg18)
          ∧ r.2.mem ((c.tc : Thread Cert.Reference3Ideal.nD Cert.Reference3Ideal.τ).loc Cert.Reference3Ideal.main_arg19) = m' ((c.tc : Thread Cert.Reference3Ideal.nD Cert.Reference3Ideal.τ).loc Cert.Reference3Ideal.main_arg19)
          ∧ r.2.mem ((c.tc : Thread Cert.Reference3Ideal.nD Cert.Reference3Ideal.τ).loc Cert.Reference3Ideal.main_arg20) = m' ((c.tc : Thread Cert.Reference3Ideal.nD Cert.Reference3Ideal.τ).loc Cert.Reference3Ideal.main_arg20)
          ∧ r.2.mem ((c.tc : Thread Cert.Reference3Ideal.nD Cert.Reference3Ideal.τ).loc Cert.Reference3Ideal.main_arg21) = m' ((c.tc : Thread Cert.Reference3Ideal.nD Cert.Reference3Ideal.τ).loc Cert.Reference3Ideal.main_arg21)
          ∧ r.2.mem ((c.tc : Thread Cert.Reference3Ideal.nD Cert.Reference3Ideal.τ).loc Cert.Reference3Ideal.main_arg22) = m' ((c.tc : Thread Cert.Reference3Ideal.nD Cert.Reference3Ideal.τ).loc Cert.Reference3Ideal.main_arg22)
          ∧ r.2.mem ((c.tc : Thread Cert.Reference3Ideal.nD Cert.Reference3Ideal.τ).loc Cert.Reference3Ideal.main_arg23) = m' ((c.tc : Thread Cert.Reference3Ideal.nD Cert.Reference3Ideal.τ).loc Cert.Reference3Ideal.main_arg23)
          ∧ r.2.mem ((c.tc : Thread Cert.Reference3Ideal.nD Cert.Reference3Ideal.τ).loc Cert.Reference3Ideal.main_arg24) = m' ((c.tc : Thread Cert.Reference3Ideal.nD Cert.Reference3Ideal.τ).loc Cert.Reference3Ideal.main_arg24)
          ∧ r.2.mem ((c.tc : Thread Cert.Reference3Ideal.nD Cert.Reference3Ideal.τ).loc Cert.Reference3Ideal.main_arg25) = m' ((c.tc : Thread Cert.Reference3Ideal.nD Cert.Reference3Ideal.τ).loc Cert.Reference3Ideal.main_arg25)
          ∧ r.2.mem ((c.tc : Thread Cert.Reference3Ideal.nD Cert.Reference3Ideal.τ).loc Cert.Reference3Ideal.main_arg26) = m' ((c.tc : Thread Cert.Reference3Ideal.nD Cert.Reference3Ideal.τ).loc Cert.Reference3Ideal.main_arg26)
          ∧ r.2.mem ((c.tc : Thread Cert.Reference3Ideal.nD Cert.Reference3Ideal.τ).loc Cert.Reference3Ideal.main_arg27) = m' ((c.tc : Thread Cert.Reference3Ideal.nD Cert.Reference3Ideal.τ).loc Cert.Reference3Ideal.main_arg27)
          ∧ r.2.mem ((c.tc : Thread Cert.Reference3Ideal.nD Cert.Reference3Ideal.τ).loc Cert.Reference3Ideal.main_arg28) = m' ((c.tc : Thread Cert.Reference3Ideal.nD Cert.Reference3Ideal.τ).loc Cert.Reference3Ideal.main_arg28)
          ∧ r.2.mem ((c.tc : Thread Cert.Reference3Ideal.nD Cert.Reference3Ideal.τ).loc Cert.Reference3Ideal.main_arg29) = m' ((c.tc : Thread Cert.Reference3Ideal.nD Cert.Reference3Ideal.τ).loc Cert.Reference3Ideal.main_arg29)
          ∧ r.2.mem ((c.tc : Thread Cert.Reference3Ideal.nD Cert.Reference3Ideal.τ).loc Cert.Reference3Ideal.main_arg30) = m' ((c.tc : Thread Cert.Reference3Ideal.nD Cert.Reference3Ideal.τ).loc Cert.Reference3Ideal.main_arg30)
          ∧ r.2.mem ((c.tc : Thread Cert.Reference3Ideal.nD Cert.Reference3Ideal.τ).loc Cert.Reference3Ideal.main_arg31) = m' ((c.tc : Thread Cert.Reference3Ideal.nD Cert.Reference3Ideal.τ).loc Cert.Reference3Ideal.main_arg31)
          ∧ r.2.mem ((c.tc : Thread Cert.Reference3Ideal.nD Cert.Reference3Ideal.τ).loc Cert.Reference3Ideal.main_arg32) = m' ((c.tc : Thread Cert.Reference3Ideal.nD Cert.Reference3Ideal.τ).loc Cert.Reference3Ideal.main_arg32)
          ∧ r.2.mem ((c.tc : Thread Cert.Reference3Ideal.nD Cert.Reference3Ideal.τ).loc Cert.Reference3Ideal.main_arg33) = m' ((c.tc : Thread Cert.Reference3Ideal.nD Cert.Reference3Ideal.τ).loc Cert.Reference3Ideal.main_arg33)
          ∧ r.2.mem ((c.tc : Thread Cert.Reference3Ideal.nD Cert.Reference3Ideal.τ).loc Cert.Reference3Ideal.main_arg34) = m' ((c.tc : Thread Cert.Reference3Ideal.nD Cert.Reference3Ideal.τ).loc Cert.Reference3Ideal.main_arg34)
          ∧ r.2.mem ((c.tc : Thread Cert.Reference3Ideal.nD Cert.Reference3Ideal.τ).loc Cert.Reference3Ideal.main_arg35) = m' ((c.tc : Thread Cert.Reference3Ideal.nD Cert.Reference3Ideal.τ).loc Cert.Reference3Ideal.main_arg35))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)
      ∧ m' ((c.tc : Thread Cert.Reference4Ideal.nD Cert.Reference4Ideal.τ).loc Cert.Reference4Ideal.main_arg15) = m ((c.tc : Thread Cert.Kernel4Ideal.nD Cert.Kernel4Ideal.τ).loc Cert.Kernel4Ideal.main_arg15)
      ∧ m' ((c.tc : Thread Cert.Reference4Ideal.nD Cert.Reference4Ideal.τ).loc Cert.Reference4Ideal.main_arg16) = m ((c.tc : Thread Cert.Kernel4Ideal.nD Cert.Kernel4Ideal.τ).loc Cert.Kernel4Ideal.main_arg16)
      ∧ m' ((c.tc : Thread Cert.Reference4Ideal.nD Cert.Reference4Ideal.τ).loc Cert.Reference4Ideal.main_arg17) = m ((c.tc : Thread Cert.Kernel4Ideal.nD Cert.Kernel4Ideal.τ).loc Cert.Kernel4Ideal.main_arg17)
      ∧ m' ((c.tc : Thread Cert.Reference4Ideal.nD Cert.Reference4Ideal.τ).loc Cert.Reference4Ideal.main_arg18) = m ((c.tc : Thread Cert.Kernel4Ideal.nD Cert.Kernel4Ideal.τ).loc Cert.Kernel4Ideal.main_arg18)
      ∧ m' ((c.tc : Thread Cert.Reference4Ideal.nD Cert.Reference4Ideal.τ).loc Cert.Reference4Ideal.main_arg19) = m ((c.tc : Thread Cert.Kernel4Ideal.nD Cert.Kernel4Ideal.τ).loc Cert.Kernel4Ideal.main_arg19)
      ∧ m' ((c.tc : Thread Cert.Reference4Ideal.nD Cert.Reference4Ideal.τ).loc Cert.Reference4Ideal.main_arg20) = m ((c.tc : Thread Cert.Kernel4Ideal.nD Cert.Kernel4Ideal.τ).loc Cert.Kernel4Ideal.main_arg20)
      ∧ m' ((c.tc : Thread Cert.Reference4Ideal.nD Cert.Reference4Ideal.τ).loc Cert.Reference4Ideal.main_arg21) = m ((c.tc : Thread Cert.Kernel4Ideal.nD Cert.Kernel4Ideal.τ).loc Cert.Kernel4Ideal.main_arg21)
      ∧ m' ((c.tc : Thread Cert.Reference4Ideal.nD Cert.Reference4Ideal.τ).loc Cert.Reference4Ideal.main_arg22) = m ((c.tc : Thread Cert.Kernel4Ideal.nD Cert.Kernel4Ideal.τ).loc Cert.Kernel4Ideal.main_arg22)
      ∧ m' ((c.tc : Thread Cert.Reference4Ideal.nD Cert.Reference4Ideal.τ).loc Cert.Reference4Ideal.main_arg23) = m ((c.tc : Thread Cert.Kernel4Ideal.nD Cert.Kernel4Ideal.τ).loc Cert.Kernel4Ideal.main_arg23)
      ∧ m' ((c.tc : Thread Cert.Reference4Ideal.nD Cert.Reference4Ideal.τ).loc Cert.Reference4Ideal.main_arg24) = m ((c.tc : Thread Cert.Kernel4Ideal.nD Cert.Kernel4Ideal.τ).loc Cert.Kernel4Ideal.main_arg24)
      ∧ m' ((c.tc : Thread Cert.Reference4Ideal.nD Cert.Reference4Ideal.τ).loc Cert.Reference4Ideal.main_arg25) = m ((c.tc : Thread Cert.Kernel4Ideal.nD Cert.Kernel4Ideal.τ).loc Cert.Kernel4Ideal.main_arg25)
      ∧ m' ((c.tc : Thread Cert.Reference4Ideal.nD Cert.Reference4Ideal.τ).loc Cert.Reference4Ideal.main_arg26) = m ((c.tc : Thread Cert.Kernel4Ideal.nD Cert.Kernel4Ideal.τ).loc Cert.Kernel4Ideal.main_arg26)
      ∧ m' ((c.tc : Thread Cert.Reference4Ideal.nD Cert.Reference4Ideal.τ).loc Cert.Reference4Ideal.main_arg27) = m ((c.tc : Thread Cert.Kernel4Ideal.nD Cert.Kernel4Ideal.τ).loc Cert.Kernel4Ideal.main_arg27)
      ∧ m' ((c.tc : Thread Cert.Reference4Ideal.nD Cert.Reference4Ideal.τ).loc Cert.Reference4Ideal.main_arg28) = m ((c.tc : Thread Cert.Kernel4Ideal.nD Cert.Kernel4Ideal.τ).loc Cert.Kernel4Ideal.main_arg28)
      ∧ m' ((c.tc : Thread Cert.Reference4Ideal.nD Cert.Reference4Ideal.τ).loc Cert.Reference4Ideal.main_arg29) = m ((c.tc : Thread Cert.Kernel4Ideal.nD Cert.Kernel4Ideal.τ).loc Cert.Kernel4Ideal.main_arg29)
      ∧ m' ((c.tc : Thread Cert.Reference4Ideal.nD Cert.Reference4Ideal.τ).loc Cert.Reference4Ideal.main_arg30) = m ((c.tc : Thread Cert.Kernel4Ideal.nD Cert.Kernel4Ideal.τ).loc Cert.Kernel4Ideal.main_arg30)
      ∧ m' ((c.tc : Thread Cert.Reference4Ideal.nD Cert.Reference4Ideal.τ).loc Cert.Reference4Ideal.main_arg31) = m ((c.tc : Thread Cert.Kernel4Ideal.nD Cert.Kernel4Ideal.τ).loc Cert.Kernel4Ideal.main_arg31)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v1_0)) (v2 : (c : Dev Cert.Kernel4Ideal.nD) → Buf (Elt Ideal) ((c.tc : Thread Cert.Kernel4Ideal.nD Cert.Kernel4Ideal.τ).loc Cert.Kernel4Ideal.main_v2_0)) (v3 : (c : Dev Cert.Kernel4Ideal.nD) → Buf (Elt Ideal) ((c.tc : Thread Cert.Kernel4Ideal.nD Cert.Kernel4Ideal.τ).loc Cert.Kernel4Ideal.main_v3_0)) (v4 : (c : Dev Cert.Kernel4Ideal.nD) → Buf (Elt Ideal) ((c.tc : Thread Cert.Kernel4Ideal.nD Cert.Kernel4Ideal.τ).loc Cert.Kernel4Ideal.main_v4_0)) (v5 : (c : Dev Cert.Kernel4Ideal.nD) → Buf (Elt Ideal) ((c.tc : Thread Cert.Kernel4Ideal.nD Cert.Kernel4Ideal.τ).loc Cert.Kernel4Ideal.main_v5_0)) (v6 : (c : Dev Cert.Kernel4Ideal.nD) → Buf (Elt Ideal) ((c.tc : Thread Cert.Kernel4Ideal.nD Cert.Kernel4Ideal.τ).loc Cert.Kernel4Ideal.main_v6_0)) (v7 : (c : Dev Cert.Kernel4Ideal.nD) → Buf (Elt Ideal) ((c.tc : Thread Cert.Kernel4Ideal.nD Cert.Kernel4Ideal.τ).loc Cert.Kernel4Ideal.main_v12)) (v8 : (c : Dev Cert.Kernel4Ideal.nD) → Buf (Elt Ideal) ((c.tc : Thread Cert.Kernel4Ideal.nD Cert.Kernel4Ideal.τ).loc Cert.Kernel4Ideal.main_v0_1)) (v9 : (c : Dev Cert.Kernel4Ideal.nD) → Buf (Elt Ideal) ((c.tc : Thread Cert.Kernel4Ideal.nD Cert.Kernel4Ideal.τ).loc Cert.Kernel4Ideal.main_v1_1)) (v10 : (c : Dev Cert.Kernel4Ideal.nD) → Buf (Elt Ideal) ((c.tc : Thread Cert.Kernel4Ideal.nD Cert.Kernel4Ideal.τ).loc Cert.Kernel4Ideal.main_v2_1)) (v11 : (c : Dev Cert.Kernel4Ideal.nD) → Buf (Elt Ideal) ((c.tc : Thread Cert.Kernel4Ideal.nD Cert.Kernel4Ideal.τ).loc Cert.Kernel4Ideal.main_v3_1)) (v12 : (c : Dev Cert.Kernel4Ideal.nD) → Buf (Elt Ideal) ((c.tc : Thread Cert.Kernel4Ideal.nD Cert.Kernel4Ideal.τ).loc Cert.Kernel4Ideal.main_v4_1)) (v13 : (c : Dev Cert.Kernel4Ideal.nD) → Buf (Elt Ideal) ((c.tc : Thread Cert.Kernel4Ideal.nD Cert.Kernel4Ideal.τ).loc Cert.Kernel4Ideal.main_v5_1)) (v14 : (c : Dev Cert.Kernel4Ideal.nD) → Buf (Elt Ideal) ((c.tc : Thread Cert.Kernel4Ideal.nD Cert.Kernel4Ideal.τ).loc Cert.Kernel4Ideal.main_v6_1)) (v15 : (c : Dev Cert.Kernel4Ideal.nD) → Buf (Elt Ideal) ((c.tc : Thread Cert.Kernel4Ideal.nD Cert.Kernel4Ideal.τ).loc Cert.Kernel4Ideal.main_v13)) (v16 : (c : Dev Cert.Kernel4Ideal.nD) → Buf (Elt Ideal) ((c.tc : Thread Cert.Kernel4Ideal.nD Cert.Kernel4Ideal.τ).loc Cert.Kernel4Ideal.main_v0_2)) (v17 : (c : Dev Cert.Kernel4Ideal.nD) → Buf (Elt Ideal) ((c.tc : Thread Cert.Kernel4Ideal.nD Cert.Kernel4Ideal.τ).loc Cert.Kernel4Ideal.main_v1_2)) (v18 : (c : Dev Cert.Kernel4Ideal.nD) → Buf (Elt Ideal) ((c.tc : Thread Cert.Kernel4Ideal.nD Cert.Kernel4Ideal.τ).loc Cert.Kernel4Ideal.main_v2_2)) (v19 : (c : Dev Cert.Kernel4Ideal.nD) → Buf (Elt Ideal) ((c.tc : Thread Cert.Kernel4Ideal.nD Cert.Kernel4Ideal.τ).loc Cert.Kernel4Ideal.main_v3_2)) (v20 : (c : Dev Cert.Kernel4Ideal.nD) → Buf (Elt Ideal) ((c.tc : Thread Cert.Kernel4Ideal.nD Cert.Kernel4Ideal.τ).loc Cert.Kernel4Ideal.main_v4_2)) (v21 : (c : Dev Cert.Kernel4Ideal.nD) → Buf (Elt Ideal) ((c.tc : Thread Cert.Kernel4Ideal.nD Cert.Kernel4Ideal.τ).loc Cert.Kernel4Ideal.main_v5_2)) (v22 : (c : Dev Cert.Kernel4Ideal.nD) → Buf (Elt Ideal) ((c.tc : Thread Cert.Kernel4Ideal.nD Cert.Kernel4Ideal.τ).loc Cert.Kernel4Ideal.main_v6_2)) (v23 : (c : Dev Cert.Kernel4Ideal.nD) → Buf (Elt Ideal) ((c.tc : Thread Cert.Kernel4Ideal.nD Cert.Kernel4Ideal.τ).loc Cert.Kernel4Ideal.main_v14)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v1_0) = v1 c
          ∧ r.2.mem ((c.tc : Thread Cert.Kernel4Ideal.nD Cert.Kernel4Ideal.τ).loc Cert.Kernel4Ideal.main_v2_0) = v2 c
          ∧ r.2.mem ((c.tc : Thread Cert.Kernel4Ideal.nD Cert.Kernel4Ideal.τ).loc Cert.Kernel4Ideal.main_v3_0) = v3 c
          ∧ r.2.mem ((c.tc : Thread Cert.Kernel4Ideal.nD Cert.Kernel4Ideal.τ).loc Cert.Kernel4Ideal.main_v4_0) = v4 c
          ∧ r.2.mem ((c.tc : Thread Cert.Kernel4Ideal.nD Cert.Kernel4Ideal.τ).loc Cert.Kernel4Ideal.main_v5_0) = v5 c
          ∧ r.2.mem ((c.tc : Thread Cert.Kernel4Ideal.nD Cert.Kernel4Ideal.τ).loc Cert.Kernel4Ideal.main_v6_0) = v6 c
          ∧ r.2.mem ((c.tc : Thread Cert.Kernel4Ideal.nD Cert.Kernel4Ideal.τ).loc Cert.Kernel4Ideal.main_v12) = v7 c
          ∧ r.2.mem ((c.tc : Thread Cert.Kernel4Ideal.nD Cert.Kernel4Ideal.τ).loc Cert.Kernel4Ideal.main_v0_1) = v8 c
          ∧ r.2.mem ((c.tc : Thread Cert.Kernel4Ideal.nD Cert.Kernel4Ideal.τ).loc Cert.Kernel4Ideal.main_v1_1) = v9 c
          ∧ r.2.mem ((c.tc : Thread Cert.Kernel4Ideal.nD Cert.Kernel4Ideal.τ).loc Cert.Kernel4Ideal.main_v2_1) = v10 c
          ∧ r.2.mem ((c.tc : Thread Cert.Kernel4Ideal.nD Cert.Kernel4Ideal.τ).loc Cert.Kernel4Ideal.main_v3_1) = v11 c
          ∧ r.2.mem ((c.tc : Thread Cert.Kernel4Ideal.nD Cert.Kernel4Ideal.τ).loc Cert.Kernel4Ideal.main_v4_1) = v12 c
          ∧ r.2.mem ((c.tc : Thread Cert.Kernel4Ideal.nD Cert.Kernel4Ideal.τ).loc Cert.Kernel4Ideal.main_v5_1) = v13 c
          ∧ r.2.mem ((c.tc : Thread Cert.Kernel4Ideal.nD Cert.Kernel4Ideal.τ).loc Cert.Kernel4Ideal.main_v6_1) = v14 c
          ∧ r.2.mem ((c.tc : Thread Cert.Kernel4Ideal.nD Cert.Kernel4Ideal.τ).loc Cert.Kernel4Ideal.main_v13) = v15 c
          ∧ r.2.mem ((c.tc : Thread Cert.Kernel4Ideal.nD Cert.Kernel4Ideal.τ).loc Cert.Kernel4Ideal.main_v0_2) = v16 c
          ∧ r.2.mem ((c.tc : Thread Cert.Kernel4Ideal.nD Cert.Kernel4Ideal.τ).loc Cert.Kernel4Ideal.main_v1_2) = v17 c
          ∧ r.2.mem ((c.tc : Thread Cert.Kernel4Ideal.nD Cert.Kernel4Ideal.τ).loc Cert.Kernel4Ideal.main_v2_2) = v18 c
          ∧ r.2.mem ((c.tc : Thread Cert.Kernel4Ideal.nD Cert.Kernel4Ideal.τ).loc Cert.Kernel4Ideal.main_v3_2) = v19 c
          ∧ r.2.mem ((c.tc : Thread Cert.Kernel4Ideal.nD Cert.Kernel4Ideal.τ).loc Cert.Kernel4Ideal.main_v4_2) = v20 c
          ∧ r.2.mem ((c.tc : Thread Cert.Kernel4Ideal.nD Cert.Kernel4Ideal.τ).loc Cert.Kernel4Ideal.main_v5_2) = v21 c
          ∧ r.2.mem ((c.tc : Thread Cert.Kernel4Ideal.nD Cert.Kernel4Ideal.τ).loc Cert.Kernel4Ideal.main_v6_2) = v22 c
          ∧ r.2.mem ((c.tc : Thread Cert.Kernel4Ideal.nD Cert.Kernel4Ideal.τ).loc Cert.Kernel4Ideal.main_v14) = v23 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
          ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
          ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16)
          ∧ r.2.mem ((c.tc : Thread Cert.Kernel4Ideal.nD Cert.Kernel4Ideal.τ).loc Cert.Kernel4Ideal.main_arg17) = m ((c.tc : Thread Cert.Kernel4Ideal.nD Cert.Kernel4Ideal.τ).loc Cert.Kernel4Ideal.main_arg17)
          ∧ r.2.mem ((c.tc : Thread Cert.Kernel4Ideal.nD Cert.Kernel4Ideal.τ).loc Cert.Kernel4Ideal.main_arg18) = m ((c.tc : Thread Cert.Kernel4Ideal.nD Cert.Kernel4Ideal.τ).loc Cert.Kernel4Ideal.main_arg18)
          ∧ r.2.mem ((c.tc : Thread Cert.Kernel4Ideal.nD Cert.Kernel4Ideal.τ).loc Cert.Kernel4Ideal.main_arg19) = m ((c.tc : Thread Cert.Kernel4Ideal.nD Cert.Kernel4Ideal.τ).loc Cert.Kernel4Ideal.main_arg19)
          ∧ r.2.mem ((c.tc : Thread Cert.Kernel4Ideal.nD Cert.Kernel4Ideal.τ).loc Cert.Kernel4Ideal.main_arg20) = m ((c.tc : Thread Cert.Kernel4Ideal.nD Cert.Kernel4Ideal.τ).loc Cert.Kernel4Ideal.main_arg20)
          ∧ r.2.mem ((c.tc : Thread Cert.Kernel4Ideal.nD Cert.Kernel4Ideal.τ).loc Cert.Kernel4Ideal.main_arg21) = m ((c.tc : Thread Cert.Kernel4Ideal.nD Cert.Kernel4Ideal.τ).loc Cert.Kernel4Ideal.main_arg21)
          ∧ r.2.mem ((c.tc : Thread Cert.Kernel4Ideal.nD Cert.Kernel4Ideal.τ).loc Cert.Kernel4Ideal.main_arg22) = m ((c.tc : Thread Cert.Kernel4Ideal.nD Cert.Kernel4Ideal.τ).loc Cert.Kernel4Ideal.main_arg22)
          ∧ r.2.mem ((c.tc : Thread Cert.Kernel4Ideal.nD Cert.Kernel4Ideal.τ).loc Cert.Kernel4Ideal.main_arg23) = m ((c.tc : Thread Cert.Kernel4Ideal.nD Cert.Kernel4Ideal.τ).loc Cert.Kernel4Ideal.main_arg23)
          ∧ r.2.mem ((c.tc : Thread Cert.Kernel4Ideal.nD Cert.Kernel4Ideal.τ).loc Cert.Kernel4Ideal.main_arg24) = m ((c.tc : Thread Cert.Kernel4Ideal.nD Cert.Kernel4Ideal.τ).loc Cert.Kernel4Ideal.main_arg24)
          ∧ r.2.mem ((c.tc : Thread Cert.Kernel4Ideal.nD Cert.Kernel4Ideal.τ).loc Cert.Kernel4Ideal.main_arg25) = m ((c.tc : Thread Cert.Kernel4Ideal.nD Cert.Kernel4Ideal.τ).loc Cert.Kernel4Ideal.main_arg25)
          ∧ r.2.mem ((c.tc : Thread Cert.Kernel4Ideal.nD Cert.Kernel4Ideal.τ).loc Cert.Kernel4Ideal.main_arg26) = m ((c.tc : Thread Cert.Kernel4Ideal.nD Cert.Kernel4Ideal.τ).loc Cert.Kernel4Ideal.main_arg26)
          ∧ r.2.mem ((c.tc : Thread Cert.Kernel4Ideal.nD Cert.Kernel4Ideal.τ).loc Cert.Kernel4Ideal.main_arg27) = m ((c.tc : Thread Cert.Kernel4Ideal.nD Cert.Kernel4Ideal.τ).loc Cert.Kernel4Ideal.main_arg27)
          ∧ r.2.mem ((c.tc : Thread Cert.Kernel4Ideal.nD Cert.Kernel4Ideal.τ).loc Cert.Kernel4Ideal.main_arg28) = m ((c.tc : Thread Cert.Kernel4Ideal.nD Cert.Kernel4Ideal.τ).loc Cert.Kernel4Ideal.main_arg28)
          ∧ r.2.mem ((c.tc : Thread Cert.Kernel4Ideal.nD Cert.Kernel4Ideal.τ).loc Cert.Kernel4Ideal.main_arg29) = m ((c.tc : Thread Cert.Kernel4Ideal.nD Cert.Kernel4Ideal.τ).loc Cert.Kernel4Ideal.main_arg29)
          ∧ r.2.mem ((c.tc : Thread Cert.Kernel4Ideal.nD Cert.Kernel4Ideal.τ).loc Cert.Kernel4Ideal.main_arg30) = m ((c.tc : Thread Cert.Kernel4Ideal.nD Cert.Kernel4Ideal.τ).loc Cert.Kernel4Ideal.main_arg30)
          ∧ r.2.mem ((c.tc : Thread Cert.Kernel4Ideal.nD Cert.Kernel4Ideal.τ).loc Cert.Kernel4Ideal.main_arg31) = m ((c.tc : Thread Cert.Kernel4Ideal.nD Cert.Kernel4Ideal.τ).loc Cert.Kernel4Ideal.main_arg31))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v23) = v0 c
          ∧ r.2.mem ((c.tc : Thread Cert.Reference4Ideal.nD Cert.Reference4Ideal.τ).loc Cert.Reference4Ideal.main_v47) = v1 c
          ∧ r.2.mem ((c.tc : Thread Cert.Reference4Ideal.nD Cert.Reference4Ideal.τ).loc Cert.Reference4Ideal.main_v71) = v2 c
          ∧ r.2.mem ((c.tc : Thread Cert.Reference4Ideal.nD Cert.Reference4Ideal.τ).loc Cert.Reference4Ideal.main_v95) = v3 c
          ∧ r.2.mem ((c.tc : Thread Cert.Reference4Ideal.nD Cert.Reference4Ideal.τ).loc Cert.Reference4Ideal.main_v119) = v4 c
          ∧ r.2.mem ((c.tc : Thread Cert.Reference4Ideal.nD Cert.Reference4Ideal.τ).loc Cert.Reference4Ideal.main_v143) = v5 c
          ∧ r.2.mem ((c.tc : Thread Cert.Reference4Ideal.nD Cert.Reference4Ideal.τ).loc Cert.Reference4Ideal.main_v167) = v6 c
          ∧ r.2.mem ((c.tc : Thread Cert.Reference4Ideal.nD Cert.Reference4Ideal.τ).loc Cert.Reference4Ideal.main_v191) = v7 c
          ∧ r.2.mem ((c.tc : Thread Cert.Reference4Ideal.nD Cert.Reference4Ideal.τ).loc Cert.Reference4Ideal.main_v4) = v8 c
          ∧ r.2.mem ((c.tc : Thread Cert.Reference4Ideal.nD Cert.Reference4Ideal.τ).loc Cert.Reference4Ideal.main_v28) = v9 c
          ∧ r.2.mem ((c.tc : Thread Cert.Reference4Ideal.nD Cert.Reference4Ideal.τ).loc Cert.Reference4Ideal.main_v52) = v10 c
          ∧ r.2.mem ((c.tc : Thread Cert.Reference4Ideal.nD Cert.Reference4Ideal.τ).loc Cert.Reference4Ideal.main_v76) = v11 c
          ∧ r.2.mem ((c.tc : Thread Cert.Reference4Ideal.nD Cert.Reference4Ideal.τ).loc Cert.Reference4Ideal.main_v100) = v12 c
          ∧ r.2.mem ((c.tc : Thread Cert.Reference4Ideal.nD Cert.Reference4Ideal.τ).loc Cert.Reference4Ideal.main_v124) = v13 c
          ∧ r.2.mem ((c.tc : Thread Cert.Reference4Ideal.nD Cert.Reference4Ideal.τ).loc Cert.Reference4Ideal.main_v148) = v14 c
          ∧ r.2.mem ((c.tc : Thread Cert.Reference4Ideal.nD Cert.Reference4Ideal.τ).loc Cert.Reference4Ideal.main_v172) = v15 c
          ∧ r.2.mem ((c.tc : Thread Cert.Reference4Ideal.nD Cert.Reference4Ideal.τ).loc Cert.Reference4Ideal.main_v10) = v16 c
          ∧ r.2.mem ((c.tc : Thread Cert.Reference4Ideal.nD Cert.Reference4Ideal.τ).loc Cert.Reference4Ideal.main_v34) = v17 c
          ∧ r.2.mem ((c.tc : Thread Cert.Reference4Ideal.nD Cert.Reference4Ideal.τ).loc Cert.Reference4Ideal.main_v58) = v18 c
          ∧ r.2.mem ((c.tc : Thread Cert.Reference4Ideal.nD Cert.Reference4Ideal.τ).loc Cert.Reference4Ideal.main_v82) = v19 c
          ∧ r.2.mem ((c.tc : Thread Cert.Reference4Ideal.nD Cert.Reference4Ideal.τ).loc Cert.Reference4Ideal.main_v106) = v20 c
          ∧ r.2.mem ((c.tc : Thread Cert.Reference4Ideal.nD Cert.Reference4Ideal.τ).loc Cert.Reference4Ideal.main_v130) = v21 c
          ∧ r.2.mem ((c.tc : Thread Cert.Reference4Ideal.nD Cert.Reference4Ideal.τ).loc Cert.Reference4Ideal.main_v154) = v22 c
          ∧ r.2.mem ((c.tc : Thread Cert.Reference4Ideal.nD Cert.Reference4Ideal.τ).loc Cert.Reference4Ideal.main_v178) = v23 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14)
          ∧ r.2.mem ((c.tc : Thread Cert.Reference4Ideal.nD Cert.Reference4Ideal.τ).loc Cert.Reference4Ideal.main_arg15) = m' ((c.tc : Thread Cert.Reference4Ideal.nD Cert.Reference4Ideal.τ).loc Cert.Reference4Ideal.main_arg15)
          ∧ r.2.mem ((c.tc : Thread Cert.Reference4Ideal.nD Cert.Reference4Ideal.τ).loc Cert.Reference4Ideal.main_arg16) = m' ((c.tc : Thread Cert.Reference4Ideal.nD Cert.Reference4Ideal.τ).loc Cert.Reference4Ideal.main_arg16)
          ∧ r.2.mem ((c.tc : Thread Cert.Reference4Ideal.nD Cert.Reference4Ideal.τ).loc Cert.Reference4Ideal.main_arg17) = m' ((c.tc : Thread Cert.Reference4Ideal.nD Cert.Reference4Ideal.τ).loc Cert.Reference4Ideal.main_arg17)
          ∧ r.2.mem ((c.tc : Thread Cert.Reference4Ideal.nD Cert.Reference4Ideal.τ).loc Cert.Reference4Ideal.main_arg18) = m' ((c.tc : Thread Cert.Reference4Ideal.nD Cert.Reference4Ideal.τ).loc Cert.Reference4Ideal.main_arg18)
          ∧ r.2.mem ((c.tc : Thread Cert.Reference4Ideal.nD Cert.Reference4Ideal.τ).loc Cert.Reference4Ideal.main_arg19) = m' ((c.tc : Thread Cert.Reference4Ideal.nD Cert.Reference4Ideal.τ).loc Cert.Reference4Ideal.main_arg19)
          ∧ r.2.mem ((c.tc : Thread Cert.Reference4Ideal.nD Cert.Reference4Ideal.τ).loc Cert.Reference4Ideal.main_arg20) = m' ((c.tc : Thread Cert.Reference4Ideal.nD Cert.Reference4Ideal.τ).loc Cert.Reference4Ideal.main_arg20)
          ∧ r.2.mem ((c.tc : Thread Cert.Reference4Ideal.nD Cert.Reference4Ideal.τ).loc Cert.Reference4Ideal.main_arg21) = m' ((c.tc : Thread Cert.Reference4Ideal.nD Cert.Reference4Ideal.τ).loc Cert.Reference4Ideal.main_arg21)
          ∧ r.2.mem ((c.tc : Thread Cert.Reference4Ideal.nD Cert.Reference4Ideal.τ).loc Cert.Reference4Ideal.main_arg22) = m' ((c.tc : Thread Cert.Reference4Ideal.nD Cert.Reference4Ideal.τ).loc Cert.Reference4Ideal.main_arg22)
          ∧ r.2.mem ((c.tc : Thread Cert.Reference4Ideal.nD Cert.Reference4Ideal.τ).loc Cert.Reference4Ideal.main_arg23) = m' ((c.tc : Thread Cert.Reference4Ideal.nD Cert.Reference4Ideal.τ).loc Cert.Reference4Ideal.main_arg23)
          ∧ r.2.mem ((c.tc : Thread Cert.Reference4Ideal.nD Cert.Reference4Ideal.τ).loc Cert.Reference4Ideal.main_arg24) = m' ((c.tc : Thread Cert.Reference4Ideal.nD Cert.Reference4Ideal.τ).loc Cert.Reference4Ideal.main_arg24)
          ∧ r.2.mem ((c.tc : Thread Cert.Reference4Ideal.nD Cert.Reference4Ideal.τ).loc Cert.Reference4Ideal.main_arg25) = m' ((c.tc : Thread Cert.Reference4Ideal.nD Cert.Reference4Ideal.τ).loc Cert.Reference4Ideal.main_arg25)
          ∧ r.2.mem ((c.tc : Thread Cert.Reference4Ideal.nD Cert.Reference4Ideal.τ).loc Cert.Reference4Ideal.main_arg26) = m' ((c.tc : Thread Cert.Reference4Ideal.nD Cert.Reference4Ideal.τ).loc Cert.Reference4Ideal.main_arg26)
          ∧ r.2.mem ((c.tc : Thread Cert.Reference4Ideal.nD Cert.Reference4Ideal.τ).loc Cert.Reference4Ideal.main_arg27) = m' ((c.tc : Thread Cert.Reference4Ideal.nD Cert.Reference4Ideal.τ).loc Cert.Reference4Ideal.main_arg27)
          ∧ r.2.mem ((c.tc : Thread Cert.Reference4Ideal.nD Cert.Reference4Ideal.τ).loc Cert.Reference4Ideal.main_arg28) = m' ((c.tc : Thread Cert.Reference4Ideal.nD Cert.Reference4Ideal.τ).loc Cert.Reference4Ideal.main_arg28)
          ∧ r.2.mem ((c.tc : Thread Cert.Reference4Ideal.nD Cert.Reference4Ideal.τ).loc Cert.Reference4Ideal.main_arg29) = m' ((c.tc : Thread Cert.Reference4Ideal.nD Cert.Reference4Ideal.τ).loc Cert.Reference4Ideal.main_arg29)
          ∧ r.2.mem ((c.tc : Thread Cert.Reference4Ideal.nD Cert.Reference4Ideal.τ).loc Cert.Reference4Ideal.main_arg30) = m' ((c.tc : Thread Cert.Reference4Ideal.nD Cert.Reference4Ideal.τ).loc Cert.Reference4Ideal.main_arg30)
          ∧ r.2.mem ((c.tc : Thread Cert.Reference4Ideal.nD Cert.Reference4Ideal.τ).loc Cert.Reference4Ideal.main_arg31) = m' ((c.tc : Thread Cert.Reference4Ideal.nD Cert.Reference4Ideal.τ).loc Cert.Reference4Ideal.main_arg31))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v4)) (v1 : (c : Dev Cert.Kernel5Ideal.nD) → Buf (Elt Ideal) ((c.tc : Thread Cert.Kernel5Ideal.nD Cert.Kernel5Ideal.τ).loc Cert.Kernel5Ideal.main_v5)) (v2 : (c : Dev Cert.Kernel5Ideal.nD) → Buf (Elt Ideal) ((c.tc : Thread Cert.Kernel5Ideal.nD Cert.Kernel5Ideal.τ).loc Cert.Kernel5Ideal.main_v12_0)) (v3 : (c : Dev Cert.Kernel5Ideal.nD) → Buf (Elt Ideal) ((c.tc : Thread Cert.Kernel5Ideal.nD Cert.Kernel5Ideal.τ).loc Cert.Kernel5Ideal.main_v12_1)) (v4 : (c : Dev Cert.Kernel5Ideal.nD) → Buf (Elt Ideal) ((c.tc : Thread Cert.Kernel5Ideal.nD Cert.Kernel5Ideal.τ).loc Cert.Kernel5Ideal.main_v9)) (v5 : (c : Dev Cert.Kernel5Ideal.nD) → Buf (Elt Ideal) ((c.tc : Thread Cert.Kernel5Ideal.nD Cert.Kernel5Ideal.τ).loc Cert.Kernel5Ideal.main_v13_0)) (v6 : (c : Dev Cert.Kernel5Ideal.nD) → Buf (Elt Ideal) ((c.tc : Thread Cert.Kernel5Ideal.nD Cert.Kernel5Ideal.τ).loc Cert.Kernel5Ideal.main_v13_1)) (v7 : (c : Dev Cert.Kernel5Ideal.nD) → Buf (Elt Ideal) ((c.tc : Thread Cert.Kernel5Ideal.nD Cert.Kernel5Ideal.τ).loc Cert.Kernel5Ideal.main_v11)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_v5) = v1 c
          ∧ r.2.mem ((c.tc : Thread Cert.Kernel5Ideal.nD Cert.Kernel5Ideal.τ).loc Cert.Kernel5Ideal.main_v12_0) = v2 c
          ∧ r.2.mem ((c.tc : Thread Cert.Kernel5Ideal.nD Cert.Kernel5Ideal.τ).loc Cert.Kernel5Ideal.main_v12_1) = v3 c
          ∧ r.2.mem ((c.tc : Thread Cert.Kernel5Ideal.nD Cert.Kernel5Ideal.τ).loc Cert.Kernel5Ideal.main_v9) = v4 c
          ∧ r.2.mem ((c.tc : Thread Cert.Kernel5Ideal.nD Cert.Kernel5Ideal.τ).loc Cert.Kernel5Ideal.main_v13_0) = v5 c
          ∧ r.2.mem ((c.tc : Thread Cert.Kernel5Ideal.nD Cert.Kernel5Ideal.τ).loc Cert.Kernel5Ideal.main_v13_1) = v6 c
          ∧ r.2.mem ((c.tc : Thread Cert.Kernel5Ideal.nD Cert.Kernel5Ideal.τ).loc Cert.Kernel5Ideal.main_v11) = v7 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v16) = v0 c
          ∧ r.2.mem ((c.tc : Thread Cert.Reference5Ideal.nD Cert.Reference5Ideal.τ).loc Cert.Reference5Ideal.main_v33) = v1 c
          ∧ r.2.mem ((c.tc : Thread Cert.Reference5Ideal.nD Cert.Reference5Ideal.τ).loc Cert.Reference5Ideal.main_v78) = v2 c
          ∧ r.2.mem ((c.tc : Thread Cert.Reference5Ideal.nD Cert.Reference5Ideal.τ).loc Cert.Reference5Ideal.main_v62) = v3 c
          ∧ r.2.mem ((c.tc : Thread Cert.Reference5Ideal.nD Cert.Reference5Ideal.τ).loc Cert.Reference5Ideal.main_v59) = v4 c
          ∧ r.2.mem ((c.tc : Thread Cert.Reference5Ideal.nD Cert.Reference5Ideal.τ).loc Cert.Reference5Ideal.main_v56) = v5 c
          ∧ r.2.mem ((c.tc : Thread Cert.Reference5Ideal.nD Cert.Reference5Ideal.τ).loc Cert.Reference5Ideal.main_v40) = v6 c
          ∧ r.2.mem ((c.tc : Thread Cert.Reference5Ideal.nD Cert.Reference5Ideal.τ).loc Cert.Reference5Ideal.main_v37) = v7 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v9)) (v1 : (c : Dev Cert.Kernel6Ideal.nD) → Buf (Elt Ideal) ((c.tc : Thread Cert.Kernel6Ideal.nD Cert.Kernel6Ideal.τ).loc Cert.Kernel6Ideal.main_v14)) (v2 : (c : Dev Cert.Kernel6Ideal.nD) → Buf (Elt Ideal) ((c.tc : Thread Cert.Kernel6Ideal.nD Cert.Kernel6Ideal.τ).loc Cert.Kernel6Ideal.main_v15)) (v3 : (c : Dev Cert.Kernel6Ideal.nD) → Buf (Elt Ideal) ((c.tc : Thread Cert.Kernel6Ideal.nD Cert.Kernel6Ideal.τ).loc Cert.Kernel6Ideal.main_v11)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v9) = v0 c
          ∧ r.2.mem ((c.tc : Thread Cert.Kernel6Ideal.nD Cert.Kernel6Ideal.τ).loc Cert.Kernel6Ideal.main_v14) = v1 c
          ∧ r.2.mem ((c.tc : Thread Cert.Kernel6Ideal.nD Cert.Kernel6Ideal.τ).loc Cert.Kernel6Ideal.main_v15) = v2 c
          ∧ r.2.mem ((c.tc : Thread Cert.Kernel6Ideal.nD Cert.Kernel6Ideal.τ).loc Cert.Kernel6Ideal.main_v11) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v16) = v0 c
          ∧ r.2.mem ((c.tc : Thread Cert.Reference6Ideal.nD Cert.Reference6Ideal.τ).loc Cert.Reference6Ideal.main_v29) = v1 c
          ∧ r.2.mem ((c.tc : Thread Cert.Reference6Ideal.nD Cert.Reference6Ideal.τ).loc Cert.Reference6Ideal.main_v28) = v2 c
          ∧ r.2.mem ((c.tc : Thread Cert.Reference6Ideal.nD Cert.Reference6Ideal.τ).loc Cert.Reference6Ideal.main_v30) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v5)) (v1 : (c : Dev Cert.Kernel7Ideal.nD) → Buf (Elt Ideal) ((c.tc : Thread Cert.Kernel7Ideal.nD Cert.Kernel7Ideal.τ).loc Cert.Kernel7Ideal.main_v3_0)) (v2 : (c : Dev Cert.Kernel7Ideal.nD) → Buf (Elt Ideal) ((c.tc : Thread Cert.Kernel7Ideal.nD Cert.Kernel7Ideal.τ).loc Cert.Kernel7Ideal.main_v6)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5) = v0 c
          ∧ r.2.mem ((c.tc : Thread Cert.Kernel7Ideal.nD Cert.Kernel7Ideal.τ).loc Cert.Kernel7Ideal.main_v3_0) = v1 c
          ∧ r.2.mem ((c.tc : Thread Cert.Kernel7Ideal.nD Cert.Kernel7Ideal.τ).loc Cert.Kernel7Ideal.main_v6) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v25) = v0 c
          ∧ r.2.mem ((c.tc : Thread Cert.Reference7Ideal.nD Cert.Reference7Ideal.τ).loc Cert.Reference7Ideal.main_v51) = v1 c
          ∧ r.2.mem ((c.tc : Thread Cert.Reference7Ideal.nD Cert.Reference7Ideal.τ).loc Cert.Reference7Ideal.main_v37) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v3)) (v1 : (c : Dev Cert.Kernel8Ideal.nD) → Buf (Elt Ideal) ((c.tc : Thread Cert.Kernel8Ideal.nD Cert.Kernel8Ideal.τ).loc Cert.Kernel8Ideal.main_v4)) (v2 : (c : Dev Cert.Kernel8Ideal.nD) → Buf (Elt Ideal) ((c.tc : Thread Cert.Kernel8Ideal.nD Cert.Kernel8Ideal.τ).loc Cert.Kernel8Ideal.main_v2_1)) (v3 : (c : Dev Cert.Kernel8Ideal.nD) → Buf (Elt Ideal) ((c.tc : Thread Cert.Kernel8Ideal.nD Cert.Kernel8Ideal.τ).loc Cert.Kernel8Ideal.main_v2_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_v4) = v1 c
          ∧ r.2.mem ((c.tc : Thread Cert.Kernel8Ideal.nD Cert.Kernel8Ideal.τ).loc Cert.Kernel8Ideal.main_v2_1) = v2 c
          ∧ r.2.mem ((c.tc : Thread Cert.Kernel8Ideal.nD Cert.Kernel8Ideal.τ).loc Cert.Kernel8Ideal.main_v2_2) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v25) = v0 c
          ∧ r.2.mem ((c.tc : Thread Cert.Reference8Ideal.nD Cert.Reference8Ideal.τ).loc Cert.Reference8Ideal.main_v37) = v1 c
          ∧ r.2.mem ((c.tc : Thread Cert.Reference8Ideal.nD Cert.Reference8Ideal.τ).loc Cert.Reference8Ideal.main_v39) = v2 c
          ∧ r.2.mem ((c.tc : Thread Cert.Reference8Ideal.nD Cert.Reference8Ideal.τ).loc Cert.Reference8Ideal.main_v45) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Kernel.lean ====
abbrev S2048x2048 : Shape := ⟨2, ![2048, 2048]⟩
abbrev S1x2048 : Shape := ⟨2, ![1, 2048]⟩
abbrev S8x704x2048 : Shape := ⟨3, ![8, 704, 2048]⟩
abbrev S256x2048 : Shape := ⟨2, ![256, 2048]⟩
abbrev S256 : Shape := ⟨1, ![256]⟩
abbrev S256x1 : Shape := ⟨2, ![256, 1]⟩
abbrev S5632x2048 : Shape := ⟨2, ![5632, 2048]⟩
abbrev S2048x5632 : Shape := ⟨2, ![2048, 5632]⟩
abbrev S1024x2048 : Shape := ⟨2, ![1024, 2048]⟩
abbrev S512x2048 : Shape := ⟨2, ![512, 2048]⟩
abbrev S1024x512 : Shape := ⟨2, ![1024, 512]⟩
abbrev S256x512 : Shape := ⟨2, ![256, 512]⟩
abbrev S512x5632 : Shape := ⟨2, ![512, 5632]⟩
abbrev S5632x512 : Shape := ⟨2, ![5632, 512]⟩
abbrev S512x512 : Shape := ⟨2, ![512, 512]⟩
abbrev S2048x1408 : Shape := ⟨2, ![2048, 1408]⟩
abbrev S2048x1024 : Shape := ⟨2, ![2048, 1024]⟩
abbrev S1408x1024 : Shape := ⟨2, ![1408, 1024]⟩
abbrev S2048 : Shape := ⟨1, ![2048]⟩

abbrev nBuf : Space → Nat
  | .hbm => 33
  | .vmem => 83
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S8x704x2048, .f32⟩
  | .hbm, ⟨3, _⟩ => ⟨S8x704x2048, .f32⟩
  | .hbm, ⟨4, _⟩ => ⟨S8x704x2048, .f32⟩
  | .hbm, ⟨5, _⟩ => ⟨S2048x2048, .f32⟩
  | .hbm, ⟨6, _⟩ => ⟨S8x704x2048, .bf16⟩
  | .hbm, ⟨7, _⟩ => ⟨S8x704x2048, .bf16⟩
  | .hbm, ⟨8, _⟩ => ⟨S8x704x2048, .bf16⟩
  | .hbm, ⟨9, _⟩ => ⟨S2048x2048, .bf16⟩
  | .hbm, ⟨10, _⟩ => ⟨S5632x2048, .bf16⟩
  | .hbm, ⟨11, _⟩ => ⟨S2048x5632, .f32⟩
  | .hbm, ⟨12, _⟩ => ⟨S5632x2048, .bf16⟩
  | .hbm, ⟨13, _⟩ => ⟨S2048x5632, .f32⟩
  | .hbm, ⟨14, _⟩ => ⟨S2048x5632, .bf16⟩
  | .hbm, ⟨15, _⟩ => ⟨S5632x2048, .bf16⟩
  | .hbm, ⟨16, _⟩ => ⟨S2048x2048, .f32⟩
  | .hbm, ⟨17, _⟩ => ⟨S2048x2048, .bf16⟩
  | .hbm, ⟨18, _⟩ => ⟨S5632x2048, .bf16⟩
  | .hbm, ⟨19, _⟩ => ⟨S2048x5632, .bf16⟩
  | .hbm, ⟨20, _⟩ => ⟨S2048x5632, .bf16⟩
  | .hbm, ⟨21, _⟩ => ⟨S5632x2048, .f32⟩
  | .hbm, ⟨22, _⟩ => ⟨S8x704x2048, .f32⟩
  | .hbm, ⟨23, _⟩ => ⟨S5632x2048, .f32⟩
  | .hbm, ⟨24, _⟩ => ⟨S8x704x2048, .f32⟩
  | .hbm, ⟨25, _⟩ => ⟨S5632x2048, .f32⟩
  | .hbm, ⟨26, _⟩ => ⟨S8x704x2048, .f32⟩
  | .hbm, ⟨27, _⟩ => ⟨S5632x2048, .bf16⟩
  | .hbm, ⟨28, _⟩ => ⟨S5632x2048, .bf16⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S1024x2048, .bf16⟩
  | .local _ .vmem, ⟨6, _⟩ => ⟨S1024x2048, .bf16⟩
  | .local _ .vmem, ⟨7, _⟩ => ⟨S512x2048, .bf16⟩
  | .local _ .vmem, ⟨8, _⟩ => ⟨S512x2048, .bf16⟩
  | .local _ .vmem, ⟨9, _⟩ => ⟨S1024x512, .f32⟩
  | .local _ .vmem, ⟨10, _⟩ => ⟨S1024x512, .f32⟩
  | .local _ .vmem, ⟨11, _⟩ => ⟨S1024x2048, .bf16⟩
  | .local _ .vmem, ⟨12, _⟩ => ⟨S1024x2048, .bf16⟩
  | .local _ .vmem, ⟨13, _⟩ => ⟨S512x2048, .bf16⟩
  | .local _ .vmem, ⟨14, _⟩ => ⟨S512x2048, .bf16⟩
  | .local _ .vmem, ⟨15, _⟩ => ⟨S1024x512, .f32⟩
  | .local _ .vmem, ⟨16, _⟩ => ⟨S1024x512, .f32⟩
  | .local _ .vmem, ⟨17, _⟩ => ⟨S1024x512, .f32⟩
  | .local _ .vmem, ⟨18, _⟩ => ⟨S1024x512, .f32⟩
  | .local _ .vmem, ⟨19, _⟩ => ⟨S1024x512, .bf16⟩
  | .local _ .vmem, ⟨20, _⟩ => ⟨S1024x512, .bf16⟩
  | .local _ .vmem, ⟨21, _⟩ => ⟨S512x5632, .bf16⟩
  | .local _ .vmem, ⟨22, _⟩ => ⟨S512x5632, .bf16⟩
  | .local _ .vmem, ⟨23, _⟩ => ⟨S5632x512, .bf16⟩
  | .local _ .vmem, ⟨24, _⟩ => ⟨S5632x512, .bf16⟩
  | .local _ .vmem, ⟨25, _⟩ => ⟨S512x512, .f32⟩
  | .local _ .vmem, ⟨26, _⟩ => ⟨S512x512, .f32⟩
  | .local _ .vmem, ⟨27, _⟩ => ⟨S512x512, .f32⟩
  | .local _ .vmem, ⟨28, _⟩ => ⟨S512x512, .f32⟩
  | .local _ .vmem, ⟨29, _⟩ => ⟨S1024x2048, .bf16⟩
  | .local _ .vmem, ⟨30, _⟩ => ⟨S1024x2048, .bf16⟩
  | .local _ .vmem, ⟨31, _⟩ => ⟨S512x2048, .bf16⟩
  | .local _ .vmem, ⟨32, _⟩ => ⟨S512x2048, .bf16⟩
  | .local _ .vmem, ⟨33, _⟩ => ⟨S1024x512, .f32⟩
  | .local _ .vmem, ⟨34, _⟩ => ⟨S1024x512, .f32⟩
  | .local _ .vmem, ⟨35, _⟩ => ⟨S1024x512, .f32⟩
  | .local _ .vmem, ⟨36, _⟩ => ⟨S1024x512, .f32⟩
  | .local _ .vmem, ⟨37, _⟩ => ⟨S1024x512, .bf16⟩
  | .local _ .vmem, ⟨38, _⟩ => ⟨S1024x512, .bf16⟩
  | .local _ .vmem, ⟨39, _⟩ => ⟨S1024x512, .bf16⟩
  | .local _ .vmem, ⟨40, _⟩ => ⟨S1024x512, .bf16⟩
  | .local _ .vmem, ⟨41, _⟩ => ⟨S2048x1408, .bf16⟩
  | .local _ .vmem, ⟨42, _⟩ => ⟨S2048x1408, .bf16⟩
  | .local _ .vmem, ⟨43, _⟩ => ⟨S2048x1024, .bf16⟩
  | .local _ .vmem, ⟨44, _⟩ => ⟨S2048x1024, .bf16⟩
  | .local _ .vmem, ⟨45, _⟩ => ⟨S1408x1024, .f32⟩
  | .local _ .vmem, ⟨46, _⟩ => ⟨S1408x1024, .f32⟩
  | .local _ .vmem, ⟨47, _⟩ => ⟨S2048x1408, .bf16⟩
  | .local _ .vmem, ⟨48, _⟩ => ⟨S2048x1408, .bf16⟩
  | .local _ .vmem, ⟨49, _⟩ => ⟨S2048x1024, .bf16⟩
  | .local _ .vmem, ⟨50, _⟩ => ⟨S2048x1024, .bf16⟩
  | .local _ .vmem, ⟨51, _⟩ => ⟨S1408x1024, .f32⟩
  | .local _ .vmem, ⟨52, _⟩ => ⟨S1408x1024, .f32⟩
  | .local _ .vmem, ⟨53, _⟩ => ⟨S2048x1408, .bf16⟩
  | .local _ .vmem, ⟨54, _⟩ => ⟨S2048x1408, .bf16⟩
  | .local _ .vmem, ⟨55, _⟩ => ⟨S2048x1024, .bf16⟩
  | .local _ .vmem, ⟨56, _⟩ => ⟨S2048x1024, .bf16⟩
  | .local _ .vmem, ⟨57, _⟩ => ⟨S1408x1024, .f32⟩
  | .local _ .vmem, ⟨58, _⟩ => ⟨S1408x1024, .f32⟩
  | .local _ .vmem, ⟨59, _⟩ => ⟨S512x5632, .bf16⟩
  | .local _ .vmem, ⟨60, _⟩ => ⟨S512x5632, .bf16⟩
  | .local _ .vmem, ⟨61, _⟩ => ⟨S5632x512, .bf16⟩
  | .local _ .vmem, ⟨62, _⟩ => ⟨S5632x512, .bf16⟩
  | .local _ .vmem, ⟨63, _⟩ => ⟨S512x512, .f32⟩
  | .local _ .vmem, ⟨64, _⟩ => ⟨S512x512, .f32⟩
  | .local _ .vmem, ⟨65, _⟩ => ⟨S512x5632, .bf16⟩
  | .local _ .vmem, ⟨66, _⟩ => ⟨S512x5632, .bf16⟩
  | .local _ .vmem, ⟨67, _⟩ => ⟨S5632x512, .bf16⟩
  | .local _ .vmem, ⟨68, _⟩ => ⟨S5632x512, .bf16⟩
  | .local _ .vmem, ⟨69, _⟩ => ⟨S512x512, .f32⟩
  | .local _ .vmem, ⟨70, _⟩ => ⟨S512x512, .f32⟩
  | .local _ .vmem, ⟨71, _⟩ => ⟨S512x512, .f32⟩
  | .local _ .vmem, ⟨72, _⟩ => ⟨S512x512, .f32⟩
  | .local _ .vmem, ⟨73, _⟩ => ⟨S256x2048, .f32⟩
  | .local _ .vmem, ⟨74, _⟩ => ⟨S256x2048, .f32⟩
  | .local _ .vmem, ⟨75, _⟩ => ⟨S1x2048, .f32⟩
  | .local _ .vmem, ⟨76, _⟩ => ⟨S256x2048, .f32⟩
  | .local _ .vmem, ⟨77, _⟩ => ⟨S256x2048, .f32⟩
  | .local _ .vmem, ⟨78, _⟩ => ⟨S256x2048, .f32⟩
  | .local _ .vmem, ⟨79, _⟩ => ⟨S256x2048, .f32⟩
  | .local _ .vmem, ⟨80, _⟩ => ⟨S256x2048, .f32⟩
  | .local _ .vmem, ⟨81, _⟩ => ⟨S256x2048, .f32⟩
  | .local _ .vmem, ⟨82, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | _, _ => false

abbrev semScoped : Fin 0 → Bool
  | ⟨_, h⟩ => absurd h (Nat.not_lt_zero _)

abbrev dmaSemScoped : Fin 83 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | _ => false

abbrev sig : RefSig :=
  ofTc nBuf bufTy 0 83 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23_0 : Ref sig .tc := ⟨.hbm, 31, rfl⟩
abbrev main_v23_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc2_stg4_0 : Ref sig .tc := ⟨.vmem, 19, rfl⟩
abbrev cc2_stg4_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg3_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg2_1 : Ref sig .tc := ⟨.vmem, 34, rfl⟩
abbrev cc4_stg3_0 : Ref sig .tc := ⟨.vmem, 35, rfl⟩
abbrev cc4_stg3_1 : Ref sig .tc := ⟨.vmem, 36, rfl⟩
abbrev cc4_stg4_0 : Ref sig .tc := ⟨.vmem, 37, rfl⟩
abbrev cc4_stg4_1 : Ref sig .tc := ⟨.vmem, 38, rfl⟩
abbrev cc4_stg5_0 : Ref sig .tc := ⟨.vmem, 39, rfl⟩
abbrev cc4_stg5_1 : Ref sig .tc := ⟨.vmem, 40, rfl⟩
abbrev cc5_stg0_0 : Ref sig .tc := ⟨.vmem, 41, rfl⟩
abbrev cc5_stg0_1 : Ref sig .tc := ⟨.vmem, 42, rfl⟩
abbrev cc5_stg1_0 : Ref sig .tc := ⟨.vmem, 43, rfl⟩
abbrev cc5_stg1_1 : Ref sig .tc := ⟨.vmem, 44, rfl⟩
abbrev cc5_stg2_0 : Ref sig .tc := ⟨.vmem, 45, rfl⟩
abbrev cc5_stg2_1 : Ref sig .tc := ⟨.vmem, 46, rfl⟩
abbrev cc6_stg0_0 : Ref sig .tc := ⟨.vmem, 47, rfl⟩
abbrev cc6_stg0_1 : Ref sig .tc := ⟨.vmem, 48, rfl⟩
abbrev cc6_stg1_0 : Ref sig .tc := ⟨.vmem, 49, rfl⟩
abbrev cc6_stg1_1 : Ref sig .tc := ⟨.vmem, 50, rfl⟩
abbrev cc6_stg2_0 : Ref sig .tc := ⟨.vmem, 51, rfl⟩
abbrev cc6_stg2_1 : Ref sig .tc := ⟨.vmem, 52, rfl⟩
abbrev cc7_stg0_0 : Ref sig .tc := ⟨.vmem, 53, rfl⟩
abbrev cc7_stg0_1 : Ref sig .tc := ⟨.vmem, 54, rfl⟩
abbrev cc7_stg1_0 : Ref sig .tc := ⟨.vmem, 55, rfl⟩
abbrev cc7_stg1_1 : Ref sig .tc := ⟨.vmem, 56, rfl⟩
abbrev cc7_stg2_0 : Ref sig .tc := ⟨.vmem, 57, rfl⟩
abbrev cc7_stg2_1 : Ref sig .tc := ⟨.vmem, 58, rfl⟩
abbrev cc8_stg0_0 : Ref sig .tc := ⟨.vmem, 59, rfl⟩
abbrev cc8_stg0_1 : Ref sig .tc := ⟨.vmem, 60, rfl⟩
abbrev cc8_stg1_0 : Ref sig .tc := ⟨.vmem, 61, rfl⟩
abbrev cc8_stg1_1 : Ref sig .tc := ⟨.vmem, 62, rfl⟩
abbrev cc8_stg2_0 : Ref sig .tc := ⟨.vmem, 63, rfl⟩
abbrev cc8_stg2_1 : Ref sig .tc := ⟨.vmem, 64, rfl⟩
abbrev cc9_stg0_0 : Ref sig .tc := ⟨.vmem, 65, rfl⟩
abbrev cc9_stg0_1 : Ref sig .tc := ⟨.vmem, 66, rfl⟩
abbrev cc9_stg1_0 : Ref sig .tc := ⟨.vmem, 67, rfl⟩
abbrev cc9_stg1_1 : Ref sig .tc := ⟨.vmem, 68, rfl⟩
abbrev cc9_stg2_0 : Ref sig .tc := ⟨.vmem, 69, rfl⟩
abbrev cc9_stg2_1 : Ref sig .tc := ⟨.vmem, 70, rfl⟩
abbrev cc9_stg3_0 : Ref sig .tc := ⟨.vmem, 71, rfl⟩
abbrev cc9_stg3_1 : Ref sig .tc := ⟨.vmem, 72, rfl⟩
abbrev cc10_stg0_0 : Ref sig .tc := ⟨.vmem, 73, rfl⟩
abbrev cc10_stg0_1 : Ref sig .tc := ⟨.vmem, 74, rfl⟩
abbrev cc10_stg1_0 : Ref sig .tc := ⟨.vmem, 75, rfl⟩
abbrev cc10_stg2_0 : Ref sig .tc := ⟨.vmem, 76, rfl⟩
abbrev cc10_stg2_1 : Ref sig .tc := ⟨.vmem, 77, rfl⟩
abbrev cc10_stg3_0 : Ref sig .tc := ⟨.vmem, 78, rfl⟩
abbrev cc10_stg3_1 : Ref sig .tc := ⟨.vmem, 79, rfl⟩
abbrev cc10_stg4_0 : Ref sig .tc := ⟨.vmem, 80, rfl⟩
abbrev cc10_stg4_1 : Ref sig .tc := ⟨.vmem, 81, rfl⟩
abbrev cc10_stg5_0 : Ref sig .tc := ⟨.vmem, 82, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem3_1 : DmaSem sig := 18
abbrev cc2_sem4_0 : DmaSem sig := 19
abbrev cc2_sem4_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc3_sem3_0 : DmaSem sig := 27
abbrev cc3_sem3_1 : DmaSem sig := 28
abbrev cc4_sem0_0 : DmaSem sig := 29
abbrev cc4_sem0_1 : DmaSem sig := 30
abbrev cc4_sem1_0 : DmaSem sig := 31
abbrev cc4_sem1_1 : DmaSem sig := 32
abbrev cc4_sem2_0 : DmaSem sig := 33
abbrev cc4_sem2_1 : DmaSem sig := 34
abbrev cc4_sem3_0 : DmaSem sig := 35
abbrev cc4_sem3_1 : DmaSem sig := 36
abbrev cc4_sem4_0 : DmaSem sig := 37
abbrev cc4_sem4_1 : DmaSem sig := 38
abbrev cc4_sem5_0 : DmaSem sig := 39
abbrev cc4_sem5_1 : DmaSem sig := 40
abbrev cc5_sem0_0 : DmaSem sig := 41
abbrev cc5_sem0_1 : DmaSem sig := 42
abbrev cc5_sem1_0 : DmaSem sig := 43
abbrev cc5_sem1_1 : DmaSem sig := 44
abbrev cc5_sem2_0 : DmaSem sig := 45
abbrev cc5_sem2_1 : DmaSem sig := 46
abbrev cc6_sem0_0 : DmaSem sig := 47
abbrev cc6_sem0_1 : DmaSem sig := 48
abbrev cc6_sem1_0 : DmaSem sig := 49
abbrev cc6_sem1_1 : DmaSem sig := 50
abbrev cc6_sem2_0 : DmaSem sig := 51
abbrev cc6_sem2_1 : DmaSem sig := 52
abbrev cc7_sem0_0 : DmaSem sig := 53
abbrev cc7_sem0_1 : DmaSem sig := 54
abbrev cc7_sem1_0 : DmaSem sig := 55
abbrev cc7_sem1_1 : DmaSem sig := 56
abbrev cc7_sem2_0 : DmaSem sig := 57
abbrev cc7_sem2_1 : DmaSem sig := 58
abbrev cc8_sem0_0 : DmaSem sig := 59
abbrev cc8_sem0_1 : DmaSem sig := 60
abbrev cc8_sem1_0 : DmaSem sig := 61
abbrev cc8_sem1_1 : DmaSem sig := 62
abbrev cc8_sem2_0 : DmaSem sig := 63
abbrev cc8_sem2_1 : DmaSem sig := 64
abbrev cc9_sem0_0 : DmaSem sig := 65
abbrev cc9_sem0_1 : DmaSem sig := 66
abbrev cc9_sem1_0 : DmaSem sig := 67
abbrev cc9_sem1_1 : DmaSem sig := 68
abbrev cc9_sem2_0 : DmaSem sig := 69
abbrev cc9_sem2_1 : DmaSem sig := 70
abbrev cc9_sem3_0 : DmaSem sig := 71
abbrev cc9_sem3_1 : DmaSem sig := 72
abbrev cc10_sem0_0 : DmaSem sig := 73
abbrev cc10_sem0_1 : DmaSem sig := 74
abbrev cc10_sem1_0 : DmaSem sig := 75
abbrev cc10_sem2_0 : DmaSem sig := 76
abbrev cc10_sem2_1 : DmaSem sig := 77
abbrev cc10_sem3_0 : DmaSem sig := 78
abbrev cc10_sem3_1 : DmaSem sig := 79
abbrev cc10_sem4_0 : DmaSem sig := 80
abbrev cc10_sem4_1 : DmaSem sig := 81
abbrev cc10_sem5_0 : DmaSem sig := 82

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![2, 11, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S512x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![2, 11, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S512x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S1024x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev stage2_4 : Fin 2 → Memref sig .tc .vmem S1024x512 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, false]

abbrev grid3 : Pipeline.Grid := ⟨3, ![4, 4, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S512x5632 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S5632x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S512x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S512x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev grid4 : Pipeline.Grid := ⟨3, ![2, 11, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc4_transform_3 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc4_transform_4 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc4_transform_5 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S512x2048 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev stage4_3 : Fin 2 → Memref sig .tc .vmem S1024x512 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true, false]

abbrev stage4_4 : Fin 2 → Memref sig .tc .vmem S1024x512 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true, false]

abbrev stage4_5 : Fin 2 → Memref sig .tc .vmem S1024x512 .bf16 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, true, false]

abbrev grid5 : Pipeline.Grid := ⟨3, ![4, 2, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S2048x1408 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S2048x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1408x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![4, 2, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S2048x1408 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 2 → Memref sig .tc .vmem S2048x1024 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 2 → Memref sig .tc .vmem S1408x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨3, ![4, 2, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S2048x1408 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 2 → Memref sig .tc .vmem S2048x1024 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 2 → Memref sig .tc .vmem S1408x1024 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev grid8 : Pipeline.Grid := ⟨3, ![4, 4, 1], ![false, false, false]⟩

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage8_0 : Fin 2 → Memref sig .tc .vmem S512x5632 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false, true]

abbrev stage8_1 : Fin 2 → Memref sig .tc .vmem S5632x512 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true, true]

abbrev stage8_2 : Fin 2 → Memref sig .tc .vmem S512x512 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, false]

abbrev grid9 : Pipeline.Grid := ⟨3, ![4, 4, 1], ![false, false, false]⟩

def cc9_transform_0 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc9_transform_1 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc9_transform_2 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc9_transform_3 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage9_0 : Fin 2 → Memref sig .tc .vmem S512x5632 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, false, true]

abbrev stage9_1 : Fin 2 → Memref sig .tc .vmem S5632x512 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![false, true, true]

abbrev stage9_2 : Fin 2 → Memref sig .tc .vmem S512x512 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true, false]

abbrev stage9_3 : Fin 2 → Memref sig .tc .vmem S512x512 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true, true, false]

abbrev grid10 : Pipeline.Grid := ⟨1, ![8], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_4 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S256x2048 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x2048 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S256x2048 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 2 → Memref sig .tc .vmem S256x2048 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev stage10_4 : Fin 2 → Memref sig .tc .vmem S256x2048 .f32 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true]

abbrev stage10_5 : Fin 1 → Memref sig .tc .vmem S1x2048 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]
-- ==== ReferenceIdeal.lean ====
abbrev S2048x2048 : Shape := ⟨2, ![2048, 2048]⟩
abbrev S1x2048 : Shape := ⟨2, ![1, 2048]⟩
abbrev S8x704x2048 : Shape := ⟨3, ![8, 704, 2048]⟩
abbrev S_ : Shape := ⟨0, ![]⟩
abbrev S2048 : Shape := ⟨1, ![2048]⟩
abbrev S2048x1 : Shape := ⟨2, ![2048, 1]⟩
abbrev S5632x2048 : Shape := ⟨2, ![5632, 2048]⟩
abbrev S2048x5632 : Shape := ⟨2, ![2048, 5632]⟩

abbrev nBuf : Space → Nat
  | .hbm => 94
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S8x704x2048, .f32⟩
  | .hbm, ⟨3, _⟩ => ⟨S8x704x2048, .f32⟩
  | .hbm, ⟨4, _⟩ => ⟨S8x704x2048, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S5632x2048, .f32⟩
  | .hbm, ⟨26, _⟩ => ⟨S5632x2048, .f32⟩
  | .hbm, ⟨27, _⟩ => ⟨S5632x2048, .f32⟩
  | .hbm, ⟨28, _⟩ => ⟨S2048x5632, .f32⟩
  | .hbm, ⟨29, _⟩ => ⟨S2048x5632, .f32⟩
  | .hbm, ⟨30, _⟩ => ⟨S2048x5632, .f32⟩
  | .hbm, ⟨31, _⟩ => ⟨S2048x5632, .f32⟩
  | .hbm, ⟨32, _⟩ => ⟨S_, .f32⟩
  | .hbm, ⟨33, _⟩ => ⟨S2048x5632, .f32⟩
  | .hbm, ⟨34, _⟩ => ⟨S2048x5632, .f32⟩
  | .hbm, ⟨35, _⟩ => ⟨S_, .f32⟩
  | .hbm, ⟨36, _⟩ => ⟨S2048x5632, .f32⟩
  | .hbm, ⟨37, _⟩ => ⟨S2048x5632, .f32⟩
  | .hbm, ⟨38, _⟩ => ⟨S_, .f32⟩
  | .hbm, ⟨39, _⟩ => ⟨S2048x5632, .f32⟩
  | .hbm, ⟨40, _⟩ => ⟨S2048x5632, .f32⟩
  | .hbm, ⟨41, _⟩ => ⟨S2048x5632, .f32⟩
  | .hbm, ⟨42, _⟩ => ⟨S2048x5632, .f32⟩
  | .hbm, ⟨43, _⟩ => ⟨S2048x5632, .f32⟩
  | .hbm, ⟨44, _⟩ => ⟨S2048x5632, .f32⟩
  | .hbm, ⟨45, _⟩ => ⟨S2048x5632, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x5632, .f32⟩
  | .hbm, ⟨50, _⟩ => ⟨S5632x2048, .f32⟩
  | .hbm, ⟨51, _⟩ => ⟨S2048x5632, .f32⟩
  | .hbm, ⟨52, _⟩ => ⟨S2048x5632, .f32⟩
  | .hbm, ⟨53, _⟩ => ⟨S2048x5632, .f32⟩
  | .hbm, ⟨54, _⟩ => ⟨S5632x2048, .f32⟩
  | .hbm, ⟨55, _⟩ => ⟨S2048x5632, .f32⟩
  | .hbm, ⟨56, _⟩ => ⟨S2048x2048, .f32⟩
  | .hbm, ⟨57, _⟩ => ⟨S5632x2048, .f32⟩
  | .hbm, ⟨58, _⟩ => ⟨S2048x5632, .f32⟩
  | .hbm, ⟨59, _⟩ => ⟨S2048x5632, .f32⟩
  | .hbm, ⟨60, _⟩ => ⟨S2048x5632, .f32⟩
  | .hbm, ⟨61, _⟩ => ⟨S2048x5632, .f32⟩
  | .hbm, ⟨62, _⟩ => ⟨S5632x2048, .f32⟩
  | .hbm, ⟨63, _⟩ => ⟨S2048x5632, .f32⟩
  | .hbm, ⟨64, _⟩ => ⟨S2048x2048, .f32⟩
  | .hbm, ⟨65, _⟩ => ⟨S2048x2048, .f32⟩
  | .hbm, ⟨66, _⟩ => ⟨S5632x2048, .f32⟩
  | .hbm, ⟨67, _⟩ => ⟨S8x704x2048, .f32⟩
  | .hbm, ⟨68, _⟩ => ⟨S8x704x2048, .f32⟩
  | .hbm, ⟨69, _⟩ => ⟨S8x704x2048, .f32⟩
  | .hbm, ⟨70, _⟩ => ⟨S2048x2048, .f32⟩
  | .hbm, ⟨71, _⟩ => ⟨S_, .f32⟩
  | .hbm, ⟨72, _⟩ => ⟨S2048, .f32⟩
  | .hbm, ⟨73, _⟩ => ⟨S1x2048, .f32⟩
  | .hbm, ⟨74, _⟩ => ⟨S2048x2048, .f32⟩
  | .hbm, ⟨75, _⟩ => ⟨S2048x2048, .f32⟩
  | .hbm, ⟨76, _⟩ => ⟨S2048x2048, .f32⟩
  | .hbm, ⟨77, _⟩ => ⟨S_, .f32⟩
  | .hbm, ⟨78, _⟩ => ⟨S2048, .f32⟩
  | .hbm, ⟨79, _⟩ => ⟨S2048x1, .f32⟩
  | .hbm, ⟨80, _⟩ => ⟨S2048x2048, .f32⟩
  | .hbm, ⟨81, _⟩ => ⟨S2048x2048, .f32⟩
  | .hbm, ⟨82, _⟩ => ⟨S2048x2048, .f32⟩
  | .hbm, ⟨83, _⟩ => ⟨S2048x1, .f32⟩
  | .hbm, ⟨84, _⟩ => ⟨S_, .f32⟩
  | .hbm, ⟨85, _⟩ => ⟨S2048x1, .f32⟩
  | .hbm, ⟨86, _⟩ => ⟨S2048x1, .f32⟩
  | .hbm, ⟨87, _⟩ => ⟨S_, .f32⟩
  | .hbm, ⟨88, _⟩ => ⟨S2048, .f32⟩
  | .hbm, ⟨89, _⟩ => ⟨S2048x2048, .f32⟩
  | .hbm, ⟨90, _⟩ => ⟨S2048x2048, .f32⟩
  | .hbm, ⟨91, _⟩ => ⟨S2048x2048, .f32⟩
  | .hbm, ⟨92, _⟩ => ⟨S2048x2048, .f32⟩
  | .hbm, ⟨93, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_v20_2 : Ref sig .tc := ⟨.hbm, 37, rfl⟩
abbrev main_call0_cst_1 : Ref sig .tc := ⟨.hbm, 38, rfl⟩
abbrev main_call0_v6 : Ref sig .tc := ⟨.hbm, 39, rfl⟩
abbrev main_call0_v7 : Ref sig .tc := ⟨.hbm, 40, rfl⟩
abbrev main_v20_1 : Ref sig .tc := ⟨.hbm, 41, rfl⟩
abbrev main_v20_0 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_3 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_4 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_5 : Ref sig .tc := ⟨.hbm, 84, rfl⟩
abbrev main_v57 : Ref sig .tc := ⟨.hbm, 85, rfl⟩
abbrev main_v58 : Ref sig .tc := ⟨.hbm, 86, rfl⟩
abbrev main_cst_6 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩

abbrev nD : Nat := 1
abbrev τ : Topo := Topo.v7x

variable {F : FTy → Type} [FloatOps F]
-- ==== Kernel2.lean ====
abbrev S2048x2048 : Shape := ⟨2, ![2048, 2048]⟩
abbrev S1x2048 : Shape := ⟨2, ![1, 2048]⟩
abbrev S8x360x2048 : Shape := ⟨3, ![8, 360, 2048]⟩
abbrev S2048x2880 : Shape := ⟨2, ![2048, 2880]⟩
abbrev S2048x1024 : Shape := ⟨2, ![2048, 1024]⟩
abbrev S2048x512 : Shape := ⟨2, ![2048, 512]⟩
abbrev S1x1024 : Shape := ⟨2, ![1, 1024]⟩
abbrev S1x512 : Shape := ⟨2, ![1, 512]⟩
abbrev S8x256x2048 : Shape := ⟨3, ![8, 256, 2048]⟩
abbrev S256x2048 : Shape := ⟨2, ![256, 2048]⟩
abbrev S256 : Shape := ⟨1, ![256]⟩
abbrev S256x1 : Shape := ⟨2, ![256, 1]⟩
abbrev S2880x2048 : Shape := ⟨2, ![2880, 2048]⟩
abbrev S512x2048 : Shape := ⟨2, ![512, 2048]⟩
abbrev S512x2880 : Shape := ⟨2, ![512, 2880]⟩
abbrev S256x1024 : Shape := ⟨2, ![256, 1024]⟩
abbrev S256x512 : Shape := ⟨2, ![256, 512]⟩
abbrev S1024x2048 : Shape := ⟨2, ![1024, 2048]⟩
abbrev S1024x1024 : Shape := ⟨2, ![1024, 1024]⟩
abbrev S512 : Shape := ⟨1, ![512]⟩
abbrev S1024 : Shape := ⟨1, ![1024]⟩
abbrev S1024x2880 : Shape := ⟨2, ![1024, 2880]⟩
abbrev S2880x1024 : Shape := ⟨2, ![2880, 1024]⟩
abbrev S2880x512 : Shape := ⟨2, ![2880, 512]⟩
abbrev S2048 : Shape := ⟨1, ![2048]⟩

abbrev nBuf : Space → Nat
  | .hbm => 38
  | .vmem => 82
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S8x360x2048, .f32⟩
  | .hbm, ⟨3, _⟩ => ⟨S2048x2880, .f32⟩
  | .hbm, ⟨4, _⟩ => ⟨S2048x1024, .f32⟩
  | .hbm, ⟨5, _⟩ => ⟨S2048x512, .f32⟩
  | .hbm, ⟨6, _⟩ => ⟨S2048x512, .f32⟩
  | .hbm, ⟨7, _⟩ => ⟨S1x1024, .f32⟩
  | .hbm, ⟨8, _⟩ => ⟨S1x512, .f32⟩
  | .hbm, ⟨9, _⟩ => ⟨S1x512, .f32⟩
  | .hbm, ⟨10, _⟩ => ⟨S8x256x2048, .f32⟩
  | .hbm, ⟨11, _⟩ => ⟨S2048x2048, .f32⟩
  | .hbm, ⟨12, _⟩ => ⟨S8x360x2048, .bf16⟩
  | .hbm, ⟨13, _⟩ => ⟨S8x256x2048, .bf16⟩
  | .hbm, ⟨14, _⟩ => ⟨S2048x2048, .bf16⟩
  | .hbm, ⟨15, _⟩ => ⟨S2880x2048, .bf16⟩
  | .hbm, ⟨16, _⟩ => ⟨S2048x2880, .f32⟩
  | .hbm, ⟨17, _⟩ => ⟨S2048x2048, .bf16⟩
  | .hbm, ⟨18, _⟩ => ⟨S2048x2048, .bf16⟩
  | .hbm, ⟨19, _⟩ => ⟨S2048x2048, .f32⟩
  | .hbm, ⟨20, _⟩ => ⟨S2048x2048, .bf16⟩
  | .hbm, ⟨21, _⟩ => ⟨S2048x2048, .bf16⟩
  | .hbm, ⟨22, _⟩ => ⟨S2048x2048, .f32⟩
  | .hbm, ⟨23, _⟩ => ⟨S2048x2048, .f32⟩
  | .hbm, ⟨24, _⟩ => ⟨S8x256x2048, .f32⟩
  | .hbm, ⟨25, _⟩ => ⟨S2048x1024, .f32⟩
  | .hbm, ⟨26, _⟩ => ⟨S2048x512, .f32⟩
  | .hbm, ⟨27, _⟩ => ⟨S2048x512, .f32⟩
  | .hbm, ⟨28, _⟩ => ⟨S1x1024, .f32⟩
  | .hbm, ⟨29, _⟩ => ⟨S1x512, .f32⟩
  | .hbm, ⟨30, _⟩ => ⟨S1x512, .f32⟩
  | .hbm, ⟨31, _⟩ => ⟨S2048x2880, .bf16⟩
  | .hbm, ⟨32, _⟩ => ⟨S2880x2048, .bf16⟩
  | .hbm, ⟨33, _⟩ => ⟨S2048x2048, .f32⟩
  | .hbm, ⟨34, _⟩ => ⟨S2880x2048, .f32⟩
  | .hbm, ⟨35, _⟩ => ⟨S8x360x2048, .f32⟩
  | .hbm, ⟨36, _⟩ => ⟨S2048x2048, .f32⟩
  | .hbm, ⟨37, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S512x2048, .bf16⟩
  | .local _ .vmem, ⟨6, _⟩ => ⟨S512x2048, .bf16⟩
  | .local _ .vmem, ⟨7, _⟩ => ⟨S2880x2048, .bf16⟩
  | .local _ .vmem, ⟨8, _⟩ => ⟨S512x2880, .f32⟩
  | .local _ .vmem, ⟨9, _⟩ => ⟨S512x2880, .f32⟩
  | .local _ .vmem, ⟨10, _⟩ => ⟨S256x1024, .f32⟩
  | .local _ .vmem, ⟨11, _⟩ => ⟨S256x1024, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S1x1024, .f32⟩
  | .local _ .vmem, ⟨17, _⟩ => ⟨S1x512, .f32⟩
  | .local _ .vmem, ⟨18, _⟩ => ⟨S1x512, .f32⟩
  | .local _ .vmem, ⟨19, _⟩ => ⟨S256x2048, .bf16⟩
  | .local _ .vmem, ⟨20, _⟩ => ⟨S256x2048, .bf16⟩
  | .local _ .vmem, ⟨21, _⟩ => ⟨S1024x2048, .bf16⟩
  | .local _ .vmem, ⟨22, _⟩ => ⟨S1024x2048, .bf16⟩
  | .local _ .vmem, ⟨23, _⟩ => ⟨S2048x1024, .bf16⟩
  | .local _ .vmem, ⟨24, _⟩ => ⟨S2048x1024, .bf16⟩
  | .local _ .vmem, ⟨25, _⟩ => ⟨S1024x1024, .f32⟩
  | .local _ .vmem, ⟨26, _⟩ => ⟨S1024x1024, .f32⟩
  | .local _ .vmem, ⟨27, _⟩ => ⟨S1024x1024, .f32⟩
  | .local _ .vmem, ⟨28, _⟩ => ⟨S1024x1024, .f32⟩
  | .local _ .vmem, ⟨29, _⟩ => ⟨S1024x2048, .bf16⟩
  | .local _ .vmem, ⟨30, _⟩ => ⟨S1024x2048, .bf16⟩
  | .local _ .vmem, ⟨31, _⟩ => ⟨S1024x2048, .bf16⟩
  | .local _ .vmem, ⟨32, _⟩ => ⟨S1024x2048, .bf16⟩
  | .local _ .vmem, ⟨33, _⟩ => ⟨S1024x1024, .f32⟩
  | .local _ .vmem, ⟨34, _⟩ => ⟨S1024x1024, .f32⟩
  | .local _ .vmem, ⟨35, _⟩ => ⟨S2048x1024, .bf16⟩
  | .local _ .vmem, ⟨36, _⟩ => ⟨S2048x1024, .bf16⟩
  | .local _ .vmem, ⟨37, _⟩ => ⟨S2048x1024, .bf16⟩
  | .local _ .vmem, ⟨38, _⟩ => ⟨S2048x1024, .bf16⟩
  | .local _ .vmem, ⟨39, _⟩ => ⟨S1024x1024, .f32⟩
  | .local _ .vmem, ⟨40, _⟩ => ⟨S1024x1024, .f32⟩
  | .local _ .vmem, ⟨41, _⟩ => ⟨S256x1024, .f32⟩
  | .local _ .vmem, ⟨42, _⟩ => ⟨S256x1024, .f32⟩
  | .local _ .vmem, ⟨43, _⟩ => ⟨S256x512, .f32⟩
  | .local _ .vmem, ⟨44, _⟩ => ⟨S256x512, .f32⟩
  | .local _ .vmem, ⟨45, _⟩ => ⟨S256x512, .f32⟩
  | .local _ .vmem, ⟨46, _⟩ => ⟨S256x512, .f32⟩
  | .local _ .vmem, ⟨47, _⟩ => ⟨S1x1024, .f32⟩
  | .local _ .vmem, ⟨48, _⟩ => ⟨S1x512, .f32⟩
  | .local _ .vmem, ⟨49, _⟩ => ⟨S1x512, .f32⟩
  | .local _ .vmem, ⟨50, _⟩ => ⟨S256x2048, .f32⟩
  | .local _ .vmem, ⟨51, _⟩ => ⟨S256x2048, .f32⟩
  | .local _ .vmem, ⟨52, _⟩ => ⟨S256x1024, .f32⟩
  | .local _ .vmem, ⟨53, _⟩ => ⟨S256x1024, .f32⟩
  | .local _ .vmem, ⟨54, _⟩ => ⟨S256x512, .f32⟩
  | .local _ .vmem, ⟨55, _⟩ => ⟨S256x512, .f32⟩
  | .local _ .vmem, ⟨56, _⟩ => ⟨S256x512, .f32⟩
  | .local _ .vmem, ⟨57, _⟩ => ⟨S256x512, .f32⟩
  | .local _ .vmem, ⟨58, _⟩ => ⟨S1x1024, .f32⟩
  | .local _ .vmem, ⟨59, _⟩ => ⟨S1x512, .f32⟩
  | .local _ .vmem, ⟨60, _⟩ => ⟨S1x512, .f32⟩
  | .local _ .vmem, ⟨61, _⟩ => ⟨S1024x2880, .bf16⟩
  | .local _ .vmem, ⟨62, _⟩ => ⟨S1024x2880, .bf16⟩
  | .local _ .vmem, ⟨63, _⟩ => ⟨S2880x1024, .bf16⟩
  | .local _ .vmem, ⟨64, _⟩ => ⟨S2880x1024, .bf16⟩
  | .local _ .vmem, ⟨65, _⟩ => ⟨S1024x1024, .f32⟩
  | .local _ .vmem, ⟨66, _⟩ => ⟨S1024x1024, .f32⟩
  | .local _ .vmem, ⟨67, _⟩ => ⟨S2048x2880, .bf16⟩
  | .local _ .vmem, ⟨68, _⟩ => ⟨S2048x512, .bf16⟩
  | .local _ .vmem, ⟨69, _⟩ => ⟨S2048x512, .bf16⟩
  | .local _ .vmem, ⟨70, _⟩ => ⟨S2880x512, .f32⟩
  | .local _ .vmem, ⟨71, _⟩ => ⟨S2880x512, .f32⟩
  | .local _ .vmem, ⟨72, _⟩ => ⟨S256x2048, .f32⟩
  | .local _ .vmem, ⟨73, _⟩ => ⟨S256x2048, .f32⟩
  | .local _ .vmem, ⟨74, _⟩ => ⟨S1x2048, .f32⟩
  | .local _ .vmem, ⟨75, _⟩ => ⟨S256x2048, .f32⟩
  | .local _ .vmem, ⟨76, _⟩ => ⟨S256x2048, .f32⟩
  | .local _ .vmem, ⟨77, _⟩ => ⟨S256x2048, .f32⟩
  | .local _ .vmem, ⟨78, _⟩ => ⟨S256x2048, .f32⟩
  | .local _ .vmem, ⟨79, _⟩ => ⟨S256x2048, .f32⟩
  | .local _ .vmem, ⟨80, _⟩ => ⟨S256x2048, .f32⟩
  | .local _ .vmem, ⟨81, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | _, _ => false

abbrev semScoped : Fin 0 → Bool
  | ⟨_, h⟩ => absurd h (Nat.not_lt_zero _)

abbrev dmaSemScoped : Fin 82 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | _ => false

abbrev sig : RefSig :=
  ofTc nBuf bufTy 0 82 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13_0 : Ref sig .tc := ⟨.hbm, 25, rfl⟩
abbrev main_v13_1 : Ref sig .tc := ⟨.hbm, 26, rfl⟩
abbrev main_v13_2 : Ref sig .tc := ⟨.hbm, 27, rfl⟩
abbrev main_v13_3 : Ref sig .tc := ⟨.hbm, 28, rfl⟩
abbrev main_v13_4 : Ref sig .tc := ⟨.hbm, 29, rfl⟩
abbrev main_v13_5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19_0 : Ref sig .tc := ⟨.hbm, 36, rfl⟩
abbrev main_v19_1 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg6_0 : Ref sig .tc := ⟨.vmem, 19, rfl⟩
abbrev cc2_stg6_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg3_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg2_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg2_1 : Ref sig .tc := ⟨.vmem, 40, rfl⟩
abbrev cc6_stg0_0 : Ref sig .tc := ⟨.vmem, 41, rfl⟩
abbrev cc6_stg0_1 : Ref sig .tc := ⟨.vmem, 42, rfl⟩
abbrev cc6_stg1_0 : Ref sig .tc := ⟨.vmem, 43, rfl⟩
abbrev cc6_stg1_1 : Ref sig .tc := ⟨.vmem, 44, rfl⟩
abbrev cc6_stg2_0 : Ref sig .tc := ⟨.vmem, 45, rfl⟩
abbrev cc6_stg2_1 : Ref sig .tc := ⟨.vmem, 46, rfl⟩
abbrev cc6_stg3_0 : Ref sig .tc := ⟨.vmem, 47, rfl⟩
abbrev cc6_stg4_0 : Ref sig .tc := ⟨.vmem, 48, rfl⟩
abbrev cc6_stg5_0 : Ref sig .tc := ⟨.vmem, 49, rfl⟩
abbrev cc6_stg6_0 : Ref sig .tc := ⟨.vmem, 50, rfl⟩
abbrev cc6_stg6_1 : Ref sig .tc := ⟨.vmem, 51, rfl⟩
abbrev cc6_stg7_0 : Ref sig .tc := ⟨.vmem, 52, rfl⟩
abbrev cc6_stg7_1 : Ref sig .tc := ⟨.vmem, 53, rfl⟩
abbrev cc6_stg8_0 : Ref sig .tc := ⟨.vmem, 54, rfl⟩
abbrev cc6_stg8_1 : Ref sig .tc := ⟨.vmem, 55, rfl⟩
abbrev cc6_stg9_0 : Ref sig .tc := ⟨.vmem, 56, rfl⟩
abbrev cc6_stg9_1 : Ref sig .tc := ⟨.vmem, 57, rfl⟩
abbrev cc6_stg10_0 : Ref sig .tc := ⟨.vmem, 58, rfl⟩
abbrev cc6_stg11_0 : Ref sig .tc := ⟨.vmem, 59, rfl⟩
abbrev cc6_stg12_0 : Ref sig .tc := ⟨.vmem, 60, rfl⟩
abbrev cc7_stg0_0 : Ref sig .tc := ⟨.vmem, 61, rfl⟩
abbrev cc7_stg0_1 : Ref sig .tc := ⟨.vmem, 62, rfl⟩
abbrev cc7_stg1_0 : Ref sig .tc := ⟨.vmem, 63, rfl⟩
abbrev cc7_stg1_1 : Ref sig .tc := ⟨.vmem, 64, rfl⟩
abbrev cc7_stg2_0 : Ref sig .tc := ⟨.vmem, 65, rfl⟩
abbrev cc7_stg2_1 : Ref sig .tc := ⟨.vmem, 66, rfl⟩
abbrev cc8_stg0_0 : Ref sig .tc := ⟨.vmem, 67, rfl⟩
abbrev cc8_stg1_0 : Ref sig .tc := ⟨.vmem, 68, rfl⟩
abbrev cc8_stg1_1 : Ref sig .tc := ⟨.vmem, 69, rfl⟩
abbrev cc8_stg2_0 : Ref sig .tc := ⟨.vmem, 70, rfl⟩
abbrev cc8_stg2_1 : Ref sig .tc := ⟨.vmem, 71, rfl⟩
abbrev cc9_stg0_0 : Ref sig .tc := ⟨.vmem, 72, rfl⟩
abbrev cc9_stg0_1 : Ref sig .tc := ⟨.vmem, 73, rfl⟩
abbrev cc9_stg1_0 : Ref sig .tc := ⟨.vmem, 74, rfl⟩
abbrev cc9_stg2_0 : Ref sig .tc := ⟨.vmem, 75, rfl⟩
abbrev cc9_stg2_1 : Ref sig .tc := ⟨.vmem, 76, rfl⟩
abbrev cc9_stg3_0 : Ref sig .tc := ⟨.vmem, 77, rfl⟩
abbrev cc9_stg3_1 : Ref sig .tc := ⟨.vmem, 78, rfl⟩
abbrev cc9_stg4_0 : Ref sig .tc := ⟨.vmem, 79, rfl⟩
abbrev cc9_stg4_1 : Ref sig .tc := ⟨.vmem, 80, rfl⟩
abbrev cc9_stg5_0 : Ref sig .tc := ⟨.vmem, 81, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem4_0 : DmaSem sig := 17
abbrev cc2_sem5_0 : DmaSem sig := 18
abbrev cc2_sem6_0 : DmaSem sig := 19
abbrev cc2_sem6_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc3_sem3_0 : DmaSem sig := 27
abbrev cc3_sem3_1 : DmaSem sig := 28
abbrev cc4_sem0_0 : DmaSem sig := 29
abbrev cc4_sem0_1 : DmaSem sig := 30
abbrev cc4_sem1_0 : DmaSem sig := 31
abbrev cc4_sem1_1 : DmaSem sig := 32
abbrev cc4_sem2_0 : DmaSem sig := 33
abbrev cc4_sem2_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem2_1 : DmaSem sig := 40
abbrev cc6_sem0_0 : DmaSem sig := 41
abbrev cc6_sem0_1 : DmaSem sig := 42
abbrev cc6_sem1_0 : DmaSem sig := 43
abbrev cc6_sem1_1 : DmaSem sig := 44
abbrev cc6_sem2_0 : DmaSem sig := 45
abbrev cc6_sem2_1 : DmaSem sig := 46
abbrev cc6_sem3_0 : DmaSem sig := 47
abbrev cc6_sem4_0 : DmaSem sig := 48
abbrev cc6_sem5_0 : DmaSem sig := 49
abbrev cc6_sem6_0 : DmaSem sig := 50
abbrev cc6_sem6_1 : DmaSem sig := 51
abbrev cc6_sem7_0 : DmaSem sig := 52
abbrev cc6_sem7_1 : DmaSem sig := 53
abbrev cc6_sem8_0 : DmaSem sig := 54
abbrev cc6_sem8_1 : DmaSem sig := 55
abbrev cc6_sem9_0 : DmaSem sig := 56
abbrev cc6_sem9_1 : DmaSem sig := 57
abbrev cc6_sem10_0 : DmaSem sig := 58
abbrev cc6_sem11_0 : DmaSem sig := 59
abbrev cc6_sem12_0 : DmaSem sig := 60
abbrev cc7_sem0_0 : DmaSem sig := 61
abbrev cc7_sem0_1 : DmaSem sig := 62
abbrev cc7_sem1_0 : DmaSem sig := 63
abbrev cc7_sem1_1 : DmaSem sig := 64
abbrev cc7_sem2_0 : DmaSem sig := 65
abbrev cc7_sem2_1 : DmaSem sig := 66
abbrev cc8_sem0_0 : DmaSem sig := 67
abbrev cc8_sem1_0 : DmaSem sig := 68
abbrev cc8_sem1_1 : DmaSem sig := 69
abbrev cc8_sem2_0 : DmaSem sig := 70
abbrev cc8_sem2_1 : DmaSem sig := 71
abbrev cc9_sem0_0 : DmaSem sig := 72
abbrev cc9_sem0_1 : DmaSem sig := 73
abbrev cc9_sem1_0 : DmaSem sig := 74
abbrev cc9_sem2_0 : DmaSem sig := 75
abbrev cc9_sem2_1 : DmaSem sig := 76
abbrev cc9_sem3_0 : DmaSem sig := 77
abbrev cc9_sem3_1 : DmaSem sig := 78
abbrev cc9_sem4_0 : DmaSem sig := 79
abbrev cc9_sem4_1 : DmaSem sig := 80
abbrev cc9_sem5_0 : DmaSem sig := 81

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![4, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S2880x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S512x2880 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S256x2048 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨3, ![2, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S2048x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S1024x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev grid4 : Pipeline.Grid := ⟨3, ![2, 2, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S1024x2048 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![2, 2, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S2048x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S2048x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1024x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_8 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_9 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_10 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_11 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_12 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S256x1024 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S256x512 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S256x512 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S1x1024 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x512 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x512 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S256x2048 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 2 → Memref sig .tc .vmem S256x1024 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev stage6_8 : Fin 2 → Memref sig .tc .vmem S256x512 .f32 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true]

abbrev stage6_9 : Fin 2 → Memref sig .tc .vmem S256x512 .f32 := fun | 0 => Memref.whole cc6_stg9_0 | 1 => Memref.whole cc6_stg9_1 | ⟨_ + 2, h⟩ => absurd h (Nat.not_lt.2 (Nat.le_add_left _ _))
abbrev sem6_9 : Fin 2 → DmaSem sig := fun | 0 => cc6_sem9_0 | 1 => cc6_sem9_1 | ⟨_ + 2, h⟩ => absurd h (Nat.not_lt.2 (Nat.le_add_left _ _))
abbrev reads6_9 : Fin grid6.rank → Bool := ![true]

abbrev stage6_10 : Fin 1 → Memref sig .tc .vmem S1x1024 .f32 := fun | 0 => Memref.whole cc6_stg10_0 | ⟨_ + 1, h⟩ => absurd h (Nat.not_lt.2 (Nat.le_add_left _ _))
abbrev sem6_10 : Fin 1 → DmaSem sig := fun | 0 => cc6_sem10_0 | ⟨_ + 1, h⟩ => absurd h (Nat.not_lt.2 (Nat.le_add_left _ _))
abbrev reads6_10 : Fin grid6.rank → Bool := ![false]

abbrev stage6_11 : Fin 1 → Memref sig .tc .vmem S1x512 .f32 := fun | 0 => Memref.whole cc6_stg11_0 | ⟨_ + 1, h⟩ => absurd h (Nat.not_lt.2 (Nat.le_add_left _ _))
abbrev sem6_11 : Fin 1 → DmaSem sig := fun | 0 => cc6_sem11_0 | ⟨_ + 1, h⟩ => absurd h (Nat.not_lt.2 (Nat.le_add_left _ _))
abbrev reads6_11 : Fin grid6.rank → Bool := ![false]

abbrev stage6_12 : Fin 1 → Memref sig .tc .vmem S1x512 .f32 := fun | 0 => Memref.whole cc6_stg12_0 | ⟨_ + 1, h⟩ => absurd h (Nat.not_lt.2 (Nat.le_add_left _ _))
abbrev sem6_12 : Fin 1 → DmaSem sig := fun | 0 => cc6_sem12_0 | ⟨_ + 1, h⟩ => absurd h (Nat.not_lt.2 (Nat.le_add_left _ _))
abbrev reads6_12 : Fin grid6.rank → Bool := ![false]

abbrev grid7 : Pipeline.Grid := ⟨3, ![2, 2, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S1024x2880 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 2 → Memref sig .tc .vmem S2880x1024 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 2 → Memref sig .tc .vmem S1024x1024 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev grid8 : Pipeline.Grid := ⟨3, ![1, 4, 1], ![false, false, false]⟩

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage8_0 : Fin 1 → Memref sig .tc .vmem S2048x2880 .bf16 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![true, false, true]

abbrev stage8_1 : Fin 2 → Memref sig .tc .vmem S2048x512 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true, true]

abbrev stage8_2 : Fin 2 → Memref sig .tc .vmem S2880x512 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, false]

abbrev grid9 : Pipeline.Grid := ⟨1, ![8], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 2 → Memref sig .tc .vmem S256x2048 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x2048 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S256x2048 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 2 → Memref sig .tc .vmem S256x2048 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev stage9_4 : Fin 2 → Memref sig .tc .vmem S256x2048 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev stage9_5 : Fin 1 → Memref sig .tc .vmem S1x2048 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]
-- ==== Reference2Ideal.lean ====
abbrev S2048x2048 : Shape := ⟨2, ![2048, 2048]⟩
abbrev S1x2048 : Shape := ⟨2, ![1, 2048]⟩
abbrev S8x360x2048 : Shape := ⟨3, ![8, 360, 2048]⟩
abbrev S2048x2880 : Shape := ⟨2, ![2048, 2880]⟩
abbrev S2048x1024 : Shape := ⟨2, ![2048, 1024]⟩
abbrev S2048x512 : Shape := ⟨2, ![2048, 512]⟩
abbrev S1x1024 : Shape := ⟨2, ![1, 1024]⟩
abbrev S1x512 : Shape := ⟨2, ![1, 512]⟩
abbrev S8x256x2048 : Shape := ⟨3, ![8, 256, 2048]⟩
abbrev S_ : Shape := ⟨0, ![]⟩
abbrev S2048 : Shape := ⟨1, ![2048]⟩
abbrev S2048x1 : Shape := ⟨2, ![2048, 1]⟩
abbrev S2880x2048 : Shape := ⟨2, ![2880, 2048]⟩
abbrev S512 : Shape := ⟨1, ![512]⟩
abbrev S1024 : Shape := ⟨1, ![1024]⟩

abbrev nBuf : Space → Nat
  | .hbm => 201
  | .vmem => 0
  | .smem => 0
  | _ => 0

abbrev hbmTy0_0 (i : Nat) : BufTy := match i % 128 with
  | 0 => ⟨S2048x2048, .f32⟩
  | 1 => ⟨S1x2048, .f32⟩
  | 2 => ⟨S8x360x2048, .f32⟩
  | 3 => ⟨S2048x2880, .f32⟩
  | 4 => ⟨S2048x1024, .f32⟩
  | 5 => ⟨S2048x512, .f32⟩
  | 6 => ⟨S2048x512, .f32⟩
  | 7 => ⟨S1x1024, .f32⟩
  | 8 => ⟨S1x512, .f32⟩
  | 9 => ⟨S1x512, .f32⟩
  | 10 => ⟨S8x256x2048, .f32⟩
  | 11 => ⟨S2048x2048, .f32⟩
  | 12 => ⟨S2048x2048, .f32⟩
  | 13 => ⟨S_, .f32⟩
  | 14 => ⟨S2048, .f32⟩
  | 15 => ⟨S2048x1, .f32⟩
  | 16 => ⟨S_, .f32⟩
  | 17 => ⟨S2048x1, .f32⟩
  | 18 => ⟨S2048x1, .f32⟩
  | 19 => ⟨S_, .f32⟩
  | 20 => ⟨S2048x1, .f32⟩
  | 21 => ⟨S2048x1, .f32⟩
  | 22 => ⟨S2048x1, .f32⟩
  | 23 => ⟨S2048x1, .f32⟩
  | 24 => ⟨S_, .f32⟩
  | 25 => ⟨S2048x1, .f32⟩
  | 26 => ⟨S2048x1, .f32⟩
  | 27 => ⟨S2048x2048, .f32⟩
  | 28 => ⟨S2048x2048, .f32⟩
  | 29 => ⟨S2048x2048, .f32⟩
  | 30 => ⟨S2048x2048, .f32⟩
  | 31 => ⟨S2880x2048, .f32⟩
  | 32 => ⟨S2048x2880, .f32⟩
  | 33 => ⟨S2048x2880, .f32⟩
  | 34 => ⟨S2048x1024, .f32⟩
  | 35 => ⟨S_, .f32⟩
  | 36 => ⟨S2048, .f32⟩
  | 37 => ⟨S2048x1, .f32⟩
  | 38 => ⟨S_, .f32⟩
  | 39 => ⟨S2048x1, .f32⟩
  | 40 => ⟨S2048x1, .f32⟩
  | 41 => ⟨S_, .f32⟩
  | 42 => ⟨S2048x1, .f32⟩
  | 43 => ⟨S2048x1, .f32⟩
  | 44 => ⟨S2048x1, .f32⟩
  | 45 => ⟨S2048x1, .f32⟩
  | 46 => ⟨S_, .f32⟩
  | 47 => ⟨S2048x1, .f32⟩
  | 48 => ⟨S2048x1, .f32⟩
  | 49 => ⟨S2048x1024, .f32⟩
  | 50 => ⟨S2048x1024, .f32⟩
  | 51 => ⟨S2048x1024, .f32⟩
  | 52 => ⟨S2048x1024, .f32⟩
  | 53 => ⟨S2048x512, .f32⟩
  | 54 => ⟨S_, .f32⟩
  | 55 => ⟨S2048, .f32⟩
  | 56 => ⟨S2048x1, .f32⟩
  | 57 => ⟨S_, .f32⟩
  | 58 => ⟨S2048x1, .f32⟩
  | 59 => ⟨S2048x1, .f32⟩
  | 60 => ⟨S_, .f32⟩
  | 61 => ⟨S2048x1, .f32⟩
  | 62 => ⟨S2048x1, .f32⟩
  | 63 => ⟨S2048x1, .f32⟩
  | 64 => ⟨S2048x1, .f32⟩
  | 65 => ⟨S_, .f32⟩
  | 66 => ⟨S2048x1, .f32⟩
  | 67 => ⟨S2048x1, .f32⟩
  | 68 => ⟨S2048x512, .f32⟩
  | 69 => ⟨S2048x512, .f32⟩
  | 70 => ⟨S2048x512, .f32⟩
  | 71 => ⟨S2048x512, .f32⟩
  | 72 => ⟨S2048x512, .f32⟩
  | 73 => ⟨S_, .f32⟩
  | 74 => ⟨S2048, .f32⟩
  | 75 => ⟨S2048x1, .f32⟩
  | 76 => ⟨S_, .f32⟩
  | 77 => ⟨S2048x1, .f32⟩
  | 78 => ⟨S2048x1, .f32⟩
  | 79 => ⟨S_, .f32⟩
  | 80 => ⟨S2048x1, .f32⟩
  | 81 => ⟨S2048x1, .f32⟩
  | 82 => ⟨S2048x1, .f32⟩
  | 83 => ⟨S2048x1, .f32⟩
  | 84 => ⟨S_, .f32⟩
  | 85 => ⟨S2048x1, .f32⟩
  | 86 => ⟨S2048x1, .f32⟩
  | 87 => ⟨S2048x512, .f32⟩
  | 88 => ⟨S2048x512, .f32⟩
  | 89 => ⟨S2048x512, .f32⟩
  | 90 => ⟨S2048x512, .f32⟩
  | 91 => ⟨S2048x2048, .f32⟩
  | 92 => ⟨S2048x2048, .f32⟩
  | 93 => ⟨S2048x2048, .f32⟩
  | 94 => ⟨S2048x2048, .f32⟩
  | 95 => ⟨S2048x2048, .f32⟩
  | 96 => ⟨S2048x2048, .f32⟩
  | 97 => ⟨S2048x2048, .f32⟩
  | 98 => ⟨S2048x2048, .f32⟩
  | 99 => ⟨S8x256x2048, .f32⟩
  | 100 => ⟨S2048x1024, .f32⟩
  | 101 => ⟨S2048x512, .f32⟩
  | 102 => ⟨S2048x512, .f32⟩
  | 103 => ⟨S2048x512, .f32⟩
  | 104 => ⟨S_, .f32⟩
  | 105 => ⟨S512, .f32⟩
  | 106 => ⟨S1x512, .f32⟩
  | 107 => ⟨S2048x512, .f32⟩
  | 108 => ⟨S2048x512, .f32⟩
  | 109 => ⟨S2048x512, .f32⟩
  | 110 => ⟨S_, .f32⟩
  | 111 => ⟨S2048, .f32⟩
  | 112 => ⟨S2048x1, .f32⟩
  | 113 => ⟨S2048x512, .f32⟩
  | 114 => ⟨S2048x512, .f32⟩
  | 115 => ⟨S2048x1, .f32⟩
  | 116 => ⟨S_, .f32⟩
  | 117 => ⟨S2048x1, .f32⟩
  | 118 => ⟨S2048x1, .f32⟩
  | 119 => ⟨S_, .f32⟩
  | 120 => ⟨S2048, .f32⟩
  | 121 => ⟨S2048x512, .f32⟩
  | 122 => ⟨S2048x512, .f32⟩
  | 123 => ⟨S2048x512, .f32⟩
  | 124 => ⟨S2048x512, .f32⟩
  | 125 => ⟨S2048x512, .f32⟩
  | 126 => ⟨S2048x512, .f32⟩
  | 127 => ⟨S_, .f32⟩
  | _ => ⟨S2048x2048, .f32⟩

abbrev hbmTy0_1 (i : Nat) : BufTy := match i % 128 with
  | 0 => ⟨S512, .f32⟩
  | 1 => ⟨S1x512, .f32⟩
  | 2 => ⟨S2048x512, .f32⟩
  | 3 => ⟨S2048x512, .f32⟩
  | 4 => ⟨S2048x512, .f32⟩
  | 5 => ⟨S_, .f32⟩
  | 6 => ⟨S2048, .f32⟩
  | 7 => ⟨S2048x1, .f32⟩
  | 8 => ⟨S2048x512, .f32⟩
  | 9 => ⟨S2048x512, .f32⟩
  | 10 => ⟨S2048x1, .f32⟩
  | 11 => ⟨S_, .f32⟩
  | 12 => ⟨S2048x1, .f32⟩
  | 13 => ⟨S2048x1, .f32⟩
  | 14 => ⟨S_, .f32⟩
  | 15 => ⟨S2048, .f32⟩
  | 16 => ⟨S2048x512, .f32⟩
  | 17 => ⟨S2048x512, .f32⟩
  | 18 => ⟨S2048x512, .f32⟩
  | 19 => ⟨S2048x512, .f32⟩
  | 20 => ⟨S2048x512, .f32⟩
  | 21 => ⟨S2048x1024, .f32⟩
  | 22 => ⟨S_, .f32⟩
  | 23 => ⟨S1024, .f32⟩
  | 24 => ⟨S1x1024, .f32⟩
  | 25 => ⟨S2048x1024, .f32⟩
  | 26 => ⟨S2048x1024, .f32⟩
  | 27 => ⟨S2048x1024, .f32⟩
  | 28 => ⟨S_, .f32⟩
  | 29 => ⟨S2048, .f32⟩
  | 30 => ⟨S2048x1, .f32⟩
  | 31 => ⟨S2048x1024, .f32⟩
  | 32 => ⟨S2048x1024, .f32⟩
  | 33 => ⟨S2048x1, .f32⟩
  | 34 => ⟨S_, .f32⟩
  | 35 => ⟨S2048x1, .f32⟩
  | 36 => ⟨S2048x1, .f32⟩
  | 37 => ⟨S_, .f32⟩
  | 38 => ⟨S2048, .f32⟩
  | 39 => ⟨S2048x1024, .f32⟩
  | 40 => ⟨S2048x1024, .f32⟩
  | 41 => ⟨S2048x1024, .f32⟩
  | 42 => ⟨S2048x1024, .f32⟩
  | 43 => ⟨S2048x1024, .f32⟩
  | 44 => ⟨S2880x2048, .f32⟩
  | 45 => ⟨S2048x2880, .f32⟩
  | 46 => ⟨S2048x2048, .f32⟩
  | 47 => ⟨S2880x2048, .f32⟩
  | 48 => ⟨S8x360x2048, .f32⟩
  | 49 => ⟨S2048x2048, .f32⟩
  | 50 => ⟨S_, .f32⟩
  | 51 => ⟨S2048, .f32⟩
  | 52 => ⟨S1x2048, .f32⟩
  | 53 => ⟨S2048x2048, .f32⟩
  | 54 => ⟨S2048x2048, .f32⟩
  | 55 => ⟨S2048x2048, .f32⟩
  | 56 => ⟨S_, .f32⟩
  | 57 => ⟨S2048, .f32⟩
  | 58 => ⟨S2048x1, .f32⟩
  | 59 => ⟨S2048x2048, .f32⟩
  | 60 => ⟨S2048x2048, .f32⟩
  | 61 => ⟨S2048x2048, .f32⟩
  | 62 => ⟨S2048x1, .f32⟩
  | 63 => ⟨S_, .f32⟩
  | 64 => ⟨S2048x1, .f32⟩
  | 65 => ⟨S2048x1, .f32⟩
  | 66 => ⟨S_, .f32⟩
  | 67 => ⟨S2048, .f32⟩
  | 68 => ⟨S2048x2048, .f32⟩
  | 69 => ⟨S2048x2048, .f32⟩
  | 70 => ⟨S2048x2048, .f32⟩
  | 71 => ⟨S2048x2048, .f32⟩
  | 72 => ⟨S2048x2048, .f32⟩
  | _ => ⟨S2048x2048, .f32⟩

abbrev hbmTy (i : Nat) : BufTy := match i / 128 with
  | 0 => hbmTy0_0 i
  | 1 => hbmTy0_1 i
  | _ => ⟨S2048x2048, .f32⟩

abbrev bufTy : (tb : Table) → Fin (tcTables nBuf tb) → BufTy
  | .hbm, ⟨i, _⟩ => hbmTy i
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_v20 : Ref sig .tc := ⟨.hbm, 37, rfl⟩
abbrev main_cst_4 : Ref sig .tc := ⟨.hbm, 38, rfl⟩
abbrev main_v21 : Ref sig .tc := ⟨.hbm, 39, rfl⟩
abbrev main_v22 : Ref sig .tc := ⟨.hbm, 40, rfl⟩
abbrev main_cst_5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_cst_8 : Ref sig .tc := ⟨.hbm, 57, rfl⟩
abbrev main_v36 : Ref sig .tc := ⟨.hbm, 58, rfl⟩
abbrev main_v37 : Ref sig .tc := ⟨.hbm, 59, rfl⟩
abbrev main_cst_9 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_10 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_11 : Ref sig .tc := ⟨.hbm, 73, rfl⟩
abbrev main_v49 : Ref sig .tc := ⟨.hbm, 74, rfl⟩
abbrev main_v50 : Ref sig .tc := ⟨.hbm, 75, rfl⟩
abbrev main_cst_12 : Ref sig .tc := ⟨.hbm, 76, rfl⟩
abbrev main_v51 : Ref sig .tc := ⟨.hbm, 77, rfl⟩
abbrev main_v52 : Ref sig .tc := ⟨.hbm, 78, rfl⟩
abbrev main_cst_13 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_14 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_15 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_16 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_17 : Ref sig .tc := ⟨.hbm, 116, rfl⟩
abbrev main_v86 : Ref sig .tc := ⟨.hbm, 117, rfl⟩
abbrev main_v87 : Ref sig .tc := ⟨.hbm, 118, rfl⟩
abbrev main_cst_18 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_cst_19 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_cst_20 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_cst_21 : Ref sig .tc := ⟨.hbm, 139, rfl⟩
abbrev main_v105 : Ref sig .tc := ⟨.hbm, 140, rfl⟩
abbrev main_v106 : Ref sig .tc := ⟨.hbm, 141, rfl⟩
abbrev main_cst_22 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_cst_23 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_cst_24 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_cst_25 : Ref sig .tc := ⟨.hbm, 162, rfl⟩
abbrev main_v124 : Ref sig .tc := ⟨.hbm, 163, rfl⟩
abbrev main_v125 : Ref sig .tc := ⟨.hbm, 164, rfl⟩
abbrev main_cst_26 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_cst_27 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_cst_28 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_cst_29 : Ref sig .tc := ⟨.hbm, 191, rfl⟩
abbrev main_v149 : Ref sig .tc := ⟨.hbm, 192, rfl⟩
abbrev main_v150 : Ref sig .tc := ⟨.hbm, 193, rfl⟩
abbrev main_cst_30 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩

abbrev nD : Nat := 1
abbrev τ : Topo := Topo.v7x

variable {F : FTy → Type} [FloatOps F]
-- ==== Kernel3.lean ====
abbrev S4x32x64 : Shape := ⟨3, ![4, 32, 64]⟩
abbrev S4x32x64x16 : Shape := ⟨4, ![4, 32, 64, 16]⟩
abbrev S4x32x16x64 : Shape := ⟨4, ![4, 32, 16, 64]⟩
abbrev S4x32x16 : Shape := ⟨3, ![4, 32, 16]⟩
abbrev S4x32 : Shape := ⟨2, ![4, 32]⟩
abbrev S4x1024 : Shape := ⟨2, ![4, 1024]⟩
abbrev S128x64 : Shape := ⟨2, ![128, 64]⟩
abbrev S8192x16 : Shape := ⟨2, ![8192, 16]⟩
abbrev S256x16 : Shape := ⟨2, ![256, 16]⟩
abbrev S2048x64 : Shape := ⟨2, ![2048, 64]⟩
abbrev S256x64 : Shape := ⟨2, ![256, 64]⟩
abbrev S128x16 : Shape := ⟨2, ![128, 16]⟩

abbrev nBuf : Space → Nat
  | .hbm => 112
  | .vmem => 91
  | .smem => 0
  | _ => 0

abbrev bufTy : (tb : Table) → Fin (tcTables nBuf tb) → BufTy
  | .hbm, ⟨0, _⟩ => ⟨S4x32x64, .f32⟩
  | .hbm, ⟨1, _⟩ => ⟨S4x32x64, .f32⟩
  | .hbm, ⟨2, _⟩ => ⟨S4x32x64x16, .f32⟩
  | .hbm, ⟨3, _⟩ => ⟨S4x32x64x16, .f32⟩
  | .hbm, ⟨4, _⟩ => ⟨S4x32x16x64, .f32⟩
  | .hbm, ⟨5, _⟩ => ⟨S4x32x16x64, .f32⟩
  | .hbm, ⟨6, _⟩ => ⟨S4x32x16, .f32⟩
  | .hbm, ⟨7, _⟩ => ⟨S4x32, .f32⟩
  | .hbm, ⟨8, _⟩ => ⟨S4x1024, .f32⟩
  | .hbm, ⟨9, _⟩ => ⟨S4x32x64, .f32⟩
  | .hbm, ⟨10, _⟩ => ⟨S4x32x64, .f32⟩
  | .hbm, ⟨11, _⟩ => ⟨S4x32x64x16, .f32⟩
  | .hbm, ⟨12, _⟩ => ⟨S4x32x64x16, .f32⟩
  | .hbm, ⟨13, _⟩ => ⟨S4x32x16x64, .f32⟩
  | .hbm, ⟨14, _⟩ => ⟨S4x32x16x64, .f32⟩
  | .hbm, ⟨15, _⟩ => ⟨S4x32x16, .f32⟩
  | .hbm, ⟨16, _⟩ => ⟨S4x32, .f32⟩
  | .hbm, ⟨17, _⟩ => ⟨S4x1024, .f32⟩
  | .hbm, ⟨18, _⟩ => ⟨S4x32x64, .f32⟩
  | .hbm, ⟨19, _⟩ => ⟨S4x32x64, .f32⟩
  | .hbm, ⟨20, _⟩ => ⟨S4x32x64x16, .f32⟩
  | .hbm, ⟨21, _⟩ => ⟨S4x32x64x16, .f32⟩
  | .hbm, ⟨22, _⟩ => ⟨S4x32x16x64, .f32⟩
  | .hbm, ⟨23, _⟩ => ⟨S4x32x16x64, .f32⟩
  | .hbm, ⟨24, _⟩ => ⟨S4x32x16, .f32⟩
  | .hbm, ⟨25, _⟩ => ⟨S4x32, .f32⟩
  | .hbm, ⟨26, _⟩ => ⟨S4x1024, .f32⟩
  | .hbm, ⟨27, _⟩ => ⟨S4x32x64, .f32⟩
  | .hbm, ⟨28, _⟩ => ⟨S4x32x64, .f32⟩
  | .hbm, ⟨29, _⟩ => ⟨S4x32x64x16, .f32⟩
  | .hbm, ⟨30, _⟩ => ⟨S4x32x64x16, .f32⟩
  | .hbm, ⟨31, _⟩ => ⟨S4x32x16x64, .f32⟩
  | .hbm, ⟨32, _⟩ => ⟨S4x32x16x64, .f32⟩
  | .hbm, ⟨33, _⟩ => ⟨S4x32x16, .f32⟩
  | .hbm, ⟨34, _⟩ => ⟨S4x32, .f32⟩
  | .hbm, ⟨35, _⟩ => ⟨S4x1024, .f32⟩
  | .hbm, ⟨36, _⟩ => ⟨S128x64, .f32⟩
  | .hbm, ⟨37, _⟩ => ⟨S128x64, .f32⟩
  | .hbm, ⟨38, _⟩ => ⟨S128x64, .f32⟩
  | .hbm, ⟨39, _⟩ => ⟨S128x64, .f32⟩
  | .hbm, ⟨40, _⟩ => ⟨S128x64, .f32⟩
  | .hbm, ⟨41, _⟩ => ⟨S128x64, .f32⟩
  | .hbm, ⟨42, _⟩ => ⟨S128x64, .f32⟩
  | .hbm, ⟨43, _⟩ => ⟨S4x32x64, .f32⟩
  | .hbm, ⟨44, _⟩ => ⟨S4x32x64, .f32⟩
  | .hbm, ⟨45, _⟩ => ⟨S4x32x64, .f32⟩
  | .hbm, ⟨46, _⟩ => ⟨S128x64, .f32⟩
  | .hbm, ⟨47, _⟩ => ⟨S128x64, .f32⟩
  | .hbm, ⟨48, _⟩ => ⟨S128x64, .f32⟩
  | .hbm, ⟨49, _⟩ => ⟨S128x64, .f32⟩
  | .hbm, ⟨50, _⟩ => ⟨S128x64, .f32⟩
  | .hbm, ⟨51, _⟩ => ⟨S128x64, .f32⟩
  | .hbm, ⟨52, _⟩ => ⟨S128x64, .f32⟩
  | .hbm, ⟨53, _⟩ => ⟨S4x32x64, .f32⟩
  | .hbm, ⟨54, _⟩ => ⟨S4x32x64, .f32⟩
  | .hbm, ⟨55, _⟩ => ⟨S4x32x64, .f32⟩
  | .hbm, ⟨56, _⟩ => ⟨S8192x16, .f32⟩
  | .hbm, ⟨57, _⟩ => ⟨S8192x16, .f32⟩
  | .hbm, ⟨58, _⟩ => ⟨S8192x16, .f32⟩
  | .hbm, ⟨59, _⟩ => ⟨S8192x16, .f32⟩
  | .hbm, ⟨60, _⟩ => ⟨S8192x16, .f32⟩
  | .hbm, ⟨61, _⟩ => ⟨S8192x16, .f32⟩
  | .hbm, ⟨62, _⟩ => ⟨S8192x16, .f32⟩
  | .hbm, ⟨63, _⟩ => ⟨S4x32x64x16, .f32⟩
  | .hbm, ⟨64, _⟩ => ⟨S4x32x64x16, .f32⟩
  | .hbm, ⟨65, _⟩ => ⟨S4x32x64x16, .f32⟩
  | .hbm, ⟨66, _⟩ => ⟨S8192x16, .f32⟩
  | .hbm, ⟨67, _⟩ => ⟨S8192x16, .f32⟩
  | .hbm, ⟨68, _⟩ => ⟨S8192x16, .f32⟩
  | .hbm, ⟨69, _⟩ => ⟨S8192x16, .f32⟩
  | .hbm, ⟨70, _⟩ => ⟨S8192x16, .f32⟩
  | .hbm, ⟨71, _⟩ => ⟨S8192x16, .f32⟩
  | .hbm, ⟨72, _⟩ => ⟨S8192x16, .f32⟩
  | .hbm, ⟨73, _⟩ => ⟨S4x32x64x16, .f32⟩
  | .hbm, ⟨74, _⟩ => ⟨S4x32x64x16, .f32⟩
  | .hbm, ⟨75, _⟩ => ⟨S4x32x64x16, .f32⟩
  | .hbm, ⟨76, _⟩ => ⟨S2048x64, .f32⟩
  | .hbm, ⟨77, _⟩ => ⟨S2048x64, .f32⟩
  | .hbm, ⟨78, _⟩ => ⟨S2048x64, .f32⟩
  | .hbm, ⟨79, _⟩ => ⟨S2048x64, .f32⟩
  | .hbm, ⟨80, _⟩ => ⟨S2048x64, .f32⟩
  | .hbm, ⟨81, _⟩ => ⟨S2048x64, .f32⟩
  | .hbm, ⟨82, _⟩ => ⟨S2048x64, .f32⟩
  | .hbm, ⟨83, _⟩ => ⟨S4x32x16x64, .f32⟩
  | .hbm, ⟨84, _⟩ => ⟨S4x32x16x64, .f32⟩
  | .hbm, ⟨85, _⟩ => ⟨S4x32x16x64, .f32⟩
  | .hbm, ⟨86, _⟩ => ⟨S2048x64, .f32⟩
  | .hbm, ⟨87, _⟩ => ⟨S2048x64, .f32⟩
  | .hbm, ⟨88, _⟩ => ⟨S2048x64, .f32⟩
  | .hbm, ⟨89, _⟩ => ⟨S2048x64, .f32⟩
  | .hbm, ⟨90, _⟩ => ⟨S2048x64, .f32⟩
  | .hbm, ⟨91, _⟩ => ⟨S2048x64, .f32⟩
  | .hbm, ⟨92, _⟩ => ⟨S2048x64, .f32⟩
  | .hbm, ⟨93, _⟩ => ⟨S4x32x16x64, .f32⟩
  | .hbm, ⟨94, _⟩ => ⟨S4x32x16x64, .f32⟩
  | .hbm, ⟨95, _⟩ => ⟨S4x32x16x64, .f32⟩
  | .hbm, ⟨96, _⟩ => ⟨S128x16, .f32⟩
  | .hbm, ⟨97, _⟩ => ⟨S128x16, .f32⟩
  | .hbm, ⟨98, _⟩ => ⟨S128x16, .f32⟩
  | .hbm, ⟨99, _⟩ => ⟨S128x16, .f32⟩
  | .hbm, ⟨100, _⟩ => ⟨S128x16, .f32⟩
  | .hbm, ⟨101, _⟩ => ⟨S128x16, .f32⟩
  | .hbm, ⟨102, _⟩ => ⟨S128x16, .f32⟩
  | .hbm, ⟨103, _⟩ => ⟨S4x32x16, .f32⟩
  | .hbm, ⟨104, _⟩ => ⟨S4x32x16, .f32⟩
  | .hbm, ⟨105, _⟩ => ⟨S4x32x16, .f32⟩
  | .hbm, ⟨106, _⟩ => ⟨S4x32, .f32⟩
  | .hbm, ⟨107, _⟩ => ⟨S4x32, .f32⟩
  | .hbm, ⟨108, _⟩ => ⟨S4x32, .f32⟩
  | .hbm, ⟨109, _⟩ => ⟨S4x1024, .f32⟩
  | .hbm, ⟨110, _⟩ => ⟨S4x1024, .f32⟩
  | .hbm, ⟨111, _⟩ => ⟨S4x1024, .f32⟩
  | .local _ .vmem, ⟨0, _⟩ => ⟨S128x64, .f32⟩
  | .local _ .vmem, ⟨1, _⟩ => ⟨S128x64, .f32⟩
  | .local _ .vmem, ⟨2, _⟩ => ⟨S128x64, .f32⟩
  | .local _ .vmem, ⟨3, _⟩ => ⟨S128x64, .f32⟩
  | .local _ .vmem, ⟨4, _⟩ => ⟨S128x64, .f32⟩
  | .local _ .vmem, ⟨5, _⟩ => ⟨S128x64, .f32⟩
  | .local _ .vmem, ⟨6, _⟩ => ⟨S128x64, .f32⟩
  | .local _ .vmem, ⟨7, _⟩ => ⟨S128x64, .f32⟩
  | .local _ .vmem, ⟨8, _⟩ => ⟨S128x64, .f32⟩
  | .local _ .vmem, ⟨9, _⟩ => ⟨S128x64, .f32⟩
  | .local _ .vmem, ⟨10, _⟩ => ⟨S128x64, .f32⟩
  | .local _ .vmem, ⟨11, _⟩ => ⟨S128x64, .f32⟩
  | .local _ .vmem, ⟨12, _⟩ => ⟨S128x64, .f32⟩
  | .local _ .vmem, ⟨13, _⟩ => ⟨S128x64, .f32⟩
  | .local _ .vmem, ⟨14, _⟩ => ⟨S256x16, .f32⟩
  | .local _ .vmem, ⟨15, _⟩ => ⟨S256x16, .f32⟩
  | .local _ .vmem, ⟨16, _⟩ => ⟨S256x16, .f32⟩
  | .local _ .vmem, ⟨17, _⟩ => ⟨S256x16, .f32⟩
  | .local _ .vmem, ⟨18, _⟩ => ⟨S256x16, .f32⟩
  | .local _ .vmem, ⟨19, _⟩ => ⟨S256x16, .f32⟩
  | .local _ .vmem, ⟨20, _⟩ => ⟨S256x16, .f32⟩
  | .local _ .vmem, ⟨21, _⟩ => ⟨S256x16, .f32⟩
  | .local _ .vmem, ⟨22, _⟩ => ⟨S256x16, .f32⟩
  | .local _ .vmem, ⟨23, _⟩ => ⟨S256x16, .f32⟩
  | .local _ .vmem, ⟨24, _⟩ => ⟨S256x16, .f32⟩
  | .local _ .vmem, ⟨25, _⟩ => ⟨S256x16, .f32⟩
  | .local _ .vmem, ⟨26, _⟩ => ⟨S256x16, .f32⟩
  | .local _ .vmem, ⟨27, _⟩ => ⟨S256x16, .f32⟩
  | .local _ .vmem, ⟨28, _⟩ => ⟨S256x16, .f32⟩
  | .local _ .vmem, ⟨29, _⟩ => ⟨S256x16, .f32⟩
  | .local _ .vmem, ⟨30, _⟩ => ⟨S256x16, .f32⟩
  | .local _ .vmem, ⟨31, _⟩ => ⟨S256x16, .f32⟩
  | .local _ .vmem, ⟨32, _⟩ => ⟨S256x16, .f32⟩
  | .local _ .vmem, ⟨33, _⟩ => ⟨S256x16, .f32⟩
  | .local _ .vmem, ⟨34, _⟩ => ⟨S256x16, .f32⟩
  | .local _ .vmem, ⟨35, _⟩ => ⟨S256x16, .f32⟩
  | .local _ .vmem, ⟨36, _⟩ => ⟨S256x16, .f32⟩
  | .local _ .vmem, ⟨37, _⟩ => ⟨S256x16, .f32⟩
  | .local _ .vmem, ⟨38, _⟩ => ⟨S256x16, .f32⟩
  | .local _ .vmem, ⟨39, _⟩ => ⟨S256x16, .f32⟩
  | .local _ .vmem, ⟨40, _⟩ => ⟨S256x16, .f32⟩
  | .local _ .vmem, ⟨41, _⟩ => ⟨S256x16, .f32⟩
  | .local _ .vmem, ⟨42, _⟩ => ⟨S256x64, .f32⟩
  | .local _ .vmem, ⟨43, _⟩ => ⟨S256x64, .f32⟩
  | .local _ .vmem, ⟨44, _⟩ => ⟨S256x64, .f32⟩
  | .local _ .vmem, ⟨45, _⟩ => ⟨S256x64, .f32⟩
  | .local _ .vmem, ⟨46, _⟩ => ⟨S256x64, .f32⟩
  | .local _ .vmem, ⟨47, _⟩ => ⟨S256x64, .f32⟩
  | .local _ .vmem, ⟨48, _⟩ => ⟨S256x64, .f32⟩
  | .local _ .vmem, ⟨49, _⟩ => ⟨S256x64, .f32⟩
  | .local _ .vmem, ⟨50, _⟩ => ⟨S256x64, .f32⟩
  | .local _ .vmem, ⟨51, _⟩ => ⟨S256x64, .f32⟩
  | .local _ .vmem, ⟨52, _⟩ => ⟨S256x64, .f32⟩
  | .local _ .vmem, ⟨53, _⟩ => ⟨S256x64, .f32⟩
  | .local _ .vmem, ⟨54, _⟩ => ⟨S256x64, .f32⟩
  | .local _ .vmem, ⟨55, _⟩ => ⟨S256x64, .f32⟩
  | .local _ .vmem, ⟨56, _⟩ => ⟨S256x64, .f32⟩
  | .local _ .vmem, ⟨57, _⟩ => ⟨S256x64, .f32⟩
  | .local _ .vmem, ⟨58, _⟩ => ⟨S256x64, .f32⟩
  | .local _ .vmem, ⟨59, _⟩ => ⟨S256x64, .f32⟩
  | .local _ .vmem, ⟨60, _⟩ => ⟨S256x64, .f32⟩
  | .local _ .vmem, ⟨61, _⟩ => ⟨S256x64, .f32⟩
  | .local _ .vmem, ⟨62, _⟩ => ⟨S256x64, .f32⟩
  | .local _ .vmem, ⟨63, _⟩ => ⟨S256x64, .f32⟩
  | .local _ .vmem, ⟨64, _⟩ => ⟨S256x64, .f32⟩
  | .local _ .vmem, ⟨65, _⟩ => ⟨S256x64, .f32⟩
  | .local _ .vmem, ⟨66, _⟩ => ⟨S256x64, .f32⟩
  | .local _ .vmem, ⟨67, _⟩ => ⟨S256x64, .f32⟩
  | .local _ .vmem, ⟨68, _⟩ => ⟨S256x64, .f32⟩
  | .local _ .vmem, ⟨69, _⟩ => ⟨S256x64, .f32⟩
  | .local _ .vmem, ⟨70, _⟩ => ⟨S128x16, .f32⟩
  | .local _ .vmem, ⟨71, _⟩ => ⟨S128x16, .f32⟩
  | .local _ .vmem, ⟨72, _⟩ => ⟨S128x16, .f32⟩
  | .local _ .vmem, ⟨73, _⟩ => ⟨S128x16, .f32⟩
  | .local _ .vmem, ⟨74, _⟩ => ⟨S128x16, .f32⟩
  | .local _ .vmem, ⟨75, _⟩ => ⟨S128x16, .f32⟩
  | .local _ .vmem, ⟨76, _⟩ => ⟨S128x16, .f32⟩
  | .local _ .vmem, ⟨77, _⟩ => ⟨S4x32, .f32⟩
  | .local _ .vmem, ⟨78, _⟩ => ⟨S4x32, .f32⟩
  | .local _ .vmem, ⟨79, _⟩ => ⟨S4x32, .f32⟩
  | .local _ .vmem, ⟨80, _⟩ => ⟨S4x32, .f32⟩
  | .local _ .vmem, ⟨81, _⟩ => ⟨S4x32, .f32⟩
  | .local _ .vmem, ⟨82, _⟩ => ⟨S4x32, .f32⟩
  | .local _ .vmem, ⟨83, _⟩ => ⟨S4x32, .f32⟩
  | .local _ .vmem, ⟨84, _⟩ => ⟨S4x1024, .f32⟩
  | .local _ .vmem, ⟨85, _⟩ => ⟨S4x1024, .f32⟩
  | .local _ .vmem, ⟨86, _⟩ => ⟨S4x1024, .f32⟩
  | .local _ .vmem, ⟨87, _⟩ => ⟨S4x1024, .f32⟩
  | .local _ .vmem, ⟨88, _⟩ => ⟨S4x1024, .f32⟩
  | .local _ .vmem, ⟨89, _⟩ => ⟨S4x1024, .f32⟩
  | .local _ .vmem, ⟨90, _⟩ => ⟨S4x1024, .f32⟩
  | _, _ => ⟨S4x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | _, _ => false

abbrev semScoped : Fin 0 → Bool
  | ⟨_, h⟩ => absurd h (Nat.not_lt_zero _)

abbrev dmaSemScoped : Fin 91 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | _ => false

abbrev sig : RefSig :=
  ofTc nBuf bufTy 0 91 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_v0 : Ref sig .tc := ⟨.hbm, 36, rfl⟩
abbrev main_v1 : Ref sig .tc := ⟨.hbm, 37, rfl⟩
abbrev main_v2 : Ref sig .tc := ⟨.hbm, 38, rfl⟩
abbrev main_v3 : Ref sig .tc := ⟨.hbm, 39, rfl⟩
abbrev main_v4_0 : Ref sig .tc := ⟨.hbm, 40, rfl⟩
abbrev main_v4_1 : Ref sig .tc := ⟨.hbm, 41, rfl⟩
abbrev main_v4_2 : Ref sig .tc := ⟨.hbm, 42, rfl⟩
abbrev main_v5 : Ref sig .tc := ⟨.hbm, 43, rfl⟩
abbrev main_v6 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_v12_0 : Ref sig .tc := ⟨.hbm, 50, rfl⟩
abbrev main_v12_1 : Ref sig .tc := ⟨.hbm, 51, rfl⟩
abbrev main_v12_2 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20_0 : Ref sig .tc := ⟨.hbm, 60, rfl⟩
abbrev main_v20_1 : Ref sig .tc := ⟨.hbm, 61, rfl⟩
abbrev main_v20_2 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28_0 : Ref sig .tc := ⟨.hbm, 70, rfl⟩
abbrev main_v28_1 : Ref sig .tc := ⟨.hbm, 71, rfl⟩
abbrev main_v28_2 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36_0 : Ref sig .tc := ⟨.hbm, 80, rfl⟩
abbrev main_v36_1 : Ref sig .tc := ⟨.hbm, 81, rfl⟩
abbrev main_v36_2 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44_0 : Ref sig .tc := ⟨.hbm, 90, rfl⟩
abbrev main_v44_1 : Ref sig .tc := ⟨.hbm, 91, rfl⟩
abbrev main_v44_2 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52_0 : Ref sig .tc := ⟨.hbm, 100, rfl⟩
abbrev main_v52_1 : Ref sig .tc := ⟨.hbm, 101, rfl⟩
abbrev main_v52_2 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56_0 : Ref sig .tc := ⟨.hbm, 106, rfl⟩
abbrev main_v56_1 : Ref sig .tc := ⟨.hbm, 107, rfl⟩
abbrev main_v56_2 : Ref sig .tc := ⟨.hbm, 108, rfl⟩
abbrev main_v57_0 : Ref sig .tc := ⟨.hbm, 109, rfl⟩
abbrev main_v57_1 : Ref sig .tc := ⟨.hbm, 110, rfl⟩
abbrev main_v57_2 : Ref sig .tc := ⟨.hbm, 111, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg4_1 : Ref sig .tc := ⟨.vmem, 23, rfl⟩
abbrev cc2_stg5_0 : Ref sig .tc := ⟨.vmem, 24, rfl⟩
abbrev cc2_stg5_1 : Ref sig .tc := ⟨.vmem, 25, rfl⟩
abbrev cc2_stg6_0 : Ref sig .tc := ⟨.vmem, 26, rfl⟩
abbrev cc2_stg6_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc3_stg3_0 : Ref sig .tc := ⟨.vmem, 34, rfl⟩
abbrev cc3_stg3_1 : Ref sig .tc := ⟨.vmem, 35, rfl⟩
abbrev cc3_stg4_0 : Ref sig .tc := ⟨.vmem, 36, rfl⟩
abbrev cc3_stg4_1 : Ref sig .tc := ⟨.vmem, 37, rfl⟩
abbrev cc3_stg5_0 : Ref sig .tc := ⟨.vmem, 38, rfl⟩
abbrev cc3_stg5_1 : Ref sig .tc := ⟨.vmem, 39, rfl⟩
abbrev cc3_stg6_0 : Ref sig .tc := ⟨.vmem, 40, rfl⟩
abbrev cc3_stg6_1 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg1_1 : Ref sig .tc := ⟨.vmem, 45, rfl⟩
abbrev cc4_stg2_0 : Ref sig .tc := ⟨.vmem, 46, rfl⟩
abbrev cc4_stg2_1 : Ref sig .tc := ⟨.vmem, 47, rfl⟩
abbrev cc4_stg3_0 : Ref sig .tc := ⟨.vmem, 48, rfl⟩
abbrev cc4_stg3_1 : Ref sig .tc := ⟨.vmem, 49, rfl⟩
abbrev cc4_stg4_0 : Ref sig .tc := ⟨.vmem, 50, rfl⟩
abbrev cc4_stg4_1 : Ref sig .tc := ⟨.vmem, 51, rfl⟩
abbrev cc4_stg5_0 : Ref sig .tc := ⟨.vmem, 52, rfl⟩
abbrev cc4_stg5_1 : Ref sig .tc := ⟨.vmem, 53, rfl⟩
abbrev cc4_stg6_0 : Ref sig .tc := ⟨.vmem, 54, rfl⟩
abbrev cc4_stg6_1 : Ref sig .tc := ⟨.vmem, 55, rfl⟩
abbrev cc5_stg0_0 : Ref sig .tc := ⟨.vmem, 56, rfl⟩
abbrev cc5_stg0_1 : Ref sig .tc := ⟨.vmem, 57, rfl⟩
abbrev cc5_stg1_0 : Ref sig .tc := ⟨.vmem, 58, rfl⟩
abbrev cc5_stg1_1 : Ref sig .tc := ⟨.vmem, 59, rfl⟩
abbrev cc5_stg2_0 : Ref sig .tc := ⟨.vmem, 60, rfl⟩
abbrev cc5_stg2_1 : Ref sig .tc := ⟨.vmem, 61, rfl⟩
abbrev cc5_stg3_0 : Ref sig .tc := ⟨.vmem, 62, rfl⟩
abbrev cc5_stg3_1 : Ref sig .tc := ⟨.vmem, 63, rfl⟩
abbrev cc5_stg4_0 : Ref sig .tc := ⟨.vmem, 64, rfl⟩
abbrev cc5_stg4_1 : Ref sig .tc := ⟨.vmem, 65, rfl⟩
abbrev cc5_stg5_0 : Ref sig .tc := ⟨.vmem, 66, rfl⟩
abbrev cc5_stg5_1 : Ref sig .tc := ⟨.vmem, 67, rfl⟩
abbrev cc5_stg6_0 : Ref sig .tc := ⟨.vmem, 68, rfl⟩
abbrev cc5_stg6_1 : Ref sig .tc := ⟨.vmem, 69, rfl⟩
abbrev cc6_stg0_0 : Ref sig .tc := ⟨.vmem, 70, rfl⟩
abbrev cc6_stg1_0 : Ref sig .tc := ⟨.vmem, 71, rfl⟩
abbrev cc6_stg2_0 : Ref sig .tc := ⟨.vmem, 72, rfl⟩
abbrev cc6_stg3_0 : Ref sig .tc := ⟨.vmem, 73, rfl⟩
abbrev cc6_stg4_0 : Ref sig .tc := ⟨.vmem, 74, rfl⟩
abbrev cc6_stg5_0 : Ref sig .tc := ⟨.vmem, 75, rfl⟩
abbrev cc6_stg6_0 : Ref sig .tc := ⟨.vmem, 76, rfl⟩
abbrev cc7_stg0_0 : Ref sig .tc := ⟨.vmem, 77, rfl⟩
abbrev cc7_stg1_0 : Ref sig .tc := ⟨.vmem, 78, rfl⟩
abbrev cc7_stg2_0 : Ref sig .tc := ⟨.vmem, 79, rfl⟩
abbrev cc7_stg3_0 : Ref sig .tc := ⟨.vmem, 80, rfl⟩
abbrev cc7_stg4_0 : Ref sig .tc := ⟨.vmem, 81, rfl⟩
abbrev cc7_stg5_0 : Ref sig .tc := ⟨.vmem, 82, rfl⟩
abbrev cc7_stg6_0 : Ref sig .tc := ⟨.vmem, 83, rfl⟩
abbrev cc8_stg0_0 : Ref sig .tc := ⟨.vmem, 84, rfl⟩
abbrev cc8_stg1_0 : Ref sig .tc := ⟨.vmem, 85, rfl⟩
abbrev cc8_stg2_0 : Ref sig .tc := ⟨.vmem, 86, rfl⟩
abbrev cc8_stg3_0 : Ref sig .tc := ⟨.vmem, 87, rfl⟩
abbrev cc8_stg4_0 : Ref sig .tc := ⟨.vmem, 88, rfl⟩
abbrev cc8_stg5_0 : Ref sig .tc := ⟨.vmem, 89, rfl⟩
abbrev cc8_stg6_0 : Ref sig .tc := ⟨.vmem, 90, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc2_sem4_0 : DmaSem sig := 22
abbrev cc2_sem4_1 : DmaSem sig := 23
abbrev cc2_sem5_0 : DmaSem sig := 24
abbrev cc2_sem5_1 : DmaSem sig := 25
abbrev cc2_sem6_0 : DmaSem sig := 26
abbrev cc2_sem6_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem2_1 : DmaSem sig := 33
abbrev cc3_sem3_0 : DmaSem sig := 34
abbrev cc3_sem3_1 : DmaSem sig := 35
abbrev cc3_sem4_0 : DmaSem sig := 36
abbrev cc3_sem4_1 : DmaSem sig := 37
abbrev cc3_sem5_0 : DmaSem sig := 38
abbrev cc3_sem5_1 : DmaSem sig := 39
abbrev cc3_sem6_0 : DmaSem sig := 40
abbrev cc3_sem6_1 : DmaSem sig := 41
abbrev cc4_sem0_0 : DmaSem sig := 42
abbrev cc4_sem0_1 : DmaSem sig := 43
abbrev cc4_sem1_0 : DmaSem sig := 44
abbrev cc4_sem1_1 : DmaSem sig := 45
abbrev cc4_sem2_0 : DmaSem sig := 46
abbrev cc4_sem2_1 : DmaSem sig := 47
abbrev cc4_sem3_0 : DmaSem sig := 48
abbrev cc4_sem3_1 : DmaSem sig := 49
abbrev cc4_sem4_0 : DmaSem sig := 50
abbrev cc4_sem4_1 : DmaSem sig := 51
abbrev cc4_sem5_0 : DmaSem sig := 52
abbrev cc4_sem5_1 : DmaSem sig := 53
abbrev cc4_sem6_0 : DmaSem sig := 54
abbrev cc4_sem6_1 : DmaSem sig := 55
abbrev cc5_sem0_0 : DmaSem sig := 56
abbrev cc5_sem0_1 : DmaSem sig := 57
abbrev cc5_sem1_0 : DmaSem sig := 58
abbrev cc5_sem1_1 : DmaSem sig := 59
abbrev cc5_sem2_0 : DmaSem sig := 60
abbrev cc5_sem2_1 : DmaSem sig := 61
abbrev cc5_sem3_0 : DmaSem sig := 62
abbrev cc5_sem3_1 : DmaSem sig := 63
abbrev cc5_sem4_0 : DmaSem sig := 64
abbrev cc5_sem4_1 : DmaSem sig := 65
abbrev cc5_sem5_0 : DmaSem sig := 66
abbrev cc5_sem5_1 : DmaSem sig := 67
abbrev cc5_sem6_0 : DmaSem sig := 68
abbrev cc5_sem6_1 : DmaSem sig := 69
abbrev cc6_sem0_0 : DmaSem sig := 70
abbrev cc6_sem1_0 : DmaSem sig := 71
abbrev cc6_sem2_0 : DmaSem sig := 72
abbrev cc6_sem3_0 : DmaSem sig := 73
abbrev cc6_sem4_0 : DmaSem sig := 74
abbrev cc6_sem5_0 : DmaSem sig := 75
abbrev cc6_sem6_0 : DmaSem sig := 76
abbrev cc7_sem0_0 : DmaSem sig := 77
abbrev cc7_sem1_0 : DmaSem sig := 78
abbrev cc7_sem2_0 : DmaSem sig := 79
abbrev cc7_sem3_0 : DmaSem sig := 80
abbrev cc7_sem4_0 : DmaSem sig := 81
abbrev cc7_sem5_0 : DmaSem sig := 82
abbrev cc7_sem6_0 : DmaSem sig := 83
abbrev cc8_sem0_0 : DmaSem sig := 84
abbrev cc8_sem1_0 : DmaSem sig := 85
abbrev cc8_sem2_0 : DmaSem sig := 86
abbrev cc8_sem3_0 : DmaSem sig := 87
abbrev cc8_sem4_0 : DmaSem sig := 88
abbrev cc8_sem5_0 : DmaSem sig := 89
abbrev cc8_sem6_0 : DmaSem sig := 90

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S128x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S128x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S128x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S256x16 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S256x16 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S256x16 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x16 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S256x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S256x16 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S256x16 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S256x16 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S256x16 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S256x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S256x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S256x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S256x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S256x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S256x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S256x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S256x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S256x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S256x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S256x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S256x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S256x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S256x64 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 1 → Memref sig .tc .vmem S128x16 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true]

abbrev stage6_1 : Fin 1 → Memref sig .tc .vmem S128x16 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![true]

abbrev stage6_2 : Fin 1 → Memref sig .tc .vmem S128x16 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![true]

abbrev stage6_3 : Fin 1 → Memref sig .tc .vmem S128x16 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![true]

abbrev stage6_4 : Fin 1 → Memref sig .tc .vmem S128x16 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![true]

abbrev stage6_5 : Fin 1 → Memref sig .tc .vmem S128x16 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![true]

abbrev stage6_6 : Fin 1 → Memref sig .tc .vmem S128x16 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![true]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 1 → Memref sig .tc .vmem S4x32 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true]

abbrev stage7_1 : Fin 1 → Memref sig .tc .vmem S4x32 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![true]

abbrev stage7_2 : Fin 1 → Memref sig .tc .vmem S4x32 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![true]

abbrev stage7_3 : Fin 1 → Memref sig .tc .vmem S4x32 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![true]

abbrev stage7_4 : Fin 1 → Memref sig .tc .vmem S4x32 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![true]

abbrev stage7_5 : Fin 1 → Memref sig .tc .vmem S4x32 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![true]

abbrev stage7_6 : Fin 1 → Memref sig .tc .vmem S4x32 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![true]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 1 → Memref sig .tc .vmem S4x1024 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![true]

abbrev stage8_1 : Fin 1 → Memref sig .tc .vmem S4x1024 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![true]

abbrev stage8_2 : Fin 1 → Memref sig .tc .vmem S4x1024 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![true]

abbrev stage8_3 : Fin 1 → Memref sig .tc .vmem S4x1024 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![true]

abbrev stage8_4 : Fin 1 → Memref sig .tc .vmem S4x1024 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![true]

abbrev stage8_5 : Fin 1 → Memref sig .tc .vmem S4x1024 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![true]

abbrev stage8_6 : Fin 1 → Memref sig .tc .vmem S4x1024 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![true]
-- ==== Reference3Ideal.lean ====
abbrev S4x32x64 : Shape := ⟨3, ![4, 32, 64]⟩
abbrev S4x32x64x16 : Shape := ⟨4, ![4, 32, 64, 16]⟩
abbrev S4x32x16x64 : Shape := ⟨4, ![4, 32, 16, 64]⟩
abbrev S4x32x16 : Shape := ⟨3, ![4, 32, 16]⟩
abbrev S4x32 : Shape := ⟨2, ![4, 32]⟩
abbrev S4x1024 : Shape := ⟨2, ![4, 1024]⟩
abbrev S_ : Shape := ⟨0, ![]⟩

abbrev nBuf : Space → Nat
  | .hbm => 333
  | .vmem => 0
  | .smem => 0
  | _ => 0

abbrev hbmTy0_0 (i : Nat) : BufTy := match i % 128 with
  | 0 => ⟨S4x32x64, .f32⟩
  | 1 => ⟨S4x32x64, .f32⟩
  | 2 => ⟨S4x32x64x16, .f32⟩
  | 3 => ⟨S4x32x64x16, .f32⟩
  | 4 => ⟨S4x32x16x64, .f32⟩
  | 5 => ⟨S4x32x16x64, .f32⟩
  | 6 => ⟨S4x32x16, .f32⟩
  | 7 => ⟨S4x32, .f32⟩
  | 8 => ⟨S4x1024, .f32⟩
  | 9 => ⟨S4x32x64, .f32⟩
  | 10 => ⟨S4x32x64, .f32⟩
  | 11 => ⟨S4x32x64x16, .f32⟩
  | 12 => ⟨S4x32x64x16, .f32⟩
  | 13 => ⟨S4x32x16x64, .f32⟩
  | 14 => ⟨S4x32x16x64, .f32⟩
  | 15 => ⟨S4x32x16, .f32⟩
  | 16 => ⟨S4x32, .f32⟩
  | 17 => ⟨S4x1024, .f32⟩
  | 18 => ⟨S4x32x64, .f32⟩
  | 19 => ⟨S4x32x64, .f32⟩
  | 20 => ⟨S4x32x64x16, .f32⟩
  | 21 => ⟨S4x32x64x16, .f32⟩
  | 22 => ⟨S4x32x16x64, .f32⟩
  | 23 => ⟨S4x32x16x64, .f32⟩
  | 24 => ⟨S4x32x16, .f32⟩
  | 25 => ⟨S4x32, .f32⟩
  | 26 => ⟨S4x1024, .f32⟩
  | 27 => ⟨S4x32x64, .f32⟩
  | 28 => ⟨S4x32x64, .f32⟩
  | 29 => ⟨S4x32x64x16, .f32⟩
  | 30 => ⟨S4x32x64x16, .f32⟩
  | 31 => ⟨S4x32x16x64, .f32⟩
  | 32 => ⟨S4x32x16x64, .f32⟩
  | 33 => ⟨S4x32x16, .f32⟩
  | 34 => ⟨S4x32, .f32⟩
  | 35 => ⟨S4x1024, .f32⟩
  | 36 => ⟨S_, .f32⟩
  | 37 => ⟨S4x32x64, .f32⟩
  | 38 => ⟨S4x32x64, .f32⟩
  | 39 => ⟨S_, .f32⟩
  | 40 => ⟨S4x32x64, .f32⟩
  | 41 => ⟨S4x32x64, .f32⟩
  | 42 => ⟨S4x32x64, .f32⟩
  | 43 => ⟨S_, .f32⟩
  | 44 => ⟨S4x32x64, .f32⟩
  | 45 => ⟨S4x32x64, .f32⟩
  | 46 => ⟨S4x32x64, .f32⟩
  | 47 => ⟨S_, .f32⟩
  | 48 => ⟨S4x32x64, .f32⟩
  | 49 => ⟨S4x32x64, .f32⟩
  | 50 => ⟨S4x32x64, .f32⟩
  | 51 => ⟨S_, .f32⟩
  | 52 => ⟨S4x32x64, .f32⟩
  | 53 => ⟨S4x32x64, .f32⟩
  | 54 => ⟨S_, .f32⟩
  | 55 => ⟨S4x32x64, .f32⟩
  | 56 => ⟨S4x32x64, .f32⟩
  | 57 => ⟨S4x32x64, .f32⟩
  | 58 => ⟨S_, .f32⟩
  | 59 => ⟨S4x32x64, .f32⟩
  | 60 => ⟨S4x32x64, .f32⟩
  | 61 => ⟨S4x32x64, .f32⟩
  | 62 => ⟨S_, .f32⟩
  | 63 => ⟨S4x32x64, .f32⟩
  | 64 => ⟨S4x32x64, .f32⟩
  | 65 => ⟨S4x32x64, .f32⟩
  | 66 => ⟨S_, .f32⟩
  | 67 => ⟨S4x32x64, .f32⟩
  | 68 => ⟨S4x32x64, .f32⟩
  | 69 => ⟨S_, .f32⟩
  | 70 => ⟨S4x32x64, .f32⟩
  | 71 => ⟨S4x32x64, .f32⟩
  | 72 => ⟨S_, .f32⟩
  | 73 => ⟨S4x32x64, .f32⟩
  | 74 => ⟨S4x32x64, .f32⟩
  | 75 => ⟨S4x32x64, .f32⟩
  | 76 => ⟨S_, .f32⟩
  | 77 => ⟨S4x32x64, .f32⟩
  | 78 => ⟨S4x32x64, .f32⟩
  | 79 => ⟨S4x32x64, .f32⟩
  | 80 => ⟨S_, .f32⟩
  | 81 => ⟨S4x32x64, .f32⟩
  | 82 => ⟨S4x32x64, .f32⟩
  | 83 => ⟨S4x32x64, .f32⟩
  | 84 => ⟨S_, .f32⟩
  | 85 => ⟨S4x32x64, .f32⟩
  | 86 => ⟨S4x32x64, .f32⟩
  | 87 => ⟨S_, .f32⟩
  | 88 => ⟨S4x32x64, .f32⟩
  | 89 => ⟨S4x32x64, .f32⟩
  | 90 => ⟨S4x32x64, .f32⟩
  | 91 => ⟨S_, .f32⟩
  | 92 => ⟨S4x32x64, .f32⟩
  | 93 => ⟨S4x32x64, .f32⟩
  | 94 => ⟨S4x32x64, .f32⟩
  | 95 => ⟨S_, .f32⟩
  | 96 => ⟨S4x32x64, .f32⟩
  | 97 => ⟨S4x32x64, .f32⟩
  | 98 => ⟨S4x32x64, .f32⟩
  | 99 => ⟨S_, .f32⟩
  | 100 => ⟨S4x32x64, .f32⟩
  | 101 => ⟨S4x32x64, .f32⟩
  | 102 => ⟨S_, .f32⟩
  | 103 => ⟨S4x32x64x16, .f32⟩
  | 104 => ⟨S4x32x64x16, .f32⟩
  | 105 => ⟨S_, .f32⟩
  | 106 => ⟨S4x32x64x16, .f32⟩
  | 107 => ⟨S4x32x64x16, .f32⟩
  | 108 => ⟨S4x32x64x16, .f32⟩
  | 109 => ⟨S_, .f32⟩
  | 110 => ⟨S4x32x64x16, .f32⟩
  | 111 => ⟨S4x32x64x16, .f32⟩
  | 112 => ⟨S4x32x64x16, .f32⟩
  | 113 => ⟨S_, .f32⟩
  | 114 => ⟨S4x32x64x16, .f32⟩
  | 115 => ⟨S4x32x64x16, .f32⟩
  | 116 => ⟨S4x32x64x16, .f32⟩
  | 117 => ⟨S_, .f32⟩
  | 118 => ⟨S4x32x64x16, .f32⟩
  | 119 => ⟨S4x32x64x16, .f32⟩
  | 120 => ⟨S_, .f32⟩
  | 121 => ⟨S4x32x64x16, .f32⟩
  | 122 => ⟨S4x32x64x16, .f32⟩
  | 123 => ⟨S4x32x64x16, .f32⟩
  | 124 => ⟨S_, .f32⟩
  | 125 => ⟨S4x32x64x16, .f32⟩
  | 126 => ⟨S4x32x64x16, .f32⟩
  | 127 => ⟨S4x32x64x16, .f32⟩
  | _ => ⟨S4x32x64, .f32⟩

abbrev hbmTy0_1 (i : Nat) : BufTy := match i % 128 with
  | 0 => ⟨S_, .f32⟩
  | 1 => ⟨S4x32x64x16, .f32⟩
  | 2 => ⟨S4x32x64x16, .f32⟩
  | 3 => ⟨S4x32x64x16, .f32⟩
  | 4 => ⟨S_, .f32⟩
  | 5 => ⟨S4x32x64x16, .f32⟩
  | 6 => ⟨S4x32x64x16, .f32⟩
  | 7 => ⟨S_, .f32⟩
  | 8 => ⟨S4x32x64x16, .f32⟩
  | 9 => ⟨S4x32x64x16, .f32⟩
  | 10 => ⟨S_, .f32⟩
  | 11 => ⟨S4x32x64x16, .f32⟩
  | 12 => ⟨S4x32x64x16, .f32⟩
  | 13 => ⟨S4x32x64x16, .f32⟩
  | 14 => ⟨S_, .f32⟩
  | 15 => ⟨S4x32x64x16, .f32⟩
  | 16 => ⟨S4x32x64x16, .f32⟩
  | 17 => ⟨S4x32x64x16, .f32⟩
  | 18 => ⟨S_, .f32⟩
  | 19 => ⟨S4x32x64x16, .f32⟩
  | 20 => ⟨S4x32x64x16, .f32⟩
  | 21 => ⟨S4x32x64x16, .f32⟩
  | 22 => ⟨S_, .f32⟩
  | 23 => ⟨S4x32x64x16, .f32⟩
  | 24 => ⟨S4x32x64x16, .f32⟩
  | 25 => ⟨S_, .f32⟩
  | 26 => ⟨S4x32x64x16, .f32⟩
  | 27 => ⟨S4x32x64x16, .f32⟩
  | 28 => ⟨S4x32x64x16, .f32⟩
  | 29 => ⟨S_, .f32⟩
  | 30 => ⟨S4x32x64x16, .f32⟩
  | 31 => ⟨S4x32x64x16, .f32⟩
  | 32 => ⟨S4x32x64x16, .f32⟩
  | 33 => ⟨S_, .f32⟩
  | 34 => ⟨S4x32x64x16, .f32⟩
  | 35 => ⟨S4x32x64x16, .f32⟩
  | 36 => ⟨S4x32x64x16, .f32⟩
  | 37 => ⟨S_, .f32⟩
  | 38 => ⟨S4x32x64x16, .f32⟩
  | 39 => ⟨S4x32x64x16, .f32⟩
  | 40 => ⟨S_, .f32⟩
  | 41 => ⟨S4x32x16x64, .f32⟩
  | 42 => ⟨S4x32x16x64, .f32⟩
  | 43 => ⟨S_, .f32⟩
  | 44 => ⟨S4x32x16x64, .f32⟩
  | 45 => ⟨S4x32x16x64, .f32⟩
  | 46 => ⟨S4x32x16x64, .f32⟩
  | 47 => ⟨S_, .f32⟩
  | 48 => ⟨S4x32x16x64, .f32⟩
  | 49 => ⟨S4x32x16x64, .f32⟩
  | 50 => ⟨S4x32x16x64, .f32⟩
  | 51 => ⟨S_, .f32⟩
  | 52 => ⟨S4x32x16x64, .f32⟩
  | 53 => ⟨S4x32x16x64, .f32⟩
  | 54 => ⟨S4x32x16x64, .f32⟩
  | 55 => ⟨S_, .f32⟩
  | 56 => ⟨S4x32x16x64, .f32⟩
  | 57 => ⟨S4x32x16x64, .f32⟩
  | 58 => ⟨S_, .f32⟩
  | 59 => ⟨S4x32x16x64, .f32⟩
  | 60 => ⟨S4x32x16x64, .f32⟩
  | 61 => ⟨S4x32x16x64, .f32⟩
  | 62 => ⟨S_, .f32⟩
  | 63 => ⟨S4x32x16x64, .f32⟩
  | 64 => ⟨S4x32x16x64, .f32⟩
  | 65 => ⟨S4x32x16x64, .f32⟩
  | 66 => ⟨S_, .f32⟩
  | 67 => ⟨S4x32x16x64, .f32⟩
  | 68 => ⟨S4x32x16x64, .f32⟩
  | 69 => ⟨S4x32x16x64, .f32⟩
  | 70 => ⟨S_, .f32⟩
  | 71 => ⟨S4x32x16x64, .f32⟩
  | 72 => ⟨S4x32x16x64, .f32⟩
  | 73 => ⟨S_, .f32⟩
  | 74 => ⟨S4x32x16x64, .f32⟩
  | 75 => ⟨S4x32x16x64, .f32⟩
  | 76 => ⟨S_, .f32⟩
  | 77 => ⟨S4x32x16x64, .f32⟩
  | 78 => ⟨S4x32x16x64, .f32⟩
  | 79 => ⟨S4x32x16x64, .f32⟩
  | 80 => ⟨S_, .f32⟩
  | 81 => ⟨S4x32x16x64, .f32⟩
  | 82 => ⟨S4x32x16x64, .f32⟩
  | 83 => ⟨S4x32x16x64, .f32⟩
  | 84 => ⟨S_, .f32⟩
  | 85 => ⟨S4x32x16x64, .f32⟩
  | 86 => ⟨S4x32x16x64, .f32⟩
  | 87 => ⟨S4x32x16x64, .f32⟩
  | 88 => ⟨S_, .f32⟩
  | 89 => ⟨S4x32x16x64, .f32⟩
  | 90 => ⟨S4x32x16x64, .f32⟩
  | 91 => ⟨S_, .f32⟩
  | 92 => ⟨S4x32x16x64, .f32⟩
  | 93 => ⟨S4x32x16x64, .f32⟩
  | 94 => ⟨S4x32x16x64, .f32⟩
  | 95 => ⟨S_, .f32⟩
  | 96 => ⟨S4x32x16x64, .f32⟩
  | 97 => ⟨S4x32x16x64, .f32⟩
  | 98 => ⟨S4x32x16x64, .f32⟩
  | 99 => ⟨S_, .f32⟩
  | 100 => ⟨S4x32x16x64, .f32⟩
  | 101 => ⟨S4x32x16x64, .f32⟩
  | 102 => ⟨S4x32x16x64, .f32⟩
  | 103 => ⟨S_, .f32⟩
  | 104 => ⟨S4x32x16x64, .f32⟩
  | 105 => ⟨S4x32x16x64, .f32⟩
  | 106 => ⟨S_, .f32⟩
  | 107 => ⟨S4x32x16, .f32⟩
  | 108 => ⟨S4x32x16, .f32⟩
  | 109 => ⟨S_, .f32⟩
  | 110 => ⟨S4x32x16, .f32⟩
  | 111 => ⟨S4x32x16, .f32⟩
  | 112 => ⟨S4x32x16, .f32⟩
  | 113 => ⟨S_, .f32⟩
  | 114 => ⟨S4x32x16, .f32⟩
  | 115 => ⟨S4x32x16, .f32⟩
  | 116 => ⟨S4x32x16, .f32⟩
  | 117 => ⟨S_, .f32⟩
  | 118 => ⟨S4x32x16, .f32⟩
  | 119 => ⟨S4x32x16, .f32⟩
  | 120 => ⟨S4x32x16, .f32⟩
  | 121 => ⟨S_, .f32⟩
  | 122 => ⟨S4x32x16, .f32⟩
  | 123 => ⟨S4x32x16, .f32⟩
  | 124 => ⟨S_, .f32⟩
  | 125 => ⟨S4x32x16, .f32⟩
  | 126 => ⟨S4x32x16, .f32⟩
  | 127 => ⟨S4x32x16, .f32⟩
  | _ => ⟨S4x32x64, .f32⟩

abbrev hbmTy0_2 (i : Nat) : BufTy := match i % 128 with
  | 0 => ⟨S_, .f32⟩
  | 1 => ⟨S4x32x16, .f32⟩
  | 2 => ⟨S4x32x16, .f32⟩
  | 3 => ⟨S4x32x16, .f32⟩
  | 4 => ⟨S_, .f32⟩
  | 5 => ⟨S4x32x16, .f32⟩
  | 6 => ⟨S4x32x16, .f32⟩
  | 7 => ⟨S4x32x16, .f32⟩
  | 8 => ⟨S_, .f32⟩
  | 9 => ⟨S4x32x16, .f32⟩
  | 10 => ⟨S4x32x16, .f32⟩
  | 11 => ⟨S_, .f32⟩
  | 12 => ⟨S4x32, .f32⟩
  | 13 => ⟨S4x32, .f32⟩
  | 14 => ⟨S_, .f32⟩
  | 15 => ⟨S4x32, .f32⟩
  | 16 => ⟨S4x32, .f32⟩
  | 17 => ⟨S4x32, .f32⟩
  | 18 => ⟨S_, .f32⟩
  | 19 => ⟨S4x32, .f32⟩
  | 20 => ⟨S4x32, .f32⟩
  | 21 => ⟨S4x32, .f32⟩
  | 22 => ⟨S_, .f32⟩
  | 23 => ⟨S4x32, .f32⟩
  | 24 => ⟨S4x32, .f32⟩
  | 25 => ⟨S4x32, .f32⟩
  | 26 => ⟨S_, .f32⟩
  | 27 => ⟨S4x32, .f32⟩
  | 28 => ⟨S4x32, .f32⟩
  | 29 => ⟨S_, .f32⟩
  | 30 => ⟨S4x32, .f32⟩
  | 31 => ⟨S4x32, .f32⟩
  | 32 => ⟨S4x32, .f32⟩
  | 33 => ⟨S_, .f32⟩
  | 34 => ⟨S4x32, .f32⟩
  | 35 => ⟨S4x32, .f32⟩
  | 36 => ⟨S4x32, .f32⟩
  | 37 => ⟨S_, .f32⟩
  | 38 => ⟨S4x32, .f32⟩
  | 39 => ⟨S4x32, .f32⟩
  | 40 => ⟨S4x32, .f32⟩
  | 41 => ⟨S_, .f32⟩
  | 42 => ⟨S4x32, .f32⟩
  | 43 => ⟨S4x32, .f32⟩
  | 44 => ⟨S_, .f32⟩
  | 45 => ⟨S4x1024, .f32⟩
  | 46 => ⟨S4x1024, .f32⟩
  | 47 => ⟨S_, .f32⟩
  | 48 => ⟨S4x1024, .f32⟩
  | 49 => ⟨S4x1024, .f32⟩
  | 50 => ⟨S4x1024, .f32⟩
  | 51 => ⟨S_, .f32⟩
  | 52 => ⟨S4x1024, .f32⟩
  | 53 => ⟨S4x1024, .f32⟩
  | 54 => ⟨S4x1024, .f32⟩
  | 55 => ⟨S_, .f32⟩
  | 56 => ⟨S4x1024, .f32⟩
  | 57 => ⟨S4x1024, .f32⟩
  | 58 => ⟨S4x1024, .f32⟩
  | 59 => ⟨S_, .f32⟩
  | 60 => ⟨S4x1024, .f32⟩
  | 61 => ⟨S4x1024, .f32⟩
  | 62 => ⟨S_, .f32⟩
  | 63 => ⟨S4x1024, .f32⟩
  | 64 => ⟨S4x1024, .f32⟩
  | 65 => ⟨S4x1024, .f32⟩
  | 66 => ⟨S_, .f32⟩
  | 67 => ⟨S4x1024, .f32⟩
  | 68 => ⟨S4x1024, .f32⟩
  | 69 => ⟨S4x1024, .f32⟩
  | 70 => ⟨S_, .f32⟩
  | 71 => ⟨S4x1024, .f32⟩
  | 72 => ⟨S4x1024, .f32⟩
  | 73 => ⟨S4x1024, .f32⟩
  | 74 => ⟨S_, .f32⟩
  | 75 => ⟨S4x1024, .f32⟩
  | 76 => ⟨S4x1024, .f32⟩
  | _ => ⟨S4x32x64, .f32⟩

abbrev hbmTy (i : Nat) : BufTy := match i / 128 with
  | 0 => hbmTy0_0 i
  | 1 => hbmTy0_1 i
  | 2 => hbmTy0_2 i
  | _ => ⟨S4x32x64, .f32⟩

abbrev bufTy : (tb : Table) → Fin (tcTables nBuf tb) → BufTy
  | .hbm, ⟨i, _⟩ => hbmTy i
  | _, _ => ⟨S4x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_cst : Ref sig .tc := ⟨.hbm, 36, rfl⟩
abbrev main_v0 : Ref sig .tc := ⟨.hbm, 37, rfl⟩
abbrev main_v1 : Ref sig .tc := ⟨.hbm, 38, rfl⟩
abbrev main_cst_0 : Ref sig .tc := ⟨.hbm, 39, rfl⟩
abbrev main_v2 : Ref sig .tc := ⟨.hbm, 40, rfl⟩
abbrev main_v3 : Ref sig .tc := ⟨.hbm, 41, rfl⟩
abbrev main_v4 : Ref sig .tc := ⟨.hbm, 42, rfl⟩
abbrev main_cst_1 : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_cst_2 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_cst_3 : Ref sig .tc := ⟨.hbm, 51, rfl⟩
abbrev main_v11 : Ref sig .tc := ⟨.hbm, 52, rfl⟩
abbrev main_v12 : Ref sig .tc := ⟨.hbm, 53, rfl⟩
abbrev main_cst_4 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_cst_5 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_cst_6 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_cst_7 : Ref sig .tc := ⟨.hbm, 66, rfl⟩
abbrev main_v22 : Ref sig .tc := ⟨.hbm, 67, rfl⟩
abbrev main_v23 : Ref sig .tc := ⟨.hbm, 68, rfl⟩
abbrev main_cst_8 : Ref sig .tc := ⟨.hbm, 69, rfl⟩
abbrev main_v24 : Ref sig .tc := ⟨.hbm, 70, rfl⟩
abbrev main_v25 : Ref sig .tc := ⟨.hbm, 71, rfl⟩
abbrev main_cst_9 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_cst_10 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_cst_11 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_cst_12 : Ref sig .tc := ⟨.hbm, 84, rfl⟩
abbrev main_v35 : Ref sig .tc := ⟨.hbm, 85, rfl⟩
abbrev main_v36 : Ref sig .tc := ⟨.hbm, 86, rfl⟩
abbrev main_cst_13 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_cst_14 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_cst_15 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_cst_16 : Ref sig .tc := ⟨.hbm, 99, rfl⟩
abbrev main_v46 : Ref sig .tc := ⟨.hbm, 100, rfl⟩
abbrev main_v47 : Ref sig .tc := ⟨.hbm, 101, rfl⟩
abbrev main_cst_17 : Ref sig .tc := ⟨.hbm, 102, rfl⟩
abbrev main_v48 : Ref sig .tc := ⟨.hbm, 103, rfl⟩
abbrev main_v49 : Ref sig .tc := ⟨.hbm, 104, rfl⟩
abbrev main_cst_18 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_cst_19 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_cst_20 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_cst_21 : Ref sig .tc := ⟨.hbm, 117, rfl⟩
abbrev main_v59 : Ref sig .tc := ⟨.hbm, 118, rfl⟩
abbrev main_v60 : Ref sig .tc := ⟨.hbm, 119, rfl⟩
abbrev main_cst_22 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_cst_23 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_cst_24 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_cst_25 : Ref sig .tc := ⟨.hbm, 132, rfl⟩
abbrev main_v70 : Ref sig .tc := ⟨.hbm, 133, rfl⟩
abbrev main_v71 : Ref sig .tc := ⟨.hbm, 134, rfl⟩
abbrev main_cst_26 : Ref sig .tc := ⟨.hbm, 135, rfl⟩
abbrev main_v72 : Ref sig .tc := ⟨.hbm, 136, rfl⟩
abbrev main_v73 : Ref sig .tc := ⟨.hbm, 137, rfl⟩
abbrev main_cst_27 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_cst_28 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_cst_29 : Ref sig .tc := ⟨.hbm, 146, rfl⟩
abbrev main_v80 : Ref sig .tc := ⟨.hbm, 147, rfl⟩
abbrev main_v81 : Ref sig .tc := ⟨.hbm, 148, rfl⟩
abbrev main_v82 : Ref sig .tc := ⟨.hbm, 149, rfl⟩
abbrev main_cst_30 : Ref sig .tc := ⟨.hbm, 150, rfl⟩
abbrev main_v83 : Ref sig .tc := ⟨.hbm, 151, rfl⟩
abbrev main_v84 : Ref sig .tc := ⟨.hbm, 152, rfl⟩
abbrev main_cst_31 : Ref sig .tc := ⟨.hbm, 153, rfl⟩
abbrev main_v85 : Ref sig .tc := ⟨.hbm, 154, rfl⟩
abbrev main_v86 : Ref sig .tc := ⟨.hbm, 155, rfl⟩
abbrev main_v87 : Ref sig .tc := ⟨.hbm, 156, rfl⟩
abbrev main_cst_32 : Ref sig .tc := ⟨.hbm, 157, rfl⟩
abbrev main_v88 : Ref sig .tc := ⟨.hbm, 158, rfl⟩
abbrev main_v89 : Ref sig .tc := ⟨.hbm, 159, rfl⟩
abbrev main_v90 : Ref sig .tc := ⟨.hbm, 160, rfl⟩
abbrev main_cst_33 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_cst_34 : Ref sig .tc := ⟨.hbm, 165, rfl⟩
abbrev main_v94 : Ref sig .tc := ⟨.hbm, 166, rfl⟩
abbrev main_v95 : Ref sig .tc := ⟨.hbm, 167, rfl⟩
abbrev main_cst_35 : Ref sig .tc := ⟨.hbm, 168, rfl⟩
abbrev main_v96 : Ref sig .tc := ⟨.hbm, 169, rfl⟩
abbrev main_v97 : Ref sig .tc := ⟨.hbm, 170, rfl⟩
abbrev main_cst_36 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩
abbrev main_cst_37 : Ref sig .tc := ⟨.hbm, 175, rfl⟩
abbrev main_v101 : Ref sig .tc := ⟨.hbm, 176, rfl⟩
abbrev main_v102 : Ref sig .tc := ⟨.hbm, 177, rfl⟩
abbrev main_v103 : Ref sig .tc := ⟨.hbm, 178, rfl⟩
abbrev main_cst_38 : Ref sig .tc := ⟨.hbm, 179, rfl⟩
abbrev main_v104 : Ref sig .tc := ⟨.hbm, 180, rfl⟩
abbrev main_v105 : Ref sig .tc := ⟨.hbm, 181, rfl⟩
abbrev main_v106 : Ref sig .tc := ⟨.hbm, 182, rfl⟩
abbrev main_cst_39 : Ref sig .tc := ⟨.hbm, 183, rfl⟩
abbrev main_v107 : Ref sig .tc := ⟨.hbm, 184, rfl⟩
abbrev main_v108 : Ref sig .tc := ⟨.hbm, 185, rfl⟩
abbrev main_cst_40 : Ref sig .tc := ⟨.hbm, 186, rfl⟩
abbrev main_v109 : Ref sig .tc := ⟨.hbm, 187, rfl⟩
abbrev main_v110 : Ref sig .tc := ⟨.hbm, 188, rfl⟩
abbrev main_v111 : Ref sig .tc := ⟨.hbm, 189, rfl⟩
abbrev main_cst_41 : Ref sig .tc := ⟨.hbm, 190, rfl⟩
abbrev main_v112 : Ref sig .tc := ⟨.hbm, 191, rfl⟩
abbrev main_v113 : Ref sig .tc := ⟨.hbm, 192, rfl⟩
abbrev main_v114 : Ref sig .tc := ⟨.hbm, 193, rfl⟩
abbrev main_cst_42 : Ref sig .tc := ⟨.hbm, 194, rfl⟩
abbrev main_v115 : Ref sig .tc := ⟨.hbm, 195, rfl⟩
abbrev main_v116 : Ref sig .tc := ⟨.hbm, 196, rfl⟩
abbrev main_v117 : Ref sig .tc := ⟨.hbm, 197, rfl⟩
abbrev main_cst_43 : Ref sig .tc := ⟨.hbm, 198, rfl⟩
abbrev main_v118 : Ref sig .tc := ⟨.hbm, 199, rfl⟩
abbrev main_v119 : Ref sig .tc := ⟨.hbm, 200, rfl⟩
abbrev main_cst_44 : Ref sig .tc := ⟨.hbm, 201, rfl⟩
abbrev main_v120 : Ref sig .tc := ⟨.hbm, 202, rfl⟩
abbrev main_v121 : Ref sig .tc := ⟨.hbm, 203, rfl⟩
abbrev main_cst_45 : Ref sig .tc := ⟨.hbm, 204, rfl⟩
abbrev main_v122 : Ref sig .tc := ⟨.hbm, 205, rfl⟩
abbrev main_v123 : Ref sig .tc := ⟨.hbm, 206, rfl⟩
abbrev main_v124 : Ref sig .tc := ⟨.hbm, 207, rfl⟩
abbrev main_cst_46 : Ref sig .tc := ⟨.hbm, 208, rfl⟩
abbrev main_v125 : Ref sig .tc := ⟨.hbm, 209, rfl⟩
abbrev main_v126 : Ref sig .tc := ⟨.hbm, 210, rfl⟩
abbrev main_v127 : Ref sig .tc := ⟨.hbm, 211, rfl⟩
abbrev main_cst_47 : Ref sig .tc := ⟨.hbm, 212, rfl⟩
abbrev main_v128 : Ref sig .tc := ⟨.hbm, 213, rfl⟩
abbrev main_v129 : Ref sig .tc := ⟨.hbm, 214, rfl⟩
abbrev main_v130 : Ref sig .tc := ⟨.hbm, 215, rfl⟩
abbrev main_cst_48 : Ref sig .tc := ⟨.hbm, 216, rfl⟩
abbrev main_v131 : Ref sig .tc := ⟨.hbm, 217, rfl⟩
abbrev main_v132 : Ref sig .tc := ⟨.hbm, 218, rfl⟩
abbrev main_cst_49 : Ref sig .tc := ⟨.hbm, 219, rfl⟩
abbrev main_v133 : Ref sig .tc := ⟨.hbm, 220, rfl⟩
abbrev main_v134 : Ref sig .tc := ⟨.hbm, 221, rfl⟩
abbrev main_v135 : Ref sig .tc := ⟨.hbm, 222, rfl⟩
abbrev main_cst_50 : Ref sig .tc := ⟨.hbm, 223, rfl⟩
abbrev main_v136 : Ref sig .tc := ⟨.hbm, 224, rfl⟩
abbrev main_v137 : Ref sig .tc := ⟨.hbm, 225, rfl⟩
abbrev main_v138 : Ref sig .tc := ⟨.hbm, 226, rfl⟩
abbrev main_cst_51 : Ref sig .tc := ⟨.hbm, 227, rfl⟩
abbrev main_v139 : Ref sig .tc := ⟨.hbm, 228, rfl⟩
abbrev main_v140 : Ref sig .tc := ⟨.hbm, 229, rfl⟩
abbrev main_v141 : Ref sig .tc := ⟨.hbm, 230, rfl⟩
abbrev main_cst_52 : Ref sig .tc := ⟨.hbm, 231, rfl⟩
abbrev main_v142 : Ref sig .tc := ⟨.hbm, 232, rfl⟩
abbrev main_v143 : Ref sig .tc := ⟨.hbm, 233, rfl⟩
abbrev main_cst_53 : Ref sig .tc := ⟨.hbm, 234, rfl⟩
abbrev main_v144 : Ref sig .tc := ⟨.hbm, 235, rfl⟩
abbrev main_v145 : Ref sig .tc := ⟨.hbm, 236, rfl⟩
abbrev main_cst_54 : Ref sig .tc := ⟨.hbm, 237, rfl⟩
abbrev main_v146 : Ref sig .tc := ⟨.hbm, 238, rfl⟩
abbrev main_v147 : Ref sig .tc := ⟨.hbm, 239, rfl⟩
abbrev main_v148 : Ref sig .tc := ⟨.hbm, 240, rfl⟩
abbrev main_cst_55 : Ref sig .tc := ⟨.hbm, 241, rfl⟩
abbrev main_v149 : Ref sig .tc := ⟨.hbm, 242, rfl⟩
abbrev main_v150 : Ref sig .tc := ⟨.hbm, 243, rfl⟩
abbrev main_v151 : Ref sig .tc := ⟨.hbm, 244, rfl⟩
abbrev main_cst_56 : Ref sig .tc := ⟨.hbm, 245, rfl⟩
abbrev main_v152 : Ref sig .tc := ⟨.hbm, 246, rfl⟩
abbrev main_v153 : Ref sig .tc := ⟨.hbm, 247, rfl⟩
abbrev main_v154 : Ref sig .tc := ⟨.hbm, 248, rfl⟩
abbrev main_cst_57 : Ref sig .tc := ⟨.hbm, 249, rfl⟩
abbrev main_v155 : Ref sig .tc := ⟨.hbm, 250, rfl⟩
abbrev main_v156 : Ref sig .tc := ⟨.hbm, 251, rfl⟩
abbrev main_cst_58 : Ref sig .tc := ⟨.hbm, 252, rfl⟩
abbrev main_v157 : Ref sig .tc := ⟨.hbm, 253, rfl⟩
abbrev main_v158 : Ref sig .tc := ⟨.hbm, 254, rfl⟩
abbrev main_v159 : Ref sig .tc := ⟨.hbm, 255, rfl⟩
abbrev main_cst_59 : Ref sig .tc := ⟨.hbm, 256, rfl⟩
abbrev main_v160 : Ref sig .tc := ⟨.hbm, 257, rfl⟩
abbrev main_v161 : Ref sig .tc := ⟨.hbm, 258, rfl⟩
abbrev main_v162 : Ref sig .tc := ⟨.hbm, 259, rfl⟩
abbrev main_cst_60 : Ref sig .tc := ⟨.hbm, 260, rfl⟩
abbrev main_v163 : Ref sig .tc := ⟨.hbm, 261, rfl⟩
abbrev main_v164 : Ref sig .tc := ⟨.hbm, 262, rfl⟩
abbrev main_v165 : Ref sig .tc := ⟨.hbm, 263, rfl⟩
abbrev main_cst_61 : Ref sig .tc := ⟨.hbm, 264, rfl⟩
abbrev main_v166 : Ref sig .tc := ⟨.hbm, 265, rfl⟩
abbrev main_v167 : Ref sig .tc := ⟨.hbm, 266, rfl⟩
abbrev main_cst_62 : Ref sig .tc := ⟨.hbm, 267, rfl⟩
abbrev main_v168 : Ref sig .tc := ⟨.hbm, 268, rfl⟩
abbrev main_v169 : Ref sig .tc := ⟨.hbm, 269, rfl⟩
abbrev main_cst_63 : Ref sig .tc := ⟨.hbm, 270, rfl⟩
abbrev main_v170 : Ref sig .tc := ⟨.hbm, 271, rfl⟩
abbrev main_v171 : Ref sig .tc := ⟨.hbm, 272, rfl⟩
abbrev main_v172 : Ref sig .tc := ⟨.hbm, 273, rfl⟩
abbrev main_cst_64 : Ref sig .tc := ⟨.hbm, 274, rfl⟩
abbrev main_v173 : Ref sig .tc := ⟨.hbm, 275, rfl⟩
abbrev main_v174 : Ref sig .tc := ⟨.hbm, 276, rfl⟩
abbrev main_v175 : Ref sig .tc := ⟨.hbm, 277, rfl⟩
abbrev main_cst_65 : Ref sig .tc := ⟨.hbm, 278, rfl⟩
abbrev main_v176 : Ref sig .tc := ⟨.hbm, 279, rfl⟩
abbrev main_v177 : Ref sig .tc := ⟨.hbm, 280, rfl⟩
abbrev main_v178 : Ref sig .tc := ⟨.hbm, 281, rfl⟩
abbrev main_cst_66 : Ref sig .tc := ⟨.hbm, 282, rfl⟩
abbrev main_v179 : Ref sig .tc := ⟨.hbm, 283, rfl⟩
abbrev main_v180 : Ref sig .tc := ⟨.hbm, 284, rfl⟩
abbrev main_cst_67 : Ref sig .tc := ⟨.hbm, 285, rfl⟩
abbrev main_v181 : Ref sig .tc := ⟨.hbm, 286, rfl⟩
abbrev main_v182 : Ref sig .tc := ⟨.hbm, 287, rfl⟩
abbrev main_v183 : Ref sig .tc := ⟨.hbm, 288, rfl⟩
abbrev main_cst_68 : Ref sig .tc := ⟨.hbm, 289, rfl⟩
abbrev main_v184 : Ref sig .tc := ⟨.hbm, 290, rfl⟩
abbrev main_v185 : Ref sig .tc := ⟨.hbm, 291, rfl⟩
abbrev main_v186 : Ref sig .tc := ⟨.hbm, 292, rfl⟩
abbrev main_cst_69 : Ref sig .tc := ⟨.hbm, 293, rfl⟩
abbrev main_v187 : Ref sig .tc := ⟨.hbm, 294, rfl⟩
abbrev main_v188 : Ref sig .tc := ⟨.hbm, 295, rfl⟩
abbrev main_v189 : Ref sig .tc := ⟨.hbm, 296, rfl⟩
abbrev main_cst_70 : Ref sig .tc := ⟨.hbm, 297, rfl⟩
abbrev main_v190 : Ref sig .tc := ⟨.hbm, 298, rfl⟩
abbrev main_v191 : Ref sig .tc := ⟨.hbm, 299, rfl⟩
abbrev main_cst_71 : Ref sig .tc := ⟨.hbm, 300, rfl⟩
abbrev main_v192 : Ref sig .tc := ⟨.hbm, 301, rfl⟩
abbrev main_v193 : Ref sig .tc := ⟨.hbm, 302, rfl⟩
abbrev main_cst_72 : Ref sig .tc := ⟨.hbm, 303, rfl⟩
abbrev main_v194 : Ref sig .tc := ⟨.hbm, 304, rfl⟩
abbrev main_v195 : Ref sig .tc := ⟨.hbm, 305, rfl⟩
abbrev main_v196 : Ref sig .tc := ⟨.hbm, 306, rfl⟩
abbrev main_cst_73 : Ref sig .tc := ⟨.hbm, 307, rfl⟩
abbrev main_v197 : Ref sig .tc := ⟨.hbm, 308, rfl⟩
abbrev main_v198 : Ref sig .tc := ⟨.hbm, 309, rfl⟩
abbrev main_v199 : Ref sig .tc := ⟨.hbm, 310, rfl⟩
abbrev main_cst_74 : Ref sig .tc := ⟨.hbm, 311, rfl⟩
abbrev main_v200 : Ref sig .tc := ⟨.hbm, 312, rfl⟩
abbrev main_v201 : Ref sig .tc := ⟨.hbm, 313, rfl⟩
abbrev main_v202 : Ref sig .tc := ⟨.hbm, 314, rfl⟩
abbrev main_cst_75 : Ref sig .tc := ⟨.hbm, 315, rfl⟩
abbrev main_v203 : Ref sig .tc := ⟨.hbm, 316, rfl⟩
abbrev main_v204 : Ref sig .tc := ⟨.hbm, 317, rfl⟩
abbrev main_cst_76 : Ref sig .tc := ⟨.hbm, 318, rfl⟩
abbrev main_v205 : Ref sig .tc := ⟨.hbm, 319, rfl⟩
abbrev main_v206 : Ref sig .tc := ⟨.hbm, 320, rfl⟩
abbrev main_v207 : Ref sig .tc := ⟨.hbm, 321, rfl⟩
abbrev main_cst_77 : Ref sig .tc := ⟨.hbm, 322, rfl⟩
abbrev main_v208 : Ref sig .tc := ⟨.hbm, 323, rfl⟩
abbrev main_v209 : Ref sig .tc := ⟨.hbm, 324, rfl⟩
abbrev main_v210 : Ref sig .tc := ⟨.hbm, 325, rfl⟩
abbrev main_cst_78 : Ref sig .tc := ⟨.hbm, 326, rfl⟩
abbrev main_v211 : Ref sig .tc := ⟨.hbm, 327, rfl⟩
abbrev main_v212 : Ref sig .tc := ⟨.hbm, 328, rfl⟩
abbrev main_v213 : Ref sig .tc := ⟨.hbm, 329, rfl⟩
abbrev main_cst_79 : Ref sig .tc := ⟨.hbm, 330, rfl⟩
abbrev main_v214 : Ref sig .tc := ⟨.hbm, 331, rfl⟩
abbrev main_v215 : Ref sig .tc := ⟨.hbm, 332, rfl⟩

abbrev nD : Nat := 1
abbrev τ : Topo := Topo.v7x

variable {F : FTy → Type} [FloatOps F]
-- ==== Kernel4.lean ====
abbrev S4x2048 : Shape := ⟨2, ![4, 2048]⟩
abbrev S4x512 : Shape := ⟨2, ![4, 512]⟩
abbrev S4x256 : Shape := ⟨2, ![4, 256]⟩
abbrev S4x1024 : Shape := ⟨2, ![4, 1024]⟩
abbrev S2048 : Shape := ⟨1, ![2048]⟩
abbrev S1x2048 : Shape := ⟨2, ![1, 2048]⟩

abbrev nBuf : Space → Nat
  | .hbm => 63
  | .vmem => 56
  | .smem => 0
  | _ => 0

abbrev bufTy : (tb : Table) → Fin (tcTables nBuf tb) → BufTy
  | .hbm, ⟨0, _⟩ => ⟨S4x2048, .f32⟩
  | .hbm, ⟨1, _⟩ => ⟨S4x512, .f32⟩
  | .hbm, ⟨2, _⟩ => ⟨S4x256, .f32⟩
  | .hbm, ⟨3, _⟩ => ⟨S4x1024, .f32⟩
  | .hbm, ⟨4, _⟩ => ⟨S4x512, .f32⟩
  | .hbm, ⟨5, _⟩ => ⟨S4x512, .f32⟩
  | .hbm, ⟨6, _⟩ => ⟨S4x2048, .f32⟩
  | .hbm, ⟨7, _⟩ => ⟨S2048, .f32⟩
  | .hbm, ⟨8, _⟩ => ⟨S4x2048, .f32⟩
  | .hbm, ⟨9, _⟩ => ⟨S4x512, .f32⟩
  | .hbm, ⟨10, _⟩ => ⟨S4x256, .f32⟩
  | .hbm, ⟨11, _⟩ => ⟨S4x1024, .f32⟩
  | .hbm, ⟨12, _⟩ => ⟨S4x512, .f32⟩
  | .hbm, ⟨13, _⟩ => ⟨S4x512, .f32⟩
  | .hbm, ⟨14, _⟩ => ⟨S4x2048, .f32⟩
  | .hbm, ⟨15, _⟩ => ⟨S2048, .f32⟩
  | .hbm, ⟨16, _⟩ => ⟨S4x2048, .f32⟩
  | .hbm, ⟨17, _⟩ => ⟨S4x512, .f32⟩
  | .hbm, ⟨18, _⟩ => ⟨S4x256, .f32⟩
  | .hbm, ⟨19, _⟩ => ⟨S4x1024, .f32⟩
  | .hbm, ⟨20, _⟩ => ⟨S4x512, .f32⟩
  | .hbm, ⟨21, _⟩ => ⟨S4x512, .f32⟩
  | .hbm, ⟨22, _⟩ => ⟨S4x2048, .f32⟩
  | .hbm, ⟨23, _⟩ => ⟨S2048, .f32⟩
  | .hbm, ⟨24, _⟩ => ⟨S4x2048, .f32⟩
  | .hbm, ⟨25, _⟩ => ⟨S4x512, .f32⟩
  | .hbm, ⟨26, _⟩ => ⟨S4x256, .f32⟩
  | .hbm, ⟨27, _⟩ => ⟨S4x1024, .f32⟩
  | .hbm, ⟨28, _⟩ => ⟨S4x512, .f32⟩
  | .hbm, ⟨29, _⟩ => ⟨S4x512, .f32⟩
  | .hbm, ⟨30, _⟩ => ⟨S4x2048, .f32⟩
  | .hbm, ⟨31, _⟩ => ⟨S2048, .f32⟩
  | .hbm, ⟨32, _⟩ => ⟨S4x2048, .f32⟩
  | .hbm, ⟨33, _⟩ => ⟨S4x2048, .f32⟩
  | .hbm, ⟨34, _⟩ => ⟨S4x2048, .f32⟩
  | .hbm, ⟨35, _⟩ => ⟨S4x512, .f32⟩
  | .hbm, ⟨36, _⟩ => ⟨S4x512, .f32⟩
  | .hbm, ⟨37, _⟩ => ⟨S4x512, .f32⟩
  | .hbm, ⟨38, _⟩ => ⟨S4x256, .f32⟩
  | .hbm, ⟨39, _⟩ => ⟨S4x256, .f32⟩
  | .hbm, ⟨40, _⟩ => ⟨S4x256, .f32⟩
  | .hbm, ⟨41, _⟩ => ⟨S4x1024, .f32⟩
  | .hbm, ⟨42, _⟩ => ⟨S4x1024, .f32⟩
  | .hbm, ⟨43, _⟩ => ⟨S4x1024, .f32⟩
  | .hbm, ⟨44, _⟩ => ⟨S4x512, .f32⟩
  | .hbm, ⟨45, _⟩ => ⟨S4x512, .f32⟩
  | .hbm, ⟨46, _⟩ => ⟨S4x512, .f32⟩
  | .hbm, ⟨47, _⟩ => ⟨S4x512, .f32⟩
  | .hbm, ⟨48, _⟩ => ⟨S4x512, .f32⟩
  | .hbm, ⟨49, _⟩ => ⟨S4x512, .f32⟩
  | .hbm, ⟨50, _⟩ => ⟨S4x2048, .f32⟩
  | .hbm, ⟨51, _⟩ => ⟨S4x2048, .f32⟩
  | .hbm, ⟨52, _⟩ => ⟨S4x2048, .f32⟩
  | .hbm, ⟨53, _⟩ => ⟨S1x2048, .f32⟩
  | .hbm, ⟨54, _⟩ => ⟨S1x2048, .f32⟩
  | .hbm, ⟨55, _⟩ => ⟨S1x2048, .f32⟩
  | .hbm, ⟨56, _⟩ => ⟨S1x2048, .f32⟩
  | .hbm, ⟨57, _⟩ => ⟨S1x2048, .f32⟩
  | .hbm, ⟨58, _⟩ => ⟨S1x2048, .f32⟩
  | .hbm, ⟨59, _⟩ => ⟨S1x2048, .f32⟩
  | .hbm, ⟨60, _⟩ => ⟨S2048, .f32⟩
  | .hbm, ⟨61, _⟩ => ⟨S2048, .f32⟩
  | .hbm, ⟨62, _⟩ => ⟨S2048, .f32⟩
  | .local _ .vmem, ⟨0, _⟩ => ⟨S4x2048, .f32⟩
  | .local _ .vmem, ⟨1, _⟩ => ⟨S4x2048, .f32⟩
  | .local _ .vmem, ⟨2, _⟩ => ⟨S4x2048, .f32⟩
  | .local _ .vmem, ⟨3, _⟩ => ⟨S4x2048, .f32⟩
  | .local _ .vmem, ⟨4, _⟩ => ⟨S4x2048, .f32⟩
  | .local _ .vmem, ⟨5, _⟩ => ⟨S4x2048, .f32⟩
  | .local _ .vmem, ⟨6, _⟩ => ⟨S4x2048, .f32⟩
  | .local _ .vmem, ⟨7, _⟩ => ⟨S4x512, .f32⟩
  | .local _ .vmem, ⟨8, _⟩ => ⟨S4x512, .f32⟩
  | .local _ .vmem, ⟨9, _⟩ => ⟨S4x512, .f32⟩
  | .local _ .vmem, ⟨10, _⟩ => ⟨S4x512, .f32⟩
  | .local _ .vmem, ⟨11, _⟩ => ⟨S4x512, .f32⟩
  | .local _ .vmem, ⟨12, _⟩ => ⟨S4x512, .f32⟩
  | .local _ .vmem, ⟨13, _⟩ => ⟨S4x512, .f32⟩
  | .local _ .vmem, ⟨14, _⟩ => ⟨S4x256, .f32⟩
  | .local _ .vmem, ⟨15, _⟩ => ⟨S4x256, .f32⟩
  | .local _ .vmem, ⟨16, _⟩ => ⟨S4x256, .f32⟩
  | .local _ .vmem, ⟨17, _⟩ => ⟨S4x256, .f32⟩
  | .local _ .vmem, ⟨18, _⟩ => ⟨S4x256, .f32⟩
  | .local _ .vmem, ⟨19, _⟩ => ⟨S4x256, .f32⟩
  | .local _ .vmem, ⟨20, _⟩ => ⟨S4x256, .f32⟩
  | .local _ .vmem, ⟨21, _⟩ => ⟨S4x1024, .f32⟩
  | .local _ .vmem, ⟨22, _⟩ => ⟨S4x1024, .f32⟩
  | .local _ .vmem, ⟨23, _⟩ => ⟨S4x1024, .f32⟩
  | .local _ .vmem, ⟨24, _⟩ => ⟨S4x1024, .f32⟩
  | .local _ .vmem, ⟨25, _⟩ => ⟨S4x1024, .f32⟩
  | .local _ .vmem, ⟨26, _⟩ => ⟨S4x1024, .f32⟩
  | .local _ .vmem, ⟨27, _⟩ => ⟨S4x1024, .f32⟩
  | .local _ .vmem, ⟨28, _⟩ => ⟨S4x512, .f32⟩
  | .local _ .vmem, ⟨29, _⟩ => ⟨S4x512, .f32⟩
  | .local _ .vmem, ⟨30, _⟩ => ⟨S4x512, .f32⟩
  | .local _ .vmem, ⟨31, _⟩ => ⟨S4x512, .f32⟩
  | .local _ .vmem, ⟨32, _⟩ => ⟨S4x512, .f32⟩
  | .local _ .vmem, ⟨33, _⟩ => ⟨S4x512, .f32⟩
  | .local _ .vmem, ⟨34, _⟩ => ⟨S4x512, .f32⟩
  | .local _ .vmem, ⟨35, _⟩ => ⟨S4x512, .f32⟩
  | .local _ .vmem, ⟨36, _⟩ => ⟨S4x512, .f32⟩
  | .local _ .vmem, ⟨37, _⟩ => ⟨S4x512, .f32⟩
  | .local _ .vmem, ⟨38, _⟩ => ⟨S4x512, .f32⟩
  | .local _ .vmem, ⟨39, _⟩ => ⟨S4x512, .f32⟩
  | .local _ .vmem, ⟨40, _⟩ => ⟨S4x512, .f32⟩
  | .local _ .vmem, ⟨41, _⟩ => ⟨S4x512, .f32⟩
  | .local _ .vmem, ⟨42, _⟩ => ⟨S4x2048, .f32⟩
  | .local _ .vmem, ⟨43, _⟩ => ⟨S4x2048, .f32⟩
  | .local _ .vmem, ⟨44, _⟩ => ⟨S4x2048, .f32⟩
  | .local _ .vmem, ⟨45, _⟩ => ⟨S4x2048, .f32⟩
  | .local _ .vmem, ⟨46, _⟩ => ⟨S4x2048, .f32⟩
  | .local _ .vmem, ⟨47, _⟩ => ⟨S4x2048, .f32⟩
  | .local _ .vmem, ⟨48, _⟩ => ⟨S4x2048, .f32⟩
  | .local _ .vmem, ⟨49, _⟩ => ⟨S1x2048, .f32⟩
  | .local _ .vmem, ⟨50, _⟩ => ⟨S1x2048, .f32⟩
  | .local _ .vmem, ⟨51, _⟩ => ⟨S1x2048, .f32⟩
  | .local _ .vmem, ⟨52, _⟩ => ⟨S1x2048, .f32⟩
  | .local _ .vmem, ⟨53, _⟩ => ⟨S1x2048, .f32⟩
  | .local _ .vmem, ⟨54, _⟩ => ⟨S1x2048, .f32⟩
  | .local _ .vmem, ⟨55, _⟩ => ⟨S1x2048, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_v0_0 : Ref sig .tc := ⟨.hbm, 32, rfl⟩
abbrev main_v0_1 : Ref sig .tc := ⟨.hbm, 33, rfl⟩
abbrev main_v0_2 : Ref sig .tc := ⟨.hbm, 34, rfl⟩
abbrev main_v1_0 : Ref sig .tc := ⟨.hbm, 35, rfl⟩
abbrev main_v1_1 : Ref sig .tc := ⟨.hbm, 36, rfl⟩
abbrev main_v1_2 : Ref sig .tc := ⟨.hbm, 37, rfl⟩
abbrev main_v2_0 : Ref sig .tc := ⟨.hbm, 38, rfl⟩
abbrev main_v2_1 : Ref sig .tc := ⟨.hbm, 39, rfl⟩
abbrev main_v2_2 : Ref sig .tc := ⟨.hbm, 40, rfl⟩
abbrev main_v3_0 : Ref sig .tc := ⟨.hbm, 41, rfl⟩
abbrev main_v3_1 : Ref sig .tc := ⟨.hbm, 42, rfl⟩
abbrev main_v3_2 : Ref sig .tc := ⟨.hbm, 43, rfl⟩
abbrev main_v4_0 : Ref sig .tc := ⟨.hbm, 44, rfl⟩
abbrev main_v4_1 : Ref sig .tc := ⟨.hbm, 45, rfl⟩
abbrev main_v4_2 : Ref sig .tc := ⟨.hbm, 46, rfl⟩
abbrev main_v5_0 : Ref sig .tc := ⟨.hbm, 47, rfl⟩
abbrev main_v5_1 : Ref sig .tc := ⟨.hbm, 48, rfl⟩
abbrev main_v5_2 : Ref sig .tc := ⟨.hbm, 49, rfl⟩
abbrev main_v6_0 : Ref sig .tc := ⟨.hbm, 50, rfl⟩
abbrev main_v6_1 : Ref sig .tc := ⟨.hbm, 51, rfl⟩
abbrev main_v6_2 : Ref sig .tc := ⟨.hbm, 52, rfl⟩
abbrev main_v7 : Ref sig .tc := ⟨.hbm, 53, rfl⟩
abbrev main_v8 : Ref sig .tc := ⟨.hbm, 54, rfl⟩
abbrev main_v9 : Ref sig .tc := ⟨.hbm, 55, rfl⟩
abbrev main_v10 : Ref sig .tc := ⟨.hbm, 56, rfl⟩
abbrev main_v11_0 : Ref sig .tc := ⟨.hbm, 57, rfl⟩
abbrev main_v11_1 : Ref sig .tc := ⟨.hbm, 58, rfl⟩
abbrev main_v11_2 : Ref sig .tc := ⟨.hbm, 59, rfl⟩
abbrev main_v12 : Ref sig .tc := ⟨.hbm, 60, rfl⟩
abbrev main_v13 : Ref sig .tc := ⟨.hbm, 61, rfl⟩
abbrev main_v14 : Ref sig .tc := ⟨.hbm, 62, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc3_stg0_0 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg6_0 : Ref sig .tc := ⟨.vmem, 27, rfl⟩
abbrev cc4_stg0_0 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg3_0 : Ref sig .tc := ⟨.vmem, 31, rfl⟩
abbrev cc4_stg4_0 : Ref sig .tc := ⟨.vmem, 32, rfl⟩
abbrev cc4_stg5_0 : Ref sig .tc := ⟨.vmem, 33, rfl⟩
abbrev cc4_stg6_0 : Ref sig .tc := ⟨.vmem, 34, rfl⟩
abbrev cc5_stg0_0 : Ref sig .tc := ⟨.vmem, 35, rfl⟩
abbrev cc5_stg1_0 : Ref sig .tc := ⟨.vmem, 36, rfl⟩
abbrev cc5_stg2_0 : Ref sig .tc := ⟨.vmem, 37, rfl⟩
abbrev cc5_stg3_0 : Ref sig .tc := ⟨.vmem, 38, rfl⟩
abbrev cc5_stg4_0 : Ref sig .tc := ⟨.vmem, 39, rfl⟩
abbrev cc5_stg5_0 : Ref sig .tc := ⟨.vmem, 40, rfl⟩
abbrev cc5_stg6_0 : Ref sig .tc := ⟨.vmem, 41, rfl⟩
abbrev cc6_stg0_0 : Ref sig .tc := ⟨.vmem, 42, rfl⟩
abbrev cc6_stg1_0 : Ref sig .tc := ⟨.vmem, 43, rfl⟩
abbrev cc6_stg2_0 : Ref sig .tc := ⟨.vmem, 44, rfl⟩
abbrev cc6_stg3_0 : Ref sig .tc := ⟨.vmem, 45, rfl⟩
abbrev cc6_stg4_0 : Ref sig .tc := ⟨.vmem, 46, rfl⟩
abbrev cc6_stg5_0 : Ref sig .tc := ⟨.vmem, 47, rfl⟩
abbrev cc6_stg6_0 : Ref sig .tc := ⟨.vmem, 48, rfl⟩
abbrev cc7_stg0_0 : Ref sig .tc := ⟨.vmem, 49, rfl⟩
abbrev cc7_stg1_0 : Ref sig .tc := ⟨.vmem, 50, rfl⟩
abbrev cc7_stg2_0 : Ref sig .tc := ⟨.vmem, 51, rfl⟩
abbrev cc7_stg3_0 : Ref sig .tc := ⟨.vmem, 52, rfl⟩
abbrev cc7_stg4_0 : Ref sig .tc := ⟨.vmem, 53, rfl⟩
abbrev cc7_stg5_0 : Ref sig .tc := ⟨.vmem, 54, rfl⟩
abbrev cc7_stg6_0 : Ref sig .tc := ⟨.vmem, 55, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc2_sem0_0 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc3_sem0_0 : DmaSem sig := 21
abbrev cc3_sem1_0 : DmaSem sig := 22
abbrev cc3_sem2_0 : DmaSem sig := 23
abbrev cc3_sem3_0 : DmaSem sig := 24
abbrev cc3_sem4_0 : DmaSem sig := 25
abbrev cc3_sem5_0 : DmaSem sig := 26
abbrev cc3_sem6_0 : DmaSem sig := 27
abbrev cc4_sem0_0 : DmaSem sig := 28
abbrev cc4_sem1_0 : DmaSem sig := 29
abbrev cc4_sem2_0 : DmaSem sig := 30
abbrev cc4_sem3_0 : DmaSem sig := 31
abbrev cc4_sem4_0 : DmaSem sig := 32
abbrev cc4_sem5_0 : DmaSem sig := 33
abbrev cc4_sem6_0 : DmaSem sig := 34
abbrev cc5_sem0_0 : DmaSem sig := 35
abbrev cc5_sem1_0 : DmaSem sig := 36
abbrev cc5_sem2_0 : DmaSem sig := 37
abbrev cc5_sem3_0 : DmaSem sig := 38
abbrev cc5_sem4_0 : DmaSem sig := 39
abbrev cc5_sem5_0 : DmaSem sig := 40
abbrev cc5_sem6_0 : DmaSem sig := 41
abbrev cc6_sem0_0 : DmaSem sig := 42
abbrev cc6_sem1_0 : DmaSem sig := 43
abbrev cc6_sem2_0 : DmaSem sig := 44
abbrev cc6_sem3_0 : DmaSem sig := 45
abbrev cc6_sem4_0 : DmaSem sig := 46
abbrev cc6_sem5_0 : DmaSem sig := 47
abbrev cc6_sem6_0 : DmaSem sig := 48
abbrev cc7_sem0_0 : DmaSem sig := 49
abbrev cc7_sem1_0 : DmaSem sig := 50
abbrev cc7_sem2_0 : DmaSem sig := 51
abbrev cc7_sem3_0 : DmaSem sig := 52
abbrev cc7_sem4_0 : DmaSem sig := 53
abbrev cc7_sem5_0 : DmaSem sig := 54
abbrev cc7_sem6_0 : DmaSem sig := 55

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S4x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S4x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S4x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S4x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S4x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S4x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S4x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S4x256 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S4x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true]

abbrev stage2_2 : Fin 1 → Memref sig .tc .vmem S4x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true]

abbrev stage2_3 : Fin 1 → Memref sig .tc .vmem S4x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true]

abbrev stage2_4 : Fin 1 → Memref sig .tc .vmem S4x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![true]

abbrev stage2_5 : Fin 1 → Memref sig .tc .vmem S4x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![true]

abbrev stage2_6 : Fin 1 → Memref sig .tc .vmem S4x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S4x1024 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S4x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true]

abbrev stage3_2 : Fin 1 → Memref sig .tc .vmem S4x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true]

abbrev stage3_3 : Fin 1 → Memref sig .tc .vmem S4x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true]

abbrev stage3_4 : Fin 1 → Memref sig .tc .vmem S4x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![true]

abbrev stage3_5 : Fin 1 → Memref sig .tc .vmem S4x1024 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![true]

abbrev stage3_6 : Fin 1 → Memref sig .tc .vmem S4x1024 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 1 → Memref sig .tc .vmem S4x512 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true]

abbrev stage4_1 : Fin 1 → Memref sig .tc .vmem S4x512 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![true]

abbrev stage4_2 : Fin 1 → Memref sig .tc .vmem S4x512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true]

abbrev stage4_3 : Fin 1 → Memref sig .tc .vmem S4x512 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![true]

abbrev stage4_4 : Fin 1 → Memref sig .tc .vmem S4x512 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![true]

abbrev stage4_5 : Fin 1 → Memref sig .tc .vmem S4x512 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![true]

abbrev stage4_6 : Fin 1 → Memref sig .tc .vmem S4x512 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 1 → Memref sig .tc .vmem S4x512 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true]

abbrev stage5_1 : Fin 1 → Memref sig .tc .vmem S4x512 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![true]

abbrev stage5_2 : Fin 1 → Memref sig .tc .vmem S4x512 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true]

abbrev stage5_3 : Fin 1 → Memref sig .tc .vmem S4x512 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![true]

abbrev stage5_4 : Fin 1 → Memref sig .tc .vmem S4x512 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![true]

abbrev stage5_5 : Fin 1 → Memref sig .tc .vmem S4x512 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![true]

abbrev stage5_6 : Fin 1 → Memref sig .tc .vmem S4x512 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 1 → Memref sig .tc .vmem S4x2048 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true]

abbrev stage6_1 : Fin 1 → Memref sig .tc .vmem S4x2048 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![true]

abbrev stage6_2 : Fin 1 → Memref sig .tc .vmem S4x2048 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![true]

abbrev stage6_3 : Fin 1 → Memref sig .tc .vmem S4x2048 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![true]

abbrev stage6_4 : Fin 1 → Memref sig .tc .vmem S4x2048 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![true]

abbrev stage6_5 : Fin 1 → Memref sig .tc .vmem S4x2048 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![true]

abbrev stage6_6 : Fin 1 → Memref sig .tc .vmem S4x2048 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![true]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 1 → Memref sig .tc .vmem S1x2048 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true]

abbrev stage7_1 : Fin 1 → Memref sig .tc .vmem S1x2048 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![true]

abbrev stage7_2 : Fin 1 → Memref sig .tc .vmem S1x2048 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![true]

abbrev stage7_3 : Fin 1 → Memref sig .tc .vmem S1x2048 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![true]

abbrev stage7_4 : Fin 1 → Memref sig .tc .vmem S1x2048 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![true]

abbrev stage7_5 : Fin 1 → Memref sig .tc .vmem S1x2048 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![true]

abbrev stage7_6 : Fin 1 → Memref sig .tc .vmem S1x2048 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![true]
-- ==== Reference4Ideal.lean ====
abbrev S4x2048 : Shape := ⟨2, ![4, 2048]⟩
abbrev S4x512 : Shape := ⟨2, ![4, 512]⟩
abbrev S4x256 : Shape := ⟨2, ![4, 256]⟩
abbrev S4x1024 : Shape := ⟨2, ![4, 1024]⟩
abbrev S2048 : Shape := ⟨1, ![2048]⟩
abbrev S_ : Shape := ⟨0, ![]⟩

abbrev nBuf : Space → Nat
  | .hbm => 296
  | .vmem => 0
  | .smem => 0
  | _ => 0

abbrev hbmTy0_0 (i : Nat) : BufTy := match i % 128 with
  | 0 => ⟨S4x2048, .f32⟩
  | 1 => ⟨S4x512, .f32⟩
  | 2 => ⟨S4x256, .f32⟩
  | 3 => ⟨S4x1024, .f32⟩
  | 4 => ⟨S4x512, .f32⟩
  | 5 => ⟨S4x512, .f32⟩
  | 6 => ⟨S4x2048, .f32⟩
  | 7 => ⟨S2048, .f32⟩
  | 8 => ⟨S4x2048, .f32⟩
  | 9 => ⟨S4x512, .f32⟩
  | 10 => ⟨S4x256, .f32⟩
  | 11 => ⟨S4x1024, .f32⟩
  | 12 => ⟨S4x512, .f32⟩
  | 13 => ⟨S4x512, .f32⟩
  | 14 => ⟨S4x2048, .f32⟩
  | 15 => ⟨S2048, .f32⟩
  | 16 => ⟨S4x2048, .f32⟩
  | 17 => ⟨S4x512, .f32⟩
  | 18 => ⟨S4x256, .f32⟩
  | 19 => ⟨S4x1024, .f32⟩
  | 20 => ⟨S4x512, .f32⟩
  | 21 => ⟨S4x512, .f32⟩
  | 22 => ⟨S4x2048, .f32⟩
  | 23 => ⟨S2048, .f32⟩
  | 24 => ⟨S4x2048, .f32⟩
  | 25 => ⟨S4x512, .f32⟩
  | 26 => ⟨S4x256, .f32⟩
  | 27 => ⟨S4x1024, .f32⟩
  | 28 => ⟨S4x512, .f32⟩
  | 29 => ⟨S4x512, .f32⟩
  | 30 => ⟨S4x2048, .f32⟩
  | 31 => ⟨S2048, .f32⟩
  | 32 => ⟨S_, .f32⟩
  | 33 => ⟨S4x2048, .f32⟩
  | 34 => ⟨S4x2048, .f32⟩
  | 35 => ⟨S_, .f32⟩
  | 36 => ⟨S4x2048, .f32⟩
  | 37 => ⟨S4x2048, .f32⟩
  | 38 => ⟨S4x2048, .f32⟩
  | 39 => ⟨S_, .f32⟩
  | 40 => ⟨S4x2048, .f32⟩
  | 41 => ⟨S4x2048, .f32⟩
  | 42 => ⟨S4x2048, .f32⟩
  | 43 => ⟨S_, .f32⟩
  | 44 => ⟨S4x2048, .f32⟩
  | 45 => ⟨S4x2048, .f32⟩
  | 46 => ⟨S4x2048, .f32⟩
  | 47 => ⟨S_, .f32⟩
  | 48 => ⟨S4x2048, .f32⟩
  | 49 => ⟨S4x2048, .f32⟩
  | 50 => ⟨S_, .f32⟩
  | 51 => ⟨S4x2048, .f32⟩
  | 52 => ⟨S4x2048, .f32⟩
  | 53 => ⟨S4x2048, .f32⟩
  | 54 => ⟨S_, .f32⟩
  | 55 => ⟨S4x2048, .f32⟩
  | 56 => ⟨S4x2048, .f32⟩
  | 57 => ⟨S4x2048, .f32⟩
  | 58 => ⟨S_, .f32⟩
  | 59 => ⟨S4x2048, .f32⟩
  | 60 => ⟨S4x2048, .f32⟩
  | 61 => ⟨S4x2048, .f32⟩
  | 62 => ⟨S_, .f32⟩
  | 63 => ⟨S4x2048, .f32⟩
  | 64 => ⟨S4x2048, .f32⟩
  | 65 => ⟨S_, .f32⟩
  | 66 => ⟨S4x512, .f32⟩
  | 67 => ⟨S4x512, .f32⟩
  | 68 => ⟨S_, .f32⟩
  | 69 => ⟨S4x512, .f32⟩
  | 70 => ⟨S4x512, .f32⟩
  | 71 => ⟨S4x512, .f32⟩
  | 72 => ⟨S_, .f32⟩
  | 73 => ⟨S4x512, .f32⟩
  | 74 => ⟨S4x512, .f32⟩
  | 75 => ⟨S4x512, .f32⟩
  | 76 => ⟨S_, .f32⟩
  | 77 => ⟨S4x512, .f32⟩
  | 78 => ⟨S4x512, .f32⟩
  | 79 => ⟨S4x512, .f32⟩
  | 80 => ⟨S_, .f32⟩
  | 81 => ⟨S4x512, .f32⟩
  | 82 => ⟨S4x512, .f32⟩
  | 83 => ⟨S_, .f32⟩
  | 84 => ⟨S4x512, .f32⟩
  | 85 => ⟨S4x512, .f32⟩
  | 86 => ⟨S4x512, .f32⟩
  | 87 => ⟨S_, .f32⟩
  | 88 => ⟨S4x512, .f32⟩
  | 89 => ⟨S4x512, .f32⟩
  | 90 => ⟨S4x512, .f32⟩
  | 91 => ⟨S_, .f32⟩
  | 92 => ⟨S4x512, .f32⟩
  | 93 => ⟨S4x512, .f32⟩
  | 94 => ⟨S4x512, .f32⟩
  | 95 => ⟨S_, .f32⟩
  | 96 => ⟨S4x512, .f32⟩
  | 97 => ⟨S4x512, .f32⟩
  | 98 => ⟨S_, .f32⟩
  | 99 => ⟨S4x256, .f32⟩
  | 100 => ⟨S4x256, .f32⟩
  | 101 => ⟨S_, .f32⟩
  | 102 => ⟨S4x256, .f32⟩
  | 103 => ⟨S4x256, .f32⟩
  | 104 => ⟨S4x256, .f32⟩
  | 105 => ⟨S_, .f32⟩
  | 106 => ⟨S4x256, .f32⟩
  | 107 => ⟨S4x256, .f32⟩
  | 108 => ⟨S4x256, .f32⟩
  | 109 => ⟨S_, .f32⟩
  | 110 => ⟨S4x256, .f32⟩
  | 111 => ⟨S4x256, .f32⟩
  | 112 => ⟨S4x256, .f32⟩
  | 113 => ⟨S_, .f32⟩
  | 114 => ⟨S4x256, .f32⟩
  | 115 => ⟨S4x256, .f32⟩
  | 116 => ⟨S_, .f32⟩
  | 117 => ⟨S4x256, .f32⟩
  | 118 => ⟨S4x256, .f32⟩
  | 119 => ⟨S4x256, .f32⟩
  | 120 => ⟨S_, .f32⟩
  | 121 => ⟨S4x256, .f32⟩
  | 122 => ⟨S4x256, .f32⟩
  | 123 => ⟨S4x256, .f32⟩
  | 124 => ⟨S_, .f32⟩
  | 125 => ⟨S4x256, .f32⟩
  | 126 => ⟨S4x256, .f32⟩
  | 127 => ⟨S4x256, .f32⟩
  | _ => ⟨S4x2048, .f32⟩

abbrev hbmTy0_1 (i : Nat) : BufTy := match i % 128 with
  | 0 => ⟨S_, .f32⟩
  | 1 => ⟨S4x256, .f32⟩
  | 2 => ⟨S4x256, .f32⟩
  | 3 => ⟨S_, .f32⟩
  | 4 => ⟨S4x1024, .f32⟩
  | 5 => ⟨S4x1024, .f32⟩
  | 6 => ⟨S_, .f32⟩
  | 7 => ⟨S4x1024, .f32⟩
  | 8 => ⟨S4x1024, .f32⟩
  | 9 => ⟨S4x1024, .f32⟩
  | 10 => ⟨S_, .f32⟩
  | 11 => ⟨S4x1024, .f32⟩
  | 12 => ⟨S4x1024, .f32⟩
  | 13 => ⟨S4x1024, .f32⟩
  | 14 => ⟨S_, .f32⟩
  | 15 => ⟨S4x1024, .f32⟩
  | 16 => ⟨S4x1024, .f32⟩
  | 17 => ⟨S4x1024, .f32⟩
  | 18 => ⟨S_, .f32⟩
  | 19 => ⟨S4x1024, .f32⟩
  | 20 => ⟨S4x1024, .f32⟩
  | 21 => ⟨S_, .f32⟩
  | 22 => ⟨S4x1024, .f32⟩
  | 23 => ⟨S4x1024, .f32⟩
  | 24 => ⟨S4x1024, .f32⟩
  | 25 => ⟨S_, .f32⟩
  | 26 => ⟨S4x1024, .f32⟩
  | 27 => ⟨S4x1024, .f32⟩
  | 28 => ⟨S4x1024, .f32⟩
  | 29 => ⟨S_, .f32⟩
  | 30 => ⟨S4x1024, .f32⟩
  | 31 => ⟨S4x1024, .f32⟩
  | 32 => ⟨S4x1024, .f32⟩
  | 33 => ⟨S_, .f32⟩
  | 34 => ⟨S4x1024, .f32⟩
  | 35 => ⟨S4x1024, .f32⟩
  | 36 => ⟨S_, .f32⟩
  | 37 => ⟨S4x512, .f32⟩
  | 38 => ⟨S4x512, .f32⟩
  | 39 => ⟨S_, .f32⟩
  | 40 => ⟨S4x512, .f32⟩
  | 41 => ⟨S4x512, .f32⟩
  | 42 => ⟨S4x512, .f32⟩
  | 43 => ⟨S_, .f32⟩
  | 44 => ⟨S4x512, .f32⟩
  | 45 => ⟨S4x512, .f32⟩
  | 46 => ⟨S4x512, .f32⟩
  | 47 => ⟨S_, .f32⟩
  | 48 => ⟨S4x512, .f32⟩
  | 49 => ⟨S4x512, .f32⟩
  | 50 => ⟨S4x512, .f32⟩
  | 51 => ⟨S_, .f32⟩
  | 52 => ⟨S4x512, .f32⟩
  | 53 => ⟨S4x512, .f32⟩
  | 54 => ⟨S_, .f32⟩
  | 55 => ⟨S4x512, .f32⟩
  | 56 => ⟨S4x512, .f32⟩
  | 57 => ⟨S4x512, .f32⟩
  | 58 => ⟨S_, .f32⟩
  | 59 => ⟨S4x512, .f32⟩
  | 60 => ⟨S4x512, .f32⟩
  | 61 => ⟨S4x512, .f32⟩
  | 62 => ⟨S_, .f32⟩
  | 63 => ⟨S4x512, .f32⟩
  | 64 => ⟨S4x512, .f32⟩
  | 65 => ⟨S4x512, .f32⟩
  | 66 => ⟨S_, .f32⟩
  | 67 => ⟨S4x512, .f32⟩
  | 68 => ⟨S4x512, .f32⟩
  | 69 => ⟨S_, .f32⟩
  | 70 => ⟨S4x512, .f32⟩
  | 71 => ⟨S4x512, .f32⟩
  | 72 => ⟨S_, .f32⟩
  | 73 => ⟨S4x512, .f32⟩
  | 74 => ⟨S4x512, .f32⟩
  | 75 => ⟨S4x512, .f32⟩
  | 76 => ⟨S_, .f32⟩
  | 77 => ⟨S4x512, .f32⟩
  | 78 => ⟨S4x512, .f32⟩
  | 79 => ⟨S4x512, .f32⟩
  | 80 => ⟨S_, .f32⟩
  | 81 => ⟨S4x512, .f32⟩
  | 82 => ⟨S4x512, .f32⟩
  | 83 => ⟨S4x512, .f32⟩
  | 84 => ⟨S_, .f32⟩
  | 85 => ⟨S4x512, .f32⟩
  | 86 => ⟨S4x512, .f32⟩
  | 87 => ⟨S_, .f32⟩
  | 88 => ⟨S4x512, .f32⟩
  | 89 => ⟨S4x512, .f32⟩
  | 90 => ⟨S4x512, .f32⟩
  | 91 => ⟨S_, .f32⟩
  | 92 => ⟨S4x512, .f32⟩
  | 93 => ⟨S4x512, .f32⟩
  | 94 => ⟨S4x512, .f32⟩
  | 95 => ⟨S_, .f32⟩
  | 96 => ⟨S4x512, .f32⟩
  | 97 => ⟨S4x512, .f32⟩
  | 98 => ⟨S4x512, .f32⟩
  | 99 => ⟨S_, .f32⟩
  | 100 => ⟨S4x512, .f32⟩
  | 101 => ⟨S4x512, .f32⟩
  | 102 => ⟨S_, .f32⟩
  | 103 => ⟨S4x2048, .f32⟩
  | 104 => ⟨S4x2048, .f32⟩
  | 105 => ⟨S_, .f32⟩
  | 106 => ⟨S4x2048, .f32⟩
  | 107 => ⟨S4x2048, .f32⟩
  | 108 => ⟨S4x2048, .f32⟩
  | 109 => ⟨S_, .f32⟩
  | 110 => ⟨S4x2048, .f32⟩
  | 111 => ⟨S4x2048, .f32⟩
  | 112 => ⟨S4x2048, .f32⟩
  | 113 => ⟨S_, .f32⟩
  | 114 => ⟨S4x2048, .f32⟩
  | 115 => ⟨S4x2048, .f32⟩
  | 116 => ⟨S4x2048, .f32⟩
  | 117 => ⟨S_, .f32⟩
  | 118 => ⟨S4x2048, .f32⟩
  | 119 => ⟨S4x2048, .f32⟩
  | 120 => ⟨S_, .f32⟩
  | 121 => ⟨S4x2048, .f32⟩
  | 122 => ⟨S4x2048, .f32⟩
  | 123 => ⟨S4x2048, .f32⟩
  | 124 => ⟨S_, .f32⟩
  | 125 => ⟨S4x2048, .f32⟩
  | 126 => ⟨S4x2048, .f32⟩
  | 127 => ⟨S4x2048, .f32⟩
  | _ => ⟨S4x2048, .f32⟩

abbrev hbmTy0_2 (i : Nat) : BufTy := match i % 128 with
  | 0 => ⟨S_, .f32⟩
  | 1 => ⟨S4x2048, .f32⟩
  | 2 => ⟨S4x2048, .f32⟩
  | 3 => ⟨S4x2048, .f32⟩
  | 4 => ⟨S_, .f32⟩
  | 5 => ⟨S4x2048, .f32⟩
  | 6 => ⟨S4x2048, .f32⟩
  | 7 => ⟨S_, .f32⟩
  | 8 => ⟨S2048, .f32⟩
  | 9 => ⟨S2048, .f32⟩
  | 10 => ⟨S_, .f32⟩
  | 11 => ⟨S2048, .f32⟩
  | 12 => ⟨S2048, .f32⟩
  | 13 => ⟨S2048, .f32⟩
  | 14 => ⟨S_, .f32⟩
  | 15 => ⟨S2048, .f32⟩
  | 16 => ⟨S2048, .f32⟩
  | 17 => ⟨S2048, .f32⟩
  | 18 => ⟨S_, .f32⟩
  | 19 => ⟨S2048, .f32⟩
  | 20 => ⟨S2048, .f32⟩
  | 21 => ⟨S2048, .f32⟩
  | 22 => ⟨S_, .f32⟩
  | 23 => ⟨S2048, .f32⟩
  | 24 => ⟨S2048, .f32⟩
  | 25 => ⟨S_, .f32⟩
  | 26 => ⟨S2048, .f32⟩
  | 27 => ⟨S2048, .f32⟩
  | 28 => ⟨S2048, .f32⟩
  | 29 => ⟨S_, .f32⟩
  | 30 => ⟨S2048, .f32⟩
  | 31 => ⟨S2048, .f32⟩
  | 32 => ⟨S2048, .f32⟩
  | 33 => ⟨S_, .f32⟩
  | 34 => ⟨S2048, .f32⟩
  | 35 => ⟨S2048, .f32⟩
  | 36 => ⟨S2048, .f32⟩
  | 37 => ⟨S_, .f32⟩
  | 38 => ⟨S2048, .f32⟩
  | 39 => ⟨S2048, .f32⟩
  | _ => ⟨S4x2048, .f32⟩

abbrev hbmTy (i : Nat) : BufTy := match i / 128 with
  | 0 => hbmTy0_0 i
  | 1 => hbmTy0_1 i
  | 2 => hbmTy0_2 i
  | _ => ⟨S4x2048, .f32⟩

abbrev bufTy : (tb : Table) → Fin (tcTables nBuf tb) → BufTy
  | .hbm, ⟨i, _⟩ => hbmTy i
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_cst : Ref sig .tc := ⟨.hbm, 32, rfl⟩
abbrev main_v0 : Ref sig .tc := ⟨.hbm, 33, rfl⟩
abbrev main_v1 : Ref sig .tc := ⟨.hbm, 34, rfl⟩
abbrev main_cst_0 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_cst_1 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_cst_2 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_cst_3 : Ref sig .tc := ⟨.hbm, 47, rfl⟩
abbrev main_v11 : Ref sig .tc := ⟨.hbm, 48, rfl⟩
abbrev main_v12 : Ref sig .tc := ⟨.hbm, 49, rfl⟩
abbrev main_cst_4 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_cst_5 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_cst_6 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_cst_7 : Ref sig .tc := ⟨.hbm, 62, rfl⟩
abbrev main_v22 : Ref sig .tc := ⟨.hbm, 63, rfl⟩
abbrev main_v23 : Ref sig .tc := ⟨.hbm, 64, rfl⟩
abbrev main_cst_8 : Ref sig .tc := ⟨.hbm, 65, rfl⟩
abbrev main_v24 : Ref sig .tc := ⟨.hbm, 66, rfl⟩
abbrev main_v25 : Ref sig .tc := ⟨.hbm, 67, rfl⟩
abbrev main_cst_9 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_cst_10 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_cst_11 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_cst_12 : Ref sig .tc := ⟨.hbm, 80, rfl⟩
abbrev main_v35 : Ref sig .tc := ⟨.hbm, 81, rfl⟩
abbrev main_v36 : Ref sig .tc := ⟨.hbm, 82, rfl⟩
abbrev main_cst_13 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_cst_14 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_cst_15 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_cst_16 : Ref sig .tc := ⟨.hbm, 95, rfl⟩
abbrev main_v46 : Ref sig .tc := ⟨.hbm, 96, rfl⟩
abbrev main_v47 : Ref sig .tc := ⟨.hbm, 97, rfl⟩
abbrev main_cst_17 : Ref sig .tc := ⟨.hbm, 98, rfl⟩
abbrev main_v48 : Ref sig .tc := ⟨.hbm, 99, rfl⟩
abbrev main_v49 : Ref sig .tc := ⟨.hbm, 100, rfl⟩
abbrev main_cst_18 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_cst_19 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_cst_20 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_cst_21 : Ref sig .tc := ⟨.hbm, 113, rfl⟩
abbrev main_v59 : Ref sig .tc := ⟨.hbm, 114, rfl⟩
abbrev main_v60 : Ref sig .tc := ⟨.hbm, 115, rfl⟩
abbrev main_cst_22 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_cst_23 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_cst_24 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_cst_25 : Ref sig .tc := ⟨.hbm, 128, rfl⟩
abbrev main_v70 : Ref sig .tc := ⟨.hbm, 129, rfl⟩
abbrev main_v71 : Ref sig .tc := ⟨.hbm, 130, rfl⟩
abbrev main_cst_26 : Ref sig .tc := ⟨.hbm, 131, rfl⟩
abbrev main_v72 : Ref sig .tc := ⟨.hbm, 132, rfl⟩
abbrev main_v73 : Ref sig .tc := ⟨.hbm, 133, rfl⟩
abbrev main_cst_27 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_cst_28 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_cst_29 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_cst_30 : Ref sig .tc := ⟨.hbm, 146, rfl⟩
abbrev main_v83 : Ref sig .tc := ⟨.hbm, 147, rfl⟩
abbrev main_v84 : Ref sig .tc := ⟨.hbm, 148, rfl⟩
abbrev main_cst_31 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_cst_32 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_cst_33 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_cst_34 : Ref sig .tc := ⟨.hbm, 161, rfl⟩
abbrev main_v94 : Ref sig .tc := ⟨.hbm, 162, rfl⟩
abbrev main_v95 : Ref sig .tc := ⟨.hbm, 163, rfl⟩
abbrev main_cst_35 : Ref sig .tc := ⟨.hbm, 164, rfl⟩
abbrev main_v96 : Ref sig .tc := ⟨.hbm, 165, rfl⟩
abbrev main_v97 : Ref sig .tc := ⟨.hbm, 166, rfl⟩
abbrev main_cst_36 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_cst_37 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_cst_38 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_cst_39 : Ref sig .tc := ⟨.hbm, 179, rfl⟩
abbrev main_v107 : Ref sig .tc := ⟨.hbm, 180, rfl⟩
abbrev main_v108 : Ref sig .tc := ⟨.hbm, 181, rfl⟩
abbrev main_cst_40 : Ref sig .tc := ⟨.hbm, 182, rfl⟩
abbrev main_v109 : Ref sig .tc := ⟨.hbm, 183, rfl⟩
abbrev main_v110 : Ref sig .tc := ⟨.hbm, 184, rfl⟩
abbrev main_v111 : Ref sig .tc := ⟨.hbm, 185, rfl⟩
abbrev main_cst_41 : Ref sig .tc := ⟨.hbm, 186, rfl⟩
abbrev main_v112 : Ref sig .tc := ⟨.hbm, 187, rfl⟩
abbrev main_v113 : Ref sig .tc := ⟨.hbm, 188, rfl⟩
abbrev main_v114 : Ref sig .tc := ⟨.hbm, 189, rfl⟩
abbrev main_cst_42 : Ref sig .tc := ⟨.hbm, 190, rfl⟩
abbrev main_v115 : Ref sig .tc := ⟨.hbm, 191, rfl⟩
abbrev main_v116 : Ref sig .tc := ⟨.hbm, 192, rfl⟩
abbrev main_v117 : Ref sig .tc := ⟨.hbm, 193, rfl⟩
abbrev main_cst_43 : Ref sig .tc := ⟨.hbm, 194, rfl⟩
abbrev main_v118 : Ref sig .tc := ⟨.hbm, 195, rfl⟩
abbrev main_v119 : Ref sig .tc := ⟨.hbm, 196, rfl⟩
abbrev main_cst_44 : Ref sig .tc := ⟨.hbm, 197, rfl⟩
abbrev main_v120 : Ref sig .tc := ⟨.hbm, 198, rfl⟩
abbrev main_v121 : Ref sig .tc := ⟨.hbm, 199, rfl⟩
abbrev main_cst_45 : Ref sig .tc := ⟨.hbm, 200, rfl⟩
abbrev main_v122 : Ref sig .tc := ⟨.hbm, 201, rfl⟩
abbrev main_v123 : Ref sig .tc := ⟨.hbm, 202, rfl⟩
abbrev main_v124 : Ref sig .tc := ⟨.hbm, 203, rfl⟩
abbrev main_cst_46 : Ref sig .tc := ⟨.hbm, 204, rfl⟩
abbrev main_v125 : Ref sig .tc := ⟨.hbm, 205, rfl⟩
abbrev main_v126 : Ref sig .tc := ⟨.hbm, 206, rfl⟩
abbrev main_v127 : Ref sig .tc := ⟨.hbm, 207, rfl⟩
abbrev main_cst_47 : Ref sig .tc := ⟨.hbm, 208, rfl⟩
abbrev main_v128 : Ref sig .tc := ⟨.hbm, 209, rfl⟩
abbrev main_v129 : Ref sig .tc := ⟨.hbm, 210, rfl⟩
abbrev main_v130 : Ref sig .tc := ⟨.hbm, 211, rfl⟩
abbrev main_cst_48 : Ref sig .tc := ⟨.hbm, 212, rfl⟩
abbrev main_v131 : Ref sig .tc := ⟨.hbm, 213, rfl⟩
abbrev main_v132 : Ref sig .tc := ⟨.hbm, 214, rfl⟩
abbrev main_cst_49 : Ref sig .tc := ⟨.hbm, 215, rfl⟩
abbrev main_v133 : Ref sig .tc := ⟨.hbm, 216, rfl⟩
abbrev main_v134 : Ref sig .tc := ⟨.hbm, 217, rfl⟩
abbrev main_v135 : Ref sig .tc := ⟨.hbm, 218, rfl⟩
abbrev main_cst_50 : Ref sig .tc := ⟨.hbm, 219, rfl⟩
abbrev main_v136 : Ref sig .tc := ⟨.hbm, 220, rfl⟩
abbrev main_v137 : Ref sig .tc := ⟨.hbm, 221, rfl⟩
abbrev main_v138 : Ref sig .tc := ⟨.hbm, 222, rfl⟩
abbrev main_cst_51 : Ref sig .tc := ⟨.hbm, 223, rfl⟩
abbrev main_v139 : Ref sig .tc := ⟨.hbm, 224, rfl⟩
abbrev main_v140 : Ref sig .tc := ⟨.hbm, 225, rfl⟩
abbrev main_v141 : Ref sig .tc := ⟨.hbm, 226, rfl⟩
abbrev main_cst_52 : Ref sig .tc := ⟨.hbm, 227, rfl⟩
abbrev main_v142 : Ref sig .tc := ⟨.hbm, 228, rfl⟩
abbrev main_v143 : Ref sig .tc := ⟨.hbm, 229, rfl⟩
abbrev main_cst_53 : Ref sig .tc := ⟨.hbm, 230, rfl⟩
abbrev main_v144 : Ref sig .tc := ⟨.hbm, 231, rfl⟩
abbrev main_v145 : Ref sig .tc := ⟨.hbm, 232, rfl⟩
abbrev main_cst_54 : Ref sig .tc := ⟨.hbm, 233, rfl⟩
abbrev main_v146 : Ref sig .tc := ⟨.hbm, 234, rfl⟩
abbrev main_v147 : Ref sig .tc := ⟨.hbm, 235, rfl⟩
abbrev main_v148 : Ref sig .tc := ⟨.hbm, 236, rfl⟩
abbrev main_cst_55 : Ref sig .tc := ⟨.hbm, 237, rfl⟩
abbrev main_v149 : Ref sig .tc := ⟨.hbm, 238, rfl⟩
abbrev main_v150 : Ref sig .tc := ⟨.hbm, 239, rfl⟩
abbrev main_v151 : Ref sig .tc := ⟨.hbm, 240, rfl⟩
abbrev main_cst_56 : Ref sig .tc := ⟨.hbm, 241, rfl⟩
abbrev main_v152 : Ref sig .tc := ⟨.hbm, 242, rfl⟩
abbrev main_v153 : Ref sig .tc := ⟨.hbm, 243, rfl⟩
abbrev main_v154 : Ref sig .tc := ⟨.hbm, 244, rfl⟩
abbrev main_cst_57 : Ref sig .tc := ⟨.hbm, 245, rfl⟩
abbrev main_v155 : Ref sig .tc := ⟨.hbm, 246, rfl⟩
abbrev main_v156 : Ref sig .tc := ⟨.hbm, 247, rfl⟩
abbrev main_cst_58 : Ref sig .tc := ⟨.hbm, 248, rfl⟩
abbrev main_v157 : Ref sig .tc := ⟨.hbm, 249, rfl⟩
abbrev main_v158 : Ref sig .tc := ⟨.hbm, 250, rfl⟩
abbrev main_v159 : Ref sig .tc := ⟨.hbm, 251, rfl⟩
abbrev main_cst_59 : Ref sig .tc := ⟨.hbm, 252, rfl⟩
abbrev main_v160 : Ref sig .tc := ⟨.hbm, 253, rfl⟩
abbrev main_v161 : Ref sig .tc := ⟨.hbm, 254, rfl⟩
abbrev main_v162 : Ref sig .tc := ⟨.hbm, 255, rfl⟩
abbrev main_cst_60 : Ref sig .tc := ⟨.hbm, 256, rfl⟩
abbrev main_v163 : Ref sig .tc := ⟨.hbm, 257, rfl⟩
abbrev main_v164 : Ref sig .tc := ⟨.hbm, 258, rfl⟩
abbrev main_v165 : Ref sig .tc := ⟨.hbm, 259, rfl⟩
abbrev main_cst_61 : Ref sig .tc := ⟨.hbm, 260, rfl⟩
abbrev main_v166 : Ref sig .tc := ⟨.hbm, 261, rfl⟩
abbrev main_v167 : Ref sig .tc := ⟨.hbm, 262, rfl⟩
abbrev main_cst_62 : Ref sig .tc := ⟨.hbm, 263, rfl⟩
abbrev main_v168 : Ref sig .tc := ⟨.hbm, 264, rfl⟩
abbrev main_v169 : Ref sig .tc := ⟨.hbm, 265, rfl⟩
abbrev main_cst_63 : Ref sig .tc := ⟨.hbm, 266, rfl⟩
abbrev main_v170 : Ref sig .tc := ⟨.hbm, 267, rfl⟩
abbrev main_v171 : Ref sig .tc := ⟨.hbm, 268, rfl⟩
abbrev main_v172 : Ref sig .tc := ⟨.hbm, 269, rfl⟩
abbrev main_cst_64 : Ref sig .tc := ⟨.hbm, 270, rfl⟩
abbrev main_v173 : Ref sig .tc := ⟨.hbm, 271, rfl⟩
abbrev main_v174 : Ref sig .tc := ⟨.hbm, 272, rfl⟩
abbrev main_v175 : Ref sig .tc := ⟨.hbm, 273, rfl⟩
abbrev main_cst_65 : Ref sig .tc := ⟨.hbm, 274, rfl⟩
abbrev main_v176 : Ref sig .tc := ⟨.hbm, 275, rfl⟩
abbrev main_v177 : Ref sig .tc := ⟨.hbm, 276, rfl⟩
abbrev main_v178 : Ref sig .tc := ⟨.hbm, 277, rfl⟩
abbrev main_cst_66 : Ref sig .tc := ⟨.hbm, 278, rfl⟩
abbrev main_v179 : Ref sig .tc := ⟨.hbm, 279, rfl⟩
abbrev main_v180 : Ref sig .tc := ⟨.hbm, 280, rfl⟩
abbrev main_cst_67 : Ref sig .tc := ⟨.hbm, 281, rfl⟩
abbrev main_v181 : Ref sig .tc := ⟨.hbm, 282, rfl⟩
abbrev main_v182 : Ref sig .tc := ⟨.hbm, 283, rfl⟩
abbrev main_v183 : Ref sig .tc := ⟨.hbm, 284, rfl⟩
abbrev main_cst_68 : Ref sig .tc := ⟨.hbm, 285, rfl⟩
abbrev main_v184 : Ref sig .tc := ⟨.hbm, 286, rfl⟩
abbrev main_v185 : Ref sig .tc := ⟨.hbm, 287, rfl⟩
abbrev main_v186 : Ref sig .tc := ⟨.hbm, 288, rfl⟩
abbrev main_cst_69 : Ref sig .tc := ⟨.hbm, 289, rfl⟩
abbrev main_v187 : Ref sig .tc := ⟨.hbm, 290, rfl⟩
abbrev main_v188 : Ref sig .tc := ⟨.hbm, 291, rfl⟩
abbrev main_v189 : Ref sig .tc := ⟨.hbm, 292, rfl⟩
abbrev main_cst_70 : Ref sig .tc := ⟨.hbm, 293, rfl⟩
abbrev main_v190 : Ref sig .tc := ⟨.hbm, 294, rfl⟩
abbrev main_v191 : Ref sig .tc := ⟨.hbm, 295, rfl⟩

abbrev nD : Nat := 1
abbrev τ : Topo := Topo.v7x

variable {F : FTy → Type} [FloatOps F]
-- ==== Kernel5.lean ====
abbrev S2048x512 : Shape := ⟨2, ![2048, 512]⟩
abbrev S1x512 : Shape := ⟨2, ![1, 512]⟩
abbrev S8x192x512 : Shape := ⟨3, ![8, 192, 512]⟩
abbrev S2048x256 : Shape := ⟨2, ![2048, 256]⟩
abbrev S1x256 : Shape := ⟨2, ![1, 256]⟩
abbrev S8x256x256 : Shape := ⟨3, ![8, 256, 256]⟩
abbrev S8x2048x192 : Shape := ⟨3, ![8, 2048, 192]⟩
abbrev S8x2048x256 : Shape := ⟨3, ![8, 2048, 256]⟩
abbrev S256x512 : Shape := ⟨2, ![256, 512]⟩
abbrev S256 : Shape := ⟨1, ![256]⟩
abbrev S256x1 : Shape := ⟨2, ![256, 1]⟩
abbrev S256x256 : Shape := ⟨2, ![256, 256]⟩
abbrev S1x192x512 : Shape := ⟨3, ![1, 192, 512]⟩
abbrev S1x2048x192 : Shape := ⟨3, ![1, 2048, 192]⟩
abbrev S192x512 : Shape := ⟨2, ![192, 512]⟩
abbrev S2048x192 : Shape := ⟨2, ![2048, 192]⟩
abbrev S1x256x256 : Shape := ⟨3, ![1, 256, 256]⟩
abbrev S1x2048x256 : Shape := ⟨3, ![1, 2048, 256]⟩
abbrev S8x512x192 : Shape := ⟨3, ![8, 512, 192]⟩
abbrev S512x512 : Shape := ⟨2, ![512, 512]⟩
abbrev S1x512x192 : Shape := ⟨3, ![1, 512, 192]⟩
abbrev S512x192 : Shape := ⟨2, ![512, 192]⟩
abbrev S8x512x256 : Shape := ⟨3, ![8, 512, 256]⟩
abbrev S512x256 : Shape := ⟨2, ![512, 256]⟩
abbrev S1x512x256 : Shape := ⟨3, ![1, 512, 256]⟩
abbrev S512 : Shape := ⟨1, ![512]⟩

abbrev nBuf : Space → Nat
  | .hbm => 24
  | .vmem => 56
  | .smem => 0
  | _ => 0

abbrev bufTy : (tb : Table) → Fin (tcTables nBuf tb) → BufTy
  | .hbm, ⟨0, _⟩ => ⟨S2048x512, .f32⟩
  | .hbm, ⟨1, _⟩ => ⟨S1x512, .f32⟩
  | .hbm, ⟨2, _⟩ => ⟨S8x192x512, .f32⟩
  | .hbm, ⟨3, _⟩ => ⟨S2048x256, .f32⟩
  | .hbm, ⟨4, _⟩ => ⟨S1x256, .f32⟩
  | .hbm, ⟨5, _⟩ => ⟨S8x256x256, .f32⟩
  | .hbm, ⟨6, _⟩ => ⟨S8x2048x192, .f32⟩
  | .hbm, ⟨7, _⟩ => ⟨S8x2048x256, .f32⟩
  | .hbm, ⟨8, _⟩ => ⟨S8x192x512, .bf16⟩
  | .hbm, ⟨9, _⟩ => ⟨S8x256x256, .bf16⟩
  | .hbm, ⟨10, _⟩ => ⟨S2048x512, .bf16⟩
  | .hbm, ⟨11, _⟩ => ⟨S2048x256, .bf16⟩
  | .hbm, ⟨12, _⟩ => ⟨S8x2048x192, .f32⟩
  | .hbm, ⟨13, _⟩ => ⟨S8x2048x256, .f32⟩
  | .hbm, ⟨14, _⟩ => ⟨S8x2048x192, .bf16⟩
  | .hbm, ⟨15, _⟩ => ⟨S8x2048x256, .bf16⟩
  | .hbm, ⟨16, _⟩ => ⟨S2048x512, .f32⟩
  | .hbm, ⟨17, _⟩ => ⟨S8x192x512, .f32⟩
  | .hbm, ⟨18, _⟩ => ⟨S2048x256, .f32⟩
  | .hbm, ⟨19, _⟩ => ⟨S8x256x256, .f32⟩
  | .hbm, ⟨20, _⟩ => ⟨S2048x512, .f32⟩
  | .hbm, ⟨21, _⟩ => ⟨S1x512, .f32⟩
  | .hbm, ⟨22, _⟩ => ⟨S2048x256, .f32⟩
  | .hbm, ⟨23, _⟩ => ⟨S1x256, .f32⟩
  | .local _ .vmem, ⟨0, _⟩ => ⟨S256x512, .f32⟩
  | .local _ .vmem, ⟨1, _⟩ => ⟨S256x512, .f32⟩
  | .local _ .vmem, ⟨2, _⟩ => ⟨S1x512, .f32⟩
  | .local _ .vmem, ⟨3, _⟩ => ⟨S256x512, .bf16⟩
  | .local _ .vmem, ⟨4, _⟩ => ⟨S256x512, .bf16⟩
  | .local _ .vmem, ⟨5, _⟩ => ⟨S256x256, .f32⟩
  | .local _ .vmem, ⟨6, _⟩ => ⟨S256x256, .f32⟩
  | .local _ .vmem, ⟨7, _⟩ => ⟨S1x256, .f32⟩
  | .local _ .vmem, ⟨8, _⟩ => ⟨S256x256, .bf16⟩
  | .local _ .vmem, ⟨9, _⟩ => ⟨S256x256, .bf16⟩
  | .local _ .vmem, ⟨10, _⟩ => ⟨S2048x512, .bf16⟩
  | .local _ .vmem, ⟨11, _⟩ => ⟨S1x192x512, .bf16⟩
  | .local _ .vmem, ⟨12, _⟩ => ⟨S1x192x512, .bf16⟩
  | .local _ .vmem, ⟨13, _⟩ => ⟨S1x2048x192, .f32⟩
  | .local _ .vmem, ⟨14, _⟩ => ⟨S1x2048x192, .f32⟩
  | .local _ .vmem, ⟨15, _⟩ => ⟨S2048x256, .bf16⟩
  | .local _ .vmem, ⟨16, _⟩ => ⟨S1x256x256, .bf16⟩
  | .local _ .vmem, ⟨17, _⟩ => ⟨S1x256x256, .bf16⟩
  | .local _ .vmem, ⟨18, _⟩ => ⟨S1x2048x256, .f32⟩
  | .local _ .vmem, ⟨19, _⟩ => ⟨S1x2048x256, .f32⟩
  | .local _ .vmem, ⟨20, _⟩ => ⟨S8x512x192, .bf16⟩
  | .local _ .vmem, ⟨21, _⟩ => ⟨S8x512x192, .bf16⟩
  | .local _ .vmem, ⟨22, _⟩ => ⟨S8x192x512, .bf16⟩
  | .local _ .vmem, ⟨23, _⟩ => ⟨S512x512, .f32⟩
  | .local _ .vmem, ⟨24, _⟩ => ⟨S512x512, .f32⟩
  | .local _ .vmem, ⟨25, _⟩ => ⟨S1x2048x192, .bf16⟩
  | .local _ .vmem, ⟨26, _⟩ => ⟨S1x2048x192, .bf16⟩
  | .local _ .vmem, ⟨27, _⟩ => ⟨S2048x512, .bf16⟩
  | .local _ .vmem, ⟨28, _⟩ => ⟨S1x192x512, .f32⟩
  | .local _ .vmem, ⟨29, _⟩ => ⟨S1x192x512, .f32⟩
  | .local _ .vmem, ⟨30, _⟩ => ⟨S8x512x256, .bf16⟩
  | .local _ .vmem, ⟨31, _⟩ => ⟨S8x512x256, .bf16⟩
  | .local _ .vmem, ⟨32, _⟩ => ⟨S8x256x256, .bf16⟩
  | .local _ .vmem, ⟨33, _⟩ => ⟨S512x256, .f32⟩
  | .local _ .vmem, ⟨34, _⟩ => ⟨S512x256, .f32⟩
  | .local _ .vmem, ⟨35, _⟩ => ⟨S2048x256, .bf16⟩
  | .local _ .vmem, ⟨36, _⟩ => ⟨S1x2048x256, .bf16⟩
  | .local _ .vmem, ⟨37, _⟩ => ⟨S1x2048x256, .bf16⟩
  | .local _ .vmem, ⟨38, _⟩ => ⟨S1x256x256, .f32⟩
  | .local _ .vmem, ⟨39, _⟩ => ⟨S1x256x256, .f32⟩
  | .local _ .vmem, ⟨40, _⟩ => ⟨S256x512, .f32⟩
  | .local _ .vmem, ⟨41, _⟩ => ⟨S256x512, .f32⟩
  | .local _ .vmem, ⟨42, _⟩ => ⟨S1x512, .f32⟩
  | .local _ .vmem, ⟨43, _⟩ => ⟨S256x512, .f32⟩
  | .local _ .vmem, ⟨44, _⟩ => ⟨S256x512, .f32⟩
  | .local _ .vmem, ⟨45, _⟩ => ⟨S256x512, .f32⟩
  | .local _ .vmem, ⟨46, _⟩ => ⟨S256x512, .f32⟩
  | .local _ .vmem, ⟨47, _⟩ => ⟨S1x512, .f32⟩
  | .local _ .vmem, ⟨48, _⟩ => ⟨S256x256, .f32⟩
  | .local _ .vmem, ⟨49, _⟩ => ⟨S256x256, .f32⟩
  | .local _ .vmem, ⟨50, _⟩ => ⟨S1x256, .f32⟩
  | .local _ .vmem, ⟨51, _⟩ => ⟨S256x256, .f32⟩
  | .local _ .vmem, ⟨52, _⟩ => ⟨S256x256, .f32⟩
  | .local _ .vmem, ⟨53, _⟩ => ⟨S256x256, .f32⟩
  | .local _ .vmem, ⟨54, _⟩ => ⟨S256x256, .f32⟩
  | .local _ .vmem, ⟨55, _⟩ => ⟨S1x256, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev main_v13_0 : Ref sig .tc := ⟨.hbm, 22, rfl⟩
abbrev main_v13_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg1_0 : Ref sig .tc := ⟨.vmem, 16, rfl⟩
abbrev cc3_stg1_1 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg1_0 : Ref sig .tc := ⟨.vmem, 36, rfl⟩
abbrev cc7_stg1_1 : Ref sig .tc := ⟨.vmem, 37, rfl⟩
abbrev cc7_stg2_0 : Ref sig .tc := ⟨.vmem, 38, rfl⟩
abbrev cc7_stg2_1 : Ref sig .tc := ⟨.vmem, 39, rfl⟩
abbrev cc8_stg0_0 : Ref sig .tc := ⟨.vmem, 40, rfl⟩
abbrev cc8_stg0_1 : Ref sig .tc := ⟨.vmem, 41, rfl⟩
abbrev cc8_stg1_0 : Ref sig .tc := ⟨.vmem, 42, rfl⟩
abbrev cc8_stg2_0 : Ref sig .tc := ⟨.vmem, 43, rfl⟩
abbrev cc8_stg2_1 : Ref sig .tc := ⟨.vmem, 44, rfl⟩
abbrev cc8_stg3_0 : Ref sig .tc := ⟨.vmem, 45, rfl⟩
abbrev cc8_stg3_1 : Ref sig .tc := ⟨.vmem, 46, rfl⟩
abbrev cc8_stg4_0 : Ref sig .tc := ⟨.vmem, 47, rfl⟩
abbrev cc9_stg0_0 : Ref sig .tc := ⟨.vmem, 48, rfl⟩
abbrev cc9_stg0_1 : Ref sig .tc := ⟨.vmem, 49, rfl⟩
abbrev cc9_stg1_0 : Ref sig .tc := ⟨.vmem, 50, rfl⟩
abbrev cc9_stg2_0 : Ref sig .tc := ⟨.vmem, 51, rfl⟩
abbrev cc9_stg2_1 : Ref sig .tc := ⟨.vmem, 52, rfl⟩
abbrev cc9_stg3_0 : Ref sig .tc := ⟨.vmem, 53, rfl⟩
abbrev cc9_stg3_1 : Ref sig .tc := ⟨.vmem, 54, rfl⟩
abbrev cc9_stg4_0 : Ref sig .tc := ⟨.vmem, 55, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem1_1 : DmaSem sig := 12
abbrev cc2_sem2_0 : DmaSem sig := 13
abbrev cc2_sem2_1 : DmaSem sig := 14
abbrev cc3_sem0_0 : DmaSem sig := 15
abbrev cc3_sem1_0 : DmaSem sig := 16
abbrev cc3_sem1_1 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem1_0 : DmaSem sig := 36
abbrev cc7_sem1_1 : DmaSem sig := 37
abbrev cc7_sem2_0 : DmaSem sig := 38
abbrev cc7_sem2_1 : DmaSem sig := 39
abbrev cc8_sem0_0 : DmaSem sig := 40
abbrev cc8_sem0_1 : DmaSem sig := 41
abbrev cc8_sem1_0 : DmaSem sig := 42
abbrev cc8_sem2_0 : DmaSem sig := 43
abbrev cc8_sem2_1 : DmaSem sig := 44
abbrev cc8_sem3_0 : DmaSem sig := 45
abbrev cc8_sem3_1 : DmaSem sig := 46
abbrev cc8_sem4_0 : DmaSem sig := 47
abbrev cc9_sem0_0 : DmaSem sig := 48
abbrev cc9_sem0_1 : DmaSem sig := 49
abbrev cc9_sem1_0 : DmaSem sig := 50
abbrev cc9_sem2_0 : DmaSem sig := 51
abbrev cc9_sem2_1 : DmaSem sig := 52
abbrev cc9_sem3_0 : DmaSem sig := 53
abbrev cc9_sem3_1 : DmaSem sig := 54
abbrev cc9_sem4_0 : DmaSem sig := 55

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨3, ![1, 8, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg2.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage2_0 : Fin 1 → Memref sig .tc .vmem S2048x512 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, true]

abbrev stage2_1 : Fin 2 → Memref sig .tc .vmem S1x192x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1x2048x192 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![1, 8, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage3_0 : Fin 1 → Memref sig .tc .vmem S2048x256 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false, true]

abbrev stage3_1 : Fin 2 → Memref sig .tc .vmem S1x256x256 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1x2048x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![4, 1, 1], ![false, false, false]⟩

def cc4_transform_0 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc4_transform_1 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S8x512x192 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, false]

abbrev stage4_1 : Fin 1 → Memref sig .tc .vmem S8x192x512 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, false]

abbrev stage4_2 : Fin 2 → Memref sig .tc .vmem S512x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![8, 1, 1], ![false, false, false]⟩

def cc5_transform_0 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

abbrev stage5_0 : Fin 2 → Memref sig .tc .vmem S1x2048x192 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 1 → Memref sig .tc .vmem S2048x512 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true, true]

abbrev stage5_2 : Fin 2 → Memref sig .tc .vmem S1x192x512 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![4, 1, 1], ![false, false, false]⟩

def cc6_transform_0 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc6_transform_1 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S8x512x256 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, false]

abbrev stage6_1 : Fin 1 → Memref sig .tc .vmem S8x256x256 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, true, false]

abbrev stage6_2 : Fin 2 → Memref sig .tc .vmem S512x256 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨3, ![1, 8, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc7_transform_1 (i : grid7.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc7_transform_2 (i : grid7.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage7_0 : Fin 1 → Memref sig .tc .vmem S2048x256 .bf16 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true, false, true]

abbrev stage7_1 : Fin 2 → Memref sig .tc .vmem S1x2048x256 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 2 → Memref sig .tc .vmem S1x256x256 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev grid8 : Pipeline.Grid := ⟨1, ![8], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S256x512 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x512 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S256x512 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S256x512 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 1 → Memref sig .tc .vmem S1x512 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev grid9 : Pipeline.Grid := ⟨1, ![8], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 2 → Memref sig .tc .vmem S256x256 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x256 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S256x256 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 2 → Memref sig .tc .vmem S256x256 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev stage9_4 : Fin 1 → Memref sig .tc .vmem S1x256 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]
-- ==== Reference5Ideal.lean ====
abbrev S2048x512 : Shape := ⟨2, ![2048, 512]⟩
abbrev S1x512 : Shape := ⟨2, ![1, 512]⟩
abbrev S8x192x512 : Shape := ⟨3, ![8, 192, 512]⟩
abbrev S2048x256 : Shape := ⟨2, ![2048, 256]⟩
abbrev S1x256 : Shape := ⟨2, ![1, 256]⟩
abbrev S8x256x256 : Shape := ⟨3, ![8, 256, 256]⟩
abbrev S8x2048x192 : Shape := ⟨3, ![8, 2048, 192]⟩
abbrev S8x2048x256 : Shape := ⟨3, ![8, 2048, 256]⟩
abbrev S_ : Shape := ⟨0, ![]⟩
abbrev S2048 : Shape := ⟨1, ![2048]⟩
abbrev S2048x1 : Shape := ⟨2, ![2048, 1]⟩
abbrev S8x192x2048 : Shape := ⟨3, ![8, 192, 2048]⟩
abbrev S8x256x2048 : Shape := ⟨3, ![8, 256, 2048]⟩
abbrev S256 : Shape := ⟨1, ![256]⟩
abbrev S512 : Shape := ⟨1, ![512]⟩

abbrev nBuf : Space → Nat
  | .hbm => 103
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S1x512, .f32⟩
  | .hbm, ⟨2, _⟩ => ⟨S8x192x512, .f32⟩
  | .hbm, ⟨3, _⟩ => ⟨S2048x256, .f32⟩
  | .hbm, ⟨4, _⟩ => ⟨S1x256, .f32⟩
  | .hbm, ⟨5, _⟩ => ⟨S8x256x256, .f32⟩
  | .hbm, ⟨6, _⟩ => ⟨S8x2048x192, .f32⟩
  | .hbm, ⟨7, _⟩ => ⟨S8x2048x256, .f32⟩
  | .hbm, ⟨8, _⟩ => ⟨S2048x512, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x512, .f32⟩
  | .hbm, ⟨24, _⟩ => ⟨S2048x512, .f32⟩
  | .hbm, ⟨25, _⟩ => ⟨S2048x512, .f32⟩
  | .hbm, ⟨26, _⟩ => ⟨S2048x512, .f32⟩
  | .hbm, ⟨27, _⟩ => ⟨S8x192x2048, .f32⟩
  | .hbm, ⟨28, _⟩ => ⟨S8x2048x192, .f32⟩
  | .hbm, ⟨29, _⟩ => ⟨S2048x256, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S_, .f32⟩
  | .hbm, ⟨34, _⟩ => ⟨S2048x1, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S2048x1, .f32⟩
  | .hbm, ⟨40, _⟩ => ⟨S2048x1, .f32⟩
  | .hbm, ⟨41, _⟩ => ⟨S_, .f32⟩
  | .hbm, ⟨42, _⟩ => ⟨S2048x1, .f32⟩
  | .hbm, ⟨43, _⟩ => ⟨S2048x1, .f32⟩
  | .hbm, ⟨44, _⟩ => ⟨S2048x256, .f32⟩
  | .hbm, ⟨45, _⟩ => ⟨S2048x256, .f32⟩
  | .hbm, ⟨46, _⟩ => ⟨S2048x256, .f32⟩
  | .hbm, ⟨47, _⟩ => ⟨S2048x256, .f32⟩
  | .hbm, ⟨48, _⟩ => ⟨S8x256x2048, .f32⟩
  | .hbm, ⟨49, _⟩ => ⟨S8x2048x256, .f32⟩
  | .hbm, ⟨50, _⟩ => ⟨S8x256x2048, .f32⟩
  | .hbm, ⟨51, _⟩ => ⟨S2048x256, .f32⟩
  | .hbm, ⟨52, _⟩ => ⟨S8x256x256, .f32⟩
  | .hbm, ⟨53, _⟩ => ⟨S8x256x256, .f32⟩
  | .hbm, ⟨54, _⟩ => ⟨S2048x256, .f32⟩
  | .hbm, ⟨55, _⟩ => ⟨S_, .f32⟩
  | .hbm, ⟨56, _⟩ => ⟨S256, .f32⟩
  | .hbm, ⟨57, _⟩ => ⟨S1x256, .f32⟩
  | .hbm, ⟨58, _⟩ => ⟨S2048x256, .f32⟩
  | .hbm, ⟨59, _⟩ => ⟨S2048x256, .f32⟩
  | .hbm, ⟨60, _⟩ => ⟨S2048x256, .f32⟩
  | .hbm, ⟨61, _⟩ => ⟨S_, .f32⟩
  | .hbm, ⟨62, _⟩ => ⟨S2048, .f32⟩
  | .hbm, ⟨63, _⟩ => ⟨S2048x1, .f32⟩
  | .hbm, ⟨64, _⟩ => ⟨S2048x256, .f32⟩
  | .hbm, ⟨65, _⟩ => ⟨S2048x256, .f32⟩
  | .hbm, ⟨66, _⟩ => ⟨S2048x1, .f32⟩
  | .hbm, ⟨67, _⟩ => ⟨S_, .f32⟩
  | .hbm, ⟨68, _⟩ => ⟨S2048x1, .f32⟩
  | .hbm, ⟨69, _⟩ => ⟨S2048x1, .f32⟩
  | .hbm, ⟨70, _⟩ => ⟨S_, .f32⟩
  | .hbm, ⟨71, _⟩ => ⟨S2048, .f32⟩
  | .hbm, ⟨72, _⟩ => ⟨S2048x256, .f32⟩
  | .hbm, ⟨73, _⟩ => ⟨S2048x256, .f32⟩
  | .hbm, ⟨74, _⟩ => ⟨S2048x256, .f32⟩
  | .hbm, ⟨75, _⟩ => ⟨S2048x256, .f32⟩
  | .hbm, ⟨76, _⟩ => ⟨S2048x256, .f32⟩
  | .hbm, ⟨77, _⟩ => ⟨S8x192x2048, .f32⟩
  | .hbm, ⟨78, _⟩ => ⟨S2048x512, .f32⟩
  | .hbm, ⟨79, _⟩ => ⟨S8x192x512, .f32⟩
  | .hbm, ⟨80, _⟩ => ⟨S2048x512, .f32⟩
  | .hbm, ⟨81, _⟩ => ⟨S_, .f32⟩
  | .hbm, ⟨82, _⟩ => ⟨S512, .f32⟩
  | .hbm, ⟨83, _⟩ => ⟨S1x512, .f32⟩
  | .hbm, ⟨84, _⟩ => ⟨S2048x512, .f32⟩
  | .hbm, ⟨85, _⟩ => ⟨S2048x512, .f32⟩
  | .hbm, ⟨86, _⟩ => ⟨S2048x512, .f32⟩
  | .hbm, ⟨87, _⟩ => ⟨S_, .f32⟩
  | .hbm, ⟨88, _⟩ => ⟨S2048, .f32⟩
  | .hbm, ⟨89, _⟩ => ⟨S2048x1, .f32⟩
  | .hbm, ⟨90, _⟩ => ⟨S2048x512, .f32⟩
  | .hbm, ⟨91, _⟩ => ⟨S2048x512, .f32⟩
  | .hbm, ⟨92, _⟩ => ⟨S2048x1, .f32⟩
  | .hbm, ⟨93, _⟩ => ⟨S_, .f32⟩
  | .hbm, ⟨94, _⟩ => ⟨S2048x1, .f32⟩
  | .hbm, ⟨95, _⟩ => ⟨S2048x1, .f32⟩
  | .hbm, ⟨96, _⟩ => ⟨S_, .f32⟩
  | .hbm, ⟨97, _⟩ => ⟨S2048, .f32⟩
  | .hbm, ⟨98, _⟩ => ⟨S2048x512, .f32⟩
  | .hbm, ⟨99, _⟩ => ⟨S2048x512, .f32⟩
  | .hbm, ⟨100, _⟩ => ⟨S2048x512, .f32⟩
  | .hbm, ⟨101, _⟩ => ⟨S2048x512, .f32⟩
  | .hbm, ⟨102, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_9 : Ref sig .tc := ⟨.hbm, 67, rfl⟩
abbrev main_v49 : Ref sig .tc := ⟨.hbm, 68, rfl⟩
abbrev main_v50 : Ref sig .tc := ⟨.hbm, 69, rfl⟩
abbrev main_cst_10 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_11 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_12 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_13 : Ref sig .tc := ⟨.hbm, 93, rfl⟩
abbrev main_v71 : Ref sig .tc := ⟨.hbm, 94, rfl⟩
abbrev main_v72 : Ref sig .tc := ⟨.hbm, 95, rfl⟩
abbrev main_cst_14 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩

abbrev nD : Nat := 1
abbrev τ : Topo := Topo.v7x

variable {F : FTy → Type} [FloatOps F]
-- ==== Kernel6.lean ====
abbrev S2048x512 : Shape := ⟨2, ![2048, 512]⟩
abbrev S8x512x128 : Shape := ⟨3, ![8, 512, 128]⟩
abbrev S1024 : Shape := ⟨1, ![1024]⟩
abbrev S2048x1024 : Shape := ⟨2, ![2048, 1024]⟩
abbrev S1x512x128 : Shape := ⟨3, ![1, 512, 128]⟩
abbrev S2048x128 : Shape := ⟨2, ![2048, 128]⟩
abbrev S512x128 : Shape := ⟨2, ![512, 128]⟩
abbrev S512 : Shape := ⟨1, ![512]⟩
abbrev S1x512 : Shape := ⟨2, ![1, 512]⟩
abbrev S256x512 : Shape := ⟨2, ![256, 512]⟩
abbrev S1x1024 : Shape := ⟨2, ![1, 1024]⟩
abbrev S512x1024 : Shape := ⟨2, ![512, 1024]⟩
abbrev S512x512 : Shape := ⟨2, ![512, 512]⟩

abbrev nBuf : Space → Nat
  | .hbm => 23
  | .vmem => 37
  | .smem => 0
  | _ => 0

abbrev bufTy : (tb : Table) → Fin (tcTables nBuf tb) → BufTy
  | .hbm, ⟨0, _⟩ => ⟨S2048x512, .f32⟩
  | .hbm, ⟨1, _⟩ => ⟨S8x512x128, .f32⟩
  | .hbm, ⟨2, _⟩ => ⟨S1024, .f32⟩
  | .hbm, ⟨3, _⟩ => ⟨S2048x512, .f32⟩
  | .hbm, ⟨4, _⟩ => ⟨S8x512x128, .bf16⟩
  | .hbm, ⟨5, _⟩ => ⟨S2048x512, .bf16⟩
  | .hbm, ⟨6, _⟩ => ⟨S2048x1024, .f32⟩
  | .hbm, ⟨7, _⟩ => ⟨S2048x512, .f32⟩
  | .hbm, ⟨8, _⟩ => ⟨S2048x512, .f32⟩
  | .hbm, ⟨9, _⟩ => ⟨S512, .f32⟩
  | .hbm, ⟨10, _⟩ => ⟨S1x512, .f32⟩
  | .hbm, ⟨11, _⟩ => ⟨S512, .f32⟩
  | .hbm, ⟨12, _⟩ => ⟨S1x512, .f32⟩
  | .hbm, ⟨13, _⟩ => ⟨S2048x512, .f32⟩
  | .hbm, ⟨14, _⟩ => ⟨S2048x512, .f32⟩
  | .hbm, ⟨15, _⟩ => ⟨S2048x512, .f32⟩
  | .hbm, ⟨16, _⟩ => ⟨S1x512, .f32⟩
  | .hbm, ⟨17, _⟩ => ⟨S1x512, .f32⟩
  | .hbm, ⟨18, _⟩ => ⟨S1x1024, .f32⟩
  | .hbm, ⟨19, _⟩ => ⟨S2048x1024, .f32⟩
  | .hbm, ⟨20, _⟩ => ⟨S2048x1024, .bf16⟩
  | .hbm, ⟨21, _⟩ => ⟨S2048x512, .f32⟩
  | .hbm, ⟨22, _⟩ => ⟨S8x512x128, .f32⟩
  | .local _ .vmem, ⟨0, _⟩ => ⟨S2048x512, .bf16⟩
  | .local _ .vmem, ⟨1, _⟩ => ⟨S1x512x128, .bf16⟩
  | .local _ .vmem, ⟨2, _⟩ => ⟨S1x512x128, .bf16⟩
  | .local _ .vmem, ⟨3, _⟩ => ⟨S2048x128, .f32⟩
  | .local _ .vmem, ⟨4, _⟩ => ⟨S2048x128, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S1x512, .f32⟩
  | .local _ .vmem, ⟨10, _⟩ => ⟨S1x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S1x512, .f32⟩
  | .local _ .vmem, ⟨18, _⟩ => ⟨S1x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S256x512, .f32⟩
  | .local _ .vmem, ⟨23, _⟩ => ⟨S256x512, .f32⟩
  | .local _ .vmem, ⟨24, _⟩ => ⟨S256x512, .f32⟩
  | .local _ .vmem, ⟨25, _⟩ => ⟨S1x512, .f32⟩
  | .local _ .vmem, ⟨26, _⟩ => ⟨S1x512, .f32⟩
  | .local _ .vmem, ⟨27, _⟩ => ⟨S512x1024, .bf16⟩
  | .local _ .vmem, ⟨28, _⟩ => ⟨S512x1024, .bf16⟩
  | .local _ .vmem, ⟨29, _⟩ => ⟨S8x512x128, .bf16⟩
  | .local _ .vmem, ⟨30, _⟩ => ⟨S512x512, .f32⟩
  | .local _ .vmem, ⟨31, _⟩ => ⟨S512x512, .f32⟩
  | .local _ .vmem, ⟨32, _⟩ => ⟨S2048x512, .bf16⟩
  | .local _ .vmem, ⟨33, _⟩ => ⟨S2048x128, .bf16⟩
  | .local _ .vmem, ⟨34, _⟩ => ⟨S2048x128, .bf16⟩
  | .local _ .vmem, ⟨35, _⟩ => ⟨S1x512x128, .f32⟩
  | .local _ .vmem, ⟨36, _⟩ => ⟨S1x512x128, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10_0 : Ref sig .tc := ⟨.hbm, 14, rfl⟩
abbrev main_v10_1 : Ref sig .tc := ⟨.hbm, 15, rfl⟩
abbrev main_v10_2 : Ref sig .tc := ⟨.hbm, 16, rfl⟩
abbrev main_v10_3 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc2_stg5_0 : Ref sig .tc := ⟨.vmem, 21, rfl⟩
abbrev cc2_stg5_1 : Ref sig .tc := ⟨.vmem, 22, rfl⟩
abbrev cc2_stg6_0 : Ref sig .tc := ⟨.vmem, 23, rfl⟩
abbrev cc2_stg6_1 : Ref sig .tc := ⟨.vmem, 24, rfl⟩
abbrev cc2_stg7_0 : Ref sig .tc := ⟨.vmem, 25, rfl⟩
abbrev cc2_stg8_0 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg2_1 : Ref sig .tc := ⟨.vmem, 31, rfl⟩
abbrev cc4_stg0_0 : Ref sig .tc := ⟨.vmem, 32, rfl⟩
abbrev cc4_stg1_0 : Ref sig .tc := ⟨.vmem, 33, rfl⟩
abbrev cc4_stg1_1 : Ref sig .tc := ⟨.vmem, 34, rfl⟩
abbrev cc4_stg2_0 : Ref sig .tc := ⟨.vmem, 35, rfl⟩
abbrev cc4_stg2_1 : Ref sig .tc := ⟨.vmem, 36, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem4_0 : DmaSem sig := 19
abbrev cc2_sem4_1 : DmaSem sig := 20
abbrev cc2_sem5_0 : DmaSem sig := 21
abbrev cc2_sem5_1 : DmaSem sig := 22
abbrev cc2_sem6_0 : DmaSem sig := 23
abbrev cc2_sem6_1 : DmaSem sig := 24
abbrev cc2_sem7_0 : DmaSem sig := 25
abbrev cc2_sem8_0 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem2_1 : DmaSem sig := 31
abbrev cc4_sem0_0 : DmaSem sig := 32
abbrev cc4_sem1_0 : DmaSem sig := 33
abbrev cc4_sem1_1 : DmaSem sig := 34
abbrev cc4_sem2_0 : DmaSem sig := 35
abbrev cc4_sem2_1 : DmaSem sig := 36

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S256x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S256x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S256x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S256x512 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1x512 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x512 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := ⟨3, ![4, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S512x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, false]

abbrev stage3_1 : Fin 1 → Memref sig .tc .vmem S8x512x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, false]

abbrev stage3_2 : Fin 2 → Memref sig .tc .vmem S512x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![1, 8, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage4_0 : Fin 1 → Memref sig .tc .vmem S2048x512 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false, true]

abbrev stage4_1 : Fin 2 → Memref sig .tc .vmem S2048x128 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1x512x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]
-- ==== Reference6Ideal.lean ====
abbrev S2048x512 : Shape := ⟨2, ![2048, 512]⟩
abbrev S8x512x128 : Shape := ⟨3, ![8, 512, 128]⟩
abbrev S1024 : Shape := ⟨1, ![1024]⟩
abbrev S2048x8x128 : Shape := ⟨3, ![2048, 8, 128]⟩
abbrev S2048x1024 : Shape := ⟨2, ![2048, 1024]⟩
abbrev S1x1024 : Shape := ⟨2, ![1, 1024]⟩
abbrev S_ : Shape := ⟨0, ![]⟩
abbrev S8x128x512 : Shape := ⟨3, ![8, 128, 512]⟩

abbrev nBuf : Space → Nat
  | .hbm => 42
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S8x512x128, .f32⟩
  | .hbm, ⟨2, _⟩ => ⟨S1024, .f32⟩
  | .hbm, ⟨3, _⟩ => ⟨S2048x512, .f32⟩
  | .hbm, ⟨4, _⟩ => ⟨S2048x8x128, .f32⟩
  | .hbm, ⟨5, _⟩ => ⟨S2048x1024, .f32⟩
  | .hbm, ⟨6, _⟩ => ⟨S1x1024, .f32⟩
  | .hbm, ⟨7, _⟩ => ⟨S2048x1024, .f32⟩
  | .hbm, ⟨8, _⟩ => ⟨S2048x1024, .f32⟩
  | .hbm, ⟨9, _⟩ => ⟨S2048x512, .f32⟩
  | .hbm, ⟨10, _⟩ => ⟨S2048x512, .f32⟩
  | .hbm, ⟨11, _⟩ => ⟨S2048x512, .f32⟩
  | .hbm, ⟨12, _⟩ => ⟨S2048x512, .f32⟩
  | .hbm, ⟨13, _⟩ => ⟨S_, .f32⟩
  | .hbm, ⟨14, _⟩ => ⟨S2048x512, .f32⟩
  | .hbm, ⟨15, _⟩ => ⟨S2048x512, .f32⟩
  | .hbm, ⟨16, _⟩ => ⟨S_, .f32⟩
  | .hbm, ⟨17, _⟩ => ⟨S2048x512, .f32⟩
  | .hbm, ⟨18, _⟩ => ⟨S2048x512, .f32⟩
  | .hbm, ⟨19, _⟩ => ⟨S_, .f32⟩
  | .hbm, ⟨20, _⟩ => ⟨S2048x512, .f32⟩
  | .hbm, ⟨21, _⟩ => ⟨S2048x512, .f32⟩
  | .hbm, ⟨22, _⟩ => ⟨S2048x512, .f32⟩
  | .hbm, ⟨23, _⟩ => ⟨S2048x512, .f32⟩
  | .hbm, ⟨24, _⟩ => ⟨S2048x512, .f32⟩
  | .hbm, ⟨25, _⟩ => ⟨S2048x512, .f32⟩
  | .hbm, ⟨26, _⟩ => ⟨S2048x512, .f32⟩
  | .hbm, ⟨27, _⟩ => ⟨S_, .f32⟩
  | .hbm, ⟨28, _⟩ => ⟨S2048x1024, .f32⟩
  | .hbm, ⟨29, _⟩ => ⟨S_, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S_, .f32⟩
  | .hbm, ⟨36, _⟩ => ⟨S1024, .f32⟩
  | .hbm, ⟨37, _⟩ => ⟨S2048x8x128, .f32⟩
  | .hbm, ⟨38, _⟩ => ⟨S8x128x512, .f32⟩
  | .hbm, ⟨39, _⟩ => ⟨S8x512x128, .f32⟩
  | .hbm, ⟨40, _⟩ => ⟨S2048x512, .f32⟩
  | .hbm, ⟨41, _⟩ => ⟨S1x1024, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Kernel7.lean ====
abbrev S2048x2048 : Shape := ⟨2, ![2048, 2048]⟩
abbrev S2048 : Shape := ⟨1, ![2048]⟩
abbrev S1x2048x2048 : Shape := ⟨3, ![1, 2048, 2048]⟩
abbrev S1x2048 : Shape := ⟨2, ![1, 2048]⟩
abbrev S_ : Shape := ⟨0, ![]⟩
abbrev S2048x1 : Shape := ⟨2, ![2048, 1]⟩
abbrev S256x2048 : Shape := ⟨2, ![256, 2048]⟩
abbrev S256x1 : Shape := ⟨2, ![256, 1]⟩
abbrev S256 : Shape := ⟨1, ![256]⟩
abbrev S1x1 : Shape := ⟨2, ![1, 1]⟩
abbrev S1 : Shape := ⟨1, ![1]⟩

abbrev nBuf : Space → Nat
  | .hbm => 13
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S1x2048x2048, .f32⟩
  | .hbm, ⟨3, _⟩ => ⟨S1x2048, .f32⟩
  | .hbm, ⟨4, _⟩ => ⟨S_, .f32⟩
  | .hbm, ⟨5, _⟩ => ⟨S2048x1, .f32⟩
  | .hbm, ⟨6, _⟩ => ⟨S2048x2048, .f32⟩
  | .hbm, ⟨7, _⟩ => ⟨S2048x2048, .f32⟩
  | .hbm, ⟨8, _⟩ => ⟨S1x2048, .f32⟩
  | .hbm, ⟨9, _⟩ => ⟨S2048x1, .f32⟩
  | .hbm, ⟨10, _⟩ => ⟨S1x1, .f32⟩
  | .hbm, ⟨11, _⟩ => ⟨S_, .f32⟩
  | .hbm, ⟨12, _⟩ => ⟨S2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x1, .f32⟩
  | .local _ .vmem, ⟨6, _⟩ => ⟨S256x1, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | .local _ .vmem, ⟨10, _⟩ => ⟨S256x1, .f32⟩
  | .local _ .vmem, ⟨11, _⟩ => ⟨S256x1, .f32⟩
  | .local _ .vmem, ⟨12, _⟩ => ⟨S2048x1, .f32⟩
  | .local _ .vmem, ⟨13, _⟩ => ⟨S1x1, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg1_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc1_sem0_0 : DmaSem sig := 12
abbrev cc1_sem1_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S2048x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]
-- ==== Reference7Ideal.lean ====
abbrev S2048x2048 : Shape := ⟨2, ![2048, 2048]⟩
abbrev S2048 : Shape := ⟨1, ![2048]⟩
abbrev S1x2048x2048 : Shape := ⟨3, ![1, 2048, 2048]⟩
abbrev S_ : Shape := ⟨0, ![]⟩
abbrev S2048x1 : Shape := ⟨2, ![2048, 1]⟩
abbrev S1x2048 : Shape := ⟨2, ![1, 2048]⟩

abbrev nBuf : Space → Nat
  | .hbm => 72
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S1x2048x2048, .f32⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x2048, .f32⟩
  | .hbm, ⟨19, _⟩ => ⟨S2048x2048, .f32⟩
  | .hbm, ⟨20, _⟩ => ⟨S1x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048, .f32⟩
  | .hbm, ⟨31, _⟩ => ⟨S_, .f32⟩
  | .hbm, ⟨32, _⟩ => ⟨S2048, .f32⟩
  | .hbm, ⟨33, _⟩ => ⟨S2048, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S2048, .f32⟩
  | .hbm, ⟨42, _⟩ => ⟨S_, .f32⟩
  | .hbm, ⟨43, _⟩ => ⟨S2048, .f32⟩
  | .hbm, ⟨44, _⟩ => ⟨S2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S2048x2048, .f32⟩
  | .hbm, ⟨52, _⟩ => ⟨S2048x2048, .f32⟩
  | .hbm, ⟨53, _⟩ => ⟨S_, .f32⟩
  | .hbm, ⟨54, _⟩ => ⟨S2048, .f32⟩
  | .hbm, ⟨55, _⟩ => ⟨S2048x2048, .f32⟩
  | .hbm, ⟨56, _⟩ => ⟨S_, .f32⟩
  | .hbm, ⟨57, _⟩ => ⟨S2048, .f32⟩
  | .hbm, ⟨58, _⟩ => ⟨S2048x1, .f32⟩
  | .hbm, ⟨59, _⟩ => ⟨S2048x2048, .f32⟩
  | .hbm, ⟨60, _⟩ => ⟨S2048x2048, .f32⟩
  | .hbm, ⟨61, _⟩ => ⟨S2048x1, .f32⟩
  | .hbm, ⟨62, _⟩ => ⟨S_, .f32⟩
  | .hbm, ⟨63, _⟩ => ⟨S2048x1, .f32⟩
  | .hbm, ⟨64, _⟩ => ⟨S2048x1, .f32⟩
  | .hbm, ⟨65, _⟩ => ⟨S_, .f32⟩
  | .hbm, ⟨66, _⟩ => ⟨S2048, .f32⟩
  | .hbm, ⟨67, _⟩ => ⟨S2048x2048, .f32⟩
  | .hbm, ⟨68, _⟩ => ⟨S2048x2048, .f32⟩
  | .hbm, ⟨69, _⟩ => ⟨S2048x2048, .f32⟩
  | .hbm, ⟨70, _⟩ => ⟨S2048x2048, .f32⟩
  | .hbm, ⟨71, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩

abbrev nD : Nat := 1
abbrev τ : Topo := Topo.v7x

variable {F : FTy → Type} [FloatOps F]
-- ==== Kernel8.lean ====
abbrev S2048x512 : Shape := ⟨2, ![2048, 512]⟩
abbrev S32x16 : Shape := ⟨2, ![32, 16]⟩
abbrev S1x512 : Shape := ⟨2, ![1, 512]⟩
abbrev S256x512 : Shape := ⟨2, ![256, 512]⟩
abbrev S512 : Shape := ⟨1, ![512]⟩

abbrev nBuf : Space → Nat
  | .hbm => 11
  | .vmem => 19
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S32x16, .f32⟩
  | .hbm, ⟨3, _⟩ => ⟨S2048x512, .f32⟩
  | .hbm, ⟨4, _⟩ => ⟨S1x512, .f32⟩
  | .hbm, ⟨5, _⟩ => ⟨S2048x512, .bf16⟩
  | .hbm, ⟨6, _⟩ => ⟨S2048x512, .bf16⟩
  | .hbm, ⟨7, _⟩ => ⟨S2048x512, .f32⟩
  | .hbm, ⟨8, _⟩ => ⟨S1x512, .f32⟩
  | .hbm, ⟨9, _⟩ => ⟨S2048x512, .f32⟩
  | .hbm, ⟨10, _⟩ => ⟨S2048x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S1x512, .f32⟩
  | .local _ .vmem, ⟨5, _⟩ => ⟨S256x512, .bf16⟩
  | .local _ .vmem, ⟨6, _⟩ => ⟨S256x512, .bf16⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S1x512, .f32⟩
  | .local _ .vmem, ⟨12, _⟩ => ⟨S256x512, .f32⟩
  | .local _ .vmem, ⟨13, _⟩ => ⟨S256x512, .f32⟩
  | .local _ .vmem, ⟨14, _⟩ => ⟨S256x512, .bf16⟩
  | .local _ .vmem, ⟨15, _⟩ => ⟨S256x512, .bf16⟩
  | .local _ .vmem, ⟨16, _⟩ => ⟨S256x512, .f32⟩
  | .local _ .vmem, ⟨17, _⟩ => ⟨S256x512, .f32⟩
  | .local _ .vmem, ⟨18, _⟩ => ⟨S1x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]
-- ==== Reference8Ideal.lean ====
abbrev S2048x512 : Shape := ⟨2, ![2048, 512]⟩
abbrev S32x16 : Shape := ⟨2, ![32, 16]⟩
abbrev S512 : Shape := ⟨1, ![512]⟩
abbrev S1x512 : Shape := ⟨2, ![1, 512]⟩
abbrev S_ : Shape := ⟨0, ![]⟩

abbrev nBuf : Space → Nat
  | .hbm => 62
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S32x16, .f32⟩
  | .hbm, ⟨3, _⟩ => ⟨S2048x512, .f32⟩
  | .hbm, ⟨4, _⟩ => ⟨S512, .f32⟩
  | .hbm, ⟨5, _⟩ => ⟨S1x512, .f32⟩
  | .hbm, ⟨6, _⟩ => ⟨S2048x512, .f32⟩
  | .hbm, ⟨7, _⟩ => ⟨S2048x512, .f32⟩
  | .hbm, ⟨8, _⟩ => ⟨S2048x512, .f32⟩
  | .hbm, ⟨9, _⟩ => ⟨S2048x512, .f32⟩
  | .hbm, ⟨10, _⟩ => ⟨S2048x512, .f32⟩
  | .hbm, ⟨11, _⟩ => ⟨S2048x512, .f32⟩
  | .hbm, ⟨12, _⟩ => ⟨S_, .f32⟩
  | .hbm, ⟨13, _⟩ => ⟨S2048x512, .f32⟩
  | .hbm, ⟨14, _⟩ => ⟨S2048x512, .f32⟩
  | .hbm, ⟨15, _⟩ => ⟨S_, .f32⟩
  | .hbm, ⟨16, _⟩ => ⟨S2048x512, .f32⟩
  | .hbm, ⟨17, _⟩ => ⟨S2048x512, .f32⟩
  | .hbm, ⟨18, _⟩ => ⟨S2048x512, .f32⟩
  | .hbm, ⟨19, _⟩ => ⟨S_, .f32⟩
  | .hbm, ⟨20, _⟩ => ⟨S2048x512, .f32⟩
  | .hbm, ⟨21, _⟩ => ⟨S2048x512, .f32⟩
  | .hbm, ⟨22, _⟩ => ⟨S2048x512, .f32⟩
  | .hbm, ⟨23, _⟩ => ⟨S_, .f32⟩
  | .hbm, ⟨24, _⟩ => ⟨S2048x512, .f32⟩
  | .hbm, ⟨25, _⟩ => ⟨S2048x512, .f32⟩
  | .hbm, ⟨26, _⟩ => ⟨S_, .f32⟩
  | .hbm, ⟨27, _⟩ => ⟨S2048x512, .f32⟩
  | .hbm, ⟨28, _⟩ => ⟨S2048x512, .f32⟩
  | .hbm, ⟨29, _⟩ => ⟨S2048x512, .f32⟩
  | .hbm, ⟨30, _⟩ => ⟨S_, .f32⟩
  | .hbm, ⟨31, _⟩ => ⟨S2048x512, .f32⟩
  | .hbm, ⟨32, _⟩ => ⟨S2048x512, .f32⟩
  | .hbm, ⟨33, _⟩ => ⟨S_, .f32⟩
  | .hbm, ⟨34, _⟩ => ⟨S2048x512, .f32⟩
  | .hbm, ⟨35, _⟩ => ⟨S2048x512, .f32⟩
  | .hbm, ⟨36, _⟩ => ⟨S2048x512, .f32⟩
  | .hbm, ⟨37, _⟩ => ⟨S2048x512, .f32⟩
  | .hbm, ⟨38, _⟩ => ⟨S2048x512, .f32⟩
  | .hbm, ⟨39, _⟩ => ⟨S_, .f32⟩
  | .hbm, ⟨40, _⟩ => ⟨S2048x512, .f32⟩
  | .hbm, ⟨41, _⟩ => ⟨S2048x512, .f32⟩
  | .hbm, ⟨42, _⟩ => ⟨S2048x512, .f32⟩
  | .hbm, ⟨43, _⟩ => ⟨S_, .f32⟩
  | .hbm, ⟨44, _⟩ => ⟨S2048x512, .f32⟩
  | .hbm, ⟨45, _⟩ => ⟨S2048x512, .f32⟩
  | .hbm, ⟨46, _⟩ => ⟨S2048x512, .f32⟩
  | .hbm, ⟨47, _⟩ => ⟨S_, .f32⟩
  | .hbm, ⟨48, _⟩ => ⟨S2048x512, .f32⟩
  | .hbm, ⟨49, _⟩ => ⟨S2048x512, .f32⟩
  | .hbm, ⟨50, _⟩ => ⟨S2048x512, .f32⟩
  | .hbm, ⟨51, _⟩ => ⟨S2048x512, .f32⟩
  | .hbm, ⟨52, _⟩ => ⟨S2048x512, .f32⟩
  | .hbm, ⟨53, _⟩ => ⟨S2048x512, .f32⟩
  | .hbm, ⟨54, _⟩ => ⟨S2048x512, .f32⟩
  | .hbm, ⟨55, _⟩ => ⟨S_, .f32⟩
  | .hbm, ⟨56, _⟩ => ⟨S512, .f32⟩
  | .hbm, ⟨57, _⟩ => ⟨S1x512, .f32⟩
  | .hbm, ⟨58, _⟩ => ⟨S_, .f32⟩
  | .hbm, ⟨59, _⟩ => ⟨S512, .f32⟩
  | .hbm, ⟨60, _⟩ => ⟨S32x16, .f32⟩
  | .hbm, ⟨61, _⟩ => ⟨S1x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_9 : Ref sig .tc := ⟨.hbm, 55, rfl⟩
abbrev main_v41 : Ref sig .tc := ⟨.hbm, 56, rfl⟩
abbrev main_v42 : Ref sig .tc := ⟨.hbm, 57, rfl⟩
abbrev main_cst_10 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩

abbrev nD : Nat := 1
abbrev τ : Topo := Topo.v7x

variable {F : FTy → Type} [FloatOps F]
-- ==== Proof.Spec.lean ====
/- The mathematics of the feed-forward block as plain functions of arrays of extended reals: the three matrix products a
   dense layer and its gradient need, the root-mean-square normalisation with its gradient, and the SwiGLU gate with its
   gradient. Both programs are compared with these. -/
module

public import Idealize.ShloMosaic.Lib.Pointwise
public import Idealize.ShloMosaic.Init

@[expose] public section

noncomputable section

namespace Cert.Math

open Idealize.ShloMosaic

/-- An `m × n` array of extended reals. -/
abbrev Mat (m n : ℕ) : Type := (⟨2, ![m, n]⟩ : Shape).Idx → EReal

/-! ## Products -/

/-- `A · Bᵀ`: row `i` of `A` against row `j` of `B`. -/
def nt {m n k : ℕ} (A : Mat m k) (B : Mat n k) : Mat m n :=
  fun j => ∑ l : Fin k, A (ix2 (j 0) l) * B (ix2 (j 1) l)

/-- `A · B`: row `i` of `A` against column `j` of `B`. -/
def nn {m n k : ℕ} (A : Mat m k) (B : Mat k n) : Mat m n :=
  fun j => ∑ l : Fin k, A (ix2 (j 0) l) * B (ix2 l (j 1))

/-- `Aᵀ · B`: column `i` of `A` against column `j` of `B`. -/
def tn {m n k : ℕ} (A : Mat k m) (B : Mat k n) : Mat m n :=
  fun j => ∑ l : Fin k, A (ix2 l (j 0)) * B (ix2 l (j 1))

/-- The element-wise sum of two arrays. -/
def add {m n : ℕ} (A B : Mat m n) : Mat m n := fun j => A j + B j

/-! ## The SwiGLU gate (`σ` is the logistic function) -/

/-- `silu(z) · u`. -/
def gate {m n : ℕ} (z u : Mat m n) : Mat m n := fun j => z j * Ideal.logistic (z j) * u j

/-- The gradient of the gate's value in `z`, against the cotangent `d`: with `e = d · u`, `e·σ(z) + z·e·(σ(z)·(1 − σ(z)))`. -/
def gateDz {m n : ℕ} (z u d : Mat m n) : Mat m n := fun j =>
  d j * u j * Ideal.logistic (z j) + z j * (d j * u j) * (Ideal.logistic (z j) * (1 - Ideal.logistic (z j)))

/-- The gradient of the gate's value in `u`, against the cotangent `d`. -/
def gateDu {m n : ℕ} (z d : Mat m n) : Mat m n := fun j => z j * Ideal.logistic (z j) * d j

/-! ## Root-mean-square normalisation over rows of 2048 -/

/-- Row `r`'s mean square plus the stabiliser. -/
def meanSq (x : Mat 2048 2048) (r : Fin 2048) : EReal :=
  Ideal.div (∑ l : Fin 2048, x (ix2 r l) * x (ix2 r l)) (Ideal.ofBits .f32 0x45000000#32) + Ideal.ofBits .f32 0x358637BD#32

/-- The normalised rows, scaled by `g`. -/
def rms (x : Mat 2048 2048) (g : Mat 1 2048) : Mat 2048 2048 := fun j =>
  x j * Ideal.rsqrt (meanSq x (j 0)) * g (ix2 0 (j 1))

/-- What row `r`'s mean square contributes to the gradient in each of its elements, before the factor `x`: half of
    `∂L/∂(x²)`'s row, as the chain rule gives it. -/
def rmsRow (x : Mat 2048 2048) (g : Mat 1 2048) (d : Mat 2048 2048) (r : Fin 2048) : EReal :=
  Ideal.div ((∑ l : Fin 2048, x (ix2 r l) * (d (ix2 r l) * g (ix2 0 l)))
    * (Ideal.ofBits .f32 0xBF000000#32 * Ideal.div (Ideal.rsqrt (meanSq x r)) (meanSq x r))) (Ideal.ofBits .f32 0x45000000#32)

/-- The gradient in `x` against the cotangent `d`, added to `e`. -/
def rmsDx (x : Mat 2048 2048) (g : Mat 1 2048) (d e : Mat 2048 2048) : Mat 2048 2048 := fun j =>
  e j + d j * g (ix2 0 (j 1)) * Ideal.rsqrt (meanSq x (j 0)) + x j * rmsRow x g d (j 0) + rmsRow x g d (j 0) * x j

/-- The gradient in the scale `g` against the cotangent `d`: summed over the rows. -/
def rmsDg (x d : Mat 2048 2048) : Mat 1 2048 := fun j =>
  ∑ r : Fin 2048, x (ix2 r (j 1)) * Ideal.rsqrt (meanSq x r) * d (ix2 r (j 1))

/-! ## The weights: eight shards of 704 rows each, stacked -/

/-- Eight shards of 704 rows. -/
abbrev Shards : Type := (⟨3, ![8, 704, 2048]⟩ : Shape).Idx → EReal

/-- The stacked shards as one array of 5632 rows. -/
def flat (W : Shards) : Mat 5632 2048 := fun j =>
  W (ix3 (⟨(j 0).val / 704, by have := (j 0).isLt; simp at this; omega⟩ : Fin 8)
    (⟨(j 0).val % 704, Nat.mod_lt _ (by norm_num)⟩ : Fin 704) (j 1))

/-- An array of 5632 rows cut into eight shards. -/
def shards (A : Mat 5632 2048) : Shards := fun j =>
  A (ix2 (⟨(j 0).val * 704 + (j 1).val, by have := (j 0).isLt; have := (j 1).isLt; simp at *; omega⟩ : Fin 5632) (j 2))

/-! ## The block and its gradient

`X` the residual stream, `G` the norm's scale, `WG`, `WU`, `WD` the three weights, `D` the cotangent of the result. -/

section Block

variable (X : Mat 2048 2048) (G : Mat 1 2048) (WG WU WD : Shards) (D : Mat 2048 2048)

/-- The gate projection of the normalised rows. -/
def gateProj : Mat 2048 5632 := nt (rms X G) (flat WG)

/-- The up projection of the normalised rows. -/
def upProj : Mat 2048 5632 := nt (rms X G) (flat WU)

/-- The gated activations. -/
def act : Mat 2048 5632 := gate (gateProj X G WG) (upProj X G WU)

/-- The block's result: the residual stream plus the down projection of the activations. -/
def out : Mat 2048 2048 := add (nn (act X G WG WU) (flat WD)) X

/-- The cotangent of the activations. -/
def dAct : Mat 2048 5632 := nt D (flat WD)

/-- The cotangent of the gate projection. -/
def dGate : Mat 2048 5632 := gateDz (gateProj X G WG) (upProj X G WU) (dAct WD D)

/-- The cotangent of the up projection. -/
def dUp : Mat 2048 5632 := gateDu (gateProj X G WG) (dAct WD D)

/-- The gradient of `w_down`. -/
def dWDown : Shards := shards (tn (act X G WG WU) D)

/-- The gradient of `w_gate`. -/
def dWGate : Shards := shards (tn (dGate X G WG WU WD D) (rms X G))

/-- The gradient of `w_up`. -/
def dWUp : Shards := shards (tn (dUp X G WG WD D) (rms X G))

/-- The cotangent of the normalised rows. -/
def dNorm : Mat 2048 2048 := add (nn (dUp X G WG WD D) (flat WU)) (nn (dGate X G WG WU WD D) (flat WG))

/-- The gradient of the residual stream. -/
def dX : Mat 2048 2048 := rmsDx X G (dNorm X G WG WU WD D) D

/-- The gradient of the norm's scale. -/
def dG : Mat 1 2048 := rmsDg X (dNorm X G WG WU WD D)

end Block

end Cert.Math

end
-- ==== Proof.MmA.lean ====
/- What the plain matrix products of the forward pass leave in their output arrays: each grid point stores one tile, computed
   from a band of rows and a band of columns, and the tiles cover the array. -/
module

public import proofs.«01_k».proof.Proof.Spec
public import proofs.«01_k».proof.Proof.Gen.KernelIdeal.Frame.Region1
public import proofs.«01_k».proof.Proof.Gen.KernelIdeal.Frame.Region3
public import Idealize.ShloMosaic.Lib.Pipeline.ValueKit
public import Idealize.ShloMosaic.Lib.Pointwise

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.Math

variable (V : (c : Dev nD) → (b : Ref sig .tc) → Buf (Elt Ideal) ((c : Thread nD τ).loc b)) (c : Dev nD)

/-- The blocks region 1 reads and writes at each grid point. -/
theorem idx1 : ∀ t : Fin cfg1.N, win1_0.index t = ![t.val / 11, 0] ∧ win1_1.index t = ![t.val % 11, 0] ∧ win1_2.index t = ![t.val / 11, t.val % 11] :=
  (by decide +kernel : ∀ t : Fin grid1.N, _)

/-- The gate projection: `h · w_gateᵀ`. -/
theorem final1 : (dat1 V c).arrAt 2 cfg1.N = nt (V c main_v3) (V c main_v4) := by
  refine (dat1 V c).arrAt_eq_of_covers 2 _ (by decide +kernel) fun t _ y => ?_
  blk_simp
  rw [after1_2]; frame_out
  pointwise [k1_pay1, nt]
  blk_point [iblk1, idx1 t]

/-- The blocks region 3 reads and writes at each grid point. -/
theorem idx3 : ∀ t : Fin cfg3.N, win3_0.index t = ![t.val / 4, 0] ∧ win3_1.index t = ![0, t.val % 4] ∧ win3_2.index t = ![t.val / 4, t.val % 4] ∧ win3_3.index t = ![t.val / 4, t.val % 4] :=
  (by decide +kernel : ∀ t : Fin grid3.N, _)

/-- The down projection, added to the residual stream: `a · w_down + x`. -/
theorem final3 : (dat3 V c).arrAt 3 cfg3.N = add (nn (V c main_v7_1) (V c main_v8)) (V c main_arg0) := by
  refine (dat3 V c).arrAt_eq_of_covers 3 _ (by decide +kernel) fun t _ y => ?_
  blk_simp
  rw [after3_3]; frame_out
  pointwise [k3_pay1, nn, add]
  blk_point [iblk3, idx3 t]

end Cert.KernelIdeal.Value

end
-- ==== Proof.MmB.lean ====
/- What the gradients of the three weights leave in their output arrays: products that contract over the tokens. -/
module

public import proofs.«01_k».proof.Proof.Spec
public import proofs.«01_k».proof.Proof.Gen.KernelIdeal.Frame.Region5
public import proofs.«01_k».proof.Proof.Gen.KernelIdeal.Frame.Region6
public import proofs.«01_k».proof.Proof.Gen.KernelIdeal.Frame.Region7
public import Idealize.ShloMosaic.Lib.Pipeline.ValueKit
public import Idealize.ShloMosaic.Lib.Pointwise

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.Math

variable (V : (c : Dev nD) → (b : Ref sig .tc) → Buf (Elt Ideal) ((c : Thread nD τ).loc b)) (c : Dev nD)

/-- The blocks region 5 reads and writes at each grid point. -/
theorem idx5 : ∀ t : Fin cfg5.N, win5_0.index t = ![0, t.val / 2] ∧ win5_1.index t = ![0, t.val % 2] ∧ win5_2.index t = ![t.val / 2, t.val % 2] :=
  (by decide +kernel : ∀ t : Fin grid5.N, _)

/-- The gradient of `w_down`: the activations against the cotangent, summed over the tokens. -/
theorem final5 : (dat5 V c).arrAt 2 cfg5.N = tn (V c main_v7_1) (V c main_v10) := by
  refine (dat5 V c).arrAt_eq_of_covers 2 _ (by decide +kernel) fun t _ y => ?_
  blk_simp
  rw [after5_2]; frame_out
  pointwise [k5_pay1, tn]
  blk_point [iblk5, idx5 t]

/-- The blocks region 6 reads and writes at each grid point. -/
theorem idx6 : ∀ t : Fin cfg6.N, win6_0.index t = ![0, t.val / 2] ∧ win6_1.index t = ![0, t.val % 2] ∧ win6_2.index t = ![t.val / 2, t.val % 2] :=
  (by decide +kernel : ∀ t : Fin grid6.N, _)

/-- The gradient of `w_gate`. -/
theorem final6 : (dat6 V c).arrAt 2 cfg6.N = tn (V c main_v12_0) (V c main_v3) := by
  refine (dat6 V c).arrAt_eq_of_covers 2 _ (by decide +kernel) fun t _ y => ?_
  blk_simp
  rw [after6_2]; frame_out
  pointwise [k6_pay1, tn]
  blk_point [iblk6, idx6 t]

/-- The blocks region 7 reads and writes at each grid point. -/
theorem idx7 : ∀ t : Fin cfg7.N, win7_0.index t = ![0, t.val / 2] ∧ win7_1.index t = ![0, t.val % 2] ∧ win7_2.index t = ![t.val / 2, t.val % 2] :=
  (by decide +kernel : ∀ t : Fin grid7.N, _)

/-- The gradient of `w_up`. -/
theorem final7 : (dat7 V c).arrAt 2 cfg7.N = tn (V c main_v12_1) (V c main_v3) := by
  refine (dat7 V c).arrAt_eq_of_covers 2 _ (by decide +kernel) fun t _ y => ?_
  blk_simp
  rw [after7_2]; frame_out
  pointwise [k7_pay1, tn]
  blk_point [iblk7, idx7 t]

end Cert.KernelIdeal.Value

end
-- ==== Proof.MmC.lean ====
/- What the two products behind the gradient of the normalised input leave in their output arrays. -/
module

public import proofs.«01_k».proof.Proof.Spec
public import proofs.«01_k».proof.Proof.Gen.KernelIdeal.Frame.Region8
public import proofs.«01_k».proof.Proof.Gen.KernelIdeal.Frame.Region9
public import Idealize.ShloMosaic.Lib.Pipeline.ValueKit
public import Idealize.ShloMosaic.Lib.Pointwise

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.Math

variable (V : (c : Dev nD) → (b : Ref sig .tc) → Buf (Elt Ideal) ((c : Thread nD τ).loc b)) (c : Dev nD)

/-- The blocks region 8 reads and writes at each grid point. -/
theorem idx8 : ∀ t : Fin cfg8.N, win8_0.index t = ![t.val / 4, 0] ∧ win8_1.index t = ![0, t.val % 4] ∧ win8_2.index t = ![t.val / 4, t.val % 4] :=
  (by decide +kernel : ∀ t : Fin grid8.N, _)

/-- The part of the gradient through the gate projection. -/
theorem final8 : (dat8 V c).arrAt 2 cfg8.N = nn (V c main_v12_0) (V c main_v20) := by
  refine (dat8 V c).arrAt_eq_of_covers 2 _ (by decide +kernel) fun t _ y => ?_
  blk_simp
  rw [after8_2]; frame_out
  pointwise [k8_pay1, nn]
  blk_point [iblk8, idx8 t]

/-- The blocks region 9 reads and writes at each grid point. -/
theorem idx9 : ∀ t : Fin cfg9.N, win9_0.index t = ![t.val / 4, 0] ∧ win9_1.index t = ![0, t.val % 4] ∧ win9_2.index t = ![t.val / 4, t.val % 4] ∧ win9_3.index t = ![t.val / 4, t.val % 4] :=
  (by decide +kernel : ∀ t : Fin grid9.N, _)

/-- The part through the up projection, added to the first. -/
theorem final9 : (dat9 V c).arrAt 3 cfg9.N = add (nn (V c main_v12_1) (V c main_v19)) (V c main_v21) := by
  refine (dat9 V c).arrAt_eq_of_covers 3 _ (by decide +kernel) fun t _ y => ?_
  blk_simp
  rw [after9_3]; frame_out
  pointwise [k9_pay1, nn, add]
  blk_point [iblk9, idx9 t]

end Cert.KernelIdeal.Value

end
-- ==== Proof.GateA.lean ====
/- What the up projection with the gate fused behind it leaves in its two output arrays; each grid point stores its tile in
   four row slabs. -/
module

public import proofs.«01_k».proof.Proof.Spec
public import proofs.«01_k».proof.Proof.Gen.KernelIdeal.Frame.Region2
public import Idealize.ShloMosaic.Lib.Pipeline.ValueKit
public import Idealize.ShloMosaic.Lib.Pointwise

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.Math

variable (V : (c : Dev nD) → (b : Ref sig .tc) → Buf (Elt Ideal) ((c : Thread nD τ).loc b)) (c : Dev nD)

/-- The blocks region 2 reads and writes at each grid point. -/
theorem idx2 : ∀ t : Fin cfg2.N, win2_0.index t = ![t.val / 11, 0] ∧ win2_1.index t = ![t.val % 11, 0] ∧ win2_2.index t = ![t.val / 11, t.val % 11] ∧ win2_3.index t = ![t.val / 11, t.val % 11] ∧ win2_4.index t = ![t.val / 11, t.val % 11] :=
  (by decide +kernel : ∀ t : Fin grid2.N, _)

/-- The up projection: `h · w_upᵀ`. -/
theorem final2_up : (dat2 V c).arrAt 3 cfg2.N = nt (V c main_v3) (V c main_v6) := by
  refine (dat2 V c).arrAt_eq_of_covers 3 _ (by decide +kernel) fun t _ y => ?_
  blk_simp
  rw [after2_3]
  canon_tiles x h
  all_goals
    open_payloads
    pointwise [nt]
    blk_point [iblk2, idx2 t]

/-- The gated activations: `silu(z) · u`. -/
theorem final2_act : (dat2 V c).arrAt 4 cfg2.N = gate (V c main_v5) (nt (V c main_v3) (V c main_v6)) := by
  refine (dat2 V c).arrAt_eq_of_covers 4 _ (by decide +kernel) fun t _ y => ?_
  blk_simp
  rw [after2_4]
  canon_tiles x h
  all_goals
    open_payloads
    pointwise [nt, gate]
    blk_point [iblk2, idx2 t]

end Cert.KernelIdeal.Value

end
-- ==== Proof.GateB.lean ====
/- What the product `d · w_downᵀ` with the gradient of the gate fused behind it leaves in its two output arrays; each grid
   point stores its tile in four row slabs. -/
module

public import proofs.«01_k».proof.Proof.Spec
public import proofs.«01_k».proof.Proof.Gen.KernelIdeal.Frame.Region4
public import Idealize.ShloMosaic.Lib.Pipeline.ValueKit
public import Idealize.ShloMosaic.Lib.Pointwise

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.Math

variable (V : (c : Dev nD) → (b : Ref sig .tc) → Buf (Elt Ideal) ((c : Thread nD τ).loc b)) (c : Dev nD)

/-- The blocks region 4 reads and writes at each grid point. -/
theorem idx4 : ∀ t : Fin cfg4.N, win4_0.index t = ![t.val / 11, 0] ∧ win4_1.index t = ![t.val % 11, 0] ∧ win4_2.index t = ![t.val / 11, t.val % 11] ∧ win4_3.index t = ![t.val / 11, t.val % 11] ∧ win4_4.index t = ![t.val / 11, t.val % 11] ∧ win4_5.index t = ![t.val / 11, t.val % 11] :=
  (by decide +kernel : ∀ t : Fin grid4.N, _)

/-- The gradient in the gate projection. -/
theorem final4_dz : (dat4 V c).arrAt 4 cfg4.N = gateDz (V c main_v5) (V c main_v7_0) (nt (V c main_v10) (V c main_v11)) := by
  refine (dat4 V c).arrAt_eq_of_covers 4 _ (by decide +kernel) fun t _ y => ?_
  blk_simp
  rw [after4_4]
  canon_tiles x h
  all_goals
    open_payloads
    pointwise [nt, gateDz]
    blk_point [iblk4, idx4 t]

/-- The gradient in the up projection. -/
theorem final4_du : (dat4 V c).arrAt 5 cfg4.N = gateDu (V c main_v5) (nt (V c main_v10) (V c main_v11)) := by
  refine (dat4 V c).arrAt_eq_of_covers 5 _ (by decide +kernel) fun t _ y => ?_
  blk_simp
  rw [after4_5]
  canon_tiles x h
  all_goals
    open_payloads
    pointwise [nt, gateDu]
    blk_point [iblk4, idx4 t]

end Cert.KernelIdeal.Value

end
-- ==== Proof.RmsA.lean ====
/- What the normalisation leaves in its output array. -/
module

public import proofs.«01_k».proof.Proof.Spec
public import proofs.«01_k».proof.Proof.Gen.KernelIdeal.Frame.Region0
public import Idealize.ShloMosaic.Lib.Pipeline.ValueKit
public import Idealize.ShloMosaic.Lib.Pointwise

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.Math

variable (V : (c : Dev nD) → (b : Ref sig .tc) → Buf (Elt Ideal) ((c : Thread nD τ).loc b)) (c : Dev nD)

/-- The blocks region 0 reads and writes at each grid point. -/
theorem idx0 : ∀ t : Fin cfg0.N, win0_0.index t = ![t.val, 0] ∧ win0_1.index t = ![0, 0] ∧ win0_2.index t = ![t.val, 0] :=
  (by decide +kernel : ∀ t : Fin grid0.N, _)

/-- The normalised rows. -/
theorem final0 : (dat0 V c).arrAt 2 cfg0.N = rms (V c main_arg0) (V c main_arg1) := by
  refine (dat0 V c).arrAt_eq_of_covers 2 _ (by decide +kernel) fun t _ y => ?_
  blk_simp
  rw [after0_2]; frame_out
  pointwise [k0_pay1, rms, meanSq]
  blk_point [iblk0, idx0 t]

end Cert.KernelIdeal.Value

end
-- ==== Proof.RmsB.lean ====
/- What the gradient of the normalisation leaves in its two output arrays: the gradient in the rows, and the gradient in the
   scale, which the grid points add up one after another. -/
module

public import proofs.«01_k».proof.Proof.Spec
public import proofs.«01_k».proof.Proof.Gen.KernelIdeal.Frame.Region10
public import Idealize.ShloMosaic.Lib.Pipeline.ValueKit
public import Idealize.ShloMosaic.Lib.Pointwise

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.Math

variable (V : (c : Dev nD) → (b : Ref sig .tc) → Buf (Elt Ideal) ((c : Thread nD τ).loc b)) (c : Dev nD)

/-- The blocks region 10 reads and writes at each grid point. -/
theorem idx10 : ∀ t : Fin cfg10.N, win10_0.index t = ![t.val, 0] ∧ win10_1.index t = ![0, 0] ∧ win10_2.index t = ![t.val, 0] ∧ win10_3.index t = ![t.val, 0] ∧ win10_4.index t = ![t.val, 0] ∧ win10_5.index t = ![0, 0] :=
  (by decide +kernel : ∀ t : Fin grid10.N, _)

/-- The gradient in the rows, added to the cotangent of the residual stream. -/
theorem final10_dx : (dat10 V c).arrAt 4 cfg10.N = rmsDx (V c main_arg0) (V c main_arg1) (V c main_v22) (V c main_arg5) := by
  refine (dat10 V c).arrAt_eq_of_covers 4 _ (by decide +kernel) fun t _ y => ?_
  blk_simp
  rw [after10_4]
  have hstep : (outsAt10 V c t.val t.isLt).1 = k10_pay7 (iblk10 V c 0 t) (iblk10 V c 1 t) (iblk10 V c 2 t) (iblk10 V c 3 t) := by
    by_cases h : t.val % 8 = 0
    · rw [outsAt10_A V c t h]; frame_out
    · rw [outsAt10_B V c t h]; frame_out
  rw [hstep]
  pointwise [k10_pay7, k10_pay5, k10_pay4, k10_pay3, rmsDx, rmsRow, meanSq, Fin.sum_univ_one]
  blk_point [iblk10, idx10 t]

/-- The accumulator starts at zero. -/
theorem k10_zero (j) : k10_pay1 (F := Ideal) j = 0 := by pointwise [k10_pay1]

/-- One grid point adds the sum over its own rows. -/
theorem k10_add (x0 x2 : FVec Ideal S256x2048 .f32) (acc : FVec Ideal S1x2048 .f32) (j) :
    k10_pay2 (k10_pay6 x0 x2) acc j
      = acc j + ∑ r : Fin 256, x0 (ix2 r (j 1)) * Ideal.rsqrt (Ideal.div (∑ l : Fin 2048, x0 (ix2 r l) * x0 (ix2 r l))
          (Ideal.ofBits .f32 0x45000000#32) + Ideal.ofBits .f32 0x358637BD#32) * x2 (ix2 r (j 1)) := by
  pointwise [k10_pay2, k10_pay6, k10_pay5, k10_pay4, k10_pay3]

/-- The gradient in the scale. -/
theorem final10_dg : (dat10 V c).arrAt 5 cfg10.N = rmsDg (V c main_arg0) (V c main_v22) := by
  refine (dat10 V c).arrAt_eq_of_after_last 5 t10_7 (by decide +kernel) _ fun j => ?_
  blk_simp
  rw [after10_5, Pipeline.eq_sum_fin_of_reset_step_apply_last (fun n h => (outsAt10 V c n h).2) 8 (fun _ => 0) _
    (fun t h j => by rw [outsAt10_A V c t h]; frame_out; rw [k10_add, k10_zero])
    (fun t h j => by rw [outsAt10_B V c t h]; frame_out; rw [k10_add])
    (le_of_eq N_10) t10_7 rfl j, zero_add, rmsDg]
  refine Fin.sum_mul_add_congr fun s k hl => ?_
  pointwise [meanSq]
  blk_point [iblk10, idx10 s]

end Cert.KernelIdeal.Value

end
-- ==== Proof.Fold.lean ====
/- What every array of the kernel's program holds when the program ends, as a function of the arguments: the contents at each
   boundary between two pallas calls, followed from the launch to the end. -/
module

public import proofs.«01_k».proof.Proof.MmA
public import proofs.«01_k».proof.Proof.MmB
public import proofs.«01_k».proof.Proof.MmC
public import proofs.«01_k».proof.Proof.GateA
public import proofs.«01_k».proof.Proof.GateB
public import proofs.«01_k».proof.Proof.RmsA
public import proofs.«01_k».proof.Proof.RmsB
public import proofs.«01_k».proof.Proof.Gen.KernelIdeal.Frame
public import Idealize.ShloMosaic.Lib.StableHlo.Run

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.Math

variable (m : (ℓ : Loc nD τ sig) → Buf (Elt Ideal) ℓ) (ρ : Dev nD → PrngReg) (c : Dev nD)

/-! ## The arguments at their literal types -/

abbrev aX : Mat 2048 2048 := m ((c : Thread nD τ).loc main_arg0)
abbrev aG : Mat 1 2048 := m ((c : Thread nD τ).loc main_arg1)
abbrev aWG : Shards := m ((c : Thread nD τ).loc main_arg2)
abbrev aWU : Shards := m ((c : Thread nD τ).loc main_arg3)
abbrev aWD : Shards := m ((c : Thread nD τ).loc main_arg4)
abbrev aD : Mat 2048 2048 := m ((c : Thread nD τ).loc main_arg5)

/-! ## Reshapes of the weights -/

/-- A weight's shards, cast. -/
def cast16 (W : FVec Ideal S8x704x2048 .f32) : FVec Ideal S8x704x2048 .bf16 := truncf .bf16 W bitsLt_bf16_f32

/-- A weight's shards, cast and stacked. -/
theorem stacked (W : FVec Ideal S8x704x2048 .f32) :
    shapeCast S5632x2048 (cast16 W) shapeCasts_S8x704x2048_S5632x2048 = flat W := by
  funext j
  pointwise [flat, cast16]

/-- A gradient cut into shards. -/
theorem cut (A : FVec Ideal S5632x2048 .f32) :
    shapeCast S8x704x2048 A shapeCasts_S5632x2048_S8x704x2048 = shards A := by
  funext j
  pointwise [shards]

/-! ## The contents at the boundaries -/

theorem w1_v0 : W1 m ρ c (Proc.devRef .tc main_v0) = cast16 (aWG m c) := by
  after_results; rfl

theorem w1_v1 : W1 m ρ c (Proc.devRef .tc main_v1) = cast16 (aWU m c) := by
  after_results; rfl

theorem w1_v2 : W1 m ρ c (Proc.devRef .tc main_v2) = cast16 (aWD m c) := by
  after_results; rfl

/-- The normalised rows. -/
theorem w2_v3 : W2 m ρ c (Proc.devRef .tc main_v3) = rms (aX m c) (aG m c) := by
  refine (W2_arr m ρ c 2).trans ((final0 (V1 m ρ) c).trans ?_)
  have h0 : V1 m ρ c main_arg0 = aX m c := (W1_args m ρ c main_arg0 (by decide))
  have h1 : V1 m ρ c main_arg1 = aG m c := (W1_args m ρ c main_arg1 (by decide))
  rw [h0, h1]

/-- `w_gate`, stacked. -/
theorem w3_v4 : W3 m ρ c (Proc.devRef .tc main_v4) = flat (aWG m c) := by
  refine Eq.trans (b := shapeCast S5632x2048 (W2 m ρ c (Proc.devRef .tc main_v0)) shapeCasts_S8x704x2048_S5632x2048) ?_ ?_
  · after_results; rfl
  · rw [(W2_of m ρ c main_v0 (by decide)), w1_v0 m ρ c]
    exact stacked _

theorem w3_v3 : W3 m ρ c (Proc.devRef .tc main_v3) = rms (aX m c) (aG m c) :=
  ((W3_of m ρ c main_v3 (by decide))).trans (w2_v3 m ρ c)

/-- The gate projection. -/
theorem w4_v5 : W4 m ρ c (Proc.devRef .tc main_v5) = gateProj (aX m c) (aG m c) (aWG m c) := by
  refine (W4_arr m ρ c 2).trans ((final1 (V3 m ρ) c).trans ?_)
  have h0 : V3 m ρ c main_v3 = rms (aX m c) (aG m c) := w3_v3 m ρ c
  have h1 : V3 m ρ c main_v4 = flat (aWG m c) := w3_v4 m ρ c
  rw [h0, h1]
  rfl

/-- `w_up`, stacked. -/
theorem w5_v6 : W5 m ρ c (Proc.devRef .tc main_v6) = flat (aWU m c) := by
  refine Eq.trans (b := shapeCast S5632x2048 (W4 m ρ c (Proc.devRef .tc main_v1)) shapeCasts_S8x704x2048_S5632x2048) ?_ ?_
  · after_results; rfl
  · rw [(W4_of m ρ c main_v1 (by decide)).trans ((W3_of m ρ c main_v1 (by decide)).trans ((W2_of m ρ c main_v1 (by decide)))), w1_v1 m ρ c]
    exact stacked _

theorem w5_v3 : W5 m ρ c (Proc.devRef .tc main_v3) = rms (aX m c) (aG m c) :=
  ((W5_of m ρ c main_v3 (by decide)).trans ((W4_of m ρ c main_v3 (by decide)).trans ((W3_of m ρ c main_v3 (by decide))))).trans (w2_v3 m ρ c)

theorem w5_v5 : W5 m ρ c (Proc.devRef .tc main_v5) = gateProj (aX m c) (aG m c) (aWG m c) :=
  ((W5_of m ρ c main_v5 (by decide))).trans (w4_v5 m ρ c)

/-- The up projection. -/
theorem w6_v7_0 : W6 m ρ c (Proc.devRef .tc main_v7_0) = upProj (aX m c) (aG m c) (aWU m c) := by
  refine (W6_arr m ρ c 3).trans ((final2_up (V5 m ρ) c).trans ?_)
  have h0 : V5 m ρ c main_v3 = rms (aX m c) (aG m c) := w5_v3 m ρ c
  have h1 : V5 m ρ c main_v6 = flat (aWU m c) := w5_v6 m ρ c
  rw [h0, h1]
  rfl

/-- The gated activations. -/
theorem w6_v7_1 : W6 m ρ c (Proc.devRef .tc main_v7_1) = act (aX m c) (aG m c) (aWG m c) (aWU m c) := by
  refine (W6_arr m ρ c 4).trans ((final2_act (V5 m ρ) c).trans ?_)
  have h0 : V5 m ρ c main_v5 = gateProj (aX m c) (aG m c) (aWG m c) := w5_v5 m ρ c
  have h1 : V5 m ρ c main_v3 = rms (aX m c) (aG m c) := w5_v3 m ρ c
  have h2 : V5 m ρ c main_v6 = flat (aWU m c) := w5_v6 m ρ c
  rw [h0, h1, h2]
  rfl

/-- `w_down`, stacked. -/
theorem w7_v8 : W7 m ρ c (Proc.devRef .tc main_v8) = flat (aWD m c) := by
  refine Eq.trans (b := shapeCast S5632x2048 (W6 m ρ c (Proc.devRef .tc main_v2)) shapeCasts_S8x704x2048_S5632x2048) ?_ ?_
  · after_results; rfl
  · rw [(W6_of m ρ c main_v2 (by decide)).trans ((W5_of m ρ c main_v2 (by decide)).trans ((W4_of m ρ c main_v2 (by decide)).trans ((W3_of m ρ c main_v2 (by decide)).trans ((W2_of m ρ c main_v2 (by decide)))))), w1_v2 m ρ c]
    exact stacked _

theorem w7_v7_1 : W7 m ρ c (Proc.devRef .tc main_v7_1) = act (aX m c) (aG m c) (aWG m c) (aWU m c) :=
  ((W7_of m ρ c main_v7_1 (by decide))).trans (w6_v7_1 m ρ c)

/-- The block's result. -/
theorem w8_v9 : W8 m ρ c (Proc.devRef .tc main_v9) = out (aX m c) (aG m c) (aWG m c) (aWU m c) (aWD m c) := by
  refine (W8_arr m ρ c 3).trans ((final3 (V7 m ρ) c).trans ?_)
  have h0 : V7 m ρ c main_v7_1 = act (aX m c) (aG m c) (aWG m c) (aWU m c) := w7_v7_1 m ρ c
  have h1 : V7 m ρ c main_v8 = flat (aWD m c) := w7_v8 m ρ c
  have h2 : V7 m ρ c main_arg0 = aX m c := (W7_args m ρ c main_arg0 (by decide))
  rw [h0, h1, h2]
  rfl

/-- The cotangent, cast. -/
theorem w9_v10 : W9 m ρ c (Proc.devRef .tc main_v10) = aD m c := by
  refine Eq.trans (b := truncf .bf16 (W8 m ρ c (Proc.devRef .tc main_arg5)) bitsLt_bf16_f32) ?_ ?_
  · after_results; rfl
  · rw [W8_args m ρ c main_arg5 (by decide)]
    funext j
    pointwise []

/-- `w_down`, stacked again. -/
theorem w9_v11 : W9 m ρ c (Proc.devRef .tc main_v11) = flat (aWD m c) := by
  refine Eq.trans (b := shapeCast S5632x2048 (W8 m ρ c (Proc.devRef .tc main_v2)) shapeCasts_S8x704x2048_S5632x2048) ?_ ?_
  · after_results; rfl
  · rw [(W8_of m ρ c main_v2 (by decide)).trans ((W7_of m ρ c main_v2 (by decide)).trans ((W6_of m ρ c main_v2 (by decide)).trans ((W5_of m ρ c main_v2 (by decide)).trans ((W4_of m ρ c main_v2 (by decide)).trans ((W3_of m ρ c main_v2 (by decide)).trans ((W2_of m ρ c main_v2 (by decide)))))))), w1_v2 m ρ c]
    exact stacked _

theorem w9_v5 : W9 m ρ c (Proc.devRef .tc main_v5) = gateProj (aX m c) (aG m c) (aWG m c) :=
  ((W9_of m ρ c main_v5 (by decide)).trans ((W8_of m ρ c main_v5 (by decide)).trans ((W7_of m ρ c main_v5 (by decide)).trans ((W6_of m ρ c main_v5 (by decide)).trans ((W5_of m ρ c main_v5 (by decide))))))).trans (w4_v5 m ρ c)

theorem w9_v7_0 : W9 m ρ c (Proc.devRef .tc main_v7_0) = upProj (aX m c) (aG m c) (aWU m c) :=
  ((W9_of m ρ c main_v7_0 (by decide)).trans ((W8_of m ρ c main_v7_0 (by decide)).trans ((W7_of m ρ c main_v7_0 (by decide))))).trans (w6_v7_0 m ρ c)

/-- The cotangent of the gate projection. -/
theorem w10_v12_0 : W10 m ρ c (Proc.devRef .tc main_v12_0) = dGate (aX m c) (aG m c) (aWG m c) (aWU m c) (aWD m c) (aD m c) := by
  refine (W10_arr m ρ c 4).trans ((final4_dz (V9 m ρ) c).trans ?_)
  have h0 : V9 m ρ c main_v5 = gateProj (aX m c) (aG m c) (aWG m c) := w9_v5 m ρ c
  have h1 : V9 m ρ c main_v7_0 = upProj (aX m c) (aG m c) (aWU m c) := w9_v7_0 m ρ c
  have h2 : V9 m ρ c main_v10 = aD m c := w9_v10 m ρ c
  have h3 : V9 m ρ c main_v11 = flat (aWD m c) := w9_v11 m ρ c
  rw [h0, h1, h2, h3]
  rfl

/-- The cotangent of the up projection. -/
theorem w10_v12_1 : W10 m ρ c (Proc.devRef .tc main_v12_1) = dUp (aX m c) (aG m c) (aWG m c) (aWD m c) (aD m c) := by
  refine (W10_arr m ρ c 5).trans ((final4_du (V9 m ρ) c).trans ?_)
  have h0 : V9 m ρ c main_v5 = gateProj (aX m c) (aG m c) (aWG m c) := w9_v5 m ρ c
  have h1 : V9 m ρ c main_v10 = aD m c := w9_v10 m ρ c
  have h2 : V9 m ρ c main_v11 = flat (aWD m c) := w9_v11 m ρ c
  rw [h0, h1, h2]
  rfl

theorem w10_v7_1 : W10 m ρ c (Proc.devRef .tc main_v7_1) = act (aX m c) (aG m c) (aWG m c) (aWU m c) :=
  ((W10_of m ρ c main_v7_1 (by decide)).trans ((W9_of m ρ c main_v7_1 (by decide)).trans ((W8_of m ρ c main_v7_1 (by decide)).trans ((W7_of m ρ c main_v7_1 (by decide)))))).trans (w6_v7_1 m ρ c)

theorem w10_v10 : W10 m ρ c (Proc.devRef .tc main_v10) = aD m c :=
  ((W10_of m ρ c main_v10 (by decide))).trans (w9_v10 m ρ c)

/-- The gradient of `w_down`, uncut. -/
theorem w11_v13 : W11 m ρ c (Proc.devRef .tc main_v13) = tn (act (aX m c) (aG m c) (aWG m c) (aWU m c)) (aD m c) := by
  refine (W11_arr m ρ c 2).trans ((final5 (V10 m ρ) c).trans ?_)
  have h0 : V10 m ρ c main_v7_1 = act (aX m c) (aG m c) (aWG m c) (aWU m c) := w10_v7_1 m ρ c
  have h1 : V10 m ρ c main_v10 = aD m c := w10_v10 m ρ c
  rw [h0, h1]

/-- The gradient of `w_down`. -/
theorem w12_v14 : W12 m ρ c (Proc.devRef .tc main_v14) = dWDown (aX m c) (aG m c) (aWG m c) (aWU m c) (aD m c) := by
  refine Eq.trans (b := shapeCast S8x704x2048 (W11 m ρ c (Proc.devRef .tc main_v13)) shapeCasts_S5632x2048_S8x704x2048) ?_ ?_
  · after_results; rfl
  · rw [w11_v13 m ρ c]
    exact cut _

theorem w12_v3 : W12 m ρ c (Proc.devRef .tc main_v3) = rms (aX m c) (aG m c) :=
  ((W12_of m ρ c main_v3 (by decide)).trans ((W11_of m ρ c main_v3 (by decide)).trans ((W10_of m ρ c main_v3 (by decide)).trans ((W9_of m ρ c main_v3 (by decide)).trans ((W8_of m ρ c main_v3 (by decide)).trans ((W7_of m ρ c main_v3 (by decide)).trans ((W6_of m ρ c main_v3 (by decide)).trans ((W5_of m ρ c main_v3 (by decide)).trans ((W4_of m ρ c main_v3 (by decide)).trans ((W3_of m ρ c main_v3 (by decide)))))))))))).trans (w2_v3 m ρ c)

theorem w12_v12_0 : W12 m ρ c (Proc.devRef .tc main_v12_0) = dGate (aX m c) (aG m c) (aWG m c) (aWU m c) (aWD m c) (aD m c) :=
  ((W12_of m ρ c main_v12_0 (by decide)).trans ((W11_of m ρ c main_v12_0 (by decide)))).trans (w10_v12_0 m ρ c)

/-- The gradient of `w_gate`, uncut. -/
theorem w13_v15 : W13 m ρ c (Proc.devRef .tc main_v15) = tn (dGate (aX m c) (aG m c) (aWG m c) (aWU m c) (aWD m c) (aD m c)) (rms (aX m c) (aG m c)) := by
  refine (W13_arr m ρ c 2).trans ((final6 (V12 m ρ) c).trans ?_)
  have h0 : V12 m ρ c main_v12_0 = dGate (aX m c) (aG m c) (aWG m c) (aWU m c) (aWD m c) (aD m c) := w12_v12_0 m ρ c
  have h1 : V12 m ρ c main_v3 = rms (aX m c) (aG m c) := w12_v3 m ρ c
  rw [h0, h1]

/-- The gradient of `w_gate`. -/
theorem w14_v16 : W14 m ρ c (Proc.devRef .tc main_v16) = dWGate (aX m c) (aG m c) (aWG m c) (aWU m c) (aWD m c) (aD m c) := by
  refine Eq.trans (b := shapeCast S8x704x2048 (W13 m ρ c (Proc.devRef .tc main_v15)) shapeCasts_S5632x2048_S8x704x2048) ?_ ?_
  · after_results; rfl
  · rw [w13_v15 m ρ c]
    exact cut _

theorem w14_v3 : W14 m ρ c (Proc.devRef .tc main_v3) = rms (aX m c) (aG m c) :=
  ((W14_of m ρ c main_v3 (by decide)).trans ((W13_of m ρ c main_v3 (by decide)).trans ((W12_of m ρ c main_v3 (by decide)).trans ((W11_of m ρ c main_v3 (by decide)).trans ((W10_of m ρ c main_v3 (by decide)).trans ((W9_of m ρ c main_v3 (by decide)).trans ((W8_of m ρ c main_v3 (by decide)).trans ((W7_of m ρ c main_v3 (by decide)).trans ((W6_of m ρ c main_v3 (by decide)).trans ((W5_of m ρ c main_v3 (by decide)).trans ((W4_of m ρ c main_v3 (by decide)).trans ((W3_of m ρ c main_v3 (by decide)))))))))))))).trans (w2_v3 m ρ c)

theorem w14_v12_1 : W14 m ρ c (Proc.devRef .tc main_v12_1) = dUp (aX m c) (aG m c) (aWG m c) (aWD m c) (aD m c) :=
  ((W14_of m ρ c main_v12_1 (by decide)).trans ((W13_of m ρ c main_v12_1 (by decide)).trans ((W12_of m ρ c main_v12_1 (by decide)).trans ((W11_of m ρ c main_v12_1 (by decide)))))).trans (w10_v12_1 m ρ c)

/-- The gradient of `w_up`, uncut. -/
theorem w15_v17 : W15 m ρ c (Proc.devRef .tc main_v17) = tn (dUp (aX m c) (aG m c) (aWG m c) (aWD m c) (aD m c)) (rms (aX m c) (aG m c)) := by
  refine (W15_arr m ρ c 2).trans ((final7 (V14 m ρ) c).trans ?_)
  have h0 : V14 m ρ c main_v12_1 = dUp (aX m c) (aG m c) (aWG m c) (aWD m c) (aD m c) := w14_v12_1 m ρ c
  have h1 : V14 m ρ c main_v3 = rms (aX m c) (aG m c) := w14_v3 m ρ c
  rw [h0, h1]

/-- The gradient of `w_up`. -/
theorem w16_v18 : W16 m ρ c (Proc.devRef .tc main_v18) = dWUp (aX m c) (aG m c) (aWG m c) (aWD m c) (aD m c) := by
  refine Eq.trans (b := shapeCast S8x704x2048 (W15 m ρ c (Proc.devRef .tc main_v17)) shapeCasts_S5632x2048_S8x704x2048) ?_ ?_
  · after_results; rfl
  · rw [w15_v17 m ρ c]
    exact cut _

/-- `w_up`, stacked again. -/
theorem w16_v19 : W16 m ρ c (Proc.devRef .tc main_v19) = flat (aWU m c) := by
  refine Eq.trans (b := shapeCast S5632x2048 (W15 m ρ c (Proc.devRef .tc main_v1)) shapeCasts_S8x704x2048_S5632x2048) ?_ ?_
  · after_results; rfl
  · rw [(W15_of m ρ c main_v1 (by decide)).trans ((W14_of m ρ c main_v1 (by decide)).trans ((W13_of m ρ c main_v1 (by decide)).trans ((W12_of m ρ c main_v1 (by decide)).trans ((W11_of m ρ c main_v1 (by decide)).trans ((W10_of m ρ c main_v1 (by decide)).trans ((W9_of m ρ c main_v1 (by decide)).trans ((W8_of m ρ c main_v1 (by decide)).trans ((W7_of m ρ c main_v1 (by decide)).trans ((W6_of m ρ c main_v1 (by decide)).trans ((W5_of m ρ c main_v1 (by decide)).trans ((W4_of m ρ c main_v1 (by decide)).trans ((W3_of m ρ c main_v1 (by decide)).trans ((W2_of m ρ c main_v1 (by decide))))))))))))))), w1_v1 m ρ c]
    exact stacked _

/-- `w_gate`, stacked again. -/
theorem w16_v20 : W16 m ρ c (Proc.devRef .tc main_v20) = flat (aWG m c) := by
  refine Eq.trans (b := shapeCast S5632x2048 (W15 m ρ c (Proc.devRef .tc main_v0)) shapeCasts_S8x704x2048_S5632x2048) ?_ ?_
  · after_results; rfl
  · rw [(W15_of m ρ c main_v0 (by decide)).trans ((W14_of m ρ c main_v0 (by decide)).trans ((W13_of m ρ c main_v0 (by decide)).trans ((W12_of m ρ c main_v0 (by decide)).trans ((W11_of m ρ c main_v0 (by decide)).trans ((W10_of m ρ c main_v0 (by decide)).trans ((W9_of m ρ c main_v0 (by decide)).trans ((W8_of m ρ c main_v0 (by decide)).trans ((W7_of m ρ c main_v0 (by decide)).trans ((W6_of m ρ c main_v0 (by decide)).trans ((W5_of m ρ c main_v0 (by decide)).trans ((W4_of m ρ c main_v0 (by decide)).trans ((W3_of m ρ c main_v0 (by decide)).trans ((W2_of m ρ c main_v0 (by decide))))))))))))))), w1_v0 m ρ c]
    exact stacked _

theorem w16_v12_0 : W16 m ρ c (Proc.devRef .tc main_v12_0) = dGate (aX m c) (aG m c) (aWG m c) (aWU m c) (aWD m c) (aD m c) :=
  ((W16_of m ρ c main_v12_0 (by decide)).trans ((W15_of m ρ c main_v12_0 (by decide)).trans ((W14_of m ρ c main_v12_0 (by decide)).trans ((W13_of m ρ c main_v12_0 (by decide)).trans ((W12_of m ρ c main_v12_0 (by decide)).trans ((W11_of m ρ c main_v12_0 (by decide)))))))).trans (w10_v12_0 m ρ c)

/-- The part of the gradient through the gate projection. -/
theorem w17_v21 : W17 m ρ c (Proc.devRef .tc main_v21) = nn (dGate (aX m c) (aG m c) (aWG m c) (aWU m c) (aWD m c) (aD m c)) (flat (aWG m c)) := by
  refine (W17_arr m ρ c 2).trans ((final8 (V16 m ρ) c).trans ?_)
  have h0 : V16 m ρ c main_v12_0 = dGate (aX m c) (aG m c) (aWG m c) (aWU m c) (aWD m c) (aD m c) := w16_v12_0 m ρ c
  have h1 : V16 m ρ c main_v20 = flat (aWG m c) := w16_v20 m ρ c
  rw [h0, h1]

theorem w17_v12_1 : W17 m ρ c (Proc.devRef .tc main_v12_1) = dUp (aX m c) (aG m c) (aWG m c) (aWD m c) (aD m c) :=
  ((W17_of m ρ c main_v12_1 (by decide)).trans ((W16_of m ρ c main_v12_1 (by decide)).trans ((W15_of m ρ c main_v12_1 (by decide)).trans ((W14_of m ρ c main_v12_1 (by decide)).trans ((W13_of m ρ c main_v12_1 (by decide)).trans ((W12_of m ρ c main_v12_1 (by decide)).trans ((W11_of m ρ c main_v12_1 (by decide))))))))).trans (w10_v12_1 m ρ c)

theorem w17_v19 : W17 m ρ c (Proc.devRef .tc main_v19) = flat (aWU m c) :=
  ((W17_of m ρ c main_v19 (by decide))).trans (w16_v19 m ρ c)

/-- The cotangent of the normalised rows. -/
theorem w18_v22 : W18 m ρ c (Proc.devRef .tc main_v22) = dNorm (aX m c) (aG m c) (aWG m c) (aWU m c) (aWD m c) (aD m c) := by
  refine (W18_arr m ρ c 3).trans ((final9 (V17 m ρ) c).trans ?_)
  have h0 : V17 m ρ c main_v12_1 = dUp (aX m c) (aG m c) (aWG m c) (aWD m c) (aD m c) := w17_v12_1 m ρ c
  have h1 : V17 m ρ c main_v19 = flat (aWU m c) := w17_v19 m ρ c
  have h2 : V17 m ρ c main_v21 = nn (dGate (aX m c) (aG m c) (aWG m c) (aWU m c) (aWD m c) (aD m c)) (flat (aWG m c)) := w17_v21 m ρ c
  rw [h0, h1, h2]
  rfl

/-- The gradient of the residual stream. -/
theorem w19_v23_0 : W19 m ρ c (Proc.devRef .tc main_v23_0) = dX (aX m c) (aG m c) (aWG m c) (aWU m c) (aWD m c) (aD m c) := by
  refine (W19_arr m ρ c 4).trans ((final10_dx (V18 m ρ) c).trans ?_)
  have h0 : V18 m ρ c main_arg0 = aX m c := (W18_args m ρ c main_arg0 (by decide))
  have h1 : V18 m ρ c main_arg1 = aG m c := (W18_args m ρ c main_arg1 (by decide))
  have h2 : V18 m ρ c main_v22 = dNorm (aX m c) (aG m c) (aWG m c) (aWU m c) (aWD m c) (aD m c) := w18_v22 m ρ c
  have h3 : V18 m ρ c main_arg5 = aD m c := (W18_args m ρ c main_arg5 (by decide))
  rw [h0, h1, h2, h3]
  rfl

/-- The gradient of the norm's scale. -/
theorem w19_v23_1 : W19 m ρ c (Proc.devRef .tc main_v23_1) = dG (aX m c) (aG m c) (aWG m c) (aWU m c) (aWD m c) (aD m c) := by
  refine (W19_arr m ρ c 5).trans ((final10_dg (V18 m ρ) c).trans ?_)
  have h0 : V18 m ρ c main_arg0 = aX m c := (W18_args m ρ c main_arg0 (by decide))
  have h1 : V18 m ρ c main_v22 = dNorm (aX m c) (aG m c) (aWG m c) (aWU m c) (aWD m c) (aD m c) := w18_v22 m ρ c
  rw [h0, h1]
  rfl

theorem w19_v9 : W19 m ρ c (Proc.devRef .tc main_v9) = out (aX m c) (aG m c) (aWG m c) (aWU m c) (aWD m c) :=
  ((W19_of m ρ c main_v9 (by decide)).trans ((W18_of m ρ c main_v9 (by decide)).trans ((W17_of m ρ c main_v9 (by decide)).trans ((W16_of m ρ c main_v9 (by decide)).trans ((W15_of m ρ c main_v9 (by decide)).trans ((W14_of m ρ c main_v9 (by decide)).trans ((W13_of m ρ c main_v9 (by decide)).trans ((W12_of m ρ c main_v9 (by decide)).trans ((W11_of m ρ c main_v9 (by decide)).trans ((W10_of m ρ c main_v9 (by decide)).trans ((W9_of m ρ c main_v9 (by decide))))))))))))).trans (w8_v9 m ρ c)

theorem w19_v14 : W19 m ρ c (Proc.devRef .tc main_v14) = dWDown (aX m c) (aG m c) (aWG m c) (aWU m c) (aD m c) :=
  ((W19_of m ρ c main_v14 (by decide)).trans ((W18_of m ρ c main_v14 (by decide)).trans ((W17_of m ρ c main_v14 (by decide)).trans ((W16_of m ρ c main_v14 (by decide)).trans ((W15_of m ρ c main_v14 (by decide)).trans ((W14_of m ρ c main_v14 (by decide)).trans ((W13_of m ρ c main_v14 (by decide))))))))).trans (w12_v14 m ρ c)

theorem w19_v16 : W19 m ρ c (Proc.devRef .tc main_v16) = dWGate (aX m c) (aG m c) (aWG m c) (aWU m c) (aWD m c) (aD m c) :=
  ((W19_of m ρ c main_v16 (by decide)).trans ((W18_of m ρ c main_v16 (by decide)).trans ((W17_of m ρ c main_v16 (by decide)).trans ((W16_of m ρ c main_v16 (by decide)).trans ((W15_of m ρ c main_v16 (by decide))))))).trans (w14_v16 m ρ c)

theorem w19_v18 : W19 m ρ c (Proc.devRef .tc main_v18) = dWUp (aX m c) (aG m c) (aWG m c) (aWD m c) (aD m c) :=
  ((W19_of m ρ c main_v18 (by decide)).trans ((W18_of m ρ c main_v18 (by decide)).trans ((W17_of m ρ c main_v18 (by decide))))).trans (w16_v18 m ρ c)

end Cert.KernelIdeal.Value

end
-- ==== Proof.Run.lean ====
/- The kernel's program, run from any memory: every result is the block's mathematics, and the arguments end as they began. -/
module

public import proofs.«01_k».proof.Proof.Fold

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Math

variable (m : (ℓ : Loc nD τ sig) → Buf (Elt Ideal) ℓ) (ρ : Dev nD → PrngReg)

set_option backward.isDefEq.respectTransparency.types false in
/-- Every execution ends with the block's result and its gradients in the six result arrays: what the arrays hold at the
    last boundary (`Fold`), read off the final memory. -/
theorem run_math : θ_run defs (onTc (τ := τ) (main (F := Ideal))) ⟨m, fun _ => 0, ρ⟩ (fun r => ∀ c : Dev nD,
      (r.2.mem ((c.tc : Thread nD τ).loc main_v9) = out (aX m c) (aG m c) (aWG m c) (aWU m c) (aWD m c)
      ∧ r.2.mem ((c.tc : Thread nD τ).loc main_v23_0) = dX (aX m c) (aG m c) (aWG m c) (aWU m c) (aWD m c) (aD m c)
      ∧ r.2.mem ((c.tc : Thread nD τ).loc main_v23_1) = dG (aX m c) (aG m c) (aWG m c) (aWU m c) (aWD m c) (aD m c)
      ∧ r.2.mem ((c.tc : Thread nD τ).loc main_v16) = dWGate (aX m c) (aG m c) (aWG m c) (aWU m c) (aWD m c) (aD m c)
      ∧ r.2.mem ((c.tc : Thread nD τ).loc main_v18) = dWUp (aX m c) (aG m c) (aWG m c) (aWD m c) (aD m c)
      ∧ r.2.mem ((c.tc : Thread nD τ).loc main_v14) = dWDown (aX m c) (aG m c) (aWG m c) (aWU m c) (aD m c))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))) :=
  Pipeline.θ_run_regions_kit_sems (pcfgs (F := Ideal)) adm (pdats m ρ) () cellOf_inj emb₁ defs₀ 𝒱₀ L lv m ρ (main (F := Ideal)) (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h hz c =>
      ⟨⟨(h c _ (mem_uc main_v9 (by decide))).trans (w19_v9 m ρ c),
        (h c _ (mem_uc main_v23_0 (by decide))).trans (w19_v23_0 m ρ c),
        (h c _ (mem_uc main_v23_1 (by decide))).trans (w19_v23_1 m ρ c),
        (h c _ (mem_uc main_v16 (by decide))).trans (w19_v16 m ρ c),
        (h c _ (mem_uc main_v18 (by decide))).trans (w19_v18 m ρ c),
        (h c _ (mem_uc main_v14 (by decide))).trans (w19_v14 m ρ c)⟩,
       (h c _ (mem_uc main_arg0 (by decide))).trans (W19_main_arg0 m ρ c),
        (h c _ (mem_uc main_arg1 (by decide))).trans (W19_main_arg1 m ρ c),
        (h c _ (mem_uc main_arg2 (by decide))).trans (W19_main_arg2 m ρ c),
        (h c _ (mem_uc main_arg3 (by decide))).trans (W19_main_arg3 m ρ c),
        (h c _ (mem_uc main_arg4 (by decide))).trans (W19_main_arg4 m ρ c),
        (h c _ (mem_uc main_arg5 (by decide))).trans (W19_main_arg5 m ρ c)⟩)

end Cert.KernelIdeal.Value

end
-- ==== Proof.Reference.lean ====
/- What the reference computes: its operations, stage by stage, are the functions of `Cert.Math`. -/
module

public import proofs.«01_k».proof.Proof.Spec
public import proofs.«01_k».proof.Proof.Gen.ReferenceIdeal.Run

@[expose] public section

set_option maxRecDepth 16384

noncomputable section

namespace Cert.ReferenceIdeal.Value

open Idealize.ShloMosaic Idealize.ShloMosaic.TcCoe Idealize.SL.Sem
open Cert.ReferenceIdeal Cert.ReferenceIdeal.Gen Cert.Math

abbrev Arr := FVec Ideal S2048x2048 .f32
abbrev Wide := FVec Ideal S2048x5632 .f32
abbrev Col := FVec Ideal S2048x1 .f32
abbrev Row := FVec Ideal S1x2048 .f32
abbrev Tall := FVec Ideal S5632x2048 .f32
abbrev Cut := FVec Ideal S8x704x2048 .f32

/-! ## The stages, as the program spells them -/

/-- Each row's mean square plus the stabiliser. -/
def msH (x : Arr) : Col :=
  addf (Host.divf (broadcastInDim S2048x1 ![0] bcast_S2048_S2048x1_0
      (Host.reduceAdd (mulf x x) (constant S_ .f32 0x00000000#32) reducesTo_S2048x2048_S2048_d1 h_S_))
    (broadcastInDim S2048x1 ![] bcast_S_S2048x1 (constant S_ .f32 0x45000000#32)))
    (broadcastInDim S2048x1 ![] bcast_S_S2048x1 (constant S_ .f32 0x358637BD#32))

/-- Each row divided by its root mean square. -/
def hatH (x : Arr) : Arr := mulf x (broadcastInDim S2048x2048 ![0, 1] bcast_S2048x1_S2048x2048_0_1 (Host.rsqrt (msH x)))

/-- The normalised rows. -/
def normH (x : Arr) (g : Row) : Arr := mulf (hatH x) (broadcastInDim S2048x2048 ![0, 1] bcast_S1x2048_S2048x2048_0_1 g)

/-- A weight's shards, stacked. -/
def flatH (w : Cut) : Tall := shapeCast S5632x2048 w shapeCasts_S8x704x2048_S5632x2048

/-- A stacked weight, transposed. -/
def turnH (w : Tall) : Wide := transpose S2048x5632 [1, 0] w transposes_S5632x2048_S2048x5632_1_0

/-- A projection of the normalised rows. -/
def projH (h : Arr) (w : Wide) : Wide := Host.dotGeneral dot_S2048x2048_S2048x5632_S2048x5632_1_0_0_1_n_n none h w

/-- One over every element. -/
def oneH : Wide := broadcastInDim S2048x5632 ![] bcast_S_S2048x5632 (constant S_ .f32 0x3F800000#32)

/-- The logistic function. -/
def sigH (z : Wide) : Wide := Host.divf oneH (addf oneH (Host.exp (Host.negf z)))

/-- `silu`. -/
def siluH (z : Wide) : Wide := mulf z (sigH z)

/-- The block's result. -/
def outH (x : Arr) (a : Wide) (w : Tall) : Arr :=
  addf x (Host.dotGeneral dot_S2048x5632_S5632x2048_S2048x2048_1_0_0_1_n_n none a w)

/-- The cotangent, under the reference's reshape. -/
def ctH (d : Arr) : Arr := shapeCast S2048x2048 d shapeCasts_S2048x2048_S2048x2048

/-- The cotangent of the activations. -/
def dActH (d : Arr) (w : Tall) : Wide := Host.dotGeneral dot_S2048x2048_S5632x2048_S2048x5632_1_1_0_0_n_n none (ctH d) w

/-- The cotangent of the gate projection. -/
def dzH (z u d : Wide) : Wide :=
  addf (mulf (mulf d u) (sigH z)) (mulf (mulf z (mulf d u)) (mulf (sigH z) (subf oneH (sigH z))))

/-- The cotangent of the up projection. -/
def duH (z d : Wide) : Wide := mulf (siluH z) d

/-- The gradient of `w_down`. -/
def dwDownH (d : Arr) (a : Wide) : Cut :=
  shapeCast S8x704x2048 (transpose S5632x2048 [1, 0]
    (Host.dotGeneral dot_S2048x2048_S2048x5632_S2048x5632_0_0_1_1_n_n none (ctH d) a) transposes_S2048x5632_S5632x2048_1_0)
    shapeCasts_S5632x2048_S8x704x2048

/-- The gradient of a weight of a projection. -/
def dwH (dz : Wide) (h : Arr) : Cut :=
  shapeCast S8x704x2048 (transpose S5632x2048 [1, 0] (transpose S2048x5632 [1, 0]
    (Host.dotGeneral dot_S2048x5632_S2048x2048_S5632x2048_0_0_1_1_n_n none dz h) transposes_S5632x2048_S2048x5632_1_0)
    transposes_S2048x5632_S5632x2048_1_0) shapeCasts_S5632x2048_S8x704x2048

/-- The cotangent of the normalised rows. -/
def dhH (du dz : Wide) (wu wg : Wide) : Arr :=
  addf (Host.dotGeneral dot_S2048x5632_S2048x5632_S2048x2048_1_1_0_0_n_n none du wu)
    (Host.dotGeneral dot_S2048x5632_S2048x5632_S2048x2048_1_1_0_0_n_n none dz wg)

/-- The gradient of the norm's scale. -/
def dgH (x dh : Arr) : Row :=
  shapeCast S1x2048 (Host.reduceAdd (mulf (hatH x) dh) (constant S_ .f32 0x00000000#32) reducesTo_S2048x2048_S2048_d0 h_S_)
    shapeCasts_S2048_S1x2048

/-- The cotangent times the scale. -/
def dHatH (g : Row) (dh : Arr) : Arr := mulf dh (broadcastInDim S2048x2048 ![0, 1] bcast_S1x2048_S2048x2048_0_1 g)

/-- The term the mean square contributes, before its two factors `x`. -/
def rowH (x : Arr) (g : Row) (dh : Arr) : Arr :=
  broadcastInDim S2048x2048 ![0] bcast_S2048_S2048x2048_0 (Host.reduceAdd
    (Host.divf (mulf (shapeCast S2048x1 (Host.reduceAdd (mulf x (dHatH g dh)) (constant S_ .f32 0x00000000#32)
          reducesTo_S2048x2048_S2048_d1 h_S_) shapeCasts_S2048_S2048x1)
        (mulf (broadcastInDim S2048x1 ![] bcast_S_S2048x1 (constant S_ .f32 0xBF000000#32))
          (Host.divf (Host.rsqrt (msH x)) (msH x))))
      (broadcastInDim S2048x1 ![] bcast_S_S2048x1 (constant S_ .f32 0x45000000#32)))
    (constant S_ .f32 0x00000000#32) reducesTo_S2048x1_S2048_d1 h_S_)

/-- The gradient of the residual stream. -/
def dxH (x : Arr) (g : Row) (dh d : Arr) : Arr :=
  addf (addf (addf d (mulf (dHatH g dh)
      (broadcastInDim S2048x2048 ![0, 1] bcast_S2048x1_S2048x2048_0_1 (Host.rsqrt (msH x)))))
    (mulf x (rowH x g dh))) (mulf (rowH x g dh) x)

/-! ## Each stage is the mathematics -/

theorem normH_eq (x : Arr) (g : Row) : normH x g = rms x g := by
  funext j
  pointwise [normH, hatH, msH, rms, meanSq]

theorem flatH_eq (w : Cut) : flatH w = flat w := by
  funext j
  pointwise [flatH, flat]

theorem projH_eq (h : Arr) (w : Tall) : projH h (turnH w) = nt h w := by
  funext j
  pointwise [projH, turnH, nt]

theorem actH_eq (z u : Wide) : mulf (siluH z) u = gate z u := by
  funext j
  pointwise [siluH, sigH, oneH, gate, Ideal.logistic]

theorem outH_eq (x : Arr) (a : Wide) (w : Tall) : outH x a w = add (nn a w) x := by
  funext j
  refine Eq.trans (b := x j + nn a w j) ?_ (add_comm _ _)
  pointwise [outH, nn]

theorem dActH_eq (d : Arr) (w : Tall) : dActH d w = nt d w := by
  funext j
  pointwise [dActH, ctH, nt]

theorem dzH_eq (z u d : Wide) : dzH z u d = gateDz z u d := by
  funext j
  pointwise [dzH, sigH, oneH, gateDz, Ideal.logistic]

theorem duH_eq (z d : Wide) : duH z d = gateDu z d := by
  funext j
  pointwise [duH, siluH, sigH, oneH, gateDu, Ideal.logistic]

theorem dwDownH_eq (d : Arr) (a : Wide) : dwDownH d a = shards (tn a d) := by
  funext j
  refine Eq.trans (b := shards (fun i => ∑ l : Fin 2048, d (ix2 l (i 1)) * a (ix2 l (i 0))) j) ?_ (Finset.sum_congr rfl fun l _ => mul_comm _ _)
  pointwise [dwDownH, ctH, shards]

theorem dwH_eq (dz : Wide) (h : Arr) : dwH dz h = shards (tn dz h) := by
  funext j
  pointwise [dwH, shards, tn]

theorem dhH_eq (du dz : Wide) (wu wg : Tall) : dhH du dz (turnH wu) (turnH wg) = add (nn du wu) (nn dz wg) := by
  funext j
  pointwise [dhH, turnH, add, nn]

theorem dgH_eq (x dh : Arr) : dgH x dh = rmsDg x dh := by
  funext j
  pointwise [dgH, hatH, msH, rmsDg, meanSq]

theorem dxH_eq (x : Arr) (g : Row) (dh d : Arr) : dxH x g dh d = rmsDx x g dh d := by
  funext j
  pointwise [dxH, dHatH, rowH, msH, rmsDx, rmsRow, meanSq, Fin.sum_univ_one]

/-! ## The reference's results -/

variable (m : (ℓ : Loc nD τ sig) → Buf (Elt Ideal) ℓ) (c : Dev nD)

abbrev aX : Mat 2048 2048 := m ((c : Thread nD τ).loc main_arg0)
abbrev aG : Mat 1 2048 := m ((c : Thread nD τ).loc main_arg1)
abbrev aWG : Shards := m ((c : Thread nD τ).loc main_arg2)
abbrev aWU : Shards := m ((c : Thread nD τ).loc main_arg3)
abbrev aWD : Shards := m ((c : Thread nD τ).loc main_arg4)
abbrev aD : Mat 2048 2048 := m ((c : Thread nD τ).loc main_arg5)

/-- The gate projection, in the program's spelling. -/
abbrev zT : Wide := projH (normH (aX m c) (aG m c)) (turnH (flatH (aWG m c)))
/-- The up projection. -/
abbrev uT : Wide := projH (normH (aX m c) (aG m c)) (turnH (flatH (aWU m c)))
/-- The activations. -/
abbrev actT : Wide := mulf (siluH (zT m c)) (uT m c)
/-- The cotangent of the activations. -/
abbrev dT : Wide := dActH (aD m c) (flatH (aWD m c))
/-- The cotangent of the normalised rows. -/
abbrev dhT : Arr :=
  dhH (duH (zT m c) (dT m c)) (dzH (zT m c) (uT m c) (dT m c)) (turnH (flatH (aWU m c))) (turnH (flatH (aWG m c)))

theorem zT_eq : zT m c = gateProj (aX m c) (aG m c) (aWG m c) := by
  unfold zT; rw [projH_eq, normH_eq, flatH_eq]; rfl

theorem uT_eq : uT m c = upProj (aX m c) (aG m c) (aWU m c) := by
  unfold uT; rw [projH_eq, normH_eq, flatH_eq]; rfl

theorem actT_eq : actT m c = act (aX m c) (aG m c) (aWG m c) (aWU m c) := by
  unfold actT; rw [actH_eq, zT_eq, uT_eq]; rfl

theorem dT_eq : dT m c = dAct (aWD m c) (aD m c) := by
  unfold dT; rw [dActH_eq, flatH_eq]; rfl

theorem dzT_eq : dzH (zT m c) (uT m c) (dT m c) = dGate (aX m c) (aG m c) (aWG m c) (aWU m c) (aWD m c) (aD m c) := by
  rw [dzH_eq, zT_eq, uT_eq, dT_eq]; rfl

theorem duT_eq : duH (zT m c) (dT m c) = dUp (aX m c) (aG m c) (aWG m c) (aWD m c) (aD m c) := by
  rw [duH_eq, zT_eq, dT_eq]; rfl

theorem dhT_eq : dhT m c = dNorm (aX m c) (aG m c) (aWG m c) (aWU m c) (aWD m c) (aD m c) := by
  unfold dhT; rw [dhH_eq, duT_eq, dzT_eq, flatH_eq, flatH_eq]; rfl

theorem out_eq : outH (aX m c) (actT m c) (flatH (aWD m c))
    = out (aX m c) (aG m c) (aWG m c) (aWU m c) (aWD m c) := by
  rw [outH_eq, actT_eq, flatH_eq]; rfl

theorem dwDown_eq : dwDownH (aD m c) (actT m c) = dWDown (aX m c) (aG m c) (aWG m c) (aWU m c) (aD m c) := by
  rw [dwDownH_eq, actT_eq]; rfl

theorem dwUp_eq : dwH (duH (zT m c) (dT m c)) (normH (aX m c) (aG m c))
    = dWUp (aX m c) (aG m c) (aWG m c) (aWD m c) (aD m c) := by
  rw [dwH_eq, duT_eq, normH_eq]; rfl

theorem dwGate_eq : dwH (dzH (zT m c) (uT m c) (dT m c)) (normH (aX m c) (aG m c))
    = dWGate (aX m c) (aG m c) (aWG m c) (aWU m c) (aWD m c) (aD m c) := by
  rw [dwH_eq, dzT_eq, normH_eq]; rfl

theorem dx_eq : res_out1 m c = dX (aX m c) (aG m c) (aWG m c) (aWU m c) (aWD m c) (aD m c) := by
  refine Eq.trans (b := dxH (aX m c) (aG m c) (dhT m c) (aD m c)) rfl ?_
  rw [dxH_eq, dhT_eq]; rfl

theorem dg_eq : res_out2 m c = dG (aX m c) (aG m c) (aWG m c) (aWU m c) (aWD m c) (aD m c) := by
  refine Eq.trans (b := dgH (aX m c) (dhT m c)) rfl ?_
  rw [dgH_eq, dhT_eq]; rfl

/-- The reference's run: every result is the block's mathematics, the arguments end as they began. -/
theorem run_math (ρ : Dev nD → PrngReg) :
    θ_run defs (onTc (τ := τ) (main (F := Ideal))) ⟨m, fun _ => 0, ρ⟩ fun r => ∀ c : Dev nD,
      (r.2.mem ((c.tc : Thread nD τ).loc main_v25) = out (aX m c) (aG m c) (aWG m c) (aWU m c) (aWD m c)
      ∧ r.2.mem ((c.tc : Thread nD τ).loc main_v64) = dX (aX m c) (aG m c) (aWG m c) (aWU m c) (aWD m c) (aD m c)
      ∧ r.2.mem ((c.tc : Thread nD τ).loc main_v47) = dG (aX m c) (aG m c) (aWG m c) (aWU m c) (aWD m c) (aD m c)
      ∧ r.2.mem ((c.tc : Thread nD τ).loc main_v44) = dWGate (aX m c) (aG m c) (aWG m c) (aWU m c) (aWD m c) (aD m c)
      ∧ r.2.mem ((c.tc : Thread nD τ).loc main_v43) = dWUp (aX m c) (aG m c) (aWG m c) (aWD m c) (aD m c)
      ∧ r.2.mem ((c.tc : Thread nD τ).loc main_v42) = dWDown (aX m c) (aG m c) (aWG m c) (aWU m c) (aD m c))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => by
    obtain ⟨h0, h1, h2, h3, h4, h5, ha⟩ := h c
    exact ⟨⟨h0.trans (out_eq m c), h1.trans (dx_eq m c), h2.trans (dg_eq m c), h3.trans (dwGate_eq m c),
      h4.trans (dwUp_eq m c), h5.trans (dwDown_eq m c)⟩, ha⟩) (run m ρ)

end Cert.ReferenceIdeal.Value

end
-- ==== Proof.Claims.lean ====
/- The claims that speak of the reference: its frame, and the equality of the kernel's results with it. -/
module

public import proofs.«01_k».proof.Defs
public import proofs.«01_k».proof.Proof.Run
public import proofs.«01_k».proof.Proof.Reference
public import Idealize.ShloMosaic.Lib.Claim

@[expose] public section

set_option maxRecDepth 16384

noncomputable section

namespace Cert.Proof

open Idealize.ShloMosaic Idealize.SL.Sem Cert.Math
open Cert.KernelIdeal.Value (aX aG aWG aWU aWD aD)

/-- The reference's frame. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run_math m ρ)

/-- The kernel's results are the reference's: both are the block's mathematics of the same arguments. -/
theorem algebraic : Cert.algebraic_KernelIdeal_ReferenceIdeal := by
  intro m g m' g' _ h
  refine ⟨fun c => out (aX m c) (aG m c) (aWG m c) (aWU m c) (aWD m c),
    fun c => dX (aX m c) (aG m c) (aWG m c) (aWU m c) (aWD m c) (aD m c),
    fun c => dG (aX m c) (aG m c) (aWG m c) (aWU m c) (aWD m c) (aD m c),
    fun c => dWGate (aX m c) (aG m c) (aWG m c) (aWU m c) (aWD m c) (aD m c),
    fun c => dWUp (aX m c) (aG m c) (aWG m c) (aWD m c) (aD m c),
    fun c => dWDown (aX m c) (aG m c) (aWG m c) (aWU m c) (aD m c),
    (θ_run _ _ _).mono (fun r hr c => ?_) (Cert.KernelIdeal.Value.run_math m g),
    (θ_run _ _ _).mono (fun r hr c => ?_) (Cert.ReferenceIdeal.Value.run_math m' g')⟩
  · obtain ⟨⟨h0, h1, h2, h3, h4, h5⟩, ha⟩ := hr c
    exact ⟨h0, h1, h2, h3, h4, h5, ha⟩
  · obtain ⟨⟨h0, h1, h2, h3, h4, h5⟩, ha⟩ := hr c
    obtain ⟨e0, e1, e2, e3, e4, e5⟩ := h c
    have hX : Cert.ReferenceIdeal.Value.aX m' c = aX m c := e0
    have hG : Cert.ReferenceIdeal.Value.aG m' c = aG m c := e1
    have hWG : Cert.ReferenceIdeal.Value.aWG m' c = aWG m c := e2
    have hWU : Cert.ReferenceIdeal.Value.aWU m' c = aWU m c := e3
    have hWD : Cert.ReferenceIdeal.Value.aWD m' c = aWD m c := e4
    have hD : Cert.ReferenceIdeal.Value.aD m' c = aD m c := e5
    rw [hX, hG, hWG, hWU, hWD] at h0
    rw [hX, hG, hWG, hWU, hWD, hD] at h1 h2 h3
    rw [hX, hG, hWG, hWD, hD] at h4
    rw [hX, hG, hWG, hWU, hD] at h5
    exact ⟨h0, h1, h2, h3, h4, h5, ha⟩

end Cert.Proof

end
-- ==== Proof.Spec2.lean ====
/- The mathematics around the mixers of a layer as plain functions of arrays of extended reals: the projection into the
   mixers' inputs, the three normalised outputs side by side, the projection back into the residual stream, and the
   gradients of all of these. Both programs are compared with these. -/
module

public import proofs.«01_k».proof.Proof.Spec

@[expose] public section

noncomputable section

namespace Cert.Math

open Idealize.ShloMosaic

/-! ## Root-mean-square normalisation over rows of any width

`k` is the row's width as an `f32` constant, the divisor of the mean. -/

section Rms

variable {n : ℕ} (k : BitVec 32)

/-- Row `r`'s mean square plus the stabiliser. -/
def wMeanSq (x : Mat 2048 n) (r : Fin 2048) : EReal :=
  Ideal.div (∑ l : Fin n, x (ix2 r l) * x (ix2 r l)) (Ideal.ofBits .f32 k) + Ideal.ofBits .f32 0x358637BD#32

/-- The normalised rows, scaled by `g`. -/
def wRms (x : Mat 2048 n) (g : Mat 1 n) : Mat 2048 n := fun j =>
  x j * Ideal.rsqrt (wMeanSq k x (j 0)) * g (ix2 0 (j 1))

/-- What row `r`'s mean square contributes to the gradient in each of its elements, before the factor `x`. -/
def wRow (x : Mat 2048 n) (g : Mat 1 n) (d : Mat 2048 n) (r : Fin 2048) : EReal :=
  Ideal.div ((∑ l : Fin n, x (ix2 r l) * (d (ix2 r l) * g (ix2 0 l)))
    * (Ideal.ofBits .f32 0xBF000000#32 * Ideal.div (Ideal.rsqrt (wMeanSq k x r)) (wMeanSq k x r))) (Ideal.ofBits .f32 k)

/-- The gradient in `x` against the cotangent `d`. -/
def wDx (x : Mat 2048 n) (g : Mat 1 n) (d : Mat 2048 n) : Mat 2048 n := fun j =>
  d j * g (ix2 0 (j 1)) * Ideal.rsqrt (wMeanSq k x (j 0)) + x j * wRow k x g d (j 0) + wRow k x g d (j 0) * x j

/-- The gradient in the scale `g` against the cotangent `d`: summed over the rows. -/
def wDg (x d : Mat 2048 n) : Mat 1 n := fun j =>
  ∑ r : Fin 2048, x (ix2 r (j 1)) * Ideal.rsqrt (wMeanSq k x r) * d (ix2 r (j 1))

end Rms

/-! ## Three arrays side by side -/

/-- `A`, `B` and `C` next to each other: 1024, 512 and 512 columns. -/
def beside (A : Mat 2048 1024) (B C : Mat 2048 512) : Mat 2048 2048 := fun j =>
  if h : (j 1).val < 1024 then A (ix2 (j 0) ⟨(j 1).val, h⟩)
  else if h2 : (j 1).val - 1024 < 512 then B (ix2 (j 0) ⟨(j 1).val - 1024, h2⟩)
  else C (ix2 (j 0) ⟨(j 1).val - 1024 - 512, by have := (j 1).isLt; simp at this; omega⟩)

/-- The first 1024 columns. -/
def left (A : Mat 2048 2048) : Mat 2048 1024 := fun j =>
  A (ix2 (j 0) ⟨(j 1).val, by have := (j 1).isLt; simp at this; omega⟩)

/-- The 512 columns after the first 1024. -/
def middle (A : Mat 2048 2048) : Mat 2048 512 := fun j =>
  A (ix2 (j 0) ⟨1024 + (j 1).val, by have := (j 1).isLt; simp at this; omega⟩)

/-- The last 512 columns. -/
def right (A : Mat 2048 2048) : Mat 2048 512 := fun j =>
  A (ix2 (j 0) ⟨1536 + (j 1).val, by have := (j 1).isLt; simp at this; omega⟩)

/-! ## The weights: eight shards, stacked -/

/-- Eight shards of 360 rows: the input projection. -/
abbrev InShards : Type := (⟨3, ![8, 360, 2048]⟩ : Shape).Idx → EReal

/-- Eight shards of 256 rows: the output projection. -/
abbrev OutShards : Type := (⟨3, ![8, 256, 2048]⟩ : Shape).Idx → EReal

/-- The input projection's shards as one array. -/
def flatIn (W : InShards) : Mat 2880 2048 := fun j =>
  W (ix3 (⟨(j 0).val / 360, by have := (j 0).isLt; simp at this; omega⟩ : Fin 8)
    (⟨(j 0).val % 360, Nat.mod_lt _ (by norm_num)⟩ : Fin 360) (j 1))

/-- An array of 2880 rows cut into eight shards. -/
def cutIn (A : Mat 2880 2048) : InShards := fun j =>
  A (ix2 (⟨(j 0).val * 360 + (j 1).val, by have := (j 0).isLt; have := (j 1).isLt; simp at *; omega⟩ : Fin 2880) (j 2))

/-- The output projection's shards as one array. -/
def flatOut (W : OutShards) : Mat 2048 2048 := fun j =>
  W (ix3 (⟨(j 0).val / 256, by have := (j 0).isLt; simp at this; omega⟩ : Fin 8)
    (⟨(j 0).val % 256, Nat.mod_lt _ (by norm_num)⟩ : Fin 256) (j 1))

/-- An array of 2048 rows cut into eight shards. -/
def cutOut (A : Mat 2048 2048) : OutShards := fun j =>
  A (ix2 (⟨(j 0).val * 256 + (j 1).val, by have := (j 0).isLt; have := (j 1).isLt; simp at *; omega⟩ : Fin 2048) (j 2))

/-! ## The surroundings of the mixers and their gradients

`X` the residual stream, `G` the norm's scale, `WI` and `WO` the two projections, `P` the cotangent of the projected rows,
`Y1`, `Y2`, `Y3` what the three mixers leave and `G1`, `G2`, `G3` the scales of their norms, `D` the cotangent of the
residual stream behind the mixers. -/

section Mixer

variable (X : Mat 2048 2048) (G : Mat 1 2048) (WI : InShards) (P : Mat 2048 2880)
  (Y1 : Mat 2048 1024) (Y2 Y3 : Mat 2048 512) (G1 : Mat 1 1024) (G2 G3 : Mat 1 512) (WO : OutShards) (D : Mat 2048 2048)

/-- What the mixers read: the projection of the normalised rows. -/
def mixProj : Mat 2048 2880 := nt (rms X G) (flatIn WI)

/-- What the mixers leave, normalised and side by side. -/
def mixCat : Mat 2048 2048 :=
  beside (wRms 0x44800000#32 Y1 G1) (wRms 0x44000000#32 Y2 G2) (wRms 0x44000000#32 Y3 G3)

/-- The residual stream behind the mixers. -/
def mixOut : Mat 2048 2048 := add (nn (mixCat Y1 Y2 Y3 G1 G2 G3) (flatOut WO)) X

/-- The cotangent of the normalised mixer outputs. -/
def mixDCat : Mat 2048 2048 := nt D (flatOut WO)

/-- The gradient of the output projection. -/
def mixDWO : OutShards := cutOut (tn (mixCat Y1 Y2 Y3 G1 G2 G3) D)

/-- The gradients of the three mixer outputs. -/
def mixDY1 : Mat 2048 1024 := wDx 0x44800000#32 Y1 G1 (left (mixDCat WO D))
def mixDY2 : Mat 2048 512 := wDx 0x44000000#32 Y2 G2 (middle (mixDCat WO D))
def mixDY3 : Mat 2048 512 := wDx 0x44000000#32 Y3 G3 (right (mixDCat WO D))

/-- The gradients of the scales of their norms. -/
def mixDG1 : Mat 1 1024 := wDg 0x44800000#32 Y1 (left (mixDCat WO D))
def mixDG2 : Mat 1 512 := wDg 0x44000000#32 Y2 (middle (mixDCat WO D))
def mixDG3 : Mat 1 512 := wDg 0x44000000#32 Y3 (right (mixDCat WO D))

/-- The cotangent of the normalised rows of the residual stream. -/
def mixDH : Mat 2048 2048 := nn P (flatIn WI)

/-- The gradient of the input projection. -/
def mixDWI : InShards := cutIn (tn P (rms X G))

/-- The gradient of the residual stream. -/
def mixDX : Mat 2048 2048 := rmsDx X G (mixDH WI P) D

/-- The gradient of the scale of the residual stream's norm. -/
def mixDG : Mat 1 2048 := rmsDg X (mixDH WI P)

end Mixer

end Cert.Math

end
-- ==== Proof.MixMmA.lean ====
/- What the two forward products around the mixers leave in their output arrays: each grid point stores one tile, and the
   tiles cover the array. -/
module

public import proofs.«01_k».proof.Proof.Spec2
public import proofs.«01_k».proof.Proof.Gen.Kernel2Ideal.Frame.Region1
public import proofs.«01_k».proof.Proof.Gen.Kernel2Ideal.Frame.Region3
public import Idealize.ShloMosaic.Lib.Pipeline.ValueKit
public import Idealize.ShloMosaic.Lib.Pointwise

@[expose] public section

set_option maxRecDepth 16384

noncomputable section

namespace Cert.Kernel2Ideal.Value

open Idealize.ShloMosaic Idealize.ShloMosaic.TcCoe Idealize.SL.Sem
open Idealize.ShloMosaic.Pipeline (Dat)
open Cert.Kernel2Ideal Cert.Kernel2Ideal.Gen Cert.Math

variable (V : (c : Dev nD) → (b : Ref sig .tc) → Buf (Elt Ideal) ((c : Thread nD τ).loc b)) (c : Dev nD)

/-- The blocks region 1 reads and writes at each grid point. -/
theorem idx1 : ∀ t : Fin cfg1.N, win1_0.index t = ![t.val, 0] ∧ win1_1.index t = ![0, 0] ∧ win1_2.index t = ![t.val, 0] :=
  (by decide +kernel : ∀ t : Fin grid1.N, _)

/-- The projection into the mixers. -/
theorem final1 : (dat1 V c).arrAt 2 cfg1.N = nt (V c main_v2) (V c main_v3) := by
  refine (dat1 V c).arrAt_eq_of_covers 2 _ (by decide +kernel) fun t _ y => ?_
  blk_simp
  rw [after1_2]; frame_out
  pointwise [k1_pay1, nt]
  blk_point [iblk1, idx1 t]

/-- The blocks region 3 reads and writes at each grid point. -/
theorem idx3 : ∀ t : Fin cfg3.N, win3_0.index t = ![t.val / 2, 0] ∧ win3_1.index t = ![0, t.val % 2] ∧ win3_2.index t = ![t.val / 2, t.val % 2] ∧ win3_3.index t = ![t.val / 2, t.val % 2] :=
  (by decide +kernel : ∀ t : Fin grid3.N, _)

/-- The projection back, added to the residual stream. -/
theorem final3 : (dat3 V c).arrAt 3 cfg3.N = add (nn (V c main_v5) (V c main_v6)) (V c main_arg0) := by
  refine (dat3 V c).arrAt_eq_of_covers 3 _ (by decide +kernel) fun t _ y => ?_
  blk_simp
  rw [after3_3]; frame_out
  pointwise [k3_pay1, nn, add]
  blk_point [iblk3, idx3 t]

end Cert.Kernel2Ideal.Value

end
-- ==== Proof.MixMmB.lean ====
/- What the four products of the gradient around the mixers leave in their output arrays. -/
module

public import proofs.«01_k».proof.Proof.Spec2
public import proofs.«01_k».proof.Proof.Gen.Kernel2Ideal.Frame.Region4
public import proofs.«01_k».proof.Proof.Gen.Kernel2Ideal.Frame.Region5
public import proofs.«01_k».proof.Proof.Gen.Kernel2Ideal.Frame.Region7
public import proofs.«01_k».proof.Proof.Gen.Kernel2Ideal.Frame.Region8
public import Idealize.ShloMosaic.Lib.Pipeline.ValueKit
public import Idealize.ShloMosaic.Lib.Pointwise

@[expose] public section

set_option maxRecDepth 16384

noncomputable section

namespace Cert.Kernel2Ideal.Value

open Idealize.ShloMosaic Idealize.ShloMosaic.TcCoe Idealize.SL.Sem
open Idealize.ShloMosaic.Pipeline (Dat)
open Cert.Kernel2Ideal Cert.Kernel2Ideal.Gen Cert.Math

variable (V : (c : Dev nD) → (b : Ref sig .tc) → Buf (Elt Ideal) ((c : Thread nD τ).loc b)) (c : Dev nD)

/-- The blocks region 4 reads and writes at each grid point. -/
theorem idx4 : ∀ t : Fin cfg4.N, win4_0.index t = ![t.val / 2, 0] ∧ win4_1.index t = ![t.val % 2, 0] ∧ win4_2.index t = ![t.val / 2, t.val % 2] :=
  (by decide +kernel : ∀ t : Fin grid4.N, _)

/-- The cotangent of the normalised mixer outputs. -/
theorem final4 : (dat4 V c).arrAt 2 cfg4.N = nt (V c main_v8) (V c main_v9) := by
  refine (dat4 V c).arrAt_eq_of_covers 2 _ (by decide +kernel) fun t _ y => ?_
  blk_simp
  rw [after4_2]; frame_out
  pointwise [k4_pay1, nt]
  blk_point [iblk4, idx4 t]

/-- The blocks region 5 reads and writes at each grid point. -/
theorem idx5 : ∀ t : Fin cfg5.N, win5_0.index t = ![0, t.val / 2] ∧ win5_1.index t = ![0, t.val % 2] ∧ win5_2.index t = ![t.val / 2, t.val % 2] :=
  (by decide +kernel : ∀ t : Fin grid5.N, _)

/-- The gradient of the output projection, uncut. -/
theorem final5 : (dat5 V c).arrAt 2 cfg5.N = tn (V c main_v5) (V c main_v8) := by
  refine (dat5 V c).arrAt_eq_of_covers 2 _ (by decide +kernel) fun t _ y => ?_
  blk_simp
  rw [after5_2]; frame_out
  pointwise [k5_pay1, tn]
  blk_point [iblk5, idx5 t]

/-- The blocks region 7 reads and writes at each grid point. -/
theorem idx7 : ∀ t : Fin cfg7.N, win7_0.index t = ![t.val / 2, 0] ∧ win7_1.index t = ![0, t.val % 2] ∧ win7_2.index t = ![t.val / 2, t.val % 2] :=
  (by decide +kernel : ∀ t : Fin grid7.N, _)

/-- The cotangent of the normalised rows. -/
theorem final7 : (dat7 V c).arrAt 2 cfg7.N = nn (V c main_v14) (V c main_v15) := by
  refine (dat7 V c).arrAt_eq_of_covers 2 _ (by decide +kernel) fun t _ y => ?_
  blk_simp
  rw [after7_2]; frame_out
  pointwise [k7_pay1, nn]
  blk_point [iblk7, idx7 t]

/-- The blocks region 8 reads and writes at each grid point. -/
theorem idx8 : ∀ t : Fin cfg8.N, win8_0.index t = ![0, 0] ∧ win8_1.index t = ![0, t.val] ∧ win8_2.index t = ![0, t.val] :=
  (by decide +kernel : ∀ t : Fin grid8.N, _)

/-- The gradient of the input projection, uncut. -/
theorem final8 : (dat8 V c).arrAt 2 cfg8.N = tn (V c main_v14) (V c main_v2) := by
  refine (dat8 V c).arrAt_eq_of_covers 2 _ (by decide +kernel) fun t _ y => ?_
  blk_simp
  rw [after8_2]; frame_out
  pointwise [k8_pay1, tn]
  blk_point [iblk8, idx8 t]

end Cert.Kernel2Ideal.Value

end
-- ==== Proof.MixRms.lean ====
/- What the normalisation of the residual stream and its gradient leave in their output arrays; the gradient of the scale is
   added up over the grid points. -/
module

public import proofs.«01_k».proof.Proof.Spec2
public import proofs.«01_k».proof.Proof.Gen.Kernel2Ideal.Frame.Region0
public import proofs.«01_k».proof.Proof.Gen.Kernel2Ideal.Frame.Region9
public import Idealize.ShloMosaic.Lib.Pipeline.ValueKit
public import Idealize.ShloMosaic.Lib.Pointwise

@[expose] public section

set_option maxRecDepth 16384

noncomputable section

namespace Cert.Kernel2Ideal.Value

open Idealize.ShloMosaic Idealize.ShloMosaic.TcCoe Idealize.SL.Sem
open Idealize.ShloMosaic.Pipeline (Dat)
open Cert.Kernel2Ideal Cert.Kernel2Ideal.Gen Cert.Math

variable (V : (c : Dev nD) → (b : Ref sig .tc) → Buf (Elt Ideal) ((c : Thread nD τ).loc b)) (c : Dev nD)

/-- The blocks region 0 reads and writes at each grid point. -/
theorem idx0 : ∀ t : Fin cfg0.N, win0_0.index t = ![t.val, 0] ∧ win0_1.index t = ![0, 0] ∧ win0_2.index t = ![t.val, 0] :=
  (by decide +kernel : ∀ t : Fin grid0.N, _)

/-- The normalised rows. -/
theorem final0 : (dat0 V c).arrAt 2 cfg0.N = rms (V c main_arg0) (V c main_arg1) := by
  refine (dat0 V c).arrAt_eq_of_covers 2 _ (by decide +kernel) fun t _ y => ?_
  blk_simp
  rw [after0_2]; frame_out
  pointwise [k0_pay1, rms, meanSq]
  blk_point [iblk0, idx0 t]

/-- The blocks region 9 reads and writes at each grid point. -/
theorem idx9 : ∀ t : Fin cfg9.N, win9_0.index t = ![t.val, 0] ∧ win9_1.index t = ![0, 0] ∧ win9_2.index t = ![t.val, 0] ∧ win9_3.index t = ![t.val, 0] ∧ win9_4.index t = ![t.val, 0] ∧ win9_5.index t = ![0, 0] :=
  (by decide +kernel : ∀ t : Fin grid9.N, _)

/-- The gradient in the rows, added to the cotangent of the residual stream. -/
theorem final9_dx : (dat9 V c).arrAt 4 cfg9.N = rmsDx (V c main_arg0) (V c main_arg1) (V c main_v16) (V c main_arg11) := by
  refine (dat9 V c).arrAt_eq_of_covers 4 _ (by decide +kernel) fun t _ y => ?_
  blk_simp
  rw [after9_4]
  have hstep : (outsAt9 V c t.val t.isLt).1 = k9_pay7 (iblk9 V c 0 t) (iblk9 V c 1 t) (iblk9 V c 2 t) (iblk9 V c 3 t) := by
    by_cases h : t.val % 8 = 0
    · rw [outsAt9_A V c t h]; frame_out
    · rw [outsAt9_B V c t h]; frame_out
  rw [hstep]
  pointwise [k9_pay7, k9_pay5, k9_pay4, k9_pay3, rmsDx, rmsRow, meanSq, Fin.sum_univ_one]
  blk_point [iblk9, idx9 t]

/-- The accumulator starts at zero. -/
theorem k9_zero (j) : k9_pay1 (F := Ideal) j = 0 := by pointwise [k9_pay1]

/-- One grid point adds the sum over its own rows. -/
theorem k9_add (x0 x2 : FVec Ideal S256x2048 .f32) (acc : FVec Ideal S1x2048 .f32) (j) :
    k9_pay2 (k9_pay6 x0 x2) acc j
      = acc j + ∑ r : Fin 256, x0 (ix2 r (j 1)) * Ideal.rsqrt (Ideal.div (∑ l : Fin 2048, x0 (ix2 r l) * x0 (ix2 r l))
          (Ideal.ofBits .f32 0x45000000#32) + Ideal.ofBits .f32 0x358637BD#32) * x2 (ix2 r (j 1)) := by
  pointwise [k9_pay2, k9_pay6, k9_pay5, k9_pay4, k9_pay3]

/-- The gradient in the scale. -/
theorem final9_dg : (dat9 V c).arrAt 5 cfg9.N = rmsDg (V c main_arg0) (V c main_v16) := by
  refine (dat9 V c).arrAt_eq_of_after_last 5 t9_7 (by decide +kernel) _ fun j => ?_
  blk_simp
  rw [after9_5, Pipeline.eq_sum_fin_of_reset_step_apply_last (fun n h => (outsAt9 V c n h).2) 8 (fun _ => 0) _
    (fun t h j => by rw [outsAt9_A V c t h]; frame_out; rw [k9_add, k9_zero])
    (fun t h j => by rw [outsAt9_B V c t h]; frame_out; rw [k9_add])
    (le_of_eq N_9) t9_7 rfl j, zero_add, rmsDg]
  refine Fin.sum_mul_add_congr fun s k hl => ?_
  pointwise [meanSq]
  blk_point [iblk9, idx9 s]

end Cert.Kernel2Ideal.Value

end
-- ==== Proof.MixNorm.lean ====
/- What the normalisation of the three mixer outputs leaves in its output array: the three side by side. -/
module

public import proofs.«01_k».proof.Proof.Spec2
public import proofs.«01_k».proof.Proof.Gen.Kernel2Ideal.Frame.Region2
public import Idealize.ShloMosaic.Lib.Pipeline.ValueKit
public import Idealize.ShloMosaic.Lib.Pointwise

@[expose] public section

set_option maxRecDepth 16384

noncomputable section

namespace Cert.Kernel2Ideal.Value

open Idealize.ShloMosaic Idealize.ShloMosaic.TcCoe Idealize.SL.Sem
open Idealize.ShloMosaic.Pipeline (Dat)
open Cert.Kernel2Ideal Cert.Kernel2Ideal.Gen Cert.Math

variable (V : (c : Dev nD) → (b : Ref sig .tc) → Buf (Elt Ideal) ((c : Thread nD τ).loc b)) (c : Dev nD)

/-- The blocks region 2 reads and writes at each grid point. -/
theorem idx2 : ∀ t : Fin cfg2.N, win2_0.index t = ![t.val, 0] ∧ win2_1.index t = ![t.val, 0] ∧ win2_2.index t = ![t.val, 0] ∧ win2_3.index t = ![0, 0] ∧ win2_4.index t = ![0, 0] ∧ win2_5.index t = ![0, 0] ∧ win2_6.index t = ![t.val, 0] :=
  (by decide +kernel : ∀ t : Fin grid2.N, _)

/-- One grid point's block: its rows of the three arrays, normalised and side by side. -/
theorem k2_cat (x0 : FVec Ideal S256x1024 .f32) (x1 x2 : FVec Ideal S256x512 .f32) (g0 : FVec Ideal S1x1024 .f32)
    (g1 g2 : FVec Ideal S1x512 .f32) (j : S256x2048.Idx) :
    (k2_pay1 (F := Ideal) x2 g2 (k2_pay2 x0 g0) (k2_pay3 x1 g1) (k2_pay4 x2) j : EReal) =
      if h : (j 1).val < 1024 then
        x0 (ix2 (j 0) (⟨(j 1).val, h⟩ : Fin 1024)) * Ideal.rsqrt (Ideal.div (∑ l : Fin 1024, x0 (ix2 (j 0) l) * x0 (ix2 (j 0) l)) (Ideal.ofBits .f32 0x44800000#32)
          + Ideal.ofBits .f32 0x358637BD#32) * g0 (ix2 0 (⟨(j 1).val, h⟩ : Fin 1024))
      else if h2 : (j 1).val - 1024 < 512 then
        x1 (ix2 (j 0) (⟨(j 1).val - 1024, h2⟩ : Fin 512)) * Ideal.rsqrt (Ideal.div (∑ l : Fin 512, x1 (ix2 (j 0) l) * x1 (ix2 (j 0) l)) (Ideal.ofBits .f32 0x44000000#32)
          + Ideal.ofBits .f32 0x358637BD#32) * g1 (ix2 0 (⟨(j 1).val - 1024, h2⟩ : Fin 512))
      else
        x2 (ix2 (j 0) (⟨(j 1).val - 1024 - 512, by have := (j 1).isLt; simp at this; omega⟩ : Fin 512)) * Ideal.rsqrt (Ideal.div (∑ l : Fin 512, x2 (ix2 (j 0) l) * x2 (ix2 (j 0) l)) (Ideal.ofBits .f32 0x44000000#32)
          + Ideal.ofBits .f32 0x358637BD#32) * g2 (ix2 0 (⟨(j 1).val - 1024 - 512, by have := (j 1).isLt; simp at this; omega⟩ : Fin 512)) := by
  pointwise [k2_pay1, k2_pay2, k2_pay3, k2_pay4]

set_option maxHeartbeats 800000 in
/-- The three normalised outputs, side by side. -/
theorem final2 : (dat2 V c).arrAt 6 cfg2.N = mixCat (V c main_arg4) (V c main_arg5) (V c main_arg6) (V c main_arg7) (V c main_arg8) (V c main_arg9) := by
  refine (dat2 V c).arrAt_eq_of_covers 6 _ (by decide +kernel) fun t _ y => ?_
  blk_simp
  rw [after2_6]; frame_out
  have e1 : (((View.whole main_v5).slice (win2_6.rect t)).emb y 1).val = (y 1).val := by
    blk_simp [idx2 t]
  rw [k2_cat, mixCat, beside]
  by_cases h1 : (y 1).val < 1024
  · rw [dif_pos h1, dif_pos (e1 ▸ h1)]
    pointwise [wRms, wMeanSq]
    blk_point [iblk2, idx2 t]
  · by_cases h2 : (y 1).val - 1024 < 512
    · rw [dif_neg h1, dif_pos h2, dif_neg (e1 ▸ h1), dif_pos (e1 ▸ h2)]
      pointwise [wRms, wMeanSq]
      blk_point [iblk2, idx2 t]
    · rw [dif_neg h1, dif_neg h2, dif_neg (e1 ▸ h1), dif_neg (e1 ▸ h2)]
      pointwise [wRms, wMeanSq]
      blk_point [iblk2, idx2 t]

end Cert.Kernel2Ideal.Value

end
-- ==== Proof.MixNormDx.lean ====
/- What the gradient of the three norms leaves in the mixer outputs' gradients. -/
module

public import proofs.«01_k».proof.Proof.Spec2
public import proofs.«01_k».proof.Proof.Gen.Kernel2Ideal.Frame.Region6
public import Idealize.ShloMosaic.Lib.Pipeline.ValueKit
public import Idealize.ShloMosaic.Lib.Pointwise

@[expose] public section

set_option maxRecDepth 16384

noncomputable section

namespace Cert.Kernel2Ideal.Value

open Idealize.ShloMosaic Idealize.ShloMosaic.TcCoe Idealize.SL.Sem
open Idealize.ShloMosaic.Pipeline (Dat)
open Cert.Kernel2Ideal Cert.Kernel2Ideal.Gen Cert.Math

variable (V : (c : Dev nD) → (b : Ref sig .tc) → Buf (Elt Ideal) ((c : Thread nD τ).loc b)) (c : Dev nD)

/-- The blocks region 6 reads and writes at each grid point. -/
theorem idx6 : ∀ t : Fin cfg6.N, win6_0.index t = ![t.val, 0] ∧ win6_1.index t = ![t.val, 0] ∧ win6_2.index t = ![t.val, 0] ∧ win6_3.index t = ![0, 0] ∧ win6_4.index t = ![0, 0] ∧ win6_5.index t = ![0, 0] ∧ win6_6.index t = ![t.val, 0] ∧ win6_7.index t = ![t.val, 0] ∧ win6_8.index t = ![t.val, 0] ∧ win6_9.index t = ![t.val, 0] ∧ win6_10.index t = ![0, 0] ∧ win6_11.index t = ![0, 0] ∧ win6_12.index t = ![0, 0] :=
  (by decide +kernel : ∀ t : Fin grid6.N, _)

/-- The gradient of the first mixer output. -/
theorem final6_dy1 : (dat6 V c).arrAt 7 cfg6.N = wDx 0x44800000#32 (V c main_arg4) (V c main_arg7) (left (V c main_v10)) := by
  refine (dat6 V c).arrAt_eq_of_covers 7 _ (by decide +kernel) fun t _ y => ?_
  blk_simp
  rw [after6_7]
  have hstep : (outsAt6 V c t.val t.isLt).1 = k6_pay25 (iblk6 V c 0 t) (iblk6 V c 3 t) (k6_pay5 (iblk6 V c 0 t)) (k6_pay6 (iblk6 V c 0 t)) (k6_pay15 (k6_pay3 (iblk6 V c 6 t))) := by
    by_cases h : t.val % 8 = 0
    · rw [outsAt6_A V c t h]; frame_out
    · rw [outsAt6_B V c t h]; frame_out
  rw [hstep]
  pointwise [k6_pay25, k6_pay6, k6_pay5, k6_pay4, k6_pay15, k6_pay3, wDx, wRow, wMeanSq, left, middle, right, Fin.sum_univ_one]
  blk_point [iblk6, idx6 t]

/-- The gradient of the second mixer output. -/
theorem final6_dy2 : (dat6 V c).arrAt 8 cfg6.N = wDx 0x44000000#32 (V c main_arg5) (V c main_arg8) (middle (V c main_v10)) := by
  refine (dat6 V c).arrAt_eq_of_covers 8 _ (by decide +kernel) fun t _ y => ?_
  blk_simp
  rw [after6_8]
  have hstep : (outsAt6 V c t.val t.isLt).2.1 = k6_pay24 (iblk6 V c 1 t) (k6_pay22 (iblk6 V c 4 t) (k6_pay3 (iblk6 V c 6 t)) (k6_pay9 (iblk6 V c 1 t))) (k6_pay23 (iblk6 V c 1 t) (iblk6 V c 4 t) (k6_pay3 (iblk6 V c 6 t)) (k6_pay10 (iblk6 V c 1 t))) := by
    by_cases h : t.val % 8 = 0
    · rw [outsAt6_A V c t h]; frame_out
    · rw [outsAt6_B V c t h]; frame_out
  rw [hstep]
  pointwise [k6_pay24, k6_pay23, k6_pay22, k6_pay21, k6_pay10, k6_pay9, k6_pay8, k6_pay16, k6_pay3, wDx, wRow, wMeanSq, left, middle, right, Fin.sum_univ_one]
  blk_point [iblk6, idx6 t]

/-- The gradient of the third mixer output. -/
theorem final6_dy3 : (dat6 V c).arrAt 9 cfg6.N = wDx 0x44000000#32 (V c main_arg6) (V c main_arg9) (right (V c main_v10)) := by
  refine (dat6 V c).arrAt_eq_of_covers 9 _ (by decide +kernel) fun t _ y => ?_
  blk_simp
  rw [after6_9]
  have hstep : (outsAt6 V c t.val t.isLt).2.2.1 = k6_pay19 (iblk6 V c 2 t) (iblk6 V c 5 t) (k6_pay3 (iblk6 V c 6 t)) (k6_pay12 (iblk6 V c 2 t)) := by
    by_cases h : t.val % 8 = 0
    · rw [outsAt6_A V c t h]; frame_out
    · rw [outsAt6_B V c t h]; frame_out
  rw [hstep]
  pointwise [k6_pay19, k6_pay17, k6_pay14, k6_pay13, k6_pay12, k6_pay3, wDx, wRow, wMeanSq, left, middle, right, Fin.sum_univ_one]
  blk_point [iblk6, idx6 t]

end Cert.Kernel2Ideal.Value

end
-- ==== Proof.MixNormDg.lean ====
/- What the gradient of the three norms leaves in the gradients of their scales, added up over the grid points. -/
module

public import proofs.«01_k».proof.Proof.Spec2
public import proofs.«01_k».proof.Proof.Gen.Kernel2Ideal.Frame.Region6
public import Idealize.ShloMosaic.Lib.Pipeline.ValueKit
public import Idealize.ShloMosaic.Lib.Pointwise

@[expose] public section

set_option maxRecDepth 16384

noncomputable section

namespace Cert.Kernel2Ideal.Value

open Idealize.ShloMosaic Idealize.ShloMosaic.TcCoe Idealize.SL.Sem
open Idealize.ShloMosaic.Pipeline (Dat)
open Cert.Kernel2Ideal Cert.Kernel2Ideal.Gen Cert.Math

variable (V : (c : Dev nD) → (b : Ref sig .tc) → Buf (Elt Ideal) ((c : Thread nD τ).loc b)) (c : Dev nD)

/-- The blocks region 6 reads and writes at each grid point. -/
theorem idx6' : ∀ t : Fin cfg6.N, win6_0.index t = ![t.val, 0] ∧ win6_1.index t = ![t.val, 0] ∧ win6_2.index t = ![t.val, 0] ∧ win6_3.index t = ![0, 0] ∧ win6_4.index t = ![0, 0] ∧ win6_5.index t = ![0, 0] ∧ win6_6.index t = ![t.val, 0] ∧ win6_7.index t = ![t.val, 0] ∧ win6_8.index t = ![t.val, 0] ∧ win6_9.index t = ![t.val, 0] ∧ win6_10.index t = ![0, 0] ∧ win6_11.index t = ![0, 0] ∧ win6_12.index t = ![0, 0] :=
  (by decide +kernel : ∀ t : Fin grid6.N, _)

/-- The accumulator starts at zero. -/
theorem k6_zero_dg1 (j) : k6_pay26 (F := Ideal) j = 0 := by pointwise [k6_pay26]

/-- One grid point adds the sum over its own rows. -/
theorem k6_add_dg1 (x : FVec Ideal S256x1024 .f32) (d : FVec Ideal S256x2048 .f32) (acc : FVec Ideal S1x1024 .f32) (j) :
    k6_pay29 (k6_pay7 x) (k6_pay15 (k6_pay3 d)) acc j
      = acc j + ∑ r : Fin 256, x (ix2 r (j 1)) * Ideal.rsqrt (Ideal.div (∑ l : Fin 1024, x (ix2 r l) * x (ix2 r l))
          (Ideal.ofBits .f32 0x44800000#32) + Ideal.ofBits .f32 0x358637BD#32)
          * d (ix2 r (⟨(j 1).val, by have := (j 1).isLt; simp at this; omega⟩ : Fin 2048)) := by
  pointwise [k6_pay29, k6_pay7, k6_pay5, k6_pay4, k6_pay15, k6_pay3]

/-- The gradient of the first norm's scale. -/
theorem final6_dg1 : (dat6 V c).arrAt 10 cfg6.N = wDg 0x44800000#32 (V c main_arg4) (left (V c main_v10)) := by
  refine (dat6 V c).arrAt_eq_of_after_last 10 t6_7 (by decide +kernel) _ fun j => ?_
  blk_simp
  rw [after6_10, Pipeline.eq_sum_fin_of_reset_step_apply_last (fun n h => (outsAt6 V c n h).2.2.2.1) 8 (fun _ => 0) _
    (fun t h j => by rw [outsAt6_A V c t h]; frame_out; rw [k6_add_dg1, k6_zero_dg1])
    (fun t h j => by rw [outsAt6_B V c t h]; frame_out; rw [k6_add_dg1])
    (le_of_eq N_6) t6_7 rfl j, zero_add, wDg]
  refine Fin.sum_mul_add_congr fun s k hl => ?_
  pointwise [wMeanSq, left]
  blk_point [iblk6, idx6' s]

/-- The accumulator starts at zero. -/
theorem k6_zero_dg2 (j) : k6_pay27 (F := Ideal) j = 0 := by pointwise [k6_pay27]

/-- One grid point adds the sum over its own rows. -/
theorem k6_add_dg2 (x : FVec Ideal S256x512 .f32) (d : FVec Ideal S256x2048 .f32) (acc : FVec Ideal S1x512 .f32) (j) :
    k6_pay1 (k6_pay20 (k6_pay3 d) (k6_pay11 x)) (k6_pay30 acc) j
      = acc j + ∑ r : Fin 256, x (ix2 r (j 1)) * Ideal.rsqrt (Ideal.div (∑ l : Fin 512, x (ix2 r l) * x (ix2 r l))
          (Ideal.ofBits .f32 0x44000000#32) + Ideal.ofBits .f32 0x358637BD#32)
          * d (ix2 r (⟨1024 + (j 1).val, by have := (j 1).isLt; simp at this; omega⟩ : Fin 2048)) := by
  pointwise [k6_pay1, k6_pay20, k6_pay11, k6_pay9, k6_pay8, k6_pay30, k6_pay16, k6_pay3]

/-- The gradient of the second norm's scale. -/
theorem final6_dg2 : (dat6 V c).arrAt 11 cfg6.N = wDg 0x44000000#32 (V c main_arg5) (middle (V c main_v10)) := by
  refine (dat6 V c).arrAt_eq_of_after_last 11 t6_7 (by decide +kernel) _ fun j => ?_
  blk_simp
  rw [after6_11, Pipeline.eq_sum_fin_of_reset_step_apply_last (fun n h => (outsAt6 V c n h).2.2.2.2.1) 8 (fun _ => 0) _
    (fun t h j => by rw [outsAt6_A V c t h]; frame_out; rw [k6_add_dg2, k6_zero_dg2])
    (fun t h j => by rw [outsAt6_B V c t h]; frame_out; rw [k6_add_dg2])
    (le_of_eq N_6) t6_7 rfl j, zero_add, wDg]
  refine Fin.sum_mul_add_congr fun s k hl => ?_
  pointwise [wMeanSq, middle]
  blk_point [iblk6, idx6' s]

/-- The accumulator starts at zero. -/
theorem k6_zero_dg3 (j) : k6_pay28 (F := Ideal) j = 0 := by pointwise [k6_pay28]

/-- One grid point adds the sum over its own rows. -/
theorem k6_add_dg3 (x : FVec Ideal S256x512 .f32) (d : FVec Ideal S256x2048 .f32) (acc : FVec Ideal S1x512 .f32) (j) :
    k6_pay2 (k6_pay18 x (k6_pay3 d) (k6_pay12 x)) acc j
      = acc j + ∑ r : Fin 256, x (ix2 r (j 1)) * Ideal.rsqrt (Ideal.div (∑ l : Fin 512, x (ix2 r l) * x (ix2 r l))
          (Ideal.ofBits .f32 0x44000000#32) + Ideal.ofBits .f32 0x358637BD#32)
          * d (ix2 r (⟨1536 + (j 1).val, by have := (j 1).isLt; simp at this; omega⟩ : Fin 2048)) := by
  pointwise [k6_pay2, k6_pay18, k6_pay17, k6_pay14, k6_pay13, k6_pay12, k6_pay3]

/-- The gradient of the third norm's scale. -/
theorem final6_dg3 : (dat6 V c).arrAt 12 cfg6.N = wDg 0x44000000#32 (V c main_arg6) (right (V c main_v10)) := by
  refine (dat6 V c).arrAt_eq_of_after_last 12 t6_7 (by decide +kernel) _ fun j => ?_
  blk_simp
  rw [after6_12, Pipeline.eq_sum_fin_of_reset_step_apply_last (fun n h => (outsAt6 V c n h).2.2.2.2.2) 8 (fun _ => 0) _
    (fun t h j => by rw [outsAt6_A V c t h]; frame_out; rw [k6_add_dg3, k6_zero_dg3])
    (fun t h j => by rw [outsAt6_B V c t h]; frame_out; rw [k6_add_dg3])
    (le_of_eq N_6) t6_7 rfl j, zero_add, wDg]
  refine Fin.sum_mul_add_congr fun s k hl => ?_
  pointwise [wMeanSq, right]
  blk_point [iblk6, idx6' s]

end Cert.Kernel2Ideal.Value

end
-- ==== Proof.Fold2.lean ====
/- What every array of the kernel's program holds when the program ends, as a function of the arguments: the contents at each
   boundary between two pallas calls, followed from the launch to the end. -/
module

public import proofs.«01_k».proof.Proof.MixMmA
public import proofs.«01_k».proof.Proof.MixMmB
public import proofs.«01_k».proof.Proof.MixRms
public import proofs.«01_k».proof.Proof.MixNorm
public import proofs.«01_k».proof.Proof.MixNormDx
public import proofs.«01_k».proof.Proof.MixNormDg
public import proofs.«01_k».proof.Proof.Gen.Kernel2Ideal.Frame
public import Idealize.ShloMosaic.Lib.StableHlo.Run

@[expose] public section

set_option maxRecDepth 16384

noncomputable section

namespace Cert.Kernel2Ideal.Value

open Idealize.ShloMosaic Idealize.ShloMosaic.TcCoe Idealize.SL.Sem
open Idealize.ShloMosaic.Pipeline (Dat)
open Cert.Kernel2Ideal Cert.Kernel2Ideal.Gen Cert.Math

variable (m : (ℓ : Loc nD τ sig) → Buf (Elt Ideal) ℓ) (ρ : Dev nD → PrngReg) (c : Dev nD)

/-! ## The arguments at their literal types -/

abbrev aX : Mat 2048 2048 := m ((c : Thread nD τ).loc main_arg0)
abbrev aG : Mat 1 2048 := m ((c : Thread nD τ).loc main_arg1)
abbrev aWI : InShards := m ((c : Thread nD τ).loc main_arg2)
abbrev aP : Mat 2048 2880 := m ((c : Thread nD τ).loc main_arg3)
abbrev aY1 : Mat 2048 1024 := m ((c : Thread nD τ).loc main_arg4)
abbrev aY2 : Mat 2048 512 := m ((c : Thread nD τ).loc main_arg5)
abbrev aY3 : Mat 2048 512 := m ((c : Thread nD τ).loc main_arg6)
abbrev aG1 : Mat 1 1024 := m ((c : Thread nD τ).loc main_arg7)
abbrev aG2 : Mat 1 512 := m ((c : Thread nD τ).loc main_arg8)
abbrev aG3 : Mat 1 512 := m ((c : Thread nD τ).loc main_arg9)
abbrev aWO : OutShards := m ((c : Thread nD τ).loc main_arg10)
abbrev aD : Mat 2048 2048 := m ((c : Thread nD τ).loc main_arg11)

/-! ## Reshapes of the weights -/

/-- The input projection's shards, cast. -/
def castIn (W : FVec Ideal S8x360x2048 .f32) : FVec Ideal S8x360x2048 .bf16 := truncf .bf16 W bitsLt_bf16_f32

/-- The output projection's shards, cast. -/
def castOut (W : FVec Ideal S8x256x2048 .f32) : FVec Ideal S8x256x2048 .bf16 := truncf .bf16 W bitsLt_bf16_f32

/-- The input projection's shards, cast and stacked. -/
theorem stackedIn (W : FVec Ideal S8x360x2048 .f32) :
    shapeCast S2880x2048 (castIn W) shapeCasts_S8x360x2048_S2880x2048 = flatIn W := by
  funext j
  pointwise [flatIn, castIn]

/-- The output projection's shards, cast and stacked. -/
theorem stackedOut (W : FVec Ideal S8x256x2048 .f32) :
    shapeCast S2048x2048 (castOut W) shapeCasts_S8x256x2048_S2048x2048 = flatOut W := by
  funext j
  pointwise [flatOut, castOut]

/-- The input projection's gradient cut into shards. -/
theorem shardsIn (A : FVec Ideal S2880x2048 .f32) :
    shapeCast S8x360x2048 A shapeCasts_S2880x2048_S8x360x2048 = cutIn A := by
  funext j
  pointwise [cutIn]

/-- The output projection's gradient cut into shards. -/
theorem shardsOut (A : FVec Ideal S2048x2048 .f32) :
    shapeCast S8x256x2048 A shapeCasts_S2048x2048_S8x256x2048 = cutOut A := by
  funext j
  pointwise [cutOut]

/-! ## The contents at the boundaries -/

theorem w1_v0 : W1 m ρ c (Proc.devRef .tc main_v0) = castIn (aWI m c) := by
  after_results; rfl

theorem w1_v1 : W1 m ρ c (Proc.devRef .tc main_v1) = castOut (aWO m c) := by
  after_results; rfl

/-- The normalised rows. -/
theorem w2_v2 : W2 m ρ c (Proc.devRef .tc main_v2) = rms (aX m c) (aG m c) := by
  refine (W2_arr m ρ c 2).trans ((final0 (V1 m ρ) c).trans ?_)
  have h0 : V1 m ρ c main_arg0 = aX m c := (W1_args m ρ c main_arg0 (by decide))
  have h1 : V1 m ρ c main_arg1 = aG m c := (W1_args m ρ c main_arg1 (by decide))
  rw [h0, h1]

/-- The input projection, stacked. -/
theorem w3_v3 : W3 m ρ c (Proc.devRef .tc main_v3) = flatIn (aWI m c) := by
  refine Eq.trans (b := shapeCast S2880x2048 (W2 m ρ c (Proc.devRef .tc main_v0)) shapeCasts_S8x360x2048_S2880x2048) ?_ ?_
  · after_results; rfl
  · rw [(W2_of m ρ c main_v0 (by decide)), w1_v0 m ρ c]
    exact stackedIn _

theorem w3_v2 : W3 m ρ c (Proc.devRef .tc main_v2) = rms (aX m c) (aG m c) :=
  ((W3_of m ρ c main_v2 (by decide))).trans (w2_v2 m ρ c)

/-- The projection into the mixers. -/
theorem w4_v4 : W4 m ρ c (Proc.devRef .tc main_v4) = mixProj (aX m c) (aG m c) (aWI m c) := by
  refine (W4_arr m ρ c 2).trans ((final1 (V3 m ρ) c).trans ?_)
  have h0 : V3 m ρ c main_v2 = rms (aX m c) (aG m c) := w3_v2 m ρ c
  have h1 : V3 m ρ c main_v3 = flatIn (aWI m c) := w3_v3 m ρ c
  rw [h0, h1]
  rfl

/-- The normalised mixer outputs. -/
theorem w5_v5 : W5 m ρ c (Proc.devRef .tc main_v5) = mixCat (aY1 m c) (aY2 m c) (aY3 m c) (aG1 m c) (aG2 m c) (aG3 m c) := by
  refine (W5_arr m ρ c 6).trans ((final2 (V4 m ρ) c).trans ?_)
  have h0 : V4 m ρ c main_arg4 = aY1 m c := (W4_args m ρ c main_arg4 (by decide))
  have h1 : V4 m ρ c main_arg5 = aY2 m c := (W4_args m ρ c main_arg5 (by decide))
  have h2 : V4 m ρ c main_arg6 = aY3 m c := (W4_args m ρ c main_arg6 (by decide))
  have h3 : V4 m ρ c main_arg7 = aG1 m c := (W4_args m ρ c main_arg7 (by decide))
  have h4 : V4 m ρ c main_arg8 = aG2 m c := (W4_args m ρ c main_arg8 (by decide))
  have h5 : V4 m ρ c main_arg9 = aG3 m c := (W4_args m ρ c main_arg9 (by decide))
  rw [h0, h1, h2, h3, h4, h5]

/-- The output projection, stacked. -/
theorem w6_v6 : W6 m ρ c (Proc.devRef .tc main_v6) = flatOut (aWO m c) := by
  refine Eq.trans (b := shapeCast S2048x2048 (W5 m ρ c (Proc.devRef .tc main_v1)) shapeCasts_S8x256x2048_S2048x2048) ?_ ?_
  · after_results; rfl
  · rw [(W5_of m ρ c main_v1 (by decide)).trans ((W4_of m ρ c main_v1 (by decide)).trans ((W3_of m ρ c main_v1 (by decide)).trans ((W2_of m ρ c main_v1 (by decide))))), w1_v1 m ρ c]
    exact stackedOut _

theorem w6_v5 : W6 m ρ c (Proc.devRef .tc main_v5) = mixCat (aY1 m c) (aY2 m c) (aY3 m c) (aG1 m c) (aG2 m c) (aG3 m c) :=
  ((W6_of m ρ c main_v5 (by decide))).trans (w5_v5 m ρ c)

/-- The residual stream behind the mixers. -/
theorem w7_v7 : W7 m ρ c (Proc.devRef .tc main_v7) = mixOut (aX m c) (aY1 m c) (aY2 m c) (aY3 m c) (aG1 m c) (aG2 m c) (aG3 m c) (aWO m c) := by
  refine (W7_arr m ρ c 3).trans ((final3 (V6 m ρ) c).trans ?_)
  have h0 : V6 m ρ c main_v5 = mixCat (aY1 m c) (aY2 m c) (aY3 m c) (aG1 m c) (aG2 m c) (aG3 m c) := w6_v5 m ρ c
  have h1 : V6 m ρ c main_v6 = flatOut (aWO m c) := w6_v6 m ρ c
  have h2 : V6 m ρ c main_arg0 = aX m c := (W6_args m ρ c main_arg0 (by decide))
  rw [h0, h1, h2]
  rfl

/-- The cotangent of the residual stream, cast. -/
theorem w8_v8 : W8 m ρ c (Proc.devRef .tc main_v8) = aD m c := by
  refine Eq.trans (b := truncf .bf16 (W7 m ρ c (Proc.devRef .tc main_arg11)) bitsLt_bf16_f32) ?_ ?_
  · after_results; rfl
  · rw [W7_args m ρ c main_arg11 (by decide)]
    funext j
    pointwise []

/-- The output projection, stacked again. -/
theorem w8_v9 : W8 m ρ c (Proc.devRef .tc main_v9) = flatOut (aWO m c) := by
  refine Eq.trans (b := shapeCast S2048x2048 (W7 m ρ c (Proc.devRef .tc main_v1)) shapeCasts_S8x256x2048_S2048x2048) ?_ ?_
  · after_results; rfl
  · rw [(W7_of m ρ c main_v1 (by decide)).trans ((W6_of m ρ c main_v1 (by decide)).trans ((W5_of m ρ c main_v1 (by decide)).trans ((W4_of m ρ c main_v1 (by decide)).trans ((W3_of m ρ c main_v1 (by decide)).trans ((W2_of m ρ c main_v1 (by decide))))))), w1_v1 m ρ c]
    exact stackedOut _

/-- The cotangent of the normalised mixer outputs. -/
theorem w9_v10 : W9 m ρ c (Proc.devRef .tc main_v10) = mixDCat (aWO m c) (aD m c) := by
  refine (W9_arr m ρ c 2).trans ((final4 (V8 m ρ) c).trans ?_)
  have h0 : V8 m ρ c main_v8 = aD m c := w8_v8 m ρ c
  have h1 : V8 m ρ c main_v9 = flatOut (aWO m c) := w8_v9 m ρ c
  rw [h0, h1]
  rfl

theorem w9_v5 : W9 m ρ c (Proc.devRef .tc main_v5) = mixCat (aY1 m c) (aY2 m c) (aY3 m c) (aG1 m c) (aG2 m c) (aG3 m c) :=
  ((W9_of m ρ c main_v5 (by decide)).trans ((W8_of m ρ c main_v5 (by decide)).trans ((W7_of m ρ c main_v5 (by decide)).trans ((W6_of m ρ c main_v5 (by decide)))))).trans (w5_v5 m ρ c)

theorem w9_v8 : W9 m ρ c (Proc.devRef .tc main_v8) = aD m c :=
  ((W9_of m ρ c main_v8 (by decide))).trans (w8_v8 m ρ c)

/-- The gradient of the output projection, uncut. -/
theorem w10_v11 : W10 m ρ c (Proc.devRef .tc main_v11) = tn (mixCat (aY1 m c) (aY2 m c) (aY3 m c) (aG1 m c) (aG2 m c) (aG3 m c)) (aD m c) := by
  refine (W10_arr m ρ c 2).trans ((final5 (V9 m ρ) c).trans ?_)
  have h0 : V9 m ρ c main_v5 = mixCat (aY1 m c) (aY2 m c) (aY3 m c) (aG1 m c) (aG2 m c) (aG3 m c) := w9_v5 m ρ c
  have h1 : V9 m ρ c main_v8 = aD m c := w9_v8 m ρ c
  rw [h0, h1]

/-- The gradient of the output projection. -/
theorem w11_v12 : W11 m ρ c (Proc.devRef .tc main_v12) = mixDWO (aY1 m c) (aY2 m c) (aY3 m c) (aG1 m c) (aG2 m c) (aG3 m c) (aD m c) := by
  refine Eq.trans (b := shapeCast S8x256x2048 (W10 m ρ c (Proc.devRef .tc main_v11)) shapeCasts_S2048x2048_S8x256x2048) ?_ ?_
  · after_results; rfl
  · rw [w10_v11 m ρ c]
    exact shardsOut _

theorem w11_v10 : W11 m ρ c (Proc.devRef .tc main_v10) = mixDCat (aWO m c) (aD m c) :=
  ((W11_of m ρ c main_v10 (by decide)).trans ((W10_of m ρ c main_v10 (by decide)))).trans (w9_v10 m ρ c)

/-- The gradient of mixer output 1. -/
theorem w12_v13_0 : W12 m ρ c (Proc.devRef .tc main_v13_0) = mixDY1 (aY1 m c) (aG1 m c) (aWO m c) (aD m c) := by
  refine (W12_arr m ρ c 7).trans ((final6_dy1 (V11 m ρ) c).trans ?_)
  have h0 : V11 m ρ c main_arg4 = aY1 m c := (W11_args m ρ c main_arg4 (by decide))
  have h1 : V11 m ρ c main_arg7 = aG1 m c := (W11_args m ρ c main_arg7 (by decide))
  have h2 : V11 m ρ c main_v10 = mixDCat (aWO m c) (aD m c) := w11_v10 m ρ c
  rw [h0, h1, h2]
  rfl

/-- The gradient of mixer output 2. -/
theorem w12_v13_1 : W12 m ρ c (Proc.devRef .tc main_v13_1) = mixDY2 (aY2 m c) (aG2 m c) (aWO m c) (aD m c) := by
  refine (W12_arr m ρ c 8).trans ((final6_dy2 (V11 m ρ) c).trans ?_)
  have h0 : V11 m ρ c main_arg5 = aY2 m c := (W11_args m ρ c main_arg5 (by decide))
  have h1 : V11 m ρ c main_arg8 = aG2 m c := (W11_args m ρ c main_arg8 (by decide))
  have h2 : V11 m ρ c main_v10 = mixDCat (aWO m c) (aD m c) := w11_v10 m ρ c
  rw [h0, h1, h2]
  rfl

/-- The gradient of mixer output 3. -/
theorem w12_v13_2 : W12 m ρ c (Proc.devRef .tc main_v13_2) = mixDY3 (aY3 m c) (aG3 m c) (aWO m c) (aD m c) := by
  refine (W12_arr m ρ c 9).trans ((final6_dy3 (V11 m ρ) c).trans ?_)
  have h0 : V11 m ρ c main_arg6 = aY3 m c := (W11_args m ρ c main_arg6 (by decide))
  have h1 : V11 m ρ c main_arg9 = aG3 m c := (W11_args m ρ c main_arg9 (by decide))
  have h2 : V11 m ρ c main_v10 = mixDCat (aWO m c) (aD m c) := w11_v10 m ρ c
  rw [h0, h1, h2]
  rfl

/-- The gradient of the scale of mixer output 1's norm. -/
theorem w12_v13_3 : W12 m ρ c (Proc.devRef .tc main_v13_3) = mixDG1 (aY1 m c) (aWO m c) (aD m c) := by
  refine (W12_arr m ρ c 10).trans ((final6_dg1 (V11 m ρ) c).trans ?_)
  have h0 : V11 m ρ c main_arg4 = aY1 m c := (W11_args m ρ c main_arg4 (by decide))
  have h1 : V11 m ρ c main_v10 = mixDCat (aWO m c) (aD m c) := w11_v10 m ρ c
  rw [h0, h1]
  rfl

/-- The gradient of the scale of mixer output 2's norm. -/
theorem w12_v13_4 : W12 m ρ c (Proc.devRef .tc main_v13_4) = mixDG2 (aY2 m c) (aWO m c) (aD m c) := by
  refine (W12_arr m ρ c 11).trans ((final6_dg2 (V11 m ρ) c).trans ?_)
  have h0 : V11 m ρ c main_arg5 = aY2 m c := (W11_args m ρ c main_arg5 (by decide))
  have h1 : V11 m ρ c main_v10 = mixDCat (aWO m c) (aD m c) := w11_v10 m ρ c
  rw [h0, h1]
  rfl

/-- The gradient of the scale of mixer output 3's norm. -/
theorem w12_v13_5 : W12 m ρ c (Proc.devRef .tc main_v13_5) = mixDG3 (aY3 m c) (aWO m c) (aD m c) := by
  refine (W12_arr m ρ c 12).trans ((final6_dg3 (V11 m ρ) c).trans ?_)
  have h0 : V11 m ρ c main_arg6 = aY3 m c := (W11_args m ρ c main_arg6 (by decide))
  have h1 : V11 m ρ c main_v10 = mixDCat (aWO m c) (aD m c) := w11_v10 m ρ c
  rw [h0, h1]
  rfl

/-- The cotangent of the projected rows, cast. -/
theorem w13_v14 : W13 m ρ c (Proc.devRef .tc main_v14) = aP m c := by
  refine Eq.trans (b := truncf .bf16 (W12 m ρ c (Proc.devRef .tc main_arg3)) bitsLt_bf16_f32) ?_ ?_
  · after_results; rfl
  · rw [W12_args m ρ c main_arg3 (by decide)]
    funext j
    pointwise []

/-- The input projection, stacked again. -/
theorem w13_v15 : W13 m ρ c (Proc.devRef .tc main_v15) = flatIn (aWI m c) := by
  refine Eq.trans (b := shapeCast S2880x2048 (W12 m ρ c (Proc.devRef .tc main_v0)) shapeCasts_S8x360x2048_S2880x2048) ?_ ?_
  · after_results; rfl
  · rw [(W12_of m ρ c main_v0 (by decide)).trans ((W11_of m ρ c main_v0 (by decide)).trans ((W10_of m ρ c main_v0 (by decide)).trans ((W9_of m ρ c main_v0 (by decide)).trans ((W8_of m ρ c main_v0 (by decide)).trans ((W7_of m ρ c main_v0 (by decide)).trans ((W6_of m ρ c main_v0 (by decide)).trans ((W5_of m ρ c main_v0 (by decide)).trans ((W4_of m ρ c main_v0 (by decide)).trans ((W3_of m ρ c main_v0 (by decide)).trans ((W2_of m ρ c main_v0 (by decide)))))))))))), w1_v0 m ρ c]
    exact stackedIn _

/-- The cotangent of the normalised rows. -/
theorem w14_v16 : W14 m ρ c (Proc.devRef .tc main_v16) = mixDH (aWI m c) (aP m c) := by
  refine (W14_arr m ρ c 2).trans ((final7 (V13 m ρ) c).trans ?_)
  have h0 : V13 m ρ c main_v14 = aP m c := w13_v14 m ρ c
  have h1 : V13 m ρ c main_v15 = flatIn (aWI m c) := w13_v15 m ρ c
  rw [h0, h1]
  rfl

theorem w14_v14 : W14 m ρ c (Proc.devRef .tc main_v14) = aP m c :=
  ((W14_of m ρ c main_v14 (by decide))).trans (w13_v14 m ρ c)

theorem w14_v2 : W14 m ρ c (Proc.devRef .tc main_v2) = rms (aX m c) (aG m c) :=
  ((W14_of m ρ c main_v2 (by decide)).trans ((W13_of m ρ c main_v2 (by decide)).trans ((W12_of m ρ c main_v2 (by decide)).trans ((W11_of m ρ c main_v2 (by decide)).trans ((W10_of m ρ c main_v2 (by decide)).trans ((W9_of m ρ c main_v2 (by decide)).trans ((W8_of m ρ c main_v2 (by decide)).trans ((W7_of m ρ c main_v2 (by decide)).trans ((W6_of m ρ c main_v2 (by decide)).trans ((W5_of m ρ c main_v2 (by decide)).trans ((W4_of m ρ c main_v2 (by decide)).trans ((W3_of m ρ c main_v2 (by decide)))))))))))))).trans (w2_v2 m ρ c)

/-- The gradient of the input projection, uncut. -/
theorem w15_v17 : W15 m ρ c (Proc.devRef .tc main_v17) = tn (aP m c) (rms (aX m c) (aG m c)) := by
  refine (W15_arr m ρ c 2).trans ((final8 (V14 m ρ) c).trans ?_)
  have h0 : V14 m ρ c main_v14 = aP m c := w14_v14 m ρ c
  have h1 : V14 m ρ c main_v2 = rms (aX m c) (aG m c) := w14_v2 m ρ c
  rw [h0, h1]

/-- The gradient of the input projection. -/
theorem w16_v18 : W16 m ρ c (Proc.devRef .tc main_v18) = mixDWI (aX m c) (aG m c) (aP m c) := by
  refine Eq.trans (b := shapeCast S8x360x2048 (W15 m ρ c (Proc.devRef .tc main_v17)) shapeCasts_S2880x2048_S8x360x2048) ?_ ?_
  · after_results; rfl
  · rw [w15_v17 m ρ c]
    exact shardsIn _

theorem w16_v16 : W16 m ρ c (Proc.devRef .tc main_v16) = mixDH (aWI m c) (aP m c) :=
  ((W16_of m ρ c main_v16 (by decide)).trans ((W15_of m ρ c main_v16 (by decide)))).trans (w14_v16 m ρ c)

/-- The gradient of the residual stream. -/
theorem w17_v19_0 : W17 m ρ c (Proc.devRef .tc main_v19_0) = mixDX (aX m c) (aG m c) (aWI m c) (aP m c) (aD m c) := by
  refine (W17_arr m ρ c 4).trans ((final9_dx (V16 m ρ) c).trans ?_)
  have h0 : V16 m ρ c main_arg0 = aX m c := (W16_args m ρ c main_arg0 (by decide))
  have h1 : V16 m ρ c main_arg1 = aG m c := (W16_args m ρ c main_arg1 (by decide))
  have h2 : V16 m ρ c main_v16 = mixDH (aWI m c) (aP m c) := w16_v16 m ρ c
  have h3 : V16 m ρ c main_arg11 = aD m c := (W16_args m ρ c main_arg11 (by decide))
  rw [h0, h1, h2, h3]
  rfl

/-- The gradient of the scale of the residual stream's norm. -/
theorem w17_v19_1 : W17 m ρ c (Proc.devRef .tc main_v19_1) = mixDG (aX m c) (aWI m c) (aP m c) := by
  refine (W17_arr m ρ c 5).trans ((final9_dg (V16 m ρ) c).trans ?_)
  have h0 : V16 m ρ c main_arg0 = aX m c := (W16_args m ρ c main_arg0 (by decide))
  have h1 : V16 m ρ c main_v16 = mixDH (aWI m c) (aP m c) := w16_v16 m ρ c
  rw [h0, h1]
  rfl

theorem w17_v4 : W17 m ρ c (Proc.devRef .tc main_v4) = mixProj (aX m c) (aG m c) (aWI m c) :=
  ((W17_of m ρ c main_v4 (by decide)).trans ((W16_of m ρ c main_v4 (by decide)).trans ((W15_of m ρ c main_v4 (by decide)).trans ((W14_of m ρ c main_v4 (by decide)).trans ((W13_of m ρ c main_v4 (by decide)).trans ((W12_of m ρ c main_v4 (by decide)).trans ((W11_of m ρ c main_v4 (by decide)).trans ((W10_of m ρ c main_v4 (by decide)).trans ((W9_of m ρ c main_v4 (by decide)).trans ((W8_of m ρ c main_v4 (by decide)).trans ((W7_of m ρ c main_v4 (by decide)).trans ((W6_of m ρ c main_v4 (by decide)).trans ((W5_of m ρ c main_v4 (by decide))))))))))))))).trans (w4_v4 m ρ c)

theorem w17_v7 : W17 m ρ c (Proc.devRef .tc main_v7) = mixOut (aX m c) (aY1 m c) (aY2 m c) (aY3 m c) (aG1 m c) (aG2 m c) (aG3 m c) (aWO m c) :=
  ((W17_of m ρ c main_v7 (by decide)).trans ((W16_of m ρ c main_v7 (by decide)).trans ((W15_of m ρ c main_v7 (by decide)).trans ((W14_of m ρ c main_v7 (by decide)).trans ((W13_of m ρ c main_v7 (by decide)).trans ((W12_of m ρ c main_v7 (by decide)).trans ((W11_of m ρ c main_v7 (by decide)).trans ((W10_of m ρ c main_v7 (by decide)).trans ((W9_of m ρ c main_v7 (by decide)).trans ((W8_of m ρ c main_v7 (by decide)))))))))))).trans (w7_v7 m ρ c)

theorem w17_v18 : W17 m ρ c (Proc.devRef .tc main_v18) = mixDWI (aX m c) (aG m c) (aP m c) :=
  ((W17_of m ρ c main_v18 (by decide))).trans (w16_v18 m ρ c)

theorem w17_v12 : W17 m ρ c (Proc.devRef .tc main_v12) = mixDWO (aY1 m c) (aY2 m c) (aY3 m c) (aG1 m c) (aG2 m c) (aG3 m c) (aD m c) :=
  ((W17_of m ρ c main_v12 (by decide)).trans ((W16_of m ρ c main_v12 (by decide)).trans ((W15_of m ρ c main_v12 (by decide)).trans ((W14_of m ρ c main_v12 (by decide)).trans ((W13_of m ρ c main_v12 (by decide)).trans ((W12_of m ρ c main_v12 (by decide)))))))).trans (w11_v12 m ρ c)

theorem w17_v13_0 : W17 m ρ c (Proc.devRef .tc main_v13_0) = mixDY1 (aY1 m c) (aG1 m c) (aWO m c) (aD m c) :=
  ((W17_of m ρ c main_v13_0 (by decide)).trans ((W16_of m ρ c main_v13_0 (by decide)).trans ((W15_of m ρ c main_v13_0 (by decide)).trans ((W14_of m ρ c main_v13_0 (by decide)).trans ((W13_of m ρ c main_v13_0 (by decide))))))).trans (w12_v13_0 m ρ c)

theorem w17_v13_3 : W17 m ρ c (Proc.devRef .tc main_v13_3) = mixDG1 (aY1 m c) (aWO m c) (aD m c) :=
  ((W17_of m ρ c main_v13_3 (by decide)).trans ((W16_of m ρ c main_v13_3 (by decide)).trans ((W15_of m ρ c main_v13_3 (by decide)).trans ((W14_of m ρ c main_v13_3 (by decide)).trans ((W13_of m ρ c main_v13_3 (by decide))))))).trans (w12_v13_3 m ρ c)

theorem w17_v13_1 : W17 m ρ c (Proc.devRef .tc main_v13_1) = mixDY2 (aY2 m c) (aG2 m c) (aWO m c) (aD m c) :=
  ((W17_of m ρ c main_v13_1 (by decide)).trans ((W16_of m ρ c main_v13_1 (by decide)).trans ((W15_of m ρ c main_v13_1 (by decide)).trans ((W14_of m ρ c main_v13_1 (by decide)).trans ((W13_of m ρ c main_v13_1 (by decide))))))).trans (w12_v13_1 m ρ c)

theorem w17_v13_4 : W17 m ρ c (Proc.devRef .tc main_v13_4) = mixDG2 (aY2 m c) (aWO m c) (aD m c) :=
  ((W17_of m ρ c main_v13_4 (by decide)).trans ((W16_of m ρ c main_v13_4 (by decide)).trans ((W15_of m ρ c main_v13_4 (by decide)).trans ((W14_of m ρ c main_v13_4 (by decide)).trans ((W13_of m ρ c main_v13_4 (by decide))))))).trans (w12_v13_4 m ρ c)

theorem w17_v13_2 : W17 m ρ c (Proc.devRef .tc main_v13_2) = mixDY3 (aY3 m c) (aG3 m c) (aWO m c) (aD m c) :=
  ((W17_of m ρ c main_v13_2 (by decide)).trans ((W16_of m ρ c main_v13_2 (by decide)).trans ((W15_of m ρ c main_v13_2 (by decide)).trans ((W14_of m ρ c main_v13_2 (by decide)).trans ((W13_of m ρ c main_v13_2 (by decide))))))).trans (w12_v13_2 m ρ c)

theorem w17_v13_5 : W17 m ρ c (Proc.devRef .tc main_v13_5) = mixDG3 (aY3 m c) (aWO m c) (aD m c) :=
  ((W17_of m ρ c main_v13_5 (by decide)).trans ((W16_of m ρ c main_v13_5 (by decide)).trans ((W15_of m ρ c main_v13_5 (by decide)).trans ((W14_of m ρ c main_v13_5 (by decide)).trans ((W13_of m ρ c main_v13_5 (by decide))))))).trans (w12_v13_5 m ρ c)

end Cert.Kernel2Ideal.Value

end
-- ==== Proof.Run2.lean ====
/- The kernel's program, run from any memory: every result is the mathematics around the mixers, and the arguments end as they began. -/
module

public import proofs.«01_k».proof.Proof.Fold2

@[expose] public section

set_option maxRecDepth 16384

noncomputable section

namespace Cert.Kernel2Ideal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen Cert.Math

variable (m : (ℓ : Loc nD τ sig) → Buf (Elt Ideal) ℓ) (ρ : Dev nD → PrngReg)

set_option backward.isDefEq.respectTransparency.types false in
/-- Every execution ends with the projections, the residual stream and all the gradients in the twelve result arrays: what
    the arrays hold at the last boundary (`Fold2`), read off the final memory. -/
theorem run_math : θ_run defs (onTc (τ := τ) (main (F := Ideal))) ⟨m, fun _ => 0, ρ⟩ (fun r => ∀ c : Dev nD,
      (r.2.mem ((c.tc : Thread nD τ).loc main_v4) = mixProj (aX m c) (aG m c) (aWI m c)
      ∧ r.2.mem ((c.tc : Thread nD τ).loc main_v7) = mixOut (aX m c) (aY1 m c) (aY2 m c) (aY3 m c) (aG1 m c) (aG2 m c) (aG3 m c) (aWO m c)
      ∧ r.2.mem ((c.tc : Thread nD τ).loc main_v19_0) = mixDX (aX m c) (aG m c) (aWI m c) (aP m c) (aD m c)
      ∧ r.2.mem ((c.tc : Thread nD τ).loc main_v19_1) = mixDG (aX m c) (aWI m c) (aP m c)
      ∧ r.2.mem ((c.tc : Thread nD τ).loc main_v18) = mixDWI (aX m c) (aG m c) (aP m c)
      ∧ r.2.mem ((c.tc : Thread nD τ).loc main_v13_0) = mixDY1 (aY1 m c) (aG1 m c) (aWO m c) (aD m c)
      ∧ r.2.mem ((c.tc : Thread nD τ).loc main_v13_1) = mixDY2 (aY2 m c) (aG2 m c) (aWO m c) (aD m c)
      ∧ r.2.mem ((c.tc : Thread nD τ).loc main_v13_2) = mixDY3 (aY3 m c) (aG3 m c) (aWO m c) (aD m c)
      ∧ r.2.mem ((c.tc : Thread nD τ).loc main_v13_3) = mixDG1 (aY1 m c) (aWO m c) (aD m c)
      ∧ r.2.mem ((c.tc : Thread nD τ).loc main_v13_4) = mixDG2 (aY2 m c) (aWO m c) (aD m c)
      ∧ r.2.mem ((c.tc : Thread nD τ).loc main_v13_5) = mixDG3 (aY3 m c) (aWO m c) (aD m c)
      ∧ r.2.mem ((c.tc : Thread nD τ).loc main_v12) = mixDWO (aY1 m c) (aY2 m c) (aY3 m c) (aG1 m c) (aG2 m c) (aG3 m c) (aD m c))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))) :=
  Pipeline.θ_run_regions_kit_sems (pcfgs (F := Ideal)) adm (pdats m ρ) () cellOf_inj emb₁ defs₀ 𝒱₀ L lv m ρ (main (F := Ideal)) (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h hz c => ⟨⟨(h c _ (mem_uc main_v4 (by decide))).trans (w17_v4 m ρ c),
      (h c _ (mem_uc main_v7 (by decide))).trans (w17_v7 m ρ c),
      (h c _ (mem_uc main_v19_0 (by decide))).trans (w17_v19_0 m ρ c),
      (h c _ (mem_uc main_v19_1 (by decide))).trans (w17_v19_1 m ρ c),
      (h c _ (mem_uc main_v18 (by decide))).trans (w17_v18 m ρ c),
      (h c _ (mem_uc main_v13_0 (by decide))).trans (w17_v13_0 m ρ c),
      (h c _ (mem_uc main_v13_1 (by decide))).trans (w17_v13_1 m ρ c),
      (h c _ (mem_uc main_v13_2 (by decide))).trans (w17_v13_2 m ρ c),
      (h c _ (mem_uc main_v13_3 (by decide))).trans (w17_v13_3 m ρ c),
      (h c _ (mem_uc main_v13_4 (by decide))).trans (w17_v13_4 m ρ c),
      (h c _ (mem_uc main_v13_5 (by decide))).trans (w17_v13_5 m ρ c),
      (h c _ (mem_uc main_v12 (by decide))).trans (w17_v12 m ρ c)⟩,
      (h c _ (mem_uc main_arg0 (by decide))).trans (W17_main_arg0 m ρ c),
      (h c _ (mem_uc main_arg1 (by decide))).trans (W17_main_arg1 m ρ c),
      (h c _ (mem_uc main_arg2 (by decide))).trans (W17_main_arg2 m ρ c),
      (h c _ (mem_uc main_arg3 (by decide))).trans (W17_main_arg3 m ρ c),
      (h c _ (mem_uc main_arg4 (by decide))).trans (W17_main_arg4 m ρ c),
      (h c _ (mem_uc main_arg5 (by decide))).trans (W17_main_arg5 m ρ c),
      (h c _ (mem_uc main_arg6 (by decide))).trans (W17_main_arg6 m ρ c),
      (h c _ (mem_uc main_arg7 (by decide))).trans (W17_main_arg7 m ρ c),
      (h c _ (mem_uc main_arg8 (by decide))).trans (W17_main_arg8 m ρ c),
      (h c _ (mem_uc main_arg9 (by decide))).trans (W17_main_arg9 m ρ c),
      (h c _ (mem_uc main_arg10 (by decide))).trans (W17_main_arg10 m ρ c),
      (h c _ (mem_uc main_arg11 (by decide))).trans (W17_main_arg11 m ρ c)⟩)

end Cert.Kernel2Ideal.Value

end
-- ==== Proof.Reference2.lean ====
/- What the reference of the mixers' surroundings computes: its operations, stage by stage, are the functions of
   `Cert.Math`. -/
module

public import proofs.«01_k».proof.Proof.Spec2
public import proofs.«01_k».proof.Proof.Gen.Reference2Ideal.Run

@[expose] public section

set_option maxRecDepth 16384

noncomputable section

namespace Cert.Reference2Ideal.Value

open Idealize.ShloMosaic Idealize.ShloMosaic.TcCoe Idealize.SL.Sem
open Cert.Reference2Ideal Cert.Reference2Ideal.Gen Cert.Math

abbrev Arr := FVec Ideal S2048x2048 .f32
abbrev Col := FVec Ideal S2048x1 .f32
abbrev Row := FVec Ideal S1x2048 .f32
abbrev Proj := FVec Ideal S2048x2880 .f32
abbrev Tall := FVec Ideal S2880x2048 .f32
abbrev CutI := FVec Ideal S8x360x2048 .f32
abbrev CutO := FVec Ideal S8x256x2048 .f32

/-! ## The stages, as the program spells them -/

/-- Each row's mean square plus the stabiliser, rows of 2048. -/
def msX (x : FVec Ideal S2048x2048 .f32) : Col :=
  addf (Host.divf (broadcastInDim S2048x1 ![0] bcast_S2048_S2048x1_0
      (Host.reduceAdd (mulf x x) (constant S_ .f32 0x00000000#32) reducesTo_S2048x2048_S2048_d1 h_S_))
    (broadcastInDim S2048x1 ![] bcast_S_S2048x1 (constant S_ .f32 0x45000000#32)))
    (broadcastInDim S2048x1 ![] bcast_S_S2048x1 (constant S_ .f32 0x358637BD#32))

/-- Each row divided by its root mean square. -/
def hatX (x : FVec Ideal S2048x2048 .f32) : FVec Ideal S2048x2048 .f32 :=
  mulf x (broadcastInDim S2048x2048 ![0, 1] bcast_S2048x1_S2048x2048_0_1 (Host.rsqrt (msX x)))

/-- The normalised rows. -/
def normX (x : FVec Ideal S2048x2048 .f32) (g : FVec Ideal S1x2048 .f32) : FVec Ideal S2048x2048 .f32 :=
  mulf (hatX x) (broadcastInDim S2048x2048 ![0, 1] bcast_S1x2048_S2048x2048_0_1 g)

/-- The gradient of the norm's scale. -/
def dgX (x d : FVec Ideal S2048x2048 .f32) : FVec Ideal S1x2048 .f32 :=
  shapeCast S1x2048 (Host.reduceAdd (mulf (hatX x) d) (constant S_ .f32 0x00000000#32) reducesTo_S2048x2048_S2048_d0 h_S_)
    shapeCasts_S2048_S1x2048

/-- The cotangent times the scale. -/
def dHatX (g : FVec Ideal S1x2048 .f32) (d : FVec Ideal S2048x2048 .f32) : FVec Ideal S2048x2048 .f32 :=
  mulf d (broadcastInDim S2048x2048 ![0, 1] bcast_S1x2048_S2048x2048_0_1 g)

/-- The term the mean square contributes, before its two factors `x`. -/
def rowX (x : FVec Ideal S2048x2048 .f32) (g : FVec Ideal S1x2048 .f32) (d : FVec Ideal S2048x2048 .f32) : FVec Ideal S2048x2048 .f32 :=
  broadcastInDim S2048x2048 ![0] bcast_S2048_S2048x2048_0 (Host.reduceAdd
    (Host.divf (mulf (shapeCast S2048x1 (Host.reduceAdd (mulf x (dHatX g d)) (constant S_ .f32 0x00000000#32)
          reducesTo_S2048x2048_S2048_d1 h_S_) shapeCasts_S2048_S2048x1)
        (mulf (broadcastInDim S2048x1 ![] bcast_S_S2048x1 (constant S_ .f32 0xBF000000#32))
          (Host.divf (Host.rsqrt (msX x)) (msX x))))
      (broadcastInDim S2048x1 ![] bcast_S_S2048x1 (constant S_ .f32 0x45000000#32)))
    (constant S_ .f32 0x00000000#32) reducesTo_S2048x1_S2048_d1 h_S_)

/-- The gradient of the rows. -/
def dxX (x : FVec Ideal S2048x2048 .f32) (g : FVec Ideal S1x2048 .f32) (d : FVec Ideal S2048x2048 .f32) (e : Arr) : FVec Ideal S2048x2048 .f32 :=
  addf (addf (addf e (mulf (dHatX g d) (broadcastInDim S2048x2048 ![0, 1] bcast_S2048x1_S2048x2048_0_1 (Host.rsqrt (msX x))))) (mulf x (rowX x g d))) (mulf (rowX x g d) x)

/-- Each row's mean square plus the stabiliser, rows of 1024. -/
def msL (x : FVec Ideal S2048x1024 .f32) : Col :=
  addf (Host.divf (broadcastInDim S2048x1 ![0] bcast_S2048_S2048x1_0
      (Host.reduceAdd (mulf x x) (constant S_ .f32 0x00000000#32) reducesTo_S2048x1024_S2048_d1 h_S_))
    (broadcastInDim S2048x1 ![] bcast_S_S2048x1 (constant S_ .f32 0x44800000#32)))
    (broadcastInDim S2048x1 ![] bcast_S_S2048x1 (constant S_ .f32 0x358637BD#32))

/-- Each row divided by its root mean square. -/
def hatL (x : FVec Ideal S2048x1024 .f32) : FVec Ideal S2048x1024 .f32 :=
  mulf x (broadcastInDim S2048x1024 ![0, 1] bcast_S2048x1_S2048x1024_0_1 (Host.rsqrt (msL x)))

/-- The normalised rows. -/
def normL (x : FVec Ideal S2048x1024 .f32) (g : FVec Ideal S1x1024 .f32) : FVec Ideal S2048x1024 .f32 :=
  mulf (hatL x) (broadcastInDim S2048x1024 ![0, 1] bcast_S1x1024_S2048x1024_0_1 g)

/-- The gradient of the norm's scale. -/
def dgL (x d : FVec Ideal S2048x1024 .f32) : FVec Ideal S1x1024 .f32 :=
  shapeCast S1x1024 (Host.reduceAdd (mulf (hatL x) d) (constant S_ .f32 0x00000000#32) reducesTo_S2048x1024_S1024_d0 h_S_)
    shapeCasts_S1024_S1x1024

/-- The cotangent times the scale. -/
def dHatL (g : FVec Ideal S1x1024 .f32) (d : FVec Ideal S2048x1024 .f32) : FVec Ideal S2048x1024 .f32 :=
  mulf d (broadcastInDim S2048x1024 ![0, 1] bcast_S1x1024_S2048x1024_0_1 g)

/-- The term the mean square contributes, before its two factors `x`. -/
def rowL (x : FVec Ideal S2048x1024 .f32) (g : FVec Ideal S1x1024 .f32) (d : FVec Ideal S2048x1024 .f32) : FVec Ideal S2048x1024 .f32 :=
  broadcastInDim S2048x1024 ![0] bcast_S2048_S2048x1024_0 (Host.reduceAdd
    (Host.divf (mulf (shapeCast S2048x1 (Host.reduceAdd (mulf x (dHatL g d)) (constant S_ .f32 0x00000000#32)
          reducesTo_S2048x1024_S2048_d1 h_S_) shapeCasts_S2048_S2048x1)
        (mulf (broadcastInDim S2048x1 ![] bcast_S_S2048x1 (constant S_ .f32 0xBF000000#32))
          (Host.divf (Host.rsqrt (msL x)) (msL x))))
      (broadcastInDim S2048x1 ![] bcast_S_S2048x1 (constant S_ .f32 0x44800000#32)))
    (constant S_ .f32 0x00000000#32) reducesTo_S2048x1_S2048_d1 h_S_)

/-- The gradient of the rows. -/
def dxL (x : FVec Ideal S2048x1024 .f32) (g : FVec Ideal S1x1024 .f32) (d : FVec Ideal S2048x1024 .f32) : FVec Ideal S2048x1024 .f32 :=
  addf (addf (mulf (dHatL g d) (broadcastInDim S2048x1024 ![0, 1] bcast_S2048x1_S2048x1024_0_1 (Host.rsqrt (msL x)))) (mulf x (rowL x g d))) (mulf (rowL x g d) x)

/-- Each row's mean square plus the stabiliser, rows of 512. -/
def msS (x : FVec Ideal S2048x512 .f32) : Col :=
  addf (Host.divf (broadcastInDim S2048x1 ![0] bcast_S2048_S2048x1_0
      (Host.reduceAdd (mulf x x) (constant S_ .f32 0x00000000#32) reducesTo_S2048x512_S2048_d1 h_S_))
    (broadcastInDim S2048x1 ![] bcast_S_S2048x1 (constant S_ .f32 0x44000000#32)))
    (broadcastInDim S2048x1 ![] bcast_S_S2048x1 (constant S_ .f32 0x358637BD#32))

/-- Each row divided by its root mean square. -/
def hatS (x : FVec Ideal S2048x512 .f32) : FVec Ideal S2048x512 .f32 :=
  mulf x (broadcastInDim S2048x512 ![0, 1] bcast_S2048x1_S2048x512_0_1 (Host.rsqrt (msS x)))

/-- The normalised rows. -/
def normS (x : FVec Ideal S2048x512 .f32) (g : FVec Ideal S1x512 .f32) : FVec Ideal S2048x512 .f32 :=
  mulf (hatS x) (broadcastInDim S2048x512 ![0, 1] bcast_S1x512_S2048x512_0_1 g)

/-- The gradient of the norm's scale. -/
def dgS (x d : FVec Ideal S2048x512 .f32) : FVec Ideal S1x512 .f32 :=
  shapeCast S1x512 (Host.reduceAdd (mulf (hatS x) d) (constant S_ .f32 0x00000000#32) reducesTo_S2048x512_S512_d0 h_S_)
    shapeCasts_S512_S1x512

/-- The cotangent times the scale. -/
def dHatS (g : FVec Ideal S1x512 .f32) (d : FVec Ideal S2048x512 .f32) : FVec Ideal S2048x512 .f32 :=
  mulf d (broadcastInDim S2048x512 ![0, 1] bcast_S1x512_S2048x512_0_1 g)

/-- The term the mean square contributes, before its two factors `x`. -/
def rowS (x : FVec Ideal S2048x512 .f32) (g : FVec Ideal S1x512 .f32) (d : FVec Ideal S2048x512 .f32) : FVec Ideal S2048x512 .f32 :=
  broadcastInDim S2048x512 ![0] bcast_S2048_S2048x512_0 (Host.reduceAdd
    (Host.divf (mulf (shapeCast S2048x1 (Host.reduceAdd (mulf x (dHatS g d)) (constant S_ .f32 0x00000000#32)
          reducesTo_S2048x512_S2048_d1 h_S_) shapeCasts_S2048_S2048x1)
        (mulf (broadcastInDim S2048x1 ![] bcast_S_S2048x1 (constant S_ .f32 0xBF000000#32))
          (Host.divf (Host.rsqrt (msS x)) (msS x))))
      (broadcastInDim S2048x1 ![] bcast_S_S2048x1 (constant S_ .f32 0x44000000#32)))
    (constant S_ .f32 0x00000000#32) reducesTo_S2048x1_S2048_d1 h_S_)

/-- The gradient of the rows. -/
def dxS (x : FVec Ideal S2048x512 .f32) (g : FVec Ideal S1x512 .f32) (d : FVec Ideal S2048x512 .f32) : FVec Ideal S2048x512 .f32 :=
  addf (addf (mulf (dHatS g d) (broadcastInDim S2048x512 ![0, 1] bcast_S2048x1_S2048x512_0_1 (Host.rsqrt (msS x)))) (mulf x (rowS x g d))) (mulf (rowS x g d) x)

/-- The input projection's shards, stacked. -/
def flatIH (w : CutI) : Tall := shapeCast S2880x2048 w shapeCasts_S8x360x2048_S2880x2048

/-- The same, transposed. -/
def turnH (w : Tall) : Proj := transpose S2048x2880 [1, 0] w transposes_S2880x2048_S2048x2880_1_0

/-- The output projection's shards, stacked. -/
def flatOH (w : CutO) : Arr := shapeCast S2048x2048 w shapeCasts_S8x256x2048_S2048x2048

/-- The projection of the normalised rows. -/
def projH (h : Arr) (w : Proj) : Proj := Host.dotGeneral dot_S2048x2048_S2048x2880_S2048x2880_1_0_0_1_n_n none h w

/-- Three arrays side by side. -/
def catH (a : FVec Ideal S2048x1024 .f32) (b d : FVec Ideal S2048x512 .f32) : Arr :=
  concatenate S2048x2048 1 [⟨S2048x1024, a⟩, ⟨S2048x512, b⟩, ⟨S2048x512, d⟩] concatenates_S2048x1024_S2048x512_S2048x512_S2048x2048_d1

/-- The residual stream behind the mixers. -/
def outH (x a w : Arr) : Arr := addf x (Host.dotGeneral dot_S2048x2048_S2048x2048_S2048x2048_1_0_0_1_n_n none a w)

/-- The cotangent, under the reference's reshape. -/
def ctH (d : Arr) : Arr := shapeCast S2048x2048 d shapeCasts_S2048x2048_S2048x2048

/-- The cotangent of the normalised mixer outputs. -/
def dCatH (d w : Arr) : Arr := Host.dotGeneral dot_S2048x2048_S2048x2048_S2048x2048_1_1_0_0_n_n none (ctH d) w

/-- The columns of the three mixers. -/
def leftH (d : Arr) : FVec Ideal S2048x1024 .f32 := extractStridedSlice S2048x1024 ![0, 0] d slices_S2048x2048_S2048x1024_0_0
def middleH (d : Arr) : FVec Ideal S2048x512 .f32 := extractStridedSlice S2048x512 ![0, 1024] d slices_S2048x2048_S2048x512_0_1024
def rightH (d : Arr) : FVec Ideal S2048x512 .f32 := extractStridedSlice S2048x512 ![0, 1536] d slices_S2048x2048_S2048x512_0_1536

/-- The gradient of the output projection. -/
def dwoH (d a : Arr) : CutO :=
  shapeCast S8x256x2048 (transpose S2048x2048 [1, 0]
    (Host.dotGeneral dot_S2048x2048_S2048x2048_S2048x2048_0_0_1_1_n_n none (ctH d) a) transposes_S2048x2048_S2048x2048_1_0)
    shapeCasts_S2048x2048_S8x256x2048

/-- The gradient of the input projection. -/
def dwiH (p : Proj) (h : Arr) : CutI :=
  shapeCast S8x360x2048 (transpose S2880x2048 [1, 0] (transpose S2048x2880 [1, 0]
    (Host.dotGeneral dot_S2048x2880_S2048x2048_S2880x2048_0_0_1_1_n_n none p h) transposes_S2880x2048_S2048x2880_1_0)
    transposes_S2048x2880_S2880x2048_1_0) shapeCasts_S2880x2048_S8x360x2048

/-- The cotangent of the normalised rows. -/
def dhH (p w : Proj) : Arr := Host.dotGeneral dot_S2048x2880_S2048x2880_S2048x2048_1_1_0_0_n_n none p w

/-! ## Each stage is the mathematics -/

theorem normX_eq (x : FVec Ideal S2048x2048 .f32) (g : FVec Ideal S1x2048 .f32) : normX x g = rms x g := by
  funext j
  pointwise [normX, hatX, msX, rms, meanSq]

theorem dgX_eq (x d : FVec Ideal S2048x2048 .f32) : dgX x d = rmsDg x d := by
  funext j
  pointwise [dgX, hatX, msX, rmsDg, meanSq]

theorem dxX_eq (x : FVec Ideal S2048x2048 .f32) (g : FVec Ideal S1x2048 .f32) (d : FVec Ideal S2048x2048 .f32) (e : Arr) : dxX x g d e = rmsDx x g d e := by
  funext j
  pointwise [dxX, dHatX, rowX, msX, rmsDx, rmsRow, meanSq, Fin.sum_univ_one]

theorem normL_eq (x : FVec Ideal S2048x1024 .f32) (g : FVec Ideal S1x1024 .f32) : normL x g = wRms 0x44800000#32 x g := by
  funext j
  pointwise [normL, hatL, msL, wRms, wMeanSq]

theorem dgL_eq (x d : FVec Ideal S2048x1024 .f32) : dgL x d = wDg 0x44800000#32 x d := by
  funext j
  pointwise [dgL, hatL, msL, wDg, wMeanSq]

theorem dxL_eq (x : FVec Ideal S2048x1024 .f32) (g : FVec Ideal S1x1024 .f32) (d : FVec Ideal S2048x1024 .f32) : dxL x g d = wDx 0x44800000#32 x g d := by
  funext j
  pointwise [dxL, dHatL, rowL, msL, wDx, wRow, wMeanSq, Fin.sum_univ_one]

theorem normS_eq (x : FVec Ideal S2048x512 .f32) (g : FVec Ideal S1x512 .f32) : normS x g = wRms 0x44000000#32 x g := by
  funext j
  pointwise [normS, hatS, msS, wRms, wMeanSq]

theorem dgS_eq (x d : FVec Ideal S2048x512 .f32) : dgS x d = wDg 0x44000000#32 x d := by
  funext j
  pointwise [dgS, hatS, msS, wDg, wMeanSq]

theorem dxS_eq (x : FVec Ideal S2048x512 .f32) (g : FVec Ideal S1x512 .f32) (d : FVec Ideal S2048x512 .f32) : dxS x g d = wDx 0x44000000#32 x g d := by
  funext j
  pointwise [dxS, dHatS, rowS, msS, wDx, wRow, wMeanSq, Fin.sum_univ_one]

theorem flatIH_eq (w : CutI) : flatIH w = flatIn w := by
  funext j
  pointwise [flatIH, flatIn]

theorem flatOH_eq (w : CutO) : flatOH w = flatOut w := by
  funext j
  pointwise [flatOH, flatOut]

theorem projH_eq (h : Arr) (w : Tall) : projH h (turnH w) = nt h w := by
  funext j
  pointwise [projH, turnH, nt]

theorem catH_eq (a : FVec Ideal S2048x1024 .f32) (b d : FVec Ideal S2048x512 .f32) : catH a b d = beside a b d := by
  funext j
  pointwise [catH, beside]

theorem outH_eq (x a w : Arr) : outH x a w = add (nn a w) x := by
  funext j
  refine Eq.trans (b := x j + nn a w j) ?_ (add_comm _ _)
  pointwise [outH, nn]

theorem dCatH_eq (d w : Arr) : dCatH d w = nt d w := by
  funext j
  pointwise [dCatH, ctH, nt]

theorem leftH_eq (d : Arr) : leftH d = left d := by
  funext j
  pointwise [leftH, left]

theorem middleH_eq (d : Arr) : middleH d = middle d := by
  funext j
  pointwise [middleH, middle]

theorem rightH_eq (d : Arr) : rightH d = right d := by
  funext j
  pointwise [rightH, right]

theorem dwoH_eq (d a : Arr) : dwoH d a = cutOut (tn a d) := by
  funext j
  refine Eq.trans (b := cutOut (fun i => ∑ l : Fin 2048, d (ix2 l (i 1)) * a (ix2 l (i 0))) j) ?_ (Finset.sum_congr rfl fun l _ => mul_comm _ _)
  pointwise [dwoH, ctH, cutOut]

theorem dwiH_eq (p : Proj) (h : Arr) : dwiH p h = cutIn (tn p h) := by
  funext j
  pointwise [dwiH, cutIn, tn]

theorem dhH_eq (p : Proj) (w : Tall) : dhH p (turnH w) = nn p w := by
  funext j
  pointwise [dhH, turnH, nn]

/-! ## The reference's results -/

variable (m : (ℓ : Loc nD τ sig) → Buf (Elt Ideal) ℓ) (c : Dev nD)

abbrev aX : Mat 2048 2048 := m ((c : Thread nD τ).loc main_arg0)
abbrev aG : Mat 1 2048 := m ((c : Thread nD τ).loc main_arg1)
abbrev aWI : InShards := m ((c : Thread nD τ).loc main_arg2)
abbrev aP : Mat 2048 2880 := m ((c : Thread nD τ).loc main_arg3)
abbrev aY1 : Mat 2048 1024 := m ((c : Thread nD τ).loc main_arg4)
abbrev aY2 : Mat 2048 512 := m ((c : Thread nD τ).loc main_arg5)
abbrev aY3 : Mat 2048 512 := m ((c : Thread nD τ).loc main_arg6)
abbrev aG1 : Mat 1 1024 := m ((c : Thread nD τ).loc main_arg7)
abbrev aG2 : Mat 1 512 := m ((c : Thread nD τ).loc main_arg8)
abbrev aG3 : Mat 1 512 := m ((c : Thread nD τ).loc main_arg9)
abbrev aWO : OutShards := m ((c : Thread nD τ).loc main_arg10)
abbrev aD : Mat 2048 2048 := m ((c : Thread nD τ).loc main_arg11)

/-- The normalised mixer outputs side by side, in the program's spelling. -/
abbrev catT : Arr := catH (normL (aY1 m c) (aG1 m c)) (normS (aY2 m c) (aG2 m c)) (normS (aY3 m c) (aG3 m c))
/-- Their cotangent. -/
abbrev dCatT : Arr := dCatH (aD m c) (flatOH (aWO m c))
/-- The cotangent of the normalised rows. -/
abbrev dhT : Arr := dhH (aP m c) (turnH (flatIH (aWI m c)))

theorem catT_eq : catT m c = mixCat (aY1 m c) (aY2 m c) (aY3 m c) (aG1 m c) (aG2 m c) (aG3 m c) := by
  unfold catT; rw [catH_eq, normL_eq, normS_eq, normS_eq]; rfl

theorem dCatT_eq : dCatT m c = mixDCat (aWO m c) (aD m c) := by
  unfold dCatT; rw [dCatH_eq, flatOH_eq]; rfl

theorem dhT_eq : dhT m c = mixDH (aWI m c) (aP m c) := by
  unfold dhT; rw [dhH_eq, flatIH_eq]; rfl

theorem proj_eq : projH (normX (aX m c) (aG m c)) (turnH (flatIH (aWI m c))) =
    mixProj (aX m c) (aG m c) (aWI m c) := by
  rw [projH_eq, normX_eq, flatIH_eq]; rfl

theorem out_eq : outH (aX m c) (catT m c) (flatOH (aWO m c)) =
    mixOut (aX m c) (aY1 m c) (aY2 m c) (aY3 m c) (aG1 m c) (aG2 m c) (aG3 m c) (aWO m c) := by
  rw [outH_eq, catT_eq, flatOH_eq]; rfl

theorem dx_eq : dxX (aX m c) (aG m c) (dhT m c) (aD m c) =
    mixDX (aX m c) (aG m c) (aWI m c) (aP m c) (aD m c) := by
  rw [dxX_eq, dhT_eq]; rfl

theorem dg_eq : dgX (aX m c) (dhT m c) =
    mixDG (aX m c) (aWI m c) (aP m c) := by
  rw [dgX_eq, dhT_eq]; rfl

theorem dwi_eq : dwiH (aP m c) (normX (aX m c) (aG m c)) =
    mixDWI (aX m c) (aG m c) (aP m c) := by
  rw [dwiH_eq, normX_eq]; rfl

theorem dy1_eq : dxL (aY1 m c) (aG1 m c) (leftH (dCatT m c)) =
    mixDY1 (aY1 m c) (aG1 m c) (aWO m c) (aD m c) := by
  rw [dxL_eq, leftH_eq, dCatT_eq]; rfl

theorem dy2_eq : dxS (aY2 m c) (aG2 m c) (middleH (dCatT m c)) =
    mixDY2 (aY2 m c) (aG2 m c) (aWO m c) (aD m c) := by
  rw [dxS_eq, middleH_eq, dCatT_eq]; rfl

theorem dy3_eq : dxS (aY3 m c) (aG3 m c) (rightH (dCatT m c)) =
    mixDY3 (aY3 m c) (aG3 m c) (aWO m c) (aD m c) := by
  rw [dxS_eq, rightH_eq, dCatT_eq]; rfl

theorem dg1_eq : dgL (aY1 m c) (leftH (dCatT m c)) =
    mixDG1 (aY1 m c) (aWO m c) (aD m c) := by
  rw [dgL_eq, leftH_eq, dCatT_eq]; rfl

theorem dg2_eq : dgS (aY2 m c) (middleH (dCatT m c)) =
    mixDG2 (aY2 m c) (aWO m c) (aD m c) := by
  rw [dgS_eq, middleH_eq, dCatT_eq]; rfl

theorem dg3_eq : dgS (aY3 m c) (rightH (dCatT m c)) =
    mixDG3 (aY3 m c) (aWO m c) (aD m c) := by
  rw [dgS_eq, rightH_eq, dCatT_eq]; rfl

theorem dwo_eq : dwoH (aD m c) (catT m c) =
    mixDWO (aY1 m c) (aY2 m c) (aY3 m c) (aG1 m c) (aG2 m c) (aG3 m c) (aD m c) := by
  rw [dwoH_eq, catT_eq]; rfl

/-- The reference's run: every result is the mathematics around the mixers, the arguments end as they began. -/
theorem run_math (ρ : Dev nD → PrngReg) :
    θ_run defs (onTc (τ := τ) (main (F := Ideal))) ⟨m, fun _ => 0, ρ⟩ fun r => ∀ c : Dev nD,
      (r.2.mem ((c.tc : Thread nD τ).loc main_v17) = mixProj (aX m c) (aG m c) (aWI m c)
      ∧ r.2.mem ((c.tc : Thread nD τ).loc main_v66) = mixOut (aX m c) (aY1 m c) (aY2 m c) (aY3 m c) (aG1 m c) (aG2 m c) (aG3 m c) (aWO m c)
      ∧ r.2.mem ((c.tc : Thread nD τ).loc main_v156) = mixDX (aX m c) (aG m c) (aWI m c) (aP m c) (aD m c)
      ∧ r.2.mem ((c.tc : Thread nD τ).loc main_v139) = mixDG (aX m c) (aWI m c) (aP m c)
      ∧ r.2.mem ((c.tc : Thread nD τ).loc main_v136) = mixDWI (aX m c) (aG m c) (aP m c)
      ∧ r.2.mem ((c.tc : Thread nD τ).loc main_v131) = mixDY1 (aY1 m c) (aG1 m c) (aWO m c) (aD m c)
      ∧ r.2.mem ((c.tc : Thread nD τ).loc main_v112) = mixDY2 (aY2 m c) (aG2 m c) (aWO m c) (aD m c)
      ∧ r.2.mem ((c.tc : Thread nD τ).loc main_v93) = mixDY3 (aY3 m c) (aG3 m c) (aWO m c) (aD m c)
      ∧ r.2.mem ((c.tc : Thread nD τ).loc main_v115) = mixDG1 (aY1 m c) (aWO m c) (aD m c)
      ∧ r.2.mem ((c.tc : Thread nD τ).loc main_v96) = mixDG2 (aY2 m c) (aWO m c) (aD m c)
      ∧ r.2.mem ((c.tc : Thread nD τ).loc main_v77) = mixDG3 (aY3 m c) (aWO m c) (aD m c)
      ∧ r.2.mem ((c.tc : Thread nD τ).loc main_v71) = mixDWO (aY1 m c) (aY2 m c) (aY3 m c) (aG1 m c) (aG2 m c) (aG3 m c) (aD m c))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => by
    obtain ⟨h0, h1, h2, h3, h4, h5, h6, h7, h8, h9, h10, h11, ha⟩ := h c
    have e0 := (h0.trans (show _ = projH (normX (aX m c) (aG m c)) (turnH (flatIH (aWI m c))) from rfl)).trans (proj_eq m c)
    have e1 := (h1.trans (show _ = outH (aX m c) (catT m c) (flatOH (aWO m c)) from rfl)).trans (out_eq m c)
    have e2 := (h2.trans (show _ = dxX (aX m c) (aG m c) (dhT m c) (aD m c) from rfl)).trans (dx_eq m c)
    have e3 := (h3.trans (show _ = dgX (aX m c) (dhT m c) from rfl)).trans (dg_eq m c)
    have e4 := (h4.trans (show _ = dwiH (aP m c) (normX (aX m c) (aG m c)) from rfl)).trans (dwi_eq m c)
    have e5 := (h5.trans (show _ = dxL (aY1 m c) (aG1 m c) (leftH (dCatT m c)) from rfl)).trans (dy1_eq m c)
    have e6 := (h6.trans (show _ = dxS (aY2 m c) (aG2 m c) (middleH (dCatT m c)) from rfl)).trans (dy2_eq m c)
    have e7 := (h7.trans (show _ = dxS (aY3 m c) (aG3 m c) (rightH (dCatT m c)) from rfl)).trans (dy3_eq m c)
    have e8 := (h8.trans (show _ = dgL (aY1 m c) (leftH (dCatT m c)) from rfl)).trans (dg1_eq m c)
    have e9 := (h9.trans (show _ = dgS (aY2 m c) (middleH (dCatT m c)) from rfl)).trans (dg2_eq m c)
    have e10 := (h10.trans (show _ = dgS (aY3 m c) (rightH (dCatT m c)) from rfl)).trans (dg3_eq m c)
    have e11 := (h11.trans (show _ = dwoH (aD m c) (catT m c) from rfl)).trans (dwo_eq m c)
    exact ⟨⟨e0, e1, e2, e3, e4, e5, e6, e7, e8, e9, e10, e11⟩, ha⟩) (run m ρ)

end Cert.Reference2Ideal.Value

end
-- ==== Proof.Claims2.lean ====
/- The claims that speak of the reference of the mixers' surroundings: its frame, and the equality of the kernel's results with
   it. -/
module

public import proofs.«01_k».proof.Defs
public import proofs.«01_k».proof.Proof.Run2
public import proofs.«01_k».proof.Proof.Reference2
public import Idealize.ShloMosaic.Lib.Claim

@[expose] public section

set_option maxRecDepth 16384

noncomputable section

namespace Cert.Proof.Mixer

open Idealize.ShloMosaic Idealize.SL.Sem Cert.Math
open Cert.Kernel2Ideal.Value (aX aG aWI aP aY1 aY2 aY3 aG1 aG2 aG3 aWO aD)

/-- The reference's frame. -/
theorem frame_ri : Cert.quiescent_Reference2Ideal := fun m ρ _ =>
  (θ_run Cert.Reference2Ideal.defs _ _).mono (fun r h => ⟨fun c => (h c).2, sem_eq_zero_of_no_sems (by decide) r.2⟩)
    (Cert.Reference2Ideal.Value.run_math m ρ)

/-- The kernel's results are the reference's: both are the same mathematics of the same arguments. -/
theorem algebraic : Cert.algebraic_Kernel2Ideal_Reference2Ideal := by
  intro m g m' g' _ h
  refine ⟨fun c => mixProj (aX m c) (aG m c) (aWI m c),
    fun c => mixOut (aX m c) (aY1 m c) (aY2 m c) (aY3 m c) (aG1 m c) (aG2 m c) (aG3 m c) (aWO m c),
    fun c => mixDX (aX m c) (aG m c) (aWI m c) (aP m c) (aD m c),
    fun c => mixDG (aX m c) (aWI m c) (aP m c),
    fun c => mixDWI (aX m c) (aG m c) (aP m c),
    fun c => mixDY1 (aY1 m c) (aG1 m c) (aWO m c) (aD m c),
    fun c => mixDY2 (aY2 m c) (aG2 m c) (aWO m c) (aD m c),
    fun c => mixDY3 (aY3 m c) (aG3 m c) (aWO m c) (aD m c),
    fun c => mixDG1 (aY1 m c) (aWO m c) (aD m c),
    fun c => mixDG2 (aY2 m c) (aWO m c) (aD m c),
    fun c => mixDG3 (aY3 m c) (aWO m c) (aD m c),
    fun c => mixDWO (aY1 m c) (aY2 m c) (aY3 m c) (aG1 m c) (aG2 m c) (aG3 m c) (aD m c),
    (θ_run _ _ _).mono (fun r hr c => ?_) (Cert.Kernel2Ideal.Value.run_math m g),
    (θ_run _ _ _).mono (fun r hr c => ?_) (Cert.Reference2Ideal.Value.run_math m' g')⟩
  · obtain ⟨⟨h0, h1, h2, h3, h4, h5, h6, h7, h8, h9, h10, h11⟩, ha⟩ := hr c
    exact ⟨h0, h1, h2, h3, h4, h5, h6, h7, h8, h9, h10, h11, ha⟩
  · obtain ⟨⟨h0, h1, h2, h3, h4, h5, h6, h7, h8, h9, h10, h11⟩, ha⟩ := hr c
    obtain ⟨e0, e1, e2, e3, e4, e5, e6, e7, e8, e9, e10, e11⟩ := h c
    have kaX : Cert.Reference2Ideal.Value.aX m' c = aX m c := e0
    have kaG : Cert.Reference2Ideal.Value.aG m' c = aG m c := e1
    have kaWI : Cert.Reference2Ideal.Value.aWI m' c = aWI m c := e2
    have kaP : Cert.Reference2Ideal.Value.aP m' c = aP m c := e3
    have kaY1 : Cert.Reference2Ideal.Value.aY1 m' c = aY1 m c := e4
    have kaY2 : Cert.Reference2Ideal.Value.aY2 m' c = aY2 m c := e5
    have kaY3 : Cert.Reference2Ideal.Value.aY3 m' c = aY3 m c := e6
    have kaG1 : Cert.Reference2Ideal.Value.aG1 m' c = aG1 m c := e7
    have kaG2 : Cert.Reference2Ideal.Value.aG2 m' c = aG2 m c := e8
    have kaG3 : Cert.Reference2Ideal.Value.aG3 m' c = aG3 m c := e9
    have kaWO : Cert.Reference2Ideal.Value.aWO m' c = aWO m c := e10
    have kaD : Cert.Reference2Ideal.Value.aD m' c = aD m c := e11
    rw [kaX, kaG, kaWI] at h0
    rw [kaX, kaY1, kaY2, kaY3, kaG1, kaG2, kaG3, kaWO] at h1
    rw [kaX, kaG, kaWI, kaP, kaD] at h2
    rw [kaX, kaWI, kaP] at h3
    rw [kaX, kaG, kaP] at h4
    rw [kaY1, kaG1, kaWO, kaD] at h5
    rw [kaY2, kaG2, kaWO, kaD] at h6
    rw [kaY3, kaG3, kaWO, kaD] at h7
    rw [kaY1, kaWO, kaD] at h8
    rw [kaY2, kaWO, kaD] at h9
    rw [kaY3, kaWO, kaD] at h10
    rw [kaY1, kaY2, kaY3, kaG1, kaG2, kaG3, kaD] at h11
    exact ⟨h0, h1, h2, h3, h4, h5, h6, h7, h8, h9, h10, h11, ha⟩

end Cert.Proof.Mixer

end
-- ==== Proof.Spec3.lean ====
/- One step of the optimiser on one weight, entry by entry: the two running moments, and the change they give. -/
module

public import Idealize.ShloMosaic.Lib.Pointwise
public import Idealize.ShloMosaic.Lib.Pipeline.ValueKit

@[expose] public section

set_option maxRecDepth 16384

noncomputable section

namespace Cert.Math

open Idealize.ShloMosaic

/-- The new first moment: 0.9 of the old one and 0.1 of the gradient. -/
def stepM (g m : EReal) : EReal :=
  Ideal.ofBits .f32 0x3F666666#32 * m + Ideal.ofBits .f32 0x3DCCCCCD#32 * g

/-- The new second moment: 0.999 of the old one and 0.001 of the squared gradient. -/
def stepV (g v : EReal) : EReal :=
  Ideal.ofBits .f32 0x3F7FBE77#32 * v + Ideal.ofBits .f32 0x3A83126F#32 * (g * g)

/-- The change of the weight: minus the learning rate times the corrected first moment over the root of the corrected
    second moment (plus its stabiliser), decay of the weight included. -/
def stepDelta (w g m v : EReal) : EReal :=
  Ideal.ofBits .f32 0xBA83126F#32
    * (Ideal.div (Ideal.div (stepM g m) (Ideal.ofBits .f32 0x3F26BD02#32))
        (Ideal.sqrt (Ideal.div (stepV g v) (Ideal.ofBits .f32 0x3C231ACC#32)) + Ideal.ofBits .f32 0x322BCC77#32)
      + Ideal.ofBits .f32 0x3C23D70A#32 * w)

/-- The new first moment of a whole weight. -/
def newM (s : Shape) (g m : FVec Ideal s .f32) : FVec Ideal s .f32 := fun i => stepM (g i) (m i)

/-- The new second moment of a whole weight. -/
def newV (s : Shape) (g v : FVec Ideal s .f32) : FVec Ideal s .f32 := fun i => stepV (g i) (v i)

/-- The change of a whole weight. -/
def newDelta (s : Shape) (w g m v : FVec Ideal s .f32) : FVec Ideal s .f32 := fun i => stepDelta (w i) (g i) (m i) (v i)

/-- A weight may be laid out anew before the step and laid back after it: its first moment, -/
theorem newM_cast {s t : Shape} (h : s.ShapeCasts t) (h' : t.ShapeCasts s) (g m : FVec Ideal s .f32) :
    shapeCast s (newM t (shapeCast t g h) (shapeCast t m h)) h' = newM s g m :=
  shapeCast_shapeCast (newM s g m) h h'

/-- its second moment, -/
theorem newV_cast {s t : Shape} (h : s.ShapeCasts t) (h' : t.ShapeCasts s) (g v : FVec Ideal s .f32) :
    shapeCast s (newV t (shapeCast t g h) (shapeCast t v h)) h' = newV s g v :=
  shapeCast_shapeCast (newV s g v) h h'

/-- and its change. -/
theorem newDelta_cast {s t : Shape} (h : s.ShapeCasts t) (h' : t.ShapeCasts s) (w g m v : FVec Ideal s .f32) :
    shapeCast s (newDelta t (shapeCast t w h) (shapeCast t g h) (shapeCast t m h) (shapeCast t v h)) h' = newDelta s w g m v :=
  shapeCast_shapeCast (newDelta s w g m v) h h'

end Cert.Math

end
-- ==== Proof.Adam3A.lean ====
/- What the calls of the optimiser's step on `a_re`, `a_im`, `b_re` leave in their three output
   arrays. -/
module

public import proofs.«01_k».proof.Proof.Spec3
public import proofs.«01_k».proof.Proof.Gen.Kernel3Ideal.Frame.Region0
public import proofs.«01_k».proof.Proof.Gen.Kernel3Ideal.Frame.Region1
public import proofs.«01_k».proof.Proof.Gen.Kernel3Ideal.Frame.Region2
public import Idealize.ShloMosaic.Lib.Pipeline.ValueKit
public import Idealize.ShloMosaic.Lib.Pointwise

@[expose] public section

set_option maxRecDepth 16384

noncomputable section

namespace Cert.Kernel3Ideal.Value

open Idealize.ShloMosaic Idealize.ShloMosaic.TcCoe Idealize.SL.Sem
open Idealize.ShloMosaic.Pipeline (Dat)
open Cert.Kernel3Ideal Cert.Kernel3Ideal.Gen Cert.Math

variable (V : (c : Dev nD) → (b : Ref sig .tc) → Buf (Elt Ideal) ((c : Thread nD τ).loc b)) (c : Dev nD)

/-! ## `a_re` -/

/-- The blocks region 0 reads and writes at each grid point. -/
theorem idx0 : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-- One block's first moment. -/
theorem k0_pay2_eq (g m : FVec Ideal S128x64 .f32) : k0_pay2 g m = newM S128x64 g m := by
  funext i
  pointwise [k0_pay2, k0_pay1, newM, stepM]

/-- One block's second moment. -/
theorem k0_pay3_eq (g v : FVec Ideal S128x64 .f32) : k0_pay3 g v = newV S128x64 g v := by
  funext i
  pointwise [k0_pay3, k0_pay1, newV, stepV]

/-- One block's change. -/
theorem k0_pay4_eq (w g m v : FVec Ideal S128x64 .f32) : k0_pay4 w g m v = newDelta S128x64 w g m v := by
  funext i
  pointwise [k0_pay4, k0_pay2_eq, k0_pay3_eq, newM, newV, k0_pay1, newDelta, stepDelta]

/-- The change of `a_re`. -/
theorem final0_delta : (dat0 V c).arrAt 4 cfg0.N = newDelta S128x64 (V c main_v0) (V c main_v1) (V c main_v2) (V c main_v3) := by
  refine (dat0 V c).arrAt_eq_of_covers 4 _ (by decide +kernel) fun t _ y => ?_
  blk_simp
  rw [after0_4]; frame_out
  rw [k0_pay4_eq]
  show stepDelta _ _ _ _ = stepDelta _ _ _ _
  congr 1 <;> blk_point [iblk0, idx0 t]

/-- The new first moment of `a_re`. -/
theorem final0_new_m : (dat0 V c).arrAt 5 cfg0.N = newM S128x64 (V c main_v1) (V c main_v2) := by
  refine (dat0 V c).arrAt_eq_of_covers 5 _ (by decide +kernel) fun t _ y => ?_
  blk_simp
  rw [after0_5]; frame_out
  rw [k0_pay2_eq]
  show stepM _ _ = stepM _ _
  congr 1 <;> blk_point [iblk0, idx0 t]

/-- The new second moment of `a_re`. -/
theorem final0_new_v : (dat0 V c).arrAt 6 cfg0.N = newV S128x64 (V c main_v1) (V c main_v3) := by
  refine (dat0 V c).arrAt_eq_of_covers 6 _ (by decide +kernel) fun t _ y => ?_
  blk_simp
  rw [after0_6]; frame_out
  rw [k0_pay3_eq]
  show stepV _ _ = stepV _ _
  congr 1 <;> blk_point [iblk0, idx0 t]

/-! ## `a_im` -/

/-- The blocks region 1 reads and writes at each grid point. -/
theorem idx1 : ∀ t : Fin cfg1.N, win1_0.index t = ![t.val, 0] ∧ win1_1.index t = ![t.val, 0] ∧ win1_2.index t = ![t.val, 0] ∧ win1_3.index t = ![t.val, 0] ∧ win1_4.index t = ![t.val, 0] ∧ win1_5.index t = ![t.val, 0] ∧ win1_6.index t = ![t.val, 0] :=
  (by decide +kernel : ∀ t : Fin grid1.N, _)

/-- One block's first moment. -/
theorem k1_pay2_eq (g m : FVec Ideal S128x64 .f32) : k1_pay2 g m = newM S128x64 g m := by
  funext i
  pointwise [k1_pay2, k1_pay1, newM, stepM]

/-- One block's second moment. -/
theorem k1_pay3_eq (g v : FVec Ideal S128x64 .f32) : k1_pay3 g v = newV S128x64 g v := by
  funext i
  pointwise [k1_pay3, k1_pay1, newV, stepV]

/-- One block's change. -/
theorem k1_pay4_eq (w g m v : FVec Ideal S128x64 .f32) : k1_pay4 w g m v = newDelta S128x64 w g m v := by
  funext i
  pointwise [k1_pay4, k1_pay2_eq, k1_pay3_eq, newM, newV, k1_pay1, newDelta, stepDelta]

/-- The change of `a_im`. -/
theorem final1_delta : (dat1 V c).arrAt 4 cfg1.N = newDelta S128x64 (V c main_v8) (V c main_v9) (V c main_v10) (V c main_v11) := by
  refine (dat1 V c).arrAt_eq_of_covers 4 _ (by decide +kernel) fun t _ y => ?_
  blk_simp
  rw [after1_4]; frame_out
  rw [k1_pay4_eq]
  show stepDelta _ _ _ _ = stepDelta _ _ _ _
  congr 1 <;> blk_point [iblk1, idx1 t]

/-- The new first moment of `a_im`. -/
theorem final1_new_m : (dat1 V c).arrAt 5 cfg1.N = newM S128x64 (V c main_v9) (V c main_v10) := by
  refine (dat1 V c).arrAt_eq_of_covers 5 _ (by decide +kernel) fun t _ y => ?_
  blk_simp
  rw [after1_5]; frame_out
  rw [k1_pay2_eq]
  show stepM _ _ = stepM _ _
  congr 1 <;> blk_point [iblk1, idx1 t]

/-- The new second moment of `a_im`. -/
theorem final1_new_v : (dat1 V c).arrAt 6 cfg1.N = newV S128x64 (V c main_v9) (V c main_v11) := by
  refine (dat1 V c).arrAt_eq_of_covers 6 _ (by decide +kernel) fun t _ y => ?_
  blk_simp
  rw [after1_6]; frame_out
  rw [k1_pay3_eq]
  show stepV _ _ = stepV _ _
  congr 1 <;> blk_point [iblk1, idx1 t]

/-! ## `b_re` -/

/-- The blocks region 2 reads and writes at each grid point. -/
theorem idx2 : ∀ t : Fin cfg2.N, win2_0.index t = ![t.val, 0] ∧ win2_1.index t = ![t.val, 0] ∧ win2_2.index t = ![t.val, 0] ∧ win2_3.index t = ![t.val, 0] ∧ win2_4.index t = ![t.val, 0] ∧ win2_5.index t = ![t.val, 0] ∧ win2_6.index t = ![t.val, 0] :=
  (by decide +kernel : ∀ t : Fin grid2.N, _)

/-- One block's first moment. -/
theorem k2_pay2_eq (g m : FVec Ideal S256x16 .f32) : k2_pay2 g m = newM S256x16 g m := by
  funext i
  pointwise [k2_pay2, k2_pay1, newM, stepM]

/-- One block's second moment. -/
theorem k2_pay3_eq (g v : FVec Ideal S256x16 .f32) : k2_pay3 g v = newV S256x16 g v := by
  funext i
  pointwise [k2_pay3, k2_pay1, newV, stepV]

/-- One block's change. -/
theorem k2_pay4_eq (w g m v : FVec Ideal S256x16 .f32) : k2_pay4 w g m v = newDelta S256x16 w g m v := by
  funext i
  pointwise [k2_pay4, k2_pay2_eq, k2_pay3_eq, newM, newV, k2_pay1, newDelta, stepDelta]

/-- The change of `b_re`. -/
theorem final2_delta : (dat2 V c).arrAt 4 cfg2.N = newDelta S8192x16 (V c main_v16) (V c main_v17) (V c main_v18) (V c main_v19) := by
  refine (dat2 V c).arrAt_eq_of_covers 4 _ (by decide +kernel) fun t _ y => ?_
  blk_simp
  rw [after2_4]; frame_out
  rw [k2_pay4_eq]
  show stepDelta _ _ _ _ = stepDelta _ _ _ _
  congr 1 <;> blk_point [iblk2, idx2 t]

/-- The new first moment of `b_re`. -/
theorem final2_new_m : (dat2 V c).arrAt 5 cfg2.N = newM S8192x16 (V c main_v17) (V c main_v18) := by
  refine (dat2 V c).arrAt_eq_of_covers 5 _ (by decide +kernel) fun t _ y => ?_
  blk_simp
  rw [after2_5]; frame_out
  rw [k2_pay2_eq]
  show stepM _ _ = stepM _ _
  congr 1 <;> blk_point [iblk2, idx2 t]

/-- The new second moment of `b_re`. -/
theorem final2_new_v : (dat2 V c).arrAt 6 cfg2.N = newV S8192x16 (V c main_v17) (V c main_v19) := by
  refine (dat2 V c).arrAt_eq_of_covers 6 _ (by decide +kernel) fun t _ y => ?_
  blk_simp
  rw [after2_6]; frame_out
  rw [k2_pay3_eq]
  show stepV _ _ = stepV _ _
  congr 1 <;> blk_point [iblk2, idx2 t]

end Cert.Kernel3Ideal.Value

end
-- ==== Proof.Adam3B.lean ====
/- What the calls of the optimiser's step on `b_im`, `c_re`, `c_im` leave in their three output
   arrays. -/
module

public import proofs.«01_k».proof.Proof.Spec3
public import proofs.«01_k».proof.Proof.Gen.Kernel3Ideal.Frame.Region3
public import proofs.«01_k».proof.Proof.Gen.Kernel3Ideal.Frame.Region4
public import proofs.«01_k».proof.Proof.Gen.Kernel3Ideal.Frame.Region5
public import Idealize.ShloMosaic.Lib.Pipeline.ValueKit
public import Idealize.ShloMosaic.Lib.Pointwise

@[expose] public section

set_option maxRecDepth 16384

noncomputable section

namespace Cert.Kernel3Ideal.Value

open Idealize.ShloMosaic Idealize.ShloMosaic.TcCoe Idealize.SL.Sem
open Idealize.ShloMosaic.Pipeline (Dat)
open Cert.Kernel3Ideal Cert.Kernel3Ideal.Gen Cert.Math

variable (V : (c : Dev nD) → (b : Ref sig .tc) → Buf (Elt Ideal) ((c : Thread nD τ).loc b)) (c : Dev nD)

/-! ## `b_im` -/

/-- The blocks region 3 reads and writes at each grid point. -/
theorem idx3 : ∀ t : Fin cfg3.N, win3_0.index t = ![t.val, 0] ∧ win3_1.index t = ![t.val, 0] ∧ win3_2.index t = ![t.val, 0] ∧ win3_3.index t = ![t.val, 0] ∧ win3_4.index t = ![t.val, 0] ∧ win3_5.index t = ![t.val, 0] ∧ win3_6.index t = ![t.val, 0] :=
  (by decide +kernel : ∀ t : Fin grid3.N, _)

/-- One block's first moment. -/
theorem k3_pay2_eq (g m : FVec Ideal S256x16 .f32) : k3_pay2 g m = newM S256x16 g m := by
  funext i
  pointwise [k3_pay2, k3_pay1, newM, stepM]

/-- One block's second moment. -/
theorem k3_pay3_eq (g v : FVec Ideal S256x16 .f32) : k3_pay3 g v = newV S256x16 g v := by
  funext i
  pointwise [k3_pay3, k3_pay1, newV, stepV]

/-- One block's change. -/
theorem k3_pay4_eq (w g m v : FVec Ideal S256x16 .f32) : k3_pay4 w g m v = newDelta S256x16 w g m v := by
  funext i
  pointwise [k3_pay4, k3_pay2_eq, k3_pay3_eq, newM, newV, k3_pay1, newDelta, stepDelta]

/-- The change of `b_im`. -/
theorem final3_delta : (dat3 V c).arrAt 4 cfg3.N = newDelta S8192x16 (V c main_v24) (V c main_v25) (V c main_v26) (V c main_v27) := by
  refine (dat3 V c).arrAt_eq_of_covers 4 _ (by decide +kernel) fun t _ y => ?_
  blk_simp
  rw [after3_4]; frame_out
  rw [k3_pay4_eq]
  show stepDelta _ _ _ _ = stepDelta _ _ _ _
  congr 1 <;> blk_point [iblk3, idx3 t]

/-- The new first moment of `b_im`. -/
theorem final3_new_m : (dat3 V c).arrAt 5 cfg3.N = newM S8192x16 (V c main_v25) (V c main_v26) := by
  refine (dat3 V c).arrAt_eq_of_covers 5 _ (by decide +kernel) fun t _ y => ?_
  blk_simp
  rw [after3_5]; frame_out
  rw [k3_pay2_eq]
  show stepM _ _ = stepM _ _
  congr 1 <;> blk_point [iblk3, idx3 t]

/-- The new second moment of `b_im`. -/
theorem final3_new_v : (dat3 V c).arrAt 6 cfg3.N = newV S8192x16 (V c main_v25) (V c main_v27) := by
  refine (dat3 V c).arrAt_eq_of_covers 6 _ (by decide +kernel) fun t _ y => ?_
  blk_simp
  rw [after3_6]; frame_out
  rw [k3_pay3_eq]
  show stepV _ _ = stepV _ _
  congr 1 <;> blk_point [iblk3, idx3 t]

/-! ## `c_re` -/

/-- The blocks region 4 reads and writes at each grid point. -/
theorem idx4 : ∀ t : Fin cfg4.N, win4_0.index t = ![t.val, 0] ∧ win4_1.index t = ![t.val, 0] ∧ win4_2.index t = ![t.val, 0] ∧ win4_3.index t = ![t.val, 0] ∧ win4_4.index t = ![t.val, 0] ∧ win4_5.index t = ![t.val, 0] ∧ win4_6.index t = ![t.val, 0] :=
  (by decide +kernel : ∀ t : Fin grid4.N, _)

/-- One block's first moment. -/
theorem k4_pay2_eq (g m : FVec Ideal S256x64 .f32) : k4_pay2 g m = newM S256x64 g m := by
  funext i
  pointwise [k4_pay2, k4_pay1, newM, stepM]

/-- One block's second moment. -/
theorem k4_pay3_eq (g v : FVec Ideal S256x64 .f32) : k4_pay3 g v = newV S256x64 g v := by
  funext i
  pointwise [k4_pay3, k4_pay1, newV, stepV]

/-- One block's change. -/
theorem k4_pay4_eq (w g m v : FVec Ideal S256x64 .f32) : k4_pay4 w g m v = newDelta S256x64 w g m v := by
  funext i
  pointwise [k4_pay4, k4_pay2_eq, k4_pay3_eq, newM, newV, k4_pay1, newDelta, stepDelta]

/-- The change of `c_re`. -/
theorem final4_delta : (dat4 V c).arrAt 4 cfg4.N = newDelta S2048x64 (V c main_v32) (V c main_v33) (V c main_v34) (V c main_v35) := by
  refine (dat4 V c).arrAt_eq_of_covers 4 _ (by decide +kernel) fun t _ y => ?_
  blk_simp
  rw [after4_4]; frame_out
  rw [k4_pay4_eq]
  show stepDelta _ _ _ _ = stepDelta _ _ _ _
  congr 1 <;> blk_point [iblk4, idx4 t]

/-- The new first moment of `c_re`. -/
theorem final4_new_m : (dat4 V c).arrAt 5 cfg4.N = newM S2048x64 (V c main_v33) (V c main_v34) := by
  refine (dat4 V c).arrAt_eq_of_covers 5 _ (by decide +kernel) fun t _ y => ?_
  blk_simp
  rw [after4_5]; frame_out
  rw [k4_pay2_eq]
  show stepM _ _ = stepM _ _
  congr 1 <;> blk_point [iblk4, idx4 t]

/-- The new second moment of `c_re`. -/
theorem final4_new_v : (dat4 V c).arrAt 6 cfg4.N = newV S2048x64 (V c main_v33) (V c main_v35) := by
  refine (dat4 V c).arrAt_eq_of_covers 6 _ (by decide +kernel) fun t _ y => ?_
  blk_simp
  rw [after4_6]; frame_out
  rw [k4_pay3_eq]
  show stepV _ _ = stepV _ _
  congr 1 <;> blk_point [iblk4, idx4 t]

/-! ## `c_im` -/

/-- The blocks region 5 reads and writes at each grid point. -/
theorem idx5 : ∀ t : Fin cfg5.N, win5_0.index t = ![t.val, 0] ∧ win5_1.index t = ![t.val, 0] ∧ win5_2.index t = ![t.val, 0] ∧ win5_3.index t = ![t.val, 0] ∧ win5_4.index t = ![t.val, 0] ∧ win5_5.index t = ![t.val, 0] ∧ win5_6.index t = ![t.val, 0] :=
  (by decide +kernel : ∀ t : Fin grid5.N, _)

/-- One block's first moment. -/
theorem k5_pay2_eq (g m : FVec Ideal S256x64 .f32) : k5_pay2 g m = newM S256x64 g m := by
  funext i
  pointwise [k5_pay2, k5_pay1, newM, stepM]

/-- One block's second moment. -/
theorem k5_pay3_eq (g v : FVec Ideal S256x64 .f32) : k5_pay3 g v = newV S256x64 g v := by
  funext i
  pointwise [k5_pay3, k5_pay1, newV, stepV]

/-- One block's change. -/
theorem k5_pay4_eq (w g m v : FVec Ideal S256x64 .f32) : k5_pay4 w g m v = newDelta S256x64 w g m v := by
  funext i
  pointwise [k5_pay4, k5_pay2_eq, k5_pay3_eq, newM, newV, k5_pay1, newDelta, stepDelta]

/-- The change of `c_im`. -/
theorem final5_delta : (dat5 V c).arrAt 4 cfg5.N = newDelta S2048x64 (V c main_v40) (V c main_v41) (V c main_v42) (V c main_v43) := by
  refine (dat5 V c).arrAt_eq_of_covers 4 _ (by decide +kernel) fun t _ y => ?_
  blk_simp
  rw [after5_4]; frame_out
  rw [k5_pay4_eq]
  show stepDelta _ _ _ _ = stepDelta _ _ _ _
  congr 1 <;> blk_point [iblk5, idx5 t]

/-- The new first moment of `c_im`. -/
theorem final5_new_m : (dat5 V c).arrAt 5 cfg5.N = newM S2048x64 (V c main_v41) (V c main_v42) := by
  refine (dat5 V c).arrAt_eq_of_covers 5 _ (by decide +kernel) fun t _ y => ?_
  blk_simp
  rw [after5_5]; frame_out
  rw [k5_pay2_eq]
  show stepM _ _ = stepM _ _
  congr 1 <;> blk_point [iblk5, idx5 t]

/-- The new second moment of `c_im`. -/
theorem final5_new_v : (dat5 V c).arrAt 6 cfg5.N = newV S2048x64 (V c main_v41) (V c main_v43) := by
  refine (dat5 V c).arrAt_eq_of_covers 6 _ (by decide +kernel) fun t _ y => ?_
  blk_simp
  rw [after5_6]; frame_out
  rw [k5_pay3_eq]
  show stepV _ _ = stepV _ _
  congr 1 <;> blk_point [iblk5, idx5 t]

end Cert.Kernel3Ideal.Value

end
-- ==== Proof.Adam3C.lean ====
/- What the calls of the optimiser's step on `d_skip`, `log_dt`, `b_glu` leave in their three output
   arrays. -/
module

public import proofs.«01_k».proof.Proof.Spec3
public import proofs.«01_k».proof.Proof.Gen.Kernel3Ideal.Frame.Region6
public import proofs.«01_k».proof.Proof.Gen.Kernel3Ideal.Frame.Region7
public import proofs.«01_k».proof.Proof.Gen.Kernel3Ideal.Frame.Region8
public import Idealize.ShloMosaic.Lib.Pipeline.ValueKit
public import Idealize.ShloMosaic.Lib.Pointwise

@[expose] public section

set_option maxRecDepth 16384

noncomputable section

namespace Cert.Kernel3Ideal.Value

open Idealize.ShloMosaic Idealize.ShloMosaic.TcCoe Idealize.SL.Sem
open Idealize.ShloMosaic.Pipeline (Dat)
open Cert.Kernel3Ideal Cert.Kernel3Ideal.Gen Cert.Math

variable (V : (c : Dev nD) → (b : Ref sig .tc) → Buf (Elt Ideal) ((c : Thread nD τ).loc b)) (c : Dev nD)

/-! ## `d_skip` -/

/-- The blocks region 6 reads and writes at each grid point. -/
theorem idx6 : ∀ t : Fin cfg6.N, win6_0.index t = ![t.val, 0] ∧ win6_1.index t = ![t.val, 0] ∧ win6_2.index t = ![t.val, 0] ∧ win6_3.index t = ![t.val, 0] ∧ win6_4.index t = ![t.val, 0] ∧ win6_5.index t = ![t.val, 0] ∧ win6_6.index t = ![t.val, 0] :=
  (by decide +kernel : ∀ t : Fin grid6.N, _)

/-- One block's first moment. -/
theorem k6_pay2_eq (g m : FVec Ideal S128x16 .f32) : k6_pay2 g m = newM S128x16 g m := by
  funext i
  pointwise [k6_pay2, k6_pay1, newM, stepM]

/-- One block's second moment. -/
theorem k6_pay3_eq (g v : FVec Ideal S128x16 .f32) : k6_pay3 g v = newV S128x16 g v := by
  funext i
  pointwise [k6_pay3, k6_pay1, newV, stepV]

/-- One block's change. -/
theorem k6_pay4_eq (w g m v : FVec Ideal S128x16 .f32) : k6_pay4 w g m v = newDelta S128x16 w g m v := by
  funext i
  pointwise [k6_pay4, k6_pay2_eq, k6_pay3_eq, newM, newV, k6_pay1, newDelta, stepDelta]

/-- The change of `d_skip`. -/
theorem final6_delta : (dat6 V c).arrAt 4 cfg6.N = newDelta S128x16 (V c main_v48) (V c main_v49) (V c main_v50) (V c main_v51) := by
  refine (dat6 V c).arrAt_eq_of_covers 4 _ (by decide +kernel) fun t _ y => ?_
  blk_simp
  rw [after6_4]; frame_out
  rw [k6_pay4_eq]
  show stepDelta _ _ _ _ = stepDelta _ _ _ _
  congr 1 <;> blk_point [iblk6, idx6 t]

/-- The new first moment of `d_skip`. -/
theorem final6_new_m : (dat6 V c).arrAt 5 cfg6.N = newM S128x16 (V c main_v49) (V c main_v50) := by
  refine (dat6 V c).arrAt_eq_of_covers 5 _ (by decide +kernel) fun t _ y => ?_
  blk_simp
  rw [after6_5]; frame_out
  rw [k6_pay2_eq]
  show stepM _ _ = stepM _ _
  congr 1 <;> blk_point [iblk6, idx6 t]

/-- The new second moment of `d_skip`. -/
theorem final6_new_v : (dat6 V c).arrAt 6 cfg6.N = newV S128x16 (V c main_v49) (V c main_v51) := by
  refine (dat6 V c).arrAt_eq_of_covers 6 _ (by decide +kernel) fun t _ y => ?_
  blk_simp
  rw [after6_6]; frame_out
  rw [k6_pay3_eq]
  show stepV _ _ = stepV _ _
  congr 1 <;> blk_point [iblk6, idx6 t]

/-! ## `log_dt` -/

/-- The blocks region 7 reads and writes at each grid point. -/
theorem idx7 : ∀ t : Fin cfg7.N, win7_0.index t = ![t.val, 0] ∧ win7_1.index t = ![t.val, 0] ∧ win7_2.index t = ![t.val, 0] ∧ win7_3.index t = ![t.val, 0] ∧ win7_4.index t = ![t.val, 0] ∧ win7_5.index t = ![t.val, 0] ∧ win7_6.index t = ![t.val, 0] :=
  (by decide +kernel : ∀ t : Fin grid7.N, _)

/-- One block's first moment. -/
theorem k7_pay1_eq (g m : FVec Ideal S4x32 .f32) : k7_pay1 g m = newM S4x32 g m := by
  funext i
  pointwise [k7_pay1, newM, stepM]

/-- One block's second moment. -/
theorem k7_pay2_eq (g v : FVec Ideal S4x32 .f32) : k7_pay2 g v = newV S4x32 g v := by
  funext i
  pointwise [k7_pay2, newV, stepV]

/-- One block's change. -/
theorem k7_pay3_eq (w g m v : FVec Ideal S4x32 .f32) : k7_pay3 w g m v = newDelta S4x32 w g m v := by
  funext i
  pointwise [k7_pay3, k7_pay1_eq, k7_pay2_eq, newM, newV, newDelta, stepDelta]

/-- The change of `log_dt`. -/
theorem final7_delta : (dat7 V c).arrAt 4 cfg7.N = newDelta S4x32 (V c main_arg7) (V c main_arg16) (V c main_arg25) (V c main_arg34) := by
  refine (dat7 V c).arrAt_eq_of_covers 4 _ (by decide +kernel) fun t _ y => ?_
  blk_simp
  rw [after7_4]; frame_out
  rw [k7_pay3_eq]
  show stepDelta _ _ _ _ = stepDelta _ _ _ _
  congr 1 <;> blk_point [iblk7, idx7 t]

/-- The new first moment of `log_dt`. -/
theorem final7_new_m : (dat7 V c).arrAt 5 cfg7.N = newM S4x32 (V c main_arg16) (V c main_arg25) := by
  refine (dat7 V c).arrAt_eq_of_covers 5 _ (by decide +kernel) fun t _ y => ?_
  blk_simp
  rw [after7_5]; frame_out
  rw [k7_pay1_eq]
  show stepM _ _ = stepM _ _
  congr 1 <;> blk_point [iblk7, idx7 t]

/-- The new second moment of `log_dt`. -/
theorem final7_new_v : (dat7 V c).arrAt 6 cfg7.N = newV S4x32 (V c main_arg16) (V c main_arg34) := by
  refine (dat7 V c).arrAt_eq_of_covers 6 _ (by decide +kernel) fun t _ y => ?_
  blk_simp
  rw [after7_6]; frame_out
  rw [k7_pay2_eq]
  show stepV _ _ = stepV _ _
  congr 1 <;> blk_point [iblk7, idx7 t]

/-! ## `b_glu` -/

/-- The blocks region 8 reads and writes at each grid point. -/
theorem idx8 : ∀ t : Fin cfg8.N, win8_0.index t = ![t.val, 0] ∧ win8_1.index t = ![t.val, 0] ∧ win8_2.index t = ![t.val, 0] ∧ win8_3.index t = ![t.val, 0] ∧ win8_4.index t = ![t.val, 0] ∧ win8_5.index t = ![t.val, 0] ∧ win8_6.index t = ![t.val, 0] :=
  (by decide +kernel : ∀ t : Fin grid8.N, _)

/-- One block's first moment. -/
theorem k8_pay1_eq (g m : FVec Ideal S4x1024 .f32) : k8_pay1 g m = newM S4x1024 g m := by
  funext i
  pointwise [k8_pay1, newM, stepM]

/-- One block's second moment. -/
theorem k8_pay2_eq (g v : FVec Ideal S4x1024 .f32) : k8_pay2 g v = newV S4x1024 g v := by
  funext i
  pointwise [k8_pay2, newV, stepV]

/-- One block's change. -/
theorem k8_pay3_eq (w g m v : FVec Ideal S4x1024 .f32) : k8_pay3 w g m v = newDelta S4x1024 w g m v := by
  funext i
  pointwise [k8_pay3, k8_pay1_eq, k8_pay2_eq, newM, newV, newDelta, stepDelta]

/-- The change of `b_glu`. -/
theorem final8_delta : (dat8 V c).arrAt 4 cfg8.N = newDelta S4x1024 (V c main_arg8) (V c main_arg17) (V c main_arg26) (V c main_arg35) := by
  refine (dat8 V c).arrAt_eq_of_covers 4 _ (by decide +kernel) fun t _ y => ?_
  blk_simp
  rw [after8_4]; frame_out
  rw [k8_pay3_eq]
  show stepDelta _ _ _ _ = stepDelta _ _ _ _
  congr 1 <;> blk_point [iblk8, idx8 t]

/-- The new first moment of `b_glu`. -/
theorem final8_new_m : (dat8 V c).arrAt 5 cfg8.N = newM S4x1024 (V c main_arg17) (V c main_arg26) := by
  refine (dat8 V c).arrAt_eq_of_covers 5 _ (by decide +kernel) fun t _ y => ?_
  blk_simp
  rw [after8_5]; frame_out
  rw [k8_pay1_eq]
  show stepM _ _ = stepM _ _
  congr 1 <;> blk_point [iblk8, idx8 t]

/-- The new second moment of `b_glu`. -/
theorem final8_new_v : (dat8 V c).arrAt 6 cfg8.N = newV S4x1024 (V c main_arg17) (V c main_arg35) := by
  refine (dat8 V c).arrAt_eq_of_covers 6 _ (by decide +kernel) fun t _ y => ?_
  blk_simp
  rw [after8_6]; frame_out
  rw [k8_pay2_eq]
  show stepV _ _ = stepV _ _
  congr 1 <;> blk_point [iblk8, idx8 t]

end Cert.Kernel3Ideal.Value

end
-- ==== Proof.Fold3.lean ====
/- What the arrays of the optimiser's step on the recurrence's weights hold when the program ends, as a function of the arguments. -/
module

public import proofs.«01_k».proof.Proof.Adam3A
public import proofs.«01_k».proof.Proof.Adam3B
public import proofs.«01_k».proof.Proof.Adam3C
public import proofs.«01_k».proof.Proof.Gen.Kernel3Ideal.Frame
public import Idealize.ShloMosaic.Lib.StableHlo.Run

@[expose] public section

set_option maxRecDepth 16384

noncomputable section

namespace Cert.Kernel3Ideal.Value

open Idealize.ShloMosaic Idealize.ShloMosaic.TcCoe Idealize.SL.Sem
open Idealize.ShloMosaic.Pipeline (Dat)
open Cert.Kernel3Ideal Cert.Kernel3Ideal.Gen Cert.Math

variable (m : (ℓ : Loc nD τ sig) → Buf (Elt Ideal) ℓ) (ρ : Dev nD → PrngReg) (c : Dev nD)

/-! ## The arguments at their literal types: weights, summed gradients, first and second moments -/

abbrev aW0 : FVec Ideal S4x32x64 .f32 := m ((c : Thread nD τ).loc main_arg0)
abbrev aG0 : FVec Ideal S4x32x64 .f32 := m ((c : Thread nD τ).loc main_arg9)
abbrev aM0 : FVec Ideal S4x32x64 .f32 := m ((c : Thread nD τ).loc main_arg18)
abbrev aV0 : FVec Ideal S4x32x64 .f32 := m ((c : Thread nD τ).loc main_arg27)
abbrev aW1 : FVec Ideal S4x32x64 .f32 := m ((c : Thread nD τ).loc main_arg1)
abbrev aG1 : FVec Ideal S4x32x64 .f32 := m ((c : Thread nD τ).loc main_arg10)
abbrev aM1 : FVec Ideal S4x32x64 .f32 := m ((c : Thread nD τ).loc main_arg19)
abbrev aV1 : FVec Ideal S4x32x64 .f32 := m ((c : Thread nD τ).loc main_arg28)
abbrev aW2 : FVec Ideal S4x32x64x16 .f32 := m ((c : Thread nD τ).loc main_arg2)
abbrev aG2 : FVec Ideal S4x32x64x16 .f32 := m ((c : Thread nD τ).loc main_arg11)
abbrev aM2 : FVec Ideal S4x32x64x16 .f32 := m ((c : Thread nD τ).loc main_arg20)
abbrev aV2 : FVec Ideal S4x32x64x16 .f32 := m ((c : Thread nD τ).loc main_arg29)
abbrev aW3 : FVec Ideal S4x32x64x16 .f32 := m ((c : Thread nD τ).loc main_arg3)
abbrev aG3 : FVec Ideal S4x32x64x16 .f32 := m ((c : Thread nD τ).loc main_arg12)
abbrev aM3 : FVec Ideal S4x32x64x16 .f32 := m ((c : Thread nD τ).loc main_arg21)
abbrev aV3 : FVec Ideal S4x32x64x16 .f32 := m ((c : Thread nD τ).loc main_arg30)
abbrev aW4 : FVec Ideal S4x32x16x64 .f32 := m ((c : Thread nD τ).loc main_arg4)
abbrev aG4 : FVec Ideal S4x32x16x64 .f32 := m ((c : Thread nD τ).loc main_arg13)
abbrev aM4 : FVec Ideal S4x32x16x64 .f32 := m ((c : Thread nD τ).loc main_arg22)
abbrev aV4 : FVec Ideal S4x32x16x64 .f32 := m ((c : Thread nD τ).loc main_arg31)
abbrev aW5 : FVec Ideal S4x32x16x64 .f32 := m ((c : Thread nD τ).loc main_arg5)
abbrev aG5 : FVec Ideal S4x32x16x64 .f32 := m ((c : Thread nD τ).loc main_arg14)
abbrev aM5 : FVec Ideal S4x32x16x64 .f32 := m ((c : Thread nD τ).loc main_arg23)
abbrev aV5 : FVec Ideal S4x32x16x64 .f32 := m ((c : Thread nD τ).loc main_arg32)
abbrev aW6 : FVec Ideal S4x32x16 .f32 := m ((c : Thread nD τ).loc main_arg6)
abbrev aG6 : FVec Ideal S4x32x16 .f32 := m ((c : Thread nD τ).loc main_arg15)
abbrev aM6 : FVec Ideal S4x32x16 .f32 := m ((c : Thread nD τ).loc main_arg24)
abbrev aV6 : FVec Ideal S4x32x16 .f32 := m ((c : Thread nD τ).loc main_arg33)
abbrev aW7 : FVec Ideal S4x32 .f32 := m ((c : Thread nD τ).loc main_arg7)
abbrev aG7 : FVec Ideal S4x32 .f32 := m ((c : Thread nD τ).loc main_arg16)
abbrev aM7 : FVec Ideal S4x32 .f32 := m ((c : Thread nD τ).loc main_arg25)
abbrev aV7 : FVec Ideal S4x32 .f32 := m ((c : Thread nD τ).loc main_arg34)
abbrev aW8 : FVec Ideal S4x1024 .f32 := m ((c : Thread nD τ).loc main_arg8)
abbrev aG8 : FVec Ideal S4x1024 .f32 := m ((c : Thread nD τ).loc main_arg17)
abbrev aM8 : FVec Ideal S4x1024 .f32 := m ((c : Thread nD τ).loc main_arg26)
abbrev aV8 : FVec Ideal S4x1024 .f32 := m ((c : Thread nD τ).loc main_arg35)

/-! ## The contents at the boundaries -/

theorem w1_v0 : W1 m ρ c (Proc.devRef .tc main_v0) = shapeCast S128x64 (aW0 m c) shapeCasts_S4x32x64_S128x64 := by
  refine Eq.trans (b := shapeCast S128x64 (W0 m ρ c (Proc.devRef .tc main_arg0)) shapeCasts_S4x32x64_S128x64) ?_ ?_
  · after_results; rfl
  · rw [W0_args m ρ c main_arg0 (by decide)]

theorem w1_v1 : W1 m ρ c (Proc.devRef .tc main_v1) = shapeCast S128x64 (aG0 m c) shapeCasts_S4x32x64_S128x64 := by
  refine Eq.trans (b := shapeCast S128x64 (W0 m ρ c (Proc.devRef .tc main_arg9)) shapeCasts_S4x32x64_S128x64) ?_ ?_
  · after_results; rfl
  · rw [W0_args m ρ c main_arg9 (by decide)]

theorem w1_v2 : W1 m ρ c (Proc.devRef .tc main_v2) = shapeCast S128x64 (aM0 m c) shapeCasts_S4x32x64_S128x64 := by
  refine Eq.trans (b := shapeCast S128x64 (W0 m ρ c (Proc.devRef .tc main_arg18)) shapeCasts_S4x32x64_S128x64) ?_ ?_
  · after_results; rfl
  · rw [W0_args m ρ c main_arg18 (by decide)]

theorem w1_v3 : W1 m ρ c (Proc.devRef .tc main_v3) = shapeCast S128x64 (aV0 m c) shapeCasts_S4x32x64_S128x64 := by
  refine Eq.trans (b := shapeCast S128x64 (W0 m ρ c (Proc.devRef .tc main_arg27)) shapeCasts_S4x32x64_S128x64) ?_ ?_
  · after_results; rfl
  · rw [W0_args m ρ c main_arg27 (by decide)]

/-- The change of `a_re`. -/
theorem w2_v4_0 : W2 m ρ c (Proc.devRef .tc main_v4_0) = newDelta S128x64 (shapeCast S128x64 (aW0 m c) shapeCasts_S4x32x64_S128x64) (shapeCast S128x64 (aG0 m c) shapeCasts_S4x32x64_S128x64) (shapeCast S128x64 (aM0 m c) shapeCasts_S4x32x64_S128x64) (shapeCast S128x64 (aV0 m c) shapeCasts_S4x32x64_S128x64) := by
  refine (W2_arr m ρ c 4).trans ((final0_delta (V1 m ρ) c).trans ?_)
  have h0 : V1 m ρ c main_v0 = shapeCast S128x64 (aW0 m c) shapeCasts_S4x32x64_S128x64 := w1_v0 m ρ c
  have h1 : V1 m ρ c main_v1 = shapeCast S128x64 (aG0 m c) shapeCasts_S4x32x64_S128x64 := w1_v1 m ρ c
  have h2 : V1 m ρ c main_v2 = shapeCast S128x64 (aM0 m c) shapeCasts_S4x32x64_S128x64 := w1_v2 m ρ c
  have h3 : V1 m ρ c main_v3 = shapeCast S128x64 (aV0 m c) shapeCasts_S4x32x64_S128x64 := w1_v3 m ρ c
  rw [h0, h1, h2, h3]

/-- The new first moment of `a_re`. -/
theorem w2_v4_1 : W2 m ρ c (Proc.devRef .tc main_v4_1) = newM S128x64 (shapeCast S128x64 (aG0 m c) shapeCasts_S4x32x64_S128x64) (shapeCast S128x64 (aM0 m c) shapeCasts_S4x32x64_S128x64) := by
  refine (W2_arr m ρ c 5).trans ((final0_new_m (V1 m ρ) c).trans ?_)
  have h0 : V1 m ρ c main_v1 = shapeCast S128x64 (aG0 m c) shapeCasts_S4x32x64_S128x64 := w1_v1 m ρ c
  have h1 : V1 m ρ c main_v2 = shapeCast S128x64 (aM0 m c) shapeCasts_S4x32x64_S128x64 := w1_v2 m ρ c
  rw [h0, h1]

/-- The new second moment of `a_re`. -/
theorem w2_v4_2 : W2 m ρ c (Proc.devRef .tc main_v4_2) = newV S128x64 (shapeCast S128x64 (aG0 m c) shapeCasts_S4x32x64_S128x64) (shapeCast S128x64 (aV0 m c) shapeCasts_S4x32x64_S128x64) := by
  refine (W2_arr m ρ c 6).trans ((final0_new_v (V1 m ρ) c).trans ?_)
  have h0 : V1 m ρ c main_v1 = shapeCast S128x64 (aG0 m c) shapeCasts_S4x32x64_S128x64 := w1_v1 m ρ c
  have h1 : V1 m ρ c main_v3 = shapeCast S128x64 (aV0 m c) shapeCasts_S4x32x64_S128x64 := w1_v3 m ρ c
  rw [h0, h1]

/-- `delta` of `a_re`, laid back. -/
theorem w3_v5 : W3 m ρ c (Proc.devRef .tc main_v5) = newDelta S4x32x64 (aW0 m c) (aG0 m c) (aM0 m c) (aV0 m c) := by
  refine Eq.trans (b := shapeCast S4x32x64 (W2 m ρ c (Proc.devRef .tc main_v4_0)) shapeCasts_S128x64_S4x32x64) ?_ ?_
  · after_results; rfl
  · rw [w2_v4_0 m ρ c]
    exact newDelta_cast shapeCasts_S4x32x64_S128x64 shapeCasts_S128x64_S4x32x64 (aW0 m c) (aG0 m c) (aM0 m c) (aV0 m c)

/-- `new_m` of `a_re`, laid back. -/
theorem w3_v6 : W3 m ρ c (Proc.devRef .tc main_v6) = newM S4x32x64 (aG0 m c) (aM0 m c) := by
  refine Eq.trans (b := shapeCast S4x32x64 (W2 m ρ c (Proc.devRef .tc main_v4_1)) shapeCasts_S128x64_S4x32x64) ?_ ?_
  · after_results; rfl
  · rw [w2_v4_1 m ρ c]
    exact newM_cast shapeCasts_S4x32x64_S128x64 shapeCasts_S128x64_S4x32x64 (aG0 m c) (aM0 m c)

/-- `new_v` of `a_re`, laid back. -/
theorem w3_v7 : W3 m ρ c (Proc.devRef .tc main_v7) = newV S4x32x64 (aG0 m c) (aV0 m c) := by
  refine Eq.trans (b := shapeCast S4x32x64 (W2 m ρ c (Proc.devRef .tc main_v4_2)) shapeCasts_S128x64_S4x32x64) ?_ ?_
  · after_results; rfl
  · rw [w2_v4_2 m ρ c]
    exact newV_cast shapeCasts_S4x32x64_S128x64 shapeCasts_S128x64_S4x32x64 (aG0 m c) (aV0 m c)

theorem w3_v8 : W3 m ρ c (Proc.devRef .tc main_v8) = shapeCast S128x64 (aW1 m c) shapeCasts_S4x32x64_S128x64 := by
  refine Eq.trans (b := shapeCast S128x64 (W2 m ρ c (Proc.devRef .tc main_arg1)) shapeCasts_S4x32x64_S128x64) ?_ ?_
  · after_results; rfl
  · rw [W2_args m ρ c main_arg1 (by decide)]

theorem w3_v9 : W3 m ρ c (Proc.devRef .tc main_v9) = shapeCast S128x64 (aG1 m c) shapeCasts_S4x32x64_S128x64 := by
  refine Eq.trans (b := shapeCast S128x64 (W2 m ρ c (Proc.devRef .tc main_arg10)) shapeCasts_S4x32x64_S128x64) ?_ ?_
  · after_results; rfl
  · rw [W2_args m ρ c main_arg10 (by decide)]

theorem w3_v10 : W3 m ρ c (Proc.devRef .tc main_v10) = shapeCast S128x64 (aM1 m c) shapeCasts_S4x32x64_S128x64 := by
  refine Eq.trans (b := shapeCast S128x64 (W2 m ρ c (Proc.devRef .tc main_arg19)) shapeCasts_S4x32x64_S128x64) ?_ ?_
  · after_results; rfl
  · rw [W2_args m ρ c main_arg19 (by decide)]

theorem w3_v11 : W3 m ρ c (Proc.devRef .tc main_v11) = shapeCast S128x64 (aV1 m c) shapeCasts_S4x32x64_S128x64 := by
  refine Eq.trans (b := shapeCast S128x64 (W2 m ρ c (Proc.devRef .tc main_arg28)) shapeCasts_S4x32x64_S128x64) ?_ ?_
  · after_results; rfl
  · rw [W2_args m ρ c main_arg28 (by decide)]

/-- The change of `a_im`. -/
theorem w4_v12_0 : W4 m ρ c (Proc.devRef .tc main_v12_0) = newDelta S128x64 (shapeCast S128x64 (aW1 m c) shapeCasts_S4x32x64_S128x64) (shapeCast S128x64 (aG1 m c) shapeCasts_S4x32x64_S128x64) (shapeCast S128x64 (aM1 m c) shapeCasts_S4x32x64_S128x64) (shapeCast S128x64 (aV1 m c) shapeCasts_S4x32x64_S128x64) := by
  refine (W4_arr m ρ c 4).trans ((final1_delta (V3 m ρ) c).trans ?_)
  have h0 : V3 m ρ c main_v8 = shapeCast S128x64 (aW1 m c) shapeCasts_S4x32x64_S128x64 := w3_v8 m ρ c
  have h1 : V3 m ρ c main_v9 = shapeCast S128x64 (aG1 m c) shapeCasts_S4x32x64_S128x64 := w3_v9 m ρ c
  have h2 : V3 m ρ c main_v10 = shapeCast S128x64 (aM1 m c) shapeCasts_S4x32x64_S128x64 := w3_v10 m ρ c
  have h3 : V3 m ρ c main_v11 = shapeCast S128x64 (aV1 m c) shapeCasts_S4x32x64_S128x64 := w3_v11 m ρ c
  rw [h0, h1, h2, h3]

/-- The new first moment of `a_im`. -/
theorem w4_v12_1 : W4 m ρ c (Proc.devRef .tc main_v12_1) = newM S128x64 (shapeCast S128x64 (aG1 m c) shapeCasts_S4x32x64_S128x64) (shapeCast S128x64 (aM1 m c) shapeCasts_S4x32x64_S128x64) := by
  refine (W4_arr m ρ c 5).trans ((final1_new_m (V3 m ρ) c).trans ?_)
  have h0 : V3 m ρ c main_v9 = shapeCast S128x64 (aG1 m c) shapeCasts_S4x32x64_S128x64 := w3_v9 m ρ c
  have h1 : V3 m ρ c main_v10 = shapeCast S128x64 (aM1 m c) shapeCasts_S4x32x64_S128x64 := w3_v10 m ρ c
  rw [h0, h1]

/-- The new second moment of `a_im`. -/
theorem w4_v12_2 : W4 m ρ c (Proc.devRef .tc main_v12_2) = newV S128x64 (shapeCast S128x64 (aG1 m c) shapeCasts_S4x32x64_S128x64) (shapeCast S128x64 (aV1 m c) shapeCasts_S4x32x64_S128x64) := by
  refine (W4_arr m ρ c 6).trans ((final1_new_v (V3 m ρ) c).trans ?_)
  have h0 : V3 m ρ c main_v9 = shapeCast S128x64 (aG1 m c) shapeCasts_S4x32x64_S128x64 := w3_v9 m ρ c
  have h1 : V3 m ρ c main_v11 = shapeCast S128x64 (aV1 m c) shapeCasts_S4x32x64_S128x64 := w3_v11 m ρ c
  rw [h0, h1]

/-- `delta` of `a_im`, laid back. -/
theorem w5_v13 : W5 m ρ c (Proc.devRef .tc main_v13) = newDelta S4x32x64 (aW1 m c) (aG1 m c) (aM1 m c) (aV1 m c) := by
  refine Eq.trans (b := shapeCast S4x32x64 (W4 m ρ c (Proc.devRef .tc main_v12_0)) shapeCasts_S128x64_S4x32x64) ?_ ?_
  · after_results; rfl
  · rw [w4_v12_0 m ρ c]
    exact newDelta_cast shapeCasts_S4x32x64_S128x64 shapeCasts_S128x64_S4x32x64 (aW1 m c) (aG1 m c) (aM1 m c) (aV1 m c)

/-- `new_m` of `a_im`, laid back. -/
theorem w5_v14 : W5 m ρ c (Proc.devRef .tc main_v14) = newM S4x32x64 (aG1 m c) (aM1 m c) := by
  refine Eq.trans (b := shapeCast S4x32x64 (W4 m ρ c (Proc.devRef .tc main_v12_1)) shapeCasts_S128x64_S4x32x64) ?_ ?_
  · after_results; rfl
  · rw [w4_v12_1 m ρ c]
    exact newM_cast shapeCasts_S4x32x64_S128x64 shapeCasts_S128x64_S4x32x64 (aG1 m c) (aM1 m c)

/-- `new_v` of `a_im`, laid back. -/
theorem w5_v15 : W5 m ρ c (Proc.devRef .tc main_v15) = newV S4x32x64 (aG1 m c) (aV1 m c) := by
  refine Eq.trans (b := shapeCast S4x32x64 (W4 m ρ c (Proc.devRef .tc main_v12_2)) shapeCasts_S128x64_S4x32x64) ?_ ?_
  · after_results; rfl
  · rw [w4_v12_2 m ρ c]
    exact newV_cast shapeCasts_S4x32x64_S128x64 shapeCasts_S128x64_S4x32x64 (aG1 m c) (aV1 m c)

theorem w5_v16 : W5 m ρ c (Proc.devRef .tc main_v16) = shapeCast S8192x16 (aW2 m c) shapeCasts_S4x32x64x16_S8192x16 := by
  refine Eq.trans (b := shapeCast S8192x16 (W4 m ρ c (Proc.devRef .tc main_arg2)) shapeCasts_S4x32x64x16_S8192x16) ?_ ?_
  · after_results; rfl
  · rw [W4_args m ρ c main_arg2 (by decide)]

theorem w5_v17 : W5 m ρ c (Proc.devRef .tc main_v17) = shapeCast S8192x16 (aG2 m c) shapeCasts_S4x32x64x16_S8192x16 := by
  refine Eq.trans (b := shapeCast S8192x16 (W4 m ρ c (Proc.devRef .tc main_arg11)) shapeCasts_S4x32x64x16_S8192x16) ?_ ?_
  · after_results; rfl
  · rw [W4_args m ρ c main_arg11 (by decide)]

theorem w5_v18 : W5 m ρ c (Proc.devRef .tc main_v18) = shapeCast S8192x16 (aM2 m c) shapeCasts_S4x32x64x16_S8192x16 := by
  refine Eq.trans (b := shapeCast S8192x16 (W4 m ρ c (Proc.devRef .tc main_arg20)) shapeCasts_S4x32x64x16_S8192x16) ?_ ?_
  · after_results; rfl
  · rw [W4_args m ρ c main_arg20 (by decide)]

theorem w5_v19 : W5 m ρ c (Proc.devRef .tc main_v19) = shapeCast S8192x16 (aV2 m c) shapeCasts_S4x32x64x16_S8192x16 := by
  refine Eq.trans (b := shapeCast S8192x16 (W4 m ρ c (Proc.devRef .tc main_arg29)) shapeCasts_S4x32x64x16_S8192x16) ?_ ?_
  · after_results; rfl
  · rw [W4_args m ρ c main_arg29 (by decide)]

/-- The change of `b_re`. -/
theorem w6_v20_0 : W6 m ρ c (Proc.devRef .tc main_v20_0) = newDelta S8192x16 (shapeCast S8192x16 (aW2 m c) shapeCasts_S4x32x64x16_S8192x16) (shapeCast S8192x16 (aG2 m c) shapeCasts_S4x32x64x16_S8192x16) (shapeCast S8192x16 (aM2 m c) shapeCasts_S4x32x64x16_S8192x16) (shapeCast S8192x16 (aV2 m c) shapeCasts_S4x32x64x16_S8192x16) := by
  refine (W6_arr m ρ c 4).trans ((final2_delta (V5 m ρ) c).trans ?_)
  have h0 : V5 m ρ c main_v16 = shapeCast S8192x16 (aW2 m c) shapeCasts_S4x32x64x16_S8192x16 := w5_v16 m ρ c
  have h1 : V5 m ρ c main_v17 = shapeCast S8192x16 (aG2 m c) shapeCasts_S4x32x64x16_S8192x16 := w5_v17 m ρ c
  have h2 : V5 m ρ c main_v18 = shapeCast S8192x16 (aM2 m c) shapeCasts_S4x32x64x16_S8192x16 := w5_v18 m ρ c
  have h3 : V5 m ρ c main_v19 = shapeCast S8192x16 (aV2 m c) shapeCasts_S4x32x64x16_S8192x16 := w5_v19 m ρ c
  rw [h0, h1, h2, h3]

/-- The new first moment of `b_re`. -/
theorem w6_v20_1 : W6 m ρ c (Proc.devRef .tc main_v20_1) = newM S8192x16 (shapeCast S8192x16 (aG2 m c) shapeCasts_S4x32x64x16_S8192x16) (shapeCast S8192x16 (aM2 m c) shapeCasts_S4x32x64x16_S8192x16) := by
  refine (W6_arr m ρ c 5).trans ((final2_new_m (V5 m ρ) c).trans ?_)
  have h0 : V5 m ρ c main_v17 = shapeCast S8192x16 (aG2 m c) shapeCasts_S4x32x64x16_S8192x16 := w5_v17 m ρ c
  have h1 : V5 m ρ c main_v18 = shapeCast S8192x16 (aM2 m c) shapeCasts_S4x32x64x16_S8192x16 := w5_v18 m ρ c
  rw [h0, h1]

/-- The new second moment of `b_re`. -/
theorem w6_v20_2 : W6 m ρ c (Proc.devRef .tc main_v20_2) = newV S8192x16 (shapeCast S8192x16 (aG2 m c) shapeCasts_S4x32x64x16_S8192x16) (shapeCast S8192x16 (aV2 m c) shapeCasts_S4x32x64x16_S8192x16) := by
  refine (W6_arr m ρ c 6).trans ((final2_new_v (V5 m ρ) c).trans ?_)
  have h0 : V5 m ρ c main_v17 = shapeCast S8192x16 (aG2 m c) shapeCasts_S4x32x64x16_S8192x16 := w5_v17 m ρ c
  have h1 : V5 m ρ c main_v19 = shapeCast S8192x16 (aV2 m c) shapeCasts_S4x32x64x16_S8192x16 := w5_v19 m ρ c
  rw [h0, h1]

/-- `delta` of `b_re`, laid back. -/
theorem w7_v21 : W7 m ρ c (Proc.devRef .tc main_v21) = newDelta S4x32x64x16 (aW2 m c) (aG2 m c) (aM2 m c) (aV2 m c) := by
  refine Eq.trans (b := shapeCast S4x32x64x16 (W6 m ρ c (Proc.devRef .tc main_v20_0)) shapeCasts_S8192x16_S4x32x64x16) ?_ ?_
  · after_results; rfl
  · rw [w6_v20_0 m ρ c]
    exact newDelta_cast shapeCasts_S4x32x64x16_S8192x16 shapeCasts_S8192x16_S4x32x64x16 (aW2 m c) (aG2 m c) (aM2 m c) (aV2 m c)

/-- `new_m` of `b_re`, laid back. -/
theorem w7_v22 : W7 m ρ c (Proc.devRef .tc main_v22) = newM S4x32x64x16 (aG2 m c) (aM2 m c) := by
  refine Eq.trans (b := shapeCast S4x32x64x16 (W6 m ρ c (Proc.devRef .tc main_v20_1)) shapeCasts_S8192x16_S4x32x64x16) ?_ ?_
  · after_results; rfl
  · rw [w6_v20_1 m ρ c]
    exact newM_cast shapeCasts_S4x32x64x16_S8192x16 shapeCasts_S8192x16_S4x32x64x16 (aG2 m c) (aM2 m c)

/-- `new_v` of `b_re`, laid back. -/
theorem w7_v23 : W7 m ρ c (Proc.devRef .tc main_v23) = newV S4x32x64x16 (aG2 m c) (aV2 m c) := by
  refine Eq.trans (b := shapeCast S4x32x64x16 (W6 m ρ c (Proc.devRef .tc main_v20_2)) shapeCasts_S8192x16_S4x32x64x16) ?_ ?_
  · after_results; rfl
  · rw [w6_v20_2 m ρ c]
    exact newV_cast shapeCasts_S4x32x64x16_S8192x16 shapeCasts_S8192x16_S4x32x64x16 (aG2 m c) (aV2 m c)

theorem w7_v24 : W7 m ρ c (Proc.devRef .tc main_v24) = shapeCast S8192x16 (aW3 m c) shapeCasts_S4x32x64x16_S8192x16 := by
  refine Eq.trans (b := shapeCast S8192x16 (W6 m ρ c (Proc.devRef .tc main_arg3)) shapeCasts_S4x32x64x16_S8192x16) ?_ ?_
  · after_results; rfl
  · rw [W6_args m ρ c main_arg3 (by decide)]

theorem w7_v25 : W7 m ρ c (Proc.devRef .tc main_v25) = shapeCast S8192x16 (aG3 m c) shapeCasts_S4x32x64x16_S8192x16 := by
  refine Eq.trans (b := shapeCast S8192x16 (W6 m ρ c (Proc.devRef .tc main_arg12)) shapeCasts_S4x32x64x16_S8192x16) ?_ ?_
  · after_results; rfl
  · rw [W6_args m ρ c main_arg12 (by decide)]

theorem w7_v26 : W7 m ρ c (Proc.devRef .tc main_v26) = shapeCast S8192x16 (aM3 m c) shapeCasts_S4x32x64x16_S8192x16 := by
  refine Eq.trans (b := shapeCast S8192x16 (W6 m ρ c (Proc.devRef .tc main_arg21)) shapeCasts_S4x32x64x16_S8192x16) ?_ ?_
  · after_results; rfl
  · rw [W6_args m ρ c main_arg21 (by decide)]

theorem w7_v27 : W7 m ρ c (Proc.devRef .tc main_v27) = shapeCast S8192x16 (aV3 m c) shapeCasts_S4x32x64x16_S8192x16 := by
  refine Eq.trans (b := shapeCast S8192x16 (W6 m ρ c (Proc.devRef .tc main_arg30)) shapeCasts_S4x32x64x16_S8192x16) ?_ ?_
  · after_results; rfl
  · rw [W6_args m ρ c main_arg30 (by decide)]

/-- The change of `b_im`. -/
theorem w8_v28_0 : W8 m ρ c (Proc.devRef .tc main_v28_0) = newDelta S8192x16 (shapeCast S8192x16 (aW3 m c) shapeCasts_S4x32x64x16_S8192x16) (shapeCast S8192x16 (aG3 m c) shapeCasts_S4x32x64x16_S8192x16) (shapeCast S8192x16 (aM3 m c) shapeCasts_S4x32x64x16_S8192x16) (shapeCast S8192x16 (aV3 m c) shapeCasts_S4x32x64x16_S8192x16) := by
  refine (W8_arr m ρ c 4).trans ((final3_delta (V7 m ρ) c).trans ?_)
  have h0 : V7 m ρ c main_v24 = shapeCast S8192x16 (aW3 m c) shapeCasts_S4x32x64x16_S8192x16 := w7_v24 m ρ c
  have h1 : V7 m ρ c main_v25 = shapeCast S8192x16 (aG3 m c) shapeCasts_S4x32x64x16_S8192x16 := w7_v25 m ρ c
  have h2 : V7 m ρ c main_v26 = shapeCast S8192x16 (aM3 m c) shapeCasts_S4x32x64x16_S8192x16 := w7_v26 m ρ c
  have h3 : V7 m ρ c main_v27 = shapeCast S8192x16 (aV3 m c) shapeCasts_S4x32x64x16_S8192x16 := w7_v27 m ρ c
  rw [h0, h1, h2, h3]

/-- The new first moment of `b_im`. -/
theorem w8_v28_1 : W8 m ρ c (Proc.devRef .tc main_v28_1) = newM S8192x16 (shapeCast S8192x16 (aG3 m c) shapeCasts_S4x32x64x16_S8192x16) (shapeCast S8192x16 (aM3 m c) shapeCasts_S4x32x64x16_S8192x16) := by
  refine (W8_arr m ρ c 5).trans ((final3_new_m (V7 m ρ) c).trans ?_)
  have h0 : V7 m ρ c main_v25 = shapeCast S8192x16 (aG3 m c) shapeCasts_S4x32x64x16_S8192x16 := w7_v25 m ρ c
  have h1 : V7 m ρ c main_v26 = shapeCast S8192x16 (aM3 m c) shapeCasts_S4x32x64x16_S8192x16 := w7_v26 m ρ c
  rw [h0, h1]

/-- The new second moment of `b_im`. -/
theorem w8_v28_2 : W8 m ρ c (Proc.devRef .tc main_v28_2) = newV S8192x16 (shapeCast S8192x16 (aG3 m c) shapeCasts_S4x32x64x16_S8192x16) (shapeCast S8192x16 (aV3 m c) shapeCasts_S4x32x64x16_S8192x16) := by
  refine (W8_arr m ρ c 6).trans ((final3_new_v (V7 m ρ) c).trans ?_)
  have h0 : V7 m ρ c main_v25 = shapeCast S8192x16 (aG3 m c) shapeCasts_S4x32x64x16_S8192x16 := w7_v25 m ρ c
  have h1 : V7 m ρ c main_v27 = shapeCast S8192x16 (aV3 m c) shapeCasts_S4x32x64x16_S8192x16 := w7_v27 m ρ c
  rw [h0, h1]

/-- `delta` of `b_im`, laid back. -/
theorem w9_v29 : W9 m ρ c (Proc.devRef .tc main_v29) = newDelta S4x32x64x16 (aW3 m c) (aG3 m c) (aM3 m c) (aV3 m c) := by
  refine Eq.trans (b := shapeCast S4x32x64x16 (W8 m ρ c (Proc.devRef .tc main_v28_0)) shapeCasts_S8192x16_S4x32x64x16) ?_ ?_
  · after_results; rfl
  · rw [w8_v28_0 m ρ c]
    exact newDelta_cast shapeCasts_S4x32x64x16_S8192x16 shapeCasts_S8192x16_S4x32x64x16 (aW3 m c) (aG3 m c) (aM3 m c) (aV3 m c)

/-- `new_m` of `b_im`, laid back. -/
theorem w9_v30 : W9 m ρ c (Proc.devRef .tc main_v30) = newM S4x32x64x16 (aG3 m c) (aM3 m c) := by
  refine Eq.trans (b := shapeCast S4x32x64x16 (W8 m ρ c (Proc.devRef .tc main_v28_1)) shapeCasts_S8192x16_S4x32x64x16) ?_ ?_
  · after_results; rfl
  · rw [w8_v28_1 m ρ c]
    exact newM_cast shapeCasts_S4x32x64x16_S8192x16 shapeCasts_S8192x16_S4x32x64x16 (aG3 m c) (aM3 m c)

/-- `new_v` of `b_im`, laid back. -/
theorem w9_v31 : W9 m ρ c (Proc.devRef .tc main_v31) = newV S4x32x64x16 (aG3 m c) (aV3 m c) := by
  refine Eq.trans (b := shapeCast S4x32x64x16 (W8 m ρ c (Proc.devRef .tc main_v28_2)) shapeCasts_S8192x16_S4x32x64x16) ?_ ?_
  · after_results; rfl
  · rw [w8_v28_2 m ρ c]
    exact newV_cast shapeCasts_S4x32x64x16_S8192x16 shapeCasts_S8192x16_S4x32x64x16 (aG3 m c) (aV3 m c)

theorem w9_v32 : W9 m ρ c (Proc.devRef .tc main_v32) = shapeCast S2048x64 (aW4 m c) shapeCasts_S4x32x16x64_S2048x64 := by
  refine Eq.trans (b := shapeCast S2048x64 (W8 m ρ c (Proc.devRef .tc main_arg4)) shapeCasts_S4x32x16x64_S2048x64) ?_ ?_
  · after_results; rfl
  · rw [W8_args m ρ c main_arg4 (by decide)]

theorem w9_v33 : W9 m ρ c (Proc.devRef .tc main_v33) = shapeCast S2048x64 (aG4 m c) shapeCasts_S4x32x16x64_S2048x64 := by
  refine Eq.trans (b := shapeCast S2048x64 (W8 m ρ c (Proc.devRef .tc main_arg13)) shapeCasts_S4x32x16x64_S2048x64) ?_ ?_
  · after_results; rfl
  · rw [W8_args m ρ c main_arg13 (by decide)]

theorem w9_v34 : W9 m ρ c (Proc.devRef .tc main_v34) = shapeCast S2048x64 (aM4 m c) shapeCasts_S4x32x16x64_S2048x64 := by
  refine Eq.trans (b := shapeCast S2048x64 (W8 m ρ c (Proc.devRef .tc main_arg22)) shapeCasts_S4x32x16x64_S2048x64) ?_ ?_
  · after_results; rfl
  · rw [W8_args m ρ c main_arg22 (by decide)]

theorem w9_v35 : W9 m ρ c (Proc.devRef .tc main_v35) = shapeCast S2048x64 (aV4 m c) shapeCasts_S4x32x16x64_S2048x64 := by
  refine Eq.trans (b := shapeCast S2048x64 (W8 m ρ c (Proc.devRef .tc main_arg31)) shapeCasts_S4x32x16x64_S2048x64) ?_ ?_
  · after_results; rfl
  · rw [W8_args m ρ c main_arg31 (by decide)]

/-- The change of `c_re`. -/
theorem w10_v36_0 : W10 m ρ c (Proc.devRef .tc main_v36_0) = newDelta S2048x64 (shapeCast S2048x64 (aW4 m c) shapeCasts_S4x32x16x64_S2048x64) (shapeCast S2048x64 (aG4 m c) shapeCasts_S4x32x16x64_S2048x64) (shapeCast S2048x64 (aM4 m c) shapeCasts_S4x32x16x64_S2048x64) (shapeCast S2048x64 (aV4 m c) shapeCasts_S4x32x16x64_S2048x64) := by
  refine (W10_arr m ρ c 4).trans ((final4_delta (V9 m ρ) c).trans ?_)
  have h0 : V9 m ρ c main_v32 = shapeCast S2048x64 (aW4 m c) shapeCasts_S4x32x16x64_S2048x64 := w9_v32 m ρ c
  have h1 : V9 m ρ c main_v33 = shapeCast S2048x64 (aG4 m c) shapeCasts_S4x32x16x64_S2048x64 := w9_v33 m ρ c
  have h2 : V9 m ρ c main_v34 = shapeCast S2048x64 (aM4 m c) shapeCasts_S4x32x16x64_S2048x64 := w9_v34 m ρ c
  have h3 : V9 m ρ c main_v35 = shapeCast S2048x64 (aV4 m c) shapeCasts_S4x32x16x64_S2048x64 := w9_v35 m ρ c
  rw [h0, h1, h2, h3]

/-- The new first moment of `c_re`. -/
theorem w10_v36_1 : W10 m ρ c (Proc.devRef .tc main_v36_1) = newM S2048x64 (shapeCast S2048x64 (aG4 m c) shapeCasts_S4x32x16x64_S2048x64) (shapeCast S2048x64 (aM4 m c) shapeCasts_S4x32x16x64_S2048x64) := by
  refine (W10_arr m ρ c 5).trans ((final4_new_m (V9 m ρ) c).trans ?_)
  have h0 : V9 m ρ c main_v33 = shapeCast S2048x64 (aG4 m c) shapeCasts_S4x32x16x64_S2048x64 := w9_v33 m ρ c
  have h1 : V9 m ρ c main_v34 = shapeCast S2048x64 (aM4 m c) shapeCasts_S4x32x16x64_S2048x64 := w9_v34 m ρ c
  rw [h0, h1]

/-- The new second moment of `c_re`. -/
theorem w10_v36_2 : W10 m ρ c (Proc.devRef .tc main_v36_2) = newV S2048x64 (shapeCast S2048x64 (aG4 m c) shapeCasts_S4x32x16x64_S2048x64) (shapeCast S2048x64 (aV4 m c) shapeCasts_S4x32x16x64_S2048x64) := by
  refine (W10_arr m ρ c 6).trans ((final4_new_v (V9 m ρ) c).trans ?_)
  have h0 : V9 m ρ c main_v33 = shapeCast S2048x64 (aG4 m c) shapeCasts_S4x32x16x64_S2048x64 := w9_v33 m ρ c
  have h1 : V9 m ρ c main_v35 = shapeCast S2048x64 (aV4 m c) shapeCasts_S4x32x16x64_S2048x64 := w9_v35 m ρ c
  rw [h0, h1]

/-- `delta` of `c_re`, laid back. -/
theorem w11_v37 : W11 m ρ c (Proc.devRef .tc main_v37) = newDelta S4x32x16x64 (aW4 m c) (aG4 m c) (aM4 m c) (aV4 m c) := by
  refine Eq.trans (b := shapeCast S4x32x16x64 (W10 m ρ c (Proc.devRef .tc main_v36_0)) shapeCasts_S2048x64_S4x32x16x64) ?_ ?_
  · after_results; rfl
  · rw [w10_v36_0 m ρ c]
    exact newDelta_cast shapeCasts_S4x32x16x64_S2048x64 shapeCasts_S2048x64_S4x32x16x64 (aW4 m c) (aG4 m c) (aM4 m c) (aV4 m c)

/-- `new_m` of `c_re`, laid back. -/
theorem w11_v38 : W11 m ρ c (Proc.devRef .tc main_v38) = newM S4x32x16x64 (aG4 m c) (aM4 m c) := by
  refine Eq.trans (b := shapeCast S4x32x16x64 (W10 m ρ c (Proc.devRef .tc main_v36_1)) shapeCasts_S2048x64_S4x32x16x64) ?_ ?_
  · after_results; rfl
  · rw [w10_v36_1 m ρ c]
    exact newM_cast shapeCasts_S4x32x16x64_S2048x64 shapeCasts_S2048x64_S4x32x16x64 (aG4 m c) (aM4 m c)

/-- `new_v` of `c_re`, laid back. -/
theorem w11_v39 : W11 m ρ c (Proc.devRef .tc main_v39) = newV S4x32x16x64 (aG4 m c) (aV4 m c) := by
  refine Eq.trans (b := shapeCast S4x32x16x64 (W10 m ρ c (Proc.devRef .tc main_v36_2)) shapeCasts_S2048x64_S4x32x16x64) ?_ ?_
  · after_results; rfl
  · rw [w10_v36_2 m ρ c]
    exact newV_cast shapeCasts_S4x32x16x64_S2048x64 shapeCasts_S2048x64_S4x32x16x64 (aG4 m c) (aV4 m c)

theorem w11_v40 : W11 m ρ c (Proc.devRef .tc main_v40) = shapeCast S2048x64 (aW5 m c) shapeCasts_S4x32x16x64_S2048x64 := by
  refine Eq.trans (b := shapeCast S2048x64 (W10 m ρ c (Proc.devRef .tc main_arg5)) shapeCasts_S4x32x16x64_S2048x64) ?_ ?_
  · after_results; rfl
  · rw [W10_args m ρ c main_arg5 (by decide)]

theorem w11_v41 : W11 m ρ c (Proc.devRef .tc main_v41) = shapeCast S2048x64 (aG5 m c) shapeCasts_S4x32x16x64_S2048x64 := by
  refine Eq.trans (b := shapeCast S2048x64 (W10 m ρ c (Proc.devRef .tc main_arg14)) shapeCasts_S4x32x16x64_S2048x64) ?_ ?_
  · after_results; rfl
  · rw [W10_args m ρ c main_arg14 (by decide)]

theorem w11_v42 : W11 m ρ c (Proc.devRef .tc main_v42) = shapeCast S2048x64 (aM5 m c) shapeCasts_S4x32x16x64_S2048x64 := by
  refine Eq.trans (b := shapeCast S2048x64 (W10 m ρ c (Proc.devRef .tc main_arg23)) shapeCasts_S4x32x16x64_S2048x64) ?_ ?_
  · after_results; rfl
  · rw [W10_args m ρ c main_arg23 (by decide)]

theorem w11_v43 : W11 m ρ c (Proc.devRef .tc main_v43) = shapeCast S2048x64 (aV5 m c) shapeCasts_S4x32x16x64_S2048x64 := by
  refine Eq.trans (b := shapeCast S2048x64 (W10 m ρ c (Proc.devRef .tc main_arg32)) shapeCasts_S4x32x16x64_S2048x64) ?_ ?_
  · after_results; rfl
  · rw [W10_args m ρ c main_arg32 (by decide)]

/-- The change of `c_im`. -/
theorem w12_v44_0 : W12 m ρ c (Proc.devRef .tc main_v44_0) = newDelta S2048x64 (shapeCast S2048x64 (aW5 m c) shapeCasts_S4x32x16x64_S2048x64) (shapeCast S2048x64 (aG5 m c) shapeCasts_S4x32x16x64_S2048x64) (shapeCast S2048x64 (aM5 m c) shapeCasts_S4x32x16x64_S2048x64) (shapeCast S2048x64 (aV5 m c) shapeCasts_S4x32x16x64_S2048x64) := by
  refine (W12_arr m ρ c 4).trans ((final5_delta (V11 m ρ) c).trans ?_)
  have h0 : V11 m ρ c main_v40 = shapeCast S2048x64 (aW5 m c) shapeCasts_S4x32x16x64_S2048x64 := w11_v40 m ρ c
  have h1 : V11 m ρ c main_v41 = shapeCast S2048x64 (aG5 m c) shapeCasts_S4x32x16x64_S2048x64 := w11_v41 m ρ c
  have h2 : V11 m ρ c main_v42 = shapeCast S2048x64 (aM5 m c) shapeCasts_S4x32x16x64_S2048x64 := w11_v42 m ρ c
  have h3 : V11 m ρ c main_v43 = shapeCast S2048x64 (aV5 m c) shapeCasts_S4x32x16x64_S2048x64 := w11_v43 m ρ c
  rw [h0, h1, h2, h3]

/-- The new first moment of `c_im`. -/
theorem w12_v44_1 : W12 m ρ c (Proc.devRef .tc main_v44_1) = newM S2048x64 (shapeCast S2048x64 (aG5 m c) shapeCasts_S4x32x16x64_S2048x64) (shapeCast S2048x64 (aM5 m c) shapeCasts_S4x32x16x64_S2048x64) := by
  refine (W12_arr m ρ c 5).trans ((final5_new_m (V11 m ρ) c).trans ?_)
  have h0 : V11 m ρ c main_v41 = shapeCast S2048x64 (aG5 m c) shapeCasts_S4x32x16x64_S2048x64 := w11_v41 m ρ c
  have h1 : V11 m ρ c main_v42 = shapeCast S2048x64 (aM5 m c) shapeCasts_S4x32x16x64_S2048x64 := w11_v42 m ρ c
  rw [h0, h1]

/-- The new second moment of `c_im`. -/
theorem w12_v44_2 : W12 m ρ c (Proc.devRef .tc main_v44_2) = newV S2048x64 (shapeCast S2048x64 (aG5 m c) shapeCasts_S4x32x16x64_S2048x64) (shapeCast S2048x64 (aV5 m c) shapeCasts_S4x32x16x64_S2048x64) := by
  refine (W12_arr m ρ c 6).trans ((final5_new_v (V11 m ρ) c).trans ?_)
  have h0 : V11 m ρ c main_v41 = shapeCast S2048x64 (aG5 m c) shapeCasts_S4x32x16x64_S2048x64 := w11_v41 m ρ c
  have h1 : V11 m ρ c main_v43 = shapeCast S2048x64 (aV5 m c) shapeCasts_S4x32x16x64_S2048x64 := w11_v43 m ρ c
  rw [h0, h1]

/-- `delta` of `c_im`, laid back. -/
theorem w13_v45 : W13 m ρ c (Proc.devRef .tc main_v45) = newDelta S4x32x16x64 (aW5 m c) (aG5 m c) (aM5 m c) (aV5 m c) := by
  refine Eq.trans (b := shapeCast S4x32x16x64 (W12 m ρ c (Proc.devRef .tc main_v44_0)) shapeCasts_S2048x64_S4x32x16x64) ?_ ?_
  · after_results; rfl
  · rw [w12_v44_0 m ρ c]
    exact newDelta_cast shapeCasts_S4x32x16x64_S2048x64 shapeCasts_S2048x64_S4x32x16x64 (aW5 m c) (aG5 m c) (aM5 m c) (aV5 m c)

/-- `new_m` of `c_im`, laid back. -/
theorem w13_v46 : W13 m ρ c (Proc.devRef .tc main_v46) = newM S4x32x16x64 (aG5 m c) (aM5 m c) := by
  refine Eq.trans (b := shapeCast S4x32x16x64 (W12 m ρ c (Proc.devRef .tc main_v44_1)) shapeCasts_S2048x64_S4x32x16x64) ?_ ?_
  · after_results; rfl
  · rw [w12_v44_1 m ρ c]
    exact newM_cast shapeCasts_S4x32x16x64_S2048x64 shapeCasts_S2048x64_S4x32x16x64 (aG5 m c) (aM5 m c)

/-- `new_v` of `c_im`, laid back. -/
theorem w13_v47 : W13 m ρ c (Proc.devRef .tc main_v47) = newV S4x32x16x64 (aG5 m c) (aV5 m c) := by
  refine Eq.trans (b := shapeCast S4x32x16x64 (W12 m ρ c (Proc.devRef .tc main_v44_2)) shapeCasts_S2048x64_S4x32x16x64) ?_ ?_
  · after_results; rfl
  · rw [w12_v44_2 m ρ c]
    exact newV_cast shapeCasts_S4x32x16x64_S2048x64 shapeCasts_S2048x64_S4x32x16x64 (aG5 m c) (aV5 m c)

theorem w13_v48 : W13 m ρ c (Proc.devRef .tc main_v48) = shapeCast S128x16 (aW6 m c) shapeCasts_S4x32x16_S128x16 := by
  refine Eq.trans (b := shapeCast S128x16 (W12 m ρ c (Proc.devRef .tc main_arg6)) shapeCasts_S4x32x16_S128x16) ?_ ?_
  · after_results; rfl
  · rw [W12_args m ρ c main_arg6 (by decide)]

theorem w13_v49 : W13 m ρ c (Proc.devRef .tc main_v49) = shapeCast S128x16 (aG6 m c) shapeCasts_S4x32x16_S128x16 := by
  refine Eq.trans (b := shapeCast S128x16 (W12 m ρ c (Proc.devRef .tc main_arg15)) shapeCasts_S4x32x16_S128x16) ?_ ?_
  · after_results; rfl
  · rw [W12_args m ρ c main_arg15 (by decide)]

theorem w13_v50 : W13 m ρ c (Proc.devRef .tc main_v50) = shapeCast S128x16 (aM6 m c) shapeCasts_S4x32x16_S128x16 := by
  refine Eq.trans (b := shapeCast S128x16 (W12 m ρ c (Proc.devRef .tc main_arg24)) shapeCasts_S4x32x16_S128x16) ?_ ?_
  · after_results; rfl
  · rw [W12_args m ρ c main_arg24 (by decide)]

theorem w13_v51 : W13 m ρ c (Proc.devRef .tc main_v51) = shapeCast S128x16 (aV6 m c) shapeCasts_S4x32x16_S128x16 := by
  refine Eq.trans (b := shapeCast S128x16 (W12 m ρ c (Proc.devRef .tc main_arg33)) shapeCasts_S4x32x16_S128x16) ?_ ?_
  · after_results; rfl
  · rw [W12_args m ρ c main_arg33 (by decide)]

/-- The change of `d_skip`. -/
theorem w14_v52_0 : W14 m ρ c (Proc.devRef .tc main_v52_0) = newDelta S128x16 (shapeCast S128x16 (aW6 m c) shapeCasts_S4x32x16_S128x16) (shapeCast S128x16 (aG6 m c) shapeCasts_S4x32x16_S128x16) (shapeCast S128x16 (aM6 m c) shapeCasts_S4x32x16_S128x16) (shapeCast S128x16 (aV6 m c) shapeCasts_S4x32x16_S128x16) := by
  refine (W14_arr m ρ c 4).trans ((final6_delta (V13 m ρ) c).trans ?_)
  have h0 : V13 m ρ c main_v48 = shapeCast S128x16 (aW6 m c) shapeCasts_S4x32x16_S128x16 := w13_v48 m ρ c
  have h1 : V13 m ρ c main_v49 = shapeCast S128x16 (aG6 m c) shapeCasts_S4x32x16_S128x16 := w13_v49 m ρ c
  have h2 : V13 m ρ c main_v50 = shapeCast S128x16 (aM6 m c) shapeCasts_S4x32x16_S128x16 := w13_v50 m ρ c
  have h3 : V13 m ρ c main_v51 = shapeCast S128x16 (aV6 m c) shapeCasts_S4x32x16_S128x16 := w13_v51 m ρ c
  rw [h0, h1, h2, h3]

/-- The new first moment of `d_skip`. -/
theorem w14_v52_1 : W14 m ρ c (Proc.devRef .tc main_v52_1) = newM S128x16 (shapeCast S128x16 (aG6 m c) shapeCasts_S4x32x16_S128x16) (shapeCast S128x16 (aM6 m c) shapeCasts_S4x32x16_S128x16) := by
  refine (W14_arr m ρ c 5).trans ((final6_new_m (V13 m ρ) c).trans ?_)
  have h0 : V13 m ρ c main_v49 = shapeCast S128x16 (aG6 m c) shapeCasts_S4x32x16_S128x16 := w13_v49 m ρ c
  have h1 : V13 m ρ c main_v50 = shapeCast S128x16 (aM6 m c) shapeCasts_S4x32x16_S128x16 := w13_v50 m ρ c
  rw [h0, h1]

/-- The new second moment of `d_skip`. -/
theorem w14_v52_2 : W14 m ρ c (Proc.devRef .tc main_v52_2) = newV S128x16 (shapeCast S128x16 (aG6 m c) shapeCasts_S4x32x16_S128x16) (shapeCast S128x16 (aV6 m c) shapeCasts_S4x32x16_S128x16) := by
  refine (W14_arr m ρ c 6).trans ((final6_new_v (V13 m ρ) c).trans ?_)
  have h0 : V13 m ρ c main_v49 = shapeCast S128x16 (aG6 m c) shapeCasts_S4x32x16_S128x16 := w13_v49 m ρ c
  have h1 : V13 m ρ c main_v51 = shapeCast S128x16 (aV6 m c) shapeCasts_S4x32x16_S128x16 := w13_v51 m ρ c
  rw [h0, h1]

/-- `delta` of `d_skip`, laid back. -/
theorem w15_v53 : W15 m ρ c (Proc.devRef .tc main_v53) = newDelta S4x32x16 (aW6 m c) (aG6 m c) (aM6 m c) (aV6 m c) := by
  refine Eq.trans (b := shapeCast S4x32x16 (W14 m ρ c (Proc.devRef .tc main_v52_0)) shapeCasts_S128x16_S4x32x16) ?_ ?_
  · after_results; rfl
  · rw [w14_v52_0 m ρ c]
    exact newDelta_cast shapeCasts_S4x32x16_S128x16 shapeCasts_S128x16_S4x32x16 (aW6 m c) (aG6 m c) (aM6 m c) (aV6 m c)

/-- `new_m` of `d_skip`, laid back. -/
theorem w15_v54 : W15 m ρ c (Proc.devRef .tc main_v54) = newM S4x32x16 (aG6 m c) (aM6 m c) := by
  refine Eq.trans (b := shapeCast S4x32x16 (W14 m ρ c (Proc.devRef .tc main_v52_1)) shapeCasts_S128x16_S4x32x16) ?_ ?_
  · after_results; rfl
  · rw [w14_v52_1 m ρ c]
    exact newM_cast shapeCasts_S4x32x16_S128x16 shapeCasts_S128x16_S4x32x16 (aG6 m c) (aM6 m c)

/-- `new_v` of `d_skip`, laid back. -/
theorem w15_v55 : W15 m ρ c (Proc.devRef .tc main_v55) = newV S4x32x16 (aG6 m c) (aV6 m c) := by
  refine Eq.trans (b := shapeCast S4x32x16 (W14 m ρ c (Proc.devRef .tc main_v52_2)) shapeCasts_S128x16_S4x32x16) ?_ ?_
  · after_results; rfl
  · rw [w14_v52_2 m ρ c]
    exact newV_cast shapeCasts_S4x32x16_S128x16 shapeCasts_S128x16_S4x32x16 (aG6 m c) (aV6 m c)

/-- The change of `log_dt`. -/
theorem w16_v56_0 : W16 m ρ c (Proc.devRef .tc main_v56_0) = newDelta S4x32 (aW7 m c) (aG7 m c) (aM7 m c) (aV7 m c) := by
  refine (W16_arr m ρ c 4).trans ((final7_delta (V15 m ρ) c).trans ?_)
  have h0 : V15 m ρ c main_arg7 = aW7 m c := W15_args m ρ c main_arg7 (by decide)
  have h1 : V15 m ρ c main_arg16 = aG7 m c := W15_args m ρ c main_arg16 (by decide)
  have h2 : V15 m ρ c main_arg25 = aM7 m c := W15_args m ρ c main_arg25 (by decide)
  have h3 : V15 m ρ c main_arg34 = aV7 m c := W15_args m ρ c main_arg34 (by decide)
  rw [h0, h1, h2, h3]

/-- The new first moment of `log_dt`. -/
theorem w16_v56_1 : W16 m ρ c (Proc.devRef .tc main_v56_1) = newM S4x32 (aG7 m c) (aM7 m c) := by
  refine (W16_arr m ρ c 5).trans ((final7_new_m (V15 m ρ) c).trans ?_)
  have h0 : V15 m ρ c main_arg16 = aG7 m c := W15_args m ρ c main_arg16 (by decide)
  have h1 : V15 m ρ c main_arg25 = aM7 m c := W15_args m ρ c main_arg25 (by decide)
  rw [h0, h1]

/-- The new second moment of `log_dt`. -/
theorem w16_v56_2 : W16 m ρ c (Proc.devRef .tc main_v56_2) = newV S4x32 (aG7 m c) (aV7 m c) := by
  refine (W16_arr m ρ c 6).trans ((final7_new_v (V15 m ρ) c).trans ?_)
  have h0 : V15 m ρ c main_arg16 = aG7 m c := W15_args m ρ c main_arg16 (by decide)
  have h1 : V15 m ρ c main_arg34 = aV7 m c := W15_args m ρ c main_arg34 (by decide)
  rw [h0, h1]

/-- The change of `b_glu`. -/
theorem w17_v57_0 : W17 m ρ c (Proc.devRef .tc main_v57_0) = newDelta S4x1024 (aW8 m c) (aG8 m c) (aM8 m c) (aV8 m c) := by
  refine (W17_arr m ρ c 4).trans ((final8_delta (V16 m ρ) c).trans ?_)
  have h0 : V16 m ρ c main_arg8 = aW8 m c := W16_args m ρ c main_arg8 (by decide)
  have h1 : V16 m ρ c main_arg17 = aG8 m c := W16_args m ρ c main_arg17 (by decide)
  have h2 : V16 m ρ c main_arg26 = aM8 m c := W16_args m ρ c main_arg26 (by decide)
  have h3 : V16 m ρ c main_arg35 = aV8 m c := W16_args m ρ c main_arg35 (by decide)
  rw [h0, h1, h2, h3]

/-- The new first moment of `b_glu`. -/
theorem w17_v57_1 : W17 m ρ c (Proc.devRef .tc main_v57_1) = newM S4x1024 (aG8 m c) (aM8 m c) := by
  refine (W17_arr m ρ c 5).trans ((final8_new_m (V16 m ρ) c).trans ?_)
  have h0 : V16 m ρ c main_arg17 = aG8 m c := W16_args m ρ c main_arg17 (by decide)
  have h1 : V16 m ρ c main_arg26 = aM8 m c := W16_args m ρ c main_arg26 (by decide)
  rw [h0, h1]

/-- The new second moment of `b_glu`. -/
theorem w17_v57_2 : W17 m ρ c (Proc.devRef .tc main_v57_2) = newV S4x1024 (aG8 m c) (aV8 m c) := by
  refine (W17_arr m ρ c 6).trans ((final8_new_v (V16 m ρ) c).trans ?_)
  have h0 : V16 m ρ c main_arg17 = aG8 m c := W16_args m ρ c main_arg17 (by decide)
  have h1 : V16 m ρ c main_arg35 = aV8 m c := W16_args m ρ c main_arg35 (by decide)
  rw [h0, h1]

/-! ## The results at the end -/

theorem end_delta_a_re : W17 m ρ c (Proc.devRef .tc main_v5) = newDelta S4x32x64 (aW0 m c) (aG0 m c) (aM0 m c) (aV0 m c) :=
  ((W17_of m ρ c main_v5 (by decide)).trans ((W16_of m ρ c main_v5 (by decide)).trans ((W15_of m ρ c main_v5 (by decide)).trans ((W14_of m ρ c main_v5 (by decide)).trans ((W13_of m ρ c main_v5 (by decide)).trans ((W12_of m ρ c main_v5 (by decide)).trans ((W11_of m ρ c main_v5 (by decide)).trans ((W10_of m ρ c main_v5 (by decide)).trans ((W9_of m ρ c main_v5 (by decide)).trans ((W8_of m ρ c main_v5 (by decide)).trans ((W7_of m ρ c main_v5 (by decide)).trans ((W6_of m ρ c main_v5 (by decide)).trans ((W5_of m ρ c main_v5 (by decide)).trans ((W4_of m ρ c main_v5 (by decide)))))))))))))))).trans (w3_v5 m ρ c)

theorem end_delta_a_im : W17 m ρ c (Proc.devRef .tc main_v13) = newDelta S4x32x64 (aW1 m c) (aG1 m c) (aM1 m c) (aV1 m c) :=
  ((W17_of m ρ c main_v13 (by decide)).trans ((W16_of m ρ c main_v13 (by decide)).trans ((W15_of m ρ c main_v13 (by decide)).trans ((W14_of m ρ c main_v13 (by decide)).trans ((W13_of m ρ c main_v13 (by decide)).trans ((W12_of m ρ c main_v13 (by decide)).trans ((W11_of m ρ c main_v13 (by decide)).trans ((W10_of m ρ c main_v13 (by decide)).trans ((W9_of m ρ c main_v13 (by decide)).trans ((W8_of m ρ c main_v13 (by decide)).trans ((W7_of m ρ c main_v13 (by decide)).trans ((W6_of m ρ c main_v13 (by decide)))))))))))))).trans (w5_v13 m ρ c)

theorem end_delta_b_re : W17 m ρ c (Proc.devRef .tc main_v21) = newDelta S4x32x64x16 (aW2 m c) (aG2 m c) (aM2 m c) (aV2 m c) :=
  ((W17_of m ρ c main_v21 (by decide)).trans ((W16_of m ρ c main_v21 (by decide)).trans ((W15_of m ρ c main_v21 (by decide)).trans ((W14_of m ρ c main_v21 (by decide)).trans ((W13_of m ρ c main_v21 (by decide)).trans ((W12_of m ρ c main_v21 (by decide)).trans ((W11_of m ρ c main_v21 (by decide)).trans ((W10_of m ρ c main_v21 (by decide)).trans ((W9_of m ρ c main_v21 (by decide)).trans ((W8_of m ρ c main_v21 (by decide)))))))))))).trans (w7_v21 m ρ c)

theorem end_delta_b_im : W17 m ρ c (Proc.devRef .tc main_v29) = newDelta S4x32x64x16 (aW3 m c) (aG3 m c) (aM3 m c) (aV3 m c) :=
  ((W17_of m ρ c main_v29 (by decide)).trans ((W16_of m ρ c main_v29 (by decide)).trans ((W15_of m ρ c main_v29 (by decide)).trans ((W14_of m ρ c main_v29 (by decide)).trans ((W13_of m ρ c main_v29 (by decide)).trans ((W12_of m ρ c main_v29 (by decide)).trans ((W11_of m ρ c main_v29 (by decide)).trans ((W10_of m ρ c main_v29 (by decide)))))))))).trans (w9_v29 m ρ c)

theorem end_delta_c_re : W17 m ρ c (Proc.devRef .tc main_v37) = newDelta S4x32x16x64 (aW4 m c) (aG4 m c) (aM4 m c) (aV4 m c) :=
  ((W17_of m ρ c main_v37 (by decide)).trans ((W16_of m ρ c main_v37 (by decide)).trans ((W15_of m ρ c main_v37 (by decide)).trans ((W14_of m ρ c main_v37 (by decide)).trans ((W13_of m ρ c main_v37 (by decide)).trans ((W12_of m ρ c main_v37 (by decide)))))))).trans (w11_v37 m ρ c)

theorem end_delta_c_im : W17 m ρ c (Proc.devRef .tc main_v45) = newDelta S4x32x16x64 (aW5 m c) (aG5 m c) (aM5 m c) (aV5 m c) :=
  ((W17_of m ρ c main_v45 (by decide)).trans ((W16_of m ρ c main_v45 (by decide)).trans ((W15_of m ρ c main_v45 (by decide)).trans ((W14_of m ρ c main_v45 (by decide)))))).trans (w13_v45 m ρ c)

theorem end_delta_d_skip : W17 m ρ c (Proc.devRef .tc main_v53) = newDelta S4x32x16 (aW6 m c) (aG6 m c) (aM6 m c) (aV6 m c) :=
  ((W17_of m ρ c main_v53 (by decide)).trans ((W16_of m ρ c main_v53 (by decide)))).trans (w15_v53 m ρ c)

theorem end_delta_log_dt : W17 m ρ c (Proc.devRef .tc main_v56_0) = newDelta S4x32 (aW7 m c) (aG7 m c) (aM7 m c) (aV7 m c) :=
  ((W17_of m ρ c main_v56_0 (by decide))).trans (w16_v56_0 m ρ c)

theorem end_delta_b_glu : W17 m ρ c (Proc.devRef .tc main_v57_0) = newDelta S4x1024 (aW8 m c) (aG8 m c) (aM8 m c) (aV8 m c) :=
  w17_v57_0 m ρ c

theorem end_new_m_a_re : W17 m ρ c (Proc.devRef .tc main_v6) = newM S4x32x64 (aG0 m c) (aM0 m c) :=
  ((W17_of m ρ c main_v6 (by decide)).trans ((W16_of m ρ c main_v6 (by decide)).trans ((W15_of m ρ c main_v6 (by decide)).trans ((W14_of m ρ c main_v6 (by decide)).trans ((W13_of m ρ c main_v6 (by decide)).trans ((W12_of m ρ c main_v6 (by decide)).trans ((W11_of m ρ c main_v6 (by decide)).trans ((W10_of m ρ c main_v6 (by decide)).trans ((W9_of m ρ c main_v6 (by decide)).trans ((W8_of m ρ c main_v6 (by decide)).trans ((W7_of m ρ c main_v6 (by decide)).trans ((W6_of m ρ c main_v6 (by decide)).trans ((W5_of m ρ c main_v6 (by decide)).trans ((W4_of m ρ c main_v6 (by decide)))))))))))))))).trans (w3_v6 m ρ c)

theorem end_new_m_a_im : W17 m ρ c (Proc.devRef .tc main_v14) = newM S4x32x64 (aG1 m c) (aM1 m c) :=
  ((W17_of m ρ c main_v14 (by decide)).trans ((W16_of m ρ c main_v14 (by decide)).trans ((W15_of m ρ c main_v14 (by decide)).trans ((W14_of m ρ c main_v14 (by decide)).trans ((W13_of m ρ c main_v14 (by decide)).trans ((W12_of m ρ c main_v14 (by decide)).trans ((W11_of m ρ c main_v14 (by decide)).trans ((W10_of m ρ c main_v14 (by decide)).trans ((W9_of m ρ c main_v14 (by decide)).trans ((W8_of m ρ c main_v14 (by decide)).trans ((W7_of m ρ c main_v14 (by decide)).trans ((W6_of m ρ c main_v14 (by decide)))))))))))))).trans (w5_v14 m ρ c)

theorem end_new_m_b_re : W17 m ρ c (Proc.devRef .tc main_v22) = newM S4x32x64x16 (aG2 m c) (aM2 m c) :=
  ((W17_of m ρ c main_v22 (by decide)).trans ((W16_of m ρ c main_v22 (by decide)).trans ((W15_of m ρ c main_v22 (by decide)).trans ((W14_of m ρ c main_v22 (by decide)).trans ((W13_of m ρ c main_v22 (by decide)).trans ((W12_of m ρ c main_v22 (by decide)).trans ((W11_of m ρ c main_v22 (by decide)).trans ((W10_of m ρ c main_v22 (by decide)).trans ((W9_of m ρ c main_v22 (by decide)).trans ((W8_of m ρ c main_v22 (by decide)))))))))))).trans (w7_v22 m ρ c)

theorem end_new_m_b_im : W17 m ρ c (Proc.devRef .tc main_v30) = newM S4x32x64x16 (aG3 m c) (aM3 m c) :=
  ((W17_of m ρ c main_v30 (by decide)).trans ((W16_of m ρ c main_v30 (by decide)).trans ((W15_of m ρ c main_v30 (by decide)).trans ((W14_of m ρ c main_v30 (by decide)).trans ((W13_of m ρ c main_v30 (by decide)).trans ((W12_of m ρ c main_v30 (by decide)).trans ((W11_of m ρ c main_v30 (by decide)).trans ((W10_of m ρ c main_v30 (by decide)))))))))).trans (w9_v30 m ρ c)

theorem end_new_m_c_re : W17 m ρ c (Proc.devRef .tc main_v38) = newM S4x32x16x64 (aG4 m c) (aM4 m c) :=
  ((W17_of m ρ c main_v38 (by decide)).trans ((W16_of m ρ c main_v38 (by decide)).trans ((W15_of m ρ c main_v38 (by decide)).trans ((W14_of m ρ c main_v38 (by decide)).trans ((W13_of m ρ c main_v38 (by decide)).trans ((W12_of m ρ c main_v38 (by decide)))))))).trans (w11_v38 m ρ c)

theorem end_new_m_c_im : W17 m ρ c (Proc.devRef .tc main_v46) = newM S4x32x16x64 (aG5 m c) (aM5 m c) :=
  ((W17_of m ρ c main_v46 (by decide)).trans ((W16_of m ρ c main_v46 (by decide)).trans ((W15_of m ρ c main_v46 (by decide)).trans ((W14_of m ρ c main_v46 (by decide)))))).trans (w13_v46 m ρ c)

theorem end_new_m_d_skip : W17 m ρ c (Proc.devRef .tc main_v54) = newM S4x32x16 (aG6 m c) (aM6 m c) :=
  ((W17_of m ρ c main_v54 (by decide)).trans ((W16_of m ρ c main_v54 (by decide)))).trans (w15_v54 m ρ c)

theorem end_new_m_log_dt : W17 m ρ c (Proc.devRef .tc main_v56_1) = newM S4x32 (aG7 m c) (aM7 m c) :=
  ((W17_of m ρ c main_v56_1 (by decide))).trans (w16_v56_1 m ρ c)

theorem end_new_m_b_glu : W17 m ρ c (Proc.devRef .tc main_v57_1) = newM S4x1024 (aG8 m c) (aM8 m c) :=
  w17_v57_1 m ρ c

theorem end_new_v_a_re : W17 m ρ c (Proc.devRef .tc main_v7) = newV S4x32x64 (aG0 m c) (aV0 m c) :=
  ((W17_of m ρ c main_v7 (by decide)).trans ((W16_of m ρ c main_v7 (by decide)).trans ((W15_of m ρ c main_v7 (by decide)).trans ((W14_of m ρ c main_v7 (by decide)).trans ((W13_of m ρ c main_v7 (by decide)).trans ((W12_of m ρ c main_v7 (by decide)).trans ((W11_of m ρ c main_v7 (by decide)).trans ((W10_of m ρ c main_v7 (by decide)).trans ((W9_of m ρ c main_v7 (by decide)).trans ((W8_of m ρ c main_v7 (by decide)).trans ((W7_of m ρ c main_v7 (by decide)).trans ((W6_of m ρ c main_v7 (by decide)).trans ((W5_of m ρ c main_v7 (by decide)).trans ((W4_of m ρ c main_v7 (by decide)))))))))))))))).trans (w3_v7 m ρ c)

theorem end_new_v_a_im : W17 m ρ c (Proc.devRef .tc main_v15) = newV S4x32x64 (aG1 m c) (aV1 m c) :=
  ((W17_of m ρ c main_v15 (by decide)).trans ((W16_of m ρ c main_v15 (by decide)).trans ((W15_of m ρ c main_v15 (by decide)).trans ((W14_of m ρ c main_v15 (by decide)).trans ((W13_of m ρ c main_v15 (by decide)).trans ((W12_of m ρ c main_v15 (by decide)).trans ((W11_of m ρ c main_v15 (by decide)).trans ((W10_of m ρ c main_v15 (by decide)).trans ((W9_of m ρ c main_v15 (by decide)).trans ((W8_of m ρ c main_v15 (by decide)).trans ((W7_of m ρ c main_v15 (by decide)).trans ((W6_of m ρ c main_v15 (by decide)))))))))))))).trans (w5_v15 m ρ c)

theorem end_new_v_b_re : W17 m ρ c (Proc.devRef .tc main_v23) = newV S4x32x64x16 (aG2 m c) (aV2 m c) :=
  ((W17_of m ρ c main_v23 (by decide)).trans ((W16_of m ρ c main_v23 (by decide)).trans ((W15_of m ρ c main_v23 (by decide)).trans ((W14_of m ρ c main_v23 (by decide)).trans ((W13_of m ρ c main_v23 (by decide)).trans ((W12_of m ρ c main_v23 (by decide)).trans ((W11_of m ρ c main_v23 (by decide)).trans ((W10_of m ρ c main_v23 (by decide)).trans ((W9_of m ρ c main_v23 (by decide)).trans ((W8_of m ρ c main_v23 (by decide)))))))))))).trans (w7_v23 m ρ c)

theorem end_new_v_b_im : W17 m ρ c (Proc.devRef .tc main_v31) = newV S4x32x64x16 (aG3 m c) (aV3 m c) :=
  ((W17_of m ρ c main_v31 (by decide)).trans ((W16_of m ρ c main_v31 (by decide)).trans ((W15_of m ρ c main_v31 (by decide)).trans ((W14_of m ρ c main_v31 (by decide)).trans ((W13_of m ρ c main_v31 (by decide)).trans ((W12_of m ρ c main_v31 (by decide)).trans ((W11_of m ρ c main_v31 (by decide)).trans ((W10_of m ρ c main_v31 (by decide)))))))))).trans (w9_v31 m ρ c)

theorem end_new_v_c_re : W17 m ρ c (Proc.devRef .tc main_v39) = newV S4x32x16x64 (aG4 m c) (aV4 m c) :=
  ((W17_of m ρ c main_v39 (by decide)).trans ((W16_of m ρ c main_v39 (by decide)).trans ((W15_of m ρ c main_v39 (by decide)).trans ((W14_of m ρ c main_v39 (by decide)).trans ((W13_of m ρ c main_v39 (by decide)).trans ((W12_of m ρ c main_v39 (by decide)))))))).trans (w11_v39 m ρ c)

theorem end_new_v_c_im : W17 m ρ c (Proc.devRef .tc main_v47) = newV S4x32x16x64 (aG5 m c) (aV5 m c) :=
  ((W17_of m ρ c main_v47 (by decide)).trans ((W16_of m ρ c main_v47 (by decide)).trans ((W15_of m ρ c main_v47 (by decide)).trans ((W14_of m ρ c main_v47 (by decide)))))).trans (w13_v47 m ρ c)

theorem end_new_v_d_skip : W17 m ρ c (Proc.devRef .tc main_v55) = newV S4x32x16 (aG6 m c) (aV6 m c) :=
  ((W17_of m ρ c main_v55 (by decide)).trans ((W16_of m ρ c main_v55 (by decide)))).trans (w15_v55 m ρ c)

theorem end_new_v_log_dt : W17 m ρ c (Proc.devRef .tc main_v56_2) = newV S4x32 (aG7 m c) (aV7 m c) :=
  ((W17_of m ρ c main_v56_2 (by decide))).trans (w16_v56_2 m ρ c)

theorem end_new_v_b_glu : W17 m ρ c (Proc.devRef .tc main_v57_2) = newV S4x1024 (aG8 m c) (aV8 m c) :=
  w17_v57_2 m ρ c

end Cert.Kernel3Ideal.Value

end
-- ==== Proof.Run3.lean ====
/- The kernel's program, run from any memory: every result is the optimiser's step on the recurrence's weights, and the arguments end as they began. -/
module

public import proofs.«01_k».proof.Proof.Fold3

@[expose] public section

set_option maxRecDepth 16384

noncomputable section

namespace Cert.Kernel3Ideal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen Cert.Math

variable (m : (ℓ : Loc nD τ sig) → Buf (Elt Ideal) ℓ) (ρ : Dev nD → PrngReg)

set_option backward.isDefEq.respectTransparency.types false in
set_option maxHeartbeats 4000000 in
/-- Every execution ends with the changes and the new moments in the result arrays: what the arrays hold at the last
    boundary (`Fold3`), read off the final memory. -/
theorem run_math : θ_run defs (onTc (τ := τ) (main (F := Ideal))) ⟨m, fun _ => 0, ρ⟩ (fun r => ∀ c : Dev nD,
      (r.2.mem ((c.tc : Thread nD τ).loc main_v5) = newDelta S4x32x64 (aW0 m c) (aG0 m c) (aM0 m c) (aV0 m c)
      ∧ r.2.mem ((c.tc : Thread nD τ).loc main_v13) = newDelta S4x32x64 (aW1 m c) (aG1 m c) (aM1 m c) (aV1 m c)
      ∧ r.2.mem ((c.tc : Thread nD τ).loc main_v21) = newDelta S4x32x64x16 (aW2 m c) (aG2 m c) (aM2 m c) (aV2 m c)
      ∧ r.2.mem ((c.tc : Thread nD τ).loc main_v29) = newDelta S4x32x64x16 (aW3 m c) (aG3 m c) (aM3 m c) (aV3 m c)
      ∧ r.2.mem ((c.tc : Thread nD τ).loc main_v37) = newDelta S4x32x16x64 (aW4 m c) (aG4 m c) (aM4 m c) (aV4 m c)
      ∧ r.2.mem ((c.tc : Thread nD τ).loc main_v45) = newDelta S4x32x16x64 (aW5 m c) (aG5 m c) (aM5 m c) (aV5 m c)
      ∧ r.2.mem ((c.tc : Thread nD τ).loc main_v53) = newDelta S4x32x16 (aW6 m c) (aG6 m c) (aM6 m c) (aV6 m c)
      ∧ r.2.mem ((c.tc : Thread nD τ).loc main_v56_0) = newDelta S4x32 (aW7 m c) (aG7 m c) (aM7 m c) (aV7 m c)
      ∧ r.2.mem ((c.tc : Thread nD τ).loc main_v57_0) = newDelta S4x1024 (aW8 m c) (aG8 m c) (aM8 m c) (aV8 m c)
      ∧ r.2.mem ((c.tc : Thread nD τ).loc main_v6) = newM S4x32x64 (aG0 m c) (aM0 m c)
      ∧ r.2.mem ((c.tc : Thread nD τ).loc main_v14) = newM S4x32x64 (aG1 m c) (aM1 m c)
      ∧ r.2.mem ((c.tc : Thread nD τ).loc main_v22) = newM S4x32x64x16 (aG2 m c) (aM2 m c)
      ∧ r.2.mem ((c.tc : Thread nD τ).loc main_v30) = newM S4x32x64x16 (aG3 m c) (aM3 m c)
      ∧ r.2.mem ((c.tc : Thread nD τ).loc main_v38) = newM S4x32x16x64 (aG4 m c) (aM4 m c)
      ∧ r.2.mem ((c.tc : Thread nD τ).loc main_v46) = newM S4x32x16x64 (aG5 m c) (aM5 m c)
      ∧ r.2.mem ((c.tc : Thread nD τ).loc main_v54) = newM S4x32x16 (aG6 m c) (aM6 m c)
      ∧ r.2.mem ((c.tc : Thread nD τ).loc main_v56_1) = newM S4x32 (aG7 m c) (aM7 m c)
      ∧ r.2.mem ((c.tc : Thread nD τ).loc main_v57_1) = newM S4x1024 (aG8 m c) (aM8 m c)
      ∧ r.2.mem ((c.tc : Thread nD τ).loc main_v7) = newV S4x32x64 (aG0 m c) (aV0 m c)
      ∧ r.2.mem ((c.tc : Thread nD τ).loc main_v15) = newV S4x32x64 (aG1 m c) (aV1 m c)
      ∧ r.2.mem ((c.tc : Thread nD τ).loc main_v23) = newV S4x32x64x16 (aG2 m c) (aV2 m c)
      ∧ r.2.mem ((c.tc : Thread nD τ).loc main_v31) = newV S4x32x64x16 (aG3 m c) (aV3 m c)
      ∧ r.2.mem ((c.tc : Thread nD τ).loc main_v39) = newV S4x32x16x64 (aG4 m c) (aV4 m c)
      ∧ r.2.mem ((c.tc : Thread nD τ).loc main_v47) = newV S4x32x16x64 (aG5 m c) (aV5 m c)
      ∧ r.2.mem ((c.tc : Thread nD τ).loc main_v55) = newV S4x32x16 (aG6 m c) (aV6 m c)
      ∧ r.2.mem ((c.tc : Thread nD τ).loc main_v56_2) = newV S4x32 (aG7 m c) (aV7 m c)
      ∧ r.2.mem ((c.tc : Thread nD τ).loc main_v57_2) = newV S4x1024 (aG8 m c) (aV8 m c))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35))) :=
  Pipeline.θ_run_regions_kit_sems (pcfgs (F := Ideal)) adm (pdats m ρ) () cellOf_inj emb₁ defs₀ 𝒱₀ L lv m ρ (main (F := Ideal)) (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h hz c => ⟨⟨(h c _ (mem_uc main_v5 (by decide))).trans (end_delta_a_re m ρ c),
      (h c _ (mem_uc main_v13 (by decide))).trans (end_delta_a_im m ρ c),
      (h c _ (mem_uc main_v21 (by decide))).trans (end_delta_b_re m ρ c),
      (h c _ (mem_uc main_v29 (by decide))).trans (end_delta_b_im m ρ c),
      (h c _ (mem_uc main_v37 (by decide))).trans (end_delta_c_re m ρ c),
      (h c _ (mem_uc main_v45 (by decide))).trans (end_delta_c_im m ρ c),
      (h c _ (mem_uc main_v53 (by decide))).trans (end_delta_d_skip m ρ c),
      (h c _ (mem_uc main_v56_0 (by decide))).trans (end_delta_log_dt m ρ c),
      (h c _ (mem_uc main_v57_0 (by decide))).trans (end_delta_b_glu m ρ c),
      (h c _ (mem_uc main_v6 (by decide))).trans (end_new_m_a_re m ρ c),
      (h c _ (mem_uc main_v14 (by decide))).trans (end_new_m_a_im m ρ c),
      (h c _ (mem_uc main_v22 (by decide))).trans (end_new_m_b_re m ρ c),
      (h c _ (mem_uc main_v30 (by decide))).trans (end_new_m_b_im m ρ c),
      (h c _ (mem_uc main_v38 (by decide))).trans (end_new_m_c_re m ρ c),
      (h c _ (mem_uc main_v46 (by decide))).trans (end_new_m_c_im m ρ c),
      (h c _ (mem_uc main_v54 (by decide))).trans (end_new_m_d_skip m ρ c),
      (h c _ (mem_uc main_v56_1 (by decide))).trans (end_new_m_log_dt m ρ c),
      (h c _ (mem_uc main_v57_1 (by decide))).trans (end_new_m_b_glu m ρ c),
      (h c _ (mem_uc main_v7 (by decide))).trans (end_new_v_a_re m ρ c),
      (h c _ (mem_uc main_v15 (by decide))).trans (end_new_v_a_im m ρ c),
      (h c _ (mem_uc main_v23 (by decide))).trans (end_new_v_b_re m ρ c),
      (h c _ (mem_uc main_v31 (by decide))).trans (end_new_v_b_im m ρ c),
      (h c _ (mem_uc main_v39 (by decide))).trans (end_new_v_c_re m ρ c),
      (h c _ (mem_uc main_v47 (by decide))).trans (end_new_v_c_im m ρ c),
      (h c _ (mem_uc main_v55 (by decide))).trans (end_new_v_d_skip m ρ c),
      (h c _ (mem_uc main_v56_2 (by decide))).trans (end_new_v_log_dt m ρ c),
      (h c _ (mem_uc main_v57_2 (by decide))).trans (end_new_v_b_glu m ρ c)⟩,
      ⟨(h c _ (mem_uc main_arg0 (by decide))).trans (W17_main_arg0 m ρ c),
      (h c _ (mem_uc main_arg1 (by decide))).trans (W17_main_arg1 m ρ c),
      (h c _ (mem_uc main_arg2 (by decide))).trans (W17_main_arg2 m ρ c),
      (h c _ (mem_uc main_arg3 (by decide))).trans (W17_main_arg3 m ρ c),
      (h c _ (mem_uc main_arg4 (by decide))).trans (W17_main_arg4 m ρ c),
      (h c _ (mem_uc main_arg5 (by decide))).trans (W17_main_arg5 m ρ c),
      (h c _ (mem_uc main_arg6 (by decide))).trans (W17_main_arg6 m ρ c),
      (h c _ (mem_uc main_arg7 (by decide))).trans (W17_main_arg7 m ρ c),
      (h c _ (mem_uc main_arg8 (by decide))).trans (W17_main_arg8 m ρ c),
      (h c _ (mem_uc main_arg9 (by decide))).trans (W17_main_arg9 m ρ c),
      (h c _ (mem_uc main_arg10 (by decide))).trans (W17_main_arg10 m ρ c),
      (h c _ (mem_uc main_arg11 (by decide))).trans (W17_main_arg11 m ρ c),
      (h c _ (mem_uc main_arg12 (by decide))).trans (W17_main_arg12 m ρ c),
      (h c _ (mem_uc main_arg13 (by decide))).trans (W17_main_arg13 m ρ c),
      (h c _ (mem_uc main_arg14 (by decide))).trans (W17_main_arg14 m ρ c),
      (h c _ (mem_uc main_arg15 (by decide))).trans (W17_main_arg15 m ρ c),
      (h c _ (mem_uc main_arg16 (by decide))).trans (W17_main_arg16 m ρ c),
      (h c _ (mem_uc main_arg17 (by decide))).trans (W17_main_arg17 m ρ c),
      (h c _ (mem_uc main_arg18 (by decide))).trans (W17_main_arg18 m ρ c),
      (h c _ (mem_uc main_arg19 (by decide))).trans (W17_main_arg19 m ρ c),
      (h c _ (mem_uc main_arg20 (by decide))).trans (W17_main_arg20 m ρ c),
      (h c _ (mem_uc main_arg21 (by decide))).trans (W17_main_arg21 m ρ c),
      (h c _ (mem_uc main_arg22 (by decide))).trans (W17_main_arg22 m ρ c),
      (h c _ (mem_uc main_arg23 (by decide))).trans (W17_main_arg23 m ρ c),
      (h c _ (mem_uc main_arg24 (by decide))).trans (W17_main_arg24 m ρ c),
      (h c _ (mem_uc main_arg25 (by decide))).trans (W17_main_arg25 m ρ c),
      (h c _ (mem_uc main_arg26 (by decide))).trans (W17_main_arg26 m ρ c),
      (h c _ (mem_uc main_arg27 (by decide))).trans (W17_main_arg27 m ρ c),
      (h c _ (mem_uc main_arg28 (by decide))).trans (W17_main_arg28 m ρ c),
      (h c _ (mem_uc main_arg29 (by decide))).trans (W17_main_arg29 m ρ c),
      (h c _ (mem_uc main_arg30 (by decide))).trans (W17_main_arg30 m ρ c),
      (h c _ (mem_uc main_arg31 (by decide))).trans (W17_main_arg31 m ρ c),
      (h c _ (mem_uc main_arg32 (by decide))).trans (W17_main_arg32 m ρ c),
      (h c _ (mem_uc main_arg33 (by decide))).trans (W17_main_arg33 m ρ c),
      (h c _ (mem_uc main_arg34 (by decide))).trans (W17_main_arg34 m ρ c),
      (h c _ (mem_uc main_arg35 (by decide))).trans (W17_main_arg35 m ρ c)⟩⟩)

end Cert.Kernel3Ideal.Value

end
-- ==== Proof.Reference3.lean ====
/- The reference of the optimiser's step on the recurrence's weights: what it writes is the same step. -/
module

public import proofs.«01_k».proof.Proof.Spec3
public import proofs.«01_k».proof.Proof.Gen.Reference3Ideal.Run
public import Idealize.ShloMosaic.Lib.Pointwise

@[expose] public section

set_option maxRecDepth 16384

noncomputable section

namespace Cert.Reference3Ideal.Value

open Idealize.ShloMosaic Idealize.ShloMosaic.TcCoe Idealize.SL.Sem
open Idealize.ShloMosaic.Pipeline (Dat)
open Cert.Reference3Ideal Cert.Reference3Ideal.Gen Cert.Math

/-! ## The step, in the reference's operations -/

/-- A constant of any shape. -/
def fill (s : Shape) (h : S_.BroadcastsInDim s (![] : Fin 0 → Fin s.rank)) (b : BitVec 32) : FVec Ideal s .f32 :=
  broadcastInDim s ![] h (constant S_ .f32 b)

/-- The new first moment. -/
def hostM (s : Shape) (h : S_.BroadcastsInDim s (![] : Fin 0 → Fin s.rank)) (g m : FVec Ideal s .f32) : FVec Ideal s .f32 :=
  addf (mulf (fill s h 0x3F666666#32) m) (mulf (fill s h 0x3DCCCCCD#32) g)

/-- The new second moment. -/
def hostV (s : Shape) (h : S_.BroadcastsInDim s (![] : Fin 0 → Fin s.rank)) (g v : FVec Ideal s .f32) : FVec Ideal s .f32 :=
  addf (mulf (fill s h 0x3F7FBE77#32) v) (mulf (fill s h 0x3A83126F#32) (mulf g g))

/-- The change. -/
def hostDelta (s : Shape) (h : S_.BroadcastsInDim s (![] : Fin 0 → Fin s.rank)) (w g m v : FVec Ideal s .f32) : FVec Ideal s .f32 :=
  mulf (fill s h 0xBA83126F#32)
    (addf (Host.divf (Host.divf (hostM s h g m) (fill s h 0x3F26BD02#32))
        (addf (Host.sqrt (Host.divf (hostV s h g v) (fill s h 0x3C231ACC#32))) (fill s h 0x322BCC77#32)))
      (mulf (fill s h 0x3C23D70A#32) w))

theorem hostM_eq (s : Shape) (h) (g m : FVec Ideal s .f32) : hostM s h g m = newM s g m := by
  funext i
  rfl

theorem hostV_eq (s : Shape) (h) (g v : FVec Ideal s .f32) : hostV s h g v = newV s g v := by
  funext i
  rfl

theorem hostDelta_eq (s : Shape) (h) (w g m v : FVec Ideal s .f32) : hostDelta s h w g m v = newDelta s w g m v := by
  funext i
  rfl

variable (m : (ℓ : Loc nD τ sig) → Buf (Elt Ideal) ℓ) (c : Dev nD)

/-! ## The arguments at their literal types: weights, summed gradients, first and second moments -/

abbrev aW0 : FVec Ideal S4x32x64 .f32 := m ((c : Thread nD τ).loc main_arg0)
abbrev aG0 : FVec Ideal S4x32x64 .f32 := m ((c : Thread nD τ).loc main_arg9)
abbrev aM0 : FVec Ideal S4x32x64 .f32 := m ((c : Thread nD τ).loc main_arg18)
abbrev aV0 : FVec Ideal S4x32x64 .f32 := m ((c : Thread nD τ).loc main_arg27)
abbrev aW1 : FVec Ideal S4x32x64 .f32 := m ((c : Thread nD τ).loc main_arg1)
abbrev aG1 : FVec Ideal S4x32x64 .f32 := m ((c : Thread nD τ).loc main_arg10)
abbrev aM1 : FVec Ideal S4x32x64 .f32 := m ((c : Thread nD τ).loc main_arg19)
abbrev aV1 : FVec Ideal S4x32x64 .f32 := m ((c : Thread nD τ).loc main_arg28)
abbrev aW2 : FVec Ideal S4x32x64x16 .f32 := m ((c : Thread nD τ).loc main_arg2)
abbrev aG2 : FVec Ideal S4x32x64x16 .f32 := m ((c : Thread nD τ).loc main_arg11)
abbrev aM2 : FVec Ideal S4x32x64x16 .f32 := m ((c : Thread nD τ).loc main_arg20)
abbrev aV2 : FVec Ideal S4x32x64x16 .f32 := m ((c : Thread nD τ).loc main_arg29)
abbrev aW3 : FVec Ideal S4x32x64x16 .f32 := m ((c : Thread nD τ).loc main_arg3)
abbrev aG3 : FVec Ideal S4x32x64x16 .f32 := m ((c : Thread nD τ).loc main_arg12)
abbrev aM3 : FVec Ideal S4x32x64x16 .f32 := m ((c : Thread nD τ).loc main_arg21)
abbrev aV3 : FVec Ideal S4x32x64x16 .f32 := m ((c : Thread nD τ).loc main_arg30)
abbrev aW4 : FVec Ideal S4x32x16x64 .f32 := m ((c : Thread nD τ).loc main_arg4)
abbrev aG4 : FVec Ideal S4x32x16x64 .f32 := m ((c : Thread nD τ).loc main_arg13)
abbrev aM4 : FVec Ideal S4x32x16x64 .f32 := m ((c : Thread nD τ).loc main_arg22)
abbrev aV4 : FVec Ideal S4x32x16x64 .f32 := m ((c : Thread nD τ).loc main_arg31)
abbrev aW5 : FVec Ideal S4x32x16x64 .f32 := m ((c : Thread nD τ).loc main_arg5)
abbrev aG5 : FVec Ideal S4x32x16x64 .f32 := m ((c : Thread nD τ).loc main_arg14)
abbrev aM5 : FVec Ideal S4x32x16x64 .f32 := m ((c : Thread nD τ).loc main_arg23)
abbrev aV5 : FVec Ideal S4x32x16x64 .f32 := m ((c : Thread nD τ).loc main_arg32)
abbrev aW6 : FVec Ideal S4x32x16 .f32 := m ((c : Thread nD τ).loc main_arg6)
abbrev aG6 : FVec Ideal S4x32x16 .f32 := m ((c : Thread nD τ).loc main_arg15)
abbrev aM6 : FVec Ideal S4x32x16 .f32 := m ((c : Thread nD τ).loc main_arg24)
abbrev aV6 : FVec Ideal S4x32x16 .f32 := m ((c : Thread nD τ).loc main_arg33)
abbrev aW7 : FVec Ideal S4x32 .f32 := m ((c : Thread nD τ).loc main_arg7)
abbrev aG7 : FVec Ideal S4x32 .f32 := m ((c : Thread nD τ).loc main_arg16)
abbrev aM7 : FVec Ideal S4x32 .f32 := m ((c : Thread nD τ).loc main_arg25)
abbrev aV7 : FVec Ideal S4x32 .f32 := m ((c : Thread nD τ).loc main_arg34)
abbrev aW8 : FVec Ideal S4x1024 .f32 := m ((c : Thread nD τ).loc main_arg8)
abbrev aG8 : FVec Ideal S4x1024 .f32 := m ((c : Thread nD τ).loc main_arg17)
abbrev aM8 : FVec Ideal S4x1024 .f32 := m ((c : Thread nD τ).loc main_arg26)
abbrev aV8 : FVec Ideal S4x1024 .f32 := m ((c : Thread nD τ).loc main_arg35)

/-- The reference's run: every result is the step, the arguments end as they began. -/
theorem run_math (ρ : Dev nD → PrngReg) :
    θ_run defs (onTc (τ := τ) (main (F := Ideal))) ⟨m, fun _ => 0, ρ⟩ fun r => ∀ c : Dev nD,
      (r.2.mem ((c.tc : Thread nD τ).loc main_v23) = newDelta S4x32x64 (aW0 m c) (aG0 m c) (aM0 m c) (aV0 m c)
      ∧ r.2.mem ((c.tc : Thread nD τ).loc main_v47) = newDelta S4x32x64 (aW1 m c) (aG1 m c) (aM1 m c) (aV1 m c)
      ∧ r.2.mem ((c.tc : Thread nD τ).loc main_v71) = newDelta S4x32x64x16 (aW2 m c) (aG2 m c) (aM2 m c) (aV2 m c)
      ∧ r.2.mem ((c.tc : Thread nD τ).loc main_v95) = newDelta S4x32x64x16 (aW3 m c) (aG3 m c) (aM3 m c) (aV3 m c)
      ∧ r.2.mem ((c.tc : Thread nD τ).loc main_v119) = newDelta S4x32x16x64 (aW4 m c) (aG4 m c) (aM4 m c) (aV4 m c)
      ∧ r.2.mem ((c.tc : Thread nD τ).loc main_v143) = newDelta S4x32x16x64 (aW5 m c) (aG5 m c) (aM5 m c) (aV5 m c)
      ∧ r.2.mem ((c.tc : Thread nD τ).loc main_v167) = newDelta S4x32x16 (aW6 m c) (aG6 m c) (aM6 m c) (aV6 m c)
      ∧ r.2.mem ((c.tc : Thread nD τ).loc main_v191) = newDelta S4x32 (aW7 m c) (aG7 m c) (aM7 m c) (aV7 m c)
      ∧ r.2.mem ((c.tc : Thread nD τ).loc main_v215) = newDelta S4x1024 (aW8 m c) (aG8 m c) (aM8 m c) (aV8 m c)
      ∧ r.2.mem ((c.tc : Thread nD τ).loc main_v4) = newM S4x32x64 (aG0 m c) (aM0 m c)
      ∧ r.2.mem ((c.tc : Thread nD τ).loc main_v28) = newM S4x32x64 (aG1 m c) (aM1 m c)
      ∧ r.2.mem ((c.tc : Thread nD τ).loc main_v52) = newM S4x32x64x16 (aG2 m c) (aM2 m c)
      ∧ r.2.mem ((c.tc : Thread nD τ).loc main_v76) = newM S4x32x64x16 (aG3 m c) (aM3 m c)
      ∧ r.2.mem ((c.tc : Thread nD τ).loc main_v100) = newM S4x32x16x64 (aG4 m c) (aM4 m c)
      ∧ r.2.mem ((c.tc : Thread nD τ).loc main_v124) = newM S4x32x16x64 (aG5 m c) (aM5 m c)
      ∧ r.2.mem ((c.tc : Thread nD τ).loc main_v148) = newM S4x32x16 (aG6 m c) (aM6 m c)
      ∧ r.2.mem ((c.tc : Thread nD τ).loc main_v172) = newM S4x32 (aG7 m c) (aM7 m c)
      ∧ r.2.mem ((c.tc : Thread nD τ).loc main_v196) = newM S4x1024 (aG8 m c) (aM8 m c)
      ∧ r.2.mem ((c.tc : Thread nD τ).loc main_v10) = newV S4x32x64 (aG0 m c) (aV0 m c)
      ∧ r.2.mem ((c.tc : Thread nD τ).loc main_v34) = newV S4x32x64 (aG1 m c) (aV1 m c)
      ∧ r.2.mem ((c.tc : Thread nD τ).loc main_v58) = newV S4x32x64x16 (aG2 m c) (aV2 m c)
      ∧ r.2.mem ((c.tc : Thread nD τ).loc main_v82) = newV S4x32x64x16 (aG3 m c) (aV3 m c)
      ∧ r.2.mem ((c.tc : Thread nD τ).loc main_v106) = newV S4x32x16x64 (aG4 m c) (aV4 m c)
      ∧ r.2.mem ((c.tc : Thread nD τ).loc main_v130) = newV S4x32x16x64 (aG5 m c) (aV5 m c)
      ∧ r.2.mem ((c.tc : Thread nD τ).loc main_v154) = newV S4x32x16 (aG6 m c) (aV6 m c)
      ∧ r.2.mem ((c.tc : Thread nD τ).loc main_v178) = newV S4x32 (aG7 m c) (aV7 m c)
      ∧ r.2.mem ((c.tc : Thread nD τ).loc main_v202) = newV S4x1024 (aG8 m c) (aV8 m c))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)) :=
  (θ_run defs _ _).mono (fun r h c => by
    obtain ⟨h0, h1, h2, h3, h4, h5, h6, h7, h8, h9, h10, h11, h12, h13, h14, h15, h16, h17, h18, h19, h20, h21, h22, h23, h24, h25, h26, ha⟩ := h c
    have e0 := (h0.trans (show _ = hostDelta S4x32x64 bcast_S_S4x32x64 (aW0 m c) (aG0 m c) (aM0 m c) (aV0 m c) from rfl)).trans (hostDelta_eq S4x32x64 bcast_S_S4x32x64 (aW0 m c) (aG0 m c) (aM0 m c) (aV0 m c))
    have e1 := (h1.trans (show _ = hostDelta S4x32x64 bcast_S_S4x32x64 (aW1 m c) (aG1 m c) (aM1 m c) (aV1 m c) from rfl)).trans (hostDelta_eq S4x32x64 bcast_S_S4x32x64 (aW1 m c) (aG1 m c) (aM1 m c) (aV1 m c))
    have e2 := (h2.trans (show _ = hostDelta S4x32x64x16 bcast_S_S4x32x64x16 (aW2 m c) (aG2 m c) (aM2 m c) (aV2 m c) from rfl)).trans (hostDelta_eq S4x32x64x16 bcast_S_S4x32x64x16 (aW2 m c) (aG2 m c) (aM2 m c) (aV2 m c))
    have e3 := (h3.trans (show _ = hostDelta S4x32x64x16 bcast_S_S4x32x64x16 (aW3 m c) (aG3 m c) (aM3 m c) (aV3 m c) from rfl)).trans (hostDelta_eq S4x32x64x16 bcast_S_S4x32x64x16 (aW3 m c) (aG3 m c) (aM3 m c) (aV3 m c))
    have e4 := (h4.trans (show _ = hostDelta S4x32x16x64 bcast_S_S4x32x16x64 (aW4 m c) (aG4 m c) (aM4 m c) (aV4 m c) from rfl)).trans (hostDelta_eq S4x32x16x64 bcast_S_S4x32x16x64 (aW4 m c) (aG4 m c) (aM4 m c) (aV4 m c))
    have e5 := (h5.trans (show _ = hostDelta S4x32x16x64 bcast_S_S4x32x16x64 (aW5 m c) (aG5 m c) (aM5 m c) (aV5 m c) from rfl)).trans (hostDelta_eq S4x32x16x64 bcast_S_S4x32x16x64 (aW5 m c) (aG5 m c) (aM5 m c) (aV5 m c))
    have e6 := (h6.trans (show _ = hostDelta S4x32x16 bcast_S_S4x32x16 (aW6 m c) (aG6 m c) (aM6 m c) (aV6 m c) from rfl)).trans (hostDelta_eq S4x32x16 bcast_S_S4x32x16 (aW6 m c) (aG6 m c) (aM6 m c) (aV6 m c))
    have e7 := (h7.trans (show _ = hostDelta S4x32 bcast_S_S4x32 (aW7 m c) (aG7 m c) (aM7 m c) (aV7 m c) from rfl)).trans (hostDelta_eq S4x32 bcast_S_S4x32 (aW7 m c) (aG7 m c) (aM7 m c) (aV7 m c))
    have e8 := (h8.trans (show _ = hostDelta S4x1024 bcast_S_S4x1024 (aW8 m c) (aG8 m c) (aM8 m c) (aV8 m c) from rfl)).trans (hostDelta_eq S4x1024 bcast_S_S4x1024 (aW8 m c) (aG8 m c) (aM8 m c) (aV8 m c))
    have e9 := (h9.trans (show _ = hostM S4x32x64 bcast_S_S4x32x64 (aG0 m c) (aM0 m c) from rfl)).trans (hostM_eq S4x32x64 bcast_S_S4x32x64 (aG0 m c) (aM0 m c))
    have e10 := (h10.trans (show _ = hostM S4x32x64 bcast_S_S4x32x64 (aG1 m c) (aM1 m c) from rfl)).trans (hostM_eq S4x32x64 bcast_S_S4x32x64 (aG1 m c) (aM1 m c))
    have e11 := (h11.trans (show _ = hostM S4x32x64x16 bcast_S_S4x32x64x16 (aG2 m c) (aM2 m c) from rfl)).trans (hostM_eq S4x32x64x16 bcast_S_S4x32x64x16 (aG2 m c) (aM2 m c))
    have e12 := (h12.trans (show _ = hostM S4x32x64x16 bcast_S_S4x32x64x16 (aG3 m c) (aM3 m c) from rfl)).trans (hostM_eq S4x32x64x16 bcast_S_S4x32x64x16 (aG3 m c) (aM3 m c))
    have e13 := (h13.trans (show _ = hostM S4x32x16x64 bcast_S_S4x32x16x64 (aG4 m c) (aM4 m c) from rfl)).trans (hostM_eq S4x32x16x64 bcast_S_S4x32x16x64 (aG4 m c) (aM4 m c))
    have e14 := (h14.trans (show _ = hostM S4x32x16x64 bcast_S_S4x32x16x64 (aG5 m c) (aM5 m c) from rfl)).trans (hostM_eq S4x32x16x64 bcast_S_S4x32x16x64 (aG5 m c) (aM5 m c))
    have e15 := (h15.trans (show _ = hostM S4x32x16 bcast_S_S4x32x16 (aG6 m c) (aM6 m c) from rfl)).trans (hostM_eq S4x32x16 bcast_S_S4x32x16 (aG6 m c) (aM6 m c))
    have e16 := (h16.trans (show _ = hostM S4x32 bcast_S_S4x32 (aG7 m c) (aM7 m c) from rfl)).trans (hostM_eq S4x32 bcast_S_S4x32 (aG7 m c) (aM7 m c))
    have e17 := (h17.trans (show _ = hostM S4x1024 bcast_S_S4x1024 (aG8 m c) (aM8 m c) from rfl)).trans (hostM_eq S4x1024 bcast_S_S4x1024 (aG8 m c) (aM8 m c))
    have e18 := (h18.trans (show _ = hostV S4x32x64 bcast_S_S4x32x64 (aG0 m c) (aV0 m c) from rfl)).trans (hostV_eq S4x32x64 bcast_S_S4x32x64 (aG0 m c) (aV0 m c))
    have e19 := (h19.trans (show _ = hostV S4x32x64 bcast_S_S4x32x64 (aG1 m c) (aV1 m c) from rfl)).trans (hostV_eq S4x32x64 bcast_S_S4x32x64 (aG1 m c) (aV1 m c))
    have e20 := (h20.trans (show _ = hostV S4x32x64x16 bcast_S_S4x32x64x16 (aG2 m c) (aV2 m c) from rfl)).trans (hostV_eq S4x32x64x16 bcast_S_S4x32x64x16 (aG2 m c) (aV2 m c))
    have e21 := (h21.trans (show _ = hostV S4x32x64x16 bcast_S_S4x32x64x16 (aG3 m c) (aV3 m c) from rfl)).trans (hostV_eq S4x32x64x16 bcast_S_S4x32x64x16 (aG3 m c) (aV3 m c))
    have e22 := (h22.trans (show _ = hostV S4x32x16x64 bcast_S_S4x32x16x64 (aG4 m c) (aV4 m c) from rfl)).trans (hostV_eq S4x32x16x64 bcast_S_S4x32x16x64 (aG4 m c) (aV4 m c))
    have e23 := (h23.trans (show _ = hostV S4x32x16x64 bcast_S_S4x32x16x64 (aG5 m c) (aV5 m c) from rfl)).trans (hostV_eq S4x32x16x64 bcast_S_S4x32x16x64 (aG5 m c) (aV5 m c))
    have e24 := (h24.trans (show _ = hostV S4x32x16 bcast_S_S4x32x16 (aG6 m c) (aV6 m c) from rfl)).trans (hostV_eq S4x32x16 bcast_S_S4x32x16 (aG6 m c) (aV6 m c))
    have e25 := (h25.trans (show _ = hostV S4x32 bcast_S_S4x32 (aG7 m c) (aV7 m c) from rfl)).trans (hostV_eq S4x32 bcast_S_S4x32 (aG7 m c) (aV7 m c))
    have e26 := (h26.trans (show _ = hostV S4x1024 bcast_S_S4x1024 (aG8 m c) (aV8 m c) from rfl)).trans (hostV_eq S4x1024 bcast_S_S4x1024 (aG8 m c) (aV8 m c))
    exact ⟨⟨e0, e1, e2, e3, e4, e5, e6, e7, e8, e9, e10, e11, e12, e13, e14, e15, e16, e17, e18, e19, e20, e21, e22, e23, e24, e25, e26⟩, ha⟩) (run m ρ)

end Cert.Reference3Ideal.Value

end
-- ==== Proof.Claims3.lean ====
/- The claims that speak of the reference of the optimiser's step on the recurrence's weights: its frame, and the equality of the kernel's
   results with it. -/
module

public import proofs.«01_k».proof.Defs
public import proofs.«01_k».proof.Proof.Run3
public import proofs.«01_k».proof.Proof.Reference3
public import Idealize.ShloMosaic.Lib.Claim

@[expose] public section

set_option maxRecDepth 16384

noncomputable section

namespace Cert.Proof.Recurrence

open Idealize.ShloMosaic Idealize.SL.Sem Cert.Math
open Cert.Kernel3Ideal.Value

/-- The reference's frame. -/
theorem frame_ri : Cert.quiescent_Reference3Ideal := fun m ρ _ =>
  (θ_run Cert.Reference3Ideal.defs _ _).mono (fun r h => ⟨fun c => (h c).2, sem_eq_zero_of_no_sems (by decide) r.2⟩)
    (Cert.Reference3Ideal.Value.run_math m ρ)

/-- The kernel's results are the reference's: both are the same step on the same arguments. -/
theorem algebraic : Cert.algebraic_Kernel3Ideal_Reference3Ideal := by
  intro m g m' g' _ h
  refine ⟨fun c => newDelta Cert.Kernel3Ideal.S4x32x64 (aW0 m c) (aG0 m c) (aM0 m c) (aV0 m c),
    fun c => newDelta Cert.Kernel3Ideal.S4x32x64 (aW1 m c) (aG1 m c) (aM1 m c) (aV1 m c),
    fun c => newDelta Cert.Kernel3Ideal.S4x32x64x16 (aW2 m c) (aG2 m c) (aM2 m c) (aV2 m c),
    fun c => newDelta Cert.Kernel3Ideal.S4x32x64x16 (aW3 m c) (aG3 m c) (aM3 m c) (aV3 m c),
    fun c => newDelta Cert.Kernel3Ideal.S4x32x16x64 (aW4 m c) (aG4 m c) (aM4 m c) (aV4 m c),
    fun c => newDelta Cert.Kernel3Ideal.S4x32x16x64 (aW5 m c) (aG5 m c) (aM5 m c) (aV5 m c),
    fun c => newDelta Cert.Kernel3Ideal.S4x32x16 (aW6 m c) (aG6 m c) (aM6 m c) (aV6 m c),
    fun c => newDelta Cert.Kernel3Ideal.S4x32 (aW7 m c) (aG7 m c) (aM7 m c) (aV7 m c),
    fun c => newDelta Cert.Kernel3Ideal.S4x1024 (aW8 m c) (aG8 m c) (aM8 m c) (aV8 m c),
    fun c => newM Cert.Kernel3Ideal.S4x32x64 (aG0 m c) (aM0 m c),
    fun c => newM Cert.Kernel3Ideal.S4x32x64 (aG1 m c) (aM1 m c),
    fun c => newM Cert.Kernel3Ideal.S4x32x64x16 (aG2 m c) (aM2 m c),
    fun c => newM Cert.Kernel3Ideal.S4x32x64x16 (aG3 m c) (aM3 m c),
    fun c => newM Cert.Kernel3Ideal.S4x32x16x64 (aG4 m c) (aM4 m c),
    fun c => newM Cert.Kernel3Ideal.S4x32x16x64 (aG5 m c) (aM5 m c),
    fun c => newM Cert.Kernel3Ideal.S4x32x16 (aG6 m c) (aM6 m c),
    fun c => newM Cert.Kernel3Ideal.S4x32 (aG7 m c) (aM7 m c),
    fun c => newM Cert.Kernel3Ideal.S4x1024 (aG8 m c) (aM8 m c),
    fun c => newV Cert.Kernel3Ideal.S4x32x64 (aG0 m c) (aV0 m c),
    fun c => newV Cert.Kernel3Ideal.S4x32x64 (aG1 m c) (aV1 m c),
    fun c => newV Cert.Kernel3Ideal.S4x32x64x16 (aG2 m c) (aV2 m c),
    fun c => newV Cert.Kernel3Ideal.S4x32x64x16 (aG3 m c) (aV3 m c),
    fun c => newV Cert.Kernel3Ideal.S4x32x16x64 (aG4 m c) (aV4 m c),
    fun c => newV Cert.Kernel3Ideal.S4x32x16x64 (aG5 m c) (aV5 m c),
    fun c => newV Cert.Kernel3Ideal.S4x32x16 (aG6 m c) (aV6 m c),
    fun c => newV Cert.Kernel3Ideal.S4x32 (aG7 m c) (aV7 m c),
    fun c => newV Cert.Kernel3Ideal.S4x1024 (aG8 m c) (aV8 m c),
    (θ_run _ _ _).mono (fun r hr c => ?_) (Cert.Kernel3Ideal.Value.run_math m g),
    (θ_run _ _ _).mono (fun r hr c => ?_) (Cert.Reference3Ideal.Value.run_math m' g')⟩
  · obtain ⟨⟨h0, h1, h2, h3, h4, h5, h6, h7, h8, h9, h10, h11, h12, h13, h14, h15, h16, h17, h18, h19, h20, h21, h22, h23, h24, h25, h26⟩, ha⟩ := hr c
    exact ⟨h0, h1, h2, h3, h4, h5, h6, h7, h8, h9, h10, h11, h12, h13, h14, h15, h16, h17, h18, h19, h20, h21, h22, h23, h24, h25, h26, ha⟩
  · obtain ⟨⟨h0, h1, h2, h3, h4, h5, h6, h7, h8, h9, h10, h11, h12, h13, h14, h15, h16, h17, h18, h19, h20, h21, h22, h23, h24, h25, h26⟩, ha⟩ := hr c
    obtain ⟨e0, e1, e2, e3, e4, e5, e6, e7, e8, e9, e10, e11, e12, e13, e14, e15, e16, e17, e18, e19, e20, e21, e22, e23, e24, e25, e26, e27, e28, e29, e30, e31, e32, e33, e34, e35⟩ := h c
    have kW0 : Cert.Reference3Ideal.Value.aW0 m' c = aW0 m c := e0
    have kW1 : Cert.Reference3Ideal.Value.aW1 m' c = aW1 m c := e1
    have kW2 : Cert.Reference3Ideal.Value.aW2 m' c = aW2 m c := e2
    have kW3 : Cert.Reference3Ideal.Value.aW3 m' c = aW3 m c := e3
    have kW4 : Cert.Reference3Ideal.Value.aW4 m' c = aW4 m c := e4
    have kW5 : Cert.Reference3Ideal.Value.aW5 m' c = aW5 m c := e5
    have kW6 : Cert.Reference3Ideal.Value.aW6 m' c = aW6 m c := e6
    have kW7 : Cert.Reference3Ideal.Value.aW7 m' c = aW7 m c := e7
    have kW8 : Cert.Reference3Ideal.Value.aW8 m' c = aW8 m c := e8
    have kG0 : Cert.Reference3Ideal.Value.aG0 m' c = aG0 m c := e9
    have kG1 : Cert.Reference3Ideal.Value.aG1 m' c = aG1 m c := e10
    have kG2 : Cert.Reference3Ideal.Value.aG2 m' c = aG2 m c := e11
    have kG3 : Cert.Reference3Ideal.Value.aG3 m' c = aG3 m c := e12
    have kG4 : Cert.Reference3Ideal.Value.aG4 m' c = aG4 m c := e13
    have kG5 : Cert.Reference3Ideal.Value.aG5 m' c = aG5 m c := e14
    have kG6 : Cert.Reference3Ideal.Value.aG6 m' c = aG6 m c := e15
    have kG7 : Cert.Reference3Ideal.Value.aG7 m' c = aG7 m c := e16
    have kG8 : Cert.Reference3Ideal.Value.aG8 m' c = aG8 m c := e17
    have kM0 : Cert.Reference3Ideal.Value.aM0 m' c = aM0 m c := e18
    have kM1 : Cert.Reference3Ideal.Value.aM1 m' c = aM1 m c := e19
    have kM2 : Cert.Reference3Ideal.Value.aM2 m' c = aM2 m c := e20
    have kM3 : Cert.Reference3Ideal.Value.aM3 m' c = aM3 m c := e21
    have kM4 : Cert.Reference3Ideal.Value.aM4 m' c = aM4 m c := e22
    have kM5 : Cert.Reference3Ideal.Value.aM5 m' c = aM5 m c := e23
    have kM6 : Cert.Reference3Ideal.Value.aM6 m' c = aM6 m c := e24
    have kM7 : Cert.Reference3Ideal.Value.aM7 m' c = aM7 m c := e25
    have kM8 : Cert.Reference3Ideal.Value.aM8 m' c = aM8 m c := e26
    have kV0 : Cert.Reference3Ideal.Value.aV0 m' c = aV0 m c := e27
    have kV1 : Cert.Reference3Ideal.Value.aV1 m' c = aV1 m c := e28
    have kV2 : Cert.Reference3Ideal.Value.aV2 m' c = aV2 m c := e29
    have kV3 : Cert.Reference3Ideal.Value.aV3 m' c = aV3 m c := e30
    have kV4 : Cert.Reference3Ideal.Value.aV4 m' c = aV4 m c := e31
    have kV5 : Cert.Reference3Ideal.Value.aV5 m' c = aV5 m c := e32
    have kV6 : Cert.Reference3Ideal.Value.aV6 m' c = aV6 m c := e33
    have kV7 : Cert.Reference3Ideal.Value.aV7 m' c = aV7 m c := e34
    have kV8 : Cert.Reference3Ideal.Value.aV8 m' c = aV8 m c := e35
    rw [kW0, kG0, kM0, kV0] at h0
    rw [kW1, kG1, kM1, kV1] at h1
    rw [kW2, kG2, kM2, kV2] at h2
    rw [kW3, kG3, kM3, kV3] at h3
    rw [kW4, kG4, kM4, kV4] at h4
    rw [kW5, kG5, kM5, kV5] at h5
    rw [kW6, kG6, kM6, kV6] at h6
    rw [kW7, kG7, kM7, kV7] at h7
    rw [kW8, kG8, kM8, kV8] at h8
    rw [kG0, kM0] at h9
    rw [kG1, kM1] at h10
    rw [kG2, kM2] at h11
    rw [kG3, kM3] at h12
    rw [kG4, kM4] at h13
    rw [kG5, kM5] at h14
    rw [kG6, kM6] at h15
    rw [kG7, kM7] at h16
    rw [kG8, kM8] at h17
    rw [kG0, kV0] at h18
    rw [kG1, kV1] at h19
    rw [kG2, kV2] at h20
    rw [kG3, kV3] at h21
    rw [kG4, kV4] at h22
    rw [kG5, kV5] at h23
    rw [kG6, kV6] at h24
    rw [kG7, kV7] at h25
    rw [kG8, kV8] at h26
    exact ⟨h0, h1, h2, h3, h4, h5, h6, h7, h8, h9, h10, h11, h12, h13, h14, h15, h16, h17, h18, h19, h20, h21, h22, h23, h24, h25, h26, ha⟩

end Cert.Proof.Recurrence

end
-- ==== Proof.Adam4A.lean ====
/- What the calls of the optimiser's step on `g_mix`, `g_q`, `g_kv` leave in their three output
   arrays. -/
module

public import proofs.«01_k».proof.Proof.Spec3
public import proofs.«01_k».proof.Proof.Gen.Kernel4Ideal.Frame.Region0
public import proofs.«01_k».proof.Proof.Gen.Kernel4Ideal.Frame.Region1
public import proofs.«01_k».proof.Proof.Gen.Kernel4Ideal.Frame.Region2
public import Idealize.ShloMosaic.Lib.Pipeline.ValueKit
public import Idealize.ShloMosaic.Lib.Pointwise

@[expose] public section

set_option maxRecDepth 16384

noncomputable section

namespace Cert.Kernel4Ideal.Value

open Idealize.ShloMosaic Idealize.ShloMosaic.TcCoe Idealize.SL.Sem
open Idealize.ShloMosaic.Pipeline (Dat)
open Cert.Kernel4Ideal Cert.Kernel4Ideal.Gen Cert.Math

variable (V : (c : Dev nD) → (b : Ref sig .tc) → Buf (Elt Ideal) ((c : Thread nD τ).loc b)) (c : Dev nD)

/-! ## `g_mix` -/

/-- The blocks region 0 reads and writes at each grid point. -/
theorem idx0 : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-- One block's first moment. -/
theorem k0_pay1_eq (g m : FVec Ideal S4x2048 .f32) : k0_pay1 g m = newM S4x2048 g m := by
  funext i
  pointwise [k0_pay1, newM, stepM]

/-- One block's second moment. -/
theorem k0_pay2_eq (g v : FVec Ideal S4x2048 .f32) : k0_pay2 g v = newV S4x2048 g v := by
  funext i
  pointwise [k0_pay2, newV, stepV]

/-- One block's change. -/
theorem k0_pay3_eq (w g m v : FVec Ideal S4x2048 .f32) : k0_pay3 w g m v = newDelta S4x2048 w g m v := by
  funext i
  pointwise [k0_pay3, k0_pay1_eq, k0_pay2_eq, newM, newV, newDelta, stepDelta]

/-- The change of `g_mix`. -/
theorem final0_delta : (dat0 V c).arrAt 4 cfg0.N = newDelta S4x2048 (V c main_arg0) (V c main_arg8) (V c main_arg16) (V c main_arg24) := by
  refine (dat0 V c).arrAt_eq_of_covers 4 _ (by decide +kernel) fun t _ y => ?_
  blk_simp
  rw [after0_4]; frame_out
  rw [k0_pay3_eq]
  show stepDelta _ _ _ _ = stepDelta _ _ _ _
  congr 1 <;> blk_point [iblk0, idx0 t]

/-- The new first moment of `g_mix`. -/
theorem final0_new_m : (dat0 V c).arrAt 5 cfg0.N = newM S4x2048 (V c main_arg8) (V c main_arg16) := by
  refine (dat0 V c).arrAt_eq_of_covers 5 _ (by decide +kernel) fun t _ y => ?_
  blk_simp
  rw [after0_5]; frame_out
  rw [k0_pay1_eq]
  show stepM _ _ = stepM _ _
  congr 1 <;> blk_point [iblk0, idx0 t]

/-- The new second moment of `g_mix`. -/
theorem final0_new_v : (dat0 V c).arrAt 6 cfg0.N = newV S4x2048 (V c main_arg8) (V c main_arg24) := by
  refine (dat0 V c).arrAt_eq_of_covers 6 _ (by decide +kernel) fun t _ y => ?_
  blk_simp
  rw [after0_6]; frame_out
  rw [k0_pay2_eq]
  show stepV _ _ = stepV _ _
  congr 1 <;> blk_point [iblk0, idx0 t]

/-! ## `g_q` -/

/-- The blocks region 1 reads and writes at each grid point. -/
theorem idx1 : ∀ t : Fin cfg1.N, win1_0.index t = ![t.val, 0] ∧ win1_1.index t = ![t.val, 0] ∧ win1_2.index t = ![t.val, 0] ∧ win1_3.index t = ![t.val, 0] ∧ win1_4.index t = ![t.val, 0] ∧ win1_5.index t = ![t.val, 0] ∧ win1_6.index t = ![t.val, 0] :=
  (by decide +kernel : ∀ t : Fin grid1.N, _)

/-- One block's first moment. -/
theorem k1_pay1_eq (g m : FVec Ideal S4x512 .f32) : k1_pay1 g m = newM S4x512 g m := by
  funext i
  pointwise [k1_pay1, newM, stepM]

/-- One block's second moment. -/
theorem k1_pay2_eq (g v : FVec Ideal S4x512 .f32) : k1_pay2 g v = newV S4x512 g v := by
  funext i
  pointwise [k1_pay2, newV, stepV]

/-- One block's change. -/
theorem k1_pay3_eq (w g m v : FVec Ideal S4x512 .f32) : k1_pay3 w g m v = newDelta S4x512 w g m v := by
  funext i
  pointwise [k1_pay3, k1_pay1_eq, k1_pay2_eq, newM, newV, newDelta, stepDelta]

/-- The change of `g_q`. -/
theorem final1_delta : (dat1 V c).arrAt 4 cfg1.N = newDelta S4x512 (V c main_arg1) (V c main_arg9) (V c main_arg17) (V c main_arg25) := by
  refine (dat1 V c).arrAt_eq_of_covers 4 _ (by decide +kernel) fun t _ y => ?_
  blk_simp
  rw [after1_4]; frame_out
  rw [k1_pay3_eq]
  show stepDelta _ _ _ _ = stepDelta _ _ _ _
  congr 1 <;> blk_point [iblk1, idx1 t]

/-- The new first moment of `g_q`. -/
theorem final1_new_m : (dat1 V c).arrAt 5 cfg1.N = newM S4x512 (V c main_arg9) (V c main_arg17) := by
  refine (dat1 V c).arrAt_eq_of_covers 5 _ (by decide +kernel) fun t _ y => ?_
  blk_simp
  rw [after1_5]; frame_out
  rw [k1_pay1_eq]
  show stepM _ _ = stepM _ _
  congr 1 <;> blk_point [iblk1, idx1 t]

/-- The new second moment of `g_q`. -/
theorem final1_new_v : (dat1 V c).arrAt 6 cfg1.N = newV S4x512 (V c main_arg9) (V c main_arg25) := by
  refine (dat1 V c).arrAt_eq_of_covers 6 _ (by decide +kernel) fun t _ y => ?_
  blk_simp
  rw [after1_6]; frame_out
  rw [k1_pay2_eq]
  show stepV _ _ = stepV _ _
  congr 1 <;> blk_point [iblk1, idx1 t]

/-! ## `g_kv` -/

/-- The blocks region 2 reads and writes at each grid point. -/
theorem idx2 : ∀ t : Fin cfg2.N, win2_0.index t = ![t.val, 0] ∧ win2_1.index t = ![t.val, 0] ∧ win2_2.index t = ![t.val, 0] ∧ win2_3.index t = ![t.val, 0] ∧ win2_4.index t = ![t.val, 0] ∧ win2_5.index t = ![t.val, 0] ∧ win2_6.index t = ![t.val, 0] :=
  (by decide +kernel : ∀ t : Fin grid2.N, _)

/-- One block's first moment. -/
theorem k2_pay1_eq (g m : FVec Ideal S4x256 .f32) : k2_pay1 g m = newM S4x256 g m := by
  funext i
  pointwise [k2_pay1, newM, stepM]

/-- One block's second moment. -/
theorem k2_pay2_eq (g v : FVec Ideal S4x256 .f32) : k2_pay2 g v = newV S4x256 g v := by
  funext i
  pointwise [k2_pay2, newV, stepV]

/-- One block's change. -/
theorem k2_pay3_eq (w g m v : FVec Ideal S4x256 .f32) : k2_pay3 w g m v = newDelta S4x256 w g m v := by
  funext i
  pointwise [k2_pay3, k2_pay1_eq, k2_pay2_eq, newM, newV, newDelta, stepDelta]

/-- The change of `g_kv`. -/
theorem final2_delta : (dat2 V c).arrAt 4 cfg2.N = newDelta S4x256 (V c main_arg2) (V c main_arg10) (V c main_arg18) (V c main_arg26) := by
  refine (dat2 V c).arrAt_eq_of_covers 4 _ (by decide +kernel) fun t _ y => ?_
  blk_simp
  rw [after2_4]; frame_out
  rw [k2_pay3_eq]
  show stepDelta _ _ _ _ = stepDelta _ _ _ _
  congr 1 <;> blk_point [iblk2, idx2 t]

/-- The new first moment of `g_kv`. -/
theorem final2_new_m : (dat2 V c).arrAt 5 cfg2.N = newM S4x256 (V c main_arg10) (V c main_arg18) := by
  refine (dat2 V c).arrAt_eq_of_covers 5 _ (by decide +kernel) fun t _ y => ?_
  blk_simp
  rw [after2_5]; frame_out
  rw [k2_pay1_eq]
  show stepM _ _ = stepM _ _
  congr 1 <;> blk_point [iblk2, idx2 t]

/-- The new second moment of `g_kv`. -/
theorem final2_new_v : (dat2 V c).arrAt 6 cfg2.N = newV S4x256 (V c main_arg10) (V c main_arg26) := by
  refine (dat2 V c).arrAt_eq_of_covers 6 _ (by decide +kernel) fun t _ y => ?_
  blk_simp
  rw [after2_6]; frame_out
  rw [k2_pay2_eq]
  show stepV _ _ = stepV _ _
  congr 1 <;> blk_point [iblk2, idx2 t]

end Cert.Kernel4Ideal.Value

end
-- ==== Proof.Adam4B.lean ====
/- What the calls of the optimiser's step on `g_out_mla`, `g_out_ssm`, `g_out_dil` leave in their three output
   arrays. -/
module

public import proofs.«01_k».proof.Proof.Spec3
public import proofs.«01_k».proof.Proof.Gen.Kernel4Ideal.Frame.Region3
public import proofs.«01_k».proof.Proof.Gen.Kernel4Ideal.Frame.Region4
public import proofs.«01_k».proof.Proof.Gen.Kernel4Ideal.Frame.Region5
public import Idealize.ShloMosaic.Lib.Pipeline.ValueKit
public import Idealize.ShloMosaic.Lib.Pointwise

@[expose] public section

set_option maxRecDepth 16384

noncomputable section

namespace Cert.Kernel4Ideal.Value

open Idealize.ShloMosaic Idealize.ShloMosaic.TcCoe Idealize.SL.Sem
open Idealize.ShloMosaic.Pipeline (Dat)
open Cert.Kernel4Ideal Cert.Kernel4Ideal.Gen Cert.Math

variable (V : (c : Dev nD) → (b : Ref sig .tc) → Buf (Elt Ideal) ((c : Thread nD τ).loc b)) (c : Dev nD)

/-! ## `g_out_mla` -/

/-- The blocks region 3 reads and writes at each grid point. -/
theorem idx3 : ∀ t : Fin cfg3.N, win3_0.index t = ![t.val, 0] ∧ win3_1.index t = ![t.val, 0] ∧ win3_2.index t = ![t.val, 0] ∧ win3_3.index t = ![t.val, 0] ∧ win3_4.index t = ![t.val, 0] ∧ win3_5.index t = ![t.val, 0] ∧ win3_6.index t = ![t.val, 0] :=
  (by decide +kernel : ∀ t : Fin grid3.N, _)

/-- One block's first moment. -/
theorem k3_pay1_eq (g m : FVec Ideal S4x1024 .f32) : k3_pay1 g m = newM S4x1024 g m := by
  funext i
  pointwise [k3_pay1, newM, stepM]

/-- One block's second moment. -/
theorem k3_pay2_eq (g v : FVec Ideal S4x1024 .f32) : k3_pay2 g v = newV S4x1024 g v := by
  funext i
  pointwise [k3_pay2, newV, stepV]

/-- One block's change. -/
theorem k3_pay3_eq (w g m v : FVec Ideal S4x1024 .f32) : k3_pay3 w g m v = newDelta S4x1024 w g m v := by
  funext i
  pointwise [k3_pay3, k3_pay1_eq, k3_pay2_eq, newM, newV, newDelta, stepDelta]

/-- The change of `g_out_mla`. -/
theorem final3_delta : (dat3 V c).arrAt 4 cfg3.N = newDelta S4x1024 (V c main_arg3) (V c main_arg11) (V c main_arg19) (V c main_arg27) := by
  refine (dat3 V c).arrAt_eq_of_covers 4 _ (by decide +kernel) fun t _ y => ?_
  blk_simp
  rw [after3_4]; frame_out
  rw [k3_pay3_eq]
  show stepDelta _ _ _ _ = stepDelta _ _ _ _
  congr 1 <;> blk_point [iblk3, idx3 t]

/-- The new first moment of `g_out_mla`. -/
theorem final3_new_m : (dat3 V c).arrAt 5 cfg3.N = newM S4x1024 (V c main_arg11) (V c main_arg19) := by
  refine (dat3 V c).arrAt_eq_of_covers 5 _ (by decide +kernel) fun t _ y => ?_
  blk_simp
  rw [after3_5]; frame_out
  rw [k3_pay1_eq]
  show stepM _ _ = stepM _ _
  congr 1 <;> blk_point [iblk3, idx3 t]

/-- The new second moment of `g_out_mla`. -/
theorem final3_new_v : (dat3 V c).arrAt 6 cfg3.N = newV S4x1024 (V c main_arg11) (V c main_arg27) := by
  refine (dat3 V c).arrAt_eq_of_covers 6 _ (by decide +kernel) fun t _ y => ?_
  blk_simp
  rw [after3_6]; frame_out
  rw [k3_pay2_eq]
  show stepV _ _ = stepV _ _
  congr 1 <;> blk_point [iblk3, idx3 t]

/-! ## `g_out_ssm` -/

/-- The blocks region 4 reads and writes at each grid point. -/
theorem idx4 : ∀ t : Fin cfg4.N, win4_0.index t = ![t.val, 0] ∧ win4_1.index t = ![t.val, 0] ∧ win4_2.index t = ![t.val, 0] ∧ win4_3.index t = ![t.val, 0] ∧ win4_4.index t = ![t.val, 0] ∧ win4_5.index t = ![t.val, 0] ∧ win4_6.index t = ![t.val, 0] :=
  (by decide +kernel : ∀ t : Fin grid4.N, _)

/-- One block's first moment. -/
theorem k4_pay1_eq (g m : FVec Ideal S4x512 .f32) : k4_pay1 g m = newM S4x512 g m := by
  funext i
  pointwise [k4_pay1, newM, stepM]

/-- One block's second moment. -/
theorem k4_pay2_eq (g v : FVec Ideal S4x512 .f32) : k4_pay2 g v = newV S4x512 g v := by
  funext i
  pointwise [k4_pay2, newV, stepV]

/-- One block's change. -/
theorem k4_pay3_eq (w g m v : FVec Ideal S4x512 .f32) : k4_pay3 w g m v = newDelta S4x512 w g m v := by
  funext i
  pointwise [k4_pay3, k4_pay1_eq, k4_pay2_eq, newM, newV, newDelta, stepDelta]

/-- The change of `g_out_ssm`. -/
theorem final4_delta : (dat4 V c).arrAt 4 cfg4.N = newDelta S4x512 (V c main_arg4) (V c main_arg12) (V c main_arg20) (V c main_arg28) := by
  refine (dat4 V c).arrAt_eq_of_covers 4 _ (by decide +kernel) fun t _ y => ?_
  blk_simp
  rw [after4_4]; frame_out
  rw [k4_pay3_eq]
  show stepDelta _ _ _ _ = stepDelta _ _ _ _
  congr 1 <;> blk_point [iblk4, idx4 t]

/-- The new first moment of `g_out_ssm`. -/
theorem final4_new_m : (dat4 V c).arrAt 5 cfg4.N = newM S4x512 (V c main_arg12) (V c main_arg20) := by
  refine (dat4 V c).arrAt_eq_of_covers 5 _ (by decide +kernel) fun t _ y => ?_
  blk_simp
  rw [after4_5]; frame_out
  rw [k4_pay1_eq]
  show stepM _ _ = stepM _ _
  congr 1 <;> blk_point [iblk4, idx4 t]

/-- The new second moment of `g_out_ssm`. -/
theorem final4_new_v : (dat4 V c).arrAt 6 cfg4.N = newV S4x512 (V c main_arg12) (V c main_arg28) := by
  refine (dat4 V c).arrAt_eq_of_covers 6 _ (by decide +kernel) fun t _ y => ?_
  blk_simp
  rw [after4_6]; frame_out
  rw [k4_pay2_eq]
  show stepV _ _ = stepV _ _
  congr 1 <;> blk_point [iblk4, idx4 t]

/-! ## `g_out_dil` -/

/-- The blocks region 5 reads and writes at each grid point. -/
theorem idx5 : ∀ t : Fin cfg5.N, win5_0.index t = ![t.val, 0] ∧ win5_1.index t = ![t.val, 0] ∧ win5_2.index t = ![t.val, 0] ∧ win5_3.index t = ![t.val, 0] ∧ win5_4.index t = ![t.val, 0] ∧ win5_5.index t = ![t.val, 0] ∧ win5_6.index t = ![t.val, 0] :=
  (by decide +kernel : ∀ t : Fin grid5.N, _)

/-- One block's first moment. -/
theorem k5_pay1_eq (g m : FVec Ideal S4x512 .f32) : k5_pay1 g m = newM S4x512 g m := by
  funext i
  pointwise [k5_pay1, newM, stepM]

/-- One block's second moment. -/
theorem k5_pay2_eq (g v : FVec Ideal S4x512 .f32) : k5_pay2 g v = newV S4x512 g v := by
  funext i
  pointwise [k5_pay2, newV, stepV]

/-- One block's change. -/
theorem k5_pay3_eq (w g m v : FVec Ideal S4x512 .f32) : k5_pay3 w g m v = newDelta S4x512 w g m v := by
  funext i
  pointwise [k5_pay3, k5_pay1_eq, k5_pay2_eq, newM, newV, newDelta, stepDelta]

/-- The change of `g_out_dil`. -/
theorem final5_delta : (dat5 V c).arrAt 4 cfg5.N = newDelta S4x512 (V c main_arg5) (V c main_arg13) (V c main_arg21) (V c main_arg29) := by
  refine (dat5 V c).arrAt_eq_of_covers 4 _ (by decide +kernel) fun t _ y => ?_
  blk_simp
  rw [after5_4]; frame_out
  rw [k5_pay3_eq]
  show stepDelta _ _ _ _ = stepDelta _ _ _ _
  congr 1 <;> blk_point [iblk5, idx5 t]

/-- The new first moment of `g_out_dil`. -/
theorem final5_new_m : (dat5 V c).arrAt 5 cfg5.N = newM S4x512 (V c main_arg13) (V c main_arg21) := by
  refine (dat5 V c).arrAt_eq_of_covers 5 _ (by decide +kernel) fun t _ y => ?_
  blk_simp
  rw [after5_5]; frame_out
  rw [k5_pay1_eq]
  show stepM _ _ = stepM _ _
  congr 1 <;> blk_point [iblk5, idx5 t]

/-- The new second moment of `g_out_dil`. -/
theorem final5_new_v : (dat5 V c).arrAt 6 cfg5.N = newV S4x512 (V c main_arg13) (V c main_arg29) := by
  refine (dat5 V c).arrAt_eq_of_covers 6 _ (by decide +kernel) fun t _ y => ?_
  blk_simp
  rw [after5_6]; frame_out
  rw [k5_pay2_eq]
  show stepV _ _ = stepV _ _
  congr 1 <;> blk_point [iblk5, idx5 t]

end Cert.Kernel4Ideal.Value

end
-- ==== Proof.Adam4C.lean ====
/- What the calls of the optimiser's step on `g_ffn`, `g_final` leave in their three output
   arrays. -/
module

public import proofs.«01_k».proof.Proof.Spec3
public import proofs.«01_k».proof.Proof.Gen.Kernel4Ideal.Frame.Region6
public import proofs.«01_k».proof.Proof.Gen.Kernel4Ideal.Frame.Region7
public import Idealize.ShloMosaic.Lib.Pipeline.ValueKit
public import Idealize.ShloMosaic.Lib.Pointwise

@[expose] public section

set_option maxRecDepth 16384

noncomputable section

namespace Cert.Kernel4Ideal.Value

open Idealize.ShloMosaic Idealize.ShloMosaic.TcCoe Idealize.SL.Sem
open Idealize.ShloMosaic.Pipeline (Dat)
open Cert.Kernel4Ideal Cert.Kernel4Ideal.Gen Cert.Math

variable (V : (c : Dev nD) → (b : Ref sig .tc) → Buf (Elt Ideal) ((c : Thread nD τ).loc b)) (c : Dev nD)

/-! ## `g_ffn` -/

/-- The blocks region 6 reads and writes at each grid point. -/
theorem idx6 : ∀ t : Fin cfg6.N, win6_0.index t = ![t.val, 0] ∧ win6_1.index t = ![t.val, 0] ∧ win6_2.index t = ![t.val, 0] ∧ win6_3.index t = ![t.val, 0] ∧ win6_4.index t = ![t.val, 0] ∧ win6_5.index t = ![t.val, 0] ∧ win6_6.index t = ![t.val, 0] :=
  (by decide +kernel : ∀ t : Fin grid6.N, _)

/-- One block's first moment. -/
theorem k6_pay1_eq (g m : FVec Ideal S4x2048 .f32) : k6_pay1 g m = newM S4x2048 g m := by
  funext i
  pointwise [k6_pay1, newM, stepM]

/-- One block's second moment. -/
theorem k6_pay2_eq (g v : FVec Ideal S4x2048 .f32) : k6_pay2 g v = newV S4x2048 g v := by
  funext i
  pointwise [k6_pay2, newV, stepV]

/-- One block's change. -/
theorem k6_pay3_eq (w g m v : FVec Ideal S4x2048 .f32) : k6_pay3 w g m v = newDelta S4x2048 w g m v := by
  funext i
  pointwise [k6_pay3, k6_pay1_eq, k6_pay2_eq, newM, newV, newDelta, stepDelta]

/-- The change of `g_ffn`. -/
theorem final6_delta : (dat6 V c).arrAt 4 cfg6.N = newDelta S4x2048 (V c main_arg6) (V c main_arg14) (V c main_arg22) (V c main_arg30) := by
  refine (dat6 V c).arrAt_eq_of_covers 4 _ (by decide +kernel) fun t _ y => ?_
  blk_simp
  rw [after6_4]; frame_out
  rw [k6_pay3_eq]
  show stepDelta _ _ _ _ = stepDelta _ _ _ _
  congr 1 <;> blk_point [iblk6, idx6 t]

/-- The new first moment of `g_ffn`. -/
theorem final6_new_m : (dat6 V c).arrAt 5 cfg6.N = newM S4x2048 (V c main_arg14) (V c main_arg22) := by
  refine (dat6 V c).arrAt_eq_of_covers 5 _ (by decide +kernel) fun t _ y => ?_
  blk_simp
  rw [after6_5]; frame_out
  rw [k6_pay1_eq]
  show stepM _ _ = stepM _ _
  congr 1 <;> blk_point [iblk6, idx6 t]

/-- The new second moment of `g_ffn`. -/
theorem final6_new_v : (dat6 V c).arrAt 6 cfg6.N = newV S4x2048 (V c main_arg14) (V c main_arg30) := by
  refine (dat6 V c).arrAt_eq_of_covers 6 _ (by decide +kernel) fun t _ y => ?_
  blk_simp
  rw [after6_6]; frame_out
  rw [k6_pay2_eq]
  show stepV _ _ = stepV _ _
  congr 1 <;> blk_point [iblk6, idx6 t]

/-! ## `g_final` -/

/-- The blocks region 7 reads and writes at each grid point. -/
theorem idx7 : ∀ t : Fin cfg7.N, win7_0.index t = ![t.val, 0] ∧ win7_1.index t = ![t.val, 0] ∧ win7_2.index t = ![t.val, 0] ∧ win7_3.index t = ![t.val, 0] ∧ win7_4.index t = ![t.val, 0] ∧ win7_5.index t = ![t.val, 0] ∧ win7_6.index t = ![t.val, 0] :=
  (by decide +kernel : ∀ t : Fin grid7.N, _)

/-- One block's first moment. -/
theorem k7_pay2_eq (g m : FVec Ideal S1x2048 .f32) : k7_pay2 g m = newM S1x2048 g m := by
  funext i
  pointwise [k7_pay2, k7_pay1, newM, stepM]

/-- One block's second moment. -/
theorem k7_pay3_eq (g v : FVec Ideal S1x2048 .f32) : k7_pay3 g v = newV S1x2048 g v := by
  funext i
  pointwise [k7_pay3, k7_pay1, newV, stepV]

/-- One block's change. -/
theorem k7_pay4_eq (w g m v : FVec Ideal S1x2048 .f32) : k7_pay4 w g m v = newDelta S1x2048 w g m v := by
  funext i
  pointwise [k7_pay4, k7_pay2_eq, k7_pay3_eq, newM, newV, k7_pay1, newDelta, stepDelta]

/-- The change of `g_final`. -/
theorem final7_delta : (dat7 V c).arrAt 4 cfg7.N = newDelta S1x2048 (V c main_v7) (V c main_v8) (V c main_v9) (V c main_v10) := by
  refine (dat7 V c).arrAt_eq_of_covers 4 _ (by decide +kernel) fun t _ y => ?_
  blk_simp
  rw [after7_4]; frame_out
  rw [k7_pay4_eq]
  show stepDelta _ _ _ _ = stepDelta _ _ _ _
  congr 1 <;> blk_point [iblk7, idx7 t]

/-- The new first moment of `g_final`. -/
theorem final7_new_m : (dat7 V c).arrAt 5 cfg7.N = newM S1x2048 (V c main_v8) (V c main_v9) := by
  refine (dat7 V c).arrAt_eq_of_covers 5 _ (by decide +kernel) fun t _ y => ?_
  blk_simp
  rw [after7_5]; frame_out
  rw [k7_pay2_eq]
  show stepM _ _ = stepM _ _
  congr 1 <;> blk_point [iblk7, idx7 t]

/-- The new second moment of `g_final`. -/
theorem final7_new_v : (dat7 V c).arrAt 6 cfg7.N = newV S1x2048 (V c main_v8) (V c main_v10) := by
  refine (dat7 V c).arrAt_eq_of_covers 6 _ (by decide +kernel) fun t _ y => ?_
  blk_simp
  rw [after7_6]; frame_out
  rw [k7_pay3_eq]
  show stepV _ _ = stepV _ _
  congr 1 <;> blk_point [iblk7, idx7 t]

end Cert.Kernel4Ideal.Value

end
-- ==== Proof.Fold4.lean ====
/- What the arrays of the optimiser's step on the norms' scales hold when the program ends, as a function of the arguments. -/
module

public import proofs.«01_k».proof.Proof.Adam4A
public import proofs.«01_k».proof.Proof.Adam4B
public import proofs.«01_k».proof.Proof.Adam4C
public import proofs.«01_k».proof.Proof.Gen.Kernel4Ideal.Frame
public import Idealize.ShloMosaic.Lib.StableHlo.Run

@[expose] public section

set_option maxRecDepth 16384

noncomputable section

namespace Cert.Kernel4Ideal.Value

open Idealize.ShloMosaic Idealize.ShloMosaic.TcCoe Idealize.SL.Sem
open Idealize.ShloMosaic.Pipeline (Dat)
open Cert.Kernel4Ideal Cert.Kernel4Ideal.Gen Cert.Math

variable (m : (ℓ : Loc nD τ sig) → Buf (Elt Ideal) ℓ) (ρ : Dev nD → PrngReg) (c : Dev nD)

/-! ## The arguments at their literal types: weights, summed gradients, first and second moments -/

abbrev aW0 : FVec Ideal S4x2048 .f32 := m ((c : Thread nD τ).loc main_arg0)
abbrev aG0 : FVec Ideal S4x2048 .f32 := m ((c : Thread nD τ).loc main_arg8)
abbrev aM0 : FVec Ideal S4x2048 .f32 := m ((c : Thread nD τ).loc main_arg16)
abbrev aV0 : FVec Ideal S4x2048 .f32 := m ((c : Thread nD τ).loc main_arg24)
abbrev aW1 : FVec Ideal S4x512 .f32 := m ((c : Thread nD τ).loc main_arg1)
abbrev aG1 : FVec Ideal S4x512 .f32 := m ((c : Thread nD τ).loc main_arg9)
abbrev aM1 : FVec Ideal S4x512 .f32 := m ((c : Thread nD τ).loc main_arg17)
abbrev aV1 : FVec Ideal S4x512 .f32 := m ((c : Thread nD τ).loc main_arg25)
abbrev aW2 : FVec Ideal S4x256 .f32 := m ((c : Thread nD τ).loc main_arg2)
abbrev aG2 : FVec Ideal S4x256 .f32 := m ((c : Thread nD τ).loc main_arg10)
abbrev aM2 : FVec Ideal S4x256 .f32 := m ((c : Thread nD τ).loc main_arg18)
abbrev aV2 : FVec Ideal S4x256 .f32 := m ((c : Thread nD τ).loc main_arg26)
abbrev aW3 : FVec Ideal S4x1024 .f32 := m ((c : Thread nD τ).loc main_arg3)
abbrev aG3 : FVec Ideal S4x1024 .f32 := m ((c : Thread nD τ).loc main_arg11)
abbrev aM3 : FVec Ideal S4x1024 .f32 := m ((c : Thread nD τ).loc main_arg19)
abbrev aV3 : FVec Ideal S4x1024 .f32 := m ((c : Thread nD τ).loc main_arg27)
abbrev aW4 : FVec Ideal S4x512 .f32 := m ((c : Thread nD τ).loc main_arg4)
abbrev aG4 : FVec Ideal S4x512 .f32 := m ((c : Thread nD τ).loc main_arg12)
abbrev aM4 : FVec Ideal S4x512 .f32 := m ((c : Thread nD τ).loc main_arg20)
abbrev aV4 : FVec Ideal S4x512 .f32 := m ((c : Thread nD τ).loc main_arg28)
abbrev aW5 : FVec Ideal S4x512 .f32 := m ((c : Thread nD τ).loc main_arg5)
abbrev aG5 : FVec Ideal S4x512 .f32 := m ((c : Thread nD τ).loc main_arg13)
abbrev aM5 : FVec Ideal S4x512 .f32 := m ((c : Thread nD τ).loc main_arg21)
abbrev aV5 : FVec Ideal S4x512 .f32 := m ((c : Thread nD τ).loc main_arg29)
abbrev aW6 : FVec Ideal S4x2048 .f32 := m ((c : Thread nD τ).loc main_arg6)
abbrev aG6 : FVec Ideal S4x2048 .f32 := m ((c : Thread nD τ).loc main_arg14)
abbrev aM6 : FVec Ideal S4x2048 .f32 := m ((c : Thread nD τ).loc main_arg22)
abbrev aV6 : FVec Ideal S4x2048 .f32 := m ((c : Thread nD τ).loc main_arg30)
abbrev aW7 : FVec Ideal S2048 .f32 := m ((c : Thread nD τ).loc main_arg7)
abbrev aG7 : FVec Ideal S2048 .f32 := m ((c : Thread nD τ).loc main_arg15)
abbrev aM7 : FVec Ideal S2048 .f32 := m ((c : Thread nD τ).loc main_arg23)
abbrev aV7 : FVec Ideal S2048 .f32 := m ((c : Thread nD τ).loc main_arg31)

/-! ## The contents at the boundaries -/

/-- The change of `g_mix`. -/
theorem w1_v0_0 : W1 m ρ c (Proc.devRef .tc main_v0_0) = newDelta S4x2048 (aW0 m c) (aG0 m c) (aM0 m c) (aV0 m c) := by
  refine (W1_arr m ρ c 4).trans ((final0_delta (V0 m ρ) c).trans ?_)
  have h0 : V0 m ρ c main_arg0 = aW0 m c := W0_args m ρ c main_arg0 (by decide)
  have h1 : V0 m ρ c main_arg8 = aG0 m c := W0_args m ρ c main_arg8 (by decide)
  have h2 : V0 m ρ c main_arg16 = aM0 m c := W0_args m ρ c main_arg16 (by decide)
  have h3 : V0 m ρ c main_arg24 = aV0 m c := W0_args m ρ c main_arg24 (by decide)
  rw [h0, h1, h2, h3]

/-- The new first moment of `g_mix`. -/
theorem w1_v0_1 : W1 m ρ c (Proc.devRef .tc main_v0_1) = newM S4x2048 (aG0 m c) (aM0 m c) := by
  refine (W1_arr m ρ c 5).trans ((final0_new_m (V0 m ρ) c).trans ?_)
  have h0 : V0 m ρ c main_arg8 = aG0 m c := W0_args m ρ c main_arg8 (by decide)
  have h1 : V0 m ρ c main_arg16 = aM0 m c := W0_args m ρ c main_arg16 (by decide)
  rw [h0, h1]

/-- The new second moment of `g_mix`. -/
theorem w1_v0_2 : W1 m ρ c (Proc.devRef .tc main_v0_2) = newV S4x2048 (aG0 m c) (aV0 m c) := by
  refine (W1_arr m ρ c 6).trans ((final0_new_v (V0 m ρ) c).trans ?_)
  have h0 : V0 m ρ c main_arg8 = aG0 m c := W0_args m ρ c main_arg8 (by decide)
  have h1 : V0 m ρ c main_arg24 = aV0 m c := W0_args m ρ c main_arg24 (by decide)
  rw [h0, h1]

/-- The change of `g_q`. -/
theorem w2_v1_0 : W2 m ρ c (Proc.devRef .tc main_v1_0) = newDelta S4x512 (aW1 m c) (aG1 m c) (aM1 m c) (aV1 m c) := by
  refine (W2_arr m ρ c 4).trans ((final1_delta (V1 m ρ) c).trans ?_)
  have h0 : V1 m ρ c main_arg1 = aW1 m c := W1_args m ρ c main_arg1 (by decide)
  have h1 : V1 m ρ c main_arg9 = aG1 m c := W1_args m ρ c main_arg9 (by decide)
  have h2 : V1 m ρ c main_arg17 = aM1 m c := W1_args m ρ c main_arg17 (by decide)
  have h3 : V1 m ρ c main_arg25 = aV1 m c := W1_args m ρ c main_arg25 (by decide)
  rw [h0, h1, h2, h3]

/-- The new first moment of `g_q`. -/
theorem w2_v1_1 : W2 m ρ c (Proc.devRef .tc main_v1_1) = newM S4x512 (aG1 m c) (aM1 m c) := by
  refine (W2_arr m ρ c 5).trans ((final1_new_m (V1 m ρ) c).trans ?_)
  have h0 : V1 m ρ c main_arg9 = aG1 m c := W1_args m ρ c main_arg9 (by decide)
  have h1 : V1 m ρ c main_arg17 = aM1 m c := W1_args m ρ c main_arg17 (by decide)
  rw [h0, h1]

/-- The new second moment of `g_q`. -/
theorem w2_v1_2 : W2 m ρ c (Proc.devRef .tc main_v1_2) = newV S4x512 (aG1 m c) (aV1 m c) := by
  refine (W2_arr m ρ c 6).trans ((final1_new_v (V1 m ρ) c).trans ?_)
  have h0 : V1 m ρ c main_arg9 = aG1 m c := W1_args m ρ c main_arg9 (by decide)
  have h1 : V1 m ρ c main_arg25 = aV1 m c := W1_args m ρ c main_arg25 (by decide)
  rw [h0, h1]

/-- The change of `g_kv`. -/
theorem w3_v2_0 : W3 m ρ c (Proc.devRef .tc main_v2_0) = newDelta S4x256 (aW2 m c) (aG2 m c) (aM2 m c) (aV2 m c) := by
  refine (W3_arr m ρ c 4).trans ((final2_delta (V2 m ρ) c).trans ?_)
  have h0 : V2 m ρ c main_arg2 = aW2 m c := W2_args m ρ c main_arg2 (by decide)
  have h1 : V2 m ρ c main_arg10 = aG2 m c := W2_args m ρ c main_arg10 (by decide)
  have h2 : V2 m ρ c main_arg18 = aM2 m c := W2_args m ρ c main_arg18 (by decide)
  have h3 : V2 m ρ c main_arg26 = aV2 m c := W2_args m ρ c main_arg26 (by decide)
  rw [h0, h1, h2, h3]

/-- The new first moment of `g_kv`. -/
theorem w3_v2_1 : W3 m ρ c (Proc.devRef .tc main_v2_1) = newM S4x256 (aG2 m c) (aM2 m c) := by
  refine (W3_arr m ρ c 5).trans ((final2_new_m (V2 m ρ) c).trans ?_)
  have h0 : V2 m ρ c main_arg10 = aG2 m c := W2_args m ρ c main_arg10 (by decide)
  have h1 : V2 m ρ c main_arg18 = aM2 m c := W2_args m ρ c main_arg18 (by decide)
  rw [h0, h1]

/-- The new second moment of `g_kv`. -/
theorem w3_v2_2 : W3 m ρ c (Proc.devRef .tc main_v2_2) = newV S4x256 (aG2 m c) (aV2 m c) := by
  refine (W3_arr m ρ c 6).trans ((final2_new_v (V2 m ρ) c).trans ?_)
  have h0 : V2 m ρ c main_arg10 = aG2 m c := W2_args m ρ c main_arg10 (by decide)
  have h1 : V2 m ρ c main_arg26 = aV2 m c := W2_args m ρ c main_arg26 (by decide)
  rw [h0, h1]

/-- The change of `g_out_mla`. -/
theorem w4_v3_0 : W4 m ρ c (Proc.devRef .tc main_v3_0) = newDelta S4x1024 (aW3 m c) (aG3 m c) (aM3 m c) (aV3 m c) := by
  refine (W4_arr m ρ c 4).trans ((final3_delta (V3 m ρ) c).trans ?_)
  have h0 : V3 m ρ c main_arg3 = aW3 m c := W3_args m ρ c main_arg3 (by decide)
  have h1 : V3 m ρ c main_arg11 = aG3 m c := W3_args m ρ c main_arg11 (by decide)
  have h2 : V3 m ρ c main_arg19 = aM3 m c := W3_args m ρ c main_arg19 (by decide)
  have h3 : V3 m ρ c main_arg27 = aV3 m c := W3_args m ρ c main_arg27 (by decide)
  rw [h0, h1, h2, h3]

/-- The new first moment of `g_out_mla`. -/
theorem w4_v3_1 : W4 m ρ c (Proc.devRef .tc main_v3_1) = newM S4x1024 (aG3 m c) (aM3 m c) := by
  refine (W4_arr m ρ c 5).trans ((final3_new_m (V3 m ρ) c).trans ?_)
  have h0 : V3 m ρ c main_arg11 = aG3 m c := W3_args m ρ c main_arg11 (by decide)
  have h1 : V3 m ρ c main_arg19 = aM3 m c := W3_args m ρ c main_arg19 (by decide)
  rw [h0, h1]

/-- The new second moment of `g_out_mla`. -/
theorem w4_v3_2 : W4 m ρ c (Proc.devRef .tc main_v3_2) = newV S4x1024 (aG3 m c) (aV3 m c) := by
  refine (W4_arr m ρ c 6).trans ((final3_new_v (V3 m ρ) c).trans ?_)
  have h0 : V3 m ρ c main_arg11 = aG3 m c := W3_args m ρ c main_arg11 (by decide)
  have h1 : V3 m ρ c main_arg27 = aV3 m c := W3_args m ρ c main_arg27 (by decide)
  rw [h0, h1]

/-- The change of `g_out_ssm`. -/
theorem w5_v4_0 : W5 m ρ c (Proc.devRef .tc main_v4_0) = newDelta S4x512 (aW4 m c) (aG4 m c) (aM4 m c) (aV4 m c) := by
  refine (W5_arr m ρ c 4).trans ((final4_delta (V4 m ρ) c).trans ?_)
  have h0 : V4 m ρ c main_arg4 = aW4 m c := W4_args m ρ c main_arg4 (by decide)
  have h1 : V4 m ρ c main_arg12 = aG4 m c := W4_args m ρ c main_arg12 (by decide)
  have h2 : V4 m ρ c main_arg20 = aM4 m c := W4_args m ρ c main_arg20 (by decide)
  have h3 : V4 m ρ c main_arg28 = aV4 m c := W4_args m ρ c main_arg28 (by decide)
  rw [h0, h1, h2, h3]

/-- The new first moment of `g_out_ssm`. -/
theorem w5_v4_1 : W5 m ρ c (Proc.devRef .tc main_v4_1) = newM S4x512 (aG4 m c) (aM4 m c) := by
  refine (W5_arr m ρ c 5).trans ((final4_new_m (V4 m ρ) c).trans ?_)
  have h0 : V4 m ρ c main_arg12 = aG4 m c := W4_args m ρ c main_arg12 (by decide)
  have h1 : V4 m ρ c main_arg20 = aM4 m c := W4_args m ρ c main_arg20 (by decide)
  rw [h0, h1]

/-- The new second moment of `g_out_ssm`. -/
theorem w5_v4_2 : W5 m ρ c (Proc.devRef .tc main_v4_2) = newV S4x512 (aG4 m c) (aV4 m c) := by
  refine (W5_arr m ρ c 6).trans ((final4_new_v (V4 m ρ) c).trans ?_)
  have h0 : V4 m ρ c main_arg12 = aG4 m c := W4_args m ρ c main_arg12 (by decide)
  have h1 : V4 m ρ c main_arg28 = aV4 m c := W4_args m ρ c main_arg28 (by decide)
  rw [h0, h1]

/-- The change of `g_out_dil`. -/
theorem w6_v5_0 : W6 m ρ c (Proc.devRef .tc main_v5_0) = newDelta S4x512 (aW5 m c) (aG5 m c) (aM5 m c) (aV5 m c) := by
  refine (W6_arr m ρ c 4).trans ((final5_delta (V5 m ρ) c).trans ?_)
  have h0 : V5 m ρ c main_arg5 = aW5 m c := W5_args m ρ c main_arg5 (by decide)
  have h1 : V5 m ρ c main_arg13 = aG5 m c := W5_args m ρ c main_arg13 (by decide)
  have h2 : V5 m ρ c main_arg21 = aM5 m c := W5_args m ρ c main_arg21 (by decide)
  have h3 : V5 m ρ c main_arg29 = aV5 m c := W5_args m ρ c main_arg29 (by decide)
  rw [h0, h1, h2, h3]

/-- The new first moment of `g_out_dil`. -/
theorem w6_v5_1 : W6 m ρ c (Proc.devRef .tc main_v5_1) = newM S4x512 (aG5 m c) (aM5 m c) := by
  refine (W6_arr m ρ c 5).trans ((final5_new_m (V5 m ρ) c).trans ?_)
  have h0 : V5 m ρ c main_arg13 = aG5 m c := W5_args m ρ c main_arg13 (by decide)
  have h1 : V5 m ρ c main_arg21 = aM5 m c := W5_args m ρ c main_arg21 (by decide)
  rw [h0, h1]

/-- The new second moment of `g_out_dil`. -/
theorem w6_v5_2 : W6 m ρ c (Proc.devRef .tc main_v5_2) = newV S4x512 (aG5 m c) (aV5 m c) := by
  refine (W6_arr m ρ c 6).trans ((final5_new_v (V5 m ρ) c).trans ?_)
  have h0 : V5 m ρ c main_arg13 = aG5 m c := W5_args m ρ c main_arg13 (by decide)
  have h1 : V5 m ρ c main_arg29 = aV5 m c := W5_args m ρ c main_arg29 (by decide)
  rw [h0, h1]

/-- The change of `g_ffn`. -/
theorem w7_v6_0 : W7 m ρ c (Proc.devRef .tc main_v6_0) = newDelta S4x2048 (aW6 m c) (aG6 m c) (aM6 m c) (aV6 m c) := by
  refine (W7_arr m ρ c 4).trans ((final6_delta (V6 m ρ) c).trans ?_)
  have h0 : V6 m ρ c main_arg6 = aW6 m c := W6_args m ρ c main_arg6 (by decide)
  have h1 : V6 m ρ c main_arg14 = aG6 m c := W6_args m ρ c main_arg14 (by decide)
  have h2 : V6 m ρ c main_arg22 = aM6 m c := W6_args m ρ c main_arg22 (by decide)
  have h3 : V6 m ρ c main_arg30 = aV6 m c := W6_args m ρ c main_arg30 (by decide)
  rw [h0, h1, h2, h3]

/-- The new first moment of `g_ffn`. -/
theorem w7_v6_1 : W7 m ρ c (Proc.devRef .tc main_v6_1) = newM S4x2048 (aG6 m c) (aM6 m c) := by
  refine (W7_arr m ρ c 5).trans ((final6_new_m (V6 m ρ) c).trans ?_)
  have h0 : V6 m ρ c main_arg14 = aG6 m c := W6_args m ρ c main_arg14 (by decide)
  have h1 : V6 m ρ c main_arg22 = aM6 m c := W6_args m ρ c main_arg22 (by decide)
  rw [h0, h1]

/-- The new second moment of `g_ffn`. -/
theorem w7_v6_2 : W7 m ρ c (Proc.devRef .tc main_v6_2) = newV S4x2048 (aG6 m c) (aV6 m c) := by
  refine (W7_arr m ρ c 6).trans ((final6_new_v (V6 m ρ) c).trans ?_)
  have h0 : V6 m ρ c main_arg14 = aG6 m c := W6_args m ρ c main_arg14 (by decide)
  have h1 : V6 m ρ c main_arg30 = aV6 m c := W6_args m ρ c main_arg30 (by decide)
  rw [h0, h1]

theorem w8_v7 : W8 m ρ c (Proc.devRef .tc main_v7) = shapeCast S1x2048 (aW7 m c) shapeCasts_S2048_S1x2048 := by
  refine Eq.trans (b := shapeCast S1x2048 (W7 m ρ c (Proc.devRef .tc main_arg7)) shapeCasts_S2048_S1x2048) ?_ ?_
  · after_results; rfl
  · rw [W7_args m ρ c main_arg7 (by decide)]

theorem w8_v8 : W8 m ρ c (Proc.devRef .tc main_v8) = shapeCast S1x2048 (aG7 m c) shapeCasts_S2048_S1x2048 := by
  refine Eq.trans (b := shapeCast S1x2048 (W7 m ρ c (Proc.devRef .tc main_arg15)) shapeCasts_S2048_S1x2048) ?_ ?_
  · after_results; rfl
  · rw [W7_args m ρ c main_arg15 (by decide)]

theorem w8_v9 : W8 m ρ c (Proc.devRef .tc main_v9) = shapeCast S1x2048 (aM7 m c) shapeCasts_S2048_S1x2048 := by
  refine Eq.trans (b := shapeCast S1x2048 (W7 m ρ c (Proc.devRef .tc main_arg23)) shapeCasts_S2048_S1x2048) ?_ ?_
  · after_results; rfl
  · rw [W7_args m ρ c main_arg23 (by decide)]

theorem w8_v10 : W8 m ρ c (Proc.devRef .tc main_v10) = shapeCast S1x2048 (aV7 m c) shapeCasts_S2048_S1x2048 := by
  refine Eq.trans (b := shapeCast S1x2048 (W7 m ρ c (Proc.devRef .tc main_arg31)) shapeCasts_S2048_S1x2048) ?_ ?_
  · after_results; rfl
  · rw [W7_args m ρ c main_arg31 (by decide)]

/-- The change of `g_final`. -/
theorem w9_v11_0 : W9 m ρ c (Proc.devRef .tc main_v11_0) = newDelta S1x2048 (shapeCast S1x2048 (aW7 m c) shapeCasts_S2048_S1x2048) (shapeCast S1x2048 (aG7 m c) shapeCasts_S2048_S1x2048) (shapeCast S1x2048 (aM7 m c) shapeCasts_S2048_S1x2048) (shapeCast S1x2048 (aV7 m c) shapeCasts_S2048_S1x2048) := by
  refine (W9_arr m ρ c 4).trans ((final7_delta (V8 m ρ) c).trans ?_)
  have h0 : V8 m ρ c main_v7 = shapeCast S1x2048 (aW7 m c) shapeCasts_S2048_S1x2048 := w8_v7 m ρ c
  have h1 : V8 m ρ c main_v8 = shapeCast S1x2048 (aG7 m c) shapeCasts_S2048_S1x2048 := w8_v8 m ρ c
  have h2 : V8 m ρ c main_v9 = shapeCast S1x2048 (aM7 m c) shapeCasts_S2048_S1x2048 := w8_v9 m ρ c
  have h3 : V8 m ρ c main_v10 = shapeCast S1x2048 (aV7 m c) shapeCasts_S2048_S1x2048 := w8_v10 m ρ c
  rw [h0, h1, h2, h3]

/-- The new first moment of `g_final`. -/
theorem w9_v11_1 : W9 m ρ c (Proc.devRef .tc main_v11_1) = newM S1x2048 (shapeCast S1x2048 (aG7 m c) shapeCasts_S2048_S1x2048) (shapeCast S1x2048 (aM7 m c) shapeCasts_S2048_S1x2048) := by
  refine (W9_arr m ρ c 5).trans ((final7_new_m (V8 m ρ) c).trans ?_)
  have h0 : V8 m ρ c main_v8 = shapeCast S1x2048 (aG7 m c) shapeCasts_S2048_S1x2048 := w8_v8 m ρ c
  have h1 : V8 m ρ c main_v9 = shapeCast S1x2048 (aM7 m c) shapeCasts_S2048_S1x2048 := w8_v9 m ρ c
  rw [h0, h1]

/-- The new second moment of `g_final`. -/
theorem w9_v11_2 : W9 m ρ c (Proc.devRef .tc main_v11_2) = newV S1x2048 (shapeCast S1x2048 (aG7 m c) shapeCasts_S2048_S1x2048) (shapeCast S1x2048 (aV7 m c) shapeCasts_S2048_S1x2048) := by
  refine (W9_arr m ρ c 6).trans ((final7_new_v (V8 m ρ) c).trans ?_)
  have h0 : V8 m ρ c main_v8 = shapeCast S1x2048 (aG7 m c) shapeCasts_S2048_S1x2048 := w8_v8 m ρ c
  have h1 : V8 m ρ c main_v10 = shapeCast S1x2048 (aV7 m c) shapeCasts_S2048_S1x2048 := w8_v10 m ρ c
  rw [h0, h1]

/-- `delta` of `g_final`, laid back. -/
theorem w10_v12 : W10 m ρ c (Proc.devRef .tc main_v12) = newDelta S2048 (aW7 m c) (aG7 m c) (aM7 m c) (aV7 m c) := by
  refine Eq.trans (b := shapeCast S2048 (W9 m ρ c (Proc.devRef .tc main_v11_0)) shapeCasts_S1x2048_S2048) ?_ ?_
  · after_results; rfl
  · rw [w9_v11_0 m ρ c]
    exact newDelta_cast shapeCasts_S2048_S1x2048 shapeCasts_S1x2048_S2048 (aW7 m c) (aG7 m c) (aM7 m c) (aV7 m c)

/-- `new_m` of `g_final`, laid back. -/
theorem w10_v13 : W10 m ρ c (Proc.devRef .tc main_v13) = newM S2048 (aG7 m c) (aM7 m c) := by
  refine Eq.trans (b := shapeCast S2048 (W9 m ρ c (Proc.devRef .tc main_v11_1)) shapeCasts_S1x2048_S2048) ?_ ?_
  · after_results; rfl
  · rw [w9_v11_1 m ρ c]
    exact newM_cast shapeCasts_S2048_S1x2048 shapeCasts_S1x2048_S2048 (aG7 m c) (aM7 m c)

/-- `new_v` of `g_final`, laid back. -/
theorem w10_v14 : W10 m ρ c (Proc.devRef .tc main_v14) = newV S2048 (aG7 m c) (aV7 m c) := by
  refine Eq.trans (b := shapeCast S2048 (W9 m ρ c (Proc.devRef .tc main_v11_2)) shapeCasts_S1x2048_S2048) ?_ ?_
  · after_results; rfl
  · rw [w9_v11_2 m ρ c]
    exact newV_cast shapeCasts_S2048_S1x2048 shapeCasts_S1x2048_S2048 (aG7 m c) (aV7 m c)

/-! ## The results at the end -/

theorem end_delta_g_mix : W10 m ρ c (Proc.devRef .tc main_v0_0) = newDelta S4x2048 (aW0 m c) (aG0 m c) (aM0 m c) (aV0 m c) :=
  ((W10_of m ρ c main_v0_0 (by decide)).trans ((W9_of m ρ c main_v0_0 (by decide)).trans ((W8_of m ρ c main_v0_0 (by decide)).trans ((W7_of m ρ c main_v0_0 (by decide)).trans ((W6_of m ρ c main_v0_0 (by decide)).trans ((W5_of m ρ c main_v0_0 (by decide)).trans ((W4_of m ρ c main_v0_0 (by decide)).trans ((W3_of m ρ c main_v0_0 (by decide)).trans ((W2_of m ρ c main_v0_0 (by decide))))))))))).trans (w1_v0_0 m ρ c)

theorem end_delta_g_q : W10 m ρ c (Proc.devRef .tc main_v1_0) = newDelta S4x512 (aW1 m c) (aG1 m c) (aM1 m c) (aV1 m c) :=
  ((W10_of m ρ c main_v1_0 (by decide)).trans ((W9_of m ρ c main_v1_0 (by decide)).trans ((W8_of m ρ c main_v1_0 (by decide)).trans ((W7_of m ρ c main_v1_0 (by decide)).trans ((W6_of m ρ c main_v1_0 (by decide)).trans ((W5_of m ρ c main_v1_0 (by decide)).trans ((W4_of m ρ c main_v1_0 (by decide)).trans ((W3_of m ρ c main_v1_0 (by decide)))))))))).trans (w2_v1_0 m ρ c)

theorem end_delta_g_kv : W10 m ρ c (Proc.devRef .tc main_v2_0) = newDelta S4x256 (aW2 m c) (aG2 m c) (aM2 m c) (aV2 m c) :=
  ((W10_of m ρ c main_v2_0 (by decide)).trans ((W9_of m ρ c main_v2_0 (by decide)).trans ((W8_of m ρ c main_v2_0 (by decide)).trans ((W7_of m ρ c main_v2_0 (by decide)).trans ((W6_of m ρ c main_v2_0 (by decide)).trans ((W5_of m ρ c main_v2_0 (by decide)).trans ((W4_of m ρ c main_v2_0 (by decide))))))))).trans (w3_v2_0 m ρ c)

theorem end_delta_g_out_mla : W10 m ρ c (Proc.devRef .tc main_v3_0) = newDelta S4x1024 (aW3 m c) (aG3 m c) (aM3 m c) (aV3 m c) :=
  ((W10_of m ρ c main_v3_0 (by decide)).trans ((W9_of m ρ c main_v3_0 (by decide)).trans ((W8_of m ρ c main_v3_0 (by decide)).trans ((W7_of m ρ c main_v3_0 (by decide)).trans ((W6_of m ρ c main_v3_0 (by decide)).trans ((W5_of m ρ c main_v3_0 (by decide)))))))).trans (w4_v3_0 m ρ c)

theorem end_delta_g_out_ssm : W10 m ρ c (Proc.devRef .tc main_v4_0) = newDelta S4x512 (aW4 m c) (aG4 m c) (aM4 m c) (aV4 m c) :=
  ((W10_of m ρ c main_v4_0 (by decide)).trans ((W9_of m ρ c main_v4_0 (by decide)).trans ((W8_of m ρ c main_v4_0 (by decide)).trans ((W7_of m ρ c main_v4_0 (by decide)).trans ((W6_of m ρ c main_v4_0 (by decide))))))).trans (w5_v4_0 m ρ c)

theorem end_delta_g_out_dil : W10 m ρ c (Proc.devRef .tc main_v5_0) = newDelta S4x512 (aW5 m c) (aG5 m c) (aM5 m c) (aV5 m c) :=
  ((W10_of m ρ c main_v5_0 (by decide)).trans ((W9_of m ρ c main_v5_0 (by decide)).trans ((W8_of m ρ c main_v5_0 (by decide)).trans ((W7_of m ρ c main_v5_0 (by decide)))))).trans (w6_v5_0 m ρ c)

theorem end_delta_g_ffn : W10 m ρ c (Proc.devRef .tc main_v6_0) = newDelta S4x2048 (aW6 m c) (aG6 m c) (aM6 m c) (aV6 m c) :=
  ((W10_of m ρ c main_v6_0 (by decide)).trans ((W9_of m ρ c main_v6_0 (by decide)).trans ((W8_of m ρ c main_v6_0 (by decide))))).trans (w7_v6_0 m ρ c)

theorem end_delta_g_final : W10 m ρ c (Proc.devRef .tc main_v12) = newDelta S2048 (aW7 m c) (aG7 m c) (aM7 m c) (aV7 m c) :=
  w10_v12 m ρ c

theorem end_new_m_g_mix : W10 m ρ c (Proc.devRef .tc main_v0_1) = newM S4x2048 (aG0 m c) (aM0 m c) :=
  ((W10_of m ρ c main_v0_1 (by decide)).trans ((W9_of m ρ c main_v0_1 (by decide)).trans ((W8_of m ρ c main_v0_1 (by decide)).trans ((W7_of m ρ c main_v0_1 (by decide)).trans ((W6_of m ρ c main_v0_1 (by decide)).trans ((W5_of m ρ c main_v0_1 (by decide)).trans ((W4_of m ρ c main_v0_1 (by decide)).trans ((W3_of m ρ c main_v0_1 (by decide)).trans ((W2_of m ρ c main_v0_1 (by decide))))))))))).trans (w1_v0_1 m ρ c)

theorem end_new_m_g_q : W10 m ρ c (Proc.devRef .tc main_v1_1) = newM S4x512 (aG1 m c) (aM1 m c) :=
  ((W10_of m ρ c main_v1_1 (by decide)).trans ((W9_of m ρ c main_v1_1 (by decide)).trans ((W8_of m ρ c main_v1_1 (by decide)).trans ((W7_of m ρ c main_v1_1 (by decide)).trans ((W6_of m ρ c main_v1_1 (by decide)).trans ((W5_of m ρ c main_v1_1 (by decide)).trans ((W4_of m ρ c main_v1_1 (by decide)).trans ((W3_of m ρ c main_v1_1 (by decide)))))))))).trans (w2_v1_1 m ρ c)

theorem end_new_m_g_kv : W10 m ρ c (Proc.devRef .tc main_v2_1) = newM S4x256 (aG2 m c) (aM2 m c) :=
  ((W10_of m ρ c main_v2_1 (by decide)).trans ((W9_of m ρ c main_v2_1 (by decide)).trans ((W8_of m ρ c main_v2_1 (by decide)).trans ((W7_of m ρ c main_v2_1 (by decide)).trans ((W6_of m ρ c main_v2_1 (by decide)).trans ((W5_of m ρ c main_v2_1 (by decide)).trans ((W4_of m ρ c main_v2_1 (by decide))))))))).trans (w3_v2_1 m ρ c)

theorem end_new_m_g_out_mla : W10 m ρ c (Proc.devRef .tc main_v3_1) = newM S4x1024 (aG3 m c) (aM3 m c) :=
  ((W10_of m ρ c main_v3_1 (by decide)).trans ((W9_of m ρ c main_v3_1 (by decide)).trans ((W8_of m ρ c main_v3_1 (by decide)).trans ((W7_of m ρ c main_v3_1 (by decide)).trans ((W6_of m ρ c main_v3_1 (by decide)).trans ((W5_of m ρ c main_v3_1 (by decide)))))))).trans (w4_v3_1 m ρ c)

theorem end_new_m_g_out_ssm : W10 m ρ c (Proc.devRef .tc main_v4_1) = newM S4x512 (aG4 m c) (aM4 m c) :=
  ((W10_of m ρ c main_v4_1 (by decide)).trans ((W9_of m ρ c main_v4_1 (by decide)).trans ((W8_of m ρ c main_v4_1 (by decide)).trans ((W7_of m ρ c main_v4_1 (by decide)).trans ((W6_of m ρ c main_v4_1 (by decide))))))).trans (w5_v4_1 m ρ c)

theorem end_new_m_g_out_dil : W10 m ρ c (Proc.devRef .tc main_v5_1) = newM S4x512 (aG5 m c) (aM5 m c) :=
  ((W10_of m ρ c main_v5_1 (by decide)).trans ((W9_of m ρ c main_v5_1 (by decide)).trans ((W8_of m ρ c main_v5_1 (by decide)).trans ((W7_of m ρ c main_v5_1 (by decide)))))).trans (w6_v5_1 m ρ c)

theorem end_new_m_g_ffn : W10 m ρ c (Proc.devRef .tc main_v6_1) = newM S4x2048 (aG6 m c) (aM6 m c) :=
  ((W10_of m ρ c main_v6_1 (by decide)).trans ((W9_of m ρ c main_v6_1 (by decide)).trans ((W8_of m ρ c main_v6_1 (by decide))))).trans (w7_v6_1 m ρ c)

theorem end_new_m_g_final : W10 m ρ c (Proc.devRef .tc main_v13) = newM S2048 (aG7 m c) (aM7 m c) :=
  w10_v13 m ρ c

theorem end_new_v_g_mix : W10 m ρ c (Proc.devRef .tc main_v0_2) = newV S4x2048 (aG0 m c) (aV0 m c) :=
  ((W10_of m ρ c main_v0_2 (by decide)).trans ((W9_of m ρ c main_v0_2 (by decide)).trans ((W8_of m ρ c main_v0_2 (by decide)).trans ((W7_of m ρ c main_v0_2 (by decide)).trans ((W6_of m ρ c main_v0_2 (by decide)).trans ((W5_of m ρ c main_v0_2 (by decide)).trans ((W4_of m ρ c main_v0_2 (by decide)).trans ((W3_of m ρ c main_v0_2 (by decide)).trans ((W2_of m ρ c main_v0_2 (by decide))))))))))).trans (w1_v0_2 m ρ c)

theorem end_new_v_g_q : W10 m ρ c (Proc.devRef .tc main_v1_2) = newV S4x512 (aG1 m c) (aV1 m c) :=
  ((W10_of m ρ c main_v1_2 (by decide)).trans ((W9_of m ρ c main_v1_2 (by decide)).trans ((W8_of m ρ c main_v1_2 (by decide)).trans ((W7_of m ρ c main_v1_2 (by decide)).trans ((W6_of m ρ c main_v1_2 (by decide)).trans ((W5_of m ρ c main_v1_2 (by decide)).trans ((W4_of m ρ c main_v1_2 (by decide)).trans ((W3_of m ρ c main_v1_2 (by decide)))))))))).trans (w2_v1_2 m ρ c)

theorem end_new_v_g_kv : W10 m ρ c (Proc.devRef .tc main_v2_2) = newV S4x256 (aG2 m c) (aV2 m c) :=
  ((W10_of m ρ c main_v2_2 (by decide)).trans ((W9_of m ρ c main_v2_2 (by decide)).trans ((W8_of m ρ c main_v2_2 (by decide)).trans ((W7_of m ρ c main_v2_2 (by decide)).trans ((W6_of m ρ c main_v2_2 (by decide)).trans ((W5_of m ρ c main_v2_2 (by decide)).trans ((W4_of m ρ c main_v2_2 (by decide))))))))).trans (w3_v2_2 m ρ c)

theorem end_new_v_g_out_mla : W10 m ρ c (Proc.devRef .tc main_v3_2) = newV S4x1024 (aG3 m c) (aV3 m c) :=
  ((W10_of m ρ c main_v3_2 (by decide)).trans ((W9_of m ρ c main_v3_2 (by decide)).trans ((W8_of m ρ c main_v3_2 (by decide)).trans ((W7_of m ρ c main_v3_2 (by decide)).trans ((W6_of m ρ c main_v3_2 (by decide)).trans ((W5_of m ρ c main_v3_2 (by decide)))))))).trans (w4_v3_2 m ρ c)

theorem end_new_v_g_out_ssm : W10 m ρ c (Proc.devRef .tc main_v4_2) = newV S4x512 (aG4 m c) (aV4 m c) :=
  ((W10_of m ρ c main_v4_2 (by decide)).trans ((W9_of m ρ c main_v4_2 (by decide)).trans ((W8_of m ρ c main_v4_2 (by decide)).trans ((W7_of m ρ c main_v4_2 (by decide)).trans ((W6_of m ρ c main_v4_2 (by decide))))))).trans (w5_v4_2 m ρ c)

theorem end_new_v_g_out_dil : W10 m ρ c (Proc.devRef .tc main_v5_2) = newV S4x512 (aG5 m c) (aV5 m c) :=
  ((W10_of m ρ c main_v5_2 (by decide)).trans ((W9_of m ρ c main_v5_2 (by decide)).trans ((W8_of m ρ c main_v5_2 (by decide)).trans ((W7_of m ρ c main_v5_2 (by decide)))))).trans (w6_v5_2 m ρ c)

theorem end_new_v_g_ffn : W10 m ρ c (Proc.devRef .tc main_v6_2) = newV S4x2048 (aG6 m c) (aV6 m c) :=
  ((W10_of m ρ c main_v6_2 (by decide)).trans ((W9_of m ρ c main_v6_2 (by decide)).trans ((W8_of m ρ c main_v6_2 (by decide))))).trans (w7_v6_2 m ρ c)

theorem end_new_v_g_final : W10 m ρ c (Proc.devRef .tc main_v14) = newV S2048 (aG7 m c) (aV7 m c) :=
  w10_v14 m ρ c

end Cert.Kernel4Ideal.Value

end
-- ==== Proof.Run4.lean ====
/- The kernel's program, run from any memory: every result is the optimiser's step on the norms' scales, and the arguments end as they began. -/
module

public import proofs.«01_k».proof.Proof.Fold4

@[expose] public section

set_option maxRecDepth 16384

noncomputable section

namespace Cert.Kernel4Ideal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen Cert.Math

variable (m : (ℓ : Loc nD τ sig) → Buf (Elt Ideal) ℓ) (ρ : Dev nD → PrngReg)

set_option backward.isDefEq.respectTransparency.types false in
set_option maxHeartbeats 4000000 in
/-- Every execution ends with the changes and the new moments in the result arrays: what the arrays hold at the last
    boundary (`Fold4`), read off the final memory. -/
theorem run_math : θ_run defs (onTc (τ := τ) (main (F := Ideal))) ⟨m, fun _ => 0, ρ⟩ (fun r => ∀ c : Dev nD,
      (r.2.mem ((c.tc : Thread nD τ).loc main_v0_0) = newDelta S4x2048 (aW0 m c) (aG0 m c) (aM0 m c) (aV0 m c)
      ∧ r.2.mem ((c.tc : Thread nD τ).loc main_v1_0) = newDelta S4x512 (aW1 m c) (aG1 m c) (aM1 m c) (aV1 m c)
      ∧ r.2.mem ((c.tc : Thread nD τ).loc main_v2_0) = newDelta S4x256 (aW2 m c) (aG2 m c) (aM2 m c) (aV2 m c)
      ∧ r.2.mem ((c.tc : Thread nD τ).loc main_v3_0) = newDelta S4x1024 (aW3 m c) (aG3 m c) (aM3 m c) (aV3 m c)
      ∧ r.2.mem ((c.tc : Thread nD τ).loc main_v4_0) = newDelta S4x512 (aW4 m c) (aG4 m c) (aM4 m c) (aV4 m c)
      ∧ r.2.mem ((c.tc : Thread nD τ).loc main_v5_0) = newDelta S4x512 (aW5 m c) (aG5 m c) (aM5 m c) (aV5 m c)
      ∧ r.2.mem ((c.tc : Thread nD τ).loc main_v6_0) = newDelta S4x2048 (aW6 m c) (aG6 m c) (aM6 m c) (aV6 m c)
      ∧ r.2.mem ((c.tc : Thread nD τ).loc main_v12) = newDelta S2048 (aW7 m c) (aG7 m c) (aM7 m c) (aV7 m c)
      ∧ r.2.mem ((c.tc : Thread nD τ).loc main_v0_1) = newM S4x2048 (aG0 m c) (aM0 m c)
      ∧ r.2.mem ((c.tc : Thread nD τ).loc main_v1_1) = newM S4x512 (aG1 m c) (aM1 m c)
      ∧ r.2.mem ((c.tc : Thread nD τ).loc main_v2_1) = newM S4x256 (aG2 m c) (aM2 m c)
      ∧ r.2.mem ((c.tc : Thread nD τ).loc main_v3_1) = newM S4x1024 (aG3 m c) (aM3 m c)
      ∧ r.2.mem ((c.tc : Thread nD τ).loc main_v4_1) = newM S4x512 (aG4 m c) (aM4 m c)
      ∧ r.2.mem ((c.tc : Thread nD τ).loc main_v5_1) = newM S4x512 (aG5 m c) (aM5 m c)
      ∧ r.2.mem ((c.tc : Thread nD τ).loc main_v6_1) = newM S4x2048 (aG6 m c) (aM6 m c)
      ∧ r.2.mem ((c.tc : Thread nD τ).loc main_v13) = newM S2048 (aG7 m c) (aM7 m c)
      ∧ r.2.mem ((c.tc : Thread nD τ).loc main_v0_2) = newV S4x2048 (aG0 m c) (aV0 m c)
      ∧ r.2.mem ((c.tc : Thread nD τ).loc main_v1_2) = newV S4x512 (aG1 m c) (aV1 m c)
      ∧ r.2.mem ((c.tc : Thread nD τ).loc main_v2_2) = newV S4x256 (aG2 m c) (aV2 m c)
      ∧ r.2.mem ((c.tc : Thread nD τ).loc main_v3_2) = newV S4x1024 (aG3 m c) (aV3 m c)
      ∧ r.2.mem ((c.tc : Thread nD τ).loc main_v4_2) = newV S4x512 (aG4 m c) (aV4 m c)
      ∧ r.2.mem ((c.tc : Thread nD τ).loc main_v5_2) = newV S4x512 (aG5 m c) (aV5 m c)
      ∧ r.2.mem ((c.tc : Thread nD τ).loc main_v6_2) = newV S4x2048 (aG6 m c) (aV6 m c)
      ∧ r.2.mem ((c.tc : Thread nD τ).loc main_v14) = newV S2048 (aG7 m c) (aV7 m c))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31))) :=
  Pipeline.θ_run_regions_kit_sems (pcfgs (F := Ideal)) adm (pdats m ρ) () cellOf_inj emb₁ defs₀ 𝒱₀ L lv m ρ (main (F := Ideal)) (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h hz c => ⟨⟨(h c _ (mem_uc main_v0_0 (by decide))).trans (end_delta_g_mix m ρ c),
      (h c _ (mem_uc main_v1_0 (by decide))).trans (end_delta_g_q m ρ c),
      (h c _ (mem_uc main_v2_0 (by decide))).trans (end_delta_g_kv m ρ c),
      (h c _ (mem_uc main_v3_0 (by decide))).trans (end_delta_g_out_mla m ρ c),
      (h c _ (mem_uc main_v4_0 (by decide))).trans (end_delta_g_out_ssm m ρ c),
      (h c _ (mem_uc main_v5_0 (by decide))).trans (end_delta_g_out_dil m ρ c),
      (h c _ (mem_uc main_v6_0 (by decide))).trans (end_delta_g_ffn m ρ c),
      (h c _ (mem_uc main_v12 (by decide))).trans (end_delta_g_final m ρ c),
      (h c _ (mem_uc main_v0_1 (by decide))).trans (end_new_m_g_mix m ρ c),
      (h c _ (mem_uc main_v1_1 (by decide))).trans (end_new_m_g_q m ρ c),
      (h c _ (mem_uc main_v2_1 (by decide))).trans (end_new_m_g_kv m ρ c),
      (h c _ (mem_uc main_v3_1 (by decide))).trans (end_new_m_g_out_mla m ρ c),
      (h c _ (mem_uc main_v4_1 (by decide))).trans (end_new_m_g_out_ssm m ρ c),
      (h c _ (mem_uc main_v5_1 (by decide))).trans (end_new_m_g_out_dil m ρ c),
      (h c _ (mem_uc main_v6_1 (by decide))).trans (end_new_m_g_ffn m ρ c),
      (h c _ (mem_uc main_v13 (by decide))).trans (end_new_m_g_final m ρ c),
      (h c _ (mem_uc main_v0_2 (by decide))).trans (end_new_v_g_mix m ρ c),
      (h c _ (mem_uc main_v1_2 (by decide))).trans (end_new_v_g_q m ρ c),
      (h c _ (mem_uc main_v2_2 (by decide))).trans (end_new_v_g_kv m ρ c),
      (h c _ (mem_uc main_v3_2 (by decide))).trans (end_new_v_g_out_mla m ρ c),
      (h c _ (mem_uc main_v4_2 (by decide))).trans (end_new_v_g_out_ssm m ρ c),
      (h c _ (mem_uc main_v5_2 (by decide))).trans (end_new_v_g_out_dil m ρ c),
      (h c _ (mem_uc main_v6_2 (by decide))).trans (end_new_v_g_ffn m ρ c),
      (h c _ (mem_uc main_v14 (by decide))).trans (end_new_v_g_final m ρ c)⟩,
      ⟨(h c _ (mem_uc main_arg0 (by decide))).trans (W10_main_arg0 m ρ c),
      (h c _ (mem_uc main_arg1 (by decide))).trans (W10_main_arg1 m ρ c),
      (h c _ (mem_uc main_arg2 (by decide))).trans (W10_main_arg2 m ρ c),
      (h c _ (mem_uc main_arg3 (by decide))).trans (W10_main_arg3 m ρ c),
      (h c _ (mem_uc main_arg4 (by decide))).trans (W10_main_arg4 m ρ c),
      (h c _ (mem_uc main_arg5 (by decide))).trans (W10_main_arg5 m ρ c),
      (h c _ (mem_uc main_arg6 (by decide))).trans (W10_main_arg6 m ρ c),
      (h c _ (mem_uc main_arg7 (by decide))).trans (W10_main_arg7 m ρ c),
      (h c _ (mem_uc main_arg8 (by decide))).trans (W10_main_arg8 m ρ c),
      (h c _ (mem_uc main_arg9 (by decide))).trans (W10_main_arg9 m ρ c),
      (h c _ (mem_uc main_arg10 (by decide))).trans (W10_main_arg10 m ρ c),
      (h c _ (mem_uc main_arg11 (by decide))).trans (W10_main_arg11 m ρ c),
      (h c _ (mem_uc main_arg12 (by decide))).trans (W10_main_arg12 m ρ c),
      (h c _ (mem_uc main_arg13 (by decide))).trans (W10_main_arg13 m ρ c),
      (h c _ (mem_uc main_arg14 (by decide))).trans (W10_main_arg14 m ρ c),
      (h c _ (mem_uc main_arg15 (by decide))).trans (W10_main_arg15 m ρ c),
      (h c _ (mem_uc main_arg16 (by decide))).trans (W10_main_arg16 m ρ c),
      (h c _ (mem_uc main_arg17 (by decide))).trans (W10_main_arg17 m ρ c),
      (h c _ (mem_uc main_arg18 (by decide))).trans (W10_main_arg18 m ρ c),
      (h c _ (mem_uc main_arg19 (by decide))).trans (W10_main_arg19 m ρ c),
      (h c _ (mem_uc main_arg20 (by decide))).trans (W10_main_arg20 m ρ c),
      (h c _ (mem_uc main_arg21 (by decide))).trans (W10_main_arg21 m ρ c),
      (h c _ (mem_uc main_arg22 (by decide))).trans (W10_main_arg22 m ρ c),
      (h c _ (mem_uc main_arg23 (by decide))).trans (W10_main_arg23 m ρ c),
      (h c _ (mem_uc main_arg24 (by decide))).trans (W10_main_arg24 m ρ c),
      (h c _ (mem_uc main_arg25 (by decide))).trans (W10_main_arg25 m ρ c),
      (h c _ (mem_uc main_arg26 (by decide))).trans (W10_main_arg26 m ρ c),
      (h c _ (mem_uc main_arg27 (by decide))).trans (W10_main_arg27 m ρ c),
      (h c _ (mem_uc main_arg28 (by decide))).trans (W10_main_arg28 m ρ c),
      (h c _ (mem_uc main_arg29 (by decide))).trans (W10_main_arg29 m ρ c),
      (h c _ (mem_uc main_arg30 (by decide))).trans (W10_main_arg30 m ρ c),
      (h c _ (mem_uc main_arg31 (by decide))).trans (W10_main_arg31 m ρ c)⟩⟩)

end Cert.Kernel4Ideal.Value

end
-- ==== Proof.Reference4.lean ====
/- The reference of the optimiser's step on the norms' scales: what it writes is the same step. -/
module

public import proofs.«01_k».proof.Proof.Spec3
public import proofs.«01_k».proof.Proof.Gen.Reference4Ideal.Run
public import Idealize.ShloMosaic.Lib.Pointwise

@[expose] public section

set_option maxRecDepth 16384

noncomputable section

namespace Cert.Reference4Ideal.Value

open Idealize.ShloMosaic Idealize.ShloMosaic.TcCoe Idealize.SL.Sem
open Idealize.ShloMosaic.Pipeline (Dat)
open Cert.Reference4Ideal Cert.Reference4Ideal.Gen Cert.Math

/-! ## The step, in the reference's operations -/

/-- A constant of any shape. -/
def fill (s : Shape) (h : S_.BroadcastsInDim s (![] : Fin 0 → Fin s.rank)) (b : BitVec 32) : FVec Ideal s .f32 :=
  broadcastInDim s ![] h (constant S_ .f32 b)

/-- The new first moment. -/
def hostM (s : Shape) (h : S_.BroadcastsInDim s (![] : Fin 0 → Fin s.rank)) (g m : FVec Ideal s .f32) : FVec Ideal s .f32 :=
  addf (mulf (fill s h 0x3F666666#32) m) (mulf (fill s h 0x3DCCCCCD#32) g)

/-- The new second moment. -/
def hostV (s : Shape) (h : S_.BroadcastsInDim s (![] : Fin 0 → Fin s.rank)) (g v : FVec Ideal s .f32) : FVec Ideal s .f32 :=
  addf (mulf (fill s h 0x3F7FBE77#32) v) (mulf (fill s h 0x3A83126F#32) (mulf g g))

/-- The change. -/
def hostDelta (s : Shape) (h : S_.BroadcastsInDim s (![] : Fin 0 → Fin s.rank)) (w g m v : FVec Ideal s .f32) : FVec Ideal s .f32 :=
  mulf (fill s h 0xBA83126F#32)
    (addf (Host.divf (Host.divf (hostM s h g m) (fill s h 0x3F26BD02#32))
        (addf (Host.sqrt (Host.divf (hostV s h g v) (fill s h 0x3C231ACC#32))) (fill s h 0x322BCC77#32)))
      (mulf (fill s h 0x3C23D70A#32) w))

theorem hostM_eq (s : Shape) (h) (g m : FVec Ideal s .f32) : hostM s h g m = newM s g m := by
  funext i
  rfl

theorem hostV_eq (s : Shape) (h) (g v : FVec Ideal s .f32) : hostV s h g v = newV s g v := by
  funext i
  rfl

theorem hostDelta_eq (s : Shape) (h) (w g m v : FVec Ideal s .f32) : hostDelta s h w g m v = newDelta s w g m v := by
  funext i
  rfl

variable (m : (ℓ : Loc nD τ sig) → Buf (Elt Ideal) ℓ) (c : Dev nD)

/-! ## The arguments at their literal types: weights, summed gradients, first and second moments -/

abbrev aW0 : FVec Ideal S4x2048 .f32 := m ((c : Thread nD τ).loc main_arg0)
abbrev aG0 : FVec Ideal S4x2048 .f32 := m ((c : Thread nD τ).loc main_arg8)
abbrev aM0 : FVec Ideal S4x2048 .f32 := m ((c : Thread nD τ).loc main_arg16)
abbrev aV0 : FVec Ideal S4x2048 .f32 := m ((c : Thread nD τ).loc main_arg24)
abbrev aW1 : FVec Ideal S4x512 .f32 := m ((c : Thread nD τ).loc main_arg1)
abbrev aG1 : FVec Ideal S4x512 .f32 := m ((c : Thread nD τ).loc main_arg9)
abbrev aM1 : FVec Ideal S4x512 .f32 := m ((c : Thread nD τ).loc main_arg17)
abbrev aV1 : FVec Ideal S4x512 .f32 := m ((c : Thread nD τ).loc main_arg25)
abbrev aW2 : FVec Ideal S4x256 .f32 := m ((c : Thread nD τ).loc main_arg2)
abbrev aG2 : FVec Ideal S4x256 .f32 := m ((c : Thread nD τ).loc main_arg10)
abbrev aM2 : FVec Ideal S4x256 .f32 := m ((c : Thread nD τ).loc main_arg18)
abbrev aV2 : FVec Ideal S4x256 .f32 := m ((c : Thread nD τ).loc main_arg26)
abbrev aW3 : FVec Ideal S4x1024 .f32 := m ((c : Thread nD τ).loc main_arg3)
abbrev aG3 : FVec Ideal S4x1024 .f32 := m ((c : Thread nD τ).loc main_arg11)
abbrev aM3 : FVec Ideal S4x1024 .f32 := m ((c : Thread nD τ).loc main_arg19)
abbrev aV3 : FVec Ideal S4x1024 .f32 := m ((c : Thread nD τ).loc main_arg27)
abbrev aW4 : FVec Ideal S4x512 .f32 := m ((c : Thread nD τ).loc main_arg4)
abbrev aG4 : FVec Ideal S4x512 .f32 := m ((c : Thread nD τ).loc main_arg12)
abbrev aM4 : FVec Ideal S4x512 .f32 := m ((c : Thread nD τ).loc main_arg20)
abbrev aV4 : FVec Ideal S4x512 .f32 := m ((c : Thread nD τ).loc main_arg28)
abbrev aW5 : FVec Ideal S4x512 .f32 := m ((c : Thread nD τ).loc main_arg5)
abbrev aG5 : FVec Ideal S4x512 .f32 := m ((c : Thread nD τ).loc main_arg13)
abbrev aM5 : FVec Ideal S4x512 .f32 := m ((c : Thread nD τ).loc main_arg21)
abbrev aV5 : FVec Ideal S4x512 .f32 := m ((c : Thread nD τ).loc main_arg29)
abbrev aW6 : FVec Ideal S4x2048 .f32 := m ((c : Thread nD τ).loc main_arg6)
abbrev aG6 : FVec Ideal S4x2048 .f32 := m ((c : Thread nD τ).loc main_arg14)
abbrev aM6 : FVec Ideal S4x2048 .f32 := m ((c : Thread nD τ).loc main_arg22)
abbrev aV6 : FVec Ideal S4x2048 .f32 := m ((c : Thread nD τ).loc main_arg30)
abbrev aW7 : FVec Ideal S2048 .f32 := m ((c : Thread nD τ).loc main_arg7)
abbrev aG7 : FVec Ideal S2048 .f32 := m ((c : Thread nD τ).loc main_arg15)
abbrev aM7 : FVec Ideal S2048 .f32 := m ((c : Thread nD τ).loc main_arg23)
abbrev aV7 : FVec Ideal S2048 .f32 := m ((c : Thread nD τ).loc main_arg31)

/-- The reference's run: every result is the step, the arguments end as they began. -/
theorem run_math (ρ : Dev nD → PrngReg) :
    θ_run defs (onTc (τ := τ) (main (F := Ideal))) ⟨m, fun _ => 0, ρ⟩ fun r => ∀ c : Dev nD,
      (r.2.mem ((c.tc : Thread nD τ).loc main_v23) = newDelta S4x2048 (aW0 m c) (aG0 m c) (aM0 m c) (aV0 m c)
      ∧ r.2.mem ((c.tc : Thread nD τ).loc main_v47) = newDelta S4x512 (aW1 m c) (aG1 m c) (aM1 m c) (aV1 m c)
      ∧ r.2.mem ((c.tc : Thread nD τ).loc main_v71) = newDelta S4x256 (aW2 m c) (aG2 m c) (aM2 m c) (aV2 m c)
      ∧ r.2.mem ((c.tc : Thread nD τ).loc main_v95) = newDelta S4x1024 (aW3 m c) (aG3 m c) (aM3 m c) (aV3 m c)
      ∧ r.2.mem ((c.tc : Thread nD τ).loc main_v119) = newDelta S4x512 (aW4 m c) (aG4 m c) (aM4 m c) (aV4 m c)
      ∧ r.2.mem ((c.tc : Thread nD τ).loc main_v143) = newDelta S4x512 (aW5 m c) (aG5 m c) (aM5 m c) (aV5 m c)
      ∧ r.2.mem ((c.tc : Thread nD τ).loc main_v167) = newDelta S4x2048 (aW6 m c) (aG6 m c) (aM6 m c) (aV6 m c)
      ∧ r.2.mem ((c.tc : Thread nD τ).loc main_v191) = newDelta S2048 (aW7 m c) (aG7 m c) (aM7 m c) (aV7 m c)
      ∧ r.2.mem ((c.tc : Thread nD τ).loc main_v4) = newM S4x2048 (aG0 m c) (aM0 m c)
      ∧ r.2.mem ((c.tc : Thread nD τ).loc main_v28) = newM S4x512 (aG1 m c) (aM1 m c)
      ∧ r.2.mem ((c.tc : Thread nD τ).loc main_v52) = newM S4x256 (aG2 m c) (aM2 m c)
      ∧ r.2.mem ((c.tc : Thread nD τ).loc main_v76) = newM S4x1024 (aG3 m c) (aM3 m c)
      ∧ r.2.mem ((c.tc : Thread nD τ).loc main_v100) = newM S4x512 (aG4 m c) (aM4 m c)
      ∧ r.2.mem ((c.tc : Thread nD τ).loc main_v124) = newM S4x512 (aG5 m c) (aM5 m c)
      ∧ r.2.mem ((c.tc : Thread nD τ).loc main_v148) = newM S4x2048 (aG6 m c) (aM6 m c)
      ∧ r.2.mem ((c.tc : Thread nD τ).loc main_v172) = newM S2048 (aG7 m c) (aM7 m c)
      ∧ r.2.mem ((c.tc : Thread nD τ).loc main_v10) = newV S4x2048 (aG0 m c) (aV0 m c)
      ∧ r.2.mem ((c.tc : Thread nD τ).loc main_v34) = newV S4x512 (aG1 m c) (aV1 m c)
      ∧ r.2.mem ((c.tc : Thread nD τ).loc main_v58) = newV S4x256 (aG2 m c) (aV2 m c)
      ∧ r.2.mem ((c.tc : Thread nD τ).loc main_v82) = newV S4x1024 (aG3 m c) (aV3 m c)
      ∧ r.2.mem ((c.tc : Thread nD τ).loc main_v106) = newV S4x512 (aG4 m c) (aV4 m c)
      ∧ r.2.mem ((c.tc : Thread nD τ).loc main_v130) = newV S4x512 (aG5 m c) (aV5 m c)
      ∧ r.2.mem ((c.tc : Thread nD τ).loc main_v154) = newV S4x2048 (aG6 m c) (aV6 m c)
      ∧ r.2.mem ((c.tc : Thread nD τ).loc main_v178) = newV S2048 (aG7 m c) (aV7 m c))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)) :=
  (θ_run defs _ _).mono (fun r h c => by
    obtain ⟨h0, h1, h2, h3, h4, h5, h6, h7, h8, h9, h10, h11, h12, h13, h14, h15, h16, h17, h18, h19, h20, h21, h22, h23, ha⟩ := h c
    have e0 := (h0.trans (show _ = hostDelta S4x2048 bcast_S_S4x2048 (aW0 m c) (aG0 m c) (aM0 m c) (aV0 m c) from rfl)).trans (hostDelta_eq S4x2048 bcast_S_S4x2048 (aW0 m c) (aG0 m c) (aM0 m c) (aV0 m c))
    have e1 := (h1.trans (show _ = hostDelta S4x512 bcast_S_S4x512 (aW1 m c) (aG1 m c) (aM1 m c) (aV1 m c) from rfl)).trans (hostDelta_eq S4x512 bcast_S_S4x512 (aW1 m c) (aG1 m c) (aM1 m c) (aV1 m c))
    have e2 := (h2.trans (show _ = hostDelta S4x256 bcast_S_S4x256 (aW2 m c) (aG2 m c) (aM2 m c) (aV2 m c) from rfl)).trans (hostDelta_eq S4x256 bcast_S_S4x256 (aW2 m c) (aG2 m c) (aM2 m c) (aV2 m c))
    have e3 := (h3.trans (show _ = hostDelta S4x1024 bcast_S_S4x1024 (aW3 m c) (aG3 m c) (aM3 m c) (aV3 m c) from rfl)).trans (hostDelta_eq S4x1024 bcast_S_S4x1024 (aW3 m c) (aG3 m c) (aM3 m c) (aV3 m c))
    have e4 := (h4.trans (show _ = hostDelta S4x512 bcast_S_S4x512 (aW4 m c) (aG4 m c) (aM4 m c) (aV4 m c) from rfl)).trans (hostDelta_eq S4x512 bcast_S_S4x512 (aW4 m c) (aG4 m c) (aM4 m c) (aV4 m c))
    have e5 := (h5.trans (show _ = hostDelta S4x512 bcast_S_S4x512 (aW5 m c) (aG5 m c) (aM5 m c) (aV5 m c) from rfl)).trans (hostDelta_eq S4x512 bcast_S_S4x512 (aW5 m c) (aG5 m c) (aM5 m c) (aV5 m c))
    have e6 := (h6.trans (show _ = hostDelta S4x2048 bcast_S_S4x2048 (aW6 m c) (aG6 m c) (aM6 m c) (aV6 m c) from rfl)).trans (hostDelta_eq S4x2048 bcast_S_S4x2048 (aW6 m c) (aG6 m c) (aM6 m c) (aV6 m c))
    have e7 := (h7.trans (show _ = hostDelta S2048 bcast_S_S2048 (aW7 m c) (aG7 m c) (aM7 m c) (aV7 m c) from rfl)).trans (hostDelta_eq S2048 bcast_S_S2048 (aW7 m c) (aG7 m c) (aM7 m c) (aV7 m c))
    have e8 := (h8.trans (show _ = hostM S4x2048 bcast_S_S4x2048 (aG0 m c) (aM0 m c) from rfl)).trans (hostM_eq S4x2048 bcast_S_S4x2048 (aG0 m c) (aM0 m c))
    have e9 := (h9.trans (show _ = hostM S4x512 bcast_S_S4x512 (aG1 m c) (aM1 m c) from rfl)).trans (hostM_eq S4x512 bcast_S_S4x512 (aG1 m c) (aM1 m c))
    have e10 := (h10.trans (show _ = hostM S4x256 bcast_S_S4x256 (aG2 m c) (aM2 m c) from rfl)).trans (hostM_eq S4x256 bcast_S_S4x256 (aG2 m c) (aM2 m c))
    have e11 := (h11.trans (show _ = hostM S4x1024 bcast_S_S4x1024 (aG3 m c) (aM3 m c) from rfl)).trans (hostM_eq S4x1024 bcast_S_S4x1024 (aG3 m c) (aM3 m c))
    have e12 := (h12.trans (show _ = hostM S4x512 bcast_S_S4x512 (aG4 m c) (aM4 m c) from rfl)).trans (hostM_eq S4x512 bcast_S_S4x512 (aG4 m c) (aM4 m c))
    have e13 := (h13.trans (show _ = hostM S4x512 bcast_S_S4x512 (aG5 m c) (aM5 m c) from rfl)).trans (hostM_eq S4x512 bcast_S_S4x512 (aG5 m c) (aM5 m c))
    have e14 := (h14.trans (show _ = hostM S4x2048 bcast_S_S4x2048 (aG6 m c) (aM6 m c) from rfl)).trans (hostM_eq S4x2048 bcast_S_S4x2048 (aG6 m c) (aM6 m c))
    have e15 := (h15.trans (show _ = hostM S2048 bcast_S_S2048 (aG7 m c) (aM7 m c) from rfl)).trans (hostM_eq S2048 bcast_S_S2048 (aG7 m c) (aM7 m c))
    have e16 := (h16.trans (show _ = hostV S4x2048 bcast_S_S4x2048 (aG0 m c) (aV0 m c) from rfl)).trans (hostV_eq S4x2048 bcast_S_S4x2048 (aG0 m c) (aV0 m c))
    have e17 := (h17.trans (show _ = hostV S4x512 bcast_S_S4x512 (aG1 m c) (aV1 m c) from rfl)).trans (hostV_eq S4x512 bcast_S_S4x512 (aG1 m c) (aV1 m c))
    have e18 := (h18.trans (show _ = hostV S4x256 bcast_S_S4x256 (aG2 m c) (aV2 m c) from rfl)).trans (hostV_eq S4x256 bcast_S_S4x256 (aG2 m c) (aV2 m c))
    have e19 := (h19.trans (show _ = hostV S4x1024 bcast_S_S4x1024 (aG3 m c) (aV3 m c) from rfl)).trans (hostV_eq S4x1024 bcast_S_S4x1024 (aG3 m c) (aV3 m c))
    have e20 := (h20.trans (show _ = hostV S4x512 bcast_S_S4x512 (aG4 m c) (aV4 m c) from rfl)).trans (hostV_eq S4x512 bcast_S_S4x512 (aG4 m c) (aV4 m c))
    have e21 := (h21.trans (show _ = hostV S4x512 bcast_S_S4x512 (aG5 m c) (aV5 m c) from rfl)).trans (hostV_eq S4x512 bcast_S_S4x512 (aG5 m c) (aV5 m c))
    have e22 := (h22.trans (show _ = hostV S4x2048 bcast_S_S4x2048 (aG6 m c) (aV6 m c) from rfl)).trans (hostV_eq S4x2048 bcast_S_S4x2048 (aG6 m c) (aV6 m c))
    have e23 := (h23.trans (show _ = hostV S2048 bcast_S_S2048 (aG7 m c) (aV7 m c) from rfl)).trans (hostV_eq S2048 bcast_S_S2048 (aG7 m c) (aV7 m c))
    exact ⟨⟨e0, e1, e2, e3, e4, e5, e6, e7, e8, e9, e10, e11, e12, e13, e14, e15, e16, e17, e18, e19, e20, e21, e22, e23⟩, ha⟩) (run m ρ)

end Cert.Reference4Ideal.Value

end
-- ==== Proof.Claims4.lean ====
/- The claims that speak of the reference of the optimiser's step on the norms' scales: its frame, and the equality of the kernel's
   results with it. -/
module

public import proofs.«01_k».proof.Defs
public import proofs.«01_k».proof.Proof.Run4
public import proofs.«01_k».proof.Proof.Reference4
public import Idealize.ShloMosaic.Lib.Claim

@[expose] public section

set_option maxRecDepth 16384

noncomputable section

namespace Cert.Proof.Scales

open Idealize.ShloMosaic Idealize.SL.Sem Cert.Math
open Cert.Kernel4Ideal.Value

/-- The reference's frame. -/
theorem frame_ri : Cert.quiescent_Reference4Ideal := fun m ρ _ =>
  (θ_run Cert.Reference4Ideal.defs _ _).mono (fun r h => ⟨fun c => (h c).2, sem_eq_zero_of_no_sems (by decide) r.2⟩)
    (Cert.Reference4Ideal.Value.run_math m ρ)

/-- The kernel's results are the reference's: both are the same step on the same arguments. -/
theorem algebraic : Cert.algebraic_Kernel4Ideal_Reference4Ideal := by
  intro m g m' g' _ h
  refine ⟨fun c => newDelta Cert.Kernel4Ideal.S4x2048 (aW0 m c) (aG0 m c) (aM0 m c) (aV0 m c),
    fun c => newDelta Cert.Kernel4Ideal.S4x512 (aW1 m c) (aG1 m c) (aM1 m c) (aV1 m c),
    fun c => newDelta Cert.Kernel4Ideal.S4x256 (aW2 m c) (aG2 m c) (aM2 m c) (aV2 m c),
    fun c => newDelta Cert.Kernel4Ideal.S4x1024 (aW3 m c) (aG3 m c) (aM3 m c) (aV3 m c),
    fun c => newDelta Cert.Kernel4Ideal.S4x512 (aW4 m c) (aG4 m c) (aM4 m c) (aV4 m c),
    fun c => newDelta Cert.Kernel4Ideal.S4x512 (aW5 m c) (aG5 m c) (aM5 m c) (aV5 m c),
    fun c => newDelta Cert.Kernel4Ideal.S4x2048 (aW6 m c) (aG6 m c) (aM6 m c) (aV6 m c),
    fun c => newDelta Cert.Kernel4Ideal.S2048 (aW7 m c) (aG7 m c) (aM7 m c) (aV7 m c),
    fun c => newM Cert.Kernel4Ideal.S4x2048 (aG0 m c) (aM0 m c),
    fun c => newM Cert.Kernel4Ideal.S4x512 (aG1 m c) (aM1 m c),
    fun c => newM Cert.Kernel4Ideal.S4x256 (aG2 m c) (aM2 m c),
    fun c => newM Cert.Kernel4Ideal.S4x1024 (aG3 m c) (aM3 m c),
    fun c => newM Cert.Kernel4Ideal.S4x512 (aG4 m c) (aM4 m c),
    fun c => newM Cert.Kernel4Ideal.S4x512 (aG5 m c) (aM5 m c),
    fun c => newM Cert.Kernel4Ideal.S4x2048 (aG6 m c) (aM6 m c),
    fun c => newM Cert.Kernel4Ideal.S2048 (aG7 m c) (aM7 m c),
    fun c => newV Cert.Kernel4Ideal.S4x2048 (aG0 m c) (aV0 m c),
    fun c => newV Cert.Kernel4Ideal.S4x512 (aG1 m c) (aV1 m c),
    fun c => newV Cert.Kernel4Ideal.S4x256 (aG2 m c) (aV2 m c),
    fun c => newV Cert.Kernel4Ideal.S4x1024 (aG3 m c) (aV3 m c),
    fun c => newV Cert.Kernel4Ideal.S4x512 (aG4 m c) (aV4 m c),
    fun c => newV Cert.Kernel4Ideal.S4x512 (aG5 m c) (aV5 m c),
    fun c => newV Cert.Kernel4Ideal.S4x2048 (aG6 m c) (aV6 m c),
    fun c => newV Cert.Kernel4Ideal.S2048 (aG7 m c) (aV7 m c),
    (θ_run _ _ _).mono (fun r hr c => ?_) (Cert.Kernel4Ideal.Value.run_math m g),
    (θ_run _ _ _).mono (fun r hr c => ?_) (Cert.Reference4Ideal.Value.run_math m' g')⟩
  · obtain ⟨⟨h0, h1, h2, h3, h4, h5, h6, h7, h8, h9, h10, h11, h12, h13, h14, h15, h16, h17, h18, h19, h20, h21, h22, h23⟩, ha⟩ := hr c
    exact ⟨h0, h1, h2, h3, h4, h5, h6, h7, h8, h9, h10, h11, h12, h13, h14, h15, h16, h17, h18, h19, h20, h21, h22, h23, ha⟩
  · obtain ⟨⟨h0, h1, h2, h3, h4, h5, h6, h7, h8, h9, h10, h11, h12, h13, h14, h15, h16, h17, h18, h19, h20, h21, h22, h23⟩, ha⟩ := hr c
    obtain ⟨e0, e1, e2, e3, e4, e5, e6, e7, e8, e9, e10, e11, e12, e13, e14, e15, e16, e17, e18, e19, e20, e21, e22, e23, e24, e25, e26, e27, e28, e29, e30, e31⟩ := h c
    have kW0 : Cert.Reference4Ideal.Value.aW0 m' c = aW0 m c := e0
    have kW1 : Cert.Reference4Ideal.Value.aW1 m' c = aW1 m c := e1
    have kW2 : Cert.Reference4Ideal.Value.aW2 m' c = aW2 m c := e2
    have kW3 : Cert.Reference4Ideal.Value.aW3 m' c = aW3 m c := e3
    have kW4 : Cert.Reference4Ideal.Value.aW4 m' c = aW4 m c := e4
    have kW5 : Cert.Reference4Ideal.Value.aW5 m' c = aW5 m c := e5
    have kW6 : Cert.Reference4Ideal.Value.aW6 m' c = aW6 m c := e6
    have kW7 : Cert.Reference4Ideal.Value.aW7 m' c = aW7 m c := e7
    have kG0 : Cert.Reference4Ideal.Value.aG0 m' c = aG0 m c := e8
    have kG1 : Cert.Reference4Ideal.Value.aG1 m' c = aG1 m c := e9
    have kG2 : Cert.Reference4Ideal.Value.aG2 m' c = aG2 m c := e10
    have kG3 : Cert.Reference4Ideal.Value.aG3 m' c = aG3 m c := e11
    have kG4 : Cert.Reference4Ideal.Value.aG4 m' c = aG4 m c := e12
    have kG5 : Cert.Reference4Ideal.Value.aG5 m' c = aG5 m c := e13
    have kG6 : Cert.Reference4Ideal.Value.aG6 m' c = aG6 m c := e14
    have kG7 : Cert.Reference4Ideal.Value.aG7 m' c = aG7 m c := e15
    have kM0 : Cert.Reference4Ideal.Value.aM0 m' c = aM0 m c := e16
    have kM1 : Cert.Reference4Ideal.Value.aM1 m' c = aM1 m c := e17
    have kM2 : Cert.Reference4Ideal.Value.aM2 m' c = aM2 m c := e18
    have kM3 : Cert.Reference4Ideal.Value.aM3 m' c = aM3 m c := e19
    have kM4 : Cert.Reference4Ideal.Value.aM4 m' c = aM4 m c := e20
    have kM5 : Cert.Reference4Ideal.Value.aM5 m' c = aM5 m c := e21
    have kM6 : Cert.Reference4Ideal.Value.aM6 m' c = aM6 m c := e22
    have kM7 : Cert.Reference4Ideal.Value.aM7 m' c = aM7 m c := e23
    have kV0 : Cert.Reference4Ideal.Value.aV0 m' c = aV0 m c := e24
    have kV1 : Cert.Reference4Ideal.Value.aV1 m' c = aV1 m c := e25
    have kV2 : Cert.Reference4Ideal.Value.aV2 m' c = aV2 m c := e26
    have kV3 : Cert.Reference4Ideal.Value.aV3 m' c = aV3 m c := e27
    have kV4 : Cert.Reference4Ideal.Value.aV4 m' c = aV4 m c := e28
    have kV5 : Cert.Reference4Ideal.Value.aV5 m' c = aV5 m c := e29
    have kV6 : Cert.Reference4Ideal.Value.aV6 m' c = aV6 m c := e30
    have kV7 : Cert.Reference4Ideal.Value.aV7 m' c = aV7 m c := e31
    rw [kW0, kG0, kM0, kV0] at h0
    rw [kW1, kG1, kM1, kV1] at h1
    rw [kW2, kG2, kM2, kV2] at h2
    rw [kW3, kG3, kM3, kV3] at h3
    rw [kW4, kG4, kM4, kV4] at h4
    rw [kW5, kG5, kM5, kV5] at h5
    rw [kW6, kG6, kM6, kV6] at h6
    rw [kW7, kG7, kM7, kV7] at h7
    rw [kG0, kM0] at h8
    rw [kG1, kM1] at h9
    rw [kG2, kM2] at h10
    rw [kG3, kM3] at h11
    rw [kG4, kM4] at h12
    rw [kG5, kM5] at h13
    rw [kG6, kM6] at h14
    rw [kG7, kM7] at h15
    rw [kG0, kV0] at h16
    rw [kG1, kV1] at h17
    rw [kG2, kV2] at h18
    rw [kG3, kV3] at h19
    rw [kG4, kV4] at h20
    rw [kG5, kV5] at h21
    rw [kG6, kV6] at h22
    rw [kG7, kV7] at h23
    exact ⟨h0, h1, h2, h3, h4, h5, h6, h7, h8, h9, h10, h11, h12, h13, h14, h15, h16, h17, h18, h19, h20, h21, h22, h23, ha⟩

end Cert.Proof.Scales

end
-- ==== Proof.Spec5.lean ====
/- The mathematics of the two low-rank projections of the latent attention as plain functions of arrays of extended reals: a
   latent is normalised and projected, head by head, and the gradients of all of it. Both programs are compared with these. -/
module

public import proofs.«01_k».proof.Proof.Spec2

@[expose] public section

noncomputable section

namespace Cert.Math

open Idealize.ShloMosaic

/-- One matrix for each of the eight heads. -/
abbrev Heads (a b : ℕ) : Type := (⟨3, ![8, a, b]⟩ : Shape).Idx → EReal

/-- The queries of each head: the rows of `A` times the transpose of the head's matrix. -/
def qUp (A : Mat 2048 512) (W : Heads 192 512) : Heads 2048 192 := fun j =>
  ∑ l : Fin 512, A (ix2 (j 1) l) * W (ix3 (j 0) (j 2) l)

/-- The keys and values of each head: the rows of `A` times the head's matrix. -/
def kvUp (A : Mat 2048 256) (W : Heads 256 256) : Heads 2048 256 := fun j =>
  ∑ l : Fin 256, A (ix2 (j 1) l) * W (ix3 (j 0) l (j 2))

/-- The cotangent of the rows behind `qUp`: summed over the heads. -/
def qDown (D : Heads 2048 192) (W : Heads 192 512) : Mat 2048 512 := fun j =>
  ∑ h : Fin 8, ∑ d : Fin 192, D (ix3 h (j 0) d) * W (ix3 h d (j 1))

/-- The cotangent of the rows behind `kvUp`: summed over the heads. -/
def kvDown (D : Heads 2048 256) (W : Heads 256 256) : Mat 2048 256 := fun j =>
  ∑ h : Fin 8, ∑ d : Fin 256, D (ix3 h (j 0) d) * W (ix3 h (j 1) d)

/-- The gradient of the heads' matrices of `qUp`. -/
def qGrad (D : Heads 2048 192) (A : Mat 2048 512) : Heads 192 512 := fun j =>
  ∑ t : Fin 2048, D (ix3 (j 0) t (j 1)) * A (ix2 t (j 2))

/-- The gradient of the heads' matrices of `kvUp`. -/
def kvGrad (A : Mat 2048 256) (D : Heads 2048 256) : Heads 256 256 := fun j =>
  ∑ t : Fin 2048, A (ix2 t (j 1)) * D (ix3 (j 0) t (j 2))

/-! ## The projections and their gradients

`CQ`, `GQ` the latent of the queries and the scale of its norm, `CK`, `GK` those of the keys and values, `WQ`, `WK` the
heads' matrices, `DQ`, `DK` the cotangents of the projected heads. -/

section LowRank

variable (CQ : Mat 2048 512) (GQ : Mat 1 512) (WQ : Heads 192 512) (CK : Mat 2048 256) (GK : Mat 1 256) (WK : Heads 256 256)
  (DQ : Heads 2048 192) (DK : Heads 2048 256)

/-- The normalised latents. -/
def lrQn : Mat 2048 512 := wRms 0x44000000#32 CQ GQ
def lrKn : Mat 2048 256 := wRms 0x43800000#32 CK GK

/-- The projected heads. -/
def lrQ : Heads 2048 192 := qUp (lrQn CQ GQ) WQ
def lrK : Heads 2048 256 := kvUp (lrKn CK GK) WK

/-- The gradients of the latents. -/
def lrDCQ : Mat 2048 512 := wDx 0x44000000#32 CQ GQ (qDown DQ WQ)
def lrDCK : Mat 2048 256 := wDx 0x43800000#32 CK GK (kvDown DK WK)

/-- The gradients of the scales of their norms. -/
def lrDGQ : Mat 1 512 := wDg 0x44000000#32 CQ (qDown DQ WQ)
def lrDGK : Mat 1 256 := wDg 0x43800000#32 CK (kvDown DK WK)

/-- The gradients of the heads' matrices. -/
def lrDWQ : Heads 192 512 := qGrad DQ (lrQn CQ GQ)
def lrDWK : Heads 256 256 := kvGrad (lrKn CK GK) DK

end LowRank

end Cert.Math

end
-- ==== Proof.LowRankMm.lean ====
/- What the products of the low-rank projections leave in their output arrays, one head a grid point. -/
module

public import proofs.«01_k».proof.Proof.Spec5
public import proofs.«01_k».proof.Proof.Gen.Kernel5Ideal.Frame.Region2
public import proofs.«01_k».proof.Proof.Gen.Kernel5Ideal.Frame.Region3
public import proofs.«01_k».proof.Proof.Gen.Kernel5Ideal.Frame.Region5
public import proofs.«01_k».proof.Proof.Gen.Kernel5Ideal.Frame.Region7
public import Idealize.ShloMosaic.Lib.Pipeline.ValueKit
public import Idealize.ShloMosaic.Lib.Pointwise

@[expose] public section

set_option maxRecDepth 16384

noncomputable section

namespace Cert.Kernel5Ideal.Value

open Idealize.ShloMosaic Idealize.ShloMosaic.TcCoe Idealize.SL.Sem
open Idealize.ShloMosaic.Pipeline (Dat)
open Cert.Kernel5Ideal Cert.Kernel5Ideal.Gen Cert.Math

variable (V : (c : Dev nD) → (b : Ref sig .tc) → Buf (Elt Ideal) ((c : Thread nD τ).loc b)) (c : Dev nD)

/-- The blocks region 2 reads and writes at each grid point. -/
theorem idx2 : ∀ t : Fin cfg2.N, win2_0.index t = ![0, 0] ∧ win2_1.index t = ![t.val, 0, 0] ∧ win2_2.index t = ![t.val, 0, 0] :=
  (by decide +kernel : ∀ t : Fin grid2.N, _)

/-- The queries. -/
theorem final2 : (dat2 V c).arrAt 2 cfg2.N = qUp (V c main_v2) (V c main_v0) := by
  refine (dat2 V c).arrAt_eq_of_covers 2 _ (by decide +kernel) fun t _ y => ?_
  blk_simp
  rw [after2_2]; frame_out
  pointwise [k2_pay1, qUp]
  blk_point [iblk2, idx2 t]

/-- The blocks region 3 reads and writes at each grid point. -/
theorem idx3 : ∀ t : Fin cfg3.N, win3_0.index t = ![0, 0] ∧ win3_1.index t = ![t.val, 0, 0] ∧ win3_2.index t = ![t.val, 0, 0] :=
  (by decide +kernel : ∀ t : Fin grid3.N, _)

/-- The keys and values. -/
theorem final3 : (dat3 V c).arrAt 2 cfg3.N = kvUp (V c main_v3) (V c main_v1) := by
  refine (dat3 V c).arrAt_eq_of_covers 2 _ (by decide +kernel) fun t _ y => ?_
  blk_simp
  rw [after3_2]; frame_out
  pointwise [k3_pay1, kvUp]
  blk_point [iblk3, idx3 t]

/-- The blocks region 5 reads and writes at each grid point. -/
theorem idx5 : ∀ t : Fin cfg5.N, win5_0.index t = ![t.val, 0, 0] ∧ win5_1.index t = ![0, 0] ∧ win5_2.index t = ![t.val, 0, 0] :=
  (by decide +kernel : ∀ t : Fin grid5.N, _)

/-- The gradient of the queries' matrices. -/
theorem final5 : (dat5 V c).arrAt 2 cfg5.N = qGrad (V c main_v6) (V c main_v2) := by
  refine (dat5 V c).arrAt_eq_of_covers 2 _ (by decide +kernel) fun t _ y => ?_
  blk_simp
  rw [after5_2]; frame_out
  pointwise [k5_pay1, qGrad]
  blk_point [iblk5, idx5 t]

/-- The blocks region 7 reads and writes at each grid point. -/
theorem idx7 : ∀ t : Fin cfg7.N, win7_0.index t = ![0, 0] ∧ win7_1.index t = ![t.val, 0, 0] ∧ win7_2.index t = ![t.val, 0, 0] :=
  (by decide +kernel : ∀ t : Fin grid7.N, _)

/-- The gradient of the keys' and values' matrices. -/
theorem final7 : (dat7 V c).arrAt 2 cfg7.N = kvGrad (V c main_v3) (V c main_v7) := by
  refine (dat7 V c).arrAt_eq_of_covers 2 _ (by decide +kernel) fun t _ y => ?_
  blk_simp
  rw [after7_2]; frame_out
  pointwise [k7_pay1, kvGrad]
  blk_point [iblk7, idx7 t]

end Cert.Kernel5Ideal.Value

end
-- ==== Proof.LowRankDq.lean ====
/- What the product that carries the cotangent of the queries back to the normalised latent leaves in its output array:
   each grid point adds up the eight heads of one tile of rows. -/
module

public import proofs.«01_k».proof.Proof.Spec5
public import proofs.«01_k».proof.Proof.Gen.Kernel5Ideal.Frame.Region4
public import Idealize.ShloMosaic.Lib.Pipeline.ValueKit
public import Idealize.ShloMosaic.Lib.Pointwise

@[expose] public section

set_option maxRecDepth 16384

noncomputable section

namespace Cert.Kernel5Ideal.Value

open Idealize.ShloMosaic Idealize.ShloMosaic.TcCoe Idealize.SL.Sem
open Idealize.ShloMosaic.Pipeline (Dat)
open Cert.Kernel5Ideal Cert.Kernel5Ideal.Gen Cert.Math

variable (V : (c : Dev nD) → (b : Ref sig .tc) → Buf (Elt Ideal) ((c : Thread nD τ).loc b)) (c : Dev nD)

/-- The blocks region 4 reads and writes at each grid point. -/
theorem idx4 : ∀ t : Fin cfg4.N, win4_0.index t = ![0, t.val, 0] ∧ win4_1.index t = ![0, 0, 0] ∧ win4_2.index t = ![t.val, 0] :=
  (by decide +kernel : ∀ t : Fin grid4.N, _)

/-- The cotangent of the normalised latent of the queries. -/
theorem final4 : (dat4 V c).arrAt 2 cfg4.N = qDown (V c main_v6) (V c main_v0) := by
  refine (dat4 V c).arrAt_eq_of_covers 2 _ (by decide +kernel) fun t _ y => ?_
  blk_simp
  rw [after4_2]; frame_out
  pointwise [k4_pay1, k4_pay2, k4_pay3, qDown, Fin.sum_univ_eight]
  blk_point [iblk4, idx4 t]

end Cert.Kernel5Ideal.Value

end
-- ==== Proof.LowRankDk.lean ====
/- What the product that carries the cotangent of the keys and values back to the normalised latent leaves in its output array:
   each grid point adds up the eight heads of one tile of rows. -/
module

public import proofs.«01_k».proof.Proof.Spec5
public import proofs.«01_k».proof.Proof.Gen.Kernel5Ideal.Frame.Region6
public import Idealize.ShloMosaic.Lib.Pipeline.ValueKit
public import Idealize.ShloMosaic.Lib.Pointwise

@[expose] public section

set_option maxRecDepth 16384

noncomputable section

namespace Cert.Kernel5Ideal.Value

open Idealize.ShloMosaic Idealize.ShloMosaic.TcCoe Idealize.SL.Sem
open Idealize.ShloMosaic.Pipeline (Dat)
open Cert.Kernel5Ideal Cert.Kernel5Ideal.Gen Cert.Math

variable (V : (c : Dev nD) → (b : Ref sig .tc) → Buf (Elt Ideal) ((c : Thread nD τ).loc b)) (c : Dev nD)

/-- The blocks region 6 reads and writes at each grid point. -/
theorem idx6 : ∀ t : Fin cfg6.N, win6_0.index t = ![0, t.val, 0] ∧ win6_1.index t = ![0, 0, 0] ∧ win6_2.index t = ![t.val, 0] :=
  (by decide +kernel : ∀ t : Fin grid6.N, _)

/-- The cotangent of the normalised latent of the keys and values. -/
theorem final6 : (dat6 V c).arrAt 2 cfg6.N = kvDown (V c main_v7) (V c main_v1) := by
  refine (dat6 V c).arrAt_eq_of_covers 2 _ (by decide +kernel) fun t _ y => ?_
  blk_simp
  rw [after6_2]; frame_out
  pointwise [k6_pay1, k6_pay2, k6_pay3, kvDown, Fin.sum_univ_eight]
  blk_point [iblk6, idx6 t]

end Cert.Kernel5Ideal.Value

end
-- ==== Proof.LowRankRmsQ.lean ====
/- What the normalisation of the latent of the queries and its gradient leave in their output arrays; the gradient of the
   scale is added up over the grid points. -/
module

public import proofs.«01_k».proof.Proof.Spec5
public import proofs.«01_k».proof.Proof.Gen.Kernel5Ideal.Frame.Region0
public import proofs.«01_k».proof.Proof.Gen.Kernel5Ideal.Frame.Region8
public import Idealize.ShloMosaic.Lib.Pipeline.ValueKit
public import Idealize.ShloMosaic.Lib.Pointwise

@[expose] public section

set_option maxRecDepth 16384

noncomputable section

namespace Cert.Kernel5Ideal.Value

open Idealize.ShloMosaic Idealize.ShloMosaic.TcCoe Idealize.SL.Sem
open Idealize.ShloMosaic.Pipeline (Dat)
open Cert.Kernel5Ideal Cert.Kernel5Ideal.Gen Cert.Math

variable (V : (c : Dev nD) → (b : Ref sig .tc) → Buf (Elt Ideal) ((c : Thread nD τ).loc b)) (c : Dev nD)

/-- The blocks region 0 reads and writes at each grid point. -/
theorem idx0 : ∀ t : Fin cfg0.N, win0_0.index t = ![t.val, 0] ∧ win0_1.index t = ![0, 0] ∧ win0_2.index t = ![t.val, 0] :=
  (by decide +kernel : ∀ t : Fin grid0.N, _)

/-- The normalised latent of the queries. -/
theorem final0 : (dat0 V c).arrAt 2 cfg0.N = wRms 0x44000000#32 (V c main_arg0) (V c main_arg1) := by
  refine (dat0 V c).arrAt_eq_of_covers 2 _ (by decide +kernel) fun t _ y => ?_
  blk_simp
  rw [after0_2]; frame_out
  pointwise [k0_pay1, wRms, wMeanSq]
  blk_point [iblk0, idx0 t]

/-- The blocks region 8 reads and writes at each grid point. -/
theorem idx8 : ∀ t : Fin cfg8.N, win8_0.index t = ![t.val, 0] ∧ win8_1.index t = ![0, 0] ∧ win8_2.index t = ![t.val, 0] ∧ win8_3.index t = ![t.val, 0] ∧ win8_4.index t = ![0, 0] :=
  (by decide +kernel : ∀ t : Fin grid8.N, _)

/-- The gradient of the latent of the queries. -/
theorem final8_dx : (dat8 V c).arrAt 3 cfg8.N = wDx 0x44000000#32 (V c main_arg0) (V c main_arg1) (V c main_v8) := by
  refine (dat8 V c).arrAt_eq_of_covers 3 _ (by decide +kernel) fun t _ y => ?_
  blk_simp
  rw [after8_3]
  have hstep : (outsAt8 V c t.val t.isLt).1 = k8_pay7 (iblk8 V c 0 t) (iblk8 V c 1 t) (iblk8 V c 2 t) := by
    by_cases h : t.val % 8 = 0
    · rw [outsAt8_A V c t h]; frame_out
    · rw [outsAt8_B V c t h]; frame_out
  rw [hstep]
  pointwise [k8_pay7, k8_pay5, k8_pay4, k8_pay3, wDx, wRow, wMeanSq, Fin.sum_univ_one]
  blk_point [iblk8, idx8 t]

/-- The accumulator starts at zero. -/
theorem k8_zero (j) : k8_pay1 (F := Ideal) j = 0 := by pointwise [k8_pay1]

/-- One grid point adds the sum over its own rows. -/
theorem k8_add (x0 x2 : FVec Ideal S256x512 .f32) (acc : FVec Ideal S1x512 .f32) (j) :
    k8_pay2 (k8_pay6 x0 x2) acc j
      = acc j + ∑ r : Fin 256, x0 (ix2 r (j 1)) * Ideal.rsqrt (Ideal.div (∑ l : Fin 512, x0 (ix2 r l) * x0 (ix2 r l))
          (Ideal.ofBits .f32 0x44000000#32) + Ideal.ofBits .f32 0x358637BD#32) * x2 (ix2 r (j 1)) := by
  pointwise [k8_pay2, k8_pay6, k8_pay5, k8_pay4, k8_pay3]

/-- The gradient of the scale. -/
theorem final8_dg : (dat8 V c).arrAt 4 cfg8.N = wDg 0x44000000#32 (V c main_arg0) (V c main_v8) := by
  refine (dat8 V c).arrAt_eq_of_after_last 4 t8_7 (by decide +kernel) _ fun j => ?_
  blk_simp
  rw [after8_4, Pipeline.eq_sum_fin_of_reset_step_apply_last (fun n h => (outsAt8 V c n h).2) 8 (fun _ => 0) _
    (fun t h j => by rw [outsAt8_A V c t h]; frame_out; rw [k8_add, k8_zero])
    (fun t h j => by rw [outsAt8_B V c t h]; frame_out; rw [k8_add])
    (le_of_eq N_8) t8_7 rfl j, zero_add, wDg]
  refine Fin.sum_mul_add_congr fun s k hl => ?_
  pointwise [wMeanSq]
  blk_point [iblk8, idx8 s]

end Cert.Kernel5Ideal.Value

end
-- ==== Proof.LowRankRmsK.lean ====
/- What the normalisation of the latent of the keys and values and its gradient leave in their output arrays; the gradient
   of the scale is added up over the grid points. -/
module

public import proofs.«01_k».proof.Proof.Spec5
public import proofs.«01_k».proof.Proof.Gen.Kernel5Ideal.Frame.Region1
public import proofs.«01_k».proof.Proof.Gen.Kernel5Ideal.Frame.Region9
public import Idealize.ShloMosaic.Lib.Pipeline.ValueKit
public import Idealize.ShloMosaic.Lib.Pointwise

@[expose] public section

set_option maxRecDepth 16384

noncomputable section

namespace Cert.Kernel5Ideal.Value

open Idealize.ShloMosaic Idealize.ShloMosaic.TcCoe Idealize.SL.Sem
open Idealize.ShloMosaic.Pipeline (Dat)
open Cert.Kernel5Ideal Cert.Kernel5Ideal.Gen Cert.Math

variable (V : (c : Dev nD) → (b : Ref sig .tc) → Buf (Elt Ideal) ((c : Thread nD τ).loc b)) (c : Dev nD)

/-- The blocks region 1 reads and writes at each grid point. -/
theorem idx1 : ∀ t : Fin cfg1.N, win1_0.index t = ![t.val, 0] ∧ win1_1.index t = ![0, 0] ∧ win1_2.index t = ![t.val, 0] :=
  (by decide +kernel : ∀ t : Fin grid1.N, _)

/-- The normalised latent of the keys and values. -/
theorem final1 : (dat1 V c).arrAt 2 cfg1.N = wRms 0x43800000#32 (V c main_arg3) (V c main_arg4) := by
  refine (dat1 V c).arrAt_eq_of_covers 2 _ (by decide +kernel) fun t _ y => ?_
  blk_simp
  rw [after1_2]; frame_out
  pointwise [k1_pay1, wRms, wMeanSq]
  blk_point [iblk1, idx1 t]

/-- The blocks region 9 reads and writes at each grid point. -/
theorem idx9 : ∀ t : Fin cfg9.N, win9_0.index t = ![t.val, 0] ∧ win9_1.index t = ![0, 0] ∧ win9_2.index t = ![t.val, 0] ∧ win9_3.index t = ![t.val, 0] ∧ win9_4.index t = ![0, 0] :=
  (by decide +kernel : ∀ t : Fin grid9.N, _)

/-- The gradient of the latent of the keys and values. -/
theorem final9_dx : (dat9 V c).arrAt 3 cfg9.N = wDx 0x43800000#32 (V c main_arg3) (V c main_arg4) (V c main_v10) := by
  refine (dat9 V c).arrAt_eq_of_covers 3 _ (by decide +kernel) fun t _ y => ?_
  blk_simp
  rw [after9_3]
  have hstep : (outsAt9 V c t.val t.isLt).1 = k9_pay7 (iblk9 V c 0 t) (iblk9 V c 1 t) (iblk9 V c 2 t) := by
    by_cases h : t.val % 8 = 0
    · rw [outsAt9_A V c t h]; frame_out
    · rw [outsAt9_B V c t h]; frame_out
  rw [hstep]
  pointwise [k9_pay7, k9_pay5, k9_pay4, k9_pay3, wDx, wRow, wMeanSq, Fin.sum_univ_one]
  blk_point [iblk9, idx9 t]

/-- The accumulator starts at zero. -/
theorem k9_zero (j) : k9_pay1 (F := Ideal) j = 0 := by pointwise [k9_pay1]

/-- One grid point adds the sum over its own rows. -/
theorem k9_add (x0 x2 : FVec Ideal S256x256 .f32) (acc : FVec Ideal S1x256 .f32) (j) :
    k9_pay2 (k9_pay6 x0 x2) acc j
      = acc j + ∑ r : Fin 256, x0 (ix2 r (j 1)) * Ideal.rsqrt (Ideal.div (∑ l : Fin 256, x0 (ix2 r l) * x0 (ix2 r l))
          (Ideal.ofBits .f32 0x43800000#32) + Ideal.ofBits .f32 0x358637BD#32) * x2 (ix2 r (j 1)) := by
  pointwise [k9_pay2, k9_pay6, k9_pay5, k9_pay4, k9_pay3]

/-- The gradient of the scale. -/
theorem final9_dg : (dat9 V c).arrAt 4 cfg9.N = wDg 0x43800000#32 (V c main_arg3) (V c main_v10) := by
  refine (dat9 V c).arrAt_eq_of_after_last 4 t9_7 (by decide +kernel) _ fun j => ?_
  blk_simp
  rw [after9_4, Pipeline.eq_sum_fin_of_reset_step_apply_last (fun n h => (outsAt9 V c n h).2) 8 (fun _ => 0) _
    (fun t h j => by rw [outsAt9_A V c t h]; frame_out; rw [k9_add, k9_zero])
    (fun t h j => by rw [outsAt9_B V c t h]; frame_out; rw [k9_add])
    (le_of_eq N_9) t9_7 rfl j, zero_add, wDg]
  refine Fin.sum_mul_add_congr fun s k hl => ?_
  pointwise [wMeanSq]
  blk_point [iblk9, idx9 s]

end Cert.Kernel5Ideal.Value

end
-- ==== Proof.Fold5.lean ====
/- What every array of the kernel's program holds when the program ends, as a function of the arguments: the contents at each
   boundary between two pallas calls, followed from the launch to the end. -/
module

public import proofs.«01_k».proof.Proof.LowRankMm
public import proofs.«01_k».proof.Proof.LowRankDq
public import proofs.«01_k».proof.Proof.LowRankDk
public import proofs.«01_k».proof.Proof.LowRankRmsQ
public import proofs.«01_k».proof.Proof.LowRankRmsK
public import proofs.«01_k».proof.Proof.Gen.Kernel5Ideal.Frame
public import Idealize.ShloMosaic.Lib.StableHlo.Run

@[expose] public section

set_option maxRecDepth 16384

noncomputable section

namespace Cert.Kernel5Ideal.Value

open Idealize.ShloMosaic Idealize.ShloMosaic.TcCoe Idealize.SL.Sem
open Idealize.ShloMosaic.Pipeline (Dat)
open Cert.Kernel5Ideal Cert.Kernel5Ideal.Gen Cert.Math

variable (m : (ℓ : Loc nD τ sig) → Buf (Elt Ideal) ℓ) (ρ : Dev nD → PrngReg) (c : Dev nD)

/-! ## The arguments at their literal types -/

abbrev aCQ : Mat 2048 512 := m ((c : Thread nD τ).loc main_arg0)
abbrev aGQ : Mat 1 512 := m ((c : Thread nD τ).loc main_arg1)
abbrev aWQ : Heads 192 512 := m ((c : Thread nD τ).loc main_arg2)
abbrev aCK : Mat 2048 256 := m ((c : Thread nD τ).loc main_arg3)
abbrev aGK : Mat 1 256 := m ((c : Thread nD τ).loc main_arg4)
abbrev aWK : Heads 256 256 := m ((c : Thread nD τ).loc main_arg5)
abbrev aDQ : Heads 2048 192 := m ((c : Thread nD τ).loc main_arg6)
abbrev aDK : Heads 2048 256 := m ((c : Thread nD τ).loc main_arg7)

/-! ## The contents at the boundaries -/

/-- The queries' matrices, cast. -/
theorem w1_v0 : W1 m ρ c (Proc.devRef .tc main_v0) = aWQ m c := by
  refine Eq.trans (b := truncf .bf16 (W0 m ρ c (Proc.devRef .tc main_arg2)) bitsLt_bf16_f32) ?_ ?_
  · after_results; rfl
  · rw [W0_args m ρ c main_arg2 (by decide)]
    funext j
    pointwise []

/-- The keys' and values' matrices, cast. -/
theorem w1_v1 : W1 m ρ c (Proc.devRef .tc main_v1) = aWK m c := by
  refine Eq.trans (b := truncf .bf16 (W0 m ρ c (Proc.devRef .tc main_arg5)) bitsLt_bf16_f32) ?_ ?_
  · after_results; rfl
  · rw [W0_args m ρ c main_arg5 (by decide)]
    funext j
    pointwise []

/-- The normalised latent of the queries. -/
theorem w2_v2 : W2 m ρ c (Proc.devRef .tc main_v2) = lrQn (aCQ m c) (aGQ m c) := by
  refine (W2_arr m ρ c 2).trans ((final0 (V1 m ρ) c).trans ?_)
  have h0 : V1 m ρ c main_arg0 = aCQ m c := W1_args m ρ c main_arg0 (by decide)
  have h1 : V1 m ρ c main_arg1 = aGQ m c := W1_args m ρ c main_arg1 (by decide)
  rw [h0, h1]
  all_goals rfl

/-- The normalised latent of the keys and values. -/
theorem w3_v3 : W3 m ρ c (Proc.devRef .tc main_v3) = lrKn (aCK m c) (aGK m c) := by
  refine (W3_arr m ρ c 2).trans ((final1 (V2 m ρ) c).trans ?_)
  have h0 : V2 m ρ c main_arg3 = aCK m c := W2_args m ρ c main_arg3 (by decide)
  have h1 : V2 m ρ c main_arg4 = aGK m c := W2_args m ρ c main_arg4 (by decide)
  rw [h0, h1]
  all_goals rfl

theorem w3_v2 : W3 m ρ c (Proc.devRef .tc main_v2) = lrQn (aCQ m c) (aGQ m c) :=
  ((W3_of m ρ c main_v2 (by decide))).trans (w2_v2 m ρ c)

theorem w3_v0 : W3 m ρ c (Proc.devRef .tc main_v0) = aWQ m c :=
  ((W3_of m ρ c main_v0 (by decide)).trans ((W2_of m ρ c main_v0 (by decide)))).trans (w1_v0 m ρ c)

/-- The queries. -/
theorem w4_v4 : W4 m ρ c (Proc.devRef .tc main_v4) = lrQ (aCQ m c) (aGQ m c) (aWQ m c) := by
  refine (W4_arr m ρ c 2).trans ((final2 (V3 m ρ) c).trans ?_)
  have h0 : V3 m ρ c main_v2 = lrQn (aCQ m c) (aGQ m c) := w3_v2 m ρ c
  have h1 : V3 m ρ c main_v0 = aWQ m c := w3_v0 m ρ c
  rw [h0, h1]
  all_goals rfl

theorem w4_v3 : W4 m ρ c (Proc.devRef .tc main_v3) = lrKn (aCK m c) (aGK m c) :=
  ((W4_of m ρ c main_v3 (by decide))).trans (w3_v3 m ρ c)

theorem w4_v1 : W4 m ρ c (Proc.devRef .tc main_v1) = aWK m c :=
  ((W4_of m ρ c main_v1 (by decide)).trans ((W3_of m ρ c main_v1 (by decide)).trans ((W2_of m ρ c main_v1 (by decide))))).trans (w1_v1 m ρ c)

/-- The keys and values. -/
theorem w5_v5 : W5 m ρ c (Proc.devRef .tc main_v5) = lrK (aCK m c) (aGK m c) (aWK m c) := by
  refine (W5_arr m ρ c 2).trans ((final3 (V4 m ρ) c).trans ?_)
  have h0 : V4 m ρ c main_v3 = lrKn (aCK m c) (aGK m c) := w4_v3 m ρ c
  have h1 : V4 m ρ c main_v1 = aWK m c := w4_v1 m ρ c
  rw [h0, h1]
  all_goals rfl

/-- The cotangent of the queries, cast. -/
theorem w6_v6 : W6 m ρ c (Proc.devRef .tc main_v6) = aDQ m c := by
  refine Eq.trans (b := truncf .bf16 (W5 m ρ c (Proc.devRef .tc main_arg6)) bitsLt_bf16_f32) ?_ ?_
  · after_results; rfl
  · rw [W5_args m ρ c main_arg6 (by decide)]
    funext j
    pointwise []

/-- The cotangent of the keys and values, cast. -/
theorem w6_v7 : W6 m ρ c (Proc.devRef .tc main_v7) = aDK m c := by
  refine Eq.trans (b := truncf .bf16 (W5 m ρ c (Proc.devRef .tc main_arg7)) bitsLt_bf16_f32) ?_ ?_
  · after_results; rfl
  · rw [W5_args m ρ c main_arg7 (by decide)]
    funext j
    pointwise []

theorem w6_v0 : W6 m ρ c (Proc.devRef .tc main_v0) = aWQ m c :=
  ((W6_of m ρ c main_v0 (by decide)).trans ((W5_of m ρ c main_v0 (by decide)).trans ((W4_of m ρ c main_v0 (by decide))))).trans (w3_v0 m ρ c)

/-- The cotangent of the normalised latent of the queries. -/
theorem w7_v8 : W7 m ρ c (Proc.devRef .tc main_v8) = qDown (aDQ m c) (aWQ m c) := by
  refine (W7_arr m ρ c 2).trans ((final4 (V6 m ρ) c).trans ?_)
  have h0 : V6 m ρ c main_v6 = aDQ m c := w6_v6 m ρ c
  have h1 : V6 m ρ c main_v0 = aWQ m c := w6_v0 m ρ c
  rw [h0, h1]
  all_goals rfl

theorem w7_v6 : W7 m ρ c (Proc.devRef .tc main_v6) = aDQ m c :=
  ((W7_of m ρ c main_v6 (by decide))).trans (w6_v6 m ρ c)

theorem w7_v2 : W7 m ρ c (Proc.devRef .tc main_v2) = lrQn (aCQ m c) (aGQ m c) :=
  ((W7_of m ρ c main_v2 (by decide)).trans ((W6_of m ρ c main_v2 (by decide)).trans ((W5_of m ρ c main_v2 (by decide)).trans ((W4_of m ρ c main_v2 (by decide)))))).trans (w3_v2 m ρ c)

/-- The gradient of the queries' matrices. -/
theorem w8_v9 : W8 m ρ c (Proc.devRef .tc main_v9) = lrDWQ (aCQ m c) (aGQ m c) (aDQ m c) := by
  refine (W8_arr m ρ c 2).trans ((final5 (V7 m ρ) c).trans ?_)
  have h0 : V7 m ρ c main_v6 = aDQ m c := w7_v6 m ρ c
  have h1 : V7 m ρ c main_v2 = lrQn (aCQ m c) (aGQ m c) := w7_v2 m ρ c
  rw [h0, h1]
  all_goals rfl

theorem w8_v7 : W8 m ρ c (Proc.devRef .tc main_v7) = aDK m c :=
  ((W8_of m ρ c main_v7 (by decide)).trans ((W7_of m ρ c main_v7 (by decide)))).trans (w6_v7 m ρ c)

theorem w8_v1 : W8 m ρ c (Proc.devRef .tc main_v1) = aWK m c :=
  ((W8_of m ρ c main_v1 (by decide)).trans ((W7_of m ρ c main_v1 (by decide)).trans ((W6_of m ρ c main_v1 (by decide)).trans ((W5_of m ρ c main_v1 (by decide)))))).trans (w4_v1 m ρ c)

/-- The cotangent of the normalised latent of the keys and values. -/
theorem w9_v10 : W9 m ρ c (Proc.devRef .tc main_v10) = kvDown (aDK m c) (aWK m c) := by
  refine (W9_arr m ρ c 2).trans ((final6 (V8 m ρ) c).trans ?_)
  have h0 : V8 m ρ c main_v7 = aDK m c := w8_v7 m ρ c
  have h1 : V8 m ρ c main_v1 = aWK m c := w8_v1 m ρ c
  rw [h0, h1]
  all_goals rfl

theorem w9_v3 : W9 m ρ c (Proc.devRef .tc main_v3) = lrKn (aCK m c) (aGK m c) :=
  ((W9_of m ρ c main_v3 (by decide)).trans ((W8_of m ρ c main_v3 (by decide)).trans ((W7_of m ρ c main_v3 (by decide)).trans ((W6_of m ρ c main_v3 (by decide)).trans ((W5_of m ρ c main_v3 (by decide))))))).trans (w4_v3 m ρ c)

theorem w9_v7 : W9 m ρ c (Proc.devRef .tc main_v7) = aDK m c :=
  ((W9_of m ρ c main_v7 (by decide))).trans (w8_v7 m ρ c)

/-- The gradient of the keys' and values' matrices. -/
theorem w10_v11 : W10 m ρ c (Proc.devRef .tc main_v11) = lrDWK (aCK m c) (aGK m c) (aDK m c) := by
  refine (W10_arr m ρ c 2).trans ((final7 (V9 m ρ) c).trans ?_)
  have h0 : V9 m ρ c main_v3 = lrKn (aCK m c) (aGK m c) := w9_v3 m ρ c
  have h1 : V9 m ρ c main_v7 = aDK m c := w9_v7 m ρ c
  rw [h0, h1]
  all_goals rfl

theorem w10_v8 : W10 m ρ c (Proc.devRef .tc main_v8) = qDown (aDQ m c) (aWQ m c) :=
  ((W10_of m ρ c main_v8 (by decide)).trans ((W9_of m ρ c main_v8 (by decide)).trans ((W8_of m ρ c main_v8 (by decide))))).trans (w7_v8 m ρ c)

/-- The gradient of the latent of the queries. -/
theorem w11_v12_0 : W11 m ρ c (Proc.devRef .tc main_v12_0) = lrDCQ (aCQ m c) (aGQ m c) (aWQ m c) (aDQ m c) := by
  refine (W11_arr m ρ c 3).trans ((final8_dx (V10 m ρ) c).trans ?_)
  have h0 : V10 m ρ c main_arg0 = aCQ m c := W10_args m ρ c main_arg0 (by decide)
  have h1 : V10 m ρ c main_arg1 = aGQ m c := W10_args m ρ c main_arg1 (by decide)
  have h2 : V10 m ρ c main_v8 = qDown (aDQ m c) (aWQ m c) := w10_v8 m ρ c
  rw [h0, h1, h2]
  all_goals rfl

/-- The gradient of the scale of its norm. -/
theorem w11_v12_1 : W11 m ρ c (Proc.devRef .tc main_v12_1) = lrDGQ (aCQ m c) (aWQ m c) (aDQ m c) := by
  refine (W11_arr m ρ c 4).trans ((final8_dg (V10 m ρ) c).trans ?_)
  have h0 : V10 m ρ c main_arg0 = aCQ m c := W10_args m ρ c main_arg0 (by decide)
  have h1 : V10 m ρ c main_v8 = qDown (aDQ m c) (aWQ m c) := w10_v8 m ρ c
  rw [h0, h1]
  all_goals rfl

theorem w11_v10 : W11 m ρ c (Proc.devRef .tc main_v10) = kvDown (aDK m c) (aWK m c) :=
  ((W11_of m ρ c main_v10 (by decide)).trans ((W10_of m ρ c main_v10 (by decide)))).trans (w9_v10 m ρ c)

/-- The gradient of the latent of the keys and values. -/
theorem w12_v13_0 : W12 m ρ c (Proc.devRef .tc main_v13_0) = lrDCK (aCK m c) (aGK m c) (aWK m c) (aDK m c) := by
  refine (W12_arr m ρ c 3).trans ((final9_dx (V11 m ρ) c).trans ?_)
  have h0 : V11 m ρ c main_arg3 = aCK m c := W11_args m ρ c main_arg3 (by decide)
  have h1 : V11 m ρ c main_arg4 = aGK m c := W11_args m ρ c main_arg4 (by decide)
  have h2 : V11 m ρ c main_v10 = kvDown (aDK m c) (aWK m c) := w11_v10 m ρ c
  rw [h0, h1, h2]
  all_goals rfl

/-- The gradient of the scale of its norm. -/
theorem w12_v13_1 : W12 m ρ c (Proc.devRef .tc main_v13_1) = lrDGK (aCK m c) (aWK m c) (aDK m c) := by
  refine (W12_arr m ρ c 4).trans ((final9_dg (V11 m ρ) c).trans ?_)
  have h0 : V11 m ρ c main_arg3 = aCK m c := W11_args m ρ c main_arg3 (by decide)
  have h1 : V11 m ρ c main_v10 = kvDown (aDK m c) (aWK m c) := w11_v10 m ρ c
  rw [h0, h1]
  all_goals rfl

theorem w12_v4 : W12 m ρ c (Proc.devRef .tc main_v4) = lrQ (aCQ m c) (aGQ m c) (aWQ m c) :=
  ((W12_of m ρ c main_v4 (by decide)).trans ((W11_of m ρ c main_v4 (by decide)).trans ((W10_of m ρ c main_v4 (by decide)).trans ((W9_of m ρ c main_v4 (by decide)).trans ((W8_of m ρ c main_v4 (by decide)).trans ((W7_of m ρ c main_v4 (by decide)).trans ((W6_of m ρ c main_v4 (by decide)).trans ((W5_of m ρ c main_v4 (by decide)))))))))).trans (w4_v4 m ρ c)

theorem w12_v5 : W12 m ρ c (Proc.devRef .tc main_v5) = lrK (aCK m c) (aGK m c) (aWK m c) :=
  ((W12_of m ρ c main_v5 (by decide)).trans ((W11_of m ρ c main_v5 (by decide)).trans ((W10_of m ρ c main_v5 (by decide)).trans ((W9_of m ρ c main_v5 (by decide)).trans ((W8_of m ρ c main_v5 (by decide)).trans ((W7_of m ρ c main_v5 (by decide)).trans ((W6_of m ρ c main_v5 (by decide))))))))).trans (w5_v5 m ρ c)

theorem w12_v12_0 : W12 m ρ c (Proc.devRef .tc main_v12_0) = lrDCQ (aCQ m c) (aGQ m c) (aWQ m c) (aDQ m c) :=
  ((W12_of m ρ c main_v12_0 (by decide))).trans (w11_v12_0 m ρ c)

theorem w12_v12_1 : W12 m ρ c (Proc.devRef .tc main_v12_1) = lrDGQ (aCQ m c) (aWQ m c) (aDQ m c) :=
  ((W12_of m ρ c main_v12_1 (by decide))).trans (w11_v12_1 m ρ c)

theorem w12_v9 : W12 m ρ c (Proc.devRef .tc main_v9) = lrDWQ (aCQ m c) (aGQ m c) (aDQ m c) :=
  ((W12_of m ρ c main_v9 (by decide)).trans ((W11_of m ρ c main_v9 (by decide)).trans ((W10_of m ρ c main_v9 (by decide)).trans ((W9_of m ρ c main_v9 (by decide)))))).trans (w8_v9 m ρ c)

theorem w12_v11 : W12 m ρ c (Proc.devRef .tc main_v11) = lrDWK (aCK m c) (aGK m c) (aDK m c) :=
  ((W12_of m ρ c main_v11 (by decide)).trans ((W11_of m ρ c main_v11 (by decide)))).trans (w10_v11 m ρ c)

end Cert.Kernel5Ideal.Value

end
-- ==== Proof.Run5.lean ====
/- The kernel's program, run from any memory: every result is the mathematics of the low-rank projections, and the
   arguments end as they began. -/
module

public import proofs.«01_k».proof.Proof.Fold5

@[expose] public section

set_option maxRecDepth 16384

noncomputable section

namespace Cert.Kernel5Ideal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen Cert.Math

variable (m : (ℓ : Loc nD τ sig) → Buf (Elt Ideal) ℓ) (ρ : Dev nD → PrngReg)

set_option backward.isDefEq.respectTransparency.types false in
/-- Every execution ends with the projected heads and all the gradients in the eight result arrays: what the arrays hold at
    the last boundary (`Fold5`), read off the final memory. -/
theorem run_math : θ_run defs (onTc (τ := τ) (main (F := Ideal))) ⟨m, fun _ => 0, ρ⟩ (fun r => ∀ c : Dev nD,
      (r.2.mem ((c.tc : Thread nD τ).loc main_v4) = lrQ (aCQ m c) (aGQ m c) (aWQ m c)
      ∧ r.2.mem ((c.tc : Thread nD τ).loc main_v5) = lrK (aCK m c) (aGK m c) (aWK m c)
      ∧ r.2.mem ((c.tc : Thread nD τ).loc main_v12_0) = lrDCQ (aCQ m c) (aGQ m c) (aWQ m c) (aDQ m c)
      ∧ r.2.mem ((c.tc : Thread nD τ).loc main_v12_1) = lrDGQ (aCQ m c) (aWQ m c) (aDQ m c)
      ∧ r.2.mem ((c.tc : Thread nD τ).loc main_v9) = lrDWQ (aCQ m c) (aGQ m c) (aDQ m c)
      ∧ r.2.mem ((c.tc : Thread nD τ).loc main_v13_0) = lrDCK (aCK m c) (aGK m c) (aWK m c) (aDK m c)
      ∧ r.2.mem ((c.tc : Thread nD τ).loc main_v13_1) = lrDGK (aCK m c) (aWK m c) (aDK m c)
      ∧ r.2.mem ((c.tc : Thread nD τ).loc main_v11) = lrDWK (aCK m c) (aGK m c) (aDK m c))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))) :=
  Pipeline.θ_run_regions_kit_sems (pcfgs (F := Ideal)) adm (pdats m ρ) () cellOf_inj emb₁ defs₀ 𝒱₀ L lv m ρ (main (F := Ideal)) (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h hz c => ⟨⟨(h c _ (mem_uc main_v4 (by decide))).trans (w12_v4 m ρ c),
      (h c _ (mem_uc main_v5 (by decide))).trans (w12_v5 m ρ c),
      (h c _ (mem_uc main_v12_0 (by decide))).trans (w12_v12_0 m ρ c),
      (h c _ (mem_uc main_v12_1 (by decide))).trans (w12_v12_1 m ρ c),
      (h c _ (mem_uc main_v9 (by decide))).trans (w12_v9 m ρ c),
      (h c _ (mem_uc main_v13_0 (by decide))).trans (w12_v13_0 m ρ c),
      (h c _ (mem_uc main_v13_1 (by decide))).trans (w12_v13_1 m ρ c),
      (h c _ (mem_uc main_v11 (by decide))).trans (w12_v11 m ρ c)⟩,
      ⟨(h c _ (mem_uc main_arg0 (by decide))).trans (W12_main_arg0 m ρ c),
      (h c _ (mem_uc main_arg1 (by decide))).trans (W12_main_arg1 m ρ c),
      (h c _ (mem_uc main_arg2 (by decide))).trans (W12_main_arg2 m ρ c),
      (h c _ (mem_uc main_arg3 (by decide))).trans (W12_main_arg3 m ρ c),
      (h c _ (mem_uc main_arg4 (by decide))).trans (W12_main_arg4 m ρ c),
      (h c _ (mem_uc main_arg5 (by decide))).trans (W12_main_arg5 m ρ c),
      (h c _ (mem_uc main_arg6 (by decide))).trans (W12_main_arg6 m ρ c),
      (h c _ (mem_uc main_arg7 (by decide))).trans (W12_main_arg7 m ρ c)⟩⟩)

end Cert.Kernel5Ideal.Value

end
-- ==== Proof.Reference5.lean ====
/- What the reference of the low-rank projections computes: its operations, stage by stage, are the functions of `Cert.Math`. -/
module

public import proofs.«01_k».proof.Proof.Spec5
public import proofs.«01_k».proof.Proof.Gen.Reference5Ideal.Run

@[expose] public section

set_option maxRecDepth 16384

noncomputable section

namespace Cert.Reference5Ideal.Value

open Idealize.ShloMosaic Idealize.ShloMosaic.TcCoe Idealize.SL.Sem
open Cert.Reference5Ideal Cert.Reference5Ideal.Gen Cert.Math

/-! ## The stages, as the program spells them -/

/-- Each row's mean square plus the stabiliser, rows of 512. -/
def msQ (x : FVec Ideal S2048x512 .f32) : FVec Ideal S2048x1 .f32 :=
  addf (Host.divf (broadcastInDim S2048x1 ![0] bcast_S2048_S2048x1_0
      (Host.reduceAdd (mulf x x) (constant S_ .f32 0x00000000#32) reducesTo_S2048x512_S2048_d1 h_S_))
    (broadcastInDim S2048x1 ![] bcast_S_S2048x1 (constant S_ .f32 0x44000000#32)))
    (broadcastInDim S2048x1 ![] bcast_S_S2048x1 (constant S_ .f32 0x358637BD#32))

/-- Each row divided by its root mean square. -/
def hatQ (x : FVec Ideal S2048x512 .f32) : FVec Ideal S2048x512 .f32 :=
  mulf x (broadcastInDim S2048x512 ![0, 1] bcast_S2048x1_S2048x512_0_1 (Host.rsqrt (msQ x)))

/-- The normalised rows. -/
def normQ (x : FVec Ideal S2048x512 .f32) (g : FVec Ideal S1x512 .f32) : FVec Ideal S2048x512 .f32 :=
  mulf (hatQ x) (broadcastInDim S2048x512 ![0, 1] bcast_S1x512_S2048x512_0_1 g)

/-- The gradient of the norm's scale. -/
def dgQ (x d : FVec Ideal S2048x512 .f32) : FVec Ideal S1x512 .f32 :=
  shapeCast S1x512 (Host.reduceAdd (mulf (hatQ x) d) (constant S_ .f32 0x00000000#32) reducesTo_S2048x512_S512_d0 h_S_)
    shapeCasts_S512_S1x512

/-- The cotangent times the scale. -/
def dHatQ (g : FVec Ideal S1x512 .f32) (d : FVec Ideal S2048x512 .f32) : FVec Ideal S2048x512 .f32 :=
  mulf d (broadcastInDim S2048x512 ![0, 1] bcast_S1x512_S2048x512_0_1 g)

/-- The term the mean square contributes, before its two factors `x`. -/
def rowQ (x : FVec Ideal S2048x512 .f32) (g : FVec Ideal S1x512 .f32) (d : FVec Ideal S2048x512 .f32) : FVec Ideal S2048x512 .f32 :=
  broadcastInDim S2048x512 ![0] bcast_S2048_S2048x512_0 (Host.reduceAdd
    (Host.divf (mulf (shapeCast S2048x1 (Host.reduceAdd (mulf x (dHatQ g d)) (constant S_ .f32 0x00000000#32)
          reducesTo_S2048x512_S2048_d1 h_S_) shapeCasts_S2048_S2048x1)
        (mulf (broadcastInDim S2048x1 ![] bcast_S_S2048x1 (constant S_ .f32 0xBF000000#32))
          (Host.divf (Host.rsqrt (msQ x)) (msQ x))))
      (broadcastInDim S2048x1 ![] bcast_S_S2048x1 (constant S_ .f32 0x44000000#32)))
    (constant S_ .f32 0x00000000#32) reducesTo_S2048x1_S2048_d1 h_S_)

/-- The gradient of the rows. -/
def dxQ (x : FVec Ideal S2048x512 .f32) (g : FVec Ideal S1x512 .f32) (d : FVec Ideal S2048x512 .f32) : FVec Ideal S2048x512 .f32 :=
  addf (addf (mulf (dHatQ g d) (broadcastInDim S2048x512 ![0, 1] bcast_S2048x1_S2048x512_0_1 (Host.rsqrt (msQ x)))) (mulf x (rowQ x g d))) (mulf (rowQ x g d) x)

/-- Each row's mean square plus the stabiliser, rows of 256. -/
def msK (x : FVec Ideal S2048x256 .f32) : FVec Ideal S2048x1 .f32 :=
  addf (Host.divf (broadcastInDim S2048x1 ![0] bcast_S2048_S2048x1_0
      (Host.reduceAdd (mulf x x) (constant S_ .f32 0x00000000#32) reducesTo_S2048x256_S2048_d1 h_S_))
    (broadcastInDim S2048x1 ![] bcast_S_S2048x1 (constant S_ .f32 0x43800000#32)))
    (broadcastInDim S2048x1 ![] bcast_S_S2048x1 (constant S_ .f32 0x358637BD#32))

/-- Each row divided by its root mean square. -/
def hatK (x : FVec Ideal S2048x256 .f32) : FVec Ideal S2048x256 .f32 :=
  mulf x (broadcastInDim S2048x256 ![0, 1] bcast_S2048x1_S2048x256_0_1 (Host.rsqrt (msK x)))

/-- The normalised rows. -/
def normK (x : FVec Ideal S2048x256 .f32) (g : FVec Ideal S1x256 .f32) : FVec Ideal S2048x256 .f32 :=
  mulf (hatK x) (broadcastInDim S2048x256 ![0, 1] bcast_S1x256_S2048x256_0_1 g)

/-- The gradient of the norm's scale. -/
def dgK (x d : FVec Ideal S2048x256 .f32) : FVec Ideal S1x256 .f32 :=
  shapeCast S1x256 (Host.reduceAdd (mulf (hatK x) d) (constant S_ .f32 0x00000000#32) reducesTo_S2048x256_S256_d0 h_S_)
    shapeCasts_S256_S1x256

/-- The cotangent times the scale. -/
def dHatK (g : FVec Ideal S1x256 .f32) (d : FVec Ideal S2048x256 .f32) : FVec Ideal S2048x256 .f32 :=
  mulf d (broadcastInDim S2048x256 ![0, 1] bcast_S1x256_S2048x256_0_1 g)

/-- The term the mean square contributes, before its two factors `x`. -/
def rowK (x : FVec Ideal S2048x256 .f32) (g : FVec Ideal S1x256 .f32) (d : FVec Ideal S2048x256 .f32) : FVec Ideal S2048x256 .f32 :=
  broadcastInDim S2048x256 ![0] bcast_S2048_S2048x256_0 (Host.reduceAdd
    (Host.divf (mulf (shapeCast S2048x1 (Host.reduceAdd (mulf x (dHatK g d)) (constant S_ .f32 0x00000000#32)
          reducesTo_S2048x256_S2048_d1 h_S_) shapeCasts_S2048_S2048x1)
        (mulf (broadcastInDim S2048x1 ![] bcast_S_S2048x1 (constant S_ .f32 0xBF000000#32))
          (Host.divf (Host.rsqrt (msK x)) (msK x))))
      (broadcastInDim S2048x1 ![] bcast_S_S2048x1 (constant S_ .f32 0x43800000#32)))
    (constant S_ .f32 0x00000000#32) reducesTo_S2048x1_S2048_d1 h_S_)

/-- The gradient of the rows. -/
def dxK (x : FVec Ideal S2048x256 .f32) (g : FVec Ideal S1x256 .f32) (d : FVec Ideal S2048x256 .f32) : FVec Ideal S2048x256 .f32 :=
  addf (addf (mulf (dHatK g d) (broadcastInDim S2048x256 ![0, 1] bcast_S2048x1_S2048x256_0_1 (Host.rsqrt (msK x)))) (mulf x (rowK x g d))) (mulf (rowK x g d) x)

/-- The queries. -/
def qUpH (w : FVec Ideal S8x192x512 .f32) (a : FVec Ideal S2048x512 .f32) : FVec Ideal S8x2048x192 .f32 :=
  transpose S8x2048x192 [0, 2, 1] (Host.dotGeneral dot_S8x192x512_S2048x512_S8x192x2048_2_1_01_0_n_n none w a)
    transposes_S8x192x2048_S8x2048x192_0_2_1

/-- The keys and values. -/
def kvUpH (w : FVec Ideal S8x256x256 .f32) (a : FVec Ideal S2048x256 .f32) : FVec Ideal S8x2048x256 .f32 :=
  transpose S8x2048x256 [0, 2, 1] (Host.dotGeneral dot_S8x256x256_S2048x256_S8x256x2048_1_1_02_0_n_n none w a)
    transposes_S8x256x2048_S8x2048x256_0_2_1

/-- The cotangents with the rows last. -/
def turnQ (d : FVec Ideal S8x2048x192 .f32) : FVec Ideal S8x192x2048 .f32 := transpose S8x192x2048 [0, 2, 1] d transposes_S8x2048x192_S8x192x2048_0_2_1
def turnK (d : FVec Ideal S8x2048x256 .f32) : FVec Ideal S8x256x2048 .f32 := transpose S8x256x2048 [0, 2, 1] d transposes_S8x2048x256_S8x256x2048_0_2_1

/-- The cotangents of the normalised latents. -/
def qDownH (d : FVec Ideal S8x2048x192 .f32) (w : FVec Ideal S8x192x512 .f32) : FVec Ideal S2048x512 .f32 :=
  Host.dotGeneral dot_S8x192x2048_S8x192x512_S2048x512_01_01_2_2_n_n none (turnQ d) w
def kvDownH (d : FVec Ideal S8x2048x256 .f32) (w : FVec Ideal S8x256x256 .f32) : FVec Ideal S2048x256 .f32 :=
  Host.dotGeneral dot_S8x256x2048_S8x256x256_S2048x256_01_02_2_1_n_n none (turnK d) w

/-- The gradients of the heads' matrices. -/
def qGradH (d : FVec Ideal S8x2048x192 .f32) (a : FVec Ideal S2048x512 .f32) : FVec Ideal S8x192x512 .f32 :=
  Host.dotGeneral dot_S8x192x2048_S2048x512_S8x192x512_2_0_01_1_n_n none (turnQ d) a
def kvGradH (d : FVec Ideal S8x2048x256 .f32) (a : FVec Ideal S2048x256 .f32) : FVec Ideal S8x256x256 .f32 :=
  transpose S8x256x256 [0, 2, 1] (Host.dotGeneral dot_S8x256x2048_S2048x256_S8x256x256_2_0_01_1_n_n none (turnK d) a)
    transposes_S8x256x256_S8x256x256_0_2_1

/-! ## Each stage is the mathematics -/

theorem normQ_eq (x : FVec Ideal S2048x512 .f32) (g : FVec Ideal S1x512 .f32) : normQ x g = wRms 0x44000000#32 x g := by
  funext j
  pointwise [normQ, hatQ, msQ, wRms, wMeanSq]

theorem dgQ_eq (x d : FVec Ideal S2048x512 .f32) : dgQ x d = wDg 0x44000000#32 x d := by
  funext j
  pointwise [dgQ, hatQ, msQ, wDg, wMeanSq]

theorem dxQ_eq (x : FVec Ideal S2048x512 .f32) (g : FVec Ideal S1x512 .f32) (d : FVec Ideal S2048x512 .f32) : dxQ x g d = wDx 0x44000000#32 x g d := by
  funext j
  pointwise [dxQ, dHatQ, rowQ, msQ, wDx, wRow, wMeanSq, Fin.sum_univ_one]

theorem normK_eq (x : FVec Ideal S2048x256 .f32) (g : FVec Ideal S1x256 .f32) : normK x g = wRms 0x43800000#32 x g := by
  funext j
  pointwise [normK, hatK, msK, wRms, wMeanSq]

theorem dgK_eq (x d : FVec Ideal S2048x256 .f32) : dgK x d = wDg 0x43800000#32 x d := by
  funext j
  pointwise [dgK, hatK, msK, wDg, wMeanSq]

theorem dxK_eq (x : FVec Ideal S2048x256 .f32) (g : FVec Ideal S1x256 .f32) (d : FVec Ideal S2048x256 .f32) : dxK x g d = wDx 0x43800000#32 x g d := by
  funext j
  pointwise [dxK, dHatK, rowK, msK, wDx, wRow, wMeanSq, Fin.sum_univ_one]

theorem qUpH_eq (w : FVec Ideal S8x192x512 .f32) (a : FVec Ideal S2048x512 .f32) : qUpH w a = qUp a w := by
  funext j
  refine Eq.trans (b := ∑ l : Fin 512, w (ix3 (j 0) (j 2) l) * a (ix2 (j 1) l)) ?_ (Finset.sum_congr rfl fun l _ => mul_comm _ _)
  pointwise [qUpH]

theorem kvUpH_eq (w : FVec Ideal S8x256x256 .f32) (a : FVec Ideal S2048x256 .f32) : kvUpH w a = kvUp a w := by
  funext j
  refine Eq.trans (b := ∑ l : Fin 256, w (ix3 (j 0) l (j 2)) * a (ix2 (j 1) l)) ?_ (Finset.sum_congr rfl fun l _ => mul_comm _ _)
  pointwise [kvUpH]

theorem qDownH_eq (d : FVec Ideal S8x2048x192 .f32) (w : FVec Ideal S8x192x512 .f32) : qDownH d w = qDown d w := by
  funext j
  pointwise [qDownH, turnQ, qDown]

theorem kvDownH_eq (d : FVec Ideal S8x2048x256 .f32) (w : FVec Ideal S8x256x256 .f32) : kvDownH d w = kvDown d w := by
  funext j
  pointwise [kvDownH, turnK, kvDown]

theorem qGradH_eq (d : FVec Ideal S8x2048x192 .f32) (a : FVec Ideal S2048x512 .f32) : qGradH d a = qGrad d a := by
  funext j
  pointwise [qGradH, turnQ, qGrad]

theorem kvGradH_eq (d : FVec Ideal S8x2048x256 .f32) (a : FVec Ideal S2048x256 .f32) : kvGradH d a = kvGrad a d := by
  funext j
  refine Eq.trans (b := ∑ t : Fin 2048, d (ix3 (j 0) t (j 2)) * a (ix2 t (j 1))) ?_ (Finset.sum_congr rfl fun l _ => mul_comm _ _)
  pointwise [kvGradH, turnK]

/-! ## The reference's results -/

variable (m : (ℓ : Loc nD τ sig) → Buf (Elt Ideal) ℓ) (c : Dev nD)

abbrev aCQ : Mat 2048 512 := m ((c : Thread nD τ).loc main_arg0)
abbrev aGQ : Mat 1 512 := m ((c : Thread nD τ).loc main_arg1)
abbrev aWQ : Heads 192 512 := m ((c : Thread nD τ).loc main_arg2)
abbrev aCK : Mat 2048 256 := m ((c : Thread nD τ).loc main_arg3)
abbrev aGK : Mat 1 256 := m ((c : Thread nD τ).loc main_arg4)
abbrev aWK : Heads 256 256 := m ((c : Thread nD τ).loc main_arg5)
abbrev aDQ : Heads 2048 192 := m ((c : Thread nD τ).loc main_arg6)
abbrev aDK : Heads 2048 256 := m ((c : Thread nD τ).loc main_arg7)

theorem q_eq : qUpH (aWQ m c) (normQ (aCQ m c) (aGQ m c)) =
    lrQ (aCQ m c) (aGQ m c) (aWQ m c) := by
  rw [qUpH_eq, normQ_eq]; rfl

theorem kv_eq : kvUpH (aWK m c) (normK (aCK m c) (aGK m c)) =
    lrK (aCK m c) (aGK m c) (aWK m c) := by
  rw [kvUpH_eq, normK_eq]; rfl

theorem dcq_eq : dxQ (aCQ m c) (aGQ m c) (qDownH (aDQ m c) (aWQ m c)) =
    lrDCQ (aCQ m c) (aGQ m c) (aWQ m c) (aDQ m c) := by
  rw [dxQ_eq, qDownH_eq]; rfl

theorem dgq_eq : dgQ (aCQ m c) (qDownH (aDQ m c) (aWQ m c)) =
    lrDGQ (aCQ m c) (aWQ m c) (aDQ m c) := by
  rw [dgQ_eq, qDownH_eq]; rfl

theorem dwq_eq : qGradH (aDQ m c) (normQ (aCQ m c) (aGQ m c)) =
    lrDWQ (aCQ m c) (aGQ m c) (aDQ m c) := by
  rw [qGradH_eq, normQ_eq]; rfl

theorem dck_eq : dxK (aCK m c) (aGK m c) (kvDownH (aDK m c) (aWK m c)) =
    lrDCK (aCK m c) (aGK m c) (aWK m c) (aDK m c) := by
  rw [dxK_eq, kvDownH_eq]; rfl

theorem dgk_eq : dgK (aCK m c) (kvDownH (aDK m c) (aWK m c)) =
    lrDGK (aCK m c) (aWK m c) (aDK m c) := by
  rw [dgK_eq, kvDownH_eq]; rfl

theorem dwk_eq : kvGradH (aDK m c) (normK (aCK m c) (aGK m c)) =
    lrDWK (aCK m c) (aGK m c) (aDK m c) := by
  rw [kvGradH_eq, normK_eq]; rfl

/-- The reference's run: every result is the low-rank projections, the arguments end as they began. -/
theorem run_math (ρ : Dev nD → PrngReg) :
    θ_run defs (onTc (τ := τ) (main (F := Ideal))) ⟨m, fun _ => 0, ρ⟩ fun r => ∀ c : Dev nD,
      (r.2.mem ((c.tc : Thread nD τ).loc main_v16) = lrQ (aCQ m c) (aGQ m c) (aWQ m c)
      ∧ r.2.mem ((c.tc : Thread nD τ).loc main_v33) = lrK (aCK m c) (aGK m c) (aWK m c)
      ∧ r.2.mem ((c.tc : Thread nD τ).loc main_v78) = lrDCQ (aCQ m c) (aGQ m c) (aWQ m c) (aDQ m c)
      ∧ r.2.mem ((c.tc : Thread nD τ).loc main_v62) = lrDGQ (aCQ m c) (aWQ m c) (aDQ m c)
      ∧ r.2.mem ((c.tc : Thread nD τ).loc main_v59) = lrDWQ (aCQ m c) (aGQ m c) (aDQ m c)
      ∧ r.2.mem ((c.tc : Thread nD τ).loc main_v56) = lrDCK (aCK m c) (aGK m c) (aWK m c) (aDK m c)
      ∧ r.2.mem ((c.tc : Thread nD τ).loc main_v40) = lrDGK (aCK m c) (aWK m c) (aDK m c)
      ∧ r.2.mem ((c.tc : Thread nD τ).loc main_v37) = lrDWK (aCK m c) (aGK m c) (aDK m c))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => by
    obtain ⟨h0, h1, h2, h3, h4, h5, h6, h7, ha⟩ := h c
    have e0 := (h0.trans (show _ = qUpH (aWQ m c) (normQ (aCQ m c) (aGQ m c)) from rfl)).trans (q_eq m c)
    have e1 := (h1.trans (show _ = kvUpH (aWK m c) (normK (aCK m c) (aGK m c)) from rfl)).trans (kv_eq m c)
    have e2 := (h2.trans (show _ = dxQ (aCQ m c) (aGQ m c) (qDownH (aDQ m c) (aWQ m c)) from rfl)).trans (dcq_eq m c)
    have e3 := (h3.trans (show _ = dgQ (aCQ m c) (qDownH (aDQ m c) (aWQ m c)) from rfl)).trans (dgq_eq m c)
    have e4 := (h4.trans (show _ = qGradH (aDQ m c) (normQ (aCQ m c) (aGQ m c)) from rfl)).trans (dwq_eq m c)
    have e5 := (h5.trans (show _ = dxK (aCK m c) (aGK m c) (kvDownH (aDK m c) (aWK m c)) from rfl)).trans (dck_eq m c)
    have e6 := (h6.trans (show _ = dgK (aCK m c) (kvDownH (aDK m c) (aWK m c)) from rfl)).trans (dgk_eq m c)
    have e7 := (h7.trans (show _ = kvGradH (aDK m c) (normK (aCK m c) (aGK m c)) from rfl)).trans (dwk_eq m c)
    exact ⟨⟨e0, e1, e2, e3, e4, e5, e6, e7⟩, ha⟩) (run m ρ)

end Cert.Reference5Ideal.Value

end
-- ==== Proof.Claims5.lean ====
/- The claims that speak of the reference of the low-rank projections: its frame, and the equality of the kernel's results with it. -/
module

public import proofs.«01_k».proof.Defs
public import proofs.«01_k».proof.Proof.Run5
public import proofs.«01_k».proof.Proof.Reference5
public import Idealize.ShloMosaic.Lib.Claim

@[expose] public section

set_option maxRecDepth 16384

noncomputable section

namespace Cert.Proof.LowRank

open Idealize.ShloMosaic Idealize.SL.Sem Cert.Math
open Cert.Kernel5Ideal.Value (aCQ aGQ aWQ aCK aGK aWK aDQ aDK)

/-- The reference's frame. -/
theorem frame_ri : Cert.quiescent_Reference5Ideal := fun m ρ _ =>
  (θ_run Cert.Reference5Ideal.defs _ _).mono (fun r h => ⟨fun c => (h c).2, sem_eq_zero_of_no_sems (by decide) r.2⟩)
    (Cert.Reference5Ideal.Value.run_math m ρ)

/-- The kernel's results are the reference's: both are the same mathematics of the same arguments. -/
theorem algebraic : Cert.algebraic_Kernel5Ideal_Reference5Ideal := by
  intro m g m' g' _ h
  refine ⟨fun c => lrQ (aCQ m c) (aGQ m c) (aWQ m c),
    fun c => lrK (aCK m c) (aGK m c) (aWK m c),
    fun c => lrDCQ (aCQ m c) (aGQ m c) (aWQ m c) (aDQ m c),
    fun c => lrDGQ (aCQ m c) (aWQ m c) (aDQ m c),
    fun c => lrDWQ (aCQ m c) (aGQ m c) (aDQ m c),
    fun c => lrDCK (aCK m c) (aGK m c) (aWK m c) (aDK m c),
    fun c => lrDGK (aCK m c) (aWK m c) (aDK m c),
    fun c => lrDWK (aCK m c) (aGK m c) (aDK m c),
    (θ_run _ _ _).mono (fun r hr c => ?_) (Cert.Kernel5Ideal.Value.run_math m g),
    (θ_run _ _ _).mono (fun r hr c => ?_) (Cert.Reference5Ideal.Value.run_math m' g')⟩
  · obtain ⟨⟨h0, h1, h2, h3, h4, h5, h6, h7⟩, ha⟩ := hr c
    exact ⟨h0, h1, h2, h3, h4, h5, h6, h7, ha⟩
  · obtain ⟨⟨h0, h1, h2, h3, h4, h5, h6, h7⟩, ha⟩ := hr c
    obtain ⟨e0, e1, e2, e3, e4, e5, e6, e7⟩ := h c
    have kaCQ : Cert.Reference5Ideal.Value.aCQ m' c = aCQ m c := e0
    have kaGQ : Cert.Reference5Ideal.Value.aGQ m' c = aGQ m c := e1
    have kaWQ : Cert.Reference5Ideal.Value.aWQ m' c = aWQ m c := e2
    have kaCK : Cert.Reference5Ideal.Value.aCK m' c = aCK m c := e3
    have kaGK : Cert.Reference5Ideal.Value.aGK m' c = aGK m c := e4
    have kaWK : Cert.Reference5Ideal.Value.aWK m' c = aWK m c := e5
    have kaDQ : Cert.Reference5Ideal.Value.aDQ m' c = aDQ m c := e6
    have kaDK : Cert.Reference5Ideal.Value.aDK m' c = aDK m c := e7
    rw [kaCQ, kaGQ, kaWQ] at h0
    rw [kaCK, kaGK, kaWK] at h1
    rw [kaCQ, kaGQ, kaWQ, kaDQ] at h2
    rw [kaCQ, kaWQ, kaDQ] at h3
    rw [kaCQ, kaGQ, kaDQ] at h4
    rw [kaCK, kaGK, kaWK, kaDK] at h5
    rw [kaCK, kaWK, kaDK] at h6
    rw [kaCK, kaGK, kaDK] at h7
    exact ⟨h0, h1, h2, h3, h4, h5, h6, h7, ha⟩

end Cert.Proof.LowRank

end
-- ==== Proof.Spec6.lean ====
/- The mathematics of the gated projection behind the state-space mixer as plain functions of arrays of extended reals: the
   rows are projected, the first half of the columns is scaled by the logistic function of the second half, and the
   gradients of all of it. Both programs are compared with these. -/
module

public import proofs.«01_k».proof.Proof.Spec

@[expose] public section

noncomputable section

namespace Cert.Math

open Idealize.ShloMosaic

/-- Eight shards of 128 columns each. -/
abbrev GluShards : Type := (⟨3, ![8, 512, 128]⟩ : Shape).Idx → EReal

/-- One bias for each of the 1024 columns. -/
abbrev Bias : Type := (⟨1, ![1024]⟩ : Shape).Idx → EReal

/-- The projection: columns `128 h … 128 h + 127` come from shard `h`. -/
def gluZ (Y : Mat 2048 512) (W : GluShards) : Mat 2048 1024 := fun j =>
  ∑ l : Fin 512, Y (ix2 (j 0) l) * W (ix3 (⟨(j 1).val / 128, by have := (j 1).isLt; simp at this; omega⟩ : Fin 8) l
    (⟨(j 1).val % 128, Nat.mod_lt _ (by norm_num)⟩ : Fin 128))

/-- The cotangent of the rows that are projected: summed over the shards and their columns. -/
def gluDown (Z : Mat 2048 1024) (W : GluShards) : Mat 2048 512 := fun j =>
  ∑ h : Fin 8, ∑ d : Fin 128, Z (ix2 (j 0) (⟨h.val * 128 + d.val, by have := h.isLt; have := d.isLt; omega⟩ : Fin 1024))
    * W (ix3 h (j 1) d)

/-- The gradient of the shards. -/
def gluGrad (Y : Mat 2048 512) (Z : Mat 2048 1024) : GluShards := fun j =>
  ∑ t : Fin 2048, Y (ix2 t (j 1)) * Z (ix2 t (⟨(j 0).val * 128 + (j 2).val, by
    have := (j 0).isLt; have := (j 2).isLt; simp at *; omega⟩ : Fin 1024))

/-- The first 512 columns. -/
def firstHalf (Z : Mat 2048 1024) : Mat 2048 512 := fun j =>
  Z (ix2 (j 0) ⟨(j 1).val, by have := (j 1).isLt; simp at this; omega⟩)

/-- The last 512 columns. -/
def lastHalf (Z : Mat 2048 1024) : Mat 2048 512 := fun j =>
  Z (ix2 (j 0) ⟨512 + (j 1).val, by have := (j 1).isLt; simp at this; omega⟩)

/-- The first 512 biases, as a row. -/
def firstBias (b : Bias) : Mat 1 512 := fun j => b (ix1 ⟨(j 1).val, by have := (j 1).isLt; simp at this; omega⟩)

/-- The last 512 biases, as a row. -/
def lastBias (b : Bias) : Mat 1 512 := fun j => b (ix1 ⟨512 + (j 1).val, by have := (j 1).isLt; simp at this; omega⟩)

/-- Two arrays side by side. -/
def sideBySide {n : ℕ} (A B : Mat n 512) : Mat n 1024 := fun j =>
  if h : (j 1).val < 512 then A (ix2 (j 0) ⟨(j 1).val, h⟩)
  else B (ix2 (j 0) ⟨(j 1).val - 512, by have := (j 1).isLt; simp at this; omega⟩)

/-- The sum of every column, as a row. -/
def colSum {n : ℕ} (A : Mat 2048 n) : Mat 1 n := fun j => ∑ r : Fin 2048, A (ix2 r (j 1))

/-- The column sums of two arrays side by side are those of the two. -/
theorem sideBySide_colSum (A B : Mat 2048 512) : sideBySide (colSum A) (colSum B) = colSum (sideBySide A B) := by
  funext j
  by_cases h : (j 1).val < 512
  · rw [sideBySide, dif_pos h, colSum, colSum]
    refine Finset.sum_congr rfl fun r _ => ?_
    unfold sideBySide
    split
    · rfl
    · rename_i h2; exact absurd h h2
  · rw [sideBySide, dif_neg h, colSum, colSum]
    refine Finset.sum_congr rfl fun r _ => ?_
    unfold sideBySide
    split
    · rename_i h2; exact absurd h2 h
    · rfl

/-- The logistic function of the biased second half. -/
def gluSig (Z2 : Mat 2048 512) (B2 : Mat 1 512) : Mat 2048 512 := fun j => Ideal.logistic (Z2 j + B2 (ix2 0 (j 1)))

/-- The gated rows. -/
def glu (Z1 Z2 : Mat 2048 512) (B1 B2 : Mat 1 512) : Mat 2048 512 := fun j =>
  (Z1 j + B1 (ix2 0 (j 1))) * gluSig Z2 B2 j

/-- The gradient in the first half, against the cotangent `D`. -/
def gluD1 (Z2 : Mat 2048 512) (B2 : Mat 1 512) (D : Mat 2048 512) : Mat 2048 512 := fun j => D j * gluSig Z2 B2 j

/-- The gradient in the second half, against the cotangent `D`. -/
def gluD2 (Z1 Z2 : Mat 2048 512) (B1 B2 : Mat 1 512) (D : Mat 2048 512) : Mat 2048 512 := fun j =>
  (Z1 j + B1 (ix2 0 (j 1))) * D j * (gluSig Z2 B2 j * (1 - gluSig Z2 B2 j))

/-! ## The gated projection and its gradients

`Y` the rows, `W` the shards, `B` the biases, `D` the cotangent of the gated rows. -/

section Glu

variable (Y : Mat 2048 512) (W : GluShards) (B : Bias) (D : Mat 2048 512)

/-- The gated rows. -/
def gluOut : Mat 2048 512 := glu (firstHalf (gluZ Y W)) (lastHalf (gluZ Y W)) (firstBias B) (lastBias B)

/-- The gradients of the two halves. -/
def gluDz1 : Mat 2048 512 := gluD1 (lastHalf (gluZ Y W)) (lastBias B) D
def gluDz2 : Mat 2048 512 := gluD2 (firstHalf (gluZ Y W)) (lastHalf (gluZ Y W)) (firstBias B) (lastBias B) D

/-- The gradient of the projection. -/
def gluDz : Mat 2048 1024 := sideBySide (gluDz1 Y W B D) (gluDz2 Y W B D)

/-- The gradients of the rows, of the shards and of the biases. -/
def gluDy : Mat 2048 512 := gluDown (gluDz Y W B D) W
def gluDw : GluShards := gluGrad Y (gluDz Y W B D)
def gluDb : Mat 1 1024 := colSum (gluDz Y W B D)

end Glu

end Cert.Math

end
-- ==== Proof.GluMm.lean ====
/- What the products of the gated projection leave in their output arrays. -/
module

public import proofs.«01_k».proof.Proof.Spec6
public import proofs.«01_k».proof.Proof.Gen.Kernel6Ideal.Frame
public import Idealize.ShloMosaic.Lib.Pipeline.ValueKit
public import Idealize.ShloMosaic.Lib.Pointwise

@[expose] public section

set_option maxRecDepth 16384

noncomputable section

namespace Cert.Kernel6Ideal.Value

open Idealize.ShloMosaic Idealize.ShloMosaic.TcCoe Idealize.SL.Sem
open Idealize.ShloMosaic.Pipeline (Dat)
open Cert.Kernel6Ideal Cert.Kernel6Ideal.Gen Cert.Math

variable (V : (c : Dev nD) → (b : Ref sig .tc) → Buf (Elt Ideal) ((c : Thread nD τ).loc b)) (c : Dev nD)

/-- The blocks region 0 reads and writes at each grid point. -/
theorem idx0 : ∀ t : Fin cfg0.N, win0_0.index t = ![0, 0] ∧ win0_1.index t = ![t.val, 0, 0] ∧ win0_2.index t = ![0, t.val] :=
  (by decide +kernel : ∀ t : Fin grid0.N, _)

/-- The projection. -/
theorem final0 : (dat0 V c).arrAt 2 cfg0.N = gluZ (V c main_v1) (V c main_v0) := by
  refine (dat0 V c).arrAt_eq_of_covers 2 _ (by decide +kernel) fun t _ y => ?_
  blk_simp
  rw [after0_2]; frame_out
  pointwise [k0_pay1, gluZ]
  blk_point [iblk0, idx0 t]

/-- The blocks region 4 reads and writes at each grid point. -/
theorem idx4 : ∀ t : Fin cfg4.N, win4_0.index t = ![0, 0] ∧ win4_1.index t = ![0, t.val] ∧ win4_2.index t = ![t.val, 0, 0] :=
  (by decide +kernel : ∀ t : Fin grid4.N, _)

/-- The gradient of the shards. -/
theorem final4 : (dat4 V c).arrAt 2 cfg4.N = gluGrad (V c main_v1) (V c main_v13) := by
  refine (dat4 V c).arrAt_eq_of_covers 2 _ (by decide +kernel) fun t _ y => ?_
  blk_simp
  rw [after4_2]; frame_out
  pointwise [k4_pay1, gluGrad]
  blk_point [iblk4, idx4 t]

end Cert.Kernel6Ideal.Value

end
-- ==== Proof.GluDown.lean ====
/- What the product that carries the gradient of the projection back to the rows leaves in its output array: each grid point
   adds up the eight shards of one tile of rows. -/
module

public import proofs.«01_k».proof.Proof.Spec6
public import proofs.«01_k».proof.Proof.Gen.Kernel6Ideal.Frame
public import Idealize.ShloMosaic.Lib.Pipeline.ValueKit
public import Idealize.ShloMosaic.Lib.Pointwise

@[expose] public section

set_option maxRecDepth 16384

noncomputable section

namespace Cert.Kernel6Ideal.Value

open Idealize.ShloMosaic Idealize.ShloMosaic.TcCoe Idealize.SL.Sem
open Idealize.ShloMosaic.Pipeline (Dat)
open Cert.Kernel6Ideal Cert.Kernel6Ideal.Gen Cert.Math

variable (V : (c : Dev nD) → (b : Ref sig .tc) → Buf (Elt Ideal) ((c : Thread nD τ).loc b)) (c : Dev nD)

/-- The blocks region 3 reads and writes at each grid point. -/
theorem idx3 : ∀ t : Fin cfg3.N, win3_0.index t = ![t.val, 0] ∧ win3_1.index t = ![0, 0, 0] ∧ win3_2.index t = ![t.val, 0] :=
  (by decide +kernel : ∀ t : Fin grid3.N, _)

/-- The gradient of the rows. -/
theorem final3 : (dat3 V c).arrAt 2 cfg3.N = gluDown (V c main_v13) (V c main_v0) := by
  refine (dat3 V c).arrAt_eq_of_covers 2 _ (by decide +kernel) fun t _ y => ?_
  blk_simp
  rw [after3_2]; frame_out
  pointwise [k3_pay1, k3_pay2, k3_pay3, k3_pay4, gluDown, Fin.sum_univ_eight]
  blk_point [iblk3, idx3 t]

end Cert.Kernel6Ideal.Value

end
-- ==== Proof.GluGate.lean ====
/- What the gate and its gradient leave in the arrays that have one row a position. -/
module

public import proofs.«01_k».proof.Proof.Spec6
public import proofs.«01_k».proof.Proof.Gen.Kernel6Ideal.Frame
public import Idealize.ShloMosaic.Lib.Pipeline.ValueKit
public import Idealize.ShloMosaic.Lib.Pointwise

@[expose] public section

set_option maxRecDepth 16384

noncomputable section

namespace Cert.Kernel6Ideal.Value

open Idealize.ShloMosaic Idealize.ShloMosaic.TcCoe Idealize.SL.Sem
open Idealize.ShloMosaic.Pipeline (Dat)
open Cert.Kernel6Ideal Cert.Kernel6Ideal.Gen Cert.Math

variable (V : (c : Dev nD) → (b : Ref sig .tc) → Buf (Elt Ideal) ((c : Thread nD τ).loc b)) (c : Dev nD)

/-- The blocks region 1 reads and writes at each grid point. -/
theorem idx1 : ∀ t : Fin cfg1.N, win1_0.index t = ![t.val, 0] ∧ win1_1.index t = ![t.val, 0] ∧ win1_2.index t = ![0, 0] ∧ win1_3.index t = ![0, 0] ∧ win1_4.index t = ![t.val, 0] :=
  (by decide +kernel : ∀ t : Fin grid1.N, _)

/-- The gated rows. -/
theorem final1 : (dat1 V c).arrAt 4 cfg1.N = glu (V c main_v3) (V c main_v4) (V c main_v6) (V c main_v8) := by
  refine (dat1 V c).arrAt_eq_of_covers 4 _ (by decide +kernel) fun t _ y => ?_
  blk_simp
  rw [after1_4]; frame_out
  pointwise [k1_pay1, glu, gluSig]
  blk_point [iblk1, idx1 t]

/-- The blocks region 2 reads and writes at each grid point. -/
theorem idx2 : ∀ t : Fin cfg2.N, win2_0.index t = ![t.val, 0] ∧ win2_1.index t = ![t.val, 0] ∧ win2_2.index t = ![0, 0] ∧ win2_3.index t = ![0, 0] ∧ win2_4.index t = ![t.val, 0] ∧ win2_5.index t = ![t.val, 0] ∧ win2_6.index t = ![t.val, 0] ∧ win2_7.index t = ![0, 0] ∧ win2_8.index t = ![0, 0] :=
  (by decide +kernel : ∀ t : Fin grid2.N, _)

/-- The gradient in the first half. -/
theorem final2_dz1 : (dat2 V c).arrAt 5 cfg2.N = gluD1 (V c main_v4) (V c main_v8) (V c main_arg3) := by
  refine (dat2 V c).arrAt_eq_of_covers 5 _ (by decide +kernel) fun t _ y => ?_
  blk_simp
  rw [after2_5]
  have hstep : (outsAt2 V c t.val t.isLt).1 = k2_pay3 (iblk2 V c 1 t) (iblk2 V c 3 t) (iblk2 V c 4 t) := by
    by_cases h : t.val % 8 = 0
    · rw [outsAt2_A V c t h]; frame_out
    · rw [outsAt2_B V c t h]; frame_out
  rw [hstep]
  pointwise [k2_pay3, k2_pay2, gluD1, gluSig]
  blk_point [iblk2, idx2 t]

/-- The gradient in the second half. -/
theorem final2_dz2 : (dat2 V c).arrAt 6 cfg2.N = gluD2 (V c main_v3) (V c main_v4) (V c main_v6) (V c main_v8) (V c main_arg3) := by
  refine (dat2 V c).arrAt_eq_of_covers 6 _ (by decide +kernel) fun t _ y => ?_
  blk_simp
  rw [after2_6]
  have hstep : (outsAt2 V c t.val t.isLt).2.1 = k2_pay4 (iblk2 V c 0 t) (iblk2 V c 1 t) (iblk2 V c 2 t) (iblk2 V c 3 t) (iblk2 V c 4 t) := by
    by_cases h : t.val % 8 = 0
    · rw [outsAt2_A V c t h]; frame_out
    · rw [outsAt2_B V c t h]; frame_out
  rw [hstep]
  pointwise [k2_pay4, k2_pay2, gluD2, gluSig]
  blk_point [iblk2, idx2 t]

end Cert.Kernel6Ideal.Value

end
-- ==== Proof.GluBias.lean ====
/- What the gradient of the gate leaves in the gradients of the biases, added up over the grid points. -/
module

public import proofs.«01_k».proof.Proof.Spec6
public import proofs.«01_k».proof.Proof.Gen.Kernel6Ideal.Frame
public import Idealize.ShloMosaic.Lib.Pipeline.ValueKit
public import Idealize.ShloMosaic.Lib.Pointwise

@[expose] public section

set_option maxRecDepth 16384

noncomputable section

namespace Cert.Kernel6Ideal.Value

open Idealize.ShloMosaic Idealize.ShloMosaic.TcCoe Idealize.SL.Sem
open Idealize.ShloMosaic.Pipeline (Dat)
open Cert.Kernel6Ideal Cert.Kernel6Ideal.Gen Cert.Math

variable (V : (c : Dev nD) → (b : Ref sig .tc) → Buf (Elt Ideal) ((c : Thread nD τ).loc b)) (c : Dev nD)

/-- The blocks region 2 reads and writes at each grid point. -/
theorem idx2' : ∀ t : Fin cfg2.N, win2_0.index t = ![t.val, 0] ∧ win2_1.index t = ![t.val, 0] ∧ win2_2.index t = ![0, 0] ∧ win2_3.index t = ![0, 0] ∧ win2_4.index t = ![t.val, 0] ∧ win2_5.index t = ![t.val, 0] ∧ win2_6.index t = ![t.val, 0] ∧ win2_7.index t = ![0, 0] ∧ win2_8.index t = ![0, 0] :=
  (by decide +kernel : ∀ t : Fin grid2.N, _)

/-- The accumulator starts at zero. -/
theorem k2_zero_db1 (j) : k2_pay6 (F := Ideal) j = 0 := by pointwise [k2_pay6]

/-- One grid point adds the sum over its own rows. -/
theorem k2_add_db1 (x1 : FVec Ideal S256x512 .f32) (x3 : FVec Ideal S1x512 .f32) (x4 : FVec Ideal S256x512 .f32) (acc : FVec Ideal S1x512 .f32) (j) :
    k2_pay8 x1 x3 x4 acc j = acc j + ∑ r : Fin 256, x4 (ix2 r (j 1)) * Ideal.logistic (x1 (ix2 r (j 1)) + x3 (ix2 0 (j 1))) := by
  pointwise [k2_pay8, k2_pay3, k2_pay2]

/-- The gradient of the first half of the biases. -/
theorem final2_db1 : (dat2 V c).arrAt 7 cfg2.N = colSum (gluD1 (V c main_v4) (V c main_v8) (V c main_arg3)) := by
  refine (dat2 V c).arrAt_eq_of_after_last 7 t2_7 (by decide +kernel) _ fun j => ?_
  blk_simp
  rw [after2_7, Pipeline.eq_sum_fin_of_reset_step_apply_last (fun n h => (outsAt2 V c n h).2.2.1) 8 (fun _ => 0) _
    (fun t h j => by rw [outsAt2_A V c t h]; frame_out; rw [k2_add_db1, k2_zero_db1])
    (fun t h j => by rw [outsAt2_B V c t h]; frame_out; rw [k2_add_db1])
    (le_of_eq N_2) t2_7 rfl j, zero_add, colSum]
  refine Fin.sum_mul_add_congr fun s k hl => ?_
  pointwise [gluD1, gluSig]
  blk_point [iblk2, idx2' s]

/-- The accumulator starts at zero. -/
theorem k2_zero_db2 (j) : k2_pay7 (F := Ideal) j = 0 := by pointwise [k2_pay7]

/-- One grid point adds the sum over its own rows. -/
theorem k2_add_db2 (x0 x1 : FVec Ideal S256x512 .f32) (x2 x3 : FVec Ideal S1x512 .f32) (x4 : FVec Ideal S256x512 .f32) (acc : FVec Ideal S1x512 .f32) (j) :
    k2_pay1 (k2_pay5 x0 x1 x2 x3 x4) acc j = acc j + ∑ r : Fin 256, (x0 (ix2 r (j 1)) + x2 (ix2 0 (j 1))) * x4 (ix2 r (j 1)) * (Ideal.logistic (x1 (ix2 r (j 1)) + x3 (ix2 0 (j 1))) * (1 - Ideal.logistic (x1 (ix2 r (j 1)) + x3 (ix2 0 (j 1))))) := by
  pointwise [k2_pay1, k2_pay5, k2_pay4, k2_pay2]

/-- The gradient of the second half of the biases. -/
theorem final2_db2 : (dat2 V c).arrAt 8 cfg2.N = colSum (gluD2 (V c main_v3) (V c main_v4) (V c main_v6) (V c main_v8) (V c main_arg3)) := by
  refine (dat2 V c).arrAt_eq_of_after_last 8 t2_7 (by decide +kernel) _ fun j => ?_
  blk_simp
  rw [after2_8, Pipeline.eq_sum_fin_of_reset_step_apply_last (fun n h => (outsAt2 V c n h).2.2.2) 8 (fun _ => 0) _
    (fun t h j => by rw [outsAt2_A V c t h]; frame_out; rw [k2_add_db2, k2_zero_db2])
    (fun t h j => by rw [outsAt2_B V c t h]; frame_out; rw [k2_add_db2])
    (le_of_eq N_2) t2_7 rfl j, zero_add, colSum]
  refine Fin.sum_mul_add_congr fun s k hl => ?_
  pointwise [gluD2, gluSig]
  blk_point [iblk2, idx2' s]

end Cert.Kernel6Ideal.Value

end
-- ==== Proof.Fold6.lean ====
/- What every array of the kernel's program holds when the program ends, as a function of the arguments: the contents at each
   boundary between two pallas calls, followed from the launch to the end. -/
module

public import proofs.«01_k».proof.Proof.GluMm
public import proofs.«01_k».proof.Proof.GluDown
public import proofs.«01_k».proof.Proof.GluGate
public import proofs.«01_k».proof.Proof.GluBias
public import proofs.«01_k».proof.Proof.Gen.Kernel6Ideal.Frame
public import Idealize.ShloMosaic.Lib.StableHlo.Run

@[expose] public section

set_option maxRecDepth 16384

noncomputable section

namespace Cert.Kernel6Ideal.Value

open Idealize.ShloMosaic Idealize.ShloMosaic.TcCoe Idealize.SL.Sem
open Idealize.ShloMosaic.Pipeline (Dat)
open Cert.Kernel6Ideal Cert.Kernel6Ideal.Gen Cert.Math

variable (m : (ℓ : Loc nD τ sig) → Buf (Elt Ideal) ℓ) (ρ : Dev nD → PrngReg) (c : Dev nD)

/-! ## The arguments at their literal types -/

abbrev aY : Mat 2048 512 := m ((c : Thread nD τ).loc main_arg0)
abbrev aW : GluShards := m ((c : Thread nD τ).loc main_arg1)
abbrev aB : Bias := m ((c : Thread nD τ).loc main_arg2)
abbrev aD : Mat 2048 512 := m ((c : Thread nD τ).loc main_arg3)

/-! ## Two arrays side by side -/

/-- The gradients of the two halves of the biases side by side. -/
theorem catBias (A B : FVec Ideal S1x512 .f32) :
    concatenate S1x1024 1 [⟨S1x512, A⟩, ⟨S1x512, B⟩] concatenates_S1x512_S1x512_S1x1024_d1 = sideBySide A B := by
  funext j
  have h : j 0 = (0 : Fin 1) := Subsingleton.elim (α := Fin 1) _ _
  pointwise [sideBySide]
  rw [h]

/-- The gradients of the two halves of the projection side by side, cast. -/
theorem catRows (A B : FVec Ideal S2048x512 .f32) :
    (truncf .bf16 (concatenate S2048x1024 1 [⟨S2048x512, A⟩, ⟨S2048x512, B⟩] concatenates_S2048x512_S2048x512_S2048x1024_d1)
      bitsLt_bf16_f32 : FVec Ideal S2048x1024 .bf16) = sideBySide A B := by
  funext j
  pointwise [sideBySide]

/-! ## The contents at the boundaries -/

/-- The shards, cast. -/
theorem w1_v0 : W1 m ρ c (Proc.devRef .tc main_v0) = aW m c := by
  refine Eq.trans (b := truncf .bf16 (W0 m ρ c (Proc.devRef .tc main_arg1)) bitsLt_bf16_f32) ?_ ?_
  · after_results
    all_goals rfl
  · rw [W0_args m ρ c main_arg1 (by decide)]
    funext j
    pointwise []

/-- The rows, cast. -/
theorem w1_v1 : W1 m ρ c (Proc.devRef .tc main_v1) = aY m c := by
  refine Eq.trans (b := truncf .bf16 (W0 m ρ c (Proc.devRef .tc main_arg0)) bitsLt_bf16_f32) ?_ ?_
  · after_results
    all_goals rfl
  · rw [W0_args m ρ c main_arg0 (by decide)]
    funext j
    pointwise []

/-- The projection. -/
theorem w2_v2 : W2 m ρ c (Proc.devRef .tc main_v2) = gluZ (aY m c) (aW m c) := by
  refine (W2_arr m ρ c 2).trans ((final0 (V1 m ρ) c).trans ?_)
  have h0 : V1 m ρ c main_v1 = aY m c := w1_v1 m ρ c
  have h1 : V1 m ρ c main_v0 = aW m c := w1_v0 m ρ c
  rw [h0, h1]
  all_goals rfl

/-- Its first half. -/
theorem w3_v3 : W3 m ρ c (Proc.devRef .tc main_v3) = firstHalf (gluZ (aY m c) (aW m c)) := by
  refine Eq.trans (b := extractStridedSlice S2048x512 ![0, 0] (W2 m ρ c (Proc.devRef .tc main_v2)) slices_S2048x1024_S2048x512_0_0) ?_ ?_
  · after_results
    all_goals rfl
  · rw [w2_v2 m ρ c]
    funext j
    pointwise [firstHalf]

/-- Its second half. -/
theorem w3_v4 : W3 m ρ c (Proc.devRef .tc main_v4) = lastHalf (gluZ (aY m c) (aW m c)) := by
  refine Eq.trans (b := extractStridedSlice S2048x512 ![0, 512] (W2 m ρ c (Proc.devRef .tc main_v2)) slices_S2048x1024_S2048x512_0_512) ?_ ?_
  · after_results
    all_goals rfl
  · rw [w2_v2 m ρ c]
    funext j
    pointwise [lastHalf]

/-- The first half of the biases. -/
theorem w3_v6 : W3 m ρ c (Proc.devRef .tc main_v6) = firstBias (aB m c) := by
  refine Eq.trans (b := shapeCast S1x512 (extractStridedSlice S512 ![0] (W2 m ρ c (Proc.devRef .tc main_arg2)) slices_S1024_S512_0) shapeCasts_S512_S1x512) ?_ ?_
  · after_results
    all_goals rfl
  · rw [W2_args m ρ c main_arg2 (by decide)]
    funext j
    pointwise [firstBias]

/-- The second half of the biases. -/
theorem w3_v8 : W3 m ρ c (Proc.devRef .tc main_v8) = lastBias (aB m c) := by
  refine Eq.trans (b := shapeCast S1x512 (extractStridedSlice S512 ![512] (W2 m ρ c (Proc.devRef .tc main_arg2)) slices_S1024_S512_512) shapeCasts_S512_S1x512) ?_ ?_
  · after_results
    all_goals rfl
  · rw [W2_args m ρ c main_arg2 (by decide)]
    funext j
    pointwise [lastBias]

/-- The gated rows. -/
theorem w4_v9 : W4 m ρ c (Proc.devRef .tc main_v9) = gluOut (aY m c) (aW m c) (aB m c) := by
  refine (W4_arr m ρ c 4).trans ((final1 (V3 m ρ) c).trans ?_)
  have h0 : V3 m ρ c main_v3 = firstHalf (gluZ (aY m c) (aW m c)) := w3_v3 m ρ c
  have h1 : V3 m ρ c main_v4 = lastHalf (gluZ (aY m c) (aW m c)) := w3_v4 m ρ c
  have h2 : V3 m ρ c main_v6 = firstBias (aB m c) := w3_v6 m ρ c
  have h3 : V3 m ρ c main_v8 = lastBias (aB m c) := w3_v8 m ρ c
  rw [h0, h1, h2, h3]
  all_goals rfl

theorem w4_v4 : W4 m ρ c (Proc.devRef .tc main_v4) = lastHalf (gluZ (aY m c) (aW m c)) :=
  ((W4_of m ρ c main_v4 (by decide))).trans (w3_v4 m ρ c)

theorem w4_v8 : W4 m ρ c (Proc.devRef .tc main_v8) = lastBias (aB m c) :=
  ((W4_of m ρ c main_v8 (by decide))).trans (w3_v8 m ρ c)

/-- The gradient of the first half. -/
theorem w5_v10_0 : W5 m ρ c (Proc.devRef .tc main_v10_0) = gluDz1 (aY m c) (aW m c) (aB m c) (aD m c) := by
  refine (W5_arr m ρ c 5).trans ((final2_dz1 (V4 m ρ) c).trans ?_)
  have h0 : V4 m ρ c main_v4 = lastHalf (gluZ (aY m c) (aW m c)) := w4_v4 m ρ c
  have h1 : V4 m ρ c main_v8 = lastBias (aB m c) := w4_v8 m ρ c
  have h2 : V4 m ρ c main_arg3 = aD m c := W4_args m ρ c main_arg3 (by decide)
  rw [h0, h1, h2]
  all_goals rfl

theorem w4_v3 : W4 m ρ c (Proc.devRef .tc main_v3) = firstHalf (gluZ (aY m c) (aW m c)) :=
  ((W4_of m ρ c main_v3 (by decide))).trans (w3_v3 m ρ c)

theorem w4_v6 : W4 m ρ c (Proc.devRef .tc main_v6) = firstBias (aB m c) :=
  ((W4_of m ρ c main_v6 (by decide))).trans (w3_v6 m ρ c)

/-- The gradient of the second half. -/
theorem w5_v10_1 : W5 m ρ c (Proc.devRef .tc main_v10_1) = gluDz2 (aY m c) (aW m c) (aB m c) (aD m c) := by
  refine (W5_arr m ρ c 6).trans ((final2_dz2 (V4 m ρ) c).trans ?_)
  have h0 : V4 m ρ c main_v3 = firstHalf (gluZ (aY m c) (aW m c)) := w4_v3 m ρ c
  have h1 : V4 m ρ c main_v4 = lastHalf (gluZ (aY m c) (aW m c)) := w4_v4 m ρ c
  have h2 : V4 m ρ c main_v6 = firstBias (aB m c) := w4_v6 m ρ c
  have h3 : V4 m ρ c main_v8 = lastBias (aB m c) := w4_v8 m ρ c
  have h4 : V4 m ρ c main_arg3 = aD m c := W4_args m ρ c main_arg3 (by decide)
  rw [h0, h1, h2, h3, h4]
  all_goals rfl

/-- The gradient of the first half of the biases. -/
theorem w5_v10_2 : W5 m ρ c (Proc.devRef .tc main_v10_2) = colSum (gluDz1 (aY m c) (aW m c) (aB m c) (aD m c)) := by
  refine (W5_arr m ρ c 7).trans ((final2_db1 (V4 m ρ) c).trans ?_)
  have h0 : V4 m ρ c main_v4 = lastHalf (gluZ (aY m c) (aW m c)) := w4_v4 m ρ c
  have h1 : V4 m ρ c main_v8 = lastBias (aB m c) := w4_v8 m ρ c
  have h2 : V4 m ρ c main_arg3 = aD m c := W4_args m ρ c main_arg3 (by decide)
  rw [h0, h1, h2]
  all_goals rfl

/-- The gradient of the second half of the biases. -/
theorem w5_v10_3 : W5 m ρ c (Proc.devRef .tc main_v10_3) = colSum (gluDz2 (aY m c) (aW m c) (aB m c) (aD m c)) := by
  refine (W5_arr m ρ c 8).trans ((final2_db2 (V4 m ρ) c).trans ?_)
  have h0 : V4 m ρ c main_v3 = firstHalf (gluZ (aY m c) (aW m c)) := w4_v3 m ρ c
  have h1 : V4 m ρ c main_v4 = lastHalf (gluZ (aY m c) (aW m c)) := w4_v4 m ρ c
  have h2 : V4 m ρ c main_v6 = firstBias (aB m c) := w4_v6 m ρ c
  have h3 : V4 m ρ c main_v8 = lastBias (aB m c) := w4_v8 m ρ c
  have h4 : V4 m ρ c main_arg3 = aD m c := W4_args m ρ c main_arg3 (by decide)
  rw [h0, h1, h2, h3, h4]
  all_goals rfl

/-- The gradient of the biases. -/
theorem w6_v11 : W6 m ρ c (Proc.devRef .tc main_v11) = gluDb (aY m c) (aW m c) (aB m c) (aD m c) := by
  refine Eq.trans (b := concatenate S1x1024 1 [⟨S1x512, (W5 m ρ c (Proc.devRef .tc main_v10_2))⟩, ⟨S1x512, (W5 m ρ c (Proc.devRef .tc main_v10_3))⟩] concatenates_S1x512_S1x512_S1x1024_d1) ?_ ?_
  · after_results
    all_goals rfl
  · rw [w5_v10_2 m ρ c, w5_v10_3 m ρ c]
    exact (catBias _ _).trans (sideBySide_colSum _ _)

/-- The gradient of the projection, cast. -/
theorem w6_v13 : W6 m ρ c (Proc.devRef .tc main_v13) = gluDz (aY m c) (aW m c) (aB m c) (aD m c) := by
  refine Eq.trans (b := truncf .bf16 (concatenate S2048x1024 1 [⟨S2048x512, (W5 m ρ c (Proc.devRef .tc main_v10_0))⟩, ⟨S2048x512, (W5 m ρ c (Proc.devRef .tc main_v10_1))⟩] concatenates_S2048x512_S2048x512_S2048x1024_d1) bitsLt_bf16_f32) ?_ ?_
  · after_results
    all_goals rfl
  · rw [w5_v10_0 m ρ c, w5_v10_1 m ρ c]
    exact catRows _ _

theorem w6_v0 : W6 m ρ c (Proc.devRef .tc main_v0) = aW m c :=
  ((W6_of m ρ c main_v0 (by decide)).trans ((W5_of m ρ c main_v0 (by decide)).trans ((W4_of m ρ c main_v0 (by decide)).trans ((W3_of m ρ c main_v0 (by decide)).trans ((W2_of m ρ c main_v0 (by decide))))))).trans (w1_v0 m ρ c)

/-- The gradient of the rows. -/
theorem w7_v14 : W7 m ρ c (Proc.devRef .tc main_v14) = gluDy (aY m c) (aW m c) (aB m c) (aD m c) := by
  refine (W7_arr m ρ c 2).trans ((final3 (V6 m ρ) c).trans ?_)
  have h0 : V6 m ρ c main_v13 = gluDz (aY m c) (aW m c) (aB m c) (aD m c) := w6_v13 m ρ c
  have h1 : V6 m ρ c main_v0 = aW m c := w6_v0 m ρ c
  rw [h0, h1]
  all_goals rfl

theorem w7_v1 : W7 m ρ c (Proc.devRef .tc main_v1) = aY m c :=
  ((W7_of m ρ c main_v1 (by decide)).trans ((W6_of m ρ c main_v1 (by decide)).trans ((W5_of m ρ c main_v1 (by decide)).trans ((W4_of m ρ c main_v1 (by decide)).trans ((W3_of m ρ c main_v1 (by decide)).trans ((W2_of m ρ c main_v1 (by decide)))))))).trans (w1_v1 m ρ c)

theorem w7_v13 : W7 m ρ c (Proc.devRef .tc main_v13) = gluDz (aY m c) (aW m c) (aB m c) (aD m c) :=
  ((W7_of m ρ c main_v13 (by decide))).trans (w6_v13 m ρ c)

/-- The gradient of the shards. -/
theorem w8_v15 : W8 m ρ c (Proc.devRef .tc main_v15) = gluDw (aY m c) (aW m c) (aB m c) (aD m c) := by
  refine (W8_arr m ρ c 2).trans ((final4 (V7 m ρ) c).trans ?_)
  have h0 : V7 m ρ c main_v1 = aY m c := w7_v1 m ρ c
  have h1 : V7 m ρ c main_v13 = gluDz (aY m c) (aW m c) (aB m c) (aD m c) := w7_v13 m ρ c
  rw [h0, h1]
  all_goals rfl

theorem w8_v9 : W8 m ρ c (Proc.devRef .tc main_v9) = gluOut (aY m c) (aW m c) (aB m c) :=
  ((W8_of m ρ c main_v9 (by decide)).trans ((W7_of m ρ c main_v9 (by decide)).trans ((W6_of m ρ c main_v9 (by decide)).trans ((W5_of m ρ c main_v9 (by decide)))))).trans (w4_v9 m ρ c)

theorem w8_v14 : W8 m ρ c (Proc.devRef .tc main_v14) = gluDy (aY m c) (aW m c) (aB m c) (aD m c) :=
  ((W8_of m ρ c main_v14 (by decide))).trans (w7_v14 m ρ c)

theorem w8_v11 : W8 m ρ c (Proc.devRef .tc main_v11) = gluDb (aY m c) (aW m c) (aB m c) (aD m c) :=
  ((W8_of m ρ c main_v11 (by decide)).trans ((W7_of m ρ c main_v11 (by decide)))).trans (w6_v11 m ρ c)

end Cert.Kernel6Ideal.Value

end
-- ==== Proof.Run6.lean ====
/- The kernel's program, run from any memory: every result is the mathematics of the gated projection, and the
   arguments end as they began. -/
module

public import proofs.«01_k».proof.Proof.Fold6

@[expose] public section

set_option maxRecDepth 16384

noncomputable section

namespace Cert.Kernel6Ideal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal Cert.Kernel6Ideal.Gen Cert.Math

variable (m : (ℓ : Loc nD τ sig) → Buf (Elt Ideal) ℓ) (ρ : Dev nD → PrngReg)

set_option backward.isDefEq.respectTransparency.types false in
/-- Every execution ends with the gated rows and all the gradients in the four result arrays: what the arrays hold at the last
    boundary (`Fold6`), read off the final memory. -/
theorem run_math : θ_run defs (onTc (τ := τ) (main (F := Ideal))) ⟨m, fun _ => 0, ρ⟩ (fun r => ∀ c : Dev nD,
      (r.2.mem ((c.tc : Thread nD τ).loc main_v9) = gluOut (aY m c) (aW m c) (aB m c)
      ∧ r.2.mem ((c.tc : Thread nD τ).loc main_v14) = gluDy (aY m c) (aW m c) (aB m c) (aD m c)
      ∧ r.2.mem ((c.tc : Thread nD τ).loc main_v15) = gluDw (aY m c) (aW m c) (aB m c) (aD m c)
      ∧ r.2.mem ((c.tc : Thread nD τ).loc main_v11) = gluDb (aY m c) (aW m c) (aB m c) (aD m c))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))) :=
  Pipeline.θ_run_regions_kit_sems (pcfgs (F := Ideal)) adm (pdats m ρ) () cellOf_inj emb₁ defs₀ 𝒱₀ L lv m ρ (main (F := Ideal)) (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz c => ⟨⟨(h c _ (mem_uc main_v9 (by decide))).trans (w8_v9 m ρ c),
      (h c _ (mem_uc main_v14 (by decide))).trans (w8_v14 m ρ c),
      (h c _ (mem_uc main_v15 (by decide))).trans (w8_v15 m ρ c),
      (h c _ (mem_uc main_v11 (by decide))).trans (w8_v11 m ρ c)⟩,
      ⟨(h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c)⟩⟩)

end Cert.Kernel6Ideal.Value

end
-- ==== Proof.Reference6.lean ====
/- What the reference of the gated projection computes: its operations, stage by stage, are the functions of `Cert.Math`. -/
module

public import proofs.«01_k».proof.Proof.Spec6
public import proofs.«01_k».proof.Proof.Gen.Reference6Ideal.Run

@[expose] public section

set_option maxRecDepth 16384

noncomputable section

namespace Cert.Reference6Ideal.Value

open Idealize.ShloMosaic Idealize.ShloMosaic.TcCoe Idealize.SL.Sem
open Cert.Reference6Ideal Cert.Reference6Ideal.Gen Cert.Math

/-! ## The stages, as the program spells them -/

/-- The projection. -/
def zH (y : FVec Ideal S2048x512 .f32) (w : FVec Ideal S8x512x128 .f32) : FVec Ideal S2048x1024 .f32 :=
  shapeCast S2048x1024 (Host.dotGeneral dot_S2048x512_S8x512x128_S2048x8x128_1_1_0_02_n_n none y w) shapeCasts_S2048x8x128_S2048x1024

/-- The biases under every row. -/
def biasedH (z : FVec Ideal S2048x1024 .f32) (b : FVec Ideal S1024 .f32) : FVec Ideal S2048x1024 .f32 :=
  addf z (broadcastInDim S2048x1024 ![0, 1] bcast_S1x1024_S2048x1024_0_1 (broadcastInDim S1x1024 ![1] bcast_S1024_S1x1024_1 b))

/-- The two halves of the columns. -/
def firstH (z : FVec Ideal S2048x1024 .f32) : FVec Ideal S2048x512 .f32 := extractStridedSlice S2048x512 ![0, 0] z slices_S2048x1024_S2048x512_0_0
def lastH (z : FVec Ideal S2048x1024 .f32) : FVec Ideal S2048x512 .f32 := extractStridedSlice S2048x512 ![0, 512] z slices_S2048x1024_S2048x512_0_512

/-- One in every element. -/
def oneH : FVec Ideal S2048x512 .f32 := broadcastInDim S2048x512 ![] bcast_S_S2048x512 (constant S_ .f32 0x3F800000#32)

/-- The logistic function. -/
def sigH (z : FVec Ideal S2048x512 .f32) : FVec Ideal S2048x512 .f32 := Host.divf oneH (addf oneH (Host.exp (Host.negf z)))

/-- The gated rows. -/
def gluH (z : FVec Ideal S2048x1024 .f32) : FVec Ideal S2048x512 .f32 := mulf (firstH z) (sigH (lastH z))

/-- The gradients of the two halves. -/
def dz1H (z : FVec Ideal S2048x1024 .f32) (d : FVec Ideal S2048x512 .f32) : FVec Ideal S2048x512 .f32 := mulf d (sigH (lastH z))
def dz2H (z : FVec Ideal S2048x1024 .f32) (d : FVec Ideal S2048x512 .f32) : FVec Ideal S2048x512 .f32 :=
  mulf (mulf (firstH z) d) (mulf (sigH (lastH z)) (subf oneH (sigH (lastH z))))

/-- The second half behind zeros plus the first half before zeros. -/
def padH (a b : FVec Ideal S2048x512 .f32) : FVec Ideal S2048x1024 .f32 :=
  addf (pad S2048x1024 ![0, 512] ![0, 0] ![0, 0] b (constant S_ .f32 0x00000000#32) pads_S2048x512_S2048x1024_000_51200 h_S_)
    (pad S2048x1024 ![0, 0] ![0, 512] ![0, 0] a (constant S_ .f32 0x00000000#32) pads_S2048x512_S2048x1024_000_05120 h_S_)

/-- The gradient of the projection. -/
def dzH (z : FVec Ideal S2048x1024 .f32) (d : FVec Ideal S2048x512 .f32) : FVec Ideal S2048x1024 .f32 := padH (dz1H z d) (dz2H z d)

/-- The same, the columns cut into the shards. -/
def cutH (dz : FVec Ideal S2048x1024 .f32) : FVec Ideal S2048x8x128 .f32 := shapeCast S2048x8x128 dz shapeCasts_S2048x1024_S2048x8x128

/-- The gradient of the rows. -/
def dyH (dz : FVec Ideal S2048x1024 .f32) (w : FVec Ideal S8x512x128 .f32) : FVec Ideal S2048x512 .f32 := Host.dotGeneral dot_S2048x8x128_S8x512x128_S2048x512_12_02_0_1_n_n none (cutH dz) w

/-- The gradient of the shards. -/
def dwH (dz : FVec Ideal S2048x1024 .f32) (y : FVec Ideal S2048x512 .f32) : FVec Ideal S8x512x128 .f32 :=
  transpose S8x512x128 [0, 2, 1] (Host.dotGeneral dot_S2048x8x128_S2048x512_S8x128x512_0_0_12_1_n_n none (cutH dz) y)
    transposes_S8x128x512_S8x512x128_0_2_1

/-- The gradient of the biases. -/
def dbH (dz : FVec Ideal S2048x1024 .f32) : FVec Ideal S1x1024 .f32 :=
  shapeCast S1x1024 (Host.reduceAdd (shapeCast S1x1024 (Host.reduceAdd dz (constant S_ .f32 0x00000000#32)
      reducesTo_S2048x1024_S1024_d0 h_S_) shapeCasts_S1024_S1x1024) (constant S_ .f32 0x00000000#32)
    reducesTo_S1x1024_S1024_d0 h_S_) shapeCasts_S1024_S1x1024

/-! ## Each stage is the mathematics -/

theorem zH_eq (y : FVec Ideal S2048x512 .f32) (w : FVec Ideal S8x512x128 .f32) : zH y w = gluZ y w := by
  funext j
  pointwise [zH, gluZ]

theorem gluH_eq (z : FVec Ideal S2048x1024 .f32) (b : FVec Ideal S1024 .f32) :
    gluH (biasedH z b) = glu (firstHalf z) (lastHalf z) (firstBias b) (lastBias b) := by
  funext j
  pointwise [gluH, firstH, lastH, biasedH, sigH, oneH, glu, gluSig, firstHalf, lastHalf, firstBias, lastBias, Ideal.logistic]

theorem dz1H_eq (z : FVec Ideal S2048x1024 .f32) (b : FVec Ideal S1024 .f32) (d : FVec Ideal S2048x512 .f32) : dz1H (biasedH z b) d = gluD1 (lastHalf z) (lastBias b) d := by
  funext j
  pointwise [dz1H, lastH, biasedH, sigH, oneH, gluD1, gluSig, lastHalf, lastBias, Ideal.logistic]

theorem dz2H_eq (z : FVec Ideal S2048x1024 .f32) (b : FVec Ideal S1024 .f32) (d : FVec Ideal S2048x512 .f32) :
    dz2H (biasedH z b) d = gluD2 (firstHalf z) (lastHalf z) (firstBias b) (lastBias b) d := by
  funext j
  pointwise [dz2H, firstH, lastH, biasedH, sigH, oneH, gluD2, gluSig, firstHalf, lastHalf, firstBias, lastBias, Ideal.logistic]

theorem padH_eq (a b : FVec Ideal S2048x512 .f32) : padH a b = sideBySide a b := by
  funext j
  have hj : (j 1).val < 1024 := (j 1).isLt
  pointwise [padH, sideBySide]
  by_cases h : (j 1).val < 512
  · have h2 : ¬(512 ≤ (j 1).val ∧ (j 1).val - 512 < 512) := by omega
    simp only [dif_pos h, dif_neg h2, zero_add]
  · have h2 : 512 ≤ (j 1).val ∧ (j 1).val - 512 < 512 := by omega
    simp only [dif_neg h, dif_pos h2, add_zero]

theorem dzH_eq (z : FVec Ideal S2048x1024 .f32) (b : FVec Ideal S1024 .f32) (d : FVec Ideal S2048x512 .f32) : dzH (biasedH z b) d =
    sideBySide (gluD1 (lastHalf z) (lastBias b) d) (gluD2 (firstHalf z) (lastHalf z) (firstBias b) (lastBias b) d) := by
  rw [dzH, padH_eq, dz1H_eq, dz2H_eq]

theorem dyH_eq (dz : FVec Ideal S2048x1024 .f32) (w : FVec Ideal S8x512x128 .f32) : dyH dz w = gluDown dz w := by
  funext j
  pointwise [dyH, cutH, gluDown]

theorem dwH_eq (dz : FVec Ideal S2048x1024 .f32) (y : FVec Ideal S2048x512 .f32) : dwH dz y = gluGrad y dz := by
  funext j
  refine Eq.trans (b := ∑ t : Fin 2048, dz (ix2 t (⟨(j 0).val * 128 + (j 2).val, by
    have := (j 0).isLt; have := (j 2).isLt; simp at *; omega⟩ : Fin 1024)) * y (ix2 t (j 1))) ?_
    (Finset.sum_congr rfl fun l _ => mul_comm _ _)
  pointwise [dwH, cutH]

theorem dbH_eq (dz : FVec Ideal S2048x1024 .f32) : dbH dz = colSum dz := by
  funext j
  pointwise [dbH, colSum, Fin.sum_univ_one]

/-! ## The reference's results -/

variable (m : (ℓ : Loc nD τ sig) → Buf (Elt Ideal) ℓ) (c : Dev nD)

abbrev aY : Mat 2048 512 := m ((c : Thread nD τ).loc main_arg0)
abbrev aW : GluShards := m ((c : Thread nD τ).loc main_arg1)
abbrev aB : Bias := m ((c : Thread nD τ).loc main_arg2)
abbrev aD : Mat 2048 512 := m ((c : Thread nD τ).loc main_arg3)

/-- The biased projection, in the program's spelling. -/
abbrev zT : FVec Ideal S2048x1024 .f32 := biasedH (zH (aY m c) (aW m c)) (aB m c)
/-- Its gradient. -/
abbrev dzT : FVec Ideal S2048x1024 .f32 := dzH (zT m c) (aD m c)

theorem dzT_eq : dzT m c = gluDz (aY m c) (aW m c) (aB m c) (aD m c) := by
  unfold dzT zT; rw [dzH_eq, zH_eq]; rfl

theorem y_eq : gluH (zT m c) =
    gluOut (aY m c) (aW m c) (aB m c) := by
  rw [gluH_eq, zH_eq]; rfl

theorem dy_eq : dyH (dzT m c) (aW m c) =
    gluDy (aY m c) (aW m c) (aB m c) (aD m c) := by
  rw [dyH_eq, dzT_eq]; rfl

theorem dw_eq : dwH (dzT m c) (aY m c) =
    gluDw (aY m c) (aW m c) (aB m c) (aD m c) := by
  rw [dwH_eq, dzT_eq]; rfl

theorem db_eq : dbH (dzT m c) =
    gluDb (aY m c) (aW m c) (aB m c) (aD m c) := by
  rw [dbH_eq, dzT_eq]; rfl

/-- The reference's run: every result is the gated projection, the arguments end as they began. -/
theorem run_math (ρ : Dev nD → PrngReg) :
    θ_run defs (onTc (τ := τ) (main (F := Ideal))) ⟨m, fun _ => 0, ρ⟩ fun r => ∀ c : Dev nD,
      (r.2.mem ((c.tc : Thread nD τ).loc main_v16) = gluOut (aY m c) (aW m c) (aB m c)
      ∧ r.2.mem ((c.tc : Thread nD τ).loc main_v29) = gluDy (aY m c) (aW m c) (aB m c) (aD m c)
      ∧ r.2.mem ((c.tc : Thread nD τ).loc main_v28) = gluDw (aY m c) (aW m c) (aB m c) (aD m c)
      ∧ r.2.mem ((c.tc : Thread nD τ).loc main_v30) = gluDb (aY m c) (aW m c) (aB m c) (aD m c))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => by
    obtain ⟨h0, h1, h2, h3, ha⟩ := h c
    have e0 := (h0.trans (show _ = gluH (zT m c) from rfl)).trans (y_eq m c)
    have e1 := (h1.trans (show _ = dyH (dzT m c) (aW m c) from rfl)).trans (dy_eq m c)
    have e2 := (h2.trans (show _ = dwH (dzT m c) (aY m c) from rfl)).trans (dw_eq m c)
    have e3 := (h3.trans (show _ = dbH (dzT m c) from rfl)).trans (db_eq m c)
    exact ⟨⟨e0, e1, e2, e3⟩, ha⟩) (run m ρ)

end Cert.Reference6Ideal.Value

end
-- ==== Proof.Claims6.lean ====
/- The claims that speak of the reference of the gated projection: its frame, and the equality of the kernel's results with it. -/
module

public import proofs.«01_k».proof.Defs
public import proofs.«01_k».proof.Proof.Run6
public import proofs.«01_k».proof.Proof.Reference6
public import Idealize.ShloMosaic.Lib.Claim

@[expose] public section

set_option maxRecDepth 16384

noncomputable section

namespace Cert.Proof.Glu

open Idealize.ShloMosaic Idealize.SL.Sem Cert.Math
open Cert.Kernel6Ideal.Value (aY aW aB aD)

/-- The reference's frame. -/
theorem frame_ri : Cert.quiescent_Reference6Ideal := fun m ρ _ =>
  (θ_run Cert.Reference6Ideal.defs _ _).mono (fun r h => ⟨fun c => (h c).2, sem_eq_zero_of_no_sems (by decide) r.2⟩)
    (Cert.Reference6Ideal.Value.run_math m ρ)

/-- The kernel's results are the reference's: both are the same mathematics of the same arguments. -/
theorem algebraic : Cert.algebraic_Kernel6Ideal_Reference6Ideal := by
  intro m g m' g' _ h
  refine ⟨fun c => gluOut (aY m c) (aW m c) (aB m c),
    fun c => gluDy (aY m c) (aW m c) (aB m c) (aD m c),
    fun c => gluDw (aY m c) (aW m c) (aB m c) (aD m c),
    fun c => gluDb (aY m c) (aW m c) (aB m c) (aD m c),
    (θ_run _ _ _).mono (fun r hr c => ?_) (Cert.Kernel6Ideal.Value.run_math m g),
    (θ_run _ _ _).mono (fun r hr c => ?_) (Cert.Reference6Ideal.Value.run_math m' g')⟩
  · obtain ⟨⟨h0, h1, h2, h3⟩, ha⟩ := hr c
    exact ⟨h0, h1, h2, h3, ha⟩
  · obtain ⟨⟨h0, h1, h2, h3⟩, ha⟩ := hr c
    obtain ⟨e0, e1, e2, e3⟩ := h c
    have kaY : Cert.Reference6Ideal.Value.aY m' c = aY m c := e0
    have kaW : Cert.Reference6Ideal.Value.aW m' c = aW m c := e1
    have kaB : Cert.Reference6Ideal.Value.aB m' c = aB m c := e2
    have kaD : Cert.Reference6Ideal.Value.aD m' c = aD m c := e3
    rw [kaY, kaW, kaB] at h0
    rw [kaY, kaW, kaB, kaD] at h1
    rw [kaY, kaW, kaB, kaD] at h2
    rw [kaY, kaW, kaB, kaD] at h3
    exact ⟨h0, h1, h2, h3, ha⟩

end Cert.Proof.Glu

end
-- ==== Proof.Spec7.lean ====
/- The mathematics of the final norm with the loss as plain functions of arrays of extended reals: the rows are normalised and
   compared with the target, every row gives half its mean squared error, and the loss is the sum over the rows; and the
   gradients. Both programs are compared with these. -/
module

public import proofs.«01_k».proof.Proof.Spec2
public import Idealize.ShloMosaic.Lib.IdealHost

@[expose] public section

noncomputable section

namespace Cert.Math

open Idealize.ShloMosaic

/-- A scale for each of the 2048 columns. -/
abbrev Scale : Type := (⟨1, ![2048]⟩ : Shape).Idx → EReal

/-- The targets, with the axis of the examples. -/
abbrev Targets : Type := (⟨3, ![1, 2048, 2048]⟩ : Shape).Idx → EReal

/-- One number. -/
abbrev Single : Type := (⟨0, ![]⟩ : Shape).Idx → EReal

/-- The scales as a row, and a row as scales. -/
def scaleRow (g : Scale) : Mat 1 2048 := fun j => g (ix1 (j 1))
def rowScale (A : Mat 1 2048) : Scale := fun j => A (ix2 0 (j 0))

/-- The targets of the one example. -/
def slab (t : Targets) : Mat 2048 2048 := fun j => t (ix3 0 (j 0) (j 1))

/-- One for every row. -/
def onesCol : Mat 2048 1 := fun _ => 1

/-- What the normalised rows miss the targets by. -/
def lossErr (X : Mat 2048 2048) (G : Mat 1 2048) (T : Mat 2048 2048) : Mat 2048 2048 := fun j =>
  wRms 0x45000000#32 X G j - T j

/-- Half the mean squared error of every row. -/
def lossRows (X : Mat 2048 2048) (G : Mat 1 2048) (T : Mat 2048 2048) : Mat 2048 1 := fun j =>
  Ideal.ofBits .f32 0x3F000000#32
    * Ideal.div (∑ l : Fin 2048, lossErr X G T (ix2 (j 0) l) * lossErr X G T (ix2 (j 0) l)) (Ideal.ofBits .f32 0x45000000#32)

/-- The sum over the rows. -/
def sumRows (A : Mat 2048 1) : Mat 1 1 := fun j => ∑ r : Fin 2048, A (ix2 r (j 1))

/-- The cotangent `o` of a row's loss, through the half and the mean. -/
def lossWeight (o : EReal) : EReal := Ideal.div (Ideal.ofBits .f32 0x3F000000#32 * o) (Ideal.ofBits .f32 0x45000000#32)

/-- The cotangent of the normalised rows, `O` that of the rows' losses. -/
def lossCt (X : Mat 2048 2048) (G : Mat 1 2048) (T : Mat 2048 2048) (O : Mat 2048 1) : Mat 2048 2048 := fun j =>
  lossErr X G T j * lossWeight (O (ix2 (j 0) 0)) + lossWeight (O (ix2 (j 0) 0)) * lossErr X G T j

/-! ## The loss and its gradients -/

section Loss

variable (X : Mat 2048 2048) (g : Scale) (t : Targets)

/-- The loss. -/
def loss : Single := fun _ => sumRows (lossRows X (scaleRow g) (slab t)) (ix2 0 0)

/-- Its gradient in the rows. -/
def lossDx : Mat 2048 2048 := wDx 0x45000000#32 X (scaleRow g) (lossCt X (scaleRow g) (slab t) onesCol)

/-- Its gradient in the scales. -/
def lossDg : Scale := rowScale (wDg 0x45000000#32 X (lossCt X (scaleRow g) (slab t) onesCol))

end Loss

/-! ## A half and a two -/

theorem half_eq : Ideal.ofBits .f32 0x3F000000#32 = (((1 : ℝ) / 2 : ℝ) : EReal) := by
  simp [Ideal.ofBits, Ideal.ieee, -EReal.coe_mul]; norm_num

theorem two_eq : Ideal.ofBits .f32 0x40000000#32 = 1 + 1 := by
  rw [show (1 + 1 : EReal) = ((2 : ℝ) : EReal) by norm_cast]
  simp [Ideal.ofBits, Ideal.ieee, -EReal.coe_mul]; norm_num

/-- A half of a sum is the sum of the halves. -/
theorem half_mul_sum {n : ℕ} (f : Fin n → EReal) :
    Ideal.ofBits .f32 0x3F000000#32 * ∑ r : Fin n, f r = ∑ r : Fin n, Ideal.ofBits .f32 0x3F000000#32 * f r := by
  have h0 : (0 : EReal) ≤ Ideal.ofBits .f32 0x3F000000#32 := by
    rw [half_eq]; exact EReal.coe_nonneg.mpr (by norm_num)
  have h1 : Ideal.ofBits .f32 0x3F000000#32 ≠ ⊤ := by rw [half_eq]; exact EReal.coe_ne_top _
  induction n with
  | zero => simp
  | succ n ih => rw [Fin.sum_univ_succ, Fin.sum_univ_succ, EReal.left_distrib_of_nonneg_of_ne_top h0 h1, ih]

/-- Twice a number, weighted, is the number weighted from either side. -/
theorem mul_two_mul (w e : EReal) : w * (Ideal.ofBits .f32 0x40000000#32 * e) = e * w + w * e := by
  rw [mul_left_comm, two_eq, EReal.right_distrib_of_nonneg zero_le_one zero_le_one, one_mul, mul_comm e w]

end Cert.Math

end
-- ==== Proof.LossHead.lean ====
/- What the loss leaves in its output arrays: the gradient in the rows, the gradient in the scales, which the grid points add up
   one after another, and every row's loss; and the sum of the rows' losses. -/
module

public import proofs.«01_k».proof.Proof.Spec7
public import proofs.«01_k».proof.Proof.Gen.Kernel7Ideal.Frame
public import Idealize.ShloMosaic.Lib.Pipeline.ValueKit
public import Idealize.ShloMosaic.Lib.Pointwise

@[expose] public section

set_option maxRecDepth 16384

noncomputable section

namespace Cert.Kernel7Ideal.Value

open Idealize.ShloMosaic Idealize.ShloMosaic.TcCoe Idealize.SL.Sem
open Idealize.ShloMosaic.Pipeline (Dat)
open Cert.Kernel7Ideal Cert.Kernel7Ideal.Gen Cert.Math

variable (V : (c : Dev nD) → (b : Ref sig .tc) → Buf (Elt Ideal) ((c : Thread nD τ).loc b)) (c : Dev nD)

/-- The blocks region 0 reads and writes at each grid point. -/
theorem idx0 : ∀ t : Fin cfg0.N, win0_0.index t = ![t.val, 0] ∧ win0_1.index t = ![0, 0] ∧ win0_2.index t = ![t.val, 0] ∧ win0_3.index t = ![t.val, 0] ∧ win0_4.index t = ![t.val, 0] ∧ win0_5.index t = ![0, 0] ∧ win0_6.index t = ![t.val, 0] :=
  (by decide +kernel : ∀ t : Fin grid0.N, _)

/-- Every row's loss. -/
theorem final0_rows : (dat0 V c).arrAt 6 cfg0.N = lossRows (V c main_arg0) (V c main_v0) (V c main_v2) := by
  refine (dat0 V c).arrAt_eq_of_covers 6 _ (by decide +kernel) fun t _ y => ?_
  blk_simp
  rw [after0_6]
  have hstep : (outsAt0 V c t.val t.isLt).2.2 = k0_pay10 (iblk0 V c 0 t) (iblk0 V c 1 t) (iblk0 V c 2 t) := by
    by_cases h : t.val % 8 = 0
    · rw [outsAt0_A V c t h]; frame_out
    · rw [outsAt0_B V c t h]; frame_out
  rw [hstep]
  pointwise [k0_pay12, k0_pay11, k0_pay10, k0_pay9, k0_pay8, k0_pay7, k0_pay6, k0_pay5, k0_pay4, lossRows, lossErr, wRms, wMeanSq]
  blk_point [iblk0, idx0 t]

/-- The gradient in the rows. -/
theorem final0_dx : (dat0 V c).arrAt 4 cfg0.N =
    wDx 0x45000000#32 (V c main_arg0) (V c main_v0) (lossCt (V c main_arg0) (V c main_v0) (V c main_v2) (V c main_v1)) := by
  refine (dat0 V c).arrAt_eq_of_covers 4 _ (by decide +kernel) fun t _ y => ?_
  blk_simp
  rw [after0_4]
  have hstep : (outsAt0 V c t.val t.isLt).1 = k0_pay1 (iblk0 V c 0 t) (k0_pay4 (iblk0 V c 1 t)) (k0_pay6 (iblk0 V c 0 t))
      (k0_pay7 (iblk0 V c 0 t)) (k0_pay11 (iblk0 V c 0 t) (iblk0 V c 1 t) (iblk0 V c 2 t) (iblk0 V c 3 t)) := by
    by_cases h : t.val % 8 = 0
    · rw [outsAt0_A V c t h]; frame_out
    · rw [outsAt0_B V c t h]; frame_out
  rw [hstep]
  pointwise [k0_pay1, k0_pay12, k0_pay11, k0_pay10, k0_pay9, k0_pay8, k0_pay7, k0_pay6, k0_pay5, k0_pay4, wDx, wRow, lossCt, lossWeight, lossErr, wRms, wMeanSq, Fin.sum_univ_one]
  blk_point [iblk0, idx0 t]

/-- The accumulator starts at zero. -/
theorem k0_zero (j) : k0_pay2 (F := Ideal) j = 0 := by pointwise [k0_pay2]

/-- One grid point adds the sum over its own rows. -/
theorem k0_add (x d : FVec Ideal S256x2048 .f32) (acc : FVec Ideal S1x2048 .f32) (j) :
    k0_pay3 (mulf (k0_pay8 x) d) acc j
      = acc j + ∑ r : Fin 256, x (ix2 r (j 1)) * Ideal.rsqrt (Ideal.div (∑ l : Fin 2048, x (ix2 r l) * x (ix2 r l))
          (Ideal.ofBits .f32 0x45000000#32) + Ideal.ofBits .f32 0x358637BD#32) * d (ix2 r (j 1)) := by
  pointwise [k0_pay3, k0_pay8, k0_pay6, k0_pay5]

/-- The gradient in the scales. -/
theorem final0_dg : (dat0 V c).arrAt 5 cfg0.N =
    wDg 0x45000000#32 (V c main_arg0) (lossCt (V c main_arg0) (V c main_v0) (V c main_v2) (V c main_v1)) := by
  refine (dat0 V c).arrAt_eq_of_after_last 5 t0_7 (by decide +kernel) _ fun j => ?_
  blk_simp
  rw [after0_5, Pipeline.eq_sum_fin_of_reset_step_apply_last (fun n h => (outsAt0 V c n h).2.1) 8 (fun _ => 0) _
    (fun t h j => by rw [outsAt0_A V c t h]; frame_out; rw [k0_pay12, k0_add, k0_zero])
    (fun t h j => by rw [outsAt0_B V c t h]; frame_out; rw [k0_pay12, k0_add])
    (le_of_eq N_0) t0_7 rfl j, zero_add, wDg]
  refine Fin.sum_mul_add_congr fun s k hl => ?_
  pointwise [k0_pay11, k0_pay9, k0_pay8, k0_pay6, k0_pay5, k0_pay4, lossCt, lossWeight, lossErr, wRms, wMeanSq, Fin.sum_univ_one]
  blk_point [iblk0, idx0 s]

/-- The blocks region 1 reads and writes. -/
theorem idx1 : ∀ t : Fin cfg1.N, win1_0.index t = ![0, 0] ∧ win1_1.index t = ![0, 0] :=
  (by decide +kernel : ∀ t : Fin grid1.N, _)

/-- The sum of the rows' losses. -/
theorem final1 : (dat1 V c).arrAt 1 cfg1.N = sumRows (V c main_v3_2) := by
  refine (dat1 V c).arrAt_eq_of_covers 1 _ (by decide +kernel) fun t _ y => ?_
  blk_simp
  rw [after1_1]; frame_out
  pointwise [k1_pay1, sumRows]
  blk_point [iblk1, idx1 t]

end Cert.Kernel7Ideal.Value

end
-- ==== Proof.Fold7.lean ====
/- What every array of the kernel's program holds when the program ends, as a function of the arguments: the contents at each
   boundary between two pallas calls, followed from the launch to the end. -/
module

public import proofs.«01_k».proof.Proof.LossHead
public import proofs.«01_k».proof.Proof.Gen.Kernel7Ideal.Frame
public import Idealize.ShloMosaic.Lib.StableHlo.Run

@[expose] public section

set_option maxRecDepth 16384

noncomputable section

namespace Cert.Kernel7Ideal.Value

open Idealize.ShloMosaic Idealize.ShloMosaic.TcCoe Idealize.SL.Sem
open Idealize.ShloMosaic.Pipeline (Dat)
open Cert.Kernel7Ideal Cert.Kernel7Ideal.Gen Cert.Math

variable (m : (ℓ : Loc nD τ sig) → Buf (Elt Ideal) ℓ) (ρ : Dev nD → PrngReg) (c : Dev nD)

/-! ## The arguments at their literal types -/

abbrev aX : Mat 2048 2048 := m ((c : Thread nD τ).loc main_arg0)
abbrev aG : Scale := m ((c : Thread nD τ).loc main_arg1)
abbrev aT : Targets := m ((c : Thread nD τ).loc main_arg2)

/-! ## The contents at the boundaries -/

/-- The scales as a row. -/
theorem w1_v0 : W1 m ρ c (Proc.devRef .tc main_v0) = scaleRow (aG m c) := by
  refine Eq.trans (b := shapeCast S1x2048 (W0 m ρ c (Proc.devRef .tc main_arg1)) shapeCasts_S2048_S1x2048) ?_ ?_
  · after_results
    all_goals rfl
  · rw [W0_args m ρ c main_arg1 (by decide)]
    funext j
    pointwise [scaleRow]

/-- The targets of the one example. -/
theorem w1_v2 : W1 m ρ c (Proc.devRef .tc main_v2) = slab (aT m c) := by
  refine Eq.trans (b := shapeCast S2048x2048 (W0 m ρ c (Proc.devRef .tc main_arg2)) shapeCasts_S1x2048x2048_S2048x2048) ?_ ?_
  · after_results
    all_goals rfl
  · rw [W0_args m ρ c main_arg2 (by decide)]
    funext j
    pointwise [slab]

/-- The cotangent of the rows' losses. -/
theorem w1_v1 : W1 m ρ c (Proc.devRef .tc main_v1) = onesCol := by
  refine Eq.trans (b := (broadcastInDim S2048x1 ![] bcast_S_S2048x1 (constant S_ .f32 0x3F800000#32) : FVec Ideal S2048x1 .f32)) ?_ ?_
  · after_results
    all_goals rfl
  · funext j
    pointwise [onesCol]

/-- The gradient in the rows. -/
theorem w2_v3_0 : W2 m ρ c (Proc.devRef .tc main_v3_0) = lossDx (aX m c) (aG m c) (aT m c) := by
  refine (W2_arr m ρ c 4).trans ((final0_dx (V1 m ρ) c).trans ?_)
  have h0 : V1 m ρ c main_arg0 = aX m c := W1_args m ρ c main_arg0 (by decide)
  have h1 : V1 m ρ c main_v0 = scaleRow (aG m c) := w1_v0 m ρ c
  have h2 : V1 m ρ c main_v2 = slab (aT m c) := w1_v2 m ρ c
  have h3 : V1 m ρ c main_v1 = onesCol := w1_v1 m ρ c
  rw [h0, h1, h2, h3]
  all_goals rfl

/-- The gradient in the scales, as a row. -/
theorem w2_v3_1 : W2 m ρ c (Proc.devRef .tc main_v3_1) = wDg 0x45000000#32 (aX m c) (lossCt (aX m c) (scaleRow (aG m c)) (slab (aT m c)) onesCol) := by
  refine (W2_arr m ρ c 5).trans ((final0_dg (V1 m ρ) c).trans ?_)
  have h0 : V1 m ρ c main_arg0 = aX m c := W1_args m ρ c main_arg0 (by decide)
  have h1 : V1 m ρ c main_v0 = scaleRow (aG m c) := w1_v0 m ρ c
  have h2 : V1 m ρ c main_v2 = slab (aT m c) := w1_v2 m ρ c
  have h3 : V1 m ρ c main_v1 = onesCol := w1_v1 m ρ c
  rw [h0, h1, h2, h3]
  all_goals rfl

/-- Every row's loss. -/
theorem w2_v3_2 : W2 m ρ c (Proc.devRef .tc main_v3_2) = lossRows (aX m c) (scaleRow (aG m c)) (slab (aT m c)) := by
  refine (W2_arr m ρ c 6).trans ((final0_rows (V1 m ρ) c).trans ?_)
  have h0 : V1 m ρ c main_arg0 = aX m c := W1_args m ρ c main_arg0 (by decide)
  have h1 : V1 m ρ c main_v0 = scaleRow (aG m c) := w1_v0 m ρ c
  have h2 : V1 m ρ c main_v2 = slab (aT m c) := w1_v2 m ρ c
  rw [h0, h1, h2]
  all_goals rfl

/-- Their sum. -/
theorem w3_v4 : W3 m ρ c (Proc.devRef .tc main_v4) = sumRows (lossRows (aX m c) (scaleRow (aG m c)) (slab (aT m c))) := by
  refine (W3_arr m ρ c 1).trans ((final1 (V2 m ρ) c).trans ?_)
  have h0 : V2 m ρ c main_v3_2 = lossRows (aX m c) (scaleRow (aG m c)) (slab (aT m c)) := w2_v3_2 m ρ c
  rw [h0]
  all_goals rfl

/-- The loss. -/
theorem w4_v5 : W4 m ρ c (Proc.devRef .tc main_v5) = loss (aX m c) (aG m c) (aT m c) := by
  refine Eq.trans (b := shapeCast S_ (W3 m ρ c (Proc.devRef .tc main_v4)) shapeCasts_S1x1_S_) ?_ ?_
  · after_results
    all_goals rfl
  · rw [w3_v4 m ρ c]
    funext j
    pointwise [loss]

theorem w3_v3_1 : W3 m ρ c (Proc.devRef .tc main_v3_1) = wDg 0x45000000#32 (aX m c) (lossCt (aX m c) (scaleRow (aG m c)) (slab (aT m c)) onesCol) :=
  ((W3_of m ρ c main_v3_1 (by decide))).trans (w2_v3_1 m ρ c)

/-- The gradient in the scales. -/
theorem w4_v6 : W4 m ρ c (Proc.devRef .tc main_v6) = lossDg (aX m c) (aG m c) (aT m c) := by
  refine Eq.trans (b := shapeCast S2048 (W3 m ρ c (Proc.devRef .tc main_v3_1)) shapeCasts_S1x2048_S2048) ?_ ?_
  · after_results
    all_goals rfl
  · rw [w3_v3_1 m ρ c]
    funext j
    pointwise [lossDg, rowScale]

theorem w4_v3_0 : W4 m ρ c (Proc.devRef .tc main_v3_0) = lossDx (aX m c) (aG m c) (aT m c) :=
  ((W4_of m ρ c main_v3_0 (by decide)).trans ((W3_of m ρ c main_v3_0 (by decide)))).trans (w2_v3_0 m ρ c)

end Cert.Kernel7Ideal.Value

end
-- ==== Proof.Run7.lean ====
/- The kernel's program, run from any memory: every result is the mathematics of the loss, and the
   arguments end as they began. -/
module

public import proofs.«01_k».proof.Proof.Fold7

@[expose] public section

set_option maxRecDepth 16384

noncomputable section

namespace Cert.Kernel7Ideal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal Cert.Kernel7Ideal.Gen Cert.Math

variable (m : (ℓ : Loc nD τ sig) → Buf (Elt Ideal) ℓ) (ρ : Dev nD → PrngReg)

set_option backward.isDefEq.respectTransparency.types false in
/-- Every execution ends with the loss and its two gradients in the three result arrays: what the arrays hold at the last
    boundary (`Fold7`), read off the final memory. -/
theorem run_math : θ_run defs (onTc (τ := τ) (main (F := Ideal))) ⟨m, fun _ => 0, ρ⟩ (fun r => ∀ c : Dev nD,
      (r.2.mem ((c.tc : Thread nD τ).loc main_v5) = loss (aX m c) (aG m c) (aT m c)
      ∧ r.2.mem ((c.tc : Thread nD τ).loc main_v3_0) = lossDx (aX m c) (aG m c) (aT m c)
      ∧ r.2.mem ((c.tc : Thread nD τ).loc main_v6) = lossDg (aX m c) (aG m c) (aT m c))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))) :=
  Pipeline.θ_run_regions_kit_sems (pcfgs (F := Ideal)) adm (pdats m ρ) () cellOf_inj emb₁ defs₀ 𝒱₀ L lv m ρ (main (F := Ideal)) (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz c => ⟨⟨(h c _ (mem_uc main_v5 (by decide))).trans (w4_v5 m ρ c),
      (h c _ (mem_uc main_v3_0 (by decide))).trans (w4_v3_0 m ρ c),
      (h c _ (mem_uc main_v6 (by decide))).trans (w4_v6 m ρ c)⟩,
      ⟨(h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c)⟩⟩)

end Cert.Kernel7Ideal.Value

end
-- ==== Proof.Reference7.lean ====
/- What the reference of the loss computes: its operations, stage by stage, are the functions of `Cert.Math`. -/
module

public import proofs.«01_k».proof.Proof.Spec7
public import proofs.«01_k».proof.Proof.Gen.Reference7Ideal.Run

@[expose] public section

set_option maxRecDepth 16384

noncomputable section

namespace Cert.Reference7Ideal.Value

open Idealize.ShloMosaic Idealize.ShloMosaic.TcCoe Idealize.SL.Sem
open Cert.Reference7Ideal Cert.Reference7Ideal.Gen Cert.Math

/-! ## The stages, as the program spells them -/

/-- Each row's mean square plus the stabiliser, rows of 2048. -/
def msM (x : FVec Ideal S2048x2048 .f32) : FVec Ideal S2048x1 .f32 :=
  addf (Host.divf (broadcastInDim S2048x1 ![0] bcast_S2048_S2048x1_0
      (Host.reduceAdd (mulf x x) (constant S_ .f32 0x00000000#32) reducesTo_S2048x2048_S2048_d1 h_S_))
    (broadcastInDim S2048x1 ![] bcast_S_S2048x1 (constant S_ .f32 0x45000000#32)))
    (broadcastInDim S2048x1 ![] bcast_S_S2048x1 (constant S_ .f32 0x358637BD#32))

/-- Each row divided by its root mean square. -/
def hatM (x : FVec Ideal S2048x2048 .f32) : FVec Ideal S2048x2048 .f32 :=
  mulf x (broadcastInDim S2048x2048 ![0, 1] bcast_S2048x1_S2048x2048_0_1 (Host.rsqrt (msM x)))

/-- The normalised rows. -/
def normM (x : FVec Ideal S2048x2048 .f32) (g : FVec Ideal S1x2048 .f32) : FVec Ideal S2048x2048 .f32 :=
  mulf (hatM x) (broadcastInDim S2048x2048 ![0, 1] bcast_S1x2048_S2048x2048_0_1 g)

/-- The gradient of the norm's scale. -/
def dgM (x d : FVec Ideal S2048x2048 .f32) : FVec Ideal S1x2048 .f32 :=
  shapeCast S1x2048 (Host.reduceAdd (mulf (hatM x) d) (constant S_ .f32 0x00000000#32) reducesTo_S2048x2048_S2048_d0 h_S_)
    shapeCasts_S2048_S1x2048

/-- The cotangent times the scale. -/
def dHatM (g : FVec Ideal S1x2048 .f32) (d : FVec Ideal S2048x2048 .f32) : FVec Ideal S2048x2048 .f32 :=
  mulf d (broadcastInDim S2048x2048 ![0, 1] bcast_S1x2048_S2048x2048_0_1 g)

/-- The term the mean square contributes, before its two factors `x`. -/
def rowM (x : FVec Ideal S2048x2048 .f32) (g : FVec Ideal S1x2048 .f32) (d : FVec Ideal S2048x2048 .f32) : FVec Ideal S2048x2048 .f32 :=
  broadcastInDim S2048x2048 ![0] bcast_S2048_S2048x2048_0 (Host.reduceAdd
    (Host.divf (mulf (shapeCast S2048x1 (Host.reduceAdd (mulf x (dHatM g d)) (constant S_ .f32 0x00000000#32)
          reducesTo_S2048x2048_S2048_d1 h_S_) shapeCasts_S2048_S2048x1)
        (mulf (broadcastInDim S2048x1 ![] bcast_S_S2048x1 (constant S_ .f32 0xBF000000#32))
          (Host.divf (Host.rsqrt (msM x)) (msM x))))
      (broadcastInDim S2048x1 ![] bcast_S_S2048x1 (constant S_ .f32 0x45000000#32)))
    (constant S_ .f32 0x00000000#32) reducesTo_S2048x1_S2048_d1 h_S_)

/-- The gradient of the rows. -/
def dxM (x : FVec Ideal S2048x2048 .f32) (g : FVec Ideal S1x2048 .f32) (d : FVec Ideal S2048x2048 .f32) : FVec Ideal S2048x2048 .f32 :=
  addf (addf (mulf (dHatM g d) (broadcastInDim S2048x2048 ![0, 1] bcast_S2048x1_S2048x2048_0_1 (Host.rsqrt (msM x)))) (mulf x (rowM x g d))) (mulf (rowM x g d) x)

/-- The scales as a row. -/
def rowH (g : FVec Ideal S2048 .f32) : FVec Ideal S1x2048 .f32 := broadcastInDim S1x2048 ![1] bcast_S2048_S1x2048_1 g

/-- The targets of the one example. -/
def slabH (t : FVec Ideal S1x2048x2048 .f32) : FVec Ideal S2048x2048 .f32 := shapeCast S2048x2048 t shapeCasts_S1x2048x2048_S2048x2048

/-- What the normalised rows miss the targets by. -/
def errH (x : FVec Ideal S2048x2048 .f32) (g : FVec Ideal S1x2048 .f32) (t : FVec Ideal S2048x2048 .f32) : FVec Ideal S2048x2048 .f32 := subf (normM x g) t

/-- The loss. -/
def lossH (x : FVec Ideal S2048x2048 .f32) (g : FVec Ideal S1x2048 .f32) (t : FVec Ideal S2048x2048 .f32) : FVec Ideal S_ .f32 :=
  mulf (constant S_ .f32 0x3F000000#32) (Host.reduceAdd (Host.divf
      (Host.reduceAdd (mulf (errH x g t) (errH x g t)) (constant S_ .f32 0x00000000#32) reducesTo_S2048x2048_S2048_d1 h_S_)
      (broadcastInDim S2048 ![] bcast_S_S2048 (constant S_ .f32 0x45000000#32)))
    (constant S_ .f32 0x00000000#32) reducesTo_S2048_S_d0 h_S_)

/-- The cotangent of the normalised rows. -/
def ctH (x : FVec Ideal S2048x2048 .f32) (g : FVec Ideal S1x2048 .f32) (t : FVec Ideal S2048x2048 .f32) : FVec Ideal S2048x2048 .f32 :=
  mulf (broadcastInDim S2048x2048 ![0] bcast_S2048_S2048x2048_0 (Host.divf
      (broadcastInDim S2048 ![] bcast_S_S2048 (mulf (constant S_ .f32 0x3F000000#32) (constant S_ .f32 0x3F800000#32)))
      (broadcastInDim S2048 ![] bcast_S_S2048 (constant S_ .f32 0x45000000#32))))
    (mulf (broadcastInDim S2048x2048 ![] bcast_S_S2048x2048 (constant S_ .f32 0x40000000#32)) (errH x g t))

/-- A row as scales. -/
def scaleH (r : FVec Ideal S1x2048 .f32) : FVec Ideal S2048 .f32 :=
  Host.reduceAdd r (constant S_ .f32 0x00000000#32) reducesTo_S1x2048_S2048_d0 h_S_

/-! ## Each stage is the mathematics -/

theorem normM_eq (x : FVec Ideal S2048x2048 .f32) (g : FVec Ideal S1x2048 .f32) : normM x g = wRms 0x45000000#32 x g := by
  funext j
  pointwise [normM, hatM, msM, wRms, wMeanSq]

theorem dgM_eq (x d : FVec Ideal S2048x2048 .f32) : dgM x d = wDg 0x45000000#32 x d := by
  funext j
  pointwise [dgM, hatM, msM, wDg, wMeanSq]

theorem dxM_eq (x : FVec Ideal S2048x2048 .f32) (g : FVec Ideal S1x2048 .f32) (d : FVec Ideal S2048x2048 .f32) : dxM x g d = wDx 0x45000000#32 x g d := by
  funext j
  pointwise [dxM, dHatM, rowM, msM, wDx, wRow, wMeanSq, Fin.sum_univ_one]

theorem rowH_eq (g : FVec Ideal S2048 .f32) : rowH g = scaleRow g := by
  funext j
  pointwise [rowH, scaleRow]

theorem slabH_eq (t : FVec Ideal S1x2048x2048 .f32) : slabH t = slab t := by
  funext j
  pointwise [slabH, slab]

theorem lossH_eq (x : FVec Ideal S2048x2048 .f32) (g : FVec Ideal S1x2048 .f32) (t : FVec Ideal S2048x2048 .f32) : lossH x g t = fun _ => sumRows (lossRows x g t) (ix2 0 0) := by
  funext j
  refine Eq.trans (b := Ideal.ofBits .f32 0x3F000000#32 * ∑ r : Fin 2048, Ideal.div (∑ l : Fin 2048,
      lossErr x g t (ix2 r l) * lossErr x g t (ix2 r l)) (Ideal.ofBits .f32 0x45000000#32)) ?_ (half_mul_sum _)
  pointwise [lossH, errH, normM, hatM, msM, lossErr, wRms, wMeanSq]

theorem ctH_eq (x : FVec Ideal S2048x2048 .f32) (g : FVec Ideal S1x2048 .f32) (t : FVec Ideal S2048x2048 .f32) : ctH x g t = lossCt x g t onesCol := by
  funext j
  refine Eq.trans (b := lossWeight 1 * (Ideal.ofBits .f32 0x40000000#32 * lossErr x g t j)) ?_ (mul_two_mul _ _)
  pointwise [ctH, errH, normM, hatM, msM, lossErr, wRms, wMeanSq, lossWeight]

theorem scaleH_eq (r : FVec Ideal S1x2048 .f32) : scaleH r = rowScale r := by
  funext j
  pointwise [scaleH, rowScale, Fin.sum_univ_one]

/-! ## The reference's results -/

variable (m : (ℓ : Loc nD τ sig) → Buf (Elt Ideal) ℓ) (c : Dev nD)

abbrev aX : Mat 2048 2048 := m ((c : Thread nD τ).loc main_arg0)
abbrev aG : Scale := m ((c : Thread nD τ).loc main_arg1)
abbrev aT : Targets := m ((c : Thread nD τ).loc main_arg2)

/-- The cotangent of the normalised rows, in the program's spelling. -/
abbrev ctT : FVec Ideal S2048x2048 .f32 := ctH (aX m c) (rowH (aG m c)) (slabH (aT m c))

theorem ctT_eq : ctT m c = lossCt (aX m c) (scaleRow (aG m c)) (slab (aT m c)) onesCol := by
  unfold ctT; rw [ctH_eq, rowH_eq, slabH_eq]

theorem loss_eq : lossH (aX m c) (rowH (aG m c)) (slabH (aT m c)) =
    loss (aX m c) (aG m c) (aT m c) := by
  rw [lossH_eq, rowH_eq, slabH_eq]; rfl

theorem dx_eq : dxM (aX m c) (rowH (aG m c)) (ctT m c) =
    lossDx (aX m c) (aG m c) (aT m c) := by
  rw [dxM_eq, rowH_eq, ctT_eq]; rfl

theorem dg_eq : scaleH (dgM (aX m c) (ctT m c)) =
    lossDg (aX m c) (aG m c) (aT m c) := by
  rw [scaleH_eq, dgM_eq, ctT_eq]; rfl

/-- The reference's run: every result is the loss, the arguments end as they began. -/
theorem run_math (ρ : Dev nD → PrngReg) :
    θ_run defs (onTc (τ := τ) (main (F := Ideal))) ⟨m, fun _ => 0, ρ⟩ fun r => ∀ c : Dev nD,
      (r.2.mem ((c.tc : Thread nD τ).loc main_v25) = loss (aX m c) (aG m c) (aT m c)
      ∧ r.2.mem ((c.tc : Thread nD τ).loc main_v51) = lossDx (aX m c) (aG m c) (aT m c)
      ∧ r.2.mem ((c.tc : Thread nD τ).loc main_v37) = lossDg (aX m c) (aG m c) (aT m c))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => by
    obtain ⟨h0, h1, h2, ha⟩ := h c
    have e0 := (h0.trans (show _ = lossH (aX m c) (rowH (aG m c)) (slabH (aT m c)) from rfl)).trans (loss_eq m c)
    have e1 := (h1.trans (show _ = dxM (aX m c) (rowH (aG m c)) (ctT m c) from rfl)).trans (dx_eq m c)
    have e2 := (h2.trans (show _ = scaleH (dgM (aX m c) (ctT m c)) from rfl)).trans (dg_eq m c)
    exact ⟨⟨e0, e1, e2⟩, ha⟩) (run m ρ)

end Cert.Reference7Ideal.Value

end
-- ==== Proof.Claims7.lean ====
/- The claims that speak of the reference of the loss: its frame, and the equality of the kernel's results with it. -/
module

public import proofs.«01_k».proof.Defs
public import proofs.«01_k».proof.Proof.Run7
public import proofs.«01_k».proof.Proof.Reference7
public import Idealize.ShloMosaic.Lib.Claim

@[expose] public section

set_option maxRecDepth 16384

noncomputable section

namespace Cert.Proof.Loss

open Idealize.ShloMosaic Idealize.SL.Sem Cert.Math
open Cert.Kernel7Ideal.Value (aX aG aT)

/-- The reference's frame. -/
theorem frame_ri : Cert.quiescent_Reference7Ideal := fun m ρ _ =>
  (θ_run Cert.Reference7Ideal.defs _ _).mono (fun r h => ⟨fun c => (h c).2, sem_eq_zero_of_no_sems (by decide) r.2⟩)
    (Cert.Reference7Ideal.Value.run_math m ρ)

/-- The kernel's results are the reference's: both are the same mathematics of the same arguments. -/
theorem algebraic : Cert.algebraic_Kernel7Ideal_Reference7Ideal := by
  intro m g m' g' _ h
  refine ⟨fun c => loss (aX m c) (aG m c) (aT m c),
    fun c => lossDx (aX m c) (aG m c) (aT m c),
    fun c => lossDg (aX m c) (aG m c) (aT m c),
    (θ_run _ _ _).mono (fun r hr c => ?_) (Cert.Kernel7Ideal.Value.run_math m g),
    (θ_run _ _ _).mono (fun r hr c => ?_) (Cert.Reference7Ideal.Value.run_math m' g')⟩
  · obtain ⟨⟨h0, h1, h2⟩, ha⟩ := hr c
    exact ⟨h0, h1, h2, ha⟩
  · obtain ⟨⟨h0, h1, h2⟩, ha⟩ := hr c
    obtain ⟨e0, e1, e2⟩ := h c
    have kaX : Cert.Reference7Ideal.Value.aX m' c = aX m c := e0
    have kaG : Cert.Reference7Ideal.Value.aG m' c = aG m c := e1
    have kaT : Cert.Reference7Ideal.Value.aT m' c = aT m c := e2
    rw [kaX, kaG, kaT] at h0
    rw [kaX, kaG, kaT] at h1
    rw [kaX, kaG, kaT] at h2
    exact ⟨h0, h1, h2, ha⟩

end Cert.Proof.Loss

end
-- ==== Proof.Spec8.lean ====
/- The mathematics of the activation behind the state-space scan as plain functions of arrays of extended reals: the scan's
   rows and the skipped rows, each column with its own weight, are added and put through the `tanh` form of the Gaussian error
   linear unit; and the gradients. Both programs are compared with these. -/
module

public import proofs.«01_k».proof.Proof.Spec6

@[expose] public section

noncomputable section

namespace Cert.Math

open Idealize.ShloMosaic

/-- The weights of the skip, 16 for each of 32 groups, and the same as a row. -/
abbrev Skip : Type := (⟨2, ![32, 16]⟩ : Shape).Idx → EReal
def skipRow (d : Skip) : Mat 1 512 := fun j =>
  d (ix2 (⟨(j 1).val / 16, by have := (j 1).isLt; simp at this; omega⟩ : Fin 32)
    (⟨(j 1).val % 16, Nat.mod_lt _ (by norm_num)⟩ : Fin 16))

/-- The `tanh` inside the unit. -/
def geluTanh (x : EReal) : EReal :=
  Ideal.tanh (Ideal.ofBits .f32 0x3F4C422A#32 * (x + Ideal.ofBits .f32 0x3D372713#32 * (x * (x * x))))

/-- The unit. -/
def gelu (x : EReal) : EReal := x * (Ideal.ofBits .f32 0x3F000000#32 * (1 + geluTanh x))

/-- The cotangent `d` through the `tanh` to its argument. -/
def geluIn (x d : EReal) : EReal :=
  Ideal.ofBits .f32 0x3F4C422A#32
    * (Ideal.ofBits .f32 0x3F000000#32 * (x * d) * ((1 + geluTanh x) * (1 - geluTanh x)))

/-- The cotangent `d` through the unit. -/
def geluGrad (x d : EReal) : EReal :=
  d * (Ideal.ofBits .f32 0x3F000000#32 * (1 + geluTanh x)) + geluIn x d
    + Ideal.ofBits .f32 0x3D372713#32 * geluIn x d * (Ideal.ofBits .f32 0x40400000#32 * (x * x))

/-- What the unit is applied to. -/
def actIn (Y U : Mat 2048 512) (D : Mat 1 512) : Mat 2048 512 := fun j => Y j + D (ix2 0 (j 1)) * U j

/-- The activated rows. -/
def skipAct (Y U : Mat 2048 512) (D : Mat 1 512) : Mat 2048 512 := fun j => gelu (actIn Y U D j)

/-- The gradient in the scan's rows, `C` the cotangent of the activated rows. -/
def actDy (Y U : Mat 2048 512) (D : Mat 1 512) (C : Mat 2048 512) : Mat 2048 512 := fun j => geluGrad (actIn Y U D j) (C j)

/-- The gradient in the skipped rows. -/
def actDu (Y U : Mat 2048 512) (D : Mat 1 512) (C : Mat 2048 512) : Mat 2048 512 := fun j =>
  D (ix2 0 (j 1)) * actDy Y U D C j

/-- The gradient in the weights of the skip, before the sum over the rows. -/
def actDd (Y U : Mat 2048 512) (D : Mat 1 512) (C : Mat 2048 512) : Mat 2048 512 := fun j => actDy Y U D C j * U j

end Cert.Math

end
-- ==== Proof.Act.lean ====
/- What the activation behind the scan and its gradient leave in their output arrays; the gradient in the weights of the skip is
   added up over the grid points. -/
module

public import proofs.«01_k».proof.Proof.Spec8
public import proofs.«01_k».proof.Proof.Gen.Kernel8Ideal.Frame
public import Idealize.ShloMosaic.Lib.Pipeline.ValueKit
public import Idealize.ShloMosaic.Lib.Pointwise

@[expose] public section

set_option maxRecDepth 16384

noncomputable section

namespace Cert.Kernel8Ideal.Value

open Idealize.ShloMosaic Idealize.ShloMosaic.TcCoe Idealize.SL.Sem
open Idealize.ShloMosaic.Pipeline (Dat)
open Cert.Kernel8Ideal Cert.Kernel8Ideal.Gen Cert.Math

variable (V : (c : Dev nD) → (b : Ref sig .tc) → Buf (Elt Ideal) ((c : Thread nD τ).loc b)) (c : Dev nD)

/-- The blocks region 0 reads and writes at each grid point. -/
theorem idx0 : ∀ t : Fin cfg0.N, win0_0.index t = ![t.val, 0] ∧ win0_1.index t = ![t.val, 0] ∧ win0_2.index t = ![0, 0] ∧ win0_3.index t = ![t.val, 0] :=
  (by decide +kernel : ∀ t : Fin grid0.N, _)

/-- The activated rows. -/
theorem final0 : (dat0 V c).arrAt 3 cfg0.N = skipAct (V c main_arg0) (V c main_arg1) (V c main_v0) := by
  refine (dat0 V c).arrAt_eq_of_covers 3 _ (by decide +kernel) fun t _ y => ?_
  blk_simp
  rw [after0_3]; frame_out
  pointwise [k0_pay1, skipAct, gelu, geluTanh, actIn]
  blk_point [iblk0, idx0 t]

/-- The blocks region 1 reads and writes at each grid point. -/
theorem idx1 : ∀ t : Fin cfg1.N, win1_0.index t = ![t.val, 0] ∧ win1_1.index t = ![t.val, 0] ∧ win1_2.index t = ![0, 0] ∧ win1_3.index t = ![t.val, 0] ∧ win1_4.index t = ![t.val, 0] ∧ win1_5.index t = ![t.val, 0] ∧ win1_6.index t = ![0, 0] :=
  (by decide +kernel : ∀ t : Fin grid1.N, _)

/-- The cotangent through the unit, on one grid point's rows. -/
theorem k1_grad (y u : FVec Ideal S256x512 .f32) (d : FVec Ideal S1x512 .f32) (e : FVec Ideal S256x512 .f32) (j) :
    k1_pay6 (F := Ideal) y u d e j = geluGrad (y j + d (ix2 0 (j 1)) * u j) (e j) := by
  pointwise [k1_pay6, k1_pay5, geluGrad, geluIn, geluTanh]

/-- The gradient in the scan's rows. -/
theorem final1_dy : (dat1 V c).arrAt 4 cfg1.N = actDy (V c main_arg0) (V c main_arg1) (V c main_v0) (V c main_arg3) := by
  refine (dat1 V c).arrAt_eq_of_covers 4 _ (by decide +kernel) fun t _ y => ?_
  blk_simp
  rw [after1_4]
  have hstep : (outsAt1 V c t.val t.isLt).1 = k1_pay2 (k1_pay6 (iblk1 V c 0 t) (iblk1 V c 1 t) (iblk1 V c 2 t) (iblk1 V c 3 t)) := by
    by_cases h : t.val % 8 = 0
    · rw [outsAt1_A V c t h]; frame_out
    · rw [outsAt1_B V c t h]; frame_out
  rw [hstep]
  pointwise [k1_pay2, k1_grad, actDy, actIn]
  blk_point [iblk1, idx1 t]

/-- The gradient in the skipped rows. -/
theorem final1_du : (dat1 V c).arrAt 5 cfg1.N = actDu (V c main_arg0) (V c main_arg1) (V c main_v0) (V c main_arg3) := by
  refine (dat1 V c).arrAt_eq_of_covers 5 _ (by decide +kernel) fun t _ y => ?_
  blk_simp
  rw [after1_5]
  have hstep : (outsAt1 V c t.val t.isLt).2.1 = k1_pay1 (k1_pay6 (iblk1 V c 0 t) (iblk1 V c 1 t) (iblk1 V c 2 t) (iblk1 V c 3 t)) (k1_pay7 (iblk1 V c 2 t)) := by
    by_cases h : t.val % 8 = 0
    · rw [outsAt1_A V c t h]; frame_out
    · rw [outsAt1_B V c t h]; frame_out
  rw [hstep]
  pointwise [k1_pay1, k1_pay7, k1_pay5, k1_grad, actDu, actDy, actIn]
  blk_point [iblk1, idx1 t]

/-- The accumulator starts at zero. -/
theorem k1_zero (j) : k1_pay3 (F := Ideal) j = 0 := by pointwise [k1_pay3]

/-- One grid point adds the sum over its own rows. -/
theorem k1_add (u e : FVec Ideal S256x512 .f32) (acc : FVec Ideal S1x512 .f32) (j) :
    k1_pay4 u e acc j = acc j + ∑ r : Fin 256, e (ix2 r (j 1)) * u (ix2 r (j 1)) := by
  pointwise [k1_pay4]

/-- The gradient in the weights of the skip, as a row. -/
theorem final1_dd : (dat1 V c).arrAt 6 cfg1.N = colSum (actDd (V c main_arg0) (V c main_arg1) (V c main_v0) (V c main_arg3)) := by
  refine (dat1 V c).arrAt_eq_of_after_last 6 t1_7 (by decide +kernel) _ fun j => ?_
  blk_simp
  rw [after1_6, Pipeline.eq_sum_fin_of_reset_step_apply_last (fun n h => (outsAt1 V c n h).2.2) 8 (fun _ => 0) _
    (fun t h j => by rw [outsAt1_A V c t h]; frame_out; rw [k1_add, k1_zero])
    (fun t h j => by rw [outsAt1_B V c t h]; frame_out; rw [k1_add])
    (le_of_eq N_1) t1_7 rfl j, zero_add, colSum]
  refine Fin.sum_mul_add_congr fun s k hl => ?_
  rw [k1_grad]
  pointwise [actDd, actDy, actIn]
  blk_point [iblk1, idx1 s]

end Cert.Kernel8Ideal.Value

end
-- ==== Proof.Fold8.lean ====
/- What every array of the kernel's program holds when the program ends, as a function of the arguments: the contents at each
   boundary between two pallas calls, followed from the launch to the end. -/
module

public import proofs.«01_k».proof.Proof.Act
public import proofs.«01_k».proof.Proof.Gen.Kernel8Ideal.Frame
public import Idealize.ShloMosaic.Lib.StableHlo.Run

@[expose] public section

set_option maxRecDepth 16384

noncomputable section

namespace Cert.Kernel8Ideal.Value

open Idealize.ShloMosaic Idealize.ShloMosaic.TcCoe Idealize.SL.Sem
open Idealize.ShloMosaic.Pipeline (Dat)
open Cert.Kernel8Ideal Cert.Kernel8Ideal.Gen Cert.Math

variable (m : (ℓ : Loc nD τ sig) → Buf (Elt Ideal) ℓ) (ρ : Dev nD → PrngReg) (c : Dev nD)

/-! ## The arguments at their literal types -/

abbrev aY : Mat 2048 512 := m ((c : Thread nD τ).loc main_arg0)
abbrev aU : Mat 2048 512 := m ((c : Thread nD τ).loc main_arg1)
abbrev aD : Skip := m ((c : Thread nD τ).loc main_arg2)
abbrev aC : Mat 2048 512 := m ((c : Thread nD τ).loc main_arg3)

/-! ## The contents at the boundaries -/

/-- The weights of the skip as a row. -/
theorem w1_v0 : W1 m ρ c (Proc.devRef .tc main_v0) = skipRow (aD m c) := by
  refine Eq.trans (b := shapeCast S1x512 (W0 m ρ c (Proc.devRef .tc main_arg2)) shapeCasts_S32x16_S1x512) ?_ ?_
  · after_results
    all_goals rfl
  · rw [W0_args m ρ c main_arg2 (by decide)]
    funext j
    pointwise [skipRow]

/-- The activated rows. -/
theorem w2_v1 : W2 m ρ c (Proc.devRef .tc main_v1) = skipAct (aY m c) (aU m c) (skipRow (aD m c)) := by
  refine (W2_arr m ρ c 3).trans ((final0 (V1 m ρ) c).trans ?_)
  have h0 : V1 m ρ c main_arg0 = aY m c := W1_args m ρ c main_arg0 (by decide)
  have h1 : V1 m ρ c main_arg1 = aU m c := W1_args m ρ c main_arg1 (by decide)
  have h2 : V1 m ρ c main_v0 = skipRow (aD m c) := w1_v0 m ρ c
  rw [h0, h1, h2]
  all_goals rfl

theorem w2_v0 : W2 m ρ c (Proc.devRef .tc main_v0) = skipRow (aD m c) :=
  ((W2_of m ρ c main_v0 (by decide))).trans (w1_v0 m ρ c)

/-- The gradient in the scan's rows. -/
theorem w3_v2_0 : W3 m ρ c (Proc.devRef .tc main_v2_0) = actDy (aY m c) (aU m c) (skipRow (aD m c)) (aC m c) := by
  refine (W3_arr m ρ c 4).trans ((final1_dy (V2 m ρ) c).trans ?_)
  have h0 : V2 m ρ c main_arg0 = aY m c := W2_args m ρ c main_arg0 (by decide)
  have h1 : V2 m ρ c main_arg1 = aU m c := W2_args m ρ c main_arg1 (by decide)
  have h2 : V2 m ρ c main_v0 = skipRow (aD m c) := w2_v0 m ρ c
  have h3 : V2 m ρ c main_arg3 = aC m c := W2_args m ρ c main_arg3 (by decide)
  rw [h0, h1, h2, h3]
  all_goals rfl

/-- The gradient in the skipped rows. -/
theorem w3_v2_1 : W3 m ρ c (Proc.devRef .tc main_v2_1) = actDu (aY m c) (aU m c) (skipRow (aD m c)) (aC m c) := by
  refine (W3_arr m ρ c 5).trans ((final1_du (V2 m ρ) c).trans ?_)
  have h0 : V2 m ρ c main_arg0 = aY m c := W2_args m ρ c main_arg0 (by decide)
  have h1 : V2 m ρ c main_arg1 = aU m c := W2_args m ρ c main_arg1 (by decide)
  have h2 : V2 m ρ c main_v0 = skipRow (aD m c) := w2_v0 m ρ c
  have h3 : V2 m ρ c main_arg3 = aC m c := W2_args m ρ c main_arg3 (by decide)
  rw [h0, h1, h2, h3]
  all_goals rfl

/-- The gradient in the weights of the skip, as a row. -/
theorem w3_v2_2 : W3 m ρ c (Proc.devRef .tc main_v2_2) = colSum (actDd (aY m c) (aU m c) (skipRow (aD m c)) (aC m c)) := by
  refine (W3_arr m ρ c 6).trans ((final1_dd (V2 m ρ) c).trans ?_)
  have h0 : V2 m ρ c main_arg0 = aY m c := W2_args m ρ c main_arg0 (by decide)
  have h1 : V2 m ρ c main_arg1 = aU m c := W2_args m ρ c main_arg1 (by decide)
  have h2 : V2 m ρ c main_v0 = skipRow (aD m c) := w2_v0 m ρ c
  have h3 : V2 m ρ c main_arg3 = aC m c := W2_args m ρ c main_arg3 (by decide)
  rw [h0, h1, h2, h3]
  all_goals rfl

theorem w3_v1 : W3 m ρ c (Proc.devRef .tc main_v1) = skipAct (aY m c) (aU m c) (skipRow (aD m c)) :=
  ((W3_of m ρ c main_v1 (by decide))).trans (w2_v1 m ρ c)

/-- The same in the results' format. -/
theorem w4_v3 : W4 m ρ c (Proc.devRef .tc main_v3) = skipAct (aY m c) (aU m c) (skipRow (aD m c)) := by
  refine Eq.trans (b := extf .f32 (W3 m ρ c (Proc.devRef .tc main_v1)) bitsLt_bf16_f32) ?_ ?_
  · after_results
    all_goals rfl
  · rw [w3_v1 m ρ c]
    funext j
    pointwise []

/-- The same in the results' format. -/
theorem w4_v4 : W4 m ρ c (Proc.devRef .tc main_v4) = actDy (aY m c) (aU m c) (skipRow (aD m c)) (aC m c) := by
  refine Eq.trans (b := extf .f32 (W3 m ρ c (Proc.devRef .tc main_v2_0)) bitsLt_bf16_f32) ?_ ?_
  · after_results
    all_goals rfl
  · rw [w3_v2_0 m ρ c]
    funext j
    pointwise []

theorem w4_v2_1 : W4 m ρ c (Proc.devRef .tc main_v2_1) = actDu (aY m c) (aU m c) (skipRow (aD m c)) (aC m c) :=
  ((W4_of m ρ c main_v2_1 (by decide))).trans (w3_v2_1 m ρ c)

theorem w4_v2_2 : W4 m ρ c (Proc.devRef .tc main_v2_2) = colSum (actDd (aY m c) (aU m c) (skipRow (aD m c)) (aC m c)) :=
  ((W4_of m ρ c main_v2_2 (by decide))).trans (w3_v2_2 m ρ c)

end Cert.Kernel8Ideal.Value

end
-- ==== Proof.Run8.lean ====
/- The kernel's program, run from any memory: every result is the mathematics of the activation, and the
   arguments end as they began. -/
module

public import proofs.«01_k».proof.Proof.Fold8

@[expose] public section

set_option maxRecDepth 16384

noncomputable section

namespace Cert.Kernel8Ideal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel8Ideal Cert.Kernel8Ideal.Gen Cert.Math

variable (m : (ℓ : Loc nD τ sig) → Buf (Elt Ideal) ℓ) (ρ : Dev nD → PrngReg)

set_option backward.isDefEq.respectTransparency.types false in
/-- Every execution ends with the activated rows and the gradients in the four result arrays: what the arrays hold at the last
    boundary (`Fold8`), read off the final memory. -/
theorem run_math : θ_run defs (onTc (τ := τ) (main (F := Ideal))) ⟨m, fun _ => 0, ρ⟩ (fun r => ∀ c : Dev nD,
      (r.2.mem ((c.tc : Thread nD τ).loc main_v3) = skipAct (aY m c) (aU m c) (skipRow (aD m c))
      ∧ r.2.mem ((c.tc : Thread nD τ).loc main_v4) = actDy (aY m c) (aU m c) (skipRow (aD m c)) (aC m c)
      ∧ r.2.mem ((c.tc : Thread nD τ).loc main_v2_1) = actDu (aY m c) (aU m c) (skipRow (aD m c)) (aC m c)
      ∧ r.2.mem ((c.tc : Thread nD τ).loc main_v2_2) = colSum (actDd (aY m c) (aU m c) (skipRow (aD m c)) (aC m c)))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))) :=
  Pipeline.θ_run_regions_kit_sems (pcfgs (F := Ideal)) adm (pdats m ρ) () cellOf_inj emb₁ defs₀ 𝒱₀ L lv m ρ (main (F := Ideal)) (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz c => ⟨⟨(h c _ (mem_uc main_v3 (by decide))).trans (w4_v3 m ρ c),
      (h c _ (mem_uc main_v4 (by decide))).trans (w4_v4 m ρ c),
      (h c _ (mem_uc main_v2_1 (by decide))).trans (w4_v2_1 m ρ c),
      (h c _ (mem_uc main_v2_2 (by decide))).trans (w4_v2_2 m ρ c)⟩,
      ⟨(h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c)⟩⟩)

end Cert.Kernel8Ideal.Value

end
-- ==== Proof.Reference8.lean ====
/- What the reference of the activation computes: its operations, stage by stage, are the functions of `Cert.Math`. -/
module

public import proofs.«01_k».proof.Proof.Spec8
public import proofs.«01_k».proof.Proof.Gen.Reference8Ideal.Run

@[expose] public section

set_option maxRecDepth 16384

noncomputable section

namespace Cert.Reference8Ideal.Value

open Idealize.ShloMosaic Idealize.ShloMosaic.TcCoe Idealize.SL.Sem
open Cert.Reference8Ideal Cert.Reference8Ideal.Gen Cert.Math

/-! ## The stages, as the program spells them -/

/-- The weights of the skip as a row. -/
def rowH (d : FVec Ideal S32x16 .f32) : FVec Ideal S1x512 .f32 :=
  broadcastInDim S1x512 ![1] bcast_S512_S1x512_1 (shapeCast S512 d shapeCasts_S32x16_S512)

/-- The weights on every row. -/
def skipH (d : FVec Ideal S32x16 .f32) : FVec Ideal S2048x512 .f32 := broadcastInDim S2048x512 ![0, 1] bcast_S1x512_S2048x512_0_1 (rowH d)

/-- What the unit is applied to. -/
def inH (y u : FVec Ideal S2048x512 .f32) (d : FVec Ideal S32x16 .f32) : FVec Ideal S2048x512 .f32 := addf y (mulf (skipH d) u)

/-- The `tanh` inside the unit. -/
def tanhH (x : FVec Ideal S2048x512 .f32) : FVec Ideal S2048x512 .f32 :=
  Host.tanh (mulf (broadcastInDim S2048x512 ![] bcast_S_S2048x512 (constant S_ .f32 0x3F4C422A#32))
    (addf x (mulf (broadcastInDim S2048x512 ![] bcast_S_S2048x512 (constant S_ .f32 0x3D372713#32)) (mulf (mulf x x) x))))

/-- The factor of the unit. -/
def halfH (x : FVec Ideal S2048x512 .f32) : FVec Ideal S2048x512 .f32 := mulf (broadcastInDim S2048x512 ![] bcast_S_S2048x512 (constant S_ .f32 0x3F000000#32)) (addf (broadcastInDim S2048x512 ![] bcast_S_S2048x512 (constant S_ .f32 0x3F800000#32)) (tanhH x))

/-- The unit. -/
def geluH (x : FVec Ideal S2048x512 .f32) : FVec Ideal S2048x512 .f32 := mulf x (halfH x)

/-- The cotangent through the `tanh` to its argument. -/
def throughH (x e : FVec Ideal S2048x512 .f32) : FVec Ideal S2048x512 .f32 :=
  mulf (broadcastInDim S2048x512 ![] bcast_S_S2048x512 (constant S_ .f32 0x3F4C422A#32)) (mulf
    (mulf (broadcastInDim S2048x512 ![] bcast_S_S2048x512 (constant S_ .f32 0x3F000000#32)) (mulf x e))
    (mulf (addf (broadcastInDim S2048x512 ![] bcast_S_S2048x512 (constant S_ .f32 0x3F800000#32)) (tanhH x)) (subf (broadcastInDim S2048x512 ![] bcast_S_S2048x512 (constant S_ .f32 0x3F800000#32)) (tanhH x))))

/-- The cotangent through the unit. -/
def gradH (x e : FVec Ideal S2048x512 .f32) : FVec Ideal S2048x512 .f32 :=
  addf (addf (mulf e (halfH x)) (throughH x e)) (mulf
    (mulf (broadcastInDim S2048x512 ![] bcast_S_S2048x512 (constant S_ .f32 0x3D372713#32)) (throughH x e))
    (mulf (broadcastInDim S2048x512 ![] bcast_S_S2048x512 (constant S_ .f32 0x40400000#32)) (mulf x x)))

/-- The gradient in the weights, from that in the scan's rows. -/
def ddH (g u : FVec Ideal S2048x512 .f32) : FVec Ideal S1x512 .f32 :=
  shapeCast S1x512 (shapeCast S32x16 (Host.reduceAdd (shapeCast S1x512
      (Host.reduceAdd (mulf g u) (constant S_ .f32 0x00000000#32) reducesTo_S2048x512_S512_d0 h_S_) shapeCasts_S512_S1x512)
    (constant S_ .f32 0x00000000#32) reducesTo_S1x512_S512_d0 h_S_) shapeCasts_S512_S32x16) shapeCasts_S32x16_S1x512

/-! ## Each stage is the mathematics -/

theorem skipH_eq (d : FVec Ideal S32x16 .f32) : skipH d = fun j => skipRow d (ix2 0 (j 1)) := by
  funext j
  pointwise [skipH, rowH, skipRow]

theorem inH_eq (y u : FVec Ideal S2048x512 .f32) (d : FVec Ideal S32x16 .f32) : inH y u d = actIn y u (skipRow d) := by
  rw [inH, skipH_eq]
  funext j
  pointwise [actIn]

theorem tanhH_eq (x : FVec Ideal S2048x512 .f32) : tanhH x = fun j => geluTanh (x j) := by
  funext j
  refine Eq.trans (b := Ideal.tanh (Ideal.ofBits .f32 0x3F4C422A#32
      * (x j + Ideal.ofBits .f32 0x3D372713#32 * (x j * x j * x j)))) ?_ ?_
  · pointwise [tanhH]
  · rw [mul_assoc (x j)]; rfl

theorem geluH_eq (x : FVec Ideal S2048x512 .f32) : geluH x = fun j => gelu (x j) := by
  rw [geluH, halfH, tanhH_eq]
  funext j
  pointwise [gelu]

theorem throughH_eq (x e : FVec Ideal S2048x512 .f32) : throughH x e = fun j => geluIn (x j) (e j) := by
  rw [throughH, tanhH_eq]
  funext j
  pointwise [geluIn]

theorem gradH_eq (x e : FVec Ideal S2048x512 .f32) : gradH x e = fun j => geluGrad (x j) (e j) := by
  rw [gradH, throughH_eq, halfH, tanhH_eq]
  funext j
  pointwise [geluGrad]

theorem ddH_eq (g u : FVec Ideal S2048x512 .f32) : ddH g u = colSum fun j => g j * u j := by
  funext j
  pointwise [ddH, colSum, Fin.sum_univ_one]

/-! ## The reference's results -/

variable (m : (ℓ : Loc nD τ sig) → Buf (Elt Ideal) ℓ) (c : Dev nD)

abbrev aY : Mat 2048 512 := m ((c : Thread nD τ).loc main_arg0)
abbrev aU : Mat 2048 512 := m ((c : Thread nD τ).loc main_arg1)
abbrev aD : Skip := m ((c : Thread nD τ).loc main_arg2)
abbrev aC : Mat 2048 512 := m ((c : Thread nD τ).loc main_arg3)

/-- The gradient in the scan's rows, in the program's spelling. -/
abbrev gT : FVec Ideal S2048x512 .f32 := gradH (inH (aY m c) (aU m c) (aD m c)) (aC m c)

theorem gT_eq : gT m c = actDy (aY m c) (aU m c) (skipRow (aD m c)) (aC m c) := by
  unfold gT; rw [gradH_eq, inH_eq]; rfl

theorem act_eq : geluH (inH (aY m c) (aU m c) (aD m c)) =
    skipAct (aY m c) (aU m c) (skipRow (aD m c)) := by
  rw [geluH_eq, inH_eq]; rfl

theorem dy_eq : gT m c =
    actDy (aY m c) (aU m c) (skipRow (aD m c)) (aC m c) := by
  rw [gT_eq]

theorem du_eq : mulf (skipH (aD m c)) (gT m c) =
    actDu (aY m c) (aU m c) (skipRow (aD m c)) (aC m c) := by
  rw [skipH_eq, gT_eq]; rfl

theorem dd_eq : ddH (gT m c) (aU m c) =
    colSum (actDd (aY m c) (aU m c) (skipRow (aD m c)) (aC m c)) := by
  rw [ddH_eq, gT_eq]; rfl

/-- The reference's run: every result is the activation, the arguments end as they began. -/
theorem run_math (ρ : Dev nD → PrngReg) :
    θ_run defs (onTc (τ := τ) (main (F := Ideal))) ⟨m, fun _ => 0, ρ⟩ fun r => ∀ c : Dev nD,
      (r.2.mem ((c.tc : Thread nD τ).loc main_v25) = skipAct (aY m c) (aU m c) (skipRow (aD m c))
      ∧ r.2.mem ((c.tc : Thread nD τ).loc main_v37) = actDy (aY m c) (aU m c) (skipRow (aD m c)) (aC m c)
      ∧ r.2.mem ((c.tc : Thread nD τ).loc main_v39) = actDu (aY m c) (aU m c) (skipRow (aD m c)) (aC m c)
      ∧ r.2.mem ((c.tc : Thread nD τ).loc main_v45) = colSum (actDd (aY m c) (aU m c) (skipRow (aD m c)) (aC m c)))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => by
    obtain ⟨h0, h1, h2, h3, ha⟩ := h c
    have e0 := (h0.trans (show _ = geluH (inH (aY m c) (aU m c) (aD m c)) from rfl)).trans (act_eq m c)
    have e1 := (h1.trans (show _ = gT m c from rfl)).trans (dy_eq m c)
    have e2 := (h2.trans (show _ = mulf (skipH (aD m c)) (gT m c) from rfl)).trans (du_eq m c)
    have e3 := (h3.trans (show _ = ddH (gT m c) (aU m c) from rfl)).trans (dd_eq m c)
    exact ⟨⟨e0, e1, e2, e3⟩, ha⟩) (run m ρ)

end Cert.Reference8Ideal.Value

end
-- ==== Proof.Claims8.lean ====
/- The claims that speak of the reference of the activation: its frame, and the equality of the kernel's results with it. -/
module

public import proofs.«01_k».proof.Defs
public import proofs.«01_k».proof.Proof.Run8
public import proofs.«01_k».proof.Proof.Reference8
public import Idealize.ShloMosaic.Lib.Claim

@[expose] public section

set_option maxRecDepth 16384

noncomputable section

namespace Cert.Proof.Activation

open Idealize.ShloMosaic Idealize.SL.Sem Cert.Math
open Cert.Kernel8Ideal.Value (aY aU aD aC)

/-- The reference's frame. -/
theorem frame_ri : Cert.quiescent_Reference8Ideal := fun m ρ _ =>
  (θ_run Cert.Reference8Ideal.defs _ _).mono (fun r h => ⟨fun c => (h c).2, sem_eq_zero_of_no_sems (by decide) r.2⟩)
    (Cert.Reference8Ideal.Value.run_math m ρ)

/-- The kernel's results are the reference's: both are the same mathematics of the same arguments. -/
theorem algebraic : Cert.algebraic_Kernel8Ideal_Reference8Ideal := by
  intro m g m' g' _ h
  refine ⟨fun c => skipAct (aY m c) (aU m c) (skipRow (aD m c)),
    fun c => actDy (aY m c) (aU m c) (skipRow (aD m c)) (aC m c),
    fun c => actDu (aY m c) (aU m c) (skipRow (aD m c)) (aC m c),
    fun c => colSum (actDd (aY m c) (aU m c) (skipRow (aD m c)) (aC m c)),
    (θ_run _ _ _).mono (fun r hr c => ?_) (Cert.Kernel8Ideal.Value.run_math m g),
    (θ_run _ _ _).mono (fun r hr c => ?_) (Cert.Reference8Ideal.Value.run_math m' g')⟩
  · obtain ⟨⟨h0, h1, h2, h3⟩, ha⟩ := hr c
    exact ⟨h0, h1, h2, h3, ha⟩
  · obtain ⟨⟨h0, h1, h2, h3⟩, ha⟩ := hr c
    obtain ⟨e0, e1, e2, e3⟩ := h c
    have kaY : Cert.Reference8Ideal.Value.aY m' c = aY m c := e0
    have kaU : Cert.Reference8Ideal.Value.aU m' c = aU m c := e1
    have kaD : Cert.Reference8Ideal.Value.aD m' c = aD m c := e2
    have kaC : Cert.Reference8Ideal.Value.aC m' c = aC m c := e3
    rw [kaY, kaU, kaD] at h0
    rw [kaY, kaU, kaD, kaC] at h1
    rw [kaY, kaU, kaD, kaC] at h2
    rw [kaY, kaU, kaD, kaC] at h3
    exact ⟨h0, h1, h2, h3, ha⟩

end Cert.Proof.Activation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Claims
public import proofs.«01_k».proof.Proof.Claims2
public import proofs.«01_k».proof.Proof.Claims3
public import proofs.«01_k».proof.Proof.Claims4
public import proofs.«01_k».proof.Proof.Claims5
public import proofs.«01_k».proof.Proof.Claims6
public import proofs.«01_k».proof.Proof.Claims7
public import proofs.«01_k».proof.Proof.Claims8
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  fun m ρ _ => Cert.Kernel.Gen.frame m ρ, fun m ρ _ => Cert.KernelIdeal.Gen.frame m ρ, frame_ri,
  fun m ρ _ => Cert.Kernel2.Gen.frame m ρ, fun m ρ _ => Cert.Kernel2Ideal.Gen.frame m ρ, Mixer.frame_ri,
  fun m ρ _ => Cert.Kernel3.Gen.frame m ρ, fun m ρ _ => Cert.Kernel3Ideal.Gen.frame m ρ, Recurrence.frame_ri,
  fun m ρ _ => Cert.Kernel4.Gen.frame m ρ, fun m ρ _ => Cert.Kernel4Ideal.Gen.frame m ρ, Scales.frame_ri,
  fun m ρ _ => Cert.Kernel5.Gen.frame m ρ, fun m ρ _ => Cert.Kernel5Ideal.Gen.frame m ρ, LowRank.frame_ri,
  fun m ρ _ => Cert.Kernel6.Gen.frame m ρ, fun m ρ _ => Cert.Kernel6Ideal.Gen.frame m ρ, Glu.frame_ri,
  fun m ρ _ => Cert.Kernel7.Gen.frame m ρ, fun m ρ _ => Cert.Kernel7Ideal.Gen.frame m ρ, Loss.frame_ri,
  fun m ρ _ => Cert.Kernel8.Gen.frame m ρ, fun m ρ _ => Cert.Kernel8Ideal.Gen.frame m ρ, Activation.frame_ri,
  trivial, algebraic, trivial, Mixer.algebraic, trivial, Recurrence.algebraic, trivial, Scales.algebraic,
  trivial, LowRank.algebraic, trivial, Glu.algebraic, trivial, Loss.algebraic,
  trivial, Activation.algebraic⟩

end Cert.Proof

end
